-- ==== Defs.lean ====
def Pre_FinalK (m : (ℓ : Loc Cert.FinalK.nD Cert.FinalK.τ Cert.FinalK.sig) → Buf (Elt Bits) ℓ) : Prop :=
  True

def Pre_FinalKIdeal (m : (ℓ : Loc Cert.FinalKIdeal.nD Cert.FinalKIdeal.τ Cert.FinalKIdeal.sig) → Buf (Elt Ideal) ℓ) : Prop :=
  True

def Pre_FinalKIdeal_final_finite [hPre_final_finite : Cert.Pre_final_finite.Facts] (m : (ℓ : Loc Cert.FinalKIdeal.nD Cert.FinalKIdeal.τ Cert.FinalKIdeal.sig) → Buf (Elt Ideal) ℓ) : Prop :=
  ∀ c : Dev Cert.FinalKIdeal.nD,
    (Cert.Pre_final_finite.fn (F := Ideal) (m ((c.tc : Thread Cert.FinalKIdeal.nD Cert.FinalKIdeal.τ).loc Cert.FinalKIdeal.main_arg0)) (m ((c.tc : Thread Cert.FinalKIdeal.nD Cert.FinalKIdeal.τ).loc Cert.FinalKIdeal.main_arg1)) (m ((c.tc : Thread Cert.FinalKIdeal.nD Cert.FinalKIdeal.τ).loc Cert.FinalKIdeal.main_arg2)) (m ((c.tc : Thread Cert.FinalKIdeal.nD Cert.FinalKIdeal.τ).loc Cert.FinalKIdeal.main_arg3)) (m ((c.tc : Thread Cert.FinalKIdeal.nD Cert.FinalKIdeal.τ).loc Cert.FinalKIdeal.main_arg4))) = (fun _ => 1#1)

def Pre_FinalRIdeal (m : (ℓ : Loc Cert.FinalRIdeal.nD Cert.FinalRIdeal.τ Cert.FinalRIdeal.sig) → Buf (Elt Ideal) ℓ) : Prop :=
  True

def Pre_FinalRIdeal_final_finite [hPre_final_finite : Cert.Pre_final_finite.Facts] (m : (ℓ : Loc Cert.FinalRIdeal.nD Cert.FinalRIdeal.τ Cert.FinalRIdeal.sig) → Buf (Elt Ideal) ℓ) : Prop :=
  ∀ c : Dev Cert.FinalRIdeal.nD,
    (Cert.Pre_final_finite.fn (F := Ideal) (m ((c.tc : Thread Cert.FinalRIdeal.nD Cert.FinalRIdeal.τ).loc Cert.FinalRIdeal.main_arg0)) (m ((c.tc : Thread Cert.FinalRIdeal.nD Cert.FinalRIdeal.τ).loc Cert.FinalRIdeal.main_arg1)) (m ((c.tc : Thread Cert.FinalRIdeal.nD Cert.FinalRIdeal.τ).loc Cert.FinalRIdeal.main_arg2)) (m ((c.tc : Thread Cert.FinalRIdeal.nD Cert.FinalRIdeal.τ).loc Cert.FinalRIdeal.main_arg3)) (m ((c.tc : Thread Cert.FinalRIdeal.nD Cert.FinalRIdeal.τ).loc Cert.FinalRIdeal.main_arg4))) = (fun _ => 1#1)

def Pre_DactK (m : (ℓ : Loc Cert.DactK.nD Cert.DactK.τ Cert.DactK.sig) → Buf (Elt Bits) ℓ) : Prop :=
  True

def Pre_DactKIdeal (m : (ℓ : Loc Cert.DactKIdeal.nD Cert.DactKIdeal.τ Cert.DactKIdeal.sig) → Buf (Elt Ideal) ℓ) : Prop :=
  True

def Pre_DactKIdeal_dact_finite [hPre_dact_finite : Cert.Pre_dact_finite.Facts] (m : (ℓ : Loc Cert.DactKIdeal.nD Cert.DactKIdeal.τ Cert.DactKIdeal.sig) → Buf (Elt Ideal) ℓ) : Prop :=
  ∀ c : Dev Cert.DactKIdeal.nD,
    (Cert.Pre_dact_finite.fn (F := Ideal) (m ((c.tc : Thread Cert.DactKIdeal.nD Cert.DactKIdeal.τ).loc Cert.DactKIdeal.main_arg0)) (m ((c.tc : Thread Cert.DactKIdeal.nD Cert.DactKIdeal.τ).loc Cert.DactKIdeal.main_arg1)) (m ((c.tc : Thread Cert.DactKIdeal.nD Cert.DactKIdeal.τ).loc Cert.DactKIdeal.main_arg2)) (m ((c.tc : Thread Cert.DactKIdeal.nD Cert.DactKIdeal.τ).loc Cert.DactKIdeal.main_arg3))) = (fun _ => 1#1)

def Pre_DactRIdeal (m : (ℓ : Loc Cert.DactRIdeal.nD Cert.DactRIdeal.τ Cert.DactRIdeal.sig) → Buf (Elt Ideal) ℓ) : Prop :=
  True

def Pre_DactRIdeal_dact_finite [hPre_dact_finite : Cert.Pre_dact_finite.Facts] (m : (ℓ : Loc Cert.DactRIdeal.nD Cert.DactRIdeal.τ Cert.DactRIdeal.sig) → Buf (Elt Ideal) ℓ) : Prop :=
  ∀ c : Dev Cert.DactRIdeal.nD,
    (Cert.Pre_dact_finite.fn (F := Ideal) (m ((c.tc : Thread Cert.DactRIdeal.nD Cert.DactRIdeal.τ).loc Cert.DactRIdeal.main_arg0)) (m ((c.tc : Thread Cert.DactRIdeal.nD Cert.DactRIdeal.τ).loc Cert.DactRIdeal.main_arg1)) (m ((c.tc : Thread Cert.DactRIdeal.nD Cert.DactRIdeal.τ).loc Cert.DactRIdeal.main_arg2)) (m ((c.tc : Thread Cert.DactRIdeal.nD Cert.DactRIdeal.τ).loc Cert.DactRIdeal.main_arg3))) = (fun _ => 1#1)

def Pre_DnK (m : (ℓ : Loc Cert.DnK.nD Cert.DnK.τ Cert.DnK.sig) → Buf (Elt Bits) ℓ) : Prop :=
  True

def Pre_DnKIdeal (m : (ℓ : Loc Cert.DnKIdeal.nD Cert.DnKIdeal.τ Cert.DnKIdeal.sig) → Buf (Elt Ideal) ℓ) : Prop :=
  True

def Pre_DnKIdeal_dnorm_finite [hPre_dnorm_finite : Cert.Pre_dnorm_finite.Facts] (m : (ℓ : Loc Cert.DnKIdeal.nD Cert.DnKIdeal.τ Cert.DnKIdeal.sig) → Buf (Elt Ideal) ℓ) : Prop :=
  ∀ c : Dev Cert.DnKIdeal.nD,
    (Cert.Pre_dnorm_finite.fn (F := Ideal) (m ((c.tc : Thread Cert.DnKIdeal.nD Cert.DnKIdeal.τ).loc Cert.DnKIdeal.main_arg0)) (m ((c.tc : Thread Cert.DnKIdeal.nD Cert.DnKIdeal.τ).loc Cert.DnKIdeal.main_arg1)) (m ((c.tc : Thread Cert.DnKIdeal.nD Cert.DnKIdeal.τ).loc Cert.DnKIdeal.main_arg2)) (m ((c.tc : Thread Cert.DnKIdeal.nD Cert.DnKIdeal.τ).loc Cert.DnKIdeal.main_arg3)) (m ((c.tc : Thread Cert.DnKIdeal.nD Cert.DnKIdeal.τ).loc Cert.DnKIdeal.main_arg4)) (m ((c.tc : Thread Cert.DnKIdeal.nD Cert.DnKIdeal.τ).loc Cert.DnKIdeal.main_arg5)) (m ((c.tc : Thread Cert.DnKIdeal.nD Cert.DnKIdeal.τ).loc Cert.DnKIdeal.main_arg6))) = (fun _ => 1#1)

def Pre_DnRIdeal (m : (ℓ : Loc Cert.DnRIdeal.nD Cert.DnRIdeal.τ Cert.DnRIdeal.sig) → Buf (Elt Ideal) ℓ) : Prop :=
  True

def Pre_DnRIdeal_dnorm_finite [hPre_dnorm_finite : Cert.Pre_dnorm_finite.Facts] (m : (ℓ : Loc Cert.DnRIdeal.nD Cert.DnRIdeal.τ Cert.DnRIdeal.sig) → Buf (Elt Ideal) ℓ) : Prop :=
  ∀ c : Dev Cert.DnRIdeal.nD,
    (Cert.Pre_dnorm_finite.fn (F := Ideal) (m ((c.tc : Thread Cert.DnRIdeal.nD Cert.DnRIdeal.τ).loc Cert.DnRIdeal.main_arg0)) (m ((c.tc : Thread Cert.DnRIdeal.nD Cert.DnRIdeal.τ).loc Cert.DnRIdeal.main_arg1)) (m ((c.tc : Thread Cert.DnRIdeal.nD Cert.DnRIdeal.τ).loc Cert.DnRIdeal.main_arg2)) (m ((c.tc : Thread Cert.DnRIdeal.nD Cert.DnRIdeal.τ).loc Cert.DnRIdeal.main_arg3)) (m ((c.tc : Thread Cert.DnRIdeal.nD Cert.DnRIdeal.τ).loc Cert.DnRIdeal.main_arg4)) (m ((c.tc : Thread Cert.DnRIdeal.nD Cert.DnRIdeal.τ).loc Cert.DnRIdeal.main_arg5)) (m ((c.tc : Thread Cert.DnRIdeal.nD Cert.DnRIdeal.τ).loc Cert.DnRIdeal.main_arg6))) = (fun _ => 1#1)

def Pre_TailK (m : (ℓ : Loc Cert.TailK.nD Cert.TailK.τ Cert.TailK.sig) → Buf (Elt Bits) ℓ) : Prop :=
  True

def Pre_TailKIdeal (m : (ℓ : Loc Cert.TailKIdeal.nD Cert.TailKIdeal.τ Cert.TailKIdeal.sig) → Buf (Elt Ideal) ℓ) : Prop :=
  True

def Pre_TailKIdeal_tail_finite [hPre_tail_finite : Cert.Pre_tail_finite.Facts] (m : (ℓ : Loc Cert.TailKIdeal.nD Cert.TailKIdeal.τ Cert.TailKIdeal.sig) → Buf (Elt Ideal) ℓ) : Prop :=
  ∀ c : Dev Cert.TailKIdeal.nD,
    (Cert.Pre_tail_finite.fn (F := Ideal) (m ((c.tc : Thread Cert.TailKIdeal.nD Cert.TailKIdeal.τ).loc Cert.TailKIdeal.main_arg0)) (m ((c.tc : Thread Cert.TailKIdeal.nD Cert.TailKIdeal.τ).loc Cert.TailKIdeal.main_arg1)) (m ((c.tc : Thread Cert.TailKIdeal.nD Cert.TailKIdeal.τ).loc Cert.TailKIdeal.main_arg2)) (m ((c.tc : Thread Cert.TailKIdeal.nD Cert.TailKIdeal.τ).loc Cert.TailKIdeal.main_arg3)) (m ((c.tc : Thread Cert.TailKIdeal.nD Cert.TailKIdeal.τ).loc Cert.TailKIdeal.main_arg4))) = (fun _ => 1#1)

def Pre_TailRIdeal (m : (ℓ : Loc Cert.TailRIdeal.nD Cert.TailRIdeal.τ Cert.TailRIdeal.sig) → Buf (Elt Ideal) ℓ) : Prop :=
  True

def Pre_TailRIdeal_tail_finite [hPre_tail_finite : Cert.Pre_tail_finite.Facts] (m : (ℓ : Loc Cert.TailRIdeal.nD Cert.TailRIdeal.τ Cert.TailRIdeal.sig) → Buf (Elt Ideal) ℓ) : Prop :=
  ∀ c : Dev Cert.TailRIdeal.nD,
    (Cert.Pre_tail_finite.fn (F := Ideal) (m ((c.tc : Thread Cert.TailRIdeal.nD Cert.TailRIdeal.τ).loc Cert.TailRIdeal.main_arg0)) (m ((c.tc : Thread Cert.TailRIdeal.nD Cert.TailRIdeal.τ).loc Cert.TailRIdeal.main_arg1)) (m ((c.tc : Thread Cert.TailRIdeal.nD Cert.TailRIdeal.τ).loc Cert.TailRIdeal.main_arg2)) (m ((c.tc : Thread Cert.TailRIdeal.nD Cert.TailRIdeal.τ).loc Cert.TailRIdeal.main_arg3)) (m ((c.tc : Thread Cert.TailRIdeal.nD Cert.TailRIdeal.τ).loc Cert.TailRIdeal.main_arg4))) = (fun _ => 1#1)

def Pre_DninK (m : (ℓ : Loc Cert.DninK.nD Cert.DninK.τ Cert.DninK.sig) → Buf (Elt Bits) ℓ) : Prop :=
  True

def Pre_DninKIdeal (m : (ℓ : Loc Cert.DninKIdeal.nD Cert.DninKIdeal.τ Cert.DninKIdeal.sig) → Buf (Elt Ideal) ℓ) : Prop :=
  True

def Pre_DninKIdeal_dnin_finite [hPre_dnin_finite : Cert.Pre_dnin_finite.Facts] (m : (ℓ : Loc Cert.DninKIdeal.nD Cert.DninKIdeal.τ Cert.DninKIdeal.sig) → Buf (Elt Ideal) ℓ) : Prop :=
  ∀ c : Dev Cert.DninKIdeal.nD,
    (Cert.Pre_dnin_finite.fn (F := Ideal) (m ((c.tc : Thread Cert.DninKIdeal.nD Cert.DninKIdeal.τ).loc Cert.DninKIdeal.main_arg0)) (m ((c.tc : Thread Cert.DninKIdeal.nD Cert.DninKIdeal.τ).loc Cert.DninKIdeal.main_arg1)) (m ((c.tc : Thread Cert.DninKIdeal.nD Cert.DninKIdeal.τ).loc Cert.DninKIdeal.main_arg2)) (m ((c.tc : Thread Cert.DninKIdeal.nD Cert.DninKIdeal.τ).loc Cert.DninKIdeal.main_arg3)) (m ((c.tc : Thread Cert.DninKIdeal.nD Cert.DninKIdeal.τ).loc Cert.DninKIdeal.main_arg4))) = (fun _ => 1#1)

def Pre_DninRIdeal (m : (ℓ : Loc Cert.DninRIdeal.nD Cert.DninRIdeal.τ Cert.DninRIdeal.sig) → Buf (Elt Ideal) ℓ) : Prop :=
  True

def Pre_DninRIdeal_dnin_finite [hPre_dnin_finite : Cert.Pre_dnin_finite.Facts] (m : (ℓ : Loc Cert.DninRIdeal.nD Cert.DninRIdeal.τ Cert.DninRIdeal.sig) → Buf (Elt Ideal) ℓ) : Prop :=
  ∀ c : Dev Cert.DninRIdeal.nD,
    (Cert.Pre_dnin_finite.fn (F := Ideal) (m ((c.tc : Thread Cert.DninRIdeal.nD Cert.DninRIdeal.τ).loc Cert.DninRIdeal.main_arg0)) (m ((c.tc : Thread Cert.DninRIdeal.nD Cert.DninRIdeal.τ).loc Cert.DninRIdeal.main_arg1)) (m ((c.tc : Thread Cert.DninRIdeal.nD Cert.DninRIdeal.τ).loc Cert.DninRIdeal.main_arg2)) (m ((c.tc : Thread Cert.DninRIdeal.nD Cert.DninRIdeal.τ).loc Cert.DninRIdeal.main_arg3)) (m ((c.tc : Thread Cert.DninRIdeal.nD Cert.DninRIdeal.τ).loc Cert.DninRIdeal.main_arg4))) = (fun _ => 1#1)

def Pre_DnodK (m : (ℓ : Loc Cert.DnodK.nD Cert.DnodK.τ Cert.DnodK.sig) → Buf (Elt Bits) ℓ) : Prop :=
  True

def Pre_DnodKIdeal (m : (ℓ : Loc Cert.DnodKIdeal.nD Cert.DnodKIdeal.τ Cert.DnodKIdeal.sig) → Buf (Elt Ideal) ℓ) : Prop :=
  True

def Pre_DnodKIdeal_dnod_finite [hPre_dnod_finite : Cert.Pre_dnod_finite.Facts] (m : (ℓ : Loc Cert.DnodKIdeal.nD Cert.DnodKIdeal.τ Cert.DnodKIdeal.sig) → Buf (Elt Ideal) ℓ) : Prop :=
  ∀ c : Dev Cert.DnodKIdeal.nD,
    (Cert.Pre_dnod_finite.fn (F := Ideal) (m ((c.tc : Thread Cert.DnodKIdeal.nD Cert.DnodKIdeal.τ).loc Cert.DnodKIdeal.main_arg0)) (m ((c.tc : Thread Cert.DnodKIdeal.nD Cert.DnodKIdeal.τ).loc Cert.DnodKIdeal.main_arg1)) (m ((c.tc : Thread Cert.DnodKIdeal.nD Cert.DnodKIdeal.τ).loc Cert.DnodKIdeal.main_arg2)) (m ((c.tc : Thread Cert.DnodKIdeal.nD Cert.DnodKIdeal.τ).loc Cert.DnodKIdeal.main_arg3)) (m ((c.tc : Thread Cert.DnodKIdeal.nD Cert.DnodKIdeal.τ).loc Cert.DnodKIdeal.main_arg4))) = (fun _ => 1#1)

def Pre_DnodRIdeal (m : (ℓ : Loc Cert.DnodRIdeal.nD Cert.DnodRIdeal.τ Cert.DnodRIdeal.sig) → Buf (Elt Ideal) ℓ) : Prop :=
  True

def Pre_DnodRIdeal_dnod_finite [hPre_dnod_finite : Cert.Pre_dnod_finite.Facts] (m : (ℓ : Loc Cert.DnodRIdeal.nD Cert.DnodRIdeal.τ Cert.DnodRIdeal.sig) → Buf (Elt Ideal) ℓ) : Prop :=
  ∀ c : Dev Cert.DnodRIdeal.nD,
    (Cert.Pre_dnod_finite.fn (F := Ideal) (m ((c.tc : Thread Cert.DnodRIdeal.nD Cert.DnodRIdeal.τ).loc Cert.DnodRIdeal.main_arg0)) (m ((c.tc : Thread Cert.DnodRIdeal.nD Cert.DnodRIdeal.τ).loc Cert.DnodRIdeal.main_arg1)) (m ((c.tc : Thread Cert.DnodRIdeal.nD Cert.DnodRIdeal.τ).loc Cert.DnodRIdeal.main_arg2)) (m ((c.tc : Thread Cert.DnodRIdeal.nD Cert.DnodRIdeal.τ).loc Cert.DnodRIdeal.main_arg3)) (m ((c.tc : Thread Cert.DnodRIdeal.nD Cert.DnodRIdeal.τ).loc Cert.DnodRIdeal.main_arg4))) = (fun _ => 1#1)

def Pre_Attnf16K (m : (ℓ : Loc Cert.Attnf16K.nD Cert.Attnf16K.τ Cert.Attnf16K.sig) → Buf (Elt Bits) ℓ) : Prop :=
  True

def Pre_Attnf16KIdeal (m : (ℓ : Loc Cert.Attnf16KIdeal.nD Cert.Attnf16KIdeal.τ Cert.Attnf16KIdeal.sig) → Buf (Elt Ideal) ℓ) : Prop :=
  True

def Pre_Attnf16RIdeal (m : (ℓ : Loc Cert.Attnf16RIdeal.nD Cert.Attnf16RIdeal.τ Cert.Attnf16RIdeal.sig) → Buf (Elt Ideal) ℓ) : Prop :=
  True

def Pre_Attnf4K (m : (ℓ : Loc Cert.Attnf4K.nD Cert.Attnf4K.τ Cert.Attnf4K.sig) → Buf (Elt Bits) ℓ) : Prop :=
  True

def Pre_Attnf4KIdeal (m : (ℓ : Loc Cert.Attnf4KIdeal.nD Cert.Attnf4KIdeal.τ Cert.Attnf4KIdeal.sig) → Buf (Elt Ideal) ℓ) : Prop :=
  True

def Pre_Attnf4RIdeal (m : (ℓ : Loc Cert.Attnf4RIdeal.nD Cert.Attnf4RIdeal.τ Cert.Attnf4RIdeal.sig) → Buf (Elt Ideal) ℓ) : Prop :=
  True

def Pre_Attnf1K (m : (ℓ : Loc Cert.Attnf1K.nD Cert.Attnf1K.τ Cert.Attnf1K.sig) → Buf (Elt Bits) ℓ) : Prop :=
  True

def Pre_Attnf1KIdeal (m : (ℓ : Loc Cert.Attnf1KIdeal.nD Cert.Attnf1KIdeal.τ Cert.Attnf1KIdeal.sig) → Buf (Elt Ideal) ℓ) : Prop :=
  True

def Pre_Attnf1RIdeal (m : (ℓ : Loc Cert.Attnf1RIdeal.nD Cert.Attnf1RIdeal.τ Cert.Attnf1RIdeal.sig) → Buf (Elt Ideal) ℓ) : Prop :=
  True

def Pre_AttnfeK (m : (ℓ : Loc Cert.AttnfeK.nD Cert.AttnfeK.τ Cert.AttnfeK.sig) → Buf (Elt Bits) ℓ) : Prop :=
  True

def Pre_AttnfeKIdeal (m : (ℓ : Loc Cert.AttnfeKIdeal.nD Cert.AttnfeKIdeal.τ Cert.AttnfeKIdeal.sig) → Buf (Elt Ideal) ℓ) : Prop :=
  True

def Pre_AttnfeRIdeal (m : (ℓ : Loc Cert.AttnfeRIdeal.nD Cert.AttnfeRIdeal.τ Cert.AttnfeRIdeal.sig) → Buf (Elt Ideal) ℓ) : Prop :=
  True

def Pre_Attnb16K (m : (ℓ : Loc Cert.Attnb16K.nD Cert.Attnb16K.τ Cert.Attnb16K.sig) → Buf (Elt Bits) ℓ) : Prop :=
  True

def Pre_Attnb16KIdeal (m : (ℓ : Loc Cert.Attnb16KIdeal.nD Cert.Attnb16KIdeal.τ Cert.Attnb16KIdeal.sig) → Buf (Elt Ideal) ℓ) : Prop :=
  True

def Pre_Attnb16KIdeal_attnb16_finite [hPre_attnb16_finite : Cert.Pre_attnb16_finite.Facts] (m : (ℓ : Loc Cert.Attnb16KIdeal.nD Cert.Attnb16KIdeal.τ Cert.Attnb16KIdeal.sig) → Buf (Elt Ideal) ℓ) : Prop :=
  ∀ c : Dev Cert.Attnb16KIdeal.nD,
    (Cert.Pre_attnb16_finite.fn (F := Ideal) (m ((c.tc : Thread Cert.Attnb16KIdeal.nD Cert.Attnb16KIdeal.τ).loc Cert.Attnb16KIdeal.main_arg0)) (m ((c.tc : Thread Cert.Attnb16KIdeal.nD Cert.Attnb16KIdeal.τ).loc Cert.Attnb16KIdeal.main_arg1)) (m ((c.tc : Thread Cert.Attnb16KIdeal.nD Cert.Attnb16KIdeal.τ).loc Cert.Attnb16KIdeal.main_arg2)) (m ((c.tc : Thread Cert.Attnb16KIdeal.nD Cert.Attnb16KIdeal.τ).loc Cert.Attnb16KIdeal.main_arg3)) (m ((c.tc : Thread Cert.Attnb16KIdeal.nD Cert.Attnb16KIdeal.τ).loc Cert.Attnb16KIdeal.main_arg4)) (m ((c.tc : Thread Cert.Attnb16KIdeal.nD Cert.Attnb16KIdeal.τ).loc Cert.Attnb16KIdeal.main_arg5)) (m ((c.tc : Thread Cert.Attnb16KIdeal.nD Cert.Attnb16KIdeal.τ).loc Cert.Attnb16KIdeal.main_arg6)) (m ((c.tc : Thread Cert.Attnb16KIdeal.nD Cert.Attnb16KIdeal.τ).loc Cert.Attnb16KIdeal.main_arg7)) (m ((c.tc : Thread Cert.Attnb16KIdeal.nD Cert.Attnb16KIdeal.τ).loc Cert.Attnb16KIdeal.main_arg8)) (m ((c.tc : Thread Cert.Attnb16KIdeal.nD Cert.Attnb16KIdeal.τ).loc Cert.Attnb16KIdeal.main_arg9))) = (fun _ => 1#1)

def Pre_Attnb16RIdeal (m : (ℓ : Loc Cert.Attnb16RIdeal.nD Cert.Attnb16RIdeal.τ Cert.Attnb16RIdeal.sig) → Buf (Elt Ideal) ℓ) : Prop :=
  True

def Pre_Attnb16RIdeal_attnb16_finite [hPre_attnb16_finite : Cert.Pre_attnb16_finite.Facts] (m : (ℓ : Loc Cert.Attnb16RIdeal.nD Cert.Attnb16RIdeal.τ Cert.Attnb16RIdeal.sig) → Buf (Elt Ideal) ℓ) : Prop :=
  ∀ c : Dev Cert.Attnb16RIdeal.nD,
    (Cert.Pre_attnb16_finite.fn (F := Ideal) (m ((c.tc : Thread Cert.Attnb16RIdeal.nD Cert.Attnb16RIdeal.τ).loc Cert.Attnb16RIdeal.main_arg0)) (m ((c.tc : Thread Cert.Attnb16RIdeal.nD Cert.Attnb16RIdeal.τ).loc Cert.Attnb16RIdeal.main_arg1)) (m ((c.tc : Thread Cert.Attnb16RIdeal.nD Cert.Attnb16RIdeal.τ).loc Cert.Attnb16RIdeal.main_arg2)) (m ((c.tc : Thread Cert.Attnb16RIdeal.nD Cert.Attnb16RIdeal.τ).loc Cert.Attnb16RIdeal.main_arg3)) (m ((c.tc : Thread Cert.Attnb16RIdeal.nD Cert.Attnb16RIdeal.τ).loc Cert.Attnb16RIdeal.main_arg4)) (m ((c.tc : Thread Cert.Attnb16RIdeal.nD Cert.Attnb16RIdeal.τ).loc Cert.Attnb16RIdeal.main_arg5)) (m ((c.tc : Thread Cert.Attnb16RIdeal.nD Cert.Attnb16RIdeal.τ).loc Cert.Attnb16RIdeal.main_arg6)) (m ((c.tc : Thread Cert.Attnb16RIdeal.nD Cert.Attnb16RIdeal.τ).loc Cert.Attnb16RIdeal.main_arg7)) (m ((c.tc : Thread Cert.Attnb16RIdeal.nD Cert.Attnb16RIdeal.τ).loc Cert.Attnb16RIdeal.main_arg8)) (m ((c.tc : Thread Cert.Attnb16RIdeal.nD Cert.Attnb16RIdeal.τ).loc Cert.Attnb16RIdeal.main_arg9))) = (fun _ => 1#1)

def Pre_PosteK (m : (ℓ : Loc Cert.PosteK.nD Cert.PosteK.τ Cert.PosteK.sig) → Buf (Elt Bits) ℓ) : Prop :=
  True

def Pre_PosteKIdeal (m : (ℓ : Loc Cert.PosteKIdeal.nD Cert.PosteKIdeal.τ Cert.PosteKIdeal.sig) → Buf (Elt Ideal) ℓ) : Prop :=
  True

def Pre_PosteRIdeal (m : (ℓ : Loc Cert.PosteRIdeal.nD Cert.PosteRIdeal.τ Cert.PosteRIdeal.sig) → Buf (Elt Ideal) ℓ) : Prop :=
  True

def Pre_RmsfK (m : (ℓ : Loc Cert.RmsfK.nD Cert.RmsfK.τ Cert.RmsfK.sig) → Buf (Elt Bits) ℓ) : Prop :=
  True

def Pre_RmsfKIdeal (m : (ℓ : Loc Cert.RmsfKIdeal.nD Cert.RmsfKIdeal.τ Cert.RmsfKIdeal.sig) → Buf (Elt Ideal) ℓ) : Prop :=
  True

def Pre_RmsfRIdeal (m : (ℓ : Loc Cert.RmsfRIdeal.nD Cert.RmsfRIdeal.τ Cert.RmsfRIdeal.sig) → Buf (Elt Ideal) ℓ) : Prop :=
  True

def Pre_PrepeK (m : (ℓ : Loc Cert.PrepeK.nD Cert.PrepeK.τ Cert.PrepeK.sig) → Buf (Elt Bits) ℓ) : Prop :=
  True

def Pre_PrepeKIdeal (m : (ℓ : Loc Cert.PrepeKIdeal.nD Cert.PrepeKIdeal.τ Cert.PrepeKIdeal.sig) → Buf (Elt Ideal) ℓ) : Prop :=
  True

def Pre_PrepeRIdeal (m : (ℓ : Loc Cert.PrepeRIdeal.nD Cert.PrepeRIdeal.τ Cert.PrepeRIdeal.sig) → Buf (Elt Ideal) ℓ) : Prop :=
  True

def Pre_GupK (m : (ℓ : Loc Cert.GupK.nD Cert.GupK.τ Cert.GupK.sig) → Buf (Elt Bits) ℓ) : Prop :=
  True

def Pre_GupKIdeal (m : (ℓ : Loc Cert.GupKIdeal.nD Cert.GupKIdeal.τ Cert.GupKIdeal.sig) → Buf (Elt Ideal) ℓ) : Prop :=
  True

def Pre_GupRIdeal (m : (ℓ : Loc Cert.GupRIdeal.nD Cert.GupRIdeal.τ Cert.GupRIdeal.sig) → Buf (Elt Ideal) ℓ) : Prop :=
  True

def Pre_MnfK (m : (ℓ : Loc Cert.MnfK.nD Cert.MnfK.τ Cert.MnfK.sig) → Buf (Elt Bits) ℓ) : Prop :=
  True

def Pre_MnfKIdeal (m : (ℓ : Loc Cert.MnfKIdeal.nD Cert.MnfKIdeal.τ Cert.MnfKIdeal.sig) → Buf (Elt Ideal) ℓ) : Prop :=
  True

def Pre_MnfRIdeal (m : (ℓ : Loc Cert.MnfRIdeal.nD Cert.MnfRIdeal.τ Cert.MnfRIdeal.sig) → Buf (Elt Ideal) ℓ) : Prop :=
  True

def Pre_MnmK (m : (ℓ : Loc Cert.MnmK.nD Cert.MnmK.τ Cert.MnmK.sig) → Buf (Elt Bits) ℓ) : Prop :=
  True

def Pre_MnmKIdeal (m : (ℓ : Loc Cert.MnmKIdeal.nD Cert.MnmKIdeal.τ Cert.MnmKIdeal.sig) → Buf (Elt Ideal) ℓ) : Prop :=
  True

def Pre_MnmRIdeal (m : (ℓ : Loc Cert.MnmRIdeal.nD Cert.MnmRIdeal.τ Cert.MnmRIdeal.sig) → Buf (Elt Ideal) ℓ) : Prop :=
  True

def Pre_GatefK (m : (ℓ : Loc Cert.GatefK.nD Cert.GatefK.τ Cert.GatefK.sig) → Buf (Elt Bits) ℓ) : Prop :=
  True

def Pre_GatefKIdeal (m : (ℓ : Loc Cert.GatefKIdeal.nD Cert.GatefKIdeal.τ Cert.GatefKIdeal.sig) → Buf (Elt Ideal) ℓ) : Prop :=
  True

def Pre_GatefRIdeal (m : (ℓ : Loc Cert.GatefRIdeal.nD Cert.GatefRIdeal.τ Cert.GatefRIdeal.sig) → Buf (Elt Ideal) ℓ) : Prop :=
  True

def Pre_GatebK (m : (ℓ : Loc Cert.GatebK.nD Cert.GatebK.τ Cert.GatebK.sig) → Buf (Elt Bits) ℓ) : Prop :=
  True

def Pre_GatebKIdeal (m : (ℓ : Loc Cert.GatebKIdeal.nD Cert.GatebKIdeal.τ Cert.GatebKIdeal.sig) → Buf (Elt Ideal) ℓ) : Prop :=
  True

def Pre_GatebRIdeal (m : (ℓ : Loc Cert.GatebRIdeal.nD Cert.GatebRIdeal.τ Cert.GatebRIdeal.sig) → Buf (Elt Ideal) ℓ) : Prop :=
  True

def quiescent_FinalK [hFinalK : Cert.FinalK.Facts] : Prop :=
  ∀ (m : (ℓ : Loc Cert.FinalK.nD Cert.FinalK.τ Cert.FinalK.sig) → Buf (Elt Bits) ℓ) (g : Dev Cert.FinalK.nD → PrngReg), Pre_FinalK m →
    θ_run (Cert.FinalK.defs (F := Bits)) (onTc (τ := Cert.FinalK.τ) (Cert.FinalK.main (F := Bits))) ⟨m, fun _ => 0, g⟩ (fun r => (∀ c : Dev Cert.FinalK.nD,
      r.2.mem ((c.tc : Thread Cert.FinalK.nD Cert.FinalK.τ).loc Cert.FinalK.main_arg0) = m ((c.tc : Thread Cert.FinalK.nD Cert.FinalK.τ).loc Cert.FinalK.main_arg0)
      ∧ r.2.mem ((c.tc : Thread Cert.FinalK.nD Cert.FinalK.τ).loc Cert.FinalK.main_arg1) = m ((c.tc : Thread Cert.FinalK.nD Cert.FinalK.τ).loc Cert.FinalK.main_arg1)
      ∧ r.2.mem ((c.tc : Thread Cert.FinalK.nD Cert.FinalK.τ).loc Cert.FinalK.main_arg2) = m ((c.tc : Thread Cert.FinalK.nD Cert.FinalK.τ).loc Cert.FinalK.main_arg2)
      ∧ r.2.mem ((c.tc : Thread Cert.FinalK.nD Cert.FinalK.τ).loc Cert.FinalK.main_arg3) = m ((c.tc : Thread Cert.FinalK.nD Cert.FinalK.τ).loc Cert.FinalK.main_arg3)
      ∧ r.2.mem ((c.tc : Thread Cert.FinalK.nD Cert.FinalK.τ).loc Cert.FinalK.main_arg4) = m ((c.tc : Thread Cert.FinalK.nD Cert.FinalK.τ).loc Cert.FinalK.main_arg4))
      ∧ r.2.sem = fun _ => 0)

def quiescent_FinalKIdeal [hFinalKIdeal : Cert.FinalKIdeal.Facts] : Prop :=
  ∀ (m : (ℓ : Loc Cert.FinalKIdeal.nD Cert.FinalKIdeal.τ Cert.FinalKIdeal.sig) → Buf (Elt Ideal) ℓ) (g : Dev Cert.FinalKIdeal.nD → PrngReg), Pre_FinalKIdeal m →
    θ_run (Cert.FinalKIdeal.defs (F := Ideal)) (onTc (τ := Cert.FinalKIdeal.τ) (Cert.FinalKIdeal.main (F := Ideal))) ⟨m, fun _ => 0, g⟩ (fun r => (∀ c : Dev Cert.FinalKIdeal.nD,
      r.2.mem ((c.tc : Thread Cert.FinalKIdeal.nD Cert.FinalKIdeal.τ).loc Cert.FinalKIdeal.main_arg0) = m ((c.tc : Thread Cert.FinalKIdeal.nD Cert.FinalKIdeal.τ).loc Cert.FinalKIdeal.main_arg0)
      ∧ r.2.mem ((c.tc : Thread Cert.FinalKIdeal.nD Cert.FinalKIdeal.τ).loc Cert.FinalKIdeal.main_arg1) = m ((c.tc : Thread Cert.FinalKIdeal.nD Cert.FinalKIdeal.τ).loc Cert.FinalKIdeal.main_arg1)
      ∧ r.2.mem ((c.tc : Thread Cert.FinalKIdeal.nD Cert.FinalKIdeal.τ).loc Cert.FinalKIdeal.main_arg2) = m ((c.tc : Thread Cert.FinalKIdeal.nD Cert.FinalKIdeal.τ).loc Cert.FinalKIdeal.main_arg2)
      ∧ r.2.mem ((c.tc : Thread Cert.FinalKIdeal.nD Cert.FinalKIdeal.τ).loc Cert.FinalKIdeal.main_arg3) = m ((c.tc : Thread Cert.FinalKIdeal.nD Cert.FinalKIdeal.τ).loc Cert.FinalKIdeal.main_arg3)
      ∧ r.2.mem ((c.tc : Thread Cert.FinalKIdeal.nD Cert.FinalKIdeal.τ).loc Cert.FinalKIdeal.main_arg4) = m ((c.tc : Thread Cert.FinalKIdeal.nD Cert.FinalKIdeal.τ).loc Cert.FinalKIdeal.main_arg4))
      ∧ r.2.sem = fun _ => 0)

def quiescent_FinalKIdeal_pre_final_finite [hFinalKIdeal : Cert.FinalKIdeal.Facts] [hPre_final_finite : Cert.Pre_final_finite.Facts] : Prop :=
  ∀ (m : (ℓ : Loc Cert.FinalKIdeal.nD Cert.FinalKIdeal.τ Cert.FinalKIdeal.sig) → Buf (Elt Ideal) ℓ) (g : Dev Cert.FinalKIdeal.nD → PrngReg), Pre_FinalKIdeal_final_finite m →
    θ_run (Cert.FinalKIdeal.defs (F := Ideal)) (onTc (τ := Cert.FinalKIdeal.τ) (Cert.FinalKIdeal.main (F := Ideal))) ⟨m, fun _ => 0, g⟩ (fun r => (∀ c : Dev Cert.FinalKIdeal.nD,
      r.2.mem ((c.tc : Thread Cert.FinalKIdeal.nD Cert.FinalKIdeal.τ).loc Cert.FinalKIdeal.main_arg0) = m ((c.tc : Thread Cert.FinalKIdeal.nD Cert.FinalKIdeal.τ).loc Cert.FinalKIdeal.main_arg0)
      ∧ r.2.mem ((c.tc : Thread Cert.FinalKIdeal.nD Cert.FinalKIdeal.τ).loc Cert.FinalKIdeal.main_arg1) = m ((c.tc : Thread Cert.FinalKIdeal.nD Cert.FinalKIdeal.τ).loc Cert.FinalKIdeal.main_arg1)
      ∧ r.2.mem ((c.tc : Thread Cert.FinalKIdeal.nD Cert.FinalKIdeal.τ).loc Cert.FinalKIdeal.main_arg2) = m ((c.tc : Thread Cert.FinalKIdeal.nD Cert.FinalKIdeal.τ).loc Cert.FinalKIdeal.main_arg2)
      ∧ r.2.mem ((c.tc : Thread Cert.FinalKIdeal.nD Cert.FinalKIdeal.τ).loc Cert.FinalKIdeal.main_arg3) = m ((c.tc : Thread Cert.FinalKIdeal.nD Cert.FinalKIdeal.τ).loc Cert.FinalKIdeal.main_arg3)
      ∧ r.2.mem ((c.tc : Thread Cert.FinalKIdeal.nD Cert.FinalKIdeal.τ).loc Cert.FinalKIdeal.main_arg4) = m ((c.tc : Thread Cert.FinalKIdeal.nD Cert.FinalKIdeal.τ).loc Cert.FinalKIdeal.main_arg4))
      ∧ r.2.sem = fun _ => 0)

def quiescent_FinalRIdeal [hFinalRIdeal : Cert.FinalRIdeal.Facts] : Prop :=
  ∀ (m : (ℓ : Loc Cert.FinalRIdeal.nD Cert.FinalRIdeal.τ Cert.FinalRIdeal.sig) → Buf (Elt Ideal) ℓ) (g : Dev Cert.FinalRIdeal.nD → PrngReg), Pre_FinalRIdeal m →
    θ_run (Cert.FinalRIdeal.defs (F := Ideal)) (onTc (τ := Cert.FinalRIdeal.τ) (Cert.FinalRIdeal.main (F := Ideal))) ⟨m, fun _ => 0, g⟩ (fun r => (∀ c : Dev Cert.FinalRIdeal.nD,
      r.2.mem ((c.tc : Thread Cert.FinalRIdeal.nD Cert.FinalRIdeal.τ).loc Cert.FinalRIdeal.main_arg0) = m ((c.tc : Thread Cert.FinalRIdeal.nD Cert.FinalRIdeal.τ).loc Cert.FinalRIdeal.main_arg0)
      ∧ r.2.mem ((c.tc : Thread Cert.FinalRIdeal.nD Cert.FinalRIdeal.τ).loc Cert.FinalRIdeal.main_arg1) = m ((c.tc : Thread Cert.FinalRIdeal.nD Cert.FinalRIdeal.τ).loc Cert.FinalRIdeal.main_arg1)
      ∧ r.2.mem ((c.tc : Thread Cert.FinalRIdeal.nD Cert.FinalRIdeal.τ).loc Cert.FinalRIdeal.main_arg2) = m ((c.tc : Thread Cert.FinalRIdeal.nD Cert.FinalRIdeal.τ).loc Cert.FinalRIdeal.main_arg2)
      ∧ r.2.mem ((c.tc : Thread Cert.FinalRIdeal.nD Cert.FinalRIdeal.τ).loc Cert.FinalRIdeal.main_arg3) = m ((c.tc : Thread Cert.FinalRIdeal.nD Cert.FinalRIdeal.τ).loc Cert.FinalRIdeal.main_arg3)
      ∧ r.2.mem ((c.tc : Thread Cert.FinalRIdeal.nD Cert.FinalRIdeal.τ).loc Cert.FinalRIdeal.main_arg4) = m ((c.tc : Thread Cert.FinalRIdeal.nD Cert.FinalRIdeal.τ).loc Cert.FinalRIdeal.main_arg4))
      ∧ r.2.sem = fun _ => 0)

def quiescent_FinalRIdeal_pre_final_finite [hFinalRIdeal : Cert.FinalRIdeal.Facts] [hPre_final_finite : Cert.Pre_final_finite.Facts] : Prop :=
  ∀ (m : (ℓ : Loc Cert.FinalRIdeal.nD Cert.FinalRIdeal.τ Cert.FinalRIdeal.sig) → Buf (Elt Ideal) ℓ) (g : Dev Cert.FinalRIdeal.nD → PrngReg), Pre_FinalRIdeal_final_finite m →
    θ_run (Cert.FinalRIdeal.defs (F := Ideal)) (onTc (τ := Cert.FinalRIdeal.τ) (Cert.FinalRIdeal.main (F := Ideal))) ⟨m, fun _ => 0, g⟩ (fun r => (∀ c : Dev Cert.FinalRIdeal.nD,
      r.2.mem ((c.tc : Thread Cert.FinalRIdeal.nD Cert.FinalRIdeal.τ).loc Cert.FinalRIdeal.main_arg0) = m ((c.tc : Thread Cert.FinalRIdeal.nD Cert.FinalRIdeal.τ).loc Cert.FinalRIdeal.main_arg0)
      ∧ r.2.mem ((c.tc : Thread Cert.FinalRIdeal.nD Cert.FinalRIdeal.τ).loc Cert.FinalRIdeal.main_arg1) = m ((c.tc : Thread Cert.FinalRIdeal.nD Cert.FinalRIdeal.τ).loc Cert.FinalRIdeal.main_arg1)
      ∧ r.2.mem ((c.tc : Thread Cert.FinalRIdeal.nD Cert.FinalRIdeal.τ).loc Cert.FinalRIdeal.main_arg2) = m ((c.tc : Thread Cert.FinalRIdeal.nD Cert.FinalRIdeal.τ).loc Cert.FinalRIdeal.main_arg2)
      ∧ r.2.mem ((c.tc : Thread Cert.FinalRIdeal.nD Cert.FinalRIdeal.τ).loc Cert.FinalRIdeal.main_arg3) = m ((c.tc : Thread Cert.FinalRIdeal.nD Cert.FinalRIdeal.τ).loc Cert.FinalRIdeal.main_arg3)
      ∧ r.2.mem ((c.tc : Thread Cert.FinalRIdeal.nD Cert.FinalRIdeal.τ).loc Cert.FinalRIdeal.main_arg4) = m ((c.tc : Thread Cert.FinalRIdeal.nD Cert.FinalRIdeal.τ).loc Cert.FinalRIdeal.main_arg4))
      ∧ r.2.sem = fun _ => 0)

def quiescent_DactK [hDactK : Cert.DactK.Facts] : Prop :=
  ∀ (m : (ℓ : Loc Cert.DactK.nD Cert.DactK.τ Cert.DactK.sig) → Buf (Elt Bits) ℓ) (g : Dev Cert.DactK.nD → PrngReg), Pre_DactK m →
    θ_run (Cert.DactK.defs (F := Bits)) (onTc (τ := Cert.DactK.τ) (Cert.DactK.main (F := Bits))) ⟨m, fun _ => 0, g⟩ (fun r => (∀ c : Dev Cert.DactK.nD,
      r.2.mem ((c.tc : Thread Cert.DactK.nD Cert.DactK.τ).loc Cert.DactK.main_arg0) = m ((c.tc : Thread Cert.DactK.nD Cert.DactK.τ).loc Cert.DactK.main_arg0)
      ∧ r.2.mem ((c.tc : Thread Cert.DactK.nD Cert.DactK.τ).loc Cert.DactK.main_arg1) = m ((c.tc : Thread Cert.DactK.nD Cert.DactK.τ).loc Cert.DactK.main_arg1)
      ∧ r.2.mem ((c.tc : Thread Cert.DactK.nD Cert.DactK.τ).loc Cert.DactK.main_arg2) = m ((c.tc : Thread Cert.DactK.nD Cert.DactK.τ).loc Cert.DactK.main_arg2)
      ∧ r.2.mem ((c.tc : Thread Cert.DactK.nD Cert.DactK.τ).loc Cert.DactK.main_arg3) = m ((c.tc : Thread Cert.DactK.nD Cert.DactK.τ).loc Cert.DactK.main_arg3))
      ∧ r.2.sem = fun _ => 0)

def quiescent_DactKIdeal [hDactKIdeal : Cert.DactKIdeal.Facts] : Prop :=
  ∀ (m : (ℓ : Loc Cert.DactKIdeal.nD Cert.DactKIdeal.τ Cert.DactKIdeal.sig) → Buf (Elt Ideal) ℓ) (g : Dev Cert.DactKIdeal.nD → PrngReg), Pre_DactKIdeal m →
    θ_run (Cert.DactKIdeal.defs (F := Ideal)) (onTc (τ := Cert.DactKIdeal.τ) (Cert.DactKIdeal.main (F := Ideal))) ⟨m, fun _ => 0, g⟩ (fun r => (∀ c : Dev Cert.DactKIdeal.nD,
      r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
      ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1)
      ∧ r.2.mem ((c.tc : Thread Cert.DactKIdeal.nD Cert.DactKIdeal.τ).loc Cert.DactKIdeal.main_arg2) = m ((c.tc : Thread Cert.DactKIdeal.nD Cert.DactKIdeal.τ).loc Cert.DactKIdeal.main_arg2)
      ∧ r.2.mem ((c.tc : Thread Cert.DactKIdeal.nD Cert.DactKIdeal.τ).loc Cert.DactKIdeal.main_arg3) = m ((c.tc : Thread Cert.DactKIdeal.nD Cert.DactKIdeal.τ).loc Cert.DactKIdeal.main_arg3))
      ∧ r.2.sem = fun _ => 0)

def quiescent_DactKIdeal_pre_dact_finite [hDactKIdeal : Cert.DactKIdeal.Facts] [hPre_dact_finite : Cert.Pre_dact_finite.Facts] : Prop :=
  ∀ (m : (ℓ : Loc Cert.DactKIdeal.nD Cert.DactKIdeal.τ Cert.DactKIdeal.sig) → Buf (Elt Ideal) ℓ) (g : Dev Cert.DactKIdeal.nD → PrngReg), Pre_DactKIdeal_dact_finite m →
    θ_run (Cert.DactKIdeal.defs (F := Ideal)) (onTc (τ := Cert.DactKIdeal.τ) (Cert.DactKIdeal.main (F := Ideal))) ⟨m, fun _ => 0, g⟩ (fun r => (∀ c : Dev Cert.DactKIdeal.nD,
      r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
      ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1)
      ∧ r.2.mem ((c.tc : Thread Cert.DactKIdeal.nD Cert.DactKIdeal.τ).loc Cert.DactKIdeal.main_arg2) = m ((c.tc : Thread Cert.DactKIdeal.nD Cert.DactKIdeal.τ).loc Cert.DactKIdeal.main_arg2)
      ∧ r.2.mem ((c.tc : Thread Cert.DactKIdeal.nD Cert.DactKIdeal.τ).loc Cert.DactKIdeal.main_arg3) = m ((c.tc : Thread Cert.DactKIdeal.nD Cert.DactKIdeal.τ).loc Cert.DactKIdeal.main_arg3))
      ∧ r.2.sem = fun _ => 0)

def quiescent_DactRIdeal [hDactRIdeal : Cert.DactRIdeal.Facts] : Prop :=
  ∀ (m : (ℓ : Loc Cert.DactRIdeal.nD Cert.DactRIdeal.τ Cert.DactRIdeal.sig) → Buf (Elt Ideal) ℓ) (g : Dev Cert.DactRIdeal.nD → PrngReg), Pre_DactRIdeal m →
    θ_run (Cert.DactRIdeal.defs (F := Ideal)) (onTc (τ := Cert.DactRIdeal.τ) (Cert.DactRIdeal.main (F := Ideal))) ⟨m, fun _ => 0, g⟩ (fun r => (∀ c : Dev Cert.DactRIdeal.nD,
      r.2.mem ((c.tc : Thread Cert.DactRIdeal.nD Cert.DactRIdeal.τ).loc Cert.DactRIdeal.main_arg0) = m ((c.tc : Thread Cert.DactRIdeal.nD Cert.DactRIdeal.τ).loc Cert.DactRIdeal.main_arg0)
      ∧ r.2.mem ((c.tc : Thread Cert.DactRIdeal.nD Cert.DactRIdeal.τ).loc Cert.DactRIdeal.main_arg1) = m ((c.tc : Thread Cert.DactRIdeal.nD Cert.DactRIdeal.τ).loc Cert.DactRIdeal.main_arg1)
      ∧ r.2.mem ((c.tc : Thread Cert.DactRIdeal.nD Cert.DactRIdeal.τ).loc Cert.DactRIdeal.main_arg2) = m ((c.tc : Thread Cert.DactRIdeal.nD Cert.DactRIdeal.τ).loc Cert.DactRIdeal.main_arg2)
      ∧ r.2.mem ((c.tc : Thread Cert.DactRIdeal.nD Cert.DactRIdeal.τ).loc Cert.DactRIdeal.main_arg3) = m ((c.tc : Thread Cert.DactRIdeal.nD Cert.DactRIdeal.τ).loc Cert.DactRIdeal.main_arg3))
      ∧ r.2.sem = fun _ => 0)

def quiescent_DactRIdeal_pre_dact_finite [hDactRIdeal : Cert.DactRIdeal.Facts] [hPre_dact_finite : Cert.Pre_dact_finite.Facts] : Prop :=
  ∀ (m : (ℓ : Loc Cert.DactRIdeal.nD Cert.DactRIdeal.τ Cert.DactRIdeal.sig) → Buf (Elt Ideal) ℓ) (g : Dev Cert.DactRIdeal.nD → PrngReg), Pre_DactRIdeal_dact_finite m →
    θ_run (Cert.DactRIdeal.defs (F := Ideal)) (onTc (τ := Cert.DactRIdeal.τ) (Cert.DactRIdeal.main (F := Ideal))) ⟨m, fun _ => 0, g⟩ (fun r => (∀ c : Dev Cert.DactRIdeal.nD,
      r.2.mem ((c.tc : Thread Cert.DactRIdeal.nD Cert.DactRIdeal.τ).loc Cert.DactRIdeal.main_arg0) = m ((c.tc : Thread Cert.DactRIdeal.nD Cert.DactRIdeal.τ).loc Cert.DactRIdeal.main_arg0)
      ∧ r.2.mem ((c.tc : Thread Cert.DactRIdeal.nD Cert.DactRIdeal.τ).loc Cert.DactRIdeal.main_arg1) = m ((c.tc : Thread Cert.DactRIdeal.nD Cert.DactRIdeal.τ).loc Cert.DactRIdeal.main_arg1)
      ∧ r.2.mem ((c.tc : Thread Cert.DactRIdeal.nD Cert.DactRIdeal.τ).loc Cert.DactRIdeal.main_arg2) = m ((c.tc : Thread Cert.DactRIdeal.nD Cert.DactRIdeal.τ).loc Cert.DactRIdeal.main_arg2)
      ∧ r.2.mem ((c.tc : Thread Cert.DactRIdeal.nD Cert.DactRIdeal.τ).loc Cert.DactRIdeal.main_arg3) = m ((c.tc : Thread Cert.DactRIdeal.nD Cert.DactRIdeal.τ).loc Cert.DactRIdeal.main_arg3))
      ∧ r.2.sem = fun _ => 0)

def quiescent_DnK [hDnK : Cert.DnK.Facts] : Prop :=
  ∀ (m : (ℓ : Loc Cert.DnK.nD Cert.DnK.τ Cert.DnK.sig) → Buf (Elt Bits) ℓ) (g : Dev Cert.DnK.nD → PrngReg), Pre_DnK m →
    θ_run (Cert.DnK.defs (F := Bits)) (onTc (τ := Cert.DnK.τ) (Cert.DnK.main (F := Bits))) ⟨m, fun _ => 0, g⟩ (fun r => (∀ c : Dev Cert.DnK.nD,
      r.2.mem ((c.tc : Thread Cert.DnK.nD Cert.DnK.τ).loc Cert.DnK.main_arg0) = m ((c.tc : Thread Cert.DnK.nD Cert.DnK.τ).loc Cert.DnK.main_arg0)
      ∧ r.2.mem ((c.tc : Thread Cert.DnK.nD Cert.DnK.τ).loc Cert.DnK.main_arg1) = m ((c.tc : Thread Cert.DnK.nD Cert.DnK.τ).loc Cert.DnK.main_arg1)
      ∧ r.2.mem ((c.tc : Thread Cert.DnK.nD Cert.DnK.τ).loc Cert.DnK.main_arg2) = m ((c.tc : Thread Cert.DnK.nD Cert.DnK.τ).loc Cert.DnK.main_arg2)
      ∧ r.2.mem ((c.tc : Thread Cert.DnK.nD Cert.DnK.τ).loc Cert.DnK.main_arg3) = m ((c.tc : Thread Cert.DnK.nD Cert.DnK.τ).loc Cert.DnK.main_arg3)
      ∧ r.2.mem ((c.tc : Thread Cert.DnK.nD Cert.DnK.τ).loc Cert.DnK.main_arg4) = m ((c.tc : Thread Cert.DnK.nD Cert.DnK.τ).loc Cert.DnK.main_arg4)
      ∧ r.2.mem ((c.tc : Thread Cert.DnK.nD Cert.DnK.τ).loc Cert.DnK.main_arg5) = m ((c.tc : Thread Cert.DnK.nD Cert.DnK.τ).loc Cert.DnK.main_arg5)
      ∧ r.2.mem ((c.tc : Thread Cert.DnK.nD Cert.DnK.τ).loc Cert.DnK.main_arg6) = m ((c.tc : Thread Cert.DnK.nD Cert.DnK.τ).loc Cert.DnK.main_arg6))
      ∧ r.2.sem = fun _ => 0)

def quiescent_DnKIdeal [hDnKIdeal : Cert.DnKIdeal.Facts] : Prop :=
  ∀ (m : (ℓ : Loc Cert.DnKIdeal.nD Cert.DnKIdeal.τ Cert.DnKIdeal.sig) → Buf (Elt Ideal) ℓ) (g : Dev Cert.DnKIdeal.nD → PrngReg), Pre_DnKIdeal m →
    θ_run (Cert.DnKIdeal.defs (F := Ideal)) (onTc (τ := Cert.DnKIdeal.τ) (Cert.DnKIdeal.main (F := Ideal))) ⟨m, fun _ => 0, g⟩ (fun r => (∀ c : Dev Cert.DnKIdeal.nD,
      r.2.mem ((c.tc : Thread Cert.DnKIdeal.nD Cert.DnKIdeal.τ).loc Cert.DnKIdeal.main_arg0) = m ((c.tc : Thread Cert.DnKIdeal.nD Cert.DnKIdeal.τ).loc Cert.DnKIdeal.main_arg0)
      ∧ r.2.mem ((c.tc : Thread Cert.DnKIdeal.nD Cert.DnKIdeal.τ).loc Cert.DnKIdeal.main_arg1) = m ((c.tc : Thread Cert.DnKIdeal.nD Cert.DnKIdeal.τ).loc Cert.DnKIdeal.main_arg1)
      ∧ r.2.mem ((c.tc : Thread Cert.DnKIdeal.nD Cert.DnKIdeal.τ).loc Cert.DnKIdeal.main_arg2) = m ((c.tc : Thread Cert.DnKIdeal.nD Cert.DnKIdeal.τ).loc Cert.DnKIdeal.main_arg2)
      ∧ r.2.mem ((c.tc : Thread Cert.DnKIdeal.nD Cert.DnKIdeal.τ).loc Cert.DnKIdeal.main_arg3) = m ((c.tc : Thread Cert.DnKIdeal.nD Cert.DnKIdeal.τ).loc Cert.DnKIdeal.main_arg3)
      ∧ r.2.mem ((c.tc : Thread Cert.DnKIdeal.nD Cert.DnKIdeal.τ).loc Cert.DnKIdeal.main_arg4) = m ((c.tc : Thread Cert.DnKIdeal.nD Cert.DnKIdeal.τ).loc Cert.DnKIdeal.main_arg4)
      ∧ r.2.mem ((c.tc : Thread Cert.DnKIdeal.nD Cert.DnKIdeal.τ).loc Cert.DnKIdeal.main_arg5) = m ((c.tc : Thread Cert.DnKIdeal.nD Cert.DnKIdeal.τ).loc Cert.DnKIdeal.main_arg5)
      ∧ r.2.mem ((c.tc : Thread Cert.DnKIdeal.nD Cert.DnKIdeal.τ).loc Cert.DnKIdeal.main_arg6) = m ((c.tc : Thread Cert.DnKIdeal.nD Cert.DnKIdeal.τ).loc Cert.DnKIdeal.main_arg6))
      ∧ r.2.sem = fun _ => 0)

def quiescent_DnKIdeal_pre_dnorm_finite [hDnKIdeal : Cert.DnKIdeal.Facts] [hPre_dnorm_finite : Cert.Pre_dnorm_finite.Facts] : Prop :=
  ∀ (m : (ℓ : Loc Cert.DnKIdeal.nD Cert.DnKIdeal.τ Cert.DnKIdeal.sig) → Buf (Elt Ideal) ℓ) (g : Dev Cert.DnKIdeal.nD → PrngReg), Pre_DnKIdeal_dnorm_finite m →
    θ_run (Cert.DnKIdeal.defs (F := Ideal)) (onTc (τ := Cert.DnKIdeal.τ) (Cert.DnKIdeal.main (F := Ideal))) ⟨m, fun _ => 0, g⟩ (fun r => (∀ c : Dev Cert.DnKIdeal.nD,
      r.2.mem ((c.tc : Thread Cert.DnKIdeal.nD Cert.DnKIdeal.τ).loc Cert.DnKIdeal.main_arg0) = m ((c.tc : Thread Cert.DnKIdeal.nD Cert.DnKIdeal.τ).loc Cert.DnKIdeal.main_arg0)
      ∧ r.2.mem ((c.tc : Thread Cert.DnKIdeal.nD Cert.DnKIdeal.τ).loc Cert.DnKIdeal.main_arg1) = m ((c.tc : Thread Cert.DnKIdeal.nD Cert.DnKIdeal.τ).loc Cert.DnKIdeal.main_arg1)
      ∧ r.2.mem ((c.tc : Thread Cert.DnKIdeal.nD Cert.DnKIdeal.τ).loc Cert.DnKIdeal.main_arg2) = m ((c.tc : Thread Cert.DnKIdeal.nD Cert.DnKIdeal.τ).loc Cert.DnKIdeal.main_arg2)
      ∧ r.2.mem ((c.tc : Thread Cert.DnKIdeal.nD Cert.DnKIdeal.τ).loc Cert.DnKIdeal.main_arg3) = m ((c.tc : Thread Cert.DnKIdeal.nD Cert.DnKIdeal.τ).loc Cert.DnKIdeal.main_arg3)
      ∧ r.2.mem ((c.tc : Thread Cert.DnKIdeal.nD Cert.DnKIdeal.τ).loc Cert.DnKIdeal.main_arg4) = m ((c.tc : Thread Cert.DnKIdeal.nD Cert.DnKIdeal.τ).loc Cert.DnKIdeal.main_arg4)
      ∧ r.2.mem ((c.tc : Thread Cert.DnKIdeal.nD Cert.DnKIdeal.τ).loc Cert.DnKIdeal.main_arg5) = m ((c.tc : Thread Cert.DnKIdeal.nD Cert.DnKIdeal.τ).loc Cert.DnKIdeal.main_arg5)
      ∧ r.2.mem ((c.tc : Thread Cert.DnKIdeal.nD Cert.DnKIdeal.τ).loc Cert.DnKIdeal.main_arg6) = m ((c.tc : Thread Cert.DnKIdeal.nD Cert.DnKIdeal.τ).loc Cert.DnKIdeal.main_arg6))
      ∧ r.2.sem = fun _ => 0)

def quiescent_DnRIdeal [hDnRIdeal : Cert.DnRIdeal.Facts] : Prop :=
  ∀ (m : (ℓ : Loc Cert.DnRIdeal.nD Cert.DnRIdeal.τ Cert.DnRIdeal.sig) → Buf (Elt Ideal) ℓ) (g : Dev Cert.DnRIdeal.nD → PrngReg), Pre_DnRIdeal m →
    θ_run (Cert.DnRIdeal.defs (F := Ideal)) (onTc (τ := Cert.DnRIdeal.τ) (Cert.DnRIdeal.main (F := Ideal))) ⟨m, fun _ => 0, g⟩ (fun r => (∀ c : Dev Cert.DnRIdeal.nD,
      r.2.mem ((c.tc : Thread Cert.DnRIdeal.nD Cert.DnRIdeal.τ).loc Cert.DnRIdeal.main_arg0) = m ((c.tc : Thread Cert.DnRIdeal.nD Cert.DnRIdeal.τ).loc Cert.DnRIdeal.main_arg0)
      ∧ r.2.mem ((c.tc : Thread Cert.DnRIdeal.nD Cert.DnRIdeal.τ).loc Cert.DnRIdeal.main_arg1) = m ((c.tc : Thread Cert.DnRIdeal.nD Cert.DnRIdeal.τ).loc Cert.DnRIdeal.main_arg1)
      ∧ r.2.mem ((c.tc : Thread Cert.DnRIdeal.nD Cert.DnRIdeal.τ).loc Cert.DnRIdeal.main_arg2) = m ((c.tc : Thread Cert.DnRIdeal.nD Cert.DnRIdeal.τ).loc Cert.DnRIdeal.main_arg2)
      ∧ r.2.mem ((c.tc : Thread Cert.DnRIdeal.nD Cert.DnRIdeal.τ).loc Cert.DnRIdeal.main_arg3) = m ((c.tc : Thread Cert.DnRIdeal.nD Cert.DnRIdeal.τ).loc Cert.DnRIdeal.main_arg3)
      ∧ r.2.mem ((c.tc : Thread Cert.DnRIdeal.nD Cert.DnRIdeal.τ).loc Cert.DnRIdeal.main_arg4) = m ((c.tc : Thread Cert.DnRIdeal.nD Cert.DnRIdeal.τ).loc Cert.DnRIdeal.main_arg4)
      ∧ r.2.mem ((c.tc : Thread Cert.DnRIdeal.nD Cert.DnRIdeal.τ).loc Cert.DnRIdeal.main_arg5) = m ((c.tc : Thread Cert.DnRIdeal.nD Cert.DnRIdeal.τ).loc Cert.DnRIdeal.main_arg5)
      ∧ r.2.mem ((c.tc : Thread Cert.DnRIdeal.nD Cert.DnRIdeal.τ).loc Cert.DnRIdeal.main_arg6) = m ((c.tc : Thread Cert.DnRIdeal.nD Cert.DnRIdeal.τ).loc Cert.DnRIdeal.main_arg6))
      ∧ r.2.sem = fun _ => 0)

def quiescent_DnRIdeal_pre_dnorm_finite [hDnRIdeal : Cert.DnRIdeal.Facts] [hPre_dnorm_finite : Cert.Pre_dnorm_finite.Facts] : Prop :=
  ∀ (m : (ℓ : Loc Cert.DnRIdeal.nD Cert.DnRIdeal.τ Cert.DnRIdeal.sig) → Buf (Elt Ideal) ℓ) (g : Dev Cert.DnRIdeal.nD → PrngReg), Pre_DnRIdeal_dnorm_finite m →
    θ_run (Cert.DnRIdeal.defs (F := Ideal)) (onTc (τ := Cert.DnRIdeal.τ) (Cert.DnRIdeal.main (F := Ideal))) ⟨m, fun _ => 0, g⟩ (fun r => (∀ c : Dev Cert.DnRIdeal.nD,
      r.2.mem ((c.tc : Thread Cert.DnRIdeal.nD Cert.DnRIdeal.τ).loc Cert.DnRIdeal.main_arg0) = m ((c.tc : Thread Cert.DnRIdeal.nD Cert.DnRIdeal.τ).loc Cert.DnRIdeal.main_arg0)
      ∧ r.2.mem ((c.tc : Thread Cert.DnRIdeal.nD Cert.DnRIdeal.τ).loc Cert.DnRIdeal.main_arg1) = m ((c.tc : Thread Cert.DnRIdeal.nD Cert.DnRIdeal.τ).loc Cert.DnRIdeal.main_arg1)
      ∧ r.2.mem ((c.tc : Thread Cert.DnRIdeal.nD Cert.DnRIdeal.τ).loc Cert.DnRIdeal.main_arg2) = m ((c.tc : Thread Cert.DnRIdeal.nD Cert.DnRIdeal.τ).loc Cert.DnRIdeal.main_arg2)
      ∧ r.2.mem ((c.tc : Thread Cert.DnRIdeal.nD Cert.DnRIdeal.τ).loc Cert.DnRIdeal.main_arg3) = m ((c.tc : Thread Cert.DnRIdeal.nD Cert.DnRIdeal.τ).loc Cert.DnRIdeal.main_arg3)
      ∧ r.2.mem ((c.tc : Thread Cert.DnRIdeal.nD Cert.DnRIdeal.τ).loc Cert.DnRIdeal.main_arg4) = m ((c.tc : Thread Cert.DnRIdeal.nD Cert.DnRIdeal.τ).loc Cert.DnRIdeal.main_arg4)
      ∧ r.2.mem ((c.tc : Thread Cert.DnRIdeal.nD Cert.DnRIdeal.τ).loc Cert.DnRIdeal.main_arg5) = m ((c.tc : Thread Cert.DnRIdeal.nD Cert.DnRIdeal.τ).loc Cert.DnRIdeal.main_arg5)
      ∧ r.2.mem ((c.tc : Thread Cert.DnRIdeal.nD Cert.DnRIdeal.τ).loc Cert.DnRIdeal.main_arg6) = m ((c.tc : Thread Cert.DnRIdeal.nD Cert.DnRIdeal.τ).loc Cert.DnRIdeal.main_arg6))
      ∧ r.2.sem = fun _ => 0)

def quiescent_TailK [hTailK : Cert.TailK.Facts] : Prop :=
  ∀ (m : (ℓ : Loc Cert.TailK.nD Cert.TailK.τ Cert.TailK.sig) → Buf (Elt Bits) ℓ) (g : Dev Cert.TailK.nD → PrngReg), Pre_TailK m →
    θ_run (Cert.TailK.defs (F := Bits)) (onTc (τ := Cert.TailK.τ) (Cert.TailK.main (F := Bits))) ⟨m, fun _ => 0, g⟩ (fun r => (∀ c : Dev Cert.TailK.nD,
      r.2.mem ((c.tc : Thread Cert.TailK.nD Cert.TailK.τ).loc Cert.TailK.main_arg0) = m ((c.tc : Thread Cert.TailK.nD Cert.TailK.τ).loc Cert.TailK.main_arg0)
      ∧ r.2.mem ((c.tc : Thread Cert.TailK.nD Cert.TailK.τ).loc Cert.TailK.main_arg1) = m ((c.tc : Thread Cert.TailK.nD Cert.TailK.τ).loc Cert.TailK.main_arg1)
      ∧ r.2.mem ((c.tc : Thread Cert.TailK.nD Cert.TailK.τ).loc Cert.TailK.main_arg2) = m ((c.tc : Thread Cert.TailK.nD Cert.TailK.τ).loc Cert.TailK.main_arg2)
      ∧ r.2.mem ((c.tc : Thread Cert.TailK.nD Cert.TailK.τ).loc Cert.TailK.main_arg3) = m ((c.tc : Thread Cert.TailK.nD Cert.TailK.τ).loc Cert.TailK.main_arg3)
      ∧ r.2.mem ((c.tc : Thread Cert.TailK.nD Cert.TailK.τ).loc Cert.TailK.main_arg4) = m ((c.tc : Thread Cert.TailK.nD Cert.TailK.τ).loc Cert.TailK.main_arg4))
      ∧ r.2.sem = fun _ => 0)

def quiescent_TailKIdeal [hTailKIdeal : Cert.TailKIdeal.Facts] : Prop :=
  ∀ (m : (ℓ : Loc Cert.TailKIdeal.nD Cert.TailKIdeal.τ Cert.TailKIdeal.sig) → Buf (Elt Ideal) ℓ) (g : Dev Cert.TailKIdeal.nD → PrngReg), Pre_TailKIdeal m →
    θ_run (Cert.TailKIdeal.defs (F := Ideal)) (onTc (τ := Cert.TailKIdeal.τ) (Cert.TailKIdeal.main (F := Ideal))) ⟨m, fun _ => 0, g⟩ (fun r => (∀ c : Dev Cert.TailKIdeal.nD,
      r.2.mem ((c.tc : Thread Cert.TailKIdeal.nD Cert.TailKIdeal.τ).loc Cert.TailKIdeal.main_arg0) = m ((c.tc : Thread Cert.TailKIdeal.nD Cert.TailKIdeal.τ).loc Cert.TailKIdeal.main_arg0)
      ∧ r.2.mem ((c.tc : Thread Cert.TailKIdeal.nD Cert.TailKIdeal.τ).loc Cert.TailKIdeal.main_arg1) = m ((c.tc : Thread Cert.TailKIdeal.nD Cert.TailKIdeal.τ).loc Cert.TailKIdeal.main_arg1)
      ∧ r.2.mem ((c.tc : Thread Cert.TailKIdeal.nD Cert.TailKIdeal.τ).loc Cert.TailKIdeal.main_arg2) = m ((c.tc : Thread Cert.TailKIdeal.nD Cert.TailKIdeal.τ).loc Cert.TailKIdeal.main_arg2)
      ∧ r.2.mem ((c.tc : Thread Cert.TailKIdeal.nD Cert.TailKIdeal.τ).loc Cert.TailKIdeal.main_arg3) = m ((c.tc : Thread Cert.TailKIdeal.nD Cert.TailKIdeal.τ).loc Cert.TailKIdeal.main_arg3)
      ∧ r.2.mem ((c.tc : Thread Cert.TailKIdeal.nD Cert.TailKIdeal.τ).loc Cert.TailKIdeal.main_arg4) = m ((c.tc : Thread Cert.TailKIdeal.nD Cert.TailKIdeal.τ).loc Cert.TailKIdeal.main_arg4))
      ∧ r.2.sem = fun _ => 0)

def quiescent_TailKIdeal_pre_tail_finite [hTailKIdeal : Cert.TailKIdeal.Facts] [hPre_tail_finite : Cert.Pre_tail_finite.Facts] : Prop :=
  ∀ (m : (ℓ : Loc Cert.TailKIdeal.nD Cert.TailKIdeal.τ Cert.TailKIdeal.sig) → Buf (Elt Ideal) ℓ) (g : Dev Cert.TailKIdeal.nD → PrngReg), Pre_TailKIdeal_tail_finite m →
    θ_run (Cert.TailKIdeal.defs (F := Ideal)) (onTc (τ := Cert.TailKIdeal.τ) (Cert.TailKIdeal.main (F := Ideal))) ⟨m, fun _ => 0, g⟩ (fun r => (∀ c : Dev Cert.TailKIdeal.nD,
      r.2.mem ((c.tc : Thread Cert.TailKIdeal.nD Cert.TailKIdeal.τ).loc Cert.TailKIdeal.main_arg0) = m ((c.tc : Thread Cert.TailKIdeal.nD Cert.TailKIdeal.τ).loc Cert.TailKIdeal.main_arg0)
      ∧ r.2.mem ((c.tc : Thread Cert.TailKIdeal.nD Cert.TailKIdeal.τ).loc Cert.TailKIdeal.main_arg1) = m ((c.tc : Thread Cert.TailKIdeal.nD Cert.TailKIdeal.τ).loc Cert.TailKIdeal.main_arg1)
      ∧ r.2.mem ((c.tc : Thread Cert.TailKIdeal.nD Cert.TailKIdeal.τ).loc Cert.TailKIdeal.main_arg2) = m ((c.tc : Thread Cert.TailKIdeal.nD Cert.TailKIdeal.τ).loc Cert.TailKIdeal.main_arg2)
      ∧ r.2.mem ((c.tc : Thread Cert.TailKIdeal.nD Cert.TailKIdeal.τ).loc Cert.TailKIdeal.main_arg3) = m ((c.tc : Thread Cert.TailKIdeal.nD Cert.TailKIdeal.τ).loc Cert.TailKIdeal.main_arg3)
      ∧ r.2.mem ((c.tc : Thread Cert.TailKIdeal.nD Cert.TailKIdeal.τ).loc Cert.TailKIdeal.main_arg4) = m ((c.tc : Thread Cert.TailKIdeal.nD Cert.TailKIdeal.τ).loc Cert.TailKIdeal.main_arg4))
      ∧ r.2.sem = fun _ => 0)

def quiescent_TailRIdeal [hTailRIdeal : Cert.TailRIdeal.Facts] : Prop :=
  ∀ (m : (ℓ : Loc Cert.TailRIdeal.nD Cert.TailRIdeal.τ Cert.TailRIdeal.sig) → Buf (Elt Ideal) ℓ) (g : Dev Cert.TailRIdeal.nD → PrngReg), Pre_TailRIdeal m →
    θ_run (Cert.TailRIdeal.defs (F := Ideal)) (onTc (τ := Cert.TailRIdeal.τ) (Cert.TailRIdeal.main (F := Ideal))) ⟨m, fun _ => 0, g⟩ (fun r => (∀ c : Dev Cert.TailRIdeal.nD,
      r.2.mem ((c.tc : Thread Cert.TailRIdeal.nD Cert.TailRIdeal.τ).loc Cert.TailRIdeal.main_arg0) = m ((c.tc : Thread Cert.TailRIdeal.nD Cert.TailRIdeal.τ).loc Cert.TailRIdeal.main_arg0)
      ∧ r.2.mem ((c.tc : Thread Cert.TailRIdeal.nD Cert.TailRIdeal.τ).loc Cert.TailRIdeal.main_arg1) = m ((c.tc : Thread Cert.TailRIdeal.nD Cert.TailRIdeal.τ).loc Cert.TailRIdeal.main_arg1)
      ∧ r.2.mem ((c.tc : Thread Cert.TailRIdeal.nD Cert.TailRIdeal.τ).loc Cert.TailRIdeal.main_arg2) = m ((c.tc : Thread Cert.TailRIdeal.nD Cert.TailRIdeal.τ).loc Cert.TailRIdeal.main_arg2)
      ∧ r.2.mem ((c.tc : Thread Cert.TailRIdeal.nD Cert.TailRIdeal.τ).loc Cert.TailRIdeal.main_arg3) = m ((c.tc : Thread Cert.TailRIdeal.nD Cert.TailRIdeal.τ).loc Cert.TailRIdeal.main_arg3)
      ∧ r.2.mem ((c.tc : Thread Cert.TailRIdeal.nD Cert.TailRIdeal.τ).loc Cert.TailRIdeal.main_arg4) = m ((c.tc : Thread Cert.TailRIdeal.nD Cert.TailRIdeal.τ).loc Cert.TailRIdeal.main_arg4))
      ∧ r.2.sem = fun _ => 0)

def quiescent_TailRIdeal_pre_tail_finite [hTailRIdeal : Cert.TailRIdeal.Facts] [hPre_tail_finite : Cert.Pre_tail_finite.Facts] : Prop :=
  ∀ (m : (ℓ : Loc Cert.TailRIdeal.nD Cert.TailRIdeal.τ Cert.TailRIdeal.sig) → Buf (Elt Ideal) ℓ) (g : Dev Cert.TailRIdeal.nD → PrngReg), Pre_TailRIdeal_tail_finite m →
    θ_run (Cert.TailRIdeal.defs (F := Ideal)) (onTc (τ := Cert.TailRIdeal.τ) (Cert.TailRIdeal.main (F := Ideal))) ⟨m, fun _ => 0, g⟩ (fun r => (∀ c : Dev Cert.TailRIdeal.nD,
      r.2.mem ((c.tc : Thread Cert.TailRIdeal.nD Cert.TailRIdeal.τ).loc Cert.TailRIdeal.main_arg0) = m ((c.tc : Thread Cert.TailRIdeal.nD Cert.TailRIdeal.τ).loc Cert.TailRIdeal.main_arg0)
      ∧ r.2.mem ((c.tc : Thread Cert.TailRIdeal.nD Cert.TailRIdeal.τ).loc Cert.TailRIdeal.main_arg1) = m ((c.tc : Thread Cert.TailRIdeal.nD Cert.TailRIdeal.τ).loc Cert.TailRIdeal.main_arg1)
      ∧ r.2.mem ((c.tc : Thread Cert.TailRIdeal.nD Cert.TailRIdeal.τ).loc Cert.TailRIdeal.main_arg2) = m ((c.tc : Thread Cert.TailRIdeal.nD Cert.TailRIdeal.τ).loc Cert.TailRIdeal.main_arg2)
      ∧ r.2.mem ((c.tc : Thread Cert.TailRIdeal.nD Cert.TailRIdeal.τ).loc Cert.TailRIdeal.main_arg3) = m ((c.tc : Thread Cert.TailRIdeal.nD Cert.TailRIdeal.τ).loc Cert.TailRIdeal.main_arg3)
      ∧ r.2.mem ((c.tc : Thread Cert.TailRIdeal.nD Cert.TailRIdeal.τ).loc Cert.TailRIdeal.main_arg4) = m ((c.tc : Thread Cert.TailRIdeal.nD Cert.TailRIdeal.τ).loc Cert.TailRIdeal.main_arg4))
      ∧ r.2.sem = fun _ => 0)

def quiescent_DninK [hDninK : Cert.DninK.Facts] : Prop :=
  ∀ (m : (ℓ : Loc Cert.DninK.nD Cert.DninK.τ Cert.DninK.sig) → Buf (Elt Bits) ℓ) (g : Dev Cert.DninK.nD → PrngReg), Pre_DninK m →
    θ_run (Cert.DninK.defs (F := Bits)) (onTc (τ := Cert.DninK.τ) (Cert.DninK.main (F := Bits))) ⟨m, fun _ => 0, g⟩ (fun r => (∀ c : Dev Cert.DninK.nD,
      r.2.mem ((c.tc : Thread Cert.DninK.nD Cert.DninK.τ).loc Cert.DninK.main_arg0) = m ((c.tc : Thread Cert.DninK.nD Cert.DninK.τ).loc Cert.DninK.main_arg0)
      ∧ r.2.mem ((c.tc : Thread Cert.DninK.nD Cert.DninK.τ).loc Cert.DninK.main_arg1) = m ((c.tc : Thread Cert.DninK.nD Cert.DninK.τ).loc Cert.DninK.main_arg1)
      ∧ r.2.mem ((c.tc : Thread Cert.DninK.nD Cert.DninK.τ).loc Cert.DninK.main_arg2) = m ((c.tc : Thread Cert.DninK.nD Cert.DninK.τ).loc Cert.DninK.main_arg2)
      ∧ r.2.mem ((c.tc : Thread Cert.DninK.nD Cert.DninK.τ).loc Cert.DninK.main_arg3) = m ((c.tc : Thread Cert.DninK.nD Cert.DninK.τ).loc Cert.DninK.main_arg3)
      ∧ r.2.mem ((c.tc : Thread Cert.DninK.nD Cert.DninK.τ).loc Cert.DninK.main_arg4) = m ((c.tc : Thread Cert.DninK.nD Cert.DninK.τ).loc Cert.DninK.main_arg4))
      ∧ r.2.sem = fun _ => 0)

def quiescent_DninKIdeal [hDninKIdeal : Cert.DninKIdeal.Facts] : Prop :=
  ∀ (m : (ℓ : Loc Cert.DninKIdeal.nD Cert.DninKIdeal.τ Cert.DninKIdeal.sig) → Buf (Elt Ideal) ℓ) (g : Dev Cert.DninKIdeal.nD → PrngReg), Pre_DninKIdeal m →
    θ_run (Cert.DninKIdeal.defs (F := Ideal)) (onTc (τ := Cert.DninKIdeal.τ) (Cert.DninKIdeal.main (F := Ideal))) ⟨m, fun _ => 0, g⟩ (fun r => (∀ c : Dev Cert.DninKIdeal.nD,
      r.2.mem ((c.tc : Thread Cert.DninKIdeal.nD Cert.DninKIdeal.τ).loc Cert.DninKIdeal.main_arg0) = m ((c.tc : Thread Cert.DninKIdeal.nD Cert.DninKIdeal.τ).loc Cert.DninKIdeal.main_arg0)
      ∧ r.2.mem ((c.tc : Thread Cert.DninKIdeal.nD Cert.DninKIdeal.τ).loc Cert.DninKIdeal.main_arg1) = m ((c.tc : Thread Cert.DninKIdeal.nD Cert.DninKIdeal.τ).loc Cert.DninKIdeal.main_arg1)
      ∧ r.2.mem ((c.tc : Thread Cert.DninKIdeal.nD Cert.DninKIdeal.τ).loc Cert.DninKIdeal.main_arg2) = m ((c.tc : Thread Cert.DninKIdeal.nD Cert.DninKIdeal.τ).loc Cert.DninKIdeal.main_arg2)
      ∧ r.2.mem ((c.tc : Thread Cert.DninKIdeal.nD Cert.DninKIdeal.τ).loc Cert.DninKIdeal.main_arg3) = m ((c.tc : Thread Cert.DninKIdeal.nD Cert.DninKIdeal.τ).loc Cert.DninKIdeal.main_arg3)
      ∧ r.2.mem ((c.tc : Thread Cert.DninKIdeal.nD Cert.DninKIdeal.τ).loc Cert.DninKIdeal.main_arg4) = m ((c.tc : Thread Cert.DninKIdeal.nD Cert.DninKIdeal.τ).loc Cert.DninKIdeal.main_arg4))
      ∧ r.2.sem = fun _ => 0)

def quiescent_DninKIdeal_pre_dnin_finite [hDninKIdeal : Cert.DninKIdeal.Facts] [hPre_dnin_finite : Cert.Pre_dnin_finite.Facts] : Prop :=
  ∀ (m : (ℓ : Loc Cert.DninKIdeal.nD Cert.DninKIdeal.τ Cert.DninKIdeal.sig) → Buf (Elt Ideal) ℓ) (g : Dev Cert.DninKIdeal.nD → PrngReg), Pre_DninKIdeal_dnin_finite m →
    θ_run (Cert.DninKIdeal.defs (F := Ideal)) (onTc (τ := Cert.DninKIdeal.τ) (Cert.DninKIdeal.main (F := Ideal))) ⟨m, fun _ => 0, g⟩ (fun r => (∀ c : Dev Cert.DninKIdeal.nD,
      r.2.mem ((c.tc : Thread Cert.DninKIdeal.nD Cert.DninKIdeal.τ).loc Cert.DninKIdeal.main_arg0) = m ((c.tc : Thread Cert.DninKIdeal.nD Cert.DninKIdeal.τ).loc Cert.DninKIdeal.main_arg0)
      ∧ r.2.mem ((c.tc : Thread Cert.DninKIdeal.nD Cert.DninKIdeal.τ).loc Cert.DninKIdeal.main_arg1) = m ((c.tc : Thread Cert.DninKIdeal.nD Cert.DninKIdeal.τ).loc Cert.DninKIdeal.main_arg1)
      ∧ r.2.mem ((c.tc : Thread Cert.DninKIdeal.nD Cert.DninKIdeal.τ).loc Cert.DninKIdeal.main_arg2) = m ((c.tc : Thread Cert.DninKIdeal.nD Cert.DninKIdeal.τ).loc Cert.DninKIdeal.main_arg2)
      ∧ r.2.mem ((c.tc : Thread Cert.DninKIdeal.nD Cert.DninKIdeal.τ).loc Cert.DninKIdeal.main_arg3) = m ((c.tc : Thread Cert.DninKIdeal.nD Cert.DninKIdeal.τ).loc Cert.DninKIdeal.main_arg3)
      ∧ r.2.mem ((c.tc : Thread Cert.DninKIdeal.nD Cert.DninKIdeal.τ).loc Cert.DninKIdeal.main_arg4) = m ((c.tc : Thread Cert.DninKIdeal.nD Cert.DninKIdeal.τ).loc Cert.DninKIdeal.main_arg4))
      ∧ r.2.sem = fun _ => 0)

def quiescent_DninRIdeal [hDninRIdeal : Cert.DninRIdeal.Facts] : Prop :=
  ∀ (m : (ℓ : Loc Cert.DninRIdeal.nD Cert.DninRIdeal.τ Cert.DninRIdeal.sig) → Buf (Elt Ideal) ℓ) (g : Dev Cert.DninRIdeal.nD → PrngReg), Pre_DninRIdeal m →
    θ_run (Cert.DninRIdeal.defs (F := Ideal)) (onTc (τ := Cert.DninRIdeal.τ) (Cert.DninRIdeal.main (F := Ideal))) ⟨m, fun _ => 0, g⟩ (fun r => (∀ c : Dev Cert.DninRIdeal.nD,
      r.2.mem ((c.tc : Thread Cert.DninRIdeal.nD Cert.DninRIdeal.τ).loc Cert.DninRIdeal.main_arg0) = m ((c.tc : Thread Cert.DninRIdeal.nD Cert.DninRIdeal.τ).loc Cert.DninRIdeal.main_arg0)
      ∧ r.2.mem ((c.tc : Thread Cert.DninRIdeal.nD Cert.DninRIdeal.τ).loc Cert.DninRIdeal.main_arg1) = m ((c.tc : Thread Cert.DninRIdeal.nD Cert.DninRIdeal.τ).loc Cert.DninRIdeal.main_arg1)
      ∧ r.2.mem ((c.tc : Thread Cert.DninRIdeal.nD Cert.DninRIdeal.τ).loc Cert.DninRIdeal.main_arg2) = m ((c.tc : Thread Cert.DninRIdeal.nD Cert.DninRIdeal.τ).loc Cert.DninRIdeal.main_arg2)
      ∧ r.2.mem ((c.tc : Thread Cert.DninRIdeal.nD Cert.DninRIdeal.τ).loc Cert.DninRIdeal.main_arg3) = m ((c.tc : Thread Cert.DninRIdeal.nD Cert.DninRIdeal.τ).loc Cert.DninRIdeal.main_arg3)
      ∧ r.2.mem ((c.tc : Thread Cert.DninRIdeal.nD Cert.DninRIdeal.τ).loc Cert.DninRIdeal.main_arg4) = m ((c.tc : Thread Cert.DninRIdeal.nD Cert.DninRIdeal.τ).loc Cert.DninRIdeal.main_arg4))
      ∧ r.2.sem = fun _ => 0)

def quiescent_DninRIdeal_pre_dnin_finite [hDninRIdeal : Cert.DninRIdeal.Facts] [hPre_dnin_finite : Cert.Pre_dnin_finite.Facts] : Prop :=
  ∀ (m : (ℓ : Loc Cert.DninRIdeal.nD Cert.DninRIdeal.τ Cert.DninRIdeal.sig) → Buf (Elt Ideal) ℓ) (g : Dev Cert.DninRIdeal.nD → PrngReg), Pre_DninRIdeal_dnin_finite m →
    θ_run (Cert.DninRIdeal.defs (F := Ideal)) (onTc (τ := Cert.DninRIdeal.τ) (Cert.DninRIdeal.main (F := Ideal))) ⟨m, fun _ => 0, g⟩ (fun r => (∀ c : Dev Cert.DninRIdeal.nD,
      r.2.mem ((c.tc : Thread Cert.DninRIdeal.nD Cert.DninRIdeal.τ).loc Cert.DninRIdeal.main_arg0) = m ((c.tc : Thread Cert.DninRIdeal.nD Cert.DninRIdeal.τ).loc Cert.DninRIdeal.main_arg0)
      ∧ r.2.mem ((c.tc : Thread Cert.DninRIdeal.nD Cert.DninRIdeal.τ).loc Cert.DninRIdeal.main_arg1) = m ((c.tc : Thread Cert.DninRIdeal.nD Cert.DninRIdeal.τ).loc Cert.DninRIdeal.main_arg1)
      ∧ r.2.mem ((c.tc : Thread Cert.DninRIdeal.nD Cert.DninRIdeal.τ).loc Cert.DninRIdeal.main_arg2) = m ((c.tc : Thread Cert.DninRIdeal.nD Cert.DninRIdeal.τ).loc Cert.DninRIdeal.main_arg2)
      ∧ r.2.mem ((c.tc : Thread Cert.DninRIdeal.nD Cert.DninRIdeal.τ).loc Cert.DninRIdeal.main_arg3) = m ((c.tc : Thread Cert.DninRIdeal.nD Cert.DninRIdeal.τ).loc Cert.DninRIdeal.main_arg3)
      ∧ r.2.mem ((c.tc : Thread Cert.DninRIdeal.nD Cert.DninRIdeal.τ).loc Cert.DninRIdeal.main_arg4) = m ((c.tc : Thread Cert.DninRIdeal.nD Cert.DninRIdeal.τ).loc Cert.DninRIdeal.main_arg4))
      ∧ r.2.sem = fun _ => 0)

def quiescent_DnodK [hDnodK : Cert.DnodK.Facts] : Prop :=
  ∀ (m : (ℓ : Loc Cert.DnodK.nD Cert.DnodK.τ Cert.DnodK.sig) → Buf (Elt Bits) ℓ) (g : Dev Cert.DnodK.nD → PrngReg), Pre_DnodK m →
    θ_run (Cert.DnodK.defs (F := Bits)) (onTc (τ := Cert.DnodK.τ) (Cert.DnodK.main (F := Bits))) ⟨m, fun _ => 0, g⟩ (fun r => (∀ c : Dev Cert.DnodK.nD,
      r.2.mem ((c.tc : Thread Cert.DnodK.nD Cert.DnodK.τ).loc Cert.DnodK.main_arg0) = m ((c.tc : Thread Cert.DnodK.nD Cert.DnodK.τ).loc Cert.DnodK.main_arg0)
      ∧ r.2.mem ((c.tc : Thread Cert.DnodK.nD Cert.DnodK.τ).loc Cert.DnodK.main_arg1) = m ((c.tc : Thread Cert.DnodK.nD Cert.DnodK.τ).loc Cert.DnodK.main_arg1)
      ∧ r.2.mem ((c.tc : Thread Cert.DnodK.nD Cert.DnodK.τ).loc Cert.DnodK.main_arg2) = m ((c.tc : Thread Cert.DnodK.nD Cert.DnodK.τ).loc Cert.DnodK.main_arg2)
      ∧ r.2.mem ((c.tc : Thread Cert.DnodK.nD Cert.DnodK.τ).loc Cert.DnodK.main_arg3) = m ((c.tc : Thread Cert.DnodK.nD Cert.DnodK.τ).loc Cert.DnodK.main_arg3)
      ∧ r.2.mem ((c.tc : Thread Cert.DnodK.nD Cert.DnodK.τ).loc Cert.DnodK.main_arg4) = m ((c.tc : Thread Cert.DnodK.nD Cert.DnodK.τ).loc Cert.DnodK.main_arg4))
      ∧ r.2.sem = fun _ => 0)

def quiescent_DnodKIdeal [hDnodKIdeal : Cert.DnodKIdeal.Facts] : Prop :=
  ∀ (m : (ℓ : Loc Cert.DnodKIdeal.nD Cert.DnodKIdeal.τ Cert.DnodKIdeal.sig) → Buf (Elt Ideal) ℓ) (g : Dev Cert.DnodKIdeal.nD → PrngReg), Pre_DnodKIdeal m →
    θ_run (Cert.DnodKIdeal.defs (F := Ideal)) (onTc (τ := Cert.DnodKIdeal.τ) (Cert.DnodKIdeal.main (F := Ideal))) ⟨m, fun _ => 0, g⟩ (fun r => (∀ c : Dev Cert.DnodKIdeal.nD,
      r.2.mem ((c.tc : Thread Cert.DnodKIdeal.nD Cert.DnodKIdeal.τ).loc Cert.DnodKIdeal.main_arg0) = m ((c.tc : Thread Cert.DnodKIdeal.nD Cert.DnodKIdeal.τ).loc Cert.DnodKIdeal.main_arg0)
      ∧ r.2.mem ((c.tc : Thread Cert.DnodKIdeal.nD Cert.DnodKIdeal.τ).loc Cert.DnodKIdeal.main_arg1) = m ((c.tc : Thread Cert.DnodKIdeal.nD Cert.DnodKIdeal.τ).loc Cert.DnodKIdeal.main_arg1)
      ∧ r.2.mem ((c.tc : Thread Cert.DnodKIdeal.nD Cert.DnodKIdeal.τ).loc Cert.DnodKIdeal.main_arg2) = m ((c.tc : Thread Cert.DnodKIdeal.nD Cert.DnodKIdeal.τ).loc Cert.DnodKIdeal.main_arg2)
      ∧ r.2.mem ((c.tc : Thread Cert.DnodKIdeal.nD Cert.DnodKIdeal.τ).loc Cert.DnodKIdeal.main_arg3) = m ((c.tc : Thread Cert.DnodKIdeal.nD Cert.DnodKIdeal.τ).loc Cert.DnodKIdeal.main_arg3)
      ∧ r.2.mem ((c.tc : Thread Cert.DnodKIdeal.nD Cert.DnodKIdeal.τ).loc Cert.DnodKIdeal.main_arg4) = m ((c.tc : Thread Cert.DnodKIdeal.nD Cert.DnodKIdeal.τ).loc Cert.DnodKIdeal.main_arg4))
      ∧ r.2.sem = fun _ => 0)

def quiescent_DnodKIdeal_pre_dnod_finite [hDnodKIdeal : Cert.DnodKIdeal.Facts] [hPre_dnod_finite : Cert.Pre_dnod_finite.Facts] : Prop :=
  ∀ (m : (ℓ : Loc Cert.DnodKIdeal.nD Cert.DnodKIdeal.τ Cert.DnodKIdeal.sig) → Buf (Elt Ideal) ℓ) (g : Dev Cert.DnodKIdeal.nD → PrngReg), Pre_DnodKIdeal_dnod_finite m →
    θ_run (Cert.DnodKIdeal.defs (F := Ideal)) (onTc (τ := Cert.DnodKIdeal.τ) (Cert.DnodKIdeal.main (F := Ideal))) ⟨m, fun _ => 0, g⟩ (fun r => (∀ c : Dev Cert.DnodKIdeal.nD,
      r.2.mem ((c.tc : Thread Cert.DnodKIdeal.nD Cert.DnodKIdeal.τ).loc Cert.DnodKIdeal.main_arg0) = m ((c.tc : Thread Cert.DnodKIdeal.nD Cert.DnodKIdeal.τ).loc Cert.DnodKIdeal.main_arg0)
      ∧ r.2.mem ((c.tc : Thread Cert.DnodKIdeal.nD Cert.DnodKIdeal.τ).loc Cert.DnodKIdeal.main_arg1) = m ((c.tc : Thread Cert.DnodKIdeal.nD Cert.DnodKIdeal.τ).loc Cert.DnodKIdeal.main_arg1)
      ∧ r.2.mem ((c.tc : Thread Cert.DnodKIdeal.nD Cert.DnodKIdeal.τ).loc Cert.DnodKIdeal.main_arg2) = m ((c.tc : Thread Cert.DnodKIdeal.nD Cert.DnodKIdeal.τ).loc Cert.DnodKIdeal.main_arg2)
      ∧ r.2.mem ((c.tc : Thread Cert.DnodKIdeal.nD Cert.DnodKIdeal.τ).loc Cert.DnodKIdeal.main_arg3) = m ((c.tc : Thread Cert.DnodKIdeal.nD Cert.DnodKIdeal.τ).loc Cert.DnodKIdeal.main_arg3)
      ∧ r.2.mem ((c.tc : Thread Cert.DnodKIdeal.nD Cert.DnodKIdeal.τ).loc Cert.DnodKIdeal.main_arg4) = m ((c.tc : Thread Cert.DnodKIdeal.nD Cert.DnodKIdeal.τ).loc Cert.DnodKIdeal.main_arg4))
      ∧ r.2.sem = fun _ => 0)

def quiescent_DnodRIdeal [hDnodRIdeal : Cert.DnodRIdeal.Facts] : Prop :=
  ∀ (m : (ℓ : Loc Cert.DnodRIdeal.nD Cert.DnodRIdeal.τ Cert.DnodRIdeal.sig) → Buf (Elt Ideal) ℓ) (g : Dev Cert.DnodRIdeal.nD → PrngReg), Pre_DnodRIdeal m →
    θ_run (Cert.DnodRIdeal.defs (F := Ideal)) (onTc (τ := Cert.DnodRIdeal.τ) (Cert.DnodRIdeal.main (F := Ideal))) ⟨m, fun _ => 0, g⟩ (fun r => (∀ c : Dev Cert.DnodRIdeal.nD,
      r.2.mem ((c.tc : Thread Cert.DnodRIdeal.nD Cert.DnodRIdeal.τ).loc Cert.DnodRIdeal.main_arg0) = m ((c.tc : Thread Cert.DnodRIdeal.nD Cert.DnodRIdeal.τ).loc Cert.DnodRIdeal.main_arg0)
      ∧ r.2.mem ((c.tc : Thread Cert.DnodRIdeal.nD Cert.DnodRIdeal.τ).loc Cert.DnodRIdeal.main_arg1) = m ((c.tc : Thread Cert.DnodRIdeal.nD Cert.DnodRIdeal.τ).loc Cert.DnodRIdeal.main_arg1)
      ∧ r.2.mem ((c.tc : Thread Cert.DnodRIdeal.nD Cert.DnodRIdeal.τ).loc Cert.DnodRIdeal.main_arg2) = m ((c.tc : Thread Cert.DnodRIdeal.nD Cert.DnodRIdeal.τ).loc Cert.DnodRIdeal.main_arg2)
      ∧ r.2.mem ((c.tc : Thread Cert.DnodRIdeal.nD Cert.DnodRIdeal.τ).loc Cert.DnodRIdeal.main_arg3) = m ((c.tc : Thread Cert.DnodRIdeal.nD Cert.DnodRIdeal.τ).loc Cert.DnodRIdeal.main_arg3)
      ∧ r.2.mem ((c.tc : Thread Cert.DnodRIdeal.nD Cert.DnodRIdeal.τ).loc Cert.DnodRIdeal.main_arg4) = m ((c.tc : Thread Cert.DnodRIdeal.nD Cert.DnodRIdeal.τ).loc Cert.DnodRIdeal.main_arg4))
      ∧ r.2.sem = fun _ => 0)

def quiescent_DnodRIdeal_pre_dnod_finite [hDnodRIdeal : Cert.DnodRIdeal.Facts] [hPre_dnod_finite : Cert.Pre_dnod_finite.Facts] : Prop :=
  ∀ (m : (ℓ : Loc Cert.DnodRIdeal.nD Cert.DnodRIdeal.τ Cert.DnodRIdeal.sig) → Buf (Elt Ideal) ℓ) (g : Dev Cert.DnodRIdeal.nD → PrngReg), Pre_DnodRIdeal_dnod_finite m →
    θ_run (Cert.DnodRIdeal.defs (F := Ideal)) (onTc (τ := Cert.DnodRIdeal.τ) (Cert.DnodRIdeal.main (F := Ideal))) ⟨m, fun _ => 0, g⟩ (fun r => (∀ c : Dev Cert.DnodRIdeal.nD,
      r.2.mem ((c.tc : Thread Cert.DnodRIdeal.nD Cert.DnodRIdeal.τ).loc Cert.DnodRIdeal.main_arg0) = m ((c.tc : Thread Cert.DnodRIdeal.nD Cert.DnodRIdeal.τ).loc Cert.DnodRIdeal.main_arg0)
      ∧ r.2.mem ((c.tc : Thread Cert.DnodRIdeal.nD Cert.DnodRIdeal.τ).loc Cert.DnodRIdeal.main_arg1) = m ((c.tc : Thread Cert.DnodRIdeal.nD Cert.DnodRIdeal.τ).loc Cert.DnodRIdeal.main_arg1)
      ∧ r.2.mem ((c.tc : Thread Cert.DnodRIdeal.nD Cert.DnodRIdeal.τ).loc Cert.DnodRIdeal.main_arg2) = m ((c.tc : Thread Cert.DnodRIdeal.nD Cert.DnodRIdeal.τ).loc Cert.DnodRIdeal.main_arg2)
      ∧ r.2.mem ((c.tc : Thread Cert.DnodRIdeal.nD Cert.DnodRIdeal.τ).loc Cert.DnodRIdeal.main_arg3) = m ((c.tc : Thread Cert.DnodRIdeal.nD Cert.DnodRIdeal.τ).loc Cert.DnodRIdeal.main_arg3)
      ∧ r.2.mem ((c.tc : Thread Cert.DnodRIdeal.nD Cert.DnodRIdeal.τ).loc Cert.DnodRIdeal.main_arg4) = m ((c.tc : Thread Cert.DnodRIdeal.nD Cert.DnodRIdeal.τ).loc Cert.DnodRIdeal.main_arg4))
      ∧ r.2.sem = fun _ => 0)

def quiescent_Attnf16K [hAttnf16K : Cert.Attnf16K.Facts] : Prop :=
  ∀ (m : (ℓ : Loc Cert.Attnf16K.nD Cert.Attnf16K.τ Cert.Attnf16K.sig) → Buf (Elt Bits) ℓ) (g : Dev Cert.Attnf16K.nD → PrngReg), Pre_Attnf16K m →
    θ_run (Cert.Attnf16K.defs (F := Bits)) (onTc (τ := Cert.Attnf16K.τ) (Cert.Attnf16K.main (F := Bits))) ⟨m, fun _ => 0, g⟩ (fun r => (∀ c : Dev Cert.Attnf16K.nD,
      r.2.mem ((c.tc : Thread Cert.Attnf16K.nD Cert.Attnf16K.τ).loc Cert.Attnf16K.main_arg0) = m ((c.tc : Thread Cert.Attnf16K.nD Cert.Attnf16K.τ).loc Cert.Attnf16K.main_arg0)
      ∧ r.2.mem ((c.tc : Thread Cert.Attnf16K.nD Cert.Attnf16K.τ).loc Cert.Attnf16K.main_arg1) = m ((c.tc : Thread Cert.Attnf16K.nD Cert.Attnf16K.τ).loc Cert.Attnf16K.main_arg1)
      ∧ r.2.mem ((c.tc : Thread Cert.Attnf16K.nD Cert.Attnf16K.τ).loc Cert.Attnf16K.main_arg2) = m ((c.tc : Thread Cert.Attnf16K.nD Cert.Attnf16K.τ).loc Cert.Attnf16K.main_arg2))
      ∧ r.2.sem = fun _ => 0)

def quiescent_Attnf16KIdeal [hAttnf16KIdeal : Cert.Attnf16KIdeal.Facts] : Prop :=
  ∀ (m : (ℓ : Loc Cert.Attnf16KIdeal.nD Cert.Attnf16KIdeal.τ Cert.Attnf16KIdeal.sig) → Buf (Elt Ideal) ℓ) (g : Dev Cert.Attnf16KIdeal.nD → PrngReg), Pre_Attnf16KIdeal m →
    θ_run (Cert.Attnf16KIdeal.defs (F := Ideal)) (onTc (τ := Cert.Attnf16KIdeal.τ) (Cert.Attnf16KIdeal.main (F := Ideal))) ⟨m, fun _ => 0, g⟩ (fun r => (∀ c : Dev Cert.Attnf16KIdeal.nD,
      r.2.mem ((c.tc : Thread Cert.Attnf16KIdeal.nD Cert.Attnf16KIdeal.τ).loc Cert.Attnf16KIdeal.main_arg0) = m ((c.tc : Thread Cert.Attnf16KIdeal.nD Cert.Attnf16KIdeal.τ).loc Cert.Attnf16KIdeal.main_arg0)
      ∧ r.2.mem ((c.tc : Thread Cert.Attnf16KIdeal.nD Cert.Attnf16KIdeal.τ).loc Cert.Attnf16KIdeal.main_arg1) = m ((c.tc : Thread Cert.Attnf16KIdeal.nD Cert.Attnf16KIdeal.τ).loc Cert.Attnf16KIdeal.main_arg1)
      ∧ r.2.mem ((c.tc : Thread Cert.Attnf16KIdeal.nD Cert.Attnf16KIdeal.τ).loc Cert.Attnf16KIdeal.main_arg2) = m ((c.tc : Thread Cert.Attnf16KIdeal.nD Cert.Attnf16KIdeal.τ).loc Cert.Attnf16KIdeal.main_arg2))
      ∧ r.2.sem = fun _ => 0)

def quiescent_Attnf16RIdeal [hAttnf16RIdeal : Cert.Attnf16RIdeal.Facts] : Prop :=
  ∀ (m : (ℓ : Loc Cert.Attnf16RIdeal.nD Cert.Attnf16RIdeal.τ Cert.Attnf16RIdeal.sig) → Buf (Elt Ideal) ℓ) (g : Dev Cert.Attnf16RIdeal.nD → PrngReg), Pre_Attnf16RIdeal m →
    θ_run (Cert.Attnf16RIdeal.defs (F := Ideal)) (onTc (τ := Cert.Attnf16RIdeal.τ) (Cert.Attnf16RIdeal.main (F := Ideal))) ⟨m, fun _ => 0, g⟩ (fun r => (∀ c : Dev Cert.Attnf16RIdeal.nD,
      r.2.mem ((c.tc : Thread Cert.Attnf16RIdeal.nD Cert.Attnf16RIdeal.τ).loc Cert.Attnf16RIdeal.main_arg0) = m ((c.tc : Thread Cert.Attnf16RIdeal.nD Cert.Attnf16RIdeal.τ).loc Cert.Attnf16RIdeal.main_arg0)
      ∧ r.2.mem ((c.tc : Thread Cert.Attnf16RIdeal.nD Cert.Attnf16RIdeal.τ).loc Cert.Attnf16RIdeal.main_arg1) = m ((c.tc : Thread Cert.Attnf16RIdeal.nD Cert.Attnf16RIdeal.τ).loc Cert.Attnf16RIdeal.main_arg1)
      ∧ r.2.mem ((c.tc : Thread Cert.Attnf16RIdeal.nD Cert.Attnf16RIdeal.τ).loc Cert.Attnf16RIdeal.main_arg2) = m ((c.tc : Thread Cert.Attnf16RIdeal.nD Cert.Attnf16RIdeal.τ).loc Cert.Attnf16RIdeal.main_arg2))
      ∧ r.2.sem = fun _ => 0)

def quiescent_Attnf4K [hAttnf4K : Cert.Attnf4K.Facts] : Prop :=
  ∀ (m : (ℓ : Loc Cert.Attnf4K.nD Cert.Attnf4K.τ Cert.Attnf4K.sig) → Buf (Elt Bits) ℓ) (g : Dev Cert.Attnf4K.nD → PrngReg), Pre_Attnf4K m →
    θ_run (Cert.Attnf4K.defs (F := Bits)) (onTc (τ := Cert.Attnf4K.τ) (Cert.Attnf4K.main (F := Bits))) ⟨m, fun _ => 0, g⟩ (fun r => (∀ c : Dev Cert.Attnf4K.nD,
      r.2.mem ((c.tc : Thread Cert.Attnf4K.nD Cert.Attnf4K.τ).loc Cert.Attnf4K.main_arg0) = m ((c.tc : Thread Cert.Attnf4K.nD Cert.Attnf4K.τ).loc Cert.Attnf4K.main_arg0)
      ∧ r.2.mem ((c.tc : Thread Cert.Attnf4K.nD Cert.Attnf4K.τ).loc Cert.Attnf4K.main_arg1) = m ((c.tc : Thread Cert.Attnf4K.nD Cert.Attnf4K.τ).loc Cert.Attnf4K.main_arg1)
      ∧ r.2.mem ((c.tc : Thread Cert.Attnf4K.nD Cert.Attnf4K.τ).loc Cert.Attnf4K.main_arg2) = m ((c.tc : Thread Cert.Attnf4K.nD Cert.Attnf4K.τ).loc Cert.Attnf4K.main_arg2))
      ∧ r.2.sem = fun _ => 0)

def quiescent_Attnf4KIdeal [hAttnf4KIdeal : Cert.Attnf4KIdeal.Facts] : Prop :=
  ∀ (m : (ℓ : Loc Cert.Attnf4KIdeal.nD Cert.Attnf4KIdeal.τ Cert.Attnf4KIdeal.sig) → Buf (Elt Ideal) ℓ) (g : Dev Cert.Attnf4KIdeal.nD → PrngReg), Pre_Attnf4KIdeal m →
    θ_run (Cert.Attnf4KIdeal.defs (F := Ideal)) (onTc (τ := Cert.Attnf4KIdeal.τ) (Cert.Attnf4KIdeal.main (F := Ideal))) ⟨m, fun _ => 0, g⟩ (fun r => (∀ c : Dev Cert.Attnf4KIdeal.nD,
      r.2.mem ((c.tc : Thread Cert.Attnf4KIdeal.nD Cert.Attnf4KIdeal.τ).loc Cert.Attnf4KIdeal.main_arg0) = m ((c.tc : Thread Cert.Attnf4KIdeal.nD Cert.Attnf4KIdeal.τ).loc Cert.Attnf4KIdeal.main_arg0)
      ∧ r.2.mem ((c.tc : Thread Cert.Attnf4KIdeal.nD Cert.Attnf4KIdeal.τ).loc Cert.Attnf4KIdeal.main_arg1) = m ((c.tc : Thread Cert.Attnf4KIdeal.nD Cert.Attnf4KIdeal.τ).loc Cert.Attnf4KIdeal.main_arg1)
      ∧ r.2.mem ((c.tc : Thread Cert.Attnf4KIdeal.nD Cert.Attnf4KIdeal.τ).loc Cert.Attnf4KIdeal.main_arg2) = m ((c.tc : Thread Cert.Attnf4KIdeal.nD Cert.Attnf4KIdeal.τ).loc Cert.Attnf4KIdeal.main_arg2))
      ∧ r.2.sem = fun _ => 0)

def quiescent_Attnf4RIdeal [hAttnf4RIdeal : Cert.Attnf4RIdeal.Facts] : Prop :=
  ∀ (m : (ℓ : Loc Cert.Attnf4RIdeal.nD Cert.Attnf4RIdeal.τ Cert.Attnf4RIdeal.sig) → Buf (Elt Ideal) ℓ) (g : Dev Cert.Attnf4RIdeal.nD → PrngReg), Pre_Attnf4RIdeal m →
    θ_run (Cert.Attnf4RIdeal.defs (F := Ideal)) (onTc (τ := Cert.Attnf4RIdeal.τ) (Cert.Attnf4RIdeal.main (F := Ideal))) ⟨m, fun _ => 0, g⟩ (fun r => (∀ c : Dev Cert.Attnf4RIdeal.nD,
      r.2.mem ((c.tc : Thread Cert.Attnf4RIdeal.nD Cert.Attnf4RIdeal.τ).loc Cert.Attnf4RIdeal.main_arg0) = m ((c.tc : Thread Cert.Attnf4RIdeal.nD Cert.Attnf4RIdeal.τ).loc Cert.Attnf4RIdeal.main_arg0)
      ∧ r.2.mem ((c.tc : Thread Cert.Attnf4RIdeal.nD Cert.Attnf4RIdeal.τ).loc Cert.Attnf4RIdeal.main_arg1) = m ((c.tc : Thread Cert.Attnf4RIdeal.nD Cert.Attnf4RIdeal.τ).loc Cert.Attnf4RIdeal.main_arg1)
      ∧ r.2.mem ((c.tc : Thread Cert.Attnf4RIdeal.nD Cert.Attnf4RIdeal.τ).loc Cert.Attnf4RIdeal.main_arg2) = m ((c.tc : Thread Cert.Attnf4RIdeal.nD Cert.Attnf4RIdeal.τ).loc Cert.Attnf4RIdeal.main_arg2))
      ∧ r.2.sem = fun _ => 0)

def quiescent_Attnf1K [hAttnf1K : Cert.Attnf1K.Facts] : Prop :=
  ∀ (m : (ℓ : Loc Cert.Attnf1K.nD Cert.Attnf1K.τ Cert.Attnf1K.sig) → Buf (Elt Bits) ℓ) (g : Dev Cert.Attnf1K.nD → PrngReg), Pre_Attnf1K m →
    θ_run (Cert.Attnf1K.defs (F := Bits)) (onTc (τ := Cert.Attnf1K.τ) (Cert.Attnf1K.main (F := Bits))) ⟨m, fun _ => 0, g⟩ (fun r => (∀ c : Dev Cert.Attnf1K.nD,
      r.2.mem ((c.tc : Thread Cert.Attnf1K.nD Cert.Attnf1K.τ).loc Cert.Attnf1K.main_arg0) = m ((c.tc : Thread Cert.Attnf1K.nD Cert.Attnf1K.τ).loc Cert.Attnf1K.main_arg0)
      ∧ r.2.mem ((c.tc : Thread Cert.Attnf1K.nD Cert.Attnf1K.τ).loc Cert.Attnf1K.main_arg1) = m ((c.tc : Thread Cert.Attnf1K.nD Cert.Attnf1K.τ).loc Cert.Attnf1K.main_arg1)
      ∧ r.2.mem ((c.tc : Thread Cert.Attnf1K.nD Cert.Attnf1K.τ).loc Cert.Attnf1K.main_arg2) = m ((c.tc : Thread Cert.Attnf1K.nD Cert.Attnf1K.τ).loc Cert.Attnf1K.main_arg2))
      ∧ r.2.sem = fun _ => 0)

def quiescent_Attnf1KIdeal [hAttnf1KIdeal : Cert.Attnf1KIdeal.Facts] : Prop :=
  ∀ (m : (ℓ : Loc Cert.Attnf1KIdeal.nD Cert.Attnf1KIdeal.τ Cert.Attnf1KIdeal.sig) → Buf (Elt Ideal) ℓ) (g : Dev Cert.Attnf1KIdeal.nD → PrngReg), Pre_Attnf1KIdeal m →
    θ_run (Cert.Attnf1KIdeal.defs (F := Ideal)) (onTc (τ := Cert.Attnf1KIdeal.τ) (Cert.Attnf1KIdeal.main (F := Ideal))) ⟨m, fun _ => 0, g⟩ (fun r => (∀ c : Dev Cert.Attnf1KIdeal.nD,
      r.2.mem ((c.tc : Thread Cert.Attnf1KIdeal.nD Cert.Attnf1KIdeal.τ).loc Cert.Attnf1KIdeal.main_arg0) = m ((c.tc : Thread Cert.Attnf1KIdeal.nD Cert.Attnf1KIdeal.τ).loc Cert.Attnf1KIdeal.main_arg0)
      ∧ r.2.mem ((c.tc : Thread Cert.Attnf1KIdeal.nD Cert.Attnf1KIdeal.τ).loc Cert.Attnf1KIdeal.main_arg1) = m ((c.tc : Thread Cert.Attnf1KIdeal.nD Cert.Attnf1KIdeal.τ).loc Cert.Attnf1KIdeal.main_arg1)
      ∧ r.2.mem ((c.tc : Thread Cert.Attnf1KIdeal.nD Cert.Attnf1KIdeal.τ).loc Cert.Attnf1KIdeal.main_arg2) = m ((c.tc : Thread Cert.Attnf1KIdeal.nD Cert.Attnf1KIdeal.τ).loc Cert.Attnf1KIdeal.main_arg2))
      ∧ r.2.sem = fun _ => 0)

def quiescent_Attnf1RIdeal [hAttnf1RIdeal : Cert.Attnf1RIdeal.Facts] : Prop :=
  ∀ (m : (ℓ : Loc Cert.Attnf1RIdeal.nD Cert.Attnf1RIdeal.τ Cert.Attnf1RIdeal.sig) → Buf (Elt Ideal) ℓ) (g : Dev Cert.Attnf1RIdeal.nD → PrngReg), Pre_Attnf1RIdeal m →
    θ_run (Cert.Attnf1RIdeal.defs (F := Ideal)) (onTc (τ := Cert.Attnf1RIdeal.τ) (Cert.Attnf1RIdeal.main (F := Ideal))) ⟨m, fun _ => 0, g⟩ (fun r => (∀ c : Dev Cert.Attnf1RIdeal.nD,
      r.2.mem ((c.tc : Thread Cert.Attnf1RIdeal.nD Cert.Attnf1RIdeal.τ).loc Cert.Attnf1RIdeal.main_arg0) = m ((c.tc : Thread Cert.Attnf1RIdeal.nD Cert.Attnf1RIdeal.τ).loc Cert.Attnf1RIdeal.main_arg0)
      ∧ r.2.mem ((c.tc : Thread Cert.Attnf1RIdeal.nD Cert.Attnf1RIdeal.τ).loc Cert.Attnf1RIdeal.main_arg1) = m ((c.tc : Thread Cert.Attnf1RIdeal.nD Cert.Attnf1RIdeal.τ).loc Cert.Attnf1RIdeal.main_arg1)
      ∧ r.2.mem ((c.tc : Thread Cert.Attnf1RIdeal.nD Cert.Attnf1RIdeal.τ).loc Cert.Attnf1RIdeal.main_arg2) = m ((c.tc : Thread Cert.Attnf1RIdeal.nD Cert.Attnf1RIdeal.τ).loc Cert.Attnf1RIdeal.main_arg2))
      ∧ r.2.sem = fun _ => 0)

def quiescent_AttnfeK [hAttnfeK : Cert.AttnfeK.Facts] : Prop :=
  ∀ (m : (ℓ : Loc Cert.AttnfeK.nD Cert.AttnfeK.τ Cert.AttnfeK.sig) → Buf (Elt Bits) ℓ) (g : Dev Cert.AttnfeK.nD → PrngReg), Pre_AttnfeK m →
    θ_run (Cert.AttnfeK.defs (F := Bits)) (onTc (τ := Cert.AttnfeK.τ) (Cert.AttnfeK.main (F := Bits))) ⟨m, fun _ => 0, g⟩ (fun r => (∀ c : Dev Cert.AttnfeK.nD,
      r.2.mem ((c.tc : Thread Cert.AttnfeK.nD Cert.AttnfeK.τ).loc Cert.AttnfeK.main_arg0) = m ((c.tc : Thread Cert.AttnfeK.nD Cert.AttnfeK.τ).loc Cert.AttnfeK.main_arg0)
      ∧ r.2.mem ((c.tc : Thread Cert.AttnfeK.nD Cert.AttnfeK.τ).loc Cert.AttnfeK.main_arg1) = m ((c.tc : Thread Cert.AttnfeK.nD Cert.AttnfeK.τ).loc Cert.AttnfeK.main_arg1)
      ∧ r.2.mem ((c.tc : Thread Cert.AttnfeK.nD Cert.AttnfeK.τ).loc Cert.AttnfeK.main_arg2) = m ((c.tc : Thread Cert.AttnfeK.nD Cert.AttnfeK.τ).loc Cert.AttnfeK.main_arg2)
      ∧ r.2.mem ((c.tc : Thread Cert.AttnfeK.nD Cert.AttnfeK.τ).loc Cert.AttnfeK.main_arg3) = m ((c.tc : Thread Cert.AttnfeK.nD Cert.AttnfeK.τ).loc Cert.AttnfeK.main_arg3))
      ∧ r.2.sem = fun _ => 0)

def quiescent_AttnfeKIdeal [hAttnfeKIdeal : Cert.AttnfeKIdeal.Facts] : Prop :=
  ∀ (m : (ℓ : Loc Cert.AttnfeKIdeal.nD Cert.AttnfeKIdeal.τ Cert.AttnfeKIdeal.sig) → Buf (Elt Ideal) ℓ) (g : Dev Cert.AttnfeKIdeal.nD → PrngReg), Pre_AttnfeKIdeal m →
    θ_run (Cert.AttnfeKIdeal.defs (F := Ideal)) (onTc (τ := Cert.AttnfeKIdeal.τ) (Cert.AttnfeKIdeal.main (F := Ideal))) ⟨m, fun _ => 0, g⟩ (fun r => (∀ c : Dev Cert.AttnfeKIdeal.nD,
      r.2.mem ((c.tc : Thread Cert.AttnfeKIdeal.nD Cert.AttnfeKIdeal.τ).loc Cert.AttnfeKIdeal.main_arg0) = m ((c.tc : Thread Cert.AttnfeKIdeal.nD Cert.AttnfeKIdeal.τ).loc Cert.AttnfeKIdeal.main_arg0)
      ∧ r.2.mem ((c.tc : Thread Cert.AttnfeKIdeal.nD Cert.AttnfeKIdeal.τ).loc Cert.AttnfeKIdeal.main_arg1) = m ((c.tc : Thread Cert.AttnfeKIdeal.nD Cert.AttnfeKIdeal.τ).loc Cert.AttnfeKIdeal.main_arg1)
      ∧ r.2.mem ((c.tc : Thread Cert.AttnfeKIdeal.nD Cert.AttnfeKIdeal.τ).loc Cert.AttnfeKIdeal.main_arg2) = m ((c.tc : Thread Cert.AttnfeKIdeal.nD Cert.AttnfeKIdeal.τ).loc Cert.AttnfeKIdeal.main_arg2)
      ∧ r.2.mem ((c.tc : Thread Cert.AttnfeKIdeal.nD Cert.AttnfeKIdeal.τ).loc Cert.AttnfeKIdeal.main_arg3) = m ((c.tc : Thread Cert.AttnfeKIdeal.nD Cert.AttnfeKIdeal.τ).loc Cert.AttnfeKIdeal.main_arg3))
      ∧ r.2.sem = fun _ => 0)

def quiescent_AttnfeRIdeal [hAttnfeRIdeal : Cert.AttnfeRIdeal.Facts] : Prop :=
  ∀ (m : (ℓ : Loc Cert.AttnfeRIdeal.nD Cert.AttnfeRIdeal.τ Cert.AttnfeRIdeal.sig) → Buf (Elt Ideal) ℓ) (g : Dev Cert.AttnfeRIdeal.nD → PrngReg), Pre_AttnfeRIdeal m →
    θ_run (Cert.AttnfeRIdeal.defs (F := Ideal)) (onTc (τ := Cert.AttnfeRIdeal.τ) (Cert.AttnfeRIdeal.main (F := Ideal))) ⟨m, fun _ => 0, g⟩ (fun r => (∀ c : Dev Cert.AttnfeRIdeal.nD,
      r.2.mem ((c.tc : Thread Cert.AttnfeRIdeal.nD Cert.AttnfeRIdeal.τ).loc Cert.AttnfeRIdeal.main_arg0) = m ((c.tc : Thread Cert.AttnfeRIdeal.nD Cert.AttnfeRIdeal.τ).loc Cert.AttnfeRIdeal.main_arg0)
      ∧ r.2.mem ((c.tc : Thread Cert.AttnfeRIdeal.nD Cert.AttnfeRIdeal.τ).loc Cert.AttnfeRIdeal.main_arg1) = m ((c.tc : Thread Cert.AttnfeRIdeal.nD Cert.AttnfeRIdeal.τ).loc Cert.AttnfeRIdeal.main_arg1)
      ∧ r.2.mem ((c.tc : Thread Cert.AttnfeRIdeal.nD Cert.AttnfeRIdeal.τ).loc Cert.AttnfeRIdeal.main_arg2) = m ((c.tc : Thread Cert.AttnfeRIdeal.nD Cert.AttnfeRIdeal.τ).loc Cert.AttnfeRIdeal.main_arg2)
      ∧ r.2.mem ((c.tc : Thread Cert.AttnfeRIdeal.nD Cert.AttnfeRIdeal.τ).loc Cert.AttnfeRIdeal.main_arg3) = m ((c.tc : Thread Cert.AttnfeRIdeal.nD Cert.AttnfeRIdeal.τ).loc Cert.AttnfeRIdeal.main_arg3))
      ∧ r.2.sem = fun _ => 0)

def quiescent_Attnb16K [hAttnb16K : Cert.Attnb16K.Facts] : Prop :=
  ∀ (m : (ℓ : Loc Cert.Attnb16K.nD Cert.Attnb16K.τ Cert.Attnb16K.sig) → Buf (Elt Bits) ℓ) (g : Dev Cert.Attnb16K.nD → PrngReg), Pre_Attnb16K m →
    θ_run (Cert.Attnb16K.defs (F := Bits)) (onTc (τ := Cert.Attnb16K.τ) (Cert.Attnb16K.main (F := Bits))) ⟨m, fun _ => 0, g⟩ (fun r => (∀ c : Dev Cert.Attnb16K.nD,
      r.2.mem ((c.tc : Thread Cert.Attnb16K.nD Cert.Attnb16K.τ).loc Cert.Attnb16K.main_arg0) = m ((c.tc : Thread Cert.Attnb16K.nD Cert.Attnb16K.τ).loc Cert.Attnb16K.main_arg0)
      ∧ r.2.mem ((c.tc : Thread Cert.Attnb16K.nD Cert.Attnb16K.τ).loc Cert.Attnb16K.main_arg1) = m ((c.tc : Thread Cert.Attnb16K.nD Cert.Attnb16K.τ).loc Cert.Attnb16K.main_arg1)
      ∧ r.2.mem ((c.tc : Thread Cert.Attnb16K.nD Cert.Attnb16K.τ).loc Cert.Attnb16K.main_arg2) = m ((c.tc : Thread Cert.Attnb16K.nD Cert.Attnb16K.τ).loc Cert.Attnb16K.main_arg2)
      ∧ r.2.mem ((c.tc : Thread Cert.Attnb16K.nD Cert.Attnb16K.τ).loc Cert.Attnb16K.main_arg3) = m ((c.tc : Thread Cert.Attnb16K.nD Cert.Attnb16K.τ).loc Cert.Attnb16K.main_arg3)
      ∧ r.2.mem ((c.tc : Thread Cert.Attnb16K.nD Cert.Attnb16K.τ).loc Cert.Attnb16K.main_arg4) = m ((c.tc : Thread Cert.Attnb16K.nD Cert.Attnb16K.τ).loc Cert.Attnb16K.main_arg4)
      ∧ r.2.mem ((c.tc : Thread Cert.Attnb16K.nD Cert.Attnb16K.τ).loc Cert.Attnb16K.main_arg5) = m ((c.tc : Thread Cert.Attnb16K.nD Cert.Attnb16K.τ).loc Cert.Attnb16K.main_arg5)
      ∧ r.2.mem ((c.tc : Thread Cert.Attnb16K.nD Cert.Attnb16K.τ).loc Cert.Attnb16K.main_arg6) = m ((c.tc : Thread Cert.Attnb16K.nD Cert.Attnb16K.τ).loc Cert.Attnb16K.main_arg6)
      ∧ r.2.mem ((c.tc : Thread Cert.Attnb16K.nD Cert.Attnb16K.τ).loc Cert.Attnb16K.main_arg7) = m ((c.tc : Thread Cert.Attnb16K.nD Cert.Attnb16K.τ).loc Cert.Attnb16K.main_arg7)
      ∧ r.2.mem ((c.tc : Thread Cert.Attnb16K.nD Cert.Attnb16K.τ).loc Cert.Attnb16K.main_arg8) = m ((c.tc : Thread Cert.Attnb16K.nD Cert.Attnb16K.τ).loc Cert.Attnb16K.main_arg8)
      ∧ r.2.mem ((c.tc : Thread Cert.Attnb16K.nD Cert.Attnb16K.τ).loc Cert.Attnb16K.main_arg9) = m ((c.tc : Thread Cert.Attnb16K.nD Cert.Attnb16K.τ).loc Cert.Attnb16K.main_arg9))
      ∧ r.2.sem = fun _ => 0)

def quiescent_Attnb16KIdeal [hAttnb16KIdeal : Cert.Attnb16KIdeal.Facts] : Prop :=
  ∀ (m : (ℓ : Loc Cert.Attnb16KIdeal.nD Cert.Attnb16KIdeal.τ Cert.Attnb16KIdeal.sig) → Buf (Elt Ideal) ℓ) (g : Dev Cert.Attnb16KIdeal.nD → PrngReg), Pre_Attnb16KIdeal m →
    θ_run (Cert.Attnb16KIdeal.defs (F := Ideal)) (onTc (τ := Cert.Attnb16KIdeal.τ) (Cert.Attnb16KIdeal.main (F := Ideal))) ⟨m, fun _ => 0, g⟩ (fun r => (∀ c : Dev Cert.Attnb16KIdeal.nD,
      r.2.mem ((c.tc : Thread Cert.Attnb16KIdeal.nD Cert.Attnb16KIdeal.τ).loc Cert.Attnb16KIdeal.main_arg0) = m ((c.tc : Thread Cert.Attnb16KIdeal.nD Cert.Attnb16KIdeal.τ).loc Cert.Attnb16KIdeal.main_arg0)
      ∧ r.2.mem ((c.tc : Thread Cert.Attnb16KIdeal.nD Cert.Attnb16KIdeal.τ).loc Cert.Attnb16KIdeal.main_arg1) = m ((c.tc : Thread Cert.Attnb16KIdeal.nD Cert.Attnb16KIdeal.τ).loc Cert.Attnb16KIdeal.main_arg1)
      ∧ r.2.mem ((c.tc : Thread Cert.Attnb16KIdeal.nD Cert.Attnb16KIdeal.τ).loc Cert.Attnb16KIdeal.main_arg2) = m ((c.tc : Thread Cert.Attnb16KIdeal.nD Cert.Attnb16KIdeal.τ).loc Cert.Attnb16KIdeal.main_arg2)
      ∧ r.2.mem ((c.tc : Thread Cert.Attnb16KIdeal.nD Cert.Attnb16KIdeal.τ).loc Cert.Attnb16KIdeal.main_arg3) = m ((c.tc : Thread Cert.Attnb16KIdeal.nD Cert.Attnb16KIdeal.τ).loc Cert.Attnb16KIdeal.main_arg3)
      ∧ r.2.mem ((c.tc : Thread Cert.Attnb16KIdeal.nD Cert.Attnb16KIdeal.τ).loc Cert.Attnb16KIdeal.main_arg4) = m ((c.tc : Thread Cert.Attnb16KIdeal.nD Cert.Attnb16KIdeal.τ).loc Cert.Attnb16KIdeal.main_arg4)
      ∧ r.2.mem ((c.tc : Thread Cert.Attnb16KIdeal.nD Cert.Attnb16KIdeal.τ).loc Cert.Attnb16KIdeal.main_arg5) = m ((c.tc : Thread Cert.Attnb16KIdeal.nD Cert.Attnb16KIdeal.τ).loc Cert.Attnb16KIdeal.main_arg5)
      ∧ r.2.mem ((c.tc : Thread Cert.Attnb16KIdeal.nD Cert.Attnb16KIdeal.τ).loc Cert.Attnb16KIdeal.main_arg6) = m ((c.tc : Thread Cert.Attnb16KIdeal.nD Cert.Attnb16KIdeal.τ).loc Cert.Attnb16KIdeal.main_arg6)
      ∧ r.2.mem ((c.tc : Thread Cert.Attnb16KIdeal.nD Cert.Attnb16KIdeal.τ).loc Cert.Attnb16KIdeal.main_arg7) = m ((c.tc : Thread Cert.Attnb16KIdeal.nD Cert.Attnb16KIdeal.τ).loc Cert.Attnb16KIdeal.main_arg7)
      ∧ r.2.mem ((c.tc : Thread Cert.Attnb16KIdeal.nD Cert.Attnb16KIdeal.τ).loc Cert.Attnb16KIdeal.main_arg8) = m ((c.tc : Thread Cert.Attnb16KIdeal.nD Cert.Attnb16KIdeal.τ).loc Cert.Attnb16KIdeal.main_arg8)
      ∧ r.2.mem ((c.tc : Thread Cert.Attnb16KIdeal.nD Cert.Attnb16KIdeal.τ).loc Cert.Attnb16KIdeal.main_arg9) = m ((c.tc : Thread Cert.Attnb16KIdeal.nD Cert.Attnb16KIdeal.τ).loc Cert.Attnb16KIdeal.main_arg9))
      ∧ r.2.sem = fun _ => 0)

def quiescent_Attnb16KIdeal_pre_attnb16_finite [hAttnb16KIdeal : Cert.Attnb16KIdeal.Facts] [hPre_attnb16_finite : Cert.Pre_attnb16_finite.Facts] : Prop :=
  ∀ (m : (ℓ : Loc Cert.Attnb16KIdeal.nD Cert.Attnb16KIdeal.τ Cert.Attnb16KIdeal.sig) → Buf (Elt Ideal) ℓ) (g : Dev Cert.Attnb16KIdeal.nD → PrngReg), Pre_Attnb16KIdeal_attnb16_finite m →
    θ_run (Cert.Attnb16KIdeal.defs (F := Ideal)) (onTc (τ := Cert.Attnb16KIdeal.τ) (Cert.Attnb16KIdeal.main (F := Ideal))) ⟨m, fun _ => 0, g⟩ (fun r => (∀ c : Dev Cert.Attnb16KIdeal.nD,
      r.2.mem ((c.tc : Thread Cert.Attnb16KIdeal.nD Cert.Attnb16KIdeal.τ).loc Cert.Attnb16KIdeal.main_arg0) = m ((c.tc : Thread Cert.Attnb16KIdeal.nD Cert.Attnb16KIdeal.τ).loc Cert.Attnb16KIdeal.main_arg0)
      ∧ r.2.mem ((c.tc : Thread Cert.Attnb16KIdeal.nD Cert.Attnb16KIdeal.τ).loc Cert.Attnb16KIdeal.main_arg1) = m ((c.tc : Thread Cert.Attnb16KIdeal.nD Cert.Attnb16KIdeal.τ).loc Cert.Attnb16KIdeal.main_arg1)
      ∧ r.2.mem ((c.tc : Thread Cert.Attnb16KIdeal.nD Cert.Attnb16KIdeal.τ).loc Cert.Attnb16KIdeal.main_arg2) = m ((c.tc : Thread Cert.Attnb16KIdeal.nD Cert.Attnb16KIdeal.τ).loc Cert.Attnb16KIdeal.main_arg2)
      ∧ r.2.mem ((c.tc : Thread Cert.Attnb16KIdeal.nD Cert.Attnb16KIdeal.τ).loc Cert.Attnb16KIdeal.main_arg3) = m ((c.tc : Thread Cert.Attnb16KIdeal.nD Cert.Attnb16KIdeal.τ).loc Cert.Attnb16KIdeal.main_arg3)
      ∧ r.2.mem ((c.tc : Thread Cert.Attnb16KIdeal.nD Cert.Attnb16KIdeal.τ).loc Cert.Attnb16KIdeal.main_arg4) = m ((c.tc : Thread Cert.Attnb16KIdeal.nD Cert.Attnb16KIdeal.τ).loc Cert.Attnb16KIdeal.main_arg4)
      ∧ r.2.mem ((c.tc : Thread Cert.Attnb16KIdeal.nD Cert.Attnb16KIdeal.τ).loc Cert.Attnb16KIdeal.main_arg5) = m ((c.tc : Thread Cert.Attnb16KIdeal.nD Cert.Attnb16KIdeal.τ).loc Cert.Attnb16KIdeal.main_arg5)
      ∧ r.2.mem ((c.tc : Thread Cert.Attnb16KIdeal.nD Cert.Attnb16KIdeal.τ).loc Cert.Attnb16KIdeal.main_arg6) = m ((c.tc : Thread Cert.Attnb16KIdeal.nD Cert.Attnb16KIdeal.τ).loc Cert.Attnb16KIdeal.main_arg6)
      ∧ r.2.mem ((c.tc : Thread Cert.Attnb16KIdeal.nD Cert.Attnb16KIdeal.τ).loc Cert.Attnb16KIdeal.main_arg7) = m ((c.tc : Thread Cert.Attnb16KIdeal.nD Cert.Attnb16KIdeal.τ).loc Cert.Attnb16KIdeal.main_arg7)
      ∧ r.2.mem ((c.tc : Thread Cert.Attnb16KIdeal.nD Cert.Attnb16KIdeal.τ).loc Cert.Attnb16KIdeal.main_arg8) = m ((c.tc : Thread Cert.Attnb16KIdeal.nD Cert.Attnb16KIdeal.τ).loc Cert.Attnb16KIdeal.main_arg8)
      ∧ r.2.mem ((c.tc : Thread Cert.Attnb16KIdeal.nD Cert.Attnb16KIdeal.τ).loc Cert.Attnb16KIdeal.main_arg9) = m ((c.tc : Thread Cert.Attnb16KIdeal.nD Cert.Attnb16KIdeal.τ).loc Cert.Attnb16KIdeal.main_arg9))
      ∧ r.2.sem = fun _ => 0)

def quiescent_Attnb16RIdeal [hAttnb16RIdeal : Cert.Attnb16RIdeal.Facts] : Prop :=
  ∀ (m : (ℓ : Loc Cert.Attnb16RIdeal.nD Cert.Attnb16RIdeal.τ Cert.Attnb16RIdeal.sig) → Buf (Elt Ideal) ℓ) (g : Dev Cert.Attnb16RIdeal.nD → PrngReg), Pre_Attnb16RIdeal m →
    θ_run (Cert.Attnb16RIdeal.defs (F := Ideal)) (onTc (τ := Cert.Attnb16RIdeal.τ) (Cert.Attnb16RIdeal.main (F := Ideal))) ⟨m, fun _ => 0, g⟩ (fun r => (∀ c : Dev Cert.Attnb16RIdeal.nD,
      r.2.mem ((c.tc : Thread Cert.Attnb16RIdeal.nD Cert.Attnb16RIdeal.τ).loc Cert.Attnb16RIdeal.main_arg0) = m ((c.tc : Thread Cert.Attnb16RIdeal.nD Cert.Attnb16RIdeal.τ).loc Cert.Attnb16RIdeal.main_arg0)
      ∧ r.2.mem ((c.tc : Thread Cert.Attnb16RIdeal.nD Cert.Attnb16RIdeal.τ).loc Cert.Attnb16RIdeal.main_arg1) = m ((c.tc : Thread Cert.Attnb16RIdeal.nD Cert.Attnb16RIdeal.τ).loc Cert.Attnb16RIdeal.main_arg1)
      ∧ r.2.mem ((c.tc : Thread Cert.Attnb16RIdeal.nD Cert.Attnb16RIdeal.τ).loc Cert.Attnb16RIdeal.main_arg2) = m ((c.tc : Thread Cert.Attnb16RIdeal.nD Cert.Attnb16RIdeal.τ).loc Cert.Attnb16RIdeal.main_arg2)
      ∧ r.2.mem ((c.tc : Thread Cert.Attnb16RIdeal.nD Cert.Attnb16RIdeal.τ).loc Cert.Attnb16RIdeal.main_arg3) = m ((c.tc : Thread Cert.Attnb16RIdeal.nD Cert.Attnb16RIdeal.τ).loc Cert.Attnb16RIdeal.main_arg3)
      ∧ r.2.mem ((c.tc : Thread Cert.Attnb16RIdeal.nD Cert.Attnb16RIdeal.τ).loc Cert.Attnb16RIdeal.main_arg4) = m ((c.tc : Thread Cert.Attnb16RIdeal.nD Cert.Attnb16RIdeal.τ).loc Cert.Attnb16RIdeal.main_arg4)
      ∧ r.2.mem ((c.tc : Thread Cert.Attnb16RIdeal.nD Cert.Attnb16RIdeal.τ).loc Cert.Attnb16RIdeal.main_arg5) = m ((c.tc : Thread Cert.Attnb16RIdeal.nD Cert.Attnb16RIdeal.τ).loc Cert.Attnb16RIdeal.main_arg5)
      ∧ r.2.mem ((c.tc : Thread Cert.Attnb16RIdeal.nD Cert.Attnb16RIdeal.τ).loc Cert.Attnb16RIdeal.main_arg6) = m ((c.tc : Thread Cert.Attnb16RIdeal.nD Cert.Attnb16RIdeal.τ).loc Cert.Attnb16RIdeal.main_arg6)
      ∧ r.2.mem ((c.tc : Thread Cert.Attnb16RIdeal.nD Cert.Attnb16RIdeal.τ).loc Cert.Attnb16RIdeal.main_arg7) = m ((c.tc : Thread Cert.Attnb16RIdeal.nD Cert.Attnb16RIdeal.τ).loc Cert.Attnb16RIdeal.main_arg7)
      ∧ r.2.mem ((c.tc : Thread Cert.Attnb16RIdeal.nD Cert.Attnb16RIdeal.τ).loc Cert.Attnb16RIdeal.main_arg8) = m ((c.tc : Thread Cert.Attnb16RIdeal.nD Cert.Attnb16RIdeal.τ).loc Cert.Attnb16RIdeal.main_arg8)
      ∧ r.2.mem ((c.tc : Thread Cert.Attnb16RIdeal.nD Cert.Attnb16RIdeal.τ).loc Cert.Attnb16RIdeal.main_arg9) = m ((c.tc : Thread Cert.Attnb16RIdeal.nD Cert.Attnb16RIdeal.τ).loc Cert.Attnb16RIdeal.main_arg9))
      ∧ r.2.sem = fun _ => 0)

def quiescent_Attnb16RIdeal_pre_attnb16_finite [hAttnb16RIdeal : Cert.Attnb16RIdeal.Facts] [hPre_attnb16_finite : Cert.Pre_attnb16_finite.Facts] : Prop :=
  ∀ (m : (ℓ : Loc Cert.Attnb16RIdeal.nD Cert.Attnb16RIdeal.τ Cert.Attnb16RIdeal.sig) → Buf (Elt Ideal) ℓ) (g : Dev Cert.Attnb16RIdeal.nD → PrngReg), Pre_Attnb16RIdeal_attnb16_finite m →
    θ_run (Cert.Attnb16RIdeal.defs (F := Ideal)) (onTc (τ := Cert.Attnb16RIdeal.τ) (Cert.Attnb16RIdeal.main (F := Ideal))) ⟨m, fun _ => 0, g⟩ (fun r => (∀ c : Dev Cert.Attnb16RIdeal.nD,
      r.2.mem ((c.tc : Thread Cert.Attnb16RIdeal.nD Cert.Attnb16RIdeal.τ).loc Cert.Attnb16RIdeal.main_arg0) = m ((c.tc : Thread Cert.Attnb16RIdeal.nD Cert.Attnb16RIdeal.τ).loc Cert.Attnb16RIdeal.main_arg0)
      ∧ r.2.mem ((c.tc : Thread Cert.Attnb16RIdeal.nD Cert.Attnb16RIdeal.τ).loc Cert.Attnb16RIdeal.main_arg1) = m ((c.tc : Thread Cert.Attnb16RIdeal.nD Cert.Attnb16RIdeal.τ).loc Cert.Attnb16RIdeal.main_arg1)
      ∧ r.2.mem ((c.tc : Thread Cert.Attnb16RIdeal.nD Cert.Attnb16RIdeal.τ).loc Cert.Attnb16RIdeal.main_arg2) = m ((c.tc : Thread Cert.Attnb16RIdeal.nD Cert.Attnb16RIdeal.τ).loc Cert.Attnb16RIdeal.main_arg2)
      ∧ r.2.mem ((c.tc : Thread Cert.Attnb16RIdeal.nD Cert.Attnb16RIdeal.τ).loc Cert.Attnb16RIdeal.main_arg3) = m ((c.tc : Thread Cert.Attnb16RIdeal.nD Cert.Attnb16RIdeal.τ).loc Cert.Attnb16RIdeal.main_arg3)
      ∧ r.2.mem ((c.tc : Thread Cert.Attnb16RIdeal.nD Cert.Attnb16RIdeal.τ).loc Cert.Attnb16RIdeal.main_arg4) = m ((c.tc : Thread Cert.Attnb16RIdeal.nD Cert.Attnb16RIdeal.τ).loc Cert.Attnb16RIdeal.main_arg4)
      ∧ r.2.mem ((c.tc : Thread Cert.Attnb16RIdeal.nD Cert.Attnb16RIdeal.τ).loc Cert.Attnb16RIdeal.main_arg5) = m ((c.tc : Thread Cert.Attnb16RIdeal.nD Cert.Attnb16RIdeal.τ).loc Cert.Attnb16RIdeal.main_arg5)
      ∧ r.2.mem ((c.tc : Thread Cert.Attnb16RIdeal.nD Cert.Attnb16RIdeal.τ).loc Cert.Attnb16RIdeal.main_arg6) = m ((c.tc : Thread Cert.Attnb16RIdeal.nD Cert.Attnb16RIdeal.τ).loc Cert.Attnb16RIdeal.main_arg6)
      ∧ r.2.mem ((c.tc : Thread Cert.Attnb16RIdeal.nD Cert.Attnb16RIdeal.τ).loc Cert.Attnb16RIdeal.main_arg7) = m ((c.tc : Thread Cert.Attnb16RIdeal.nD Cert.Attnb16RIdeal.τ).loc Cert.Attnb16RIdeal.main_arg7)
      ∧ r.2.mem ((c.tc : Thread Cert.Attnb16RIdeal.nD Cert.Attnb16RIdeal.τ).loc Cert.Attnb16RIdeal.main_arg8) = m ((c.tc : Thread Cert.Attnb16RIdeal.nD Cert.Attnb16RIdeal.τ).loc Cert.Attnb16RIdeal.main_arg8)
      ∧ r.2.mem ((c.tc : Thread Cert.Attnb16RIdeal.nD Cert.Attnb16RIdeal.τ).loc Cert.Attnb16RIdeal.main_arg9) = m ((c.tc : Thread Cert.Attnb16RIdeal.nD Cert.Attnb16RIdeal.τ).loc Cert.Attnb16RIdeal.main_arg9))
      ∧ r.2.sem = fun _ => 0)

def quiescent_PosteK [hPosteK : Cert.PosteK.Facts] : Prop :=
  ∀ (m : (ℓ : Loc Cert.PosteK.nD Cert.PosteK.τ Cert.PosteK.sig) → Buf (Elt Bits) ℓ) (g : Dev Cert.PosteK.nD → PrngReg), Pre_PosteK m →
    θ_run (Cert.PosteK.defs (F := Bits)) (onTc (τ := Cert.PosteK.τ) (Cert.PosteK.main (F := Bits))) ⟨m, fun _ => 0, g⟩ (fun r => (∀ c : Dev Cert.PosteK.nD,
      r.2.mem ((c.tc : Thread Cert.PosteK.nD Cert.PosteK.τ).loc Cert.PosteK.main_arg0) = m ((c.tc : Thread Cert.PosteK.nD Cert.PosteK.τ).loc Cert.PosteK.main_arg0)
      ∧ r.2.mem ((c.tc : Thread Cert.PosteK.nD Cert.PosteK.τ).loc Cert.PosteK.main_arg1) = m ((c.tc : Thread Cert.PosteK.nD Cert.PosteK.τ).loc Cert.PosteK.main_arg1)
      ∧ r.2.mem ((c.tc : Thread Cert.PosteK.nD Cert.PosteK.τ).loc Cert.PosteK.main_arg2) = m ((c.tc : Thread Cert.PosteK.nD Cert.PosteK.τ).loc Cert.PosteK.main_arg2)
      ∧ r.2.mem ((c.tc : Thread Cert.PosteK.nD Cert.PosteK.τ).loc Cert.PosteK.main_arg3) = m ((c.tc : Thread Cert.PosteK.nD Cert.PosteK.τ).loc Cert.PosteK.main_arg3)
      ∧ r.2.mem ((c.tc : Thread Cert.PosteK.nD Cert.PosteK.τ).loc Cert.PosteK.main_arg4) = m ((c.tc : Thread Cert.PosteK.nD Cert.PosteK.τ).loc Cert.PosteK.main_arg4))
      ∧ r.2.sem = fun _ => 0)

def quiescent_PosteKIdeal [hPosteKIdeal : Cert.PosteKIdeal.Facts] : Prop :=
  ∀ (m : (ℓ : Loc Cert.PosteKIdeal.nD Cert.PosteKIdeal.τ Cert.PosteKIdeal.sig) → Buf (Elt Ideal) ℓ) (g : Dev Cert.PosteKIdeal.nD → PrngReg), Pre_PosteKIdeal m →
    θ_run (Cert.PosteKIdeal.defs (F := Ideal)) (onTc (τ := Cert.PosteKIdeal.τ) (Cert.PosteKIdeal.main (F := Ideal))) ⟨m, fun _ => 0, g⟩ (fun r => (∀ c : Dev Cert.PosteKIdeal.nD,
      r.2.mem ((c.tc : Thread Cert.PosteKIdeal.nD Cert.PosteKIdeal.τ).loc Cert.PosteKIdeal.main_arg0) = m ((c.tc : Thread Cert.PosteKIdeal.nD Cert.PosteKIdeal.τ).loc Cert.PosteKIdeal.main_arg0)
      ∧ r.2.mem ((c.tc : Thread Cert.PosteKIdeal.nD Cert.PosteKIdeal.τ).loc Cert.PosteKIdeal.main_arg1) = m ((c.tc : Thread Cert.PosteKIdeal.nD Cert.PosteKIdeal.τ).loc Cert.PosteKIdeal.main_arg1)
      ∧ r.2.mem ((c.tc : Thread Cert.PosteKIdeal.nD Cert.PosteKIdeal.τ).loc Cert.PosteKIdeal.main_arg2) = m ((c.tc : Thread Cert.PosteKIdeal.nD Cert.PosteKIdeal.τ).loc Cert.PosteKIdeal.main_arg2)
      ∧ r.2.mem ((c.tc : Thread Cert.PosteKIdeal.nD Cert.PosteKIdeal.τ).loc Cert.PosteKIdeal.main_arg3) = m ((c.tc : Thread Cert.PosteKIdeal.nD Cert.PosteKIdeal.τ).loc Cert.PosteKIdeal.main_arg3)
      ∧ r.2.mem ((c.tc : Thread Cert.PosteKIdeal.nD Cert.PosteKIdeal.τ).loc Cert.PosteKIdeal.main_arg4) = m ((c.tc : Thread Cert.PosteKIdeal.nD Cert.PosteKIdeal.τ).loc Cert.PosteKIdeal.main_arg4))
      ∧ r.2.sem = fun _ => 0)

def quiescent_PosteRIdeal [hPosteRIdeal : Cert.PosteRIdeal.Facts] : Prop :=
  ∀ (m : (ℓ : Loc Cert.PosteRIdeal.nD Cert.PosteRIdeal.τ Cert.PosteRIdeal.sig) → Buf (Elt Ideal) ℓ) (g : Dev Cert.PosteRIdeal.nD → PrngReg), Pre_PosteRIdeal m →
    θ_run (Cert.PosteRIdeal.defs (F := Ideal)) (onTc (τ := Cert.PosteRIdeal.τ) (Cert.PosteRIdeal.main (F := Ideal))) ⟨m, fun _ => 0, g⟩ (fun r => (∀ c : Dev Cert.PosteRIdeal.nD,
      r.2.mem ((c.tc : Thread Cert.PosteRIdeal.nD Cert.PosteRIdeal.τ).loc Cert.PosteRIdeal.main_arg0) = m ((c.tc : Thread Cert.PosteRIdeal.nD Cert.PosteRIdeal.τ).loc Cert.PosteRIdeal.main_arg0)
      ∧ r.2.mem ((c.tc : Thread Cert.PosteRIdeal.nD Cert.PosteRIdeal.τ).loc Cert.PosteRIdeal.main_arg1) = m ((c.tc : Thread Cert.PosteRIdeal.nD Cert.PosteRIdeal.τ).loc Cert.PosteRIdeal.main_arg1)
      ∧ r.2.mem ((c.tc : Thread Cert.PosteRIdeal.nD Cert.PosteRIdeal.τ).loc Cert.PosteRIdeal.main_arg2) = m ((c.tc : Thread Cert.PosteRIdeal.nD Cert.PosteRIdeal.τ).loc Cert.PosteRIdeal.main_arg2)
      ∧ r.2.mem ((c.tc : Thread Cert.PosteRIdeal.nD Cert.PosteRIdeal.τ).loc Cert.PosteRIdeal.main_arg3) = m ((c.tc : Thread Cert.PosteRIdeal.nD Cert.PosteRIdeal.τ).loc Cert.PosteRIdeal.main_arg3)
      ∧ r.2.mem ((c.tc : Thread Cert.PosteRIdeal.nD Cert.PosteRIdeal.τ).loc Cert.PosteRIdeal.main_arg4) = m ((c.tc : Thread Cert.PosteRIdeal.nD Cert.PosteRIdeal.τ).loc Cert.PosteRIdeal.main_arg4))
      ∧ r.2.sem = fun _ => 0)

def quiescent_RmsfK [hRmsfK : Cert.RmsfK.Facts] : Prop :=
  ∀ (m : (ℓ : Loc Cert.RmsfK.nD Cert.RmsfK.τ Cert.RmsfK.sig) → Buf (Elt Bits) ℓ) (g : Dev Cert.RmsfK.nD → PrngReg), Pre_RmsfK m →
    θ_run (Cert.RmsfK.defs (F := Bits)) (onTc (τ := Cert.RmsfK.τ) (Cert.RmsfK.main (F := Bits))) ⟨m, fun _ => 0, g⟩ (fun r => (∀ c : Dev Cert.RmsfK.nD,
      r.2.mem ((c.tc : Thread Cert.RmsfK.nD Cert.RmsfK.τ).loc Cert.RmsfK.main_arg0) = m ((c.tc : Thread Cert.RmsfK.nD Cert.RmsfK.τ).loc Cert.RmsfK.main_arg0)
      ∧ r.2.mem ((c.tc : Thread Cert.RmsfK.nD Cert.RmsfK.τ).loc Cert.RmsfK.main_arg1) = m ((c.tc : Thread Cert.RmsfK.nD Cert.RmsfK.τ).loc Cert.RmsfK.main_arg1))
      ∧ r.2.sem = fun _ => 0)

def quiescent_RmsfKIdeal [hRmsfKIdeal : Cert.RmsfKIdeal.Facts] : Prop :=
  ∀ (m : (ℓ : Loc Cert.RmsfKIdeal.nD Cert.RmsfKIdeal.τ Cert.RmsfKIdeal.sig) → Buf (Elt Ideal) ℓ) (g : Dev Cert.RmsfKIdeal.nD → PrngReg), Pre_RmsfKIdeal m →
    θ_run (Cert.RmsfKIdeal.defs (F := Ideal)) (onTc (τ := Cert.RmsfKIdeal.τ) (Cert.RmsfKIdeal.main (F := Ideal))) ⟨m, fun _ => 0, g⟩ (fun r => (∀ c : Dev Cert.RmsfKIdeal.nD,
      r.2.mem ((c.tc : Thread Cert.RmsfKIdeal.nD Cert.RmsfKIdeal.τ).loc Cert.RmsfKIdeal.main_arg0) = m ((c.tc : Thread Cert.RmsfKIdeal.nD Cert.RmsfKIdeal.τ).loc Cert.RmsfKIdeal.main_arg0)
      ∧ r.2.mem ((c.tc : Thread Cert.RmsfKIdeal.nD Cert.RmsfKIdeal.τ).loc Cert.RmsfKIdeal.main_arg1) = m ((c.tc : Thread Cert.RmsfKIdeal.nD Cert.RmsfKIdeal.τ).loc Cert.RmsfKIdeal.main_arg1))
      ∧ r.2.sem = fun _ => 0)

def quiescent_RmsfRIdeal [hRmsfRIdeal : Cert.RmsfRIdeal.Facts] : Prop :=
  ∀ (m : (ℓ : Loc Cert.RmsfRIdeal.nD Cert.RmsfRIdeal.τ Cert.RmsfRIdeal.sig) → Buf (Elt Ideal) ℓ) (g : Dev Cert.RmsfRIdeal.nD → PrngReg), Pre_RmsfRIdeal m →
    θ_run (Cert.RmsfRIdeal.defs (F := Ideal)) (onTc (τ := Cert.RmsfRIdeal.τ) (Cert.RmsfRIdeal.main (F := Ideal))) ⟨m, fun _ => 0, g⟩ (fun r => (∀ c : Dev Cert.RmsfRIdeal.nD,
      r.2.mem ((c.tc : Thread Cert.RmsfRIdeal.nD Cert.RmsfRIdeal.τ).loc Cert.RmsfRIdeal.main_arg0) = m ((c.tc : Thread Cert.RmsfRIdeal.nD Cert.RmsfRIdeal.τ).loc Cert.RmsfRIdeal.main_arg0)
      ∧ r.2.mem ((c.tc : Thread Cert.RmsfRIdeal.nD Cert.RmsfRIdeal.τ).loc Cert.RmsfRIdeal.main_arg1) = m ((c.tc : Thread Cert.RmsfRIdeal.nD Cert.RmsfRIdeal.τ).loc Cert.RmsfRIdeal.main_arg1))
      ∧ r.2.sem = fun _ => 0)

def quiescent_PrepeK [hPrepeK : Cert.PrepeK.Facts] : Prop :=
  ∀ (m : (ℓ : Loc Cert.PrepeK.nD Cert.PrepeK.τ Cert.PrepeK.sig) → Buf (Elt Bits) ℓ) (g : Dev Cert.PrepeK.nD → PrngReg), Pre_PrepeK m →
    θ_run (Cert.PrepeK.defs (F := Bits)) (onTc (τ := Cert.PrepeK.τ) (Cert.PrepeK.main (F := Bits))) ⟨m, fun _ => 0, g⟩ (fun r => (∀ c : Dev Cert.PrepeK.nD,
      r.2.mem ((c.tc : Thread Cert.PrepeK.nD Cert.PrepeK.τ).loc Cert.PrepeK.main_arg0) = m ((c.tc : Thread Cert.PrepeK.nD Cert.PrepeK.τ).loc Cert.PrepeK.main_arg0))
      ∧ r.2.sem = fun _ => 0)

def quiescent_PrepeKIdeal [hPrepeKIdeal : Cert.PrepeKIdeal.Facts] : Prop :=
  ∀ (m : (ℓ : Loc Cert.PrepeKIdeal.nD Cert.PrepeKIdeal.τ Cert.PrepeKIdeal.sig) → Buf (Elt Ideal) ℓ) (g : Dev Cert.PrepeKIdeal.nD → PrngReg), Pre_PrepeKIdeal m →
    θ_run (Cert.PrepeKIdeal.defs (F := Ideal)) (onTc (τ := Cert.PrepeKIdeal.τ) (Cert.PrepeKIdeal.main (F := Ideal))) ⟨m, fun _ => 0, g⟩ (fun r => (∀ c : Dev Cert.PrepeKIdeal.nD,
      r.2.mem ((c.tc : Thread Cert.PrepeKIdeal.nD Cert.PrepeKIdeal.τ).loc Cert.PrepeKIdeal.main_arg0) = m ((c.tc : Thread Cert.PrepeKIdeal.nD Cert.PrepeKIdeal.τ).loc Cert.PrepeKIdeal.main_arg0))
      ∧ r.2.sem = fun _ => 0)

def quiescent_PrepeRIdeal [hPrepeRIdeal : Cert.PrepeRIdeal.Facts] : Prop :=
  ∀ (m : (ℓ : Loc Cert.PrepeRIdeal.nD Cert.PrepeRIdeal.τ Cert.PrepeRIdeal.sig) → Buf (Elt Ideal) ℓ) (g : Dev Cert.PrepeRIdeal.nD → PrngReg), Pre_PrepeRIdeal m →
    θ_run (Cert.PrepeRIdeal.defs (F := Ideal)) (onTc (τ := Cert.PrepeRIdeal.τ) (Cert.PrepeRIdeal.main (F := Ideal))) ⟨m, fun _ => 0, g⟩ (fun r => (∀ c : Dev Cert.PrepeRIdeal.nD,
      r.2.mem ((c.tc : Thread Cert.PrepeRIdeal.nD Cert.PrepeRIdeal.τ).loc Cert.PrepeRIdeal.main_arg0) = m ((c.tc : Thread Cert.PrepeRIdeal.nD Cert.PrepeRIdeal.τ).loc Cert.PrepeRIdeal.main_arg0))
      ∧ r.2.sem = fun _ => 0)

def quiescent_GupK [hGupK : Cert.GupK.Facts] : Prop :=
  ∀ (m : (ℓ : Loc Cert.GupK.nD Cert.GupK.τ Cert.GupK.sig) → Buf (Elt Bits) ℓ) (g : Dev Cert.GupK.nD → PrngReg), Pre_GupK m →
    θ_run (Cert.GupK.defs (F := Bits)) (onTc (τ := Cert.GupK.τ) (Cert.GupK.main (F := Bits))) ⟨m, fun _ => 0, g⟩ (fun r => (∀ c : Dev Cert.GupK.nD,
      r.2.mem ((c.tc : Thread Cert.GupK.nD Cert.GupK.τ).loc Cert.GupK.main_arg0) = m ((c.tc : Thread Cert.GupK.nD Cert.GupK.τ).loc Cert.GupK.main_arg0)
      ∧ r.2.mem ((c.tc : Thread Cert.GupK.nD Cert.GupK.τ).loc Cert.GupK.main_arg1) = m ((c.tc : Thread Cert.GupK.nD Cert.GupK.τ).loc Cert.GupK.main_arg1)
      ∧ r.2.mem ((c.tc : Thread Cert.GupK.nD Cert.GupK.τ).loc Cert.GupK.main_arg2) = m ((c.tc : Thread Cert.GupK.nD Cert.GupK.τ).loc Cert.GupK.main_arg2))
      ∧ r.2.sem = fun _ => 0)

def quiescent_GupKIdeal [hGupKIdeal : Cert.GupKIdeal.Facts] : Prop :=
  ∀ (m : (ℓ : Loc Cert.GupKIdeal.nD Cert.GupKIdeal.τ Cert.GupKIdeal.sig) → Buf (Elt Ideal) ℓ) (g : Dev Cert.GupKIdeal.nD → PrngReg), Pre_GupKIdeal m →
    θ_run (Cert.GupKIdeal.defs (F := Ideal)) (onTc (τ := Cert.GupKIdeal.τ) (Cert.GupKIdeal.main (F := Ideal))) ⟨m, fun _ => 0, g⟩ (fun r => (∀ c : Dev Cert.GupKIdeal.nD,
      r.2.mem ((c.tc : Thread Cert.GupKIdeal.nD Cert.GupKIdeal.τ).loc Cert.GupKIdeal.main_arg0) = m ((c.tc : Thread Cert.GupKIdeal.nD Cert.GupKIdeal.τ).loc Cert.GupKIdeal.main_arg0)
      ∧ r.2.mem ((c.tc : Thread Cert.GupKIdeal.nD Cert.GupKIdeal.τ).loc Cert.GupKIdeal.main_arg1) = m ((c.tc : Thread Cert.GupKIdeal.nD Cert.GupKIdeal.τ).loc Cert.GupKIdeal.main_arg1)
      ∧ r.2.mem ((c.tc : Thread Cert.GupKIdeal.nD Cert.GupKIdeal.τ).loc Cert.GupKIdeal.main_arg2) = m ((c.tc : Thread Cert.GupKIdeal.nD Cert.GupKIdeal.τ).loc Cert.GupKIdeal.main_arg2))
      ∧ r.2.sem = fun _ => 0)

def quiescent_GupRIdeal [hGupRIdeal : Cert.GupRIdeal.Facts] : Prop :=
  ∀ (m : (ℓ : Loc Cert.GupRIdeal.nD Cert.GupRIdeal.τ Cert.GupRIdeal.sig) → Buf (Elt Ideal) ℓ) (g : Dev Cert.GupRIdeal.nD → PrngReg), Pre_GupRIdeal m →
    θ_run (Cert.GupRIdeal.defs (F := Ideal)) (onTc (τ := Cert.GupRIdeal.τ) (Cert.GupRIdeal.main (F := Ideal))) ⟨m, fun _ => 0, g⟩ (fun r => (∀ c : Dev Cert.GupRIdeal.nD,
      r.2.mem ((c.tc : Thread Cert.GupRIdeal.nD Cert.GupRIdeal.τ).loc Cert.GupRIdeal.main_arg0) = m ((c.tc : Thread Cert.GupRIdeal.nD Cert.GupRIdeal.τ).loc Cert.GupRIdeal.main_arg0)
      ∧ r.2.mem ((c.tc : Thread Cert.GupRIdeal.nD Cert.GupRIdeal.τ).loc Cert.GupRIdeal.main_arg1) = m ((c.tc : Thread Cert.GupRIdeal.nD Cert.GupRIdeal.τ).loc Cert.GupRIdeal.main_arg1)
      ∧ r.2.mem ((c.tc : Thread Cert.GupRIdeal.nD Cert.GupRIdeal.τ).loc Cert.GupRIdeal.main_arg2) = m ((c.tc : Thread Cert.GupRIdeal.nD Cert.GupRIdeal.τ).loc Cert.GupRIdeal.main_arg2))
      ∧ r.2.sem = fun _ => 0)

def quiescent_MnfK [hMnfK : Cert.MnfK.Facts] : Prop :=
  ∀ (m : (ℓ : Loc Cert.MnfK.nD Cert.MnfK.τ Cert.MnfK.sig) → Buf (Elt Bits) ℓ) (g : Dev Cert.MnfK.nD → PrngReg), Pre_MnfK m →
    θ_run (Cert.MnfK.defs (F := Bits)) (onTc (τ := Cert.MnfK.τ) (Cert.MnfK.main (F := Bits))) ⟨m, fun _ => 0, g⟩ (fun r => (∀ c : Dev Cert.MnfK.nD,
      r.2.mem ((c.tc : Thread Cert.MnfK.nD Cert.MnfK.τ).loc Cert.MnfK.main_arg0) = m ((c.tc : Thread Cert.MnfK.nD Cert.MnfK.τ).loc Cert.MnfK.main_arg0)
      ∧ r.2.mem ((c.tc : Thread Cert.MnfK.nD Cert.MnfK.τ).loc Cert.MnfK.main_arg1) = m ((c.tc : Thread Cert.MnfK.nD Cert.MnfK.τ).loc Cert.MnfK.main_arg1)
      ∧ r.2.mem ((c.tc : Thread Cert.MnfK.nD Cert.MnfK.τ).loc Cert.MnfK.main_arg2) = m ((c.tc : Thread Cert.MnfK.nD Cert.MnfK.τ).loc Cert.MnfK.main_arg2)
      ∧ r.2.mem ((c.tc : Thread Cert.MnfK.nD Cert.MnfK.τ).loc Cert.MnfK.main_arg3) = m ((c.tc : Thread Cert.MnfK.nD Cert.MnfK.τ).loc Cert.MnfK.main_arg3))
      ∧ r.2.sem = fun _ => 0)

def quiescent_MnfKIdeal [hMnfKIdeal : Cert.MnfKIdeal.Facts] : Prop :=
  ∀ (m : (ℓ : Loc Cert.MnfKIdeal.nD Cert.MnfKIdeal.τ Cert.MnfKIdeal.sig) → Buf (Elt Ideal) ℓ) (g : Dev Cert.MnfKIdeal.nD → PrngReg), Pre_MnfKIdeal m →
    θ_run (Cert.MnfKIdeal.defs (F := Ideal)) (onTc (τ := Cert.MnfKIdeal.τ) (Cert.MnfKIdeal.main (F := Ideal))) ⟨m, fun _ => 0, g⟩ (fun r => (∀ c : Dev Cert.MnfKIdeal.nD,
      r.2.mem ((c.tc : Thread Cert.MnfKIdeal.nD Cert.MnfKIdeal.τ).loc Cert.MnfKIdeal.main_arg0) = m ((c.tc : Thread Cert.MnfKIdeal.nD Cert.MnfKIdeal.τ).loc Cert.MnfKIdeal.main_arg0)
      ∧ r.2.mem ((c.tc : Thread Cert.MnfKIdeal.nD Cert.MnfKIdeal.τ).loc Cert.MnfKIdeal.main_arg1) = m ((c.tc : Thread Cert.MnfKIdeal.nD Cert.MnfKIdeal.τ).loc Cert.MnfKIdeal.main_arg1)
      ∧ r.2.mem ((c.tc : Thread Cert.MnfKIdeal.nD Cert.MnfKIdeal.τ).loc Cert.MnfKIdeal.main_arg2) = m ((c.tc : Thread Cert.MnfKIdeal.nD Cert.MnfKIdeal.τ).loc Cert.MnfKIdeal.main_arg2)
      ∧ r.2.mem ((c.tc : Thread Cert.MnfKIdeal.nD Cert.MnfKIdeal.τ).loc Cert.MnfKIdeal.main_arg3) = m ((c.tc : Thread Cert.MnfKIdeal.nD Cert.MnfKIdeal.τ).loc Cert.MnfKIdeal.main_arg3))
      ∧ r.2.sem = fun _ => 0)

def quiescent_MnfRIdeal [hMnfRIdeal : Cert.MnfRIdeal.Facts] : Prop :=
  ∀ (m : (ℓ : Loc Cert.MnfRIdeal.nD Cert.MnfRIdeal.τ Cert.MnfRIdeal.sig) → Buf (Elt Ideal) ℓ) (g : Dev Cert.MnfRIdeal.nD → PrngReg), Pre_MnfRIdeal m →
    θ_run (Cert.MnfRIdeal.defs (F := Ideal)) (onTc (τ := Cert.MnfRIdeal.τ) (Cert.MnfRIdeal.main (F := Ideal))) ⟨m, fun _ => 0, g⟩ (fun r => (∀ c : Dev Cert.MnfRIdeal.nD,
      r.2.mem ((c.tc : Thread Cert.MnfRIdeal.nD Cert.MnfRIdeal.τ).loc Cert.MnfRIdeal.main_arg0) = m ((c.tc : Thread Cert.MnfRIdeal.nD Cert.MnfRIdeal.τ).loc Cert.MnfRIdeal.main_arg0)
      ∧ r.2.mem ((c.tc : Thread Cert.MnfRIdeal.nD Cert.MnfRIdeal.τ).loc Cert.MnfRIdeal.main_arg1) = m ((c.tc : Thread Cert.MnfRIdeal.nD Cert.MnfRIdeal.τ).loc Cert.MnfRIdeal.main_arg1)
      ∧ r.2.mem ((c.tc : Thread Cert.MnfRIdeal.nD Cert.MnfRIdeal.τ).loc Cert.MnfRIdeal.main_arg2) = m ((c.tc : Thread Cert.MnfRIdeal.nD Cert.MnfRIdeal.τ).loc Cert.MnfRIdeal.main_arg2)
      ∧ r.2.mem ((c.tc : Thread Cert.MnfRIdeal.nD Cert.MnfRIdeal.τ).loc Cert.MnfRIdeal.main_arg3) = m ((c.tc : Thread Cert.MnfRIdeal.nD Cert.MnfRIdeal.τ).loc Cert.MnfRIdeal.main_arg3))
      ∧ r.2.sem = fun _ => 0)

def quiescent_MnmK [hMnmK : Cert.MnmK.Facts] : Prop :=
  ∀ (m : (ℓ : Loc Cert.MnmK.nD Cert.MnmK.τ Cert.MnmK.sig) → Buf (Elt Bits) ℓ) (g : Dev Cert.MnmK.nD → PrngReg), Pre_MnmK m →
    θ_run (Cert.MnmK.defs (F := Bits)) (onTc (τ := Cert.MnmK.τ) (Cert.MnmK.main (F := Bits))) ⟨m, fun _ => 0, g⟩ (fun r => (∀ c : Dev Cert.MnmK.nD,
      r.2.mem ((c.tc : Thread Cert.MnmK.nD Cert.MnmK.τ).loc Cert.MnmK.main_arg0) = m ((c.tc : Thread Cert.MnmK.nD Cert.MnmK.τ).loc Cert.MnmK.main_arg0)
      ∧ r.2.mem ((c.tc : Thread Cert.MnmK.nD Cert.MnmK.τ).loc Cert.MnmK.main_arg1) = m ((c.tc : Thread Cert.MnmK.nD Cert.MnmK.τ).loc Cert.MnmK.main_arg1)
      ∧ r.2.mem ((c.tc : Thread Cert.MnmK.nD Cert.MnmK.τ).loc Cert.MnmK.main_arg2) = m ((c.tc : Thread Cert.MnmK.nD Cert.MnmK.τ).loc Cert.MnmK.main_arg2)
      ∧ r.2.mem ((c.tc : Thread Cert.MnmK.nD Cert.MnmK.τ).loc Cert.MnmK.main_arg3) = m ((c.tc : Thread Cert.MnmK.nD Cert.MnmK.τ).loc Cert.MnmK.main_arg3)
      ∧ r.2.mem ((c.tc : Thread Cert.MnmK.nD Cert.MnmK.τ).loc Cert.MnmK.main_arg4) = m ((c.tc : Thread Cert.MnmK.nD Cert.MnmK.τ).loc Cert.MnmK.main_arg4))
      ∧ r.2.sem = fun _ => 0)

def quiescent_MnmKIdeal [hMnmKIdeal : Cert.MnmKIdeal.Facts] : Prop :=
  ∀ (m : (ℓ : Loc Cert.MnmKIdeal.nD Cert.MnmKIdeal.τ Cert.MnmKIdeal.sig) → Buf (Elt Ideal) ℓ) (g : Dev Cert.MnmKIdeal.nD → PrngReg), Pre_MnmKIdeal m →
    θ_run (Cert.MnmKIdeal.defs (F := Ideal)) (onTc (τ := Cert.MnmKIdeal.τ) (Cert.MnmKIdeal.main (F := Ideal))) ⟨m, fun _ => 0, g⟩ (fun r => (∀ c : Dev Cert.MnmKIdeal.nD,
      r.2.mem ((c.tc : Thread Cert.MnmKIdeal.nD Cert.MnmKIdeal.τ).loc Cert.MnmKIdeal.main_arg0) = m ((c.tc : Thread Cert.MnmKIdeal.nD Cert.MnmKIdeal.τ).loc Cert.MnmKIdeal.main_arg0)
      ∧ r.2.mem ((c.tc : Thread Cert.MnmKIdeal.nD Cert.MnmKIdeal.τ).loc Cert.MnmKIdeal.main_arg1) = m ((c.tc : Thread Cert.MnmKIdeal.nD Cert.MnmKIdeal.τ).loc Cert.MnmKIdeal.main_arg1)
      ∧ r.2.mem ((c.tc : Thread Cert.MnmKIdeal.nD Cert.MnmKIdeal.τ).loc Cert.MnmKIdeal.main_arg2) = m ((c.tc : Thread Cert.MnmKIdeal.nD Cert.MnmKIdeal.τ).loc Cert.MnmKIdeal.main_arg2)
      ∧ r.2.mem ((c.tc : Thread Cert.MnmKIdeal.nD Cert.MnmKIdeal.τ).loc Cert.MnmKIdeal.main_arg3) = m ((c.tc : Thread Cert.MnmKIdeal.nD Cert.MnmKIdeal.τ).loc Cert.MnmKIdeal.main_arg3)
      ∧ r.2.mem ((c.tc : Thread Cert.MnmKIdeal.nD Cert.MnmKIdeal.τ).loc Cert.MnmKIdeal.main_arg4) = m ((c.tc : Thread Cert.MnmKIdeal.nD Cert.MnmKIdeal.τ).loc Cert.MnmKIdeal.main_arg4))
      ∧ r.2.sem = fun _ => 0)

def quiescent_MnmRIdeal [hMnmRIdeal : Cert.MnmRIdeal.Facts] : Prop :=
  ∀ (m : (ℓ : Loc Cert.MnmRIdeal.nD Cert.MnmRIdeal.τ Cert.MnmRIdeal.sig) → Buf (Elt Ideal) ℓ) (g : Dev Cert.MnmRIdeal.nD → PrngReg), Pre_MnmRIdeal m →
    θ_run (Cert.MnmRIdeal.defs (F := Ideal)) (onTc (τ := Cert.MnmRIdeal.τ) (Cert.MnmRIdeal.main (F := Ideal))) ⟨m, fun _ => 0, g⟩ (fun r => (∀ c : Dev Cert.MnmRIdeal.nD,
      r.2.mem ((c.tc : Thread Cert.MnmRIdeal.nD Cert.MnmRIdeal.τ).loc Cert.MnmRIdeal.main_arg0) = m ((c.tc : Thread Cert.MnmRIdeal.nD Cert.MnmRIdeal.τ).loc Cert.MnmRIdeal.main_arg0)
      ∧ r.2.mem ((c.tc : Thread Cert.MnmRIdeal.nD Cert.MnmRIdeal.τ).loc Cert.MnmRIdeal.main_arg1) = m ((c.tc : Thread Cert.MnmRIdeal.nD Cert.MnmRIdeal.τ).loc Cert.MnmRIdeal.main_arg1)
      ∧ r.2.mem ((c.tc : Thread Cert.MnmRIdeal.nD Cert.MnmRIdeal.τ).loc Cert.MnmRIdeal.main_arg2) = m ((c.tc : Thread Cert.MnmRIdeal.nD Cert.MnmRIdeal.τ).loc Cert.MnmRIdeal.main_arg2)
      ∧ r.2.mem ((c.tc : Thread Cert.MnmRIdeal.nD Cert.MnmRIdeal.τ).loc Cert.MnmRIdeal.main_arg3) = m ((c.tc : Thread Cert.MnmRIdeal.nD Cert.MnmRIdeal.τ).loc Cert.MnmRIdeal.main_arg3)
      ∧ r.2.mem ((c.tc : Thread Cert.MnmRIdeal.nD Cert.MnmRIdeal.τ).loc Cert.MnmRIdeal.main_arg4) = m ((c.tc : Thread Cert.MnmRIdeal.nD Cert.MnmRIdeal.τ).loc Cert.MnmRIdeal.main_arg4))
      ∧ r.2.sem = fun _ => 0)

def quiescent_GatefK [hGatefK : Cert.GatefK.Facts] : Prop :=
  ∀ (m : (ℓ : Loc Cert.GatefK.nD Cert.GatefK.τ Cert.GatefK.sig) → Buf (Elt Bits) ℓ) (g : Dev Cert.GatefK.nD → PrngReg), Pre_GatefK m →
    θ_run (Cert.GatefK.defs (F := Bits)) (onTc (τ := Cert.GatefK.τ) (Cert.GatefK.main (F := Bits))) ⟨m, fun _ => 0, g⟩ (fun r => (∀ c : Dev Cert.GatefK.nD,
      r.2.mem ((c.tc : Thread Cert.GatefK.nD Cert.GatefK.τ).loc Cert.GatefK.main_arg0) = m ((c.tc : Thread Cert.GatefK.nD Cert.GatefK.τ).loc Cert.GatefK.main_arg0)
      ∧ r.2.mem ((c.tc : Thread Cert.GatefK.nD Cert.GatefK.τ).loc Cert.GatefK.main_arg1) = m ((c.tc : Thread Cert.GatefK.nD Cert.GatefK.τ).loc Cert.GatefK.main_arg1)
      ∧ r.2.mem ((c.tc : Thread Cert.GatefK.nD Cert.GatefK.τ).loc Cert.GatefK.main_arg2) = m ((c.tc : Thread Cert.GatefK.nD Cert.GatefK.τ).loc Cert.GatefK.main_arg2)
      ∧ r.2.mem ((c.tc : Thread Cert.GatefK.nD Cert.GatefK.τ).loc Cert.GatefK.main_arg3) = m ((c.tc : Thread Cert.GatefK.nD Cert.GatefK.τ).loc Cert.GatefK.main_arg3)
      ∧ r.2.mem ((c.tc : Thread Cert.GatefK.nD Cert.GatefK.τ).loc Cert.GatefK.main_arg4) = m ((c.tc : Thread Cert.GatefK.nD Cert.GatefK.τ).loc Cert.GatefK.main_arg4))
      ∧ r.2.sem = fun _ => 0)

def quiescent_GatefKIdeal [hGatefKIdeal : Cert.GatefKIdeal.Facts] : Prop :=
  ∀ (m : (ℓ : Loc Cert.GatefKIdeal.nD Cert.GatefKIdeal.τ Cert.GatefKIdeal.sig) → Buf (Elt Ideal) ℓ) (g : Dev Cert.GatefKIdeal.nD → PrngReg), Pre_GatefKIdeal m →
    θ_run (Cert.GatefKIdeal.defs (F := Ideal)) (onTc (τ := Cert.GatefKIdeal.τ) (Cert.GatefKIdeal.main (F := Ideal))) ⟨m, fun _ => 0, g⟩ (fun r => (∀ c : Dev Cert.GatefKIdeal.nD,
      r.2.mem ((c.tc : Thread Cert.GatefKIdeal.nD Cert.GatefKIdeal.τ).loc Cert.GatefKIdeal.main_arg0) = m ((c.tc : Thread Cert.GatefKIdeal.nD Cert.GatefKIdeal.τ).loc Cert.GatefKIdeal.main_arg0)
      ∧ r.2.mem ((c.tc : Thread Cert.GatefKIdeal.nD Cert.GatefKIdeal.τ).loc Cert.GatefKIdeal.main_arg1) = m ((c.tc : Thread Cert.GatefKIdeal.nD Cert.GatefKIdeal.τ).loc Cert.GatefKIdeal.main_arg1)
      ∧ r.2.mem ((c.tc : Thread Cert.GatefKIdeal.nD Cert.GatefKIdeal.τ).loc Cert.GatefKIdeal.main_arg2) = m ((c.tc : Thread Cert.GatefKIdeal.nD Cert.GatefKIdeal.τ).loc Cert.GatefKIdeal.main_arg2)
      ∧ r.2.mem ((c.tc : Thread Cert.GatefKIdeal.nD Cert.GatefKIdeal.τ).loc Cert.GatefKIdeal.main_arg3) = m ((c.tc : Thread Cert.GatefKIdeal.nD Cert.GatefKIdeal.τ).loc Cert.GatefKIdeal.main_arg3)
      ∧ r.2.mem ((c.tc : Thread Cert.GatefKIdeal.nD Cert.GatefKIdeal.τ).loc Cert.GatefKIdeal.main_arg4) = m ((c.tc : Thread Cert.GatefKIdeal.nD Cert.GatefKIdeal.τ).loc Cert.GatefKIdeal.main_arg4))
      ∧ r.2.sem = fun _ => 0)

def quiescent_GatefRIdeal [hGatefRIdeal : Cert.GatefRIdeal.Facts] : Prop :=
  ∀ (m : (ℓ : Loc Cert.GatefRIdeal.nD Cert.GatefRIdeal.τ Cert.GatefRIdeal.sig) → Buf (Elt Ideal) ℓ) (g : Dev Cert.GatefRIdeal.nD → PrngReg), Pre_GatefRIdeal m →
    θ_run (Cert.GatefRIdeal.defs (F := Ideal)) (onTc (τ := Cert.GatefRIdeal.τ) (Cert.GatefRIdeal.main (F := Ideal))) ⟨m, fun _ => 0, g⟩ (fun r => (∀ c : Dev Cert.GatefRIdeal.nD,
      r.2.mem ((c.tc : Thread Cert.GatefRIdeal.nD Cert.GatefRIdeal.τ).loc Cert.GatefRIdeal.main_arg0) = m ((c.tc : Thread Cert.GatefRIdeal.nD Cert.GatefRIdeal.τ).loc Cert.GatefRIdeal.main_arg0)
      ∧ r.2.mem ((c.tc : Thread Cert.GatefRIdeal.nD Cert.GatefRIdeal.τ).loc Cert.GatefRIdeal.main_arg1) = m ((c.tc : Thread Cert.GatefRIdeal.nD Cert.GatefRIdeal.τ).loc Cert.GatefRIdeal.main_arg1)
      ∧ r.2.mem ((c.tc : Thread Cert.GatefRIdeal.nD Cert.GatefRIdeal.τ).loc Cert.GatefRIdeal.main_arg2) = m ((c.tc : Thread Cert.GatefRIdeal.nD Cert.GatefRIdeal.τ).loc Cert.GatefRIdeal.main_arg2)
      ∧ r.2.mem ((c.tc : Thread Cert.GatefRIdeal.nD Cert.GatefRIdeal.τ).loc Cert.GatefRIdeal.main_arg3) = m ((c.tc : Thread Cert.GatefRIdeal.nD Cert.GatefRIdeal.τ).loc Cert.GatefRIdeal.main_arg3)
      ∧ r.2.mem ((c.tc : Thread Cert.GatefRIdeal.nD Cert.GatefRIdeal.τ).loc Cert.GatefRIdeal.main_arg4) = m ((c.tc : Thread Cert.GatefRIdeal.nD Cert.GatefRIdeal.τ).loc Cert.GatefRIdeal.main_arg4))
      ∧ r.2.sem = fun _ => 0)

def quiescent_GatebK [hGatebK : Cert.GatebK.Facts] : Prop :=
  ∀ (m : (ℓ : Loc Cert.GatebK.nD Cert.GatebK.τ Cert.GatebK.sig) → Buf (Elt Bits) ℓ) (g : Dev Cert.GatebK.nD → PrngReg), Pre_GatebK m →
    θ_run (Cert.GatebK.defs (F := Bits)) (onTc (τ := Cert.GatebK.τ) (Cert.GatebK.main (F := Bits))) ⟨m, fun _ => 0, g⟩ (fun r => (∀ c : Dev Cert.GatebK.nD,
      r.2.mem ((c.tc : Thread Cert.GatebK.nD Cert.GatebK.τ).loc Cert.GatebK.main_arg0) = m ((c.tc : Thread Cert.GatebK.nD Cert.GatebK.τ).loc Cert.GatebK.main_arg0)
      ∧ r.2.mem ((c.tc : Thread Cert.GatebK.nD Cert.GatebK.τ).loc Cert.GatebK.main_arg1) = m ((c.tc : Thread Cert.GatebK.nD Cert.GatebK.τ).loc Cert.GatebK.main_arg1)
      ∧ r.2.mem ((c.tc : Thread Cert.GatebK.nD Cert.GatebK.τ).loc Cert.GatebK.main_arg2) = m ((c.tc : Thread Cert.GatebK.nD Cert.GatebK.τ).loc Cert.GatebK.main_arg2)
      ∧ r.2.mem ((c.tc : Thread Cert.GatebK.nD Cert.GatebK.τ).loc Cert.GatebK.main_arg3) = m ((c.tc : Thread Cert.GatebK.nD Cert.GatebK.τ).loc Cert.GatebK.main_arg3)
      ∧ r.2.mem ((c.tc : Thread Cert.GatebK.nD Cert.GatebK.τ).loc Cert.GatebK.main_arg4) = m ((c.tc : Thread Cert.GatebK.nD Cert.GatebK.τ).loc Cert.GatebK.main_arg4)
      ∧ r.2.mem ((c.tc : Thread Cert.GatebK.nD Cert.GatebK.τ).loc Cert.GatebK.main_arg5) = m ((c.tc : Thread Cert.GatebK.nD Cert.GatebK.τ).loc Cert.GatebK.main_arg5))
      ∧ r.2.sem = fun _ => 0)

def quiescent_GatebKIdeal [hGatebKIdeal : Cert.GatebKIdeal.Facts] : Prop :=
  ∀ (m : (ℓ : Loc Cert.GatebKIdeal.nD Cert.GatebKIdeal.τ Cert.GatebKIdeal.sig) → Buf (Elt Ideal) ℓ) (g : Dev Cert.GatebKIdeal.nD → PrngReg), Pre_GatebKIdeal m →
    θ_run (Cert.GatebKIdeal.defs (F := Ideal)) (onTc (τ := Cert.GatebKIdeal.τ) (Cert.GatebKIdeal.main (F := Ideal))) ⟨m, fun _ => 0, g⟩ (fun r => (∀ c : Dev Cert.GatebKIdeal.nD,
      r.2.mem ((c.tc : Thread Cert.GatebKIdeal.nD Cert.GatebKIdeal.τ).loc Cert.GatebKIdeal.main_arg0) = m ((c.tc : Thread Cert.GatebKIdeal.nD Cert.GatebKIdeal.τ).loc Cert.GatebKIdeal.main_arg0)
      ∧ r.2.mem ((c.tc : Thread Cert.GatebKIdeal.nD Cert.GatebKIdeal.τ).loc Cert.GatebKIdeal.main_arg1) = m ((c.tc : Thread Cert.GatebKIdeal.nD Cert.GatebKIdeal.τ).loc Cert.GatebKIdeal.main_arg1)
      ∧ r.2.mem ((c.tc : Thread Cert.GatebKIdeal.nD Cert.GatebKIdeal.τ).loc Cert.GatebKIdeal.main_arg2) = m ((c.tc : Thread Cert.GatebKIdeal.nD Cert.GatebKIdeal.τ).loc Cert.GatebKIdeal.main_arg2)
      ∧ r.2.mem ((c.tc : Thread Cert.GatebKIdeal.nD Cert.GatebKIdeal.τ).loc Cert.GatebKIdeal.main_arg3) = m ((c.tc : Thread Cert.GatebKIdeal.nD Cert.GatebKIdeal.τ).loc Cert.GatebKIdeal.main_arg3)
      ∧ r.2.mem ((c.tc : Thread Cert.GatebKIdeal.nD Cert.GatebKIdeal.τ).loc Cert.GatebKIdeal.main_arg4) = m ((c.tc : Thread Cert.GatebKIdeal.nD Cert.GatebKIdeal.τ).loc Cert.GatebKIdeal.main_arg4)
      ∧ r.2.mem ((c.tc : Thread Cert.GatebKIdeal.nD Cert.GatebKIdeal.τ).loc Cert.GatebKIdeal.main_arg5) = m ((c.tc : Thread Cert.GatebKIdeal.nD Cert.GatebKIdeal.τ).loc Cert.GatebKIdeal.main_arg5))
      ∧ r.2.sem = fun _ => 0)

def quiescent_GatebRIdeal [hGatebRIdeal : Cert.GatebRIdeal.Facts] : Prop :=
  ∀ (m : (ℓ : Loc Cert.GatebRIdeal.nD Cert.GatebRIdeal.τ Cert.GatebRIdeal.sig) → Buf (Elt Ideal) ℓ) (g : Dev Cert.GatebRIdeal.nD → PrngReg), Pre_GatebRIdeal m →
    θ_run (Cert.GatebRIdeal.defs (F := Ideal)) (onTc (τ := Cert.GatebRIdeal.τ) (Cert.GatebRIdeal.main (F := Ideal))) ⟨m, fun _ => 0, g⟩ (fun r => (∀ c : Dev Cert.GatebRIdeal.nD,
      r.2.mem ((c.tc : Thread Cert.GatebRIdeal.nD Cert.GatebRIdeal.τ).loc Cert.GatebRIdeal.main_arg0) = m ((c.tc : Thread Cert.GatebRIdeal.nD Cert.GatebRIdeal.τ).loc Cert.GatebRIdeal.main_arg0)
      ∧ r.2.mem ((c.tc : Thread Cert.GatebRIdeal.nD Cert.GatebRIdeal.τ).loc Cert.GatebRIdeal.main_arg1) = m ((c.tc : Thread Cert.GatebRIdeal.nD Cert.GatebRIdeal.τ).loc Cert.GatebRIdeal.main_arg1)
      ∧ r.2.mem ((c.tc : Thread Cert.GatebRIdeal.nD Cert.GatebRIdeal.τ).loc Cert.GatebRIdeal.main_arg2) = m ((c.tc : Thread Cert.GatebRIdeal.nD Cert.GatebRIdeal.τ).loc Cert.GatebRIdeal.main_arg2)
      ∧ r.2.mem ((c.tc : Thread Cert.GatebRIdeal.nD Cert.GatebRIdeal.τ).loc Cert.GatebRIdeal.main_arg3) = m ((c.tc : Thread Cert.GatebRIdeal.nD Cert.GatebRIdeal.τ).loc Cert.GatebRIdeal.main_arg3)
      ∧ r.2.mem ((c.tc : Thread Cert.GatebRIdeal.nD Cert.GatebRIdeal.τ).loc Cert.GatebRIdeal.main_arg4) = m ((c.tc : Thread Cert.GatebRIdeal.nD Cert.GatebRIdeal.τ).loc Cert.GatebRIdeal.main_arg4)
      ∧ r.2.mem ((c.tc : Thread Cert.GatebRIdeal.nD Cert.GatebRIdeal.τ).loc Cert.GatebRIdeal.main_arg5) = m ((c.tc : Thread Cert.GatebRIdeal.nD Cert.GatebRIdeal.τ).loc Cert.GatebRIdeal.main_arg5))
      ∧ r.2.sem = fun _ => 0)

def preserves_FinalK_FinalKIdeal : Prop :=
  True

def algebraic_FinalKIdeal_FinalRIdeal_pre_final_finite [hFinalKIdeal : Cert.FinalKIdeal.Facts] [hFinalRIdeal : Cert.FinalRIdeal.Facts] [hPre_final_finite : Cert.Pre_final_finite.Facts] : Prop :=
  ∀ (m : (ℓ : Loc Cert.FinalKIdeal.nD Cert.FinalKIdeal.τ Cert.FinalKIdeal.sig) → Buf (Elt Ideal) ℓ) (g : Dev Cert.FinalKIdeal.nD → PrngReg)
    (m' : (ℓ : Loc Cert.FinalRIdeal.nD Cert.FinalRIdeal.τ Cert.FinalRIdeal.sig) → Buf (Elt Ideal) ℓ) (g' : Dev Cert.FinalRIdeal.nD → PrngReg), Pre_FinalKIdeal_final_finite m →
    (∀ c : Dev Cert.FinalKIdeal.nD,
      m' ((c.tc : Thread Cert.FinalRIdeal.nD Cert.FinalRIdeal.τ).loc Cert.FinalRIdeal.main_arg0) = m ((c.tc : Thread Cert.FinalKIdeal.nD Cert.FinalKIdeal.τ).loc Cert.FinalKIdeal.main_arg0)
      ∧ m' ((c.tc : Thread Cert.FinalRIdeal.nD Cert.FinalRIdeal.τ).loc Cert.FinalRIdeal.main_arg1) = m ((c.tc : Thread Cert.FinalKIdeal.nD Cert.FinalKIdeal.τ).loc Cert.FinalKIdeal.main_arg1)
      ∧ m' ((c.tc : Thread Cert.FinalRIdeal.nD Cert.FinalRIdeal.τ).loc Cert.FinalRIdeal.main_arg2) = m ((c.tc : Thread Cert.FinalKIdeal.nD Cert.FinalKIdeal.τ).loc Cert.FinalKIdeal.main_arg2)
      ∧ m' ((c.tc : Thread Cert.FinalRIdeal.nD Cert.FinalRIdeal.τ).loc Cert.FinalRIdeal.main_arg3) = m ((c.tc : Thread Cert.FinalKIdeal.nD Cert.FinalKIdeal.τ).loc Cert.FinalKIdeal.main_arg3)
      ∧ m' ((c.tc : Thread Cert.FinalRIdeal.nD Cert.FinalRIdeal.τ).loc Cert.FinalRIdeal.main_arg4) = m ((c.tc : Thread Cert.FinalKIdeal.nD Cert.FinalKIdeal.τ).loc Cert.FinalKIdeal.main_arg4)) →
    ∃ (v0 : (c : Dev Cert.FinalKIdeal.nD) → Buf (Elt Ideal) ((c.tc : Thread Cert.FinalKIdeal.nD Cert.FinalKIdeal.τ).loc Cert.FinalKIdeal.main_v1_0)) (v1 : (c : Dev Cert.FinalKIdeal.nD) → Buf (Elt Ideal) ((c.tc : Thread Cert.FinalKIdeal.nD Cert.FinalKIdeal.τ).loc Cert.FinalKIdeal.main_v1_1)) (v2 : (c : Dev Cert.FinalKIdeal.nD) → Buf (Elt Ideal) ((c.tc : Thread Cert.FinalKIdeal.nD Cert.FinalKIdeal.τ).loc Cert.FinalKIdeal.main_v1_2)) (v3 : (c : Dev Cert.FinalKIdeal.nD) → Buf (Elt Ideal) ((c.tc : Thread Cert.FinalKIdeal.nD Cert.FinalKIdeal.τ).loc Cert.FinalKIdeal.main_v1_3)),
      θ_run (Cert.FinalKIdeal.defs (F := Ideal)) (onTc (τ := Cert.FinalKIdeal.τ) (Cert.FinalKIdeal.main (F := Ideal))) ⟨m, fun _ => 0, g⟩ (fun r => ∀ c : Dev Cert.FinalKIdeal.nD,
          r.2.mem ((c.tc : Thread Cert.FinalKIdeal.nD Cert.FinalKIdeal.τ).loc Cert.FinalKIdeal.main_v1_0) = v0 c
          ∧ r.2.mem ((c.tc : Thread Cert.FinalKIdeal.nD Cert.FinalKIdeal.τ).loc Cert.FinalKIdeal.main_v1_1) = v1 c
          ∧ r.2.mem ((c.tc : Thread Cert.FinalKIdeal.nD Cert.FinalKIdeal.τ).loc Cert.FinalKIdeal.main_v1_2) = v2 c
          ∧ r.2.mem ((c.tc : Thread Cert.FinalKIdeal.nD Cert.FinalKIdeal.τ).loc Cert.FinalKIdeal.main_v1_3) = v3 c
          ∧ r.2.mem ((c.tc : Thread Cert.FinalKIdeal.nD Cert.FinalKIdeal.τ).loc Cert.FinalKIdeal.main_arg0) = m ((c.tc : Thread Cert.FinalKIdeal.nD Cert.FinalKIdeal.τ).loc Cert.FinalKIdeal.main_arg0)
          ∧ r.2.mem ((c.tc : Thread Cert.FinalKIdeal.nD Cert.FinalKIdeal.τ).loc Cert.FinalKIdeal.main_arg1) = m ((c.tc : Thread Cert.FinalKIdeal.nD Cert.FinalKIdeal.τ).loc Cert.FinalKIdeal.main_arg1)
          ∧ r.2.mem ((c.tc : Thread Cert.FinalKIdeal.nD Cert.FinalKIdeal.τ).loc Cert.FinalKIdeal.main_arg2) = m ((c.tc : Thread Cert.FinalKIdeal.nD Cert.FinalKIdeal.τ).loc Cert.FinalKIdeal.main_arg2)
          ∧ r.2.mem ((c.tc : Thread Cert.FinalKIdeal.nD Cert.FinalKIdeal.τ).loc Cert.FinalKIdeal.main_arg3) = m ((c.tc : Thread Cert.FinalKIdeal.nD Cert.FinalKIdeal.τ).loc Cert.FinalKIdeal.main_arg3)
          ∧ r.2.mem ((c.tc : Thread Cert.FinalKIdeal.nD Cert.FinalKIdeal.τ).loc Cert.FinalKIdeal.main_arg4) = m ((c.tc : Thread Cert.FinalKIdeal.nD Cert.FinalKIdeal.τ).loc Cert.FinalKIdeal.main_arg4))
      ∧ θ_run (Cert.FinalRIdeal.defs (F := Ideal)) (onTc (τ := Cert.FinalRIdeal.τ) (Cert.FinalRIdeal.main (F := Ideal))) ⟨m', fun _ => 0, g'⟩ (fun r => ∀ c : Dev Cert.FinalRIdeal.nD,
          r.2.mem ((c.tc : Thread Cert.FinalRIdeal.nD Cert.FinalRIdeal.τ).loc Cert.FinalRIdeal.main_v51) = v0 c
          ∧ r.2.mem ((c.tc : Thread Cert.FinalRIdeal.nD Cert.FinalRIdeal.τ).loc Cert.FinalRIdeal.main_v52) = v1 c
          ∧ r.2.mem ((c.tc : Thread Cert.FinalRIdeal.nD Cert.FinalRIdeal.τ).loc Cert.FinalRIdeal.main_v35) = v2 c
          ∧ r.2.mem ((c.tc : Thread Cert.FinalRIdeal.nD Cert.FinalRIdeal.τ).loc Cert.FinalRIdeal.main_v53) = v3 c
          ∧ r.2.mem ((c.tc : Thread Cert.FinalRIdeal.nD Cert.FinalRIdeal.τ).loc Cert.FinalRIdeal.main_arg0) = m' ((c.tc : Thread Cert.FinalRIdeal.nD Cert.FinalRIdeal.τ).loc Cert.FinalRIdeal.main_arg0)
          ∧ r.2.mem ((c.tc : Thread Cert.FinalRIdeal.nD Cert.FinalRIdeal.τ).loc Cert.FinalRIdeal.main_arg1) = m' ((c.tc : Thread Cert.FinalRIdeal.nD Cert.FinalRIdeal.τ).loc Cert.FinalRIdeal.main_arg1)
          ∧ r.2.mem ((c.tc : Thread Cert.FinalRIdeal.nD Cert.FinalRIdeal.τ).loc Cert.FinalRIdeal.main_arg2) = m' ((c.tc : Thread Cert.FinalRIdeal.nD Cert.FinalRIdeal.τ).loc Cert.FinalRIdeal.main_arg2)
          ∧ r.2.mem ((c.tc : Thread Cert.FinalRIdeal.nD Cert.FinalRIdeal.τ).loc Cert.FinalRIdeal.main_arg3) = m' ((c.tc : Thread Cert.FinalRIdeal.nD Cert.FinalRIdeal.τ).loc Cert.FinalRIdeal.main_arg3)
          ∧ r.2.mem ((c.tc : Thread Cert.FinalRIdeal.nD Cert.FinalRIdeal.τ).loc Cert.FinalRIdeal.main_arg4) = m' ((c.tc : Thread Cert.FinalRIdeal.nD Cert.FinalRIdeal.τ).loc Cert.FinalRIdeal.main_arg4))

def preserves_DactK_DactKIdeal : Prop :=
  True

def algebraic_DactKIdeal_DactRIdeal_pre_dact_finite [hDactKIdeal : Cert.DactKIdeal.Facts] [hDactRIdeal : Cert.DactRIdeal.Facts] [hPre_dact_finite : Cert.Pre_dact_finite.Facts] : Prop :=
  ∀ (m : (ℓ : Loc Cert.DactKIdeal.nD Cert.DactKIdeal.τ Cert.DactKIdeal.sig) → Buf (Elt Ideal) ℓ) (g : Dev Cert.DactKIdeal.nD → PrngReg)
    (m' : (ℓ : Loc Cert.DactRIdeal.nD Cert.DactRIdeal.τ Cert.DactRIdeal.sig) → Buf (Elt Ideal) ℓ) (g' : Dev Cert.DactRIdeal.nD → PrngReg), Pre_DactKIdeal_dact_finite m →
    (∀ c : Dev Cert.DactKIdeal.nD,
      m' ((c.tc : Thread Cert.DactRIdeal.nD Cert.DactRIdeal.τ).loc Cert.DactRIdeal.main_arg0) = m ((c.tc : Thread Cert.DactKIdeal.nD Cert.DactKIdeal.τ).loc Cert.DactKIdeal.main_arg0)
      ∧ m' ((c.tc : Thread Cert.DactRIdeal.nD Cert.DactRIdeal.τ).loc Cert.DactRIdeal.main_arg1) = m ((c.tc : Thread Cert.DactKIdeal.nD Cert.DactKIdeal.τ).loc Cert.DactKIdeal.main_arg1)
      ∧ m' ((c.tc : Thread Cert.DactRIdeal.nD Cert.DactRIdeal.τ).loc Cert.DactRIdeal.main_arg2) = m ((c.tc : Thread Cert.DactKIdeal.nD Cert.DactKIdeal.τ).loc Cert.DactKIdeal.main_arg2)
      ∧ m' ((c.tc : Thread Cert.DactRIdeal.nD Cert.DactRIdeal.τ).loc Cert.DactRIdeal.main_arg3) = m ((c.tc : Thread Cert.DactKIdeal.nD Cert.DactKIdeal.τ).loc Cert.DactKIdeal.main_arg3)) →
    ∃ (v0 : (c : Dev Cert.DactKIdeal.nD) → Buf (Elt Ideal) ((c.tc : Thread Cert.DactKIdeal.nD Cert.DactKIdeal.τ).loc Cert.DactKIdeal.main_v1_0)) (v1 : (c : Dev Cert.DactKIdeal.nD) → Buf (Elt Ideal) ((c.tc : Thread Cert.DactKIdeal.nD Cert.DactKIdeal.τ).loc Cert.DactKIdeal.main_v1_1)),
      θ_run (Cert.DactKIdeal.defs (F := Ideal)) (onTc (τ := Cert.DactKIdeal.τ) (Cert.DactKIdeal.main (F := Ideal))) ⟨m, fun _ => 0, g⟩ (fun r => ∀ c : Dev Cert.DactKIdeal.nD,
          r.2.mem ((c.tc : Thread Cert.DactKIdeal.nD Cert.DactKIdeal.τ).loc Cert.DactKIdeal.main_v1_0) = v0 c
          ∧ r.2.mem ((c.tc : Thread Cert.DactKIdeal.nD Cert.DactKIdeal.τ).loc Cert.DactKIdeal.main_v1_1) = v1 c
          ∧ r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
          ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1)
          ∧ r.2.mem ((c.tc : Thread Cert.DactKIdeal.nD Cert.DactKIdeal.τ).loc Cert.DactKIdeal.main_arg2) = m ((c.tc : Thread Cert.DactKIdeal.nD Cert.DactKIdeal.τ).loc Cert.DactKIdeal.main_arg2)
          ∧ r.2.mem ((c.tc : Thread Cert.DactKIdeal.nD Cert.DactKIdeal.τ).loc Cert.DactKIdeal.main_arg3) = m ((c.tc : Thread Cert.DactKIdeal.nD Cert.DactKIdeal.τ).loc Cert.DactKIdeal.main_arg3))
      ∧ θ_run (Cert.DactRIdeal.defs (F := Ideal)) (onTc (τ := Cert.DactRIdeal.τ) (Cert.DactRIdeal.main (F := Ideal))) ⟨m', fun _ => 0, g'⟩ (fun r => ∀ c : Dev Cert.DactRIdeal.nD,
          r.2.mem ((c.tc : Thread Cert.DactRIdeal.nD Cert.DactRIdeal.τ).loc Cert.DactRIdeal.main_v10) = v0 c
          ∧ r.2.mem ((c.tc : Thread Cert.DactRIdeal.nD Cert.DactRIdeal.τ).loc Cert.DactRIdeal.main_v11) = v1 c
          ∧ r.2.mem ((c.tc : Thread Cert.DactRIdeal.nD Cert.DactRIdeal.τ).loc Cert.DactRIdeal.main_arg0) = m' ((c.tc : Thread Cert.DactRIdeal.nD Cert.DactRIdeal.τ).loc Cert.DactRIdeal.main_arg0)
          ∧ r.2.mem ((c.tc : Thread Cert.DactRIdeal.nD Cert.DactRIdeal.τ).loc Cert.DactRIdeal.main_arg1) = m' ((c.tc : Thread Cert.DactRIdeal.nD Cert.DactRIdeal.τ).loc Cert.DactRIdeal.main_arg1)
          ∧ r.2.mem ((c.tc : Thread Cert.DactRIdeal.nD Cert.DactRIdeal.τ).loc Cert.DactRIdeal.main_arg2) = m' ((c.tc : Thread Cert.DactRIdeal.nD Cert.DactRIdeal.τ).loc Cert.DactRIdeal.main_arg2)
          ∧ r.2.mem ((c.tc : Thread Cert.DactRIdeal.nD Cert.DactRIdeal.τ).loc Cert.DactRIdeal.main_arg3) = m' ((c.tc : Thread Cert.DactRIdeal.nD Cert.DactRIdeal.τ).loc Cert.DactRIdeal.main_arg3))

def preserves_DnK_DnKIdeal : Prop :=
  True

def algebraic_DnKIdeal_DnRIdeal_pre_dnorm_finite [hDnKIdeal : Cert.DnKIdeal.Facts] [hDnRIdeal : Cert.DnRIdeal.Facts] [hPre_dnorm_finite : Cert.Pre_dnorm_finite.Facts] : Prop :=
  ∀ (m : (ℓ : Loc Cert.DnKIdeal.nD Cert.DnKIdeal.τ Cert.DnKIdeal.sig) → Buf (Elt Ideal) ℓ) (g : Dev Cert.DnKIdeal.nD → PrngReg)
    (m' : (ℓ : Loc Cert.DnRIdeal.nD Cert.DnRIdeal.τ Cert.DnRIdeal.sig) → Buf (Elt Ideal) ℓ) (g' : Dev Cert.DnRIdeal.nD → PrngReg), Pre_DnKIdeal_dnorm_finite m →
    (∀ c : Dev Cert.DnKIdeal.nD,
      m' ((c.tc : Thread Cert.DnRIdeal.nD Cert.DnRIdeal.τ).loc Cert.DnRIdeal.main_arg0) = m ((c.tc : Thread Cert.DnKIdeal.nD Cert.DnKIdeal.τ).loc Cert.DnKIdeal.main_arg0)
      ∧ m' ((c.tc : Thread Cert.DnRIdeal.nD Cert.DnRIdeal.τ).loc Cert.DnRIdeal.main_arg1) = m ((c.tc : Thread Cert.DnKIdeal.nD Cert.DnKIdeal.τ).loc Cert.DnKIdeal.main_arg1)
      ∧ m' ((c.tc : Thread Cert.DnRIdeal.nD Cert.DnRIdeal.τ).loc Cert.DnRIdeal.main_arg2) = m ((c.tc : Thread Cert.DnKIdeal.nD Cert.DnKIdeal.τ).loc Cert.DnKIdeal.main_arg2)
      ∧ m' ((c.tc : Thread Cert.DnRIdeal.nD Cert.DnRIdeal.τ).loc Cert.DnRIdeal.main_arg3) = m ((c.tc : Thread Cert.DnKIdeal.nD Cert.DnKIdeal.τ).loc Cert.DnKIdeal.main_arg3)
      ∧ m' ((c.tc : Thread Cert.DnRIdeal.nD Cert.DnRIdeal.τ).loc Cert.DnRIdeal.main_arg4) = m ((c.tc : Thread Cert.DnKIdeal.nD Cert.DnKIdeal.τ).loc Cert.DnKIdeal.main_arg4)
      ∧ m' ((c.tc : Thread Cert.DnRIdeal.nD Cert.DnRIdeal.τ).loc Cert.DnRIdeal.main_arg5) = m ((c.tc : Thread Cert.DnKIdeal.nD Cert.DnKIdeal.τ).loc Cert.DnKIdeal.main_arg5)
      ∧ m' ((c.tc : Thread Cert.DnRIdeal.nD Cert.DnRIdeal.τ).loc Cert.DnRIdeal.main_arg6) = m ((c.tc : Thread Cert.DnKIdeal.nD Cert.DnKIdeal.τ).loc Cert.DnKIdeal.main_arg6)) →
    ∃ (v0 : (c : Dev Cert.DnKIdeal.nD) → Buf (Elt Ideal) ((c.tc : Thread Cert.DnKIdeal.nD Cert.DnKIdeal.τ).loc Cert.DnKIdeal.main_v4_0)) (v1 : (c : Dev Cert.DnKIdeal.nD) → Buf (Elt Ideal) ((c.tc : Thread Cert.DnKIdeal.nD Cert.DnKIdeal.τ).loc Cert.DnKIdeal.main_v4_1)) (v2 : (c : Dev Cert.DnKIdeal.nD) → Buf (Elt Ideal) ((c.tc : Thread Cert.DnKIdeal.nD Cert.DnKIdeal.τ).loc Cert.DnKIdeal.main_v4_2)),
      θ_run (Cert.DnKIdeal.defs (F := Ideal)) (onTc (τ := Cert.DnKIdeal.τ) (Cert.DnKIdeal.main (F := Ideal))) ⟨m, fun _ => 0, g⟩ (fun r => ∀ c : Dev Cert.DnKIdeal.nD,
          r.2.mem ((c.tc : Thread Cert.DnKIdeal.nD Cert.DnKIdeal.τ).loc Cert.DnKIdeal.main_v4_0) = v0 c
          ∧ r.2.mem ((c.tc : Thread Cert.DnKIdeal.nD Cert.DnKIdeal.τ).loc Cert.DnKIdeal.main_v4_1) = v1 c
          ∧ r.2.mem ((c.tc : Thread Cert.DnKIdeal.nD Cert.DnKIdeal.τ).loc Cert.DnKIdeal.main_v4_2) = v2 c
          ∧ r.2.mem ((c.tc : Thread Cert.DnKIdeal.nD Cert.DnKIdeal.τ).loc Cert.DnKIdeal.main_arg0) = m ((c.tc : Thread Cert.DnKIdeal.nD Cert.DnKIdeal.τ).loc Cert.DnKIdeal.main_arg0)
          ∧ r.2.mem ((c.tc : Thread Cert.DnKIdeal.nD Cert.DnKIdeal.τ).loc Cert.DnKIdeal.main_arg1) = m ((c.tc : Thread Cert.DnKIdeal.nD Cert.DnKIdeal.τ).loc Cert.DnKIdeal.main_arg1)
          ∧ r.2.mem ((c.tc : Thread Cert.DnKIdeal.nD Cert.DnKIdeal.τ).loc Cert.DnKIdeal.main_arg2) = m ((c.tc : Thread Cert.DnKIdeal.nD Cert.DnKIdeal.τ).loc Cert.DnKIdeal.main_arg2)
          ∧ r.2.mem ((c.tc : Thread Cert.DnKIdeal.nD Cert.DnKIdeal.τ).loc Cert.DnKIdeal.main_arg3) = m ((c.tc : Thread Cert.DnKIdeal.nD Cert.DnKIdeal.τ).loc Cert.DnKIdeal.main_arg3)
          ∧ r.2.mem ((c.tc : Thread Cert.DnKIdeal.nD Cert.DnKIdeal.τ).loc Cert.DnKIdeal.main_arg4) = m ((c.tc : Thread Cert.DnKIdeal.nD Cert.DnKIdeal.τ).loc Cert.DnKIdeal.main_arg4)
          ∧ r.2.mem ((c.tc : Thread Cert.DnKIdeal.nD Cert.DnKIdeal.τ).loc Cert.DnKIdeal.main_arg5) = m ((c.tc : Thread Cert.DnKIdeal.nD Cert.DnKIdeal.τ).loc Cert.DnKIdeal.main_arg5)
          ∧ r.2.mem ((c.tc : Thread Cert.DnKIdeal.nD Cert.DnKIdeal.τ).loc Cert.DnKIdeal.main_arg6) = m ((c.tc : Thread Cert.DnKIdeal.nD Cert.DnKIdeal.τ).loc Cert.DnKIdeal.main_arg6))
      ∧ θ_run (Cert.DnRIdeal.defs (F := Ideal)) (onTc (τ := Cert.DnRIdeal.τ) (Cert.DnRIdeal.main (F := Ideal))) ⟨m', fun _ => 0, g'⟩ (fun r => ∀ c : Dev Cert.DnRIdeal.nD,
          r.2.mem ((c.tc : Thread Cert.DnRIdeal.nD Cert.DnRIdeal.τ).loc Cert.DnRIdeal.main_v41) = v0 c
          ∧ r.2.mem ((c.tc : Thread Cert.DnRIdeal.nD Cert.DnRIdeal.τ).loc Cert.DnRIdeal.main_v42) = v1 c
          ∧ r.2.mem ((c.tc : Thread Cert.DnRIdeal.nD Cert.DnRIdeal.τ).loc Cert.DnRIdeal.main_v24) = v2 c
          ∧ r.2.mem ((c.tc : Thread Cert.DnRIdeal.nD Cert.DnRIdeal.τ).loc Cert.DnRIdeal.main_arg0) = m' ((c.tc : Thread Cert.DnRIdeal.nD Cert.DnRIdeal.τ).loc Cert.DnRIdeal.main_arg0)
          ∧ r.2.mem ((c.tc : Thread Cert.DnRIdeal.nD Cert.DnRIdeal.τ).loc Cert.DnRIdeal.main_arg1) = m' ((c.tc : Thread Cert.DnRIdeal.nD Cert.DnRIdeal.τ).loc Cert.DnRIdeal.main_arg1)
          ∧ r.2.mem ((c.tc : Thread Cert.DnRIdeal.nD Cert.DnRIdeal.τ).loc Cert.DnRIdeal.main_arg2) = m' ((c.tc : Thread Cert.DnRIdeal.nD Cert.DnRIdeal.τ).loc Cert.DnRIdeal.main_arg2)
          ∧ r.2.mem ((c.tc : Thread Cert.DnRIdeal.nD Cert.DnRIdeal.τ).loc Cert.DnRIdeal.main_arg3) = m' ((c.tc : Thread Cert.DnRIdeal.nD Cert.DnRIdeal.τ).loc Cert.DnRIdeal.main_arg3)
          ∧ r.2.mem ((c.tc : Thread Cert.DnRIdeal.nD Cert.DnRIdeal.τ).loc Cert.DnRIdeal.main_arg4) = m' ((c.tc : Thread Cert.DnRIdeal.nD Cert.DnRIdeal.τ).loc Cert.DnRIdeal.main_arg4)
          ∧ r.2.mem ((c.tc : Thread Cert.DnRIdeal.nD Cert.DnRIdeal.τ).loc Cert.DnRIdeal.main_arg5) = m' ((c.tc : Thread Cert.DnRIdeal.nD Cert.DnRIdeal.τ).loc Cert.DnRIdeal.main_arg5)
          ∧ r.2.mem ((c.tc : Thread Cert.DnRIdeal.nD Cert.DnRIdeal.τ).loc Cert.DnRIdeal.main_arg6) = m' ((c.tc : Thread Cert.DnRIdeal.nD Cert.DnRIdeal.τ).loc Cert.DnRIdeal.main_arg6))

def preserves_TailK_TailKIdeal : Prop :=
  True

def algebraic_TailKIdeal_TailRIdeal_pre_tail_finite [hTailKIdeal : Cert.TailKIdeal.Facts] [hTailRIdeal : Cert.TailRIdeal.Facts] [hPre_tail_finite : Cert.Pre_tail_finite.Facts] : Prop :=
  ∀ (m : (ℓ : Loc Cert.TailKIdeal.nD Cert.TailKIdeal.τ Cert.TailKIdeal.sig) → Buf (Elt Ideal) ℓ) (g : Dev Cert.TailKIdeal.nD → PrngReg)
    (m' : (ℓ : Loc Cert.TailRIdeal.nD Cert.TailRIdeal.τ Cert.TailRIdeal.sig) → Buf (Elt Ideal) ℓ) (g' : Dev Cert.TailRIdeal.nD → PrngReg), Pre_TailKIdeal_tail_finite m →
    (∀ c : Dev Cert.TailKIdeal.nD,
      m' ((c.tc : Thread Cert.TailRIdeal.nD Cert.TailRIdeal.τ).loc Cert.TailRIdeal.main_arg0) = m ((c.tc : Thread Cert.TailKIdeal.nD Cert.TailKIdeal.τ).loc Cert.TailKIdeal.main_arg0)
      ∧ m' ((c.tc : Thread Cert.TailRIdeal.nD Cert.TailRIdeal.τ).loc Cert.TailRIdeal.main_arg1) = m ((c.tc : Thread Cert.TailKIdeal.nD Cert.TailKIdeal.τ).loc Cert.TailKIdeal.main_arg1)
      ∧ m' ((c.tc : Thread Cert.TailRIdeal.nD Cert.TailRIdeal.τ).loc Cert.TailRIdeal.main_arg2) = m ((c.tc : Thread Cert.TailKIdeal.nD Cert.TailKIdeal.τ).loc Cert.TailKIdeal.main_arg2)
      ∧ m' ((c.tc : Thread Cert.TailRIdeal.nD Cert.TailRIdeal.τ).loc Cert.TailRIdeal.main_arg3) = m ((c.tc : Thread Cert.TailKIdeal.nD Cert.TailKIdeal.τ).loc Cert.TailKIdeal.main_arg3)
      ∧ m' ((c.tc : Thread Cert.TailRIdeal.nD Cert.TailRIdeal.τ).loc Cert.TailRIdeal.main_arg4) = m ((c.tc : Thread Cert.TailKIdeal.nD Cert.TailKIdeal.τ).loc Cert.TailKIdeal.main_arg4)) →
    ∃ (v0 : (c : Dev Cert.TailKIdeal.nD) → Buf (Elt Ideal) ((c.tc : Thread Cert.TailKIdeal.nD Cert.TailKIdeal.τ).loc Cert.TailKIdeal.main_v2_0)) (v1 : (c : Dev Cert.TailKIdeal.nD) → Buf (Elt Ideal) ((c.tc : Thread Cert.TailKIdeal.nD Cert.TailKIdeal.τ).loc Cert.TailKIdeal.main_v2_1)) (v2 : (c : Dev Cert.TailKIdeal.nD) → Buf (Elt Ideal) ((c.tc : Thread Cert.TailKIdeal.nD Cert.TailKIdeal.τ).loc Cert.TailKIdeal.main_v2_2)) (v3 : (c : Dev Cert.TailKIdeal.nD) → Buf (Elt Ideal) ((c.tc : Thread Cert.TailKIdeal.nD Cert.TailKIdeal.τ).loc Cert.TailKIdeal.main_v2_3)),
      θ_run (Cert.TailKIdeal.defs (F := Ideal)) (onTc (τ := Cert.TailKIdeal.τ) (Cert.TailKIdeal.main (F := Ideal))) ⟨m, fun _ => 0, g⟩ (fun r => ∀ c : Dev Cert.TailKIdeal.nD,
          r.2.mem ((c.tc : Thread Cert.TailKIdeal.nD Cert.TailKIdeal.τ).loc Cert.TailKIdeal.main_v2_0) = v0 c
          ∧ r.2.mem ((c.tc : Thread Cert.TailKIdeal.nD Cert.TailKIdeal.τ).loc Cert.TailKIdeal.main_v2_1) = v1 c
          ∧ r.2.mem ((c.tc : Thread Cert.TailKIdeal.nD Cert.TailKIdeal.τ).loc Cert.TailKIdeal.main_v2_2) = v2 c
          ∧ r.2.mem ((c.tc : Thread Cert.TailKIdeal.nD Cert.TailKIdeal.τ).loc Cert.TailKIdeal.main_v2_3) = v3 c
          ∧ r.2.mem ((c.tc : Thread Cert.TailKIdeal.nD Cert.TailKIdeal.τ).loc Cert.TailKIdeal.main_arg0) = m ((c.tc : Thread Cert.TailKIdeal.nD Cert.TailKIdeal.τ).loc Cert.TailKIdeal.main_arg0)
          ∧ r.2.mem ((c.tc : Thread Cert.TailKIdeal.nD Cert.TailKIdeal.τ).loc Cert.TailKIdeal.main_arg1) = m ((c.tc : Thread Cert.TailKIdeal.nD Cert.TailKIdeal.τ).loc Cert.TailKIdeal.main_arg1)
          ∧ r.2.mem ((c.tc : Thread Cert.TailKIdeal.nD Cert.TailKIdeal.τ).loc Cert.TailKIdeal.main_arg2) = m ((c.tc : Thread Cert.TailKIdeal.nD Cert.TailKIdeal.τ).loc Cert.TailKIdeal.main_arg2)
          ∧ r.2.mem ((c.tc : Thread Cert.TailKIdeal.nD Cert.TailKIdeal.τ).loc Cert.TailKIdeal.main_arg3) = m ((c.tc : Thread Cert.TailKIdeal.nD Cert.TailKIdeal.τ).loc Cert.TailKIdeal.main_arg3)
          ∧ r.2.mem ((c.tc : Thread Cert.TailKIdeal.nD Cert.TailKIdeal.τ).loc Cert.TailKIdeal.main_arg4) = m ((c.tc : Thread Cert.TailKIdeal.nD Cert.TailKIdeal.τ).loc Cert.TailKIdeal.main_arg4))
      ∧ θ_run (Cert.TailRIdeal.defs (F := Ideal)) (onTc (τ := Cert.TailRIdeal.τ) (Cert.TailRIdeal.main (F := Ideal))) ⟨m', fun _ => 0, g'⟩ (fun r => ∀ c : Dev Cert.TailRIdeal.nD,
          r.2.mem ((c.tc : Thread Cert.TailRIdeal.nD Cert.TailRIdeal.τ).loc Cert.TailRIdeal.main_v64) = v0 c
          ∧ r.2.mem ((c.tc : Thread Cert.TailRIdeal.nD Cert.TailRIdeal.τ).loc Cert.TailRIdeal.main_v66) = v1 c
          ∧ r.2.mem ((c.tc : Thread Cert.TailRIdeal.nD Cert.TailRIdeal.τ).loc Cert.TailRIdeal.main_v65) = v2 c
          ∧ r.2.mem ((c.tc : Thread Cert.TailRIdeal.nD Cert.TailRIdeal.τ).loc Cert.TailRIdeal.main_v70) = v3 c
          ∧ r.2.mem ((c.tc : Thread Cert.TailRIdeal.nD Cert.TailRIdeal.τ).loc Cert.TailRIdeal.main_arg0) = m' ((c.tc : Thread Cert.TailRIdeal.nD Cert.TailRIdeal.τ).loc Cert.TailRIdeal.main_arg0)
          ∧ r.2.mem ((c.tc : Thread Cert.TailRIdeal.nD Cert.TailRIdeal.τ).loc Cert.TailRIdeal.main_arg1) = m' ((c.tc : Thread Cert.TailRIdeal.nD Cert.TailRIdeal.τ).loc Cert.TailRIdeal.main_arg1)
          ∧ r.2.mem ((c.tc : Thread Cert.TailRIdeal.nD Cert.TailRIdeal.τ).loc Cert.TailRIdeal.main_arg2) = m' ((c.tc : Thread Cert.TailRIdeal.nD Cert.TailRIdeal.τ).loc Cert.TailRIdeal.main_arg2)
          ∧ r.2.mem ((c.tc : Thread Cert.TailRIdeal.nD Cert.TailRIdeal.τ).loc Cert.TailRIdeal.main_arg3) = m' ((c.tc : Thread Cert.TailRIdeal.nD Cert.TailRIdeal.τ).loc Cert.TailRIdeal.main_arg3)
          ∧ r.2.mem ((c.tc : Thread Cert.TailRIdeal.nD Cert.TailRIdeal.τ).loc Cert.TailRIdeal.main_arg4) = m' ((c.tc : Thread Cert.TailRIdeal.nD Cert.TailRIdeal.τ).loc Cert.TailRIdeal.main_arg4))

def preserves_DninK_DninKIdeal : Prop :=
  True

def algebraic_DninKIdeal_DninRIdeal_pre_dnin_finite [hDninKIdeal : Cert.DninKIdeal.Facts] [hDninRIdeal : Cert.DninRIdeal.Facts] [hPre_dnin_finite : Cert.Pre_dnin_finite.Facts] : Prop :=
  ∀ (m : (ℓ : Loc Cert.DninKIdeal.nD Cert.DninKIdeal.τ Cert.DninKIdeal.sig) → Buf (Elt Ideal) ℓ) (g : Dev Cert.DninKIdeal.nD → PrngReg)
    (m' : (ℓ : Loc Cert.DninRIdeal.nD Cert.DninRIdeal.τ Cert.DninRIdeal.sig) → Buf (Elt Ideal) ℓ) (g' : Dev Cert.DninRIdeal.nD → PrngReg), Pre_DninKIdeal_dnin_finite m →
    (∀ c : Dev Cert.DninKIdeal.nD,
      m' ((c.tc : Thread Cert.DninRIdeal.nD Cert.DninRIdeal.τ).loc Cert.DninRIdeal.main_arg0) = m ((c.tc : Thread Cert.DninKIdeal.nD Cert.DninKIdeal.τ).loc Cert.DninKIdeal.main_arg0)
      ∧ m' ((c.tc : Thread Cert.DninRIdeal.nD Cert.DninRIdeal.τ).loc Cert.DninRIdeal.main_arg1) = m ((c.tc : Thread Cert.DninKIdeal.nD Cert.DninKIdeal.τ).loc Cert.DninKIdeal.main_arg1)
      ∧ m' ((c.tc : Thread Cert.DninRIdeal.nD Cert.DninRIdeal.τ).loc Cert.DninRIdeal.main_arg2) = m ((c.tc : Thread Cert.DninKIdeal.nD Cert.DninKIdeal.τ).loc Cert.DninKIdeal.main_arg2)
      ∧ m' ((c.tc : Thread Cert.DninRIdeal.nD Cert.DninRIdeal.τ).loc Cert.DninRIdeal.main_arg3) = m ((c.tc : Thread Cert.DninKIdeal.nD Cert.DninKIdeal.τ).loc Cert.DninKIdeal.main_arg3)
      ∧ m' ((c.tc : Thread Cert.DninRIdeal.nD Cert.DninRIdeal.τ).loc Cert.DninRIdeal.main_arg4) = m ((c.tc : Thread Cert.DninKIdeal.nD Cert.DninKIdeal.τ).loc Cert.DninKIdeal.main_arg4)) →
    ∃ (v0 : (c : Dev Cert.DninKIdeal.nD) → Buf (Elt Ideal) ((c.tc : Thread Cert.DninKIdeal.nD Cert.DninKIdeal.τ).loc Cert.DninKIdeal.main_v2_0)) (v1 : (c : Dev Cert.DninKIdeal.nD) → Buf (Elt Ideal) ((c.tc : Thread Cert.DninKIdeal.nD Cert.DninKIdeal.τ).loc Cert.DninKIdeal.main_v2_1)) (v2 : (c : Dev Cert.DninKIdeal.nD) → Buf (Elt Ideal) ((c.tc : Thread Cert.DninKIdeal.nD Cert.DninKIdeal.τ).loc Cert.DninKIdeal.main_v2_2)),
      θ_run (Cert.DninKIdeal.defs (F := Ideal)) (onTc (τ := Cert.DninKIdeal.τ) (Cert.DninKIdeal.main (F := Ideal))) ⟨m, fun _ => 0, g⟩ (fun r => ∀ c : Dev Cert.DninKIdeal.nD,
          r.2.mem ((c.tc : Thread Cert.DninKIdeal.nD Cert.DninKIdeal.τ).loc Cert.DninKIdeal.main_v2_0) = v0 c
          ∧ r.2.mem ((c.tc : Thread Cert.DninKIdeal.nD Cert.DninKIdeal.τ).loc Cert.DninKIdeal.main_v2_1) = v1 c
          ∧ r.2.mem ((c.tc : Thread Cert.DninKIdeal.nD Cert.DninKIdeal.τ).loc Cert.DninKIdeal.main_v2_2) = v2 c
          ∧ r.2.mem ((c.tc : Thread Cert.DninKIdeal.nD Cert.DninKIdeal.τ).loc Cert.DninKIdeal.main_arg0) = m ((c.tc : Thread Cert.DninKIdeal.nD Cert.DninKIdeal.τ).loc Cert.DninKIdeal.main_arg0)
          ∧ r.2.mem ((c.tc : Thread Cert.DninKIdeal.nD Cert.DninKIdeal.τ).loc Cert.DninKIdeal.main_arg1) = m ((c.tc : Thread Cert.DninKIdeal.nD Cert.DninKIdeal.τ).loc Cert.DninKIdeal.main_arg1)
          ∧ r.2.mem ((c.tc : Thread Cert.DninKIdeal.nD Cert.DninKIdeal.τ).loc Cert.DninKIdeal.main_arg2) = m ((c.tc : Thread Cert.DninKIdeal.nD Cert.DninKIdeal.τ).loc Cert.DninKIdeal.main_arg2)
          ∧ r.2.mem ((c.tc : Thread Cert.DninKIdeal.nD Cert.DninKIdeal.τ).loc Cert.DninKIdeal.main_arg3) = m ((c.tc : Thread Cert.DninKIdeal.nD Cert.DninKIdeal.τ).loc Cert.DninKIdeal.main_arg3)
          ∧ r.2.mem ((c.tc : Thread Cert.DninKIdeal.nD Cert.DninKIdeal.τ).loc Cert.DninKIdeal.main_arg4) = m ((c.tc : Thread Cert.DninKIdeal.nD Cert.DninKIdeal.τ).loc Cert.DninKIdeal.main_arg4))
      ∧ θ_run (Cert.DninRIdeal.defs (F := Ideal)) (onTc (τ := Cert.DninRIdeal.τ) (Cert.DninRIdeal.main (F := Ideal))) ⟨m', fun _ => 0, g'⟩ (fun r => ∀ c : Dev Cert.DninRIdeal.nD,
          r.2.mem ((c.tc : Thread Cert.DninRIdeal.nD Cert.DninRIdeal.τ).loc Cert.DninRIdeal.main_v37) = v0 c
          ∧ r.2.mem ((c.tc : Thread Cert.DninRIdeal.nD Cert.DninRIdeal.τ).loc Cert.DninRIdeal.main_v38) = v1 c
          ∧ r.2.mem ((c.tc : Thread Cert.DninRIdeal.nD Cert.DninRIdeal.τ).loc Cert.DninRIdeal.main_v20) = v2 c
          ∧ r.2.mem ((c.tc : Thread Cert.DninRIdeal.nD Cert.DninRIdeal.τ).loc Cert.DninRIdeal.main_arg0) = m' ((c.tc : Thread Cert.DninRIdeal.nD Cert.DninRIdeal.τ).loc Cert.DninRIdeal.main_arg0)
          ∧ r.2.mem ((c.tc : Thread Cert.DninRIdeal.nD Cert.DninRIdeal.τ).loc Cert.DninRIdeal.main_arg1) = m' ((c.tc : Thread Cert.DninRIdeal.nD Cert.DninRIdeal.τ).loc Cert.DninRIdeal.main_arg1)
          ∧ r.2.mem ((c.tc : Thread Cert.DninRIdeal.nD Cert.DninRIdeal.τ).loc Cert.DninRIdeal.main_arg2) = m' ((c.tc : Thread Cert.DninRIdeal.nD Cert.DninRIdeal.τ).loc Cert.DninRIdeal.main_arg2)
          ∧ r.2.mem ((c.tc : Thread Cert.DninRIdeal.nD Cert.DninRIdeal.τ).loc Cert.DninRIdeal.main_arg3) = m' ((c.tc : Thread Cert.DninRIdeal.nD Cert.DninRIdeal.τ).loc Cert.DninRIdeal.main_arg3)
          ∧ r.2.mem ((c.tc : Thread Cert.DninRIdeal.nD Cert.DninRIdeal.τ).loc Cert.DninRIdeal.main_arg4) = m' ((c.tc : Thread Cert.DninRIdeal.nD Cert.DninRIdeal.τ).loc Cert.DninRIdeal.main_arg4))

def preserves_DnodK_DnodKIdeal : Prop :=
  True

def algebraic_DnodKIdeal_DnodRIdeal_pre_dnod_finite [hDnodKIdeal : Cert.DnodKIdeal.Facts] [hDnodRIdeal : Cert.DnodRIdeal.Facts] [hPre_dnod_finite : Cert.Pre_dnod_finite.Facts] : Prop :=
  ∀ (m : (ℓ : Loc Cert.DnodKIdeal.nD Cert.DnodKIdeal.τ Cert.DnodKIdeal.sig) → Buf (Elt Ideal) ℓ) (g : Dev Cert.DnodKIdeal.nD → PrngReg)
    (m' : (ℓ : Loc Cert.DnodRIdeal.nD Cert.DnodRIdeal.τ Cert.DnodRIdeal.sig) → Buf (Elt Ideal) ℓ) (g' : Dev Cert.DnodRIdeal.nD → PrngReg), Pre_DnodKIdeal_dnod_finite m →
    (∀ c : Dev Cert.DnodKIdeal.nD,
      m' ((c.tc : Thread Cert.DnodRIdeal.nD Cert.DnodRIdeal.τ).loc Cert.DnodRIdeal.main_arg0) = m ((c.tc : Thread Cert.DnodKIdeal.nD Cert.DnodKIdeal.τ).loc Cert.DnodKIdeal.main_arg0)
      ∧ m' ((c.tc : Thread Cert.DnodRIdeal.nD Cert.DnodRIdeal.τ).loc Cert.DnodRIdeal.main_arg1) = m ((c.tc : Thread Cert.DnodKIdeal.nD Cert.DnodKIdeal.τ).loc Cert.DnodKIdeal.main_arg1)
      ∧ m' ((c.tc : Thread Cert.DnodRIdeal.nD Cert.DnodRIdeal.τ).loc Cert.DnodRIdeal.main_arg2) = m ((c.tc : Thread Cert.DnodKIdeal.nD Cert.DnodKIdeal.τ).loc Cert.DnodKIdeal.main_arg2)
      ∧ m' ((c.tc : Thread Cert.DnodRIdeal.nD Cert.DnodRIdeal.τ).loc Cert.DnodRIdeal.main_arg3) = m ((c.tc : Thread Cert.DnodKIdeal.nD Cert.DnodKIdeal.τ).loc Cert.DnodKIdeal.main_arg3)
      ∧ m' ((c.tc : Thread Cert.DnodRIdeal.nD Cert.DnodRIdeal.τ).loc Cert.DnodRIdeal.main_arg4) = m ((c.tc : Thread Cert.DnodKIdeal.nD Cert.DnodKIdeal.τ).loc Cert.DnodKIdeal.main_arg4)) →
    ∃ (v0 : (c : Dev Cert.DnodKIdeal.nD) → Buf (Elt Ideal) ((c.tc : Thread Cert.DnodKIdeal.nD Cert.DnodKIdeal.τ).loc Cert.DnodKIdeal.main_v2_0)) (v1 : (c : Dev Cert.DnodKIdeal.nD) → Buf (Elt Ideal) ((c.tc : Thread Cert.DnodKIdeal.nD Cert.DnodKIdeal.τ).loc Cert.DnodKIdeal.main_v2_1)) (v2 : (c : Dev Cert.DnodKIdeal.nD) → Buf (Elt Ideal) ((c.tc : Thread Cert.DnodKIdeal.nD Cert.DnodKIdeal.τ).loc Cert.DnodKIdeal.main_v2_2)),
      θ_run (Cert.DnodKIdeal.defs (F := Ideal)) (onTc (τ := Cert.DnodKIdeal.τ) (Cert.DnodKIdeal.main (F := Ideal))) ⟨m, fun _ => 0, g⟩ (fun r => ∀ c : Dev Cert.DnodKIdeal.nD,
          r.2.mem ((c.tc : Thread Cert.DnodKIdeal.nD Cert.DnodKIdeal.τ).loc Cert.DnodKIdeal.main_v2_0) = v0 c
          ∧ r.2.mem ((c.tc : Thread Cert.DnodKIdeal.nD Cert.DnodKIdeal.τ).loc Cert.DnodKIdeal.main_v2_1) = v1 c
          ∧ r.2.mem ((c.tc : Thread Cert.DnodKIdeal.nD Cert.DnodKIdeal.τ).loc Cert.DnodKIdeal.main_v2_2) = v2 c
          ∧ r.2.mem ((c.tc : Thread Cert.DnodKIdeal.nD Cert.DnodKIdeal.τ).loc Cert.DnodKIdeal.main_arg0) = m ((c.tc : Thread Cert.DnodKIdeal.nD Cert.DnodKIdeal.τ).loc Cert.DnodKIdeal.main_arg0)
          ∧ r.2.mem ((c.tc : Thread Cert.DnodKIdeal.nD Cert.DnodKIdeal.τ).loc Cert.DnodKIdeal.main_arg1) = m ((c.tc : Thread Cert.DnodKIdeal.nD Cert.DnodKIdeal.τ).loc Cert.DnodKIdeal.main_arg1)
          ∧ r.2.mem ((c.tc : Thread Cert.DnodKIdeal.nD Cert.DnodKIdeal.τ).loc Cert.DnodKIdeal.main_arg2) = m ((c.tc : Thread Cert.DnodKIdeal.nD Cert.DnodKIdeal.τ).loc Cert.DnodKIdeal.main_arg2)
          ∧ r.2.mem ((c.tc : Thread Cert.DnodKIdeal.nD Cert.DnodKIdeal.τ).loc Cert.DnodKIdeal.main_arg3) = m ((c.tc : Thread Cert.DnodKIdeal.nD Cert.DnodKIdeal.τ).loc Cert.DnodKIdeal.main_arg3)
          ∧ r.2.mem ((c.tc : Thread Cert.DnodKIdeal.nD Cert.DnodKIdeal.τ).loc Cert.DnodKIdeal.main_arg4) = m ((c.tc : Thread Cert.DnodKIdeal.nD Cert.DnodKIdeal.τ).loc Cert.DnodKIdeal.main_arg4))
      ∧ θ_run (Cert.DnodRIdeal.defs (F := Ideal)) (onTc (τ := Cert.DnodRIdeal.τ) (Cert.DnodRIdeal.main (F := Ideal))) ⟨m', fun _ => 0, g'⟩ (fun r => ∀ c : Dev Cert.DnodRIdeal.nD,
          r.2.mem ((c.tc : Thread Cert.DnodRIdeal.nD Cert.DnodRIdeal.τ).loc Cert.DnodRIdeal.main_v37) = v0 c
          ∧ r.2.mem ((c.tc : Thread Cert.DnodRIdeal.nD Cert.DnodRIdeal.τ).loc Cert.DnodRIdeal.main_v38) = v1 c
          ∧ r.2.mem ((c.tc : Thread Cert.DnodRIdeal.nD Cert.DnodRIdeal.τ).loc Cert.DnodRIdeal.main_v20) = v2 c
          ∧ r.2.mem ((c.tc : Thread Cert.DnodRIdeal.nD Cert.DnodRIdeal.τ).loc Cert.DnodRIdeal.main_arg0) = m' ((c.tc : Thread Cert.DnodRIdeal.nD Cert.DnodRIdeal.τ).loc Cert.DnodRIdeal.main_arg0)
          ∧ r.2.mem ((c.tc : Thread Cert.DnodRIdeal.nD Cert.DnodRIdeal.τ).loc Cert.DnodRIdeal.main_arg1) = m' ((c.tc : Thread Cert.DnodRIdeal.nD Cert.DnodRIdeal.τ).loc Cert.DnodRIdeal.main_arg1)
          ∧ r.2.mem ((c.tc : Thread Cert.DnodRIdeal.nD Cert.DnodRIdeal.τ).loc Cert.DnodRIdeal.main_arg2) = m' ((c.tc : Thread Cert.DnodRIdeal.nD Cert.DnodRIdeal.τ).loc Cert.DnodRIdeal.main_arg2)
          ∧ r.2.mem ((c.tc : Thread Cert.DnodRIdeal.nD Cert.DnodRIdeal.τ).loc Cert.DnodRIdeal.main_arg3) = m' ((c.tc : Thread Cert.DnodRIdeal.nD Cert.DnodRIdeal.τ).loc Cert.DnodRIdeal.main_arg3)
          ∧ r.2.mem ((c.tc : Thread Cert.DnodRIdeal.nD Cert.DnodRIdeal.τ).loc Cert.DnodRIdeal.main_arg4) = m' ((c.tc : Thread Cert.DnodRIdeal.nD Cert.DnodRIdeal.τ).loc Cert.DnodRIdeal.main_arg4))

def preserves_Attnf16K_Attnf16KIdeal : Prop :=
  IdealRules.named_const.Statement Cert.Attnf16KIdeal.κ "mask" .f32 0xF149F2CA#32 ⊥

def algebraic_Attnf16KIdeal_Attnf16RIdeal [hAttnf16KIdeal : Cert.Attnf16KIdeal.Facts] [hAttnf16RIdeal : Cert.Attnf16RIdeal.Facts] : Prop :=
  ∀ (m : (ℓ : Loc Cert.Attnf16KIdeal.nD Cert.Attnf16KIdeal.τ Cert.Attnf16KIdeal.sig) → Buf (Elt Ideal) ℓ) (g : Dev Cert.Attnf16KIdeal.nD → PrngReg)
    (m' : (ℓ : Loc Cert.Attnf16RIdeal.nD Cert.Attnf16RIdeal.τ Cert.Attnf16RIdeal.sig) → Buf (Elt Ideal) ℓ) (g' : Dev Cert.Attnf16RIdeal.nD → PrngReg), Pre_Attnf16KIdeal m →
    (∀ c : Dev Cert.Attnf16KIdeal.nD,
      m' ((c.tc : Thread Cert.Attnf16RIdeal.nD Cert.Attnf16RIdeal.τ).loc Cert.Attnf16RIdeal.main_arg0) = m ((c.tc : Thread Cert.Attnf16KIdeal.nD Cert.Attnf16KIdeal.τ).loc Cert.Attnf16KIdeal.main_arg0)
      ∧ m' ((c.tc : Thread Cert.Attnf16RIdeal.nD Cert.Attnf16RIdeal.τ).loc Cert.Attnf16RIdeal.main_arg1) = m ((c.tc : Thread Cert.Attnf16KIdeal.nD Cert.Attnf16KIdeal.τ).loc Cert.Attnf16KIdeal.main_arg1)
      ∧ m' ((c.tc : Thread Cert.Attnf16RIdeal.nD Cert.Attnf16RIdeal.τ).loc Cert.Attnf16RIdeal.main_arg2) = m ((c.tc : Thread Cert.Attnf16KIdeal.nD Cert.Attnf16KIdeal.τ).loc Cert.Attnf16KIdeal.main_arg2)) →
    ∃ (v0 : (c : Dev Cert.Attnf16KIdeal.nD) → Buf (Elt Ideal) ((c.tc : Thread Cert.Attnf16KIdeal.nD Cert.Attnf16KIdeal.τ).loc Cert.Attnf16KIdeal.main_v0_0)) (v1 : (c : Dev Cert.Attnf16KIdeal.nD) → Buf (Elt Ideal) ((c.tc : Thread Cert.Attnf16KIdeal.nD Cert.Attnf16KIdeal.τ).loc Cert.Attnf16KIdeal.main_v0_1)),
      θ_run (Cert.Attnf16KIdeal.defs (F := Ideal)) (onTc (τ := Cert.Attnf16KIdeal.τ) (Cert.Attnf16KIdeal.main (F := Ideal))) ⟨m, fun _ => 0, g⟩ (fun r => ∀ c : Dev Cert.Attnf16KIdeal.nD,
          r.2.mem ((c.tc : Thread Cert.Attnf16KIdeal.nD Cert.Attnf16KIdeal.τ).loc Cert.Attnf16KIdeal.main_v0_0) = v0 c
          ∧ r.2.mem ((c.tc : Thread Cert.Attnf16KIdeal.nD Cert.Attnf16KIdeal.τ).loc Cert.Attnf16KIdeal.main_v0_1) = v1 c
          ∧ r.2.mem ((c.tc : Thread Cert.Attnf16KIdeal.nD Cert.Attnf16KIdeal.τ).loc Cert.Attnf16KIdeal.main_arg0) = m ((c.tc : Thread Cert.Attnf16KIdeal.nD Cert.Attnf16KIdeal.τ).loc Cert.Attnf16KIdeal.main_arg0)
          ∧ r.2.mem ((c.tc : Thread Cert.Attnf16KIdeal.nD Cert.Attnf16KIdeal.τ).loc Cert.Attnf16KIdeal.main_arg1) = m ((c.tc : Thread Cert.Attnf16KIdeal.nD Cert.Attnf16KIdeal.τ).loc Cert.Attnf16KIdeal.main_arg1)
          ∧ r.2.mem ((c.tc : Thread Cert.Attnf16KIdeal.nD Cert.Attnf16KIdeal.τ).loc Cert.Attnf16KIdeal.main_arg2) = m ((c.tc : Thread Cert.Attnf16KIdeal.nD Cert.Attnf16KIdeal.τ).loc Cert.Attnf16KIdeal.main_arg2))
      ∧ θ_run (Cert.Attnf16RIdeal.defs (F := Ideal)) (onTc (τ := Cert.Attnf16RIdeal.τ) (Cert.Attnf16RIdeal.main (F := Ideal))) ⟨m', fun _ => 0, g'⟩ (fun r => ∀ c : Dev Cert.Attnf16RIdeal.nD,
          r.2.mem ((c.tc : Thread Cert.Attnf16RIdeal.nD Cert.Attnf16RIdeal.τ).loc Cert.Attnf16RIdeal.main_v41) = v0 c
          ∧ r.2.mem ((c.tc : Thread Cert.Attnf16RIdeal.nD Cert.Attnf16RIdeal.τ).loc Cert.Attnf16RIdeal.main_v44) = v1 c
          ∧ r.2.mem ((c.tc : Thread Cert.Attnf16RIdeal.nD Cert.Attnf16RIdeal.τ).loc Cert.Attnf16RIdeal.main_arg0) = m' ((c.tc : Thread Cert.Attnf16RIdeal.nD Cert.Attnf16RIdeal.τ).loc Cert.Attnf16RIdeal.main_arg0)
          ∧ r.2.mem ((c.tc : Thread Cert.Attnf16RIdeal.nD Cert.Attnf16RIdeal.τ).loc Cert.Attnf16RIdeal.main_arg1) = m' ((c.tc : Thread Cert.Attnf16RIdeal.nD Cert.Attnf16RIdeal.τ).loc Cert.Attnf16RIdeal.main_arg1)
          ∧ r.2.mem ((c.tc : Thread Cert.Attnf16RIdeal.nD Cert.Attnf16RIdeal.τ).loc Cert.Attnf16RIdeal.main_arg2) = m' ((c.tc : Thread Cert.Attnf16RIdeal.nD Cert.Attnf16RIdeal.τ).loc Cert.Attnf16RIdeal.main_arg2))

def preserves_Attnf4K_Attnf4KIdeal : Prop :=
  IdealRules.named_const.Statement Cert.Attnf4KIdeal.κ "mask" .f32 0xF149F2CA#32 ⊥

def algebraic_Attnf4KIdeal_Attnf4RIdeal [hAttnf4KIdeal : Cert.Attnf4KIdeal.Facts] [hAttnf4RIdeal : Cert.Attnf4RIdeal.Facts] : Prop :=
  ∀ (m : (ℓ : Loc Cert.Attnf4KIdeal.nD Cert.Attnf4KIdeal.τ Cert.Attnf4KIdeal.sig) → Buf (Elt Ideal) ℓ) (g : Dev Cert.Attnf4KIdeal.nD → PrngReg)
    (m' : (ℓ : Loc Cert.Attnf4RIdeal.nD Cert.Attnf4RIdeal.τ Cert.Attnf4RIdeal.sig) → Buf (Elt Ideal) ℓ) (g' : Dev Cert.Attnf4RIdeal.nD → PrngReg), Pre_Attnf4KIdeal m →
    (∀ c : Dev Cert.Attnf4KIdeal.nD,
      m' ((c.tc : Thread Cert.Attnf4RIdeal.nD Cert.Attnf4RIdeal.τ).loc Cert.Attnf4RIdeal.main_arg0) = m ((c.tc : Thread Cert.Attnf4KIdeal.nD Cert.Attnf4KIdeal.τ).loc Cert.Attnf4KIdeal.main_arg0)
      ∧ m' ((c.tc : Thread Cert.Attnf4RIdeal.nD Cert.Attnf4RIdeal.τ).loc Cert.Attnf4RIdeal.main_arg1) = m ((c.tc : Thread Cert.Attnf4KIdeal.nD Cert.Attnf4KIdeal.τ).loc Cert.Attnf4KIdeal.main_arg1)
      ∧ m' ((c.tc : Thread Cert.Attnf4RIdeal.nD Cert.Attnf4RIdeal.τ).loc Cert.Attnf4RIdeal.main_arg2) = m ((c.tc : Thread Cert.Attnf4KIdeal.nD Cert.Attnf4KIdeal.τ).loc Cert.Attnf4KIdeal.main_arg2)) →
    ∃ (v0 : (c : Dev Cert.Attnf4KIdeal.nD) → Buf (Elt Ideal) ((c.tc : Thread Cert.Attnf4KIdeal.nD Cert.Attnf4KIdeal.τ).loc Cert.Attnf4KIdeal.main_v0_0)) (v1 : (c : Dev Cert.Attnf4KIdeal.nD) → Buf (Elt Ideal) ((c.tc : Thread Cert.Attnf4KIdeal.nD Cert.Attnf4KIdeal.τ).loc Cert.Attnf4KIdeal.main_v0_1)),
      θ_run (Cert.Attnf4KIdeal.defs (F := Ideal)) (onTc (τ := Cert.Attnf4KIdeal.τ) (Cert.Attnf4KIdeal.main (F := Ideal))) ⟨m, fun _ => 0, g⟩ (fun r => ∀ c : Dev Cert.Attnf4KIdeal.nD,
          r.2.mem ((c.tc : Thread Cert.Attnf4KIdeal.nD Cert.Attnf4KIdeal.τ).loc Cert.Attnf4KIdeal.main_v0_0) = v0 c
          ∧ r.2.mem ((c.tc : Thread Cert.Attnf4KIdeal.nD Cert.Attnf4KIdeal.τ).loc Cert.Attnf4KIdeal.main_v0_1) = v1 c
          ∧ r.2.mem ((c.tc : Thread Cert.Attnf4KIdeal.nD Cert.Attnf4KIdeal.τ).loc Cert.Attnf4KIdeal.main_arg0) = m ((c.tc : Thread Cert.Attnf4KIdeal.nD Cert.Attnf4KIdeal.τ).loc Cert.Attnf4KIdeal.main_arg0)
          ∧ r.2.mem ((c.tc : Thread Cert.Attnf4KIdeal.nD Cert.Attnf4KIdeal.τ).loc Cert.Attnf4KIdeal.main_arg1) = m ((c.tc : Thread Cert.Attnf4KIdeal.nD Cert.Attnf4KIdeal.τ).loc Cert.Attnf4KIdeal.main_arg1)
          ∧ r.2.mem ((c.tc : Thread Cert.Attnf4KIdeal.nD Cert.Attnf4KIdeal.τ).loc Cert.Attnf4KIdeal.main_arg2) = m ((c.tc : Thread Cert.Attnf4KIdeal.nD Cert.Attnf4KIdeal.τ).loc Cert.Attnf4KIdeal.main_arg2))
      ∧ θ_run (Cert.Attnf4RIdeal.defs (F := Ideal)) (onTc (τ := Cert.Attnf4RIdeal.τ) (Cert.Attnf4RIdeal.main (F := Ideal))) ⟨m', fun _ => 0, g'⟩ (fun r => ∀ c : Dev Cert.Attnf4RIdeal.nD,
          r.2.mem ((c.tc : Thread Cert.Attnf4RIdeal.nD Cert.Attnf4RIdeal.τ).loc Cert.Attnf4RIdeal.main_v41) = v0 c
          ∧ r.2.mem ((c.tc : Thread Cert.Attnf4RIdeal.nD Cert.Attnf4RIdeal.τ).loc Cert.Attnf4RIdeal.main_v44) = v1 c
          ∧ r.2.mem ((c.tc : Thread Cert.Attnf4RIdeal.nD Cert.Attnf4RIdeal.τ).loc Cert.Attnf4RIdeal.main_arg0) = m' ((c.tc : Thread Cert.Attnf4RIdeal.nD Cert.Attnf4RIdeal.τ).loc Cert.Attnf4RIdeal.main_arg0)
          ∧ r.2.mem ((c.tc : Thread Cert.Attnf4RIdeal.nD Cert.Attnf4RIdeal.τ).loc Cert.Attnf4RIdeal.main_arg1) = m' ((c.tc : Thread Cert.Attnf4RIdeal.nD Cert.Attnf4RIdeal.τ).loc Cert.Attnf4RIdeal.main_arg1)
          ∧ r.2.mem ((c.tc : Thread Cert.Attnf4RIdeal.nD Cert.Attnf4RIdeal.τ).loc Cert.Attnf4RIdeal.main_arg2) = m' ((c.tc : Thread Cert.Attnf4RIdeal.nD Cert.Attnf4RIdeal.τ).loc Cert.Attnf4RIdeal.main_arg2))

def preserves_Attnf1K_Attnf1KIdeal : Prop :=
  IdealRules.named_const.Statement Cert.Attnf1KIdeal.κ "mask" .f32 0xF149F2CA#32 ⊥

def algebraic_Attnf1KIdeal_Attnf1RIdeal [hAttnf1KIdeal : Cert.Attnf1KIdeal.Facts] [hAttnf1RIdeal : Cert.Attnf1RIdeal.Facts] : Prop :=
  ∀ (m : (ℓ : Loc Cert.Attnf1KIdeal.nD Cert.Attnf1KIdeal.τ Cert.Attnf1KIdeal.sig) → Buf (Elt Ideal) ℓ) (g : Dev Cert.Attnf1KIdeal.nD → PrngReg)
    (m' : (ℓ : Loc Cert.Attnf1RIdeal.nD Cert.Attnf1RIdeal.τ Cert.Attnf1RIdeal.sig) → Buf (Elt Ideal) ℓ) (g' : Dev Cert.Attnf1RIdeal.nD → PrngReg), Pre_Attnf1KIdeal m →
    (∀ c : Dev Cert.Attnf1KIdeal.nD,
      m' ((c.tc : Thread Cert.Attnf1RIdeal.nD Cert.Attnf1RIdeal.τ).loc Cert.Attnf1RIdeal.main_arg0) = m ((c.tc : Thread Cert.Attnf1KIdeal.nD Cert.Attnf1KIdeal.τ).loc Cert.Attnf1KIdeal.main_arg0)
      ∧ m' ((c.tc : Thread Cert.Attnf1RIdeal.nD Cert.Attnf1RIdeal.τ).loc Cert.Attnf1RIdeal.main_arg1) = m ((c.tc : Thread Cert.Attnf1KIdeal.nD Cert.Attnf1KIdeal.τ).loc Cert.Attnf1KIdeal.main_arg1)
      ∧ m' ((c.tc : Thread Cert.Attnf1RIdeal.nD Cert.Attnf1RIdeal.τ).loc Cert.Attnf1RIdeal.main_arg2) = m ((c.tc : Thread Cert.Attnf1KIdeal.nD Cert.Attnf1KIdeal.τ).loc Cert.Attnf1KIdeal.main_arg2)) →
    ∃ (v0 : (c : Dev Cert.Attnf1KIdeal.nD) → Buf (Elt Ideal) ((c.tc : Thread Cert.Attnf1KIdeal.nD Cert.Attnf1KIdeal.τ).loc Cert.Attnf1KIdeal.main_v0_0)) (v1 : (c : Dev Cert.Attnf1KIdeal.nD) → Buf (Elt Ideal) ((c.tc : Thread Cert.Attnf1KIdeal.nD Cert.Attnf1KIdeal.τ).loc Cert.Attnf1KIdeal.main_v0_1)),
      θ_run (Cert.Attnf1KIdeal.defs (F := Ideal)) (onTc (τ := Cert.Attnf1KIdeal.τ) (Cert.Attnf1KIdeal.main (F := Ideal))) ⟨m, fun _ => 0, g⟩ (fun r => ∀ c : Dev Cert.Attnf1KIdeal.nD,
          r.2.mem ((c.tc : Thread Cert.Attnf1KIdeal.nD Cert.Attnf1KIdeal.τ).loc Cert.Attnf1KIdeal.main_v0_0) = v0 c
          ∧ r.2.mem ((c.tc : Thread Cert.Attnf1KIdeal.nD Cert.Attnf1KIdeal.τ).loc Cert.Attnf1KIdeal.main_v0_1) = v1 c
          ∧ r.2.mem ((c.tc : Thread Cert.Attnf1KIdeal.nD Cert.Attnf1KIdeal.τ).loc Cert.Attnf1KIdeal.main_arg0) = m ((c.tc : Thread Cert.Attnf1KIdeal.nD Cert.Attnf1KIdeal.τ).loc Cert.Attnf1KIdeal.main_arg0)
          ∧ r.2.mem ((c.tc : Thread Cert.Attnf1KIdeal.nD Cert.Attnf1KIdeal.τ).loc Cert.Attnf1KIdeal.main_arg1) = m ((c.tc : Thread Cert.Attnf1KIdeal.nD Cert.Attnf1KIdeal.τ).loc Cert.Attnf1KIdeal.main_arg1)
          ∧ r.2.mem ((c.tc : Thread Cert.Attnf1KIdeal.nD Cert.Attnf1KIdeal.τ).loc Cert.Attnf1KIdeal.main_arg2) = m ((c.tc : Thread Cert.Attnf1KIdeal.nD Cert.Attnf1KIdeal.τ).loc Cert.Attnf1KIdeal.main_arg2))
      ∧ θ_run (Cert.Attnf1RIdeal.defs (F := Ideal)) (onTc (τ := Cert.Attnf1RIdeal.τ) (Cert.Attnf1RIdeal.main (F := Ideal))) ⟨m', fun _ => 0, g'⟩ (fun r => ∀ c : Dev Cert.Attnf1RIdeal.nD,
          r.2.mem ((c.tc : Thread Cert.Attnf1RIdeal.nD Cert.Attnf1RIdeal.τ).loc Cert.Attnf1RIdeal.main_v41) = v0 c
          ∧ r.2.mem ((c.tc : Thread Cert.Attnf1RIdeal.nD Cert.Attnf1RIdeal.τ).loc Cert.Attnf1RIdeal.main_v44) = v1 c
          ∧ r.2.mem ((c.tc : Thread Cert.Attnf1RIdeal.nD Cert.Attnf1RIdeal.τ).loc Cert.Attnf1RIdeal.main_arg0) = m' ((c.tc : Thread Cert.Attnf1RIdeal.nD Cert.Attnf1RIdeal.τ).loc Cert.Attnf1RIdeal.main_arg0)
          ∧ r.2.mem ((c.tc : Thread Cert.Attnf1RIdeal.nD Cert.Attnf1RIdeal.τ).loc Cert.Attnf1RIdeal.main_arg1) = m' ((c.tc : Thread Cert.Attnf1RIdeal.nD Cert.Attnf1RIdeal.τ).loc Cert.Attnf1RIdeal.main_arg1)
          ∧ r.2.mem ((c.tc : Thread Cert.Attnf1RIdeal.nD Cert.Attnf1RIdeal.τ).loc Cert.Attnf1RIdeal.main_arg2) = m' ((c.tc : Thread Cert.Attnf1RIdeal.nD Cert.Attnf1RIdeal.τ).loc Cert.Attnf1RIdeal.main_arg2))

def preserves_AttnfeK_AttnfeKIdeal : Prop :=
  IdealRules.named_const.Statement Cert.AttnfeKIdeal.κ "mask" .f32 0xF149F2CA#32 ⊥

def algebraic_AttnfeKIdeal_AttnfeRIdeal [hAttnfeKIdeal : Cert.AttnfeKIdeal.Facts] [hAttnfeRIdeal : Cert.AttnfeRIdeal.Facts] : Prop :=
  ∀ (m : (ℓ : Loc Cert.AttnfeKIdeal.nD Cert.AttnfeKIdeal.τ Cert.AttnfeKIdeal.sig) → Buf (Elt Ideal) ℓ) (g : Dev Cert.AttnfeKIdeal.nD → PrngReg)
    (m' : (ℓ : Loc Cert.AttnfeRIdeal.nD Cert.AttnfeRIdeal.τ Cert.AttnfeRIdeal.sig) → Buf (Elt Ideal) ℓ) (g' : Dev Cert.AttnfeRIdeal.nD → PrngReg), Pre_AttnfeKIdeal m →
    (∀ c : Dev Cert.AttnfeKIdeal.nD,
      m' ((c.tc : Thread Cert.AttnfeRIdeal.nD Cert.AttnfeRIdeal.τ).loc Cert.AttnfeRIdeal.main_arg0) = m ((c.tc : Thread Cert.AttnfeKIdeal.nD Cert.AttnfeKIdeal.τ).loc Cert.AttnfeKIdeal.main_arg0)
      ∧ m' ((c.tc : Thread Cert.AttnfeRIdeal.nD Cert.AttnfeRIdeal.τ).loc Cert.AttnfeRIdeal.main_arg1) = m ((c.tc : Thread Cert.AttnfeKIdeal.nD Cert.AttnfeKIdeal.τ).loc Cert.AttnfeKIdeal.main_arg1)
      ∧ m' ((c.tc : Thread Cert.AttnfeRIdeal.nD Cert.AttnfeRIdeal.τ).loc Cert.AttnfeRIdeal.main_arg2) = m ((c.tc : Thread Cert.AttnfeKIdeal.nD Cert.AttnfeKIdeal.τ).loc Cert.AttnfeKIdeal.main_arg2)
      ∧ m' ((c.tc : Thread Cert.AttnfeRIdeal.nD Cert.AttnfeRIdeal.τ).loc Cert.AttnfeRIdeal.main_arg3) = m ((c.tc : Thread Cert.AttnfeKIdeal.nD Cert.AttnfeKIdeal.τ).loc Cert.AttnfeKIdeal.main_arg3)) →
    ∃ (v0 : (c : Dev Cert.AttnfeKIdeal.nD) → Buf (Elt Ideal) ((c.tc : Thread Cert.AttnfeKIdeal.nD Cert.AttnfeKIdeal.τ).loc Cert.AttnfeKIdeal.main_v8_0)) (v1 : (c : Dev Cert.AttnfeKIdeal.nD) → Buf (Elt Ideal) ((c.tc : Thread Cert.AttnfeKIdeal.nD Cert.AttnfeKIdeal.τ).loc Cert.AttnfeKIdeal.main_v8_1)) (v2 : (c : Dev Cert.AttnfeKIdeal.nD) → Buf (Elt Ideal) ((c.tc : Thread Cert.AttnfeKIdeal.nD Cert.AttnfeKIdeal.τ).loc Cert.AttnfeKIdeal.main_v8_2)),
      θ_run (Cert.AttnfeKIdeal.defs (F := Ideal)) (onTc (τ := Cert.AttnfeKIdeal.τ) (Cert.AttnfeKIdeal.main (F := Ideal))) ⟨m, fun _ => 0, g⟩ (fun r => ∀ c : Dev Cert.AttnfeKIdeal.nD,
          r.2.mem ((c.tc : Thread Cert.AttnfeKIdeal.nD Cert.AttnfeKIdeal.τ).loc Cert.AttnfeKIdeal.main_v8_0) = v0 c
          ∧ r.2.mem ((c.tc : Thread Cert.AttnfeKIdeal.nD Cert.AttnfeKIdeal.τ).loc Cert.AttnfeKIdeal.main_v8_1) = v1 c
          ∧ r.2.mem ((c.tc : Thread Cert.AttnfeKIdeal.nD Cert.AttnfeKIdeal.τ).loc Cert.AttnfeKIdeal.main_v8_2) = v2 c
          ∧ r.2.mem ((c.tc : Thread Cert.AttnfeKIdeal.nD Cert.AttnfeKIdeal.τ).loc Cert.AttnfeKIdeal.main_arg0) = m ((c.tc : Thread Cert.AttnfeKIdeal.nD Cert.AttnfeKIdeal.τ).loc Cert.AttnfeKIdeal.main_arg0)
          ∧ r.2.mem ((c.tc : Thread Cert.AttnfeKIdeal.nD Cert.AttnfeKIdeal.τ).loc Cert.AttnfeKIdeal.main_arg1) = m ((c.tc : Thread Cert.AttnfeKIdeal.nD Cert.AttnfeKIdeal.τ).loc Cert.AttnfeKIdeal.main_arg1)
          ∧ r.2.mem ((c.tc : Thread Cert.AttnfeKIdeal.nD Cert.AttnfeKIdeal.τ).loc Cert.AttnfeKIdeal.main_arg2) = m ((c.tc : Thread Cert.AttnfeKIdeal.nD Cert.AttnfeKIdeal.τ).loc Cert.AttnfeKIdeal.main_arg2)
          ∧ r.2.mem ((c.tc : Thread Cert.AttnfeKIdeal.nD Cert.AttnfeKIdeal.τ).loc Cert.AttnfeKIdeal.main_arg3) = m ((c.tc : Thread Cert.AttnfeKIdeal.nD Cert.AttnfeKIdeal.τ).loc Cert.AttnfeKIdeal.main_arg3))
      ∧ θ_run (Cert.AttnfeRIdeal.defs (F := Ideal)) (onTc (τ := Cert.AttnfeRIdeal.τ) (Cert.AttnfeRIdeal.main (F := Ideal))) ⟨m', fun _ => 0, g'⟩ (fun r => ∀ c : Dev Cert.AttnfeRIdeal.nD,
          r.2.mem ((c.tc : Thread Cert.AttnfeRIdeal.nD Cert.AttnfeRIdeal.τ).loc Cert.AttnfeRIdeal.main_v49) = v0 c
          ∧ r.2.mem ((c.tc : Thread Cert.AttnfeRIdeal.nD Cert.AttnfeRIdeal.τ).loc Cert.AttnfeRIdeal.main_v52) = v1 c
          ∧ r.2.mem ((c.tc : Thread Cert.AttnfeRIdeal.nD Cert.AttnfeRIdeal.τ).loc Cert.AttnfeRIdeal.main_v53) = v2 c
          ∧ r.2.mem ((c.tc : Thread Cert.AttnfeRIdeal.nD Cert.AttnfeRIdeal.τ).loc Cert.AttnfeRIdeal.main_arg0) = m' ((c.tc : Thread Cert.AttnfeRIdeal.nD Cert.AttnfeRIdeal.τ).loc Cert.AttnfeRIdeal.main_arg0)
          ∧ r.2.mem ((c.tc : Thread Cert.AttnfeRIdeal.nD Cert.AttnfeRIdeal.τ).loc Cert.AttnfeRIdeal.main_arg1) = m' ((c.tc : Thread Cert.AttnfeRIdeal.nD Cert.AttnfeRIdeal.τ).loc Cert.AttnfeRIdeal.main_arg1)
          ∧ r.2.mem ((c.tc : Thread Cert.AttnfeRIdeal.nD Cert.AttnfeRIdeal.τ).loc Cert.AttnfeRIdeal.main_arg2) = m' ((c.tc : Thread Cert.AttnfeRIdeal.nD Cert.AttnfeRIdeal.τ).loc Cert.AttnfeRIdeal.main_arg2)
          ∧ r.2.mem ((c.tc : Thread Cert.AttnfeRIdeal.nD Cert.AttnfeRIdeal.τ).loc Cert.AttnfeRIdeal.main_arg3) = m' ((c.tc : Thread Cert.AttnfeRIdeal.nD Cert.AttnfeRIdeal.τ).loc Cert.AttnfeRIdeal.main_arg3))

def preserves_Attnb16K_Attnb16KIdeal : Prop :=
  IdealRules.named_const.Statement Cert.Attnb16KIdeal.κ "mask" .f32 0xF149F2CA#32 ⊥

def algebraic_Attnb16KIdeal_Attnb16RIdeal_pre_attnb16_finite [hAttnb16KIdeal : Cert.Attnb16KIdeal.Facts] [hAttnb16RIdeal : Cert.Attnb16RIdeal.Facts] [hPre_attnb16_finite : Cert.Pre_attnb16_finite.Facts] : Prop :=
  ∀ (m : (ℓ : Loc Cert.Attnb16KIdeal.nD Cert.Attnb16KIdeal.τ Cert.Attnb16KIdeal.sig) → Buf (Elt Ideal) ℓ) (g : Dev Cert.Attnb16KIdeal.nD → PrngReg)
    (m' : (ℓ : Loc Cert.Attnb16RIdeal.nD Cert.Attnb16RIdeal.τ Cert.Attnb16RIdeal.sig) → Buf (Elt Ideal) ℓ) (g' : Dev Cert.Attnb16RIdeal.nD → PrngReg), Pre_Attnb16KIdeal_attnb16_finite m →
    (∀ c : Dev Cert.Attnb16KIdeal.nD,
      m' ((c.tc : Thread Cert.Attnb16RIdeal.nD Cert.Attnb16RIdeal.τ).loc Cert.Attnb16RIdeal.main_arg0) = m ((c.tc : Thread Cert.Attnb16KIdeal.nD Cert.Attnb16KIdeal.τ).loc Cert.Attnb16KIdeal.main_arg0)
      ∧ m' ((c.tc : Thread Cert.Attnb16RIdeal.nD Cert.Attnb16RIdeal.τ).loc Cert.Attnb16RIdeal.main_arg1) = m ((c.tc : Thread Cert.Attnb16KIdeal.nD Cert.Attnb16KIdeal.τ).loc Cert.Attnb16KIdeal.main_arg1)
      ∧ m' ((c.tc : Thread Cert.Attnb16RIdeal.nD Cert.Attnb16RIdeal.τ).loc Cert.Attnb16RIdeal.main_arg2) = m ((c.tc : Thread Cert.Attnb16KIdeal.nD Cert.Attnb16KIdeal.τ).loc Cert.Attnb16KIdeal.main_arg2)
      ∧ m' ((c.tc : Thread Cert.Attnb16RIdeal.nD Cert.Attnb16RIdeal.τ).loc Cert.Attnb16RIdeal.main_arg3) = m ((c.tc : Thread Cert.Attnb16KIdeal.nD Cert.Attnb16KIdeal.τ).loc Cert.Attnb16KIdeal.main_arg3)
      ∧ m' ((c.tc : Thread Cert.Attnb16RIdeal.nD Cert.Attnb16RIdeal.τ).loc Cert.Attnb16RIdeal.main_arg4) = m ((c.tc : Thread Cert.Attnb16KIdeal.nD Cert.Attnb16KIdeal.τ).loc Cert.Attnb16KIdeal.main_arg4)
      ∧ m' ((c.tc : Thread Cert.Attnb16RIdeal.nD Cert.Attnb16RIdeal.τ).loc Cert.Attnb16RIdeal.main_arg5) = m ((c.tc : Thread Cert.Attnb16KIdeal.nD Cert.Attnb16KIdeal.τ).loc Cert.Attnb16KIdeal.main_arg5)
      ∧ m' ((c.tc : Thread Cert.Attnb16RIdeal.nD Cert.Attnb16RIdeal.τ).loc Cert.Attnb16RIdeal.main_arg6) = m ((c.tc : Thread Cert.Attnb16KIdeal.nD Cert.Attnb16KIdeal.τ).loc Cert.Attnb16KIdeal.main_arg6)
      ∧ m' ((c.tc : Thread Cert.Attnb16RIdeal.nD Cert.Attnb16RIdeal.τ).loc Cert.Attnb16RIdeal.main_arg7) = m ((c.tc : Thread Cert.Attnb16KIdeal.nD Cert.Attnb16KIdeal.τ).loc Cert.Attnb16KIdeal.main_arg7)
      ∧ m' ((c.tc : Thread Cert.Attnb16RIdeal.nD Cert.Attnb16RIdeal.τ).loc Cert.Attnb16RIdeal.main_arg8) = m ((c.tc : Thread Cert.Attnb16KIdeal.nD Cert.Attnb16KIdeal.τ).loc Cert.Attnb16KIdeal.main_arg8)
      ∧ m' ((c.tc : Thread Cert.Attnb16RIdeal.nD Cert.Attnb16RIdeal.τ).loc Cert.Attnb16RIdeal.main_arg9) = m ((c.tc : Thread Cert.Attnb16KIdeal.nD Cert.Attnb16KIdeal.τ).loc Cert.Attnb16KIdeal.main_arg9)) →
    ∃ (v0 : (c : Dev Cert.Attnb16KIdeal.nD) → Buf (Elt Ideal) ((c.tc : Thread Cert.Attnb16KIdeal.nD Cert.Attnb16KIdeal.τ).loc Cert.Attnb16KIdeal.main_v176_0)) (v1 : (c : Dev Cert.Attnb16KIdeal.nD) → Buf (Elt Ideal) ((c.tc : Thread Cert.Attnb16KIdeal.nD Cert.Attnb16KIdeal.τ).loc Cert.Attnb16KIdeal.main_v176_1)) (v2 : (c : Dev Cert.Attnb16KIdeal.nD) → Buf (Elt Ideal) ((c.tc : Thread Cert.Attnb16KIdeal.nD Cert.Attnb16KIdeal.τ).loc Cert.Attnb16KIdeal.main_v176_2)),
      θ_run (Cert.Attnb16KIdeal.defs (F := Ideal)) (onTc (τ := Cert.Attnb16KIdeal.τ) (Cert.Attnb16KIdeal.main (F := Ideal))) ⟨m, fun _ => 0, g⟩ (fun r => ∀ c : Dev Cert.Attnb16KIdeal.nD,
          r.2.mem ((c.tc : Thread Cert.Attnb16KIdeal.nD Cert.Attnb16KIdeal.τ).loc Cert.Attnb16KIdeal.main_v176_0) = v0 c
          ∧ r.2.mem ((c.tc : Thread Cert.Attnb16KIdeal.nD Cert.Attnb16KIdeal.τ).loc Cert.Attnb16KIdeal.main_v176_1) = v1 c
          ∧ r.2.mem ((c.tc : Thread Cert.Attnb16KIdeal.nD Cert.Attnb16KIdeal.τ).loc Cert.Attnb16KIdeal.main_v176_2) = v2 c
          ∧ r.2.mem ((c.tc : Thread Cert.Attnb16KIdeal.nD Cert.Attnb16KIdeal.τ).loc Cert.Attnb16KIdeal.main_arg0) = m ((c.tc : Thread Cert.Attnb16KIdeal.nD Cert.Attnb16KIdeal.τ).loc Cert.Attnb16KIdeal.main_arg0)
          ∧ r.2.mem ((c.tc : Thread Cert.Attnb16KIdeal.nD Cert.Attnb16KIdeal.τ).loc Cert.Attnb16KIdeal.main_arg1) = m ((c.tc : Thread Cert.Attnb16KIdeal.nD Cert.Attnb16KIdeal.τ).loc Cert.Attnb16KIdeal.main_arg1)
          ∧ r.2.mem ((c.tc : Thread Cert.Attnb16KIdeal.nD Cert.Attnb16KIdeal.τ).loc Cert.Attnb16KIdeal.main_arg2) = m ((c.tc : Thread Cert.Attnb16KIdeal.nD Cert.Attnb16KIdeal.τ).loc Cert.Attnb16KIdeal.main_arg2)
          ∧ r.2.mem ((c.tc : Thread Cert.Attnb16KIdeal.nD Cert.Attnb16KIdeal.τ).loc Cert.Attnb16KIdeal.main_arg3) = m ((c.tc : Thread Cert.Attnb16KIdeal.nD Cert.Attnb16KIdeal.τ).loc Cert.Attnb16KIdeal.main_arg3)
          ∧ r.2.mem ((c.tc : Thread Cert.Attnb16KIdeal.nD Cert.Attnb16KIdeal.τ).loc Cert.Attnb16KIdeal.main_arg4) = m ((c.tc : Thread Cert.Attnb16KIdeal.nD Cert.Attnb16KIdeal.τ).loc Cert.Attnb16KIdeal.main_arg4)
          ∧ r.2.mem ((c.tc : Thread Cert.Attnb16KIdeal.nD Cert.Attnb16KIdeal.τ).loc Cert.Attnb16KIdeal.main_arg5) = m ((c.tc : Thread Cert.Attnb16KIdeal.nD Cert.Attnb16KIdeal.τ).loc Cert.Attnb16KIdeal.main_arg5)
          ∧ r.2.mem ((c.tc : Thread Cert.Attnb16KIdeal.nD Cert.Attnb16KIdeal.τ).loc Cert.Attnb16KIdeal.main_arg6) = m ((c.tc : Thread Cert.Attnb16KIdeal.nD Cert.Attnb16KIdeal.τ).loc Cert.Attnb16KIdeal.main_arg6)
          ∧ r.2.mem ((c.tc : Thread Cert.Attnb16KIdeal.nD Cert.Attnb16KIdeal.τ).loc Cert.Attnb16KIdeal.main_arg7) = m ((c.tc : Thread Cert.Attnb16KIdeal.nD Cert.Attnb16KIdeal.τ).loc Cert.Attnb16KIdeal.main_arg7)
          ∧ r.2.mem ((c.tc : Thread Cert.Attnb16KIdeal.nD Cert.Attnb16KIdeal.τ).loc Cert.Attnb16KIdeal.main_arg8) = m ((c.tc : Thread Cert.Attnb16KIdeal.nD Cert.Attnb16KIdeal.τ).loc Cert.Attnb16KIdeal.main_arg8)
          ∧ r.2.mem ((c.tc : Thread Cert.Attnb16KIdeal.nD Cert.Attnb16KIdeal.τ).loc Cert.Attnb16KIdeal.main_arg9) = m ((c.tc : Thread Cert.Attnb16KIdeal.nD Cert.Attnb16KIdeal.τ).loc Cert.Attnb16KIdeal.main_arg9))
      ∧ θ_run (Cert.Attnb16RIdeal.defs (F := Ideal)) (onTc (τ := Cert.Attnb16RIdeal.τ) (Cert.Attnb16RIdeal.main (F := Ideal))) ⟨m', fun _ => 0, g'⟩ (fun r => ∀ c : Dev Cert.Attnb16RIdeal.nD,
          r.2.mem ((c.tc : Thread Cert.Attnb16RIdeal.nD Cert.Attnb16RIdeal.τ).loc Cert.Attnb16RIdeal.main_v284) = v0 c
          ∧ r.2.mem ((c.tc : Thread Cert.Attnb16RIdeal.nD Cert.Attnb16RIdeal.τ).loc Cert.Attnb16RIdeal.main_v282) = v1 c
          ∧ r.2.mem ((c.tc : Thread Cert.Attnb16RIdeal.nD Cert.Attnb16RIdeal.τ).loc Cert.Attnb16RIdeal.main_v280) = v2 c
          ∧ r.2.mem ((c.tc : Thread Cert.Attnb16RIdeal.nD Cert.Attnb16RIdeal.τ).loc Cert.Attnb16RIdeal.main_arg0) = m' ((c.tc : Thread Cert.Attnb16RIdeal.nD Cert.Attnb16RIdeal.τ).loc Cert.Attnb16RIdeal.main_arg0)
          ∧ r.2.mem ((c.tc : Thread Cert.Attnb16RIdeal.nD Cert.Attnb16RIdeal.τ).loc Cert.Attnb16RIdeal.main_arg1) = m' ((c.tc : Thread Cert.Attnb16RIdeal.nD Cert.Attnb16RIdeal.τ).loc Cert.Attnb16RIdeal.main_arg1)
          ∧ r.2.mem ((c.tc : Thread Cert.Attnb16RIdeal.nD Cert.Attnb16RIdeal.τ).loc Cert.Attnb16RIdeal.main_arg2) = m' ((c.tc : Thread Cert.Attnb16RIdeal.nD Cert.Attnb16RIdeal.τ).loc Cert.Attnb16RIdeal.main_arg2)
          ∧ r.2.mem ((c.tc : Thread Cert.Attnb16RIdeal.nD Cert.Attnb16RIdeal.τ).loc Cert.Attnb16RIdeal.main_arg3) = m' ((c.tc : Thread Cert.Attnb16RIdeal.nD Cert.Attnb16RIdeal.τ).loc Cert.Attnb16RIdeal.main_arg3)
          ∧ r.2.mem ((c.tc : Thread Cert.Attnb16RIdeal.nD Cert.Attnb16RIdeal.τ).loc Cert.Attnb16RIdeal.main_arg4) = m' ((c.tc : Thread Cert.Attnb16RIdeal.nD Cert.Attnb16RIdeal.τ).loc Cert.Attnb16RIdeal.main_arg4)
          ∧ r.2.mem ((c.tc : Thread Cert.Attnb16RIdeal.nD Cert.Attnb16RIdeal.τ).loc Cert.Attnb16RIdeal.main_arg5) = m' ((c.tc : Thread Cert.Attnb16RIdeal.nD Cert.Attnb16RIdeal.τ).loc Cert.Attnb16RIdeal.main_arg5)
          ∧ r.2.mem ((c.tc : Thread Cert.Attnb16RIdeal.nD Cert.Attnb16RIdeal.τ).loc Cert.Attnb16RIdeal.main_arg6) = m' ((c.tc : Thread Cert.Attnb16RIdeal.nD Cert.Attnb16RIdeal.τ).loc Cert.Attnb16RIdeal.main_arg6)
          ∧ r.2.mem ((c.tc : Thread Cert.Attnb16RIdeal.nD Cert.Attnb16RIdeal.τ).loc Cert.Attnb16RIdeal.main_arg7) = m' ((c.tc : Thread Cert.Attnb16RIdeal.nD Cert.Attnb16RIdeal.τ).loc Cert.Attnb16RIdeal.main_arg7)
          ∧ r.2.mem ((c.tc : Thread Cert.Attnb16RIdeal.nD Cert.Attnb16RIdeal.τ).loc Cert.Attnb16RIdeal.main_arg8) = m' ((c.tc : Thread Cert.Attnb16RIdeal.nD Cert.Attnb16RIdeal.τ).loc Cert.Attnb16RIdeal.main_arg8)
          ∧ r.2.mem ((c.tc : Thread Cert.Attnb16RIdeal.nD Cert.Attnb16RIdeal.τ).loc Cert.Attnb16RIdeal.main_arg9) = m' ((c.tc : Thread Cert.Attnb16RIdeal.nD Cert.Attnb16RIdeal.τ).loc Cert.Attnb16RIdeal.main_arg9))

def preserves_PosteK_PosteKIdeal : Prop :=
  True

def algebraic_PosteKIdeal_PosteRIdeal [hPosteKIdeal : Cert.PosteKIdeal.Facts] [hPosteRIdeal : Cert.PosteRIdeal.Facts] : Prop :=
  ∀ (m : (ℓ : Loc Cert.PosteKIdeal.nD Cert.PosteKIdeal.τ Cert.PosteKIdeal.sig) → Buf (Elt Ideal) ℓ) (g : Dev Cert.PosteKIdeal.nD → PrngReg)
    (m' : (ℓ : Loc Cert.PosteRIdeal.nD Cert.PosteRIdeal.τ Cert.PosteRIdeal.sig) → Buf (Elt Ideal) ℓ) (g' : Dev Cert.PosteRIdeal.nD → PrngReg), Pre_PosteKIdeal m →
    (∀ c : Dev Cert.PosteKIdeal.nD,
      m' ((c.tc : Thread Cert.PosteRIdeal.nD Cert.PosteRIdeal.τ).loc Cert.PosteRIdeal.main_arg0) = m ((c.tc : Thread Cert.PosteKIdeal.nD Cert.PosteKIdeal.τ).loc Cert.PosteKIdeal.main_arg0)
      ∧ m' ((c.tc : Thread Cert.PosteRIdeal.nD Cert.PosteRIdeal.τ).loc Cert.PosteRIdeal.main_arg1) = m ((c.tc : Thread Cert.PosteKIdeal.nD Cert.PosteKIdeal.τ).loc Cert.PosteKIdeal.main_arg1)
      ∧ m' ((c.tc : Thread Cert.PosteRIdeal.nD Cert.PosteRIdeal.τ).loc Cert.PosteRIdeal.main_arg2) = m ((c.tc : Thread Cert.PosteKIdeal.nD Cert.PosteKIdeal.τ).loc Cert.PosteKIdeal.main_arg2)
      ∧ m' ((c.tc : Thread Cert.PosteRIdeal.nD Cert.PosteRIdeal.τ).loc Cert.PosteRIdeal.main_arg3) = m ((c.tc : Thread Cert.PosteKIdeal.nD Cert.PosteKIdeal.τ).loc Cert.PosteKIdeal.main_arg3)
      ∧ m' ((c.tc : Thread Cert.PosteRIdeal.nD Cert.PosteRIdeal.τ).loc Cert.PosteRIdeal.main_arg4) = m ((c.tc : Thread Cert.PosteKIdeal.nD Cert.PosteKIdeal.τ).loc Cert.PosteKIdeal.main_arg4)) →
    ∃ (v0 : (c : Dev Cert.PosteKIdeal.nD) → Buf (Elt Ideal) ((c.tc : Thread Cert.PosteKIdeal.nD Cert.PosteKIdeal.τ).loc Cert.PosteKIdeal.main_v33)),
      θ_run (Cert.PosteKIdeal.defs (F := Ideal)) (onTc (τ := Cert.PosteKIdeal.τ) (Cert.PosteKIdeal.main (F := Ideal))) ⟨m, fun _ => 0, g⟩ (fun r => ∀ c : Dev Cert.PosteKIdeal.nD,
          r.2.mem ((c.tc : Thread Cert.PosteKIdeal.nD Cert.PosteKIdeal.τ).loc Cert.PosteKIdeal.main_v33) = v0 c
          ∧ r.2.mem ((c.tc : Thread Cert.PosteKIdeal.nD Cert.PosteKIdeal.τ).loc Cert.PosteKIdeal.main_arg0) = m ((c.tc : Thread Cert.PosteKIdeal.nD Cert.PosteKIdeal.τ).loc Cert.PosteKIdeal.main_arg0)
          ∧ r.2.mem ((c.tc : Thread Cert.PosteKIdeal.nD Cert.PosteKIdeal.τ).loc Cert.PosteKIdeal.main_arg1) = m ((c.tc : Thread Cert.PosteKIdeal.nD Cert.PosteKIdeal.τ).loc Cert.PosteKIdeal.main_arg1)
          ∧ r.2.mem ((c.tc : Thread Cert.PosteKIdeal.nD Cert.PosteKIdeal.τ).loc Cert.PosteKIdeal.main_arg2) = m ((c.tc : Thread Cert.PosteKIdeal.nD Cert.PosteKIdeal.τ).loc Cert.PosteKIdeal.main_arg2)
          ∧ r.2.mem ((c.tc : Thread Cert.PosteKIdeal.nD Cert.PosteKIdeal.τ).loc Cert.PosteKIdeal.main_arg3) = m ((c.tc : Thread Cert.PosteKIdeal.nD Cert.PosteKIdeal.τ).loc Cert.PosteKIdeal.main_arg3)
          ∧ r.2.mem ((c.tc : Thread Cert.PosteKIdeal.nD Cert.PosteKIdeal.τ).loc Cert.PosteKIdeal.main_arg4) = m ((c.tc : Thread Cert.PosteKIdeal.nD Cert.PosteKIdeal.τ).loc Cert.PosteKIdeal.main_arg4))
      ∧ θ_run (Cert.PosteRIdeal.defs (F := Ideal)) (onTc (τ := Cert.PosteRIdeal.τ) (Cert.PosteRIdeal.main (F := Ideal))) ⟨m', fun _ => 0, g'⟩ (fun r => ∀ c : Dev Cert.PosteRIdeal.nD,
          r.2.mem ((c.tc : Thread Cert.PosteRIdeal.nD Cert.PosteRIdeal.τ).loc Cert.PosteRIdeal.main_v135) = v0 c
          ∧ r.2.mem ((c.tc : Thread Cert.PosteRIdeal.nD Cert.PosteRIdeal.τ).loc Cert.PosteRIdeal.main_arg0) = m' ((c.tc : Thread Cert.PosteRIdeal.nD Cert.PosteRIdeal.τ).loc Cert.PosteRIdeal.main_arg0)
          ∧ r.2.mem ((c.tc : Thread Cert.PosteRIdeal.nD Cert.PosteRIdeal.τ).loc Cert.PosteRIdeal.main_arg1) = m' ((c.tc : Thread Cert.PosteRIdeal.nD Cert.PosteRIdeal.τ).loc Cert.PosteRIdeal.main_arg1)
          ∧ r.2.mem ((c.tc : Thread Cert.PosteRIdeal.nD Cert.PosteRIdeal.τ).loc Cert.PosteRIdeal.main_arg2) = m' ((c.tc : Thread Cert.PosteRIdeal.nD Cert.PosteRIdeal.τ).loc Cert.PosteRIdeal.main_arg2)
          ∧ r.2.mem ((c.tc : Thread Cert.PosteRIdeal.nD Cert.PosteRIdeal.τ).loc Cert.PosteRIdeal.main_arg3) = m' ((c.tc : Thread Cert.PosteRIdeal.nD Cert.PosteRIdeal.τ).loc Cert.PosteRIdeal.main_arg3)
          ∧ r.2.mem ((c.tc : Thread Cert.PosteRIdeal.nD Cert.PosteRIdeal.τ).loc Cert.PosteRIdeal.main_arg4) = m' ((c.tc : Thread Cert.PosteRIdeal.nD Cert.PosteRIdeal.τ).loc Cert.PosteRIdeal.main_arg4))

def preserves_RmsfK_RmsfKIdeal : Prop :=
  True

def algebraic_RmsfKIdeal_RmsfRIdeal [hRmsfKIdeal : Cert.RmsfKIdeal.Facts] [hRmsfRIdeal : Cert.RmsfRIdeal.Facts] : Prop :=
  ∀ (m : (ℓ : Loc Cert.RmsfKIdeal.nD Cert.RmsfKIdeal.τ Cert.RmsfKIdeal.sig) → Buf (Elt Ideal) ℓ) (g : Dev Cert.RmsfKIdeal.nD → PrngReg)
    (m' : (ℓ : Loc Cert.RmsfRIdeal.nD Cert.RmsfRIdeal.τ Cert.RmsfRIdeal.sig) → Buf (Elt Ideal) ℓ) (g' : Dev Cert.RmsfRIdeal.nD → PrngReg), Pre_RmsfKIdeal m →
    (∀ c : Dev Cert.RmsfKIdeal.nD,
      m' ((c.tc : Thread Cert.RmsfRIdeal.nD Cert.RmsfRIdeal.τ).loc Cert.RmsfRIdeal.main_arg0) = m ((c.tc : Thread Cert.RmsfKIdeal.nD Cert.RmsfKIdeal.τ).loc Cert.RmsfKIdeal.main_arg0)
      ∧ m' ((c.tc : Thread Cert.RmsfRIdeal.nD Cert.RmsfRIdeal.τ).loc Cert.RmsfRIdeal.main_arg1) = m ((c.tc : Thread Cert.RmsfKIdeal.nD Cert.RmsfKIdeal.τ).loc Cert.RmsfKIdeal.main_arg1)) →
    ∃ (v0 : (c : Dev Cert.RmsfKIdeal.nD) → Buf (Elt Ideal) ((c.tc : Thread Cert.RmsfKIdeal.nD Cert.RmsfKIdeal.τ).loc Cert.RmsfKIdeal.main_v0)),
      θ_run (Cert.RmsfKIdeal.defs (F := Ideal)) (onTc (τ := Cert.RmsfKIdeal.τ) (Cert.RmsfKIdeal.main (F := Ideal))) ⟨m, fun _ => 0, g⟩ (fun r => ∀ c : Dev Cert.RmsfKIdeal.nD,
          r.2.mem ((c.tc : Thread Cert.RmsfKIdeal.nD Cert.RmsfKIdeal.τ).loc Cert.RmsfKIdeal.main_v0) = v0 c
          ∧ r.2.mem ((c.tc : Thread Cert.RmsfKIdeal.nD Cert.RmsfKIdeal.τ).loc Cert.RmsfKIdeal.main_arg0) = m ((c.tc : Thread Cert.RmsfKIdeal.nD Cert.RmsfKIdeal.τ).loc Cert.RmsfKIdeal.main_arg0)
          ∧ r.2.mem ((c.tc : Thread Cert.RmsfKIdeal.nD Cert.RmsfKIdeal.τ).loc Cert.RmsfKIdeal.main_arg1) = m ((c.tc : Thread Cert.RmsfKIdeal.nD Cert.RmsfKIdeal.τ).loc Cert.RmsfKIdeal.main_arg1))
      ∧ θ_run (Cert.RmsfRIdeal.defs (F := Ideal)) (onTc (τ := Cert.RmsfRIdeal.τ) (Cert.RmsfRIdeal.main (F := Ideal))) ⟨m', fun _ => 0, g'⟩ (fun r => ∀ c : Dev Cert.RmsfRIdeal.nD,
          r.2.mem ((c.tc : Thread Cert.RmsfRIdeal.nD Cert.RmsfRIdeal.τ).loc Cert.RmsfRIdeal.main_v12) = v0 c
          ∧ r.2.mem ((c.tc : Thread Cert.RmsfRIdeal.nD Cert.RmsfRIdeal.τ).loc Cert.RmsfRIdeal.main_arg0) = m' ((c.tc : Thread Cert.RmsfRIdeal.nD Cert.RmsfRIdeal.τ).loc Cert.RmsfRIdeal.main_arg0)
          ∧ r.2.mem ((c.tc : Thread Cert.RmsfRIdeal.nD Cert.RmsfRIdeal.τ).loc Cert.RmsfRIdeal.main_arg1) = m' ((c.tc : Thread Cert.RmsfRIdeal.nD Cert.RmsfRIdeal.τ).loc Cert.RmsfRIdeal.main_arg1))

def preserves_PrepeK_PrepeKIdeal : Prop :=
  True

def algebraic_PrepeKIdeal_PrepeRIdeal [hPrepeKIdeal : Cert.PrepeKIdeal.Facts] [hPrepeRIdeal : Cert.PrepeRIdeal.Facts] : Prop :=
  ∀ (m : (ℓ : Loc Cert.PrepeKIdeal.nD Cert.PrepeKIdeal.τ Cert.PrepeKIdeal.sig) → Buf (Elt Ideal) ℓ) (g : Dev Cert.PrepeKIdeal.nD → PrngReg)
    (m' : (ℓ : Loc Cert.PrepeRIdeal.nD Cert.PrepeRIdeal.τ Cert.PrepeRIdeal.sig) → Buf (Elt Ideal) ℓ) (g' : Dev Cert.PrepeRIdeal.nD → PrngReg), Pre_PrepeKIdeal m →
    (∀ c : Dev Cert.PrepeKIdeal.nD,
      m' ((c.tc : Thread Cert.PrepeRIdeal.nD Cert.PrepeRIdeal.τ).loc Cert.PrepeRIdeal.main_arg0) = m ((c.tc : Thread Cert.PrepeKIdeal.nD Cert.PrepeKIdeal.τ).loc Cert.PrepeKIdeal.main_arg0)) →
    ∃ (v0 : (c : Dev Cert.PrepeKIdeal.nD) → Buf (Elt Ideal) ((c.tc : Thread Cert.PrepeKIdeal.nD Cert.PrepeKIdeal.τ).loc Cert.PrepeKIdeal.main_v30_0)) (v1 : (c : Dev Cert.PrepeKIdeal.nD) → Buf (Elt Ideal) ((c.tc : Thread Cert.PrepeKIdeal.nD Cert.PrepeKIdeal.τ).loc Cert.PrepeKIdeal.main_v30_1)) (v2 : (c : Dev Cert.PrepeKIdeal.nD) → Buf (Elt Ideal) ((c.tc : Thread Cert.PrepeKIdeal.nD Cert.PrepeKIdeal.τ).loc Cert.PrepeKIdeal.main_v30_2)),
      θ_run (Cert.PrepeKIdeal.defs (F := Ideal)) (onTc (τ := Cert.PrepeKIdeal.τ) (Cert.PrepeKIdeal.main (F := Ideal))) ⟨m, fun _ => 0, g⟩ (fun r => ∀ c : Dev Cert.PrepeKIdeal.nD,
          r.2.mem ((c.tc : Thread Cert.PrepeKIdeal.nD Cert.PrepeKIdeal.τ).loc Cert.PrepeKIdeal.main_v30_0) = v0 c
          ∧ r.2.mem ((c.tc : Thread Cert.PrepeKIdeal.nD Cert.PrepeKIdeal.τ).loc Cert.PrepeKIdeal.main_v30_1) = v1 c
          ∧ r.2.mem ((c.tc : Thread Cert.PrepeKIdeal.nD Cert.PrepeKIdeal.τ).loc Cert.PrepeKIdeal.main_v30_2) = v2 c
          ∧ r.2.mem ((c.tc : Thread Cert.PrepeKIdeal.nD Cert.PrepeKIdeal.τ).loc Cert.PrepeKIdeal.main_arg0) = m ((c.tc : Thread Cert.PrepeKIdeal.nD Cert.PrepeKIdeal.τ).loc Cert.PrepeKIdeal.main_arg0))
      ∧ θ_run (Cert.PrepeRIdeal.defs (F := Ideal)) (onTc (τ := Cert.PrepeRIdeal.τ) (Cert.PrepeRIdeal.main (F := Ideal))) ⟨m', fun _ => 0, g'⟩ (fun r => ∀ c : Dev Cert.PrepeRIdeal.nD,
          r.2.mem ((c.tc : Thread Cert.PrepeRIdeal.nD Cert.PrepeRIdeal.τ).loc Cert.PrepeRIdeal.main_v80) = v0 c
          ∧ r.2.mem ((c.tc : Thread Cert.PrepeRIdeal.nD Cert.PrepeRIdeal.τ).loc Cert.PrepeRIdeal.main_v82) = v1 c
          ∧ r.2.mem ((c.tc : Thread Cert.PrepeRIdeal.nD Cert.PrepeRIdeal.τ).loc Cert.PrepeRIdeal.main_v84) = v2 c
          ∧ r.2.mem ((c.tc : Thread Cert.PrepeRIdeal.nD Cert.PrepeRIdeal.τ).loc Cert.PrepeRIdeal.main_arg0) = m' ((c.tc : Thread Cert.PrepeRIdeal.nD Cert.PrepeRIdeal.τ).loc Cert.PrepeRIdeal.main_arg0))

def preserves_GupK_GupKIdeal : Prop :=
  True

def algebraic_GupKIdeal_GupRIdeal [hGupKIdeal : Cert.GupKIdeal.Facts] [hGupRIdeal : Cert.GupRIdeal.Facts] : Prop :=
  ∀ (m : (ℓ : Loc Cert.GupKIdeal.nD Cert.GupKIdeal.τ Cert.GupKIdeal.sig) → Buf (Elt Ideal) ℓ) (g : Dev Cert.GupKIdeal.nD → PrngReg)
    (m' : (ℓ : Loc Cert.GupRIdeal.nD Cert.GupRIdeal.τ Cert.GupRIdeal.sig) → Buf (Elt Ideal) ℓ) (g' : Dev Cert.GupRIdeal.nD → PrngReg), Pre_GupKIdeal m →
    (∀ c : Dev Cert.GupKIdeal.nD,
      m' ((c.tc : Thread Cert.GupRIdeal.nD Cert.GupRIdeal.τ).loc Cert.GupRIdeal.main_arg0) = m ((c.tc : Thread Cert.GupKIdeal.nD Cert.GupKIdeal.τ).loc Cert.GupKIdeal.main_arg0)
      ∧ m' ((c.tc : Thread Cert.GupRIdeal.nD Cert.GupRIdeal.τ).loc Cert.GupRIdeal.main_arg1) = m ((c.tc : Thread Cert.GupKIdeal.nD Cert.GupKIdeal.τ).loc Cert.GupKIdeal.main_arg1)
      ∧ m' ((c.tc : Thread Cert.GupRIdeal.nD Cert.GupRIdeal.τ).loc Cert.GupRIdeal.main_arg2) = m ((c.tc : Thread Cert.GupKIdeal.nD Cert.GupKIdeal.τ).loc Cert.GupKIdeal.main_arg2)) →
    ∃ (v0 : (c : Dev Cert.GupKIdeal.nD) → Buf (Elt Ideal) ((c.tc : Thread Cert.GupKIdeal.nD Cert.GupKIdeal.τ).loc Cert.GupKIdeal.main_v4_0)) (v1 : (c : Dev Cert.GupKIdeal.nD) → Buf (Elt Ideal) ((c.tc : Thread Cert.GupKIdeal.nD Cert.GupKIdeal.τ).loc Cert.GupKIdeal.main_v4_1)) (v2 : (c : Dev Cert.GupKIdeal.nD) → Buf (Elt Ideal) ((c.tc : Thread Cert.GupKIdeal.nD Cert.GupKIdeal.τ).loc Cert.GupKIdeal.main_v4_2)),
      θ_run (Cert.GupKIdeal.defs (F := Ideal)) (onTc (τ := Cert.GupKIdeal.τ) (Cert.GupKIdeal.main (F := Ideal))) ⟨m, fun _ => 0, g⟩ (fun r => ∀ c : Dev Cert.GupKIdeal.nD,
          r.2.mem ((c.tc : Thread Cert.GupKIdeal.nD Cert.GupKIdeal.τ).loc Cert.GupKIdeal.main_v4_0) = v0 c
          ∧ r.2.mem ((c.tc : Thread Cert.GupKIdeal.nD Cert.GupKIdeal.τ).loc Cert.GupKIdeal.main_v4_1) = v1 c
          ∧ r.2.mem ((c.tc : Thread Cert.GupKIdeal.nD Cert.GupKIdeal.τ).loc Cert.GupKIdeal.main_v4_2) = v2 c
          ∧ r.2.mem ((c.tc : Thread Cert.GupKIdeal.nD Cert.GupKIdeal.τ).loc Cert.GupKIdeal.main_arg0) = m ((c.tc : Thread Cert.GupKIdeal.nD Cert.GupKIdeal.τ).loc Cert.GupKIdeal.main_arg0)
          ∧ r.2.mem ((c.tc : Thread Cert.GupKIdeal.nD Cert.GupKIdeal.τ).loc Cert.GupKIdeal.main_arg1) = m ((c.tc : Thread Cert.GupKIdeal.nD Cert.GupKIdeal.τ).loc Cert.GupKIdeal.main_arg1)
          ∧ r.2.mem ((c.tc : Thread Cert.GupKIdeal.nD Cert.GupKIdeal.τ).loc Cert.GupKIdeal.main_arg2) = m ((c.tc : Thread Cert.GupKIdeal.nD Cert.GupKIdeal.τ).loc Cert.GupKIdeal.main_arg2))
      ∧ θ_run (Cert.GupRIdeal.defs (F := Ideal)) (onTc (τ := Cert.GupRIdeal.τ) (Cert.GupRIdeal.main (F := Ideal))) ⟨m', fun _ => 0, g'⟩ (fun r => ∀ c : Dev Cert.GupRIdeal.nD,
          r.2.mem ((c.tc : Thread Cert.GupRIdeal.nD Cert.GupRIdeal.τ).loc Cert.GupRIdeal.main_v5) = v0 c
          ∧ r.2.mem ((c.tc : Thread Cert.GupRIdeal.nD Cert.GupRIdeal.τ).loc Cert.GupRIdeal.main_v6) = v1 c
          ∧ r.2.mem ((c.tc : Thread Cert.GupRIdeal.nD Cert.GupRIdeal.τ).loc Cert.GupRIdeal.main_v7) = v2 c
          ∧ r.2.mem ((c.tc : Thread Cert.GupRIdeal.nD Cert.GupRIdeal.τ).loc Cert.GupRIdeal.main_arg0) = m' ((c.tc : Thread Cert.GupRIdeal.nD Cert.GupRIdeal.τ).loc Cert.GupRIdeal.main_arg0)
          ∧ r.2.mem ((c.tc : Thread Cert.GupRIdeal.nD Cert.GupRIdeal.τ).loc Cert.GupRIdeal.main_arg1) = m' ((c.tc : Thread Cert.GupRIdeal.nD Cert.GupRIdeal.τ).loc Cert.GupRIdeal.main_arg1)
          ∧ r.2.mem ((c.tc : Thread Cert.GupRIdeal.nD Cert.GupRIdeal.τ).loc Cert.GupRIdeal.main_arg2) = m' ((c.tc : Thread Cert.GupRIdeal.nD Cert.GupRIdeal.τ).loc Cert.GupRIdeal.main_arg2))

def preserves_MnfK_MnfKIdeal : Prop :=
  True

def algebraic_MnfKIdeal_MnfRIdeal [hMnfKIdeal : Cert.MnfKIdeal.Facts] [hMnfRIdeal : Cert.MnfRIdeal.Facts] : Prop :=
  ∀ (m : (ℓ : Loc Cert.MnfKIdeal.nD Cert.MnfKIdeal.τ Cert.MnfKIdeal.sig) → Buf (Elt Ideal) ℓ) (g : Dev Cert.MnfKIdeal.nD → PrngReg)
    (m' : (ℓ : Loc Cert.MnfRIdeal.nD Cert.MnfRIdeal.τ Cert.MnfRIdeal.sig) → Buf (Elt Ideal) ℓ) (g' : Dev Cert.MnfRIdeal.nD → PrngReg), Pre_MnfKIdeal m →
    (∀ c : Dev Cert.MnfKIdeal.nD,
      m' ((c.tc : Thread Cert.MnfRIdeal.nD Cert.MnfRIdeal.τ).loc Cert.MnfRIdeal.main_arg0) = m ((c.tc : Thread Cert.MnfKIdeal.nD Cert.MnfKIdeal.τ).loc Cert.MnfKIdeal.main_arg0)
      ∧ m' ((c.tc : Thread Cert.MnfRIdeal.nD Cert.MnfRIdeal.τ).loc Cert.MnfRIdeal.main_arg1) = m ((c.tc : Thread Cert.MnfKIdeal.nD Cert.MnfKIdeal.τ).loc Cert.MnfKIdeal.main_arg1)
      ∧ m' ((c.tc : Thread Cert.MnfRIdeal.nD Cert.MnfRIdeal.τ).loc Cert.MnfRIdeal.main_arg2) = m ((c.tc : Thread Cert.MnfKIdeal.nD Cert.MnfKIdeal.τ).loc Cert.MnfKIdeal.main_arg2)
      ∧ m' ((c.tc : Thread Cert.MnfRIdeal.nD Cert.MnfRIdeal.τ).loc Cert.MnfRIdeal.main_arg3) = m ((c.tc : Thread Cert.MnfKIdeal.nD Cert.MnfKIdeal.τ).loc Cert.MnfKIdeal.main_arg3)) →
    ∃ (v0 : (c : Dev Cert.MnfKIdeal.nD) → Buf (Elt Ideal) ((c.tc : Thread Cert.MnfKIdeal.nD Cert.MnfKIdeal.τ).loc Cert.MnfKIdeal.main_v1_0)) (v1 : (c : Dev Cert.MnfKIdeal.nD) → Buf (Elt Ideal) ((c.tc : Thread Cert.MnfKIdeal.nD Cert.MnfKIdeal.τ).loc Cert.MnfKIdeal.main_v1_1)),
      θ_run (Cert.MnfKIdeal.defs (F := Ideal)) (onTc (τ := Cert.MnfKIdeal.τ) (Cert.MnfKIdeal.main (F := Ideal))) ⟨m, fun _ => 0, g⟩ (fun r => ∀ c : Dev Cert.MnfKIdeal.nD,
          r.2.mem ((c.tc : Thread Cert.MnfKIdeal.nD Cert.MnfKIdeal.τ).loc Cert.MnfKIdeal.main_v1_0) = v0 c
          ∧ r.2.mem ((c.tc : Thread Cert.MnfKIdeal.nD Cert.MnfKIdeal.τ).loc Cert.MnfKIdeal.main_v1_1) = v1 c
          ∧ r.2.mem ((c.tc : Thread Cert.MnfKIdeal.nD Cert.MnfKIdeal.τ).loc Cert.MnfKIdeal.main_arg0) = m ((c.tc : Thread Cert.MnfKIdeal.nD Cert.MnfKIdeal.τ).loc Cert.MnfKIdeal.main_arg0)
          ∧ r.2.mem ((c.tc : Thread Cert.MnfKIdeal.nD Cert.MnfKIdeal.τ).loc Cert.MnfKIdeal.main_arg1) = m ((c.tc : Thread Cert.MnfKIdeal.nD Cert.MnfKIdeal.τ).loc Cert.MnfKIdeal.main_arg1)
          ∧ r.2.mem ((c.tc : Thread Cert.MnfKIdeal.nD Cert.MnfKIdeal.τ).loc Cert.MnfKIdeal.main_arg2) = m ((c.tc : Thread Cert.MnfKIdeal.nD Cert.MnfKIdeal.τ).loc Cert.MnfKIdeal.main_arg2)
          ∧ r.2.mem ((c.tc : Thread Cert.MnfKIdeal.nD Cert.MnfKIdeal.τ).loc Cert.MnfKIdeal.main_arg3) = m ((c.tc : Thread Cert.MnfKIdeal.nD Cert.MnfKIdeal.τ).loc Cert.MnfKIdeal.main_arg3))
      ∧ θ_run (Cert.MnfRIdeal.defs (F := Ideal)) (onTc (τ := Cert.MnfRIdeal.τ) (Cert.MnfRIdeal.main (F := Ideal))) ⟨m', fun _ => 0, g'⟩ (fun r => ∀ c : Dev Cert.MnfRIdeal.nD,
          r.2.mem ((c.tc : Thread Cert.MnfRIdeal.nD Cert.MnfRIdeal.τ).loc Cert.MnfRIdeal.main_v2) = v0 c
          ∧ r.2.mem ((c.tc : Thread Cert.MnfRIdeal.nD Cert.MnfRIdeal.τ).loc Cert.MnfRIdeal.main_v15) = v1 c
          ∧ r.2.mem ((c.tc : Thread Cert.MnfRIdeal.nD Cert.MnfRIdeal.τ).loc Cert.MnfRIdeal.main_arg0) = m' ((c.tc : Thread Cert.MnfRIdeal.nD Cert.MnfRIdeal.τ).loc Cert.MnfRIdeal.main_arg0)
          ∧ r.2.mem ((c.tc : Thread Cert.MnfRIdeal.nD Cert.MnfRIdeal.τ).loc Cert.MnfRIdeal.main_arg1) = m' ((c.tc : Thread Cert.MnfRIdeal.nD Cert.MnfRIdeal.τ).loc Cert.MnfRIdeal.main_arg1)
          ∧ r.2.mem ((c.tc : Thread Cert.MnfRIdeal.nD Cert.MnfRIdeal.τ).loc Cert.MnfRIdeal.main_arg2) = m' ((c.tc : Thread Cert.MnfRIdeal.nD Cert.MnfRIdeal.τ).loc Cert.MnfRIdeal.main_arg2)
          ∧ r.2.mem ((c.tc : Thread Cert.MnfRIdeal.nD Cert.MnfRIdeal.τ).loc Cert.MnfRIdeal.main_arg3) = m' ((c.tc : Thread Cert.MnfRIdeal.nD Cert.MnfRIdeal.τ).loc Cert.MnfRIdeal.main_arg3))

def preserves_MnmK_MnmKIdeal : Prop :=
  True

def algebraic_MnmKIdeal_MnmRIdeal [hMnmKIdeal : Cert.MnmKIdeal.Facts] [hMnmRIdeal : Cert.MnmRIdeal.Facts] : Prop :=
  ∀ (m : (ℓ : Loc Cert.MnmKIdeal.nD Cert.MnmKIdeal.τ Cert.MnmKIdeal.sig) → Buf (Elt Ideal) ℓ) (g : Dev Cert.MnmKIdeal.nD → PrngReg)
    (m' : (ℓ : Loc Cert.MnmRIdeal.nD Cert.MnmRIdeal.τ Cert.MnmRIdeal.sig) → Buf (Elt Ideal) ℓ) (g' : Dev Cert.MnmRIdeal.nD → PrngReg), Pre_MnmKIdeal m →
    (∀ c : Dev Cert.MnmKIdeal.nD,
      m' ((c.tc : Thread Cert.MnmRIdeal.nD Cert.MnmRIdeal.τ).loc Cert.MnmRIdeal.main_arg0) = m ((c.tc : Thread Cert.MnmKIdeal.nD Cert.MnmKIdeal.τ).loc Cert.MnmKIdeal.main_arg0)
      ∧ m' ((c.tc : Thread Cert.MnmRIdeal.nD Cert.MnmRIdeal.τ).loc Cert.MnmRIdeal.main_arg1) = m ((c.tc : Thread Cert.MnmKIdeal.nD Cert.MnmKIdeal.τ).loc Cert.MnmKIdeal.main_arg1)
      ∧ m' ((c.tc : Thread Cert.MnmRIdeal.nD Cert.MnmRIdeal.τ).loc Cert.MnmRIdeal.main_arg2) = m ((c.tc : Thread Cert.MnmKIdeal.nD Cert.MnmKIdeal.τ).loc Cert.MnmKIdeal.main_arg2)
      ∧ m' ((c.tc : Thread Cert.MnmRIdeal.nD Cert.MnmRIdeal.τ).loc Cert.MnmRIdeal.main_arg3) = m ((c.tc : Thread Cert.MnmKIdeal.nD Cert.MnmKIdeal.τ).loc Cert.MnmKIdeal.main_arg3)
      ∧ m' ((c.tc : Thread Cert.MnmRIdeal.nD Cert.MnmRIdeal.τ).loc Cert.MnmRIdeal.main_arg4) = m ((c.tc : Thread Cert.MnmKIdeal.nD Cert.MnmKIdeal.τ).loc Cert.MnmKIdeal.main_arg4)) →
    ∃ (v0 : (c : Dev Cert.MnmKIdeal.nD) → Buf (Elt Ideal) ((c.tc : Thread Cert.MnmKIdeal.nD Cert.MnmKIdeal.τ).loc Cert.MnmKIdeal.main_v1_0)) (v1 : (c : Dev Cert.MnmKIdeal.nD) → Buf (Elt Ideal) ((c.tc : Thread Cert.MnmKIdeal.nD Cert.MnmKIdeal.τ).loc Cert.MnmKIdeal.main_v1_1)),
      θ_run (Cert.MnmKIdeal.defs (F := Ideal)) (onTc (τ := Cert.MnmKIdeal.τ) (Cert.MnmKIdeal.main (F := Ideal))) ⟨m, fun _ => 0, g⟩ (fun r => ∀ c : Dev Cert.MnmKIdeal.nD,
          r.2.mem ((c.tc : Thread Cert.MnmKIdeal.nD Cert.MnmKIdeal.τ).loc Cert.MnmKIdeal.main_v1_0) = v0 c
          ∧ r.2.mem ((c.tc : Thread Cert.MnmKIdeal.nD Cert.MnmKIdeal.τ).loc Cert.MnmKIdeal.main_v1_1) = v1 c
          ∧ r.2.mem ((c.tc : Thread Cert.MnmKIdeal.nD Cert.MnmKIdeal.τ).loc Cert.MnmKIdeal.main_arg0) = m ((c.tc : Thread Cert.MnmKIdeal.nD Cert.MnmKIdeal.τ).loc Cert.MnmKIdeal.main_arg0)
          ∧ r.2.mem ((c.tc : Thread Cert.MnmKIdeal.nD Cert.MnmKIdeal.τ).loc Cert.MnmKIdeal.main_arg1) = m ((c.tc : Thread Cert.MnmKIdeal.nD Cert.MnmKIdeal.τ).loc Cert.MnmKIdeal.main_arg1)
          ∧ r.2.mem ((c.tc : Thread Cert.MnmKIdeal.nD Cert.MnmKIdeal.τ).loc Cert.MnmKIdeal.main_arg2) = m ((c.tc : Thread Cert.MnmKIdeal.nD Cert.MnmKIdeal.τ).loc Cert.MnmKIdeal.main_arg2)
          ∧ r.2.mem ((c.tc : Thread Cert.MnmKIdeal.nD Cert.MnmKIdeal.τ).loc Cert.MnmKIdeal.main_arg3) = m ((c.tc : Thread Cert.MnmKIdeal.nD Cert.MnmKIdeal.τ).loc Cert.MnmKIdeal.main_arg3)
          ∧ r.2.mem ((c.tc : Thread Cert.MnmKIdeal.nD Cert.MnmKIdeal.τ).loc Cert.MnmKIdeal.main_arg4) = m ((c.tc : Thread Cert.MnmKIdeal.nD Cert.MnmKIdeal.τ).loc Cert.MnmKIdeal.main_arg4))
      ∧ θ_run (Cert.MnmRIdeal.defs (F := Ideal)) (onTc (τ := Cert.MnmRIdeal.τ) (Cert.MnmRIdeal.main (F := Ideal))) ⟨m', fun _ => 0, g'⟩ (fun r => ∀ c : Dev Cert.MnmRIdeal.nD,
          r.2.mem ((c.tc : Thread Cert.MnmRIdeal.nD Cert.MnmRIdeal.τ).loc Cert.MnmRIdeal.main_v3) = v0 c
          ∧ r.2.mem ((c.tc : Thread Cert.MnmRIdeal.nD Cert.MnmRIdeal.τ).loc Cert.MnmRIdeal.main_v16) = v1 c
          ∧ r.2.mem ((c.tc : Thread Cert.MnmRIdeal.nD Cert.MnmRIdeal.τ).loc Cert.MnmRIdeal.main_arg0) = m' ((c.tc : Thread Cert.MnmRIdeal.nD Cert.MnmRIdeal.τ).loc Cert.MnmRIdeal.main_arg0)
          ∧ r.2.mem ((c.tc : Thread Cert.MnmRIdeal.nD Cert.MnmRIdeal.τ).loc Cert.MnmRIdeal.main_arg1) = m' ((c.tc : Thread Cert.MnmRIdeal.nD Cert.MnmRIdeal.τ).loc Cert.MnmRIdeal.main_arg1)
          ∧ r.2.mem ((c.tc : Thread Cert.MnmRIdeal.nD Cert.MnmRIdeal.τ).loc Cert.MnmRIdeal.main_arg2) = m' ((c.tc : Thread Cert.MnmRIdeal.nD Cert.MnmRIdeal.τ).loc Cert.MnmRIdeal.main_arg2)
          ∧ r.2.mem ((c.tc : Thread Cert.MnmRIdeal.nD Cert.MnmRIdeal.τ).loc Cert.MnmRIdeal.main_arg3) = m' ((c.tc : Thread Cert.MnmRIdeal.nD Cert.MnmRIdeal.τ).loc Cert.MnmRIdeal.main_arg3)
          ∧ r.2.mem ((c.tc : Thread Cert.MnmRIdeal.nD Cert.MnmRIdeal.τ).loc Cert.MnmRIdeal.main_arg4) = m' ((c.tc : Thread Cert.MnmRIdeal.nD Cert.MnmRIdeal.τ).loc Cert.MnmRIdeal.main_arg4))

def preserves_GatefK_GatefKIdeal : Prop :=
  True

def algebraic_GatefKIdeal_GatefRIdeal [hGatefKIdeal : Cert.GatefKIdeal.Facts] [hGatefRIdeal : Cert.GatefRIdeal.Facts] : Prop :=
  ∀ (m : (ℓ : Loc Cert.GatefKIdeal.nD Cert.GatefKIdeal.τ Cert.GatefKIdeal.sig) → Buf (Elt Ideal) ℓ) (g : Dev Cert.GatefKIdeal.nD → PrngReg)
    (m' : (ℓ : Loc Cert.GatefRIdeal.nD Cert.GatefRIdeal.τ Cert.GatefRIdeal.sig) → Buf (Elt Ideal) ℓ) (g' : Dev Cert.GatefRIdeal.nD → PrngReg), Pre_GatefKIdeal m →
    (∀ c : Dev Cert.GatefKIdeal.nD,
      m' ((c.tc : Thread Cert.GatefRIdeal.nD Cert.GatefRIdeal.τ).loc Cert.GatefRIdeal.main_arg0) = m ((c.tc : Thread Cert.GatefKIdeal.nD Cert.GatefKIdeal.τ).loc Cert.GatefKIdeal.main_arg0)
      ∧ m' ((c.tc : Thread Cert.GatefRIdeal.nD Cert.GatefRIdeal.τ).loc Cert.GatefRIdeal.main_arg1) = m ((c.tc : Thread Cert.GatefKIdeal.nD Cert.GatefKIdeal.τ).loc Cert.GatefKIdeal.main_arg1)
      ∧ m' ((c.tc : Thread Cert.GatefRIdeal.nD Cert.GatefRIdeal.τ).loc Cert.GatefRIdeal.main_arg2) = m ((c.tc : Thread Cert.GatefKIdeal.nD Cert.GatefKIdeal.τ).loc Cert.GatefKIdeal.main_arg2)
      ∧ m' ((c.tc : Thread Cert.GatefRIdeal.nD Cert.GatefRIdeal.τ).loc Cert.GatefRIdeal.main_arg3) = m ((c.tc : Thread Cert.GatefKIdeal.nD Cert.GatefKIdeal.τ).loc Cert.GatefKIdeal.main_arg3)
      ∧ m' ((c.tc : Thread Cert.GatefRIdeal.nD Cert.GatefRIdeal.τ).loc Cert.GatefRIdeal.main_arg4) = m ((c.tc : Thread Cert.GatefKIdeal.nD Cert.GatefKIdeal.τ).loc Cert.GatefKIdeal.main_arg4)) →
    ∃ (v0 : (c : Dev Cert.GatefKIdeal.nD) → Buf (Elt Ideal) ((c.tc : Thread Cert.GatefKIdeal.nD Cert.GatefKIdeal.τ).loc Cert.GatefKIdeal.main_v3_0)) (v1 : (c : Dev Cert.GatefKIdeal.nD) → Buf (Elt Ideal) ((c.tc : Thread Cert.GatefKIdeal.nD Cert.GatefKIdeal.τ).loc Cert.GatefKIdeal.main_v3_1)),
      θ_run (Cert.GatefKIdeal.defs (F := Ideal)) (onTc (τ := Cert.GatefKIdeal.τ) (Cert.GatefKIdeal.main (F := Ideal))) ⟨m, fun _ => 0, g⟩ (fun r => ∀ c : Dev Cert.GatefKIdeal.nD,
          r.2.mem ((c.tc : Thread Cert.GatefKIdeal.nD Cert.GatefKIdeal.τ).loc Cert.GatefKIdeal.main_v3_0) = v0 c
          ∧ r.2.mem ((c.tc : Thread Cert.GatefKIdeal.nD Cert.GatefKIdeal.τ).loc Cert.GatefKIdeal.main_v3_1) = v1 c
          ∧ r.2.mem ((c.tc : Thread Cert.GatefKIdeal.nD Cert.GatefKIdeal.τ).loc Cert.GatefKIdeal.main_arg0) = m ((c.tc : Thread Cert.GatefKIdeal.nD Cert.GatefKIdeal.τ).loc Cert.GatefKIdeal.main_arg0)
          ∧ r.2.mem ((c.tc : Thread Cert.GatefKIdeal.nD Cert.GatefKIdeal.τ).loc Cert.GatefKIdeal.main_arg1) = m ((c.tc : Thread Cert.GatefKIdeal.nD Cert.GatefKIdeal.τ).loc Cert.GatefKIdeal.main_arg1)
          ∧ r.2.mem ((c.tc : Thread Cert.GatefKIdeal.nD Cert.GatefKIdeal.τ).loc Cert.GatefKIdeal.main_arg2) = m ((c.tc : Thread Cert.GatefKIdeal.nD Cert.GatefKIdeal.τ).loc Cert.GatefKIdeal.main_arg2)
          ∧ r.2.mem ((c.tc : Thread Cert.GatefKIdeal.nD Cert.GatefKIdeal.τ).loc Cert.GatefKIdeal.main_arg3) = m ((c.tc : Thread Cert.GatefKIdeal.nD Cert.GatefKIdeal.τ).loc Cert.GatefKIdeal.main_arg3)
          ∧ r.2.mem ((c.tc : Thread Cert.GatefKIdeal.nD Cert.GatefKIdeal.τ).loc Cert.GatefKIdeal.main_arg4) = m ((c.tc : Thread Cert.GatefKIdeal.nD Cert.GatefKIdeal.τ).loc Cert.GatefKIdeal.main_arg4))
      ∧ θ_run (Cert.GatefRIdeal.defs (F := Ideal)) (onTc (τ := Cert.GatefRIdeal.τ) (Cert.GatefRIdeal.main (F := Ideal))) ⟨m', fun _ => 0, g'⟩ (fun r => ∀ c : Dev Cert.GatefRIdeal.nD,
          r.2.mem ((c.tc : Thread Cert.GatefRIdeal.nD Cert.GatefRIdeal.τ).loc Cert.GatefRIdeal.main_v50) = v0 c
          ∧ r.2.mem ((c.tc : Thread Cert.GatefRIdeal.nD Cert.GatefRIdeal.τ).loc Cert.GatefRIdeal.main_v52) = v1 c
          ∧ r.2.mem ((c.tc : Thread Cert.GatefRIdeal.nD Cert.GatefRIdeal.τ).loc Cert.GatefRIdeal.main_arg0) = m' ((c.tc : Thread Cert.GatefRIdeal.nD Cert.GatefRIdeal.τ).loc Cert.GatefRIdeal.main_arg0)
          ∧ r.2.mem ((c.tc : Thread Cert.GatefRIdeal.nD Cert.GatefRIdeal.τ).loc Cert.GatefRIdeal.main_arg1) = m' ((c.tc : Thread Cert.GatefRIdeal.nD Cert.GatefRIdeal.τ).loc Cert.GatefRIdeal.main_arg1)
          ∧ r.2.mem ((c.tc : Thread Cert.GatefRIdeal.nD Cert.GatefRIdeal.τ).loc Cert.GatefRIdeal.main_arg2) = m' ((c.tc : Thread Cert.GatefRIdeal.nD Cert.GatefRIdeal.τ).loc Cert.GatefRIdeal.main_arg2)
          ∧ r.2.mem ((c.tc : Thread Cert.GatefRIdeal.nD Cert.GatefRIdeal.τ).loc Cert.GatefRIdeal.main_arg3) = m' ((c.tc : Thread Cert.GatefRIdeal.nD Cert.GatefRIdeal.τ).loc Cert.GatefRIdeal.main_arg3)
          ∧ r.2.mem ((c.tc : Thread Cert.GatefRIdeal.nD Cert.GatefRIdeal.τ).loc Cert.GatefRIdeal.main_arg4) = m' ((c.tc : Thread Cert.GatefRIdeal.nD Cert.GatefRIdeal.τ).loc Cert.GatefRIdeal.main_arg4))

def preserves_GatebK_GatebKIdeal : Prop :=
  True

def algebraic_GatebKIdeal_GatebRIdeal [hGatebKIdeal : Cert.GatebKIdeal.Facts] [hGatebRIdeal : Cert.GatebRIdeal.Facts] : Prop :=
  ∀ (m : (ℓ : Loc Cert.GatebKIdeal.nD Cert.GatebKIdeal.τ Cert.GatebKIdeal.sig) → Buf (Elt Ideal) ℓ) (g : Dev Cert.GatebKIdeal.nD → PrngReg)
    (m' : (ℓ : Loc Cert.GatebRIdeal.nD Cert.GatebRIdeal.τ Cert.GatebRIdeal.sig) → Buf (Elt Ideal) ℓ) (g' : Dev Cert.GatebRIdeal.nD → PrngReg), Pre_GatebKIdeal m →
    (∀ c : Dev Cert.GatebKIdeal.nD,
      m' ((c.tc : Thread Cert.GatebRIdeal.nD Cert.GatebRIdeal.τ).loc Cert.GatebRIdeal.main_arg0) = m ((c.tc : Thread Cert.GatebKIdeal.nD Cert.GatebKIdeal.τ).loc Cert.GatebKIdeal.main_arg0)
      ∧ m' ((c.tc : Thread Cert.GatebRIdeal.nD Cert.GatebRIdeal.τ).loc Cert.GatebRIdeal.main_arg1) = m ((c.tc : Thread Cert.GatebKIdeal.nD Cert.GatebKIdeal.τ).loc Cert.GatebKIdeal.main_arg1)
      ∧ m' ((c.tc : Thread Cert.GatebRIdeal.nD Cert.GatebRIdeal.τ).loc Cert.GatebRIdeal.main_arg2) = m ((c.tc : Thread Cert.GatebKIdeal.nD Cert.GatebKIdeal.τ).loc Cert.GatebKIdeal.main_arg2)
      ∧ m' ((c.tc : Thread Cert.GatebRIdeal.nD Cert.GatebRIdeal.τ).loc Cert.GatebRIdeal.main_arg3) = m ((c.tc : Thread Cert.GatebKIdeal.nD Cert.GatebKIdeal.τ).loc Cert.GatebKIdeal.main_arg3)
      ∧ m' ((c.tc : Thread Cert.GatebRIdeal.nD Cert.GatebRIdeal.τ).loc Cert.GatebRIdeal.main_arg4) = m ((c.tc : Thread Cert.GatebKIdeal.nD Cert.GatebKIdeal.τ).loc Cert.GatebKIdeal.main_arg4)
      ∧ m' ((c.tc : Thread Cert.GatebRIdeal.nD Cert.GatebRIdeal.τ).loc Cert.GatebRIdeal.main_arg5) = m ((c.tc : Thread Cert.GatebKIdeal.nD Cert.GatebKIdeal.τ).loc Cert.GatebKIdeal.main_arg5)) →
    ∃ (v0 : (c : Dev Cert.GatebKIdeal.nD) → Buf (Elt Ideal) ((c.tc : Thread Cert.GatebKIdeal.nD Cert.GatebKIdeal.τ).loc Cert.GatebKIdeal.main_v47_4)),
      θ_run (Cert.GatebKIdeal.defs (F := Ideal)) (onTc (τ := Cert.GatebKIdeal.τ) (Cert.GatebKIdeal.main (F := Ideal))) ⟨m, fun _ => 0, g⟩ (fun r => ∀ c : Dev Cert.GatebKIdeal.nD,
          r.2.mem ((c.tc : Thread Cert.GatebKIdeal.nD Cert.GatebKIdeal.τ).loc Cert.GatebKIdeal.main_v47_4) = v0 c
          ∧ r.2.mem ((c.tc : Thread Cert.GatebKIdeal.nD Cert.GatebKIdeal.τ).loc Cert.GatebKIdeal.main_arg0) = m ((c.tc : Thread Cert.GatebKIdeal.nD Cert.GatebKIdeal.τ).loc Cert.GatebKIdeal.main_arg0)
          ∧ r.2.mem ((c.tc : Thread Cert.GatebKIdeal.nD Cert.GatebKIdeal.τ).loc Cert.GatebKIdeal.main_arg1) = m ((c.tc : Thread Cert.GatebKIdeal.nD Cert.GatebKIdeal.τ).loc Cert.GatebKIdeal.main_arg1)
          ∧ r.2.mem ((c.tc : Thread Cert.GatebKIdeal.nD Cert.GatebKIdeal.τ).loc Cert.GatebKIdeal.main_arg2) = m ((c.tc : Thread Cert.GatebKIdeal.nD Cert.GatebKIdeal.τ).loc Cert.GatebKIdeal.main_arg2)
          ∧ r.2.mem ((c.tc : Thread Cert.GatebKIdeal.nD Cert.GatebKIdeal.τ).loc Cert.GatebKIdeal.main_arg3) = m ((c.tc : Thread Cert.GatebKIdeal.nD Cert.GatebKIdeal.τ).loc Cert.GatebKIdeal.main_arg3)
          ∧ r.2.mem ((c.tc : Thread Cert.GatebKIdeal.nD Cert.GatebKIdeal.τ).loc Cert.GatebKIdeal.main_arg4) = m ((c.tc : Thread Cert.GatebKIdeal.nD Cert.GatebKIdeal.τ).loc Cert.GatebKIdeal.main_arg4)
          ∧ r.2.mem ((c.tc : Thread Cert.GatebKIdeal.nD Cert.GatebKIdeal.τ).loc Cert.GatebKIdeal.main_arg5) = m ((c.tc : Thread Cert.GatebKIdeal.nD Cert.GatebKIdeal.τ).loc Cert.GatebKIdeal.main_arg5))
      ∧ θ_run (Cert.GatebRIdeal.defs (F := Ideal)) (onTc (τ := Cert.GatebRIdeal.τ) (Cert.GatebRIdeal.main (F := Ideal))) ⟨m', fun _ => 0, g'⟩ (fun r => ∀ c : Dev Cert.GatebRIdeal.nD,
          r.2.mem ((c.tc : Thread Cert.GatebRIdeal.nD Cert.GatebRIdeal.τ).loc Cert.GatebRIdeal.main_v56) = v0 c
          ∧ r.2.mem ((c.tc : Thread Cert.GatebRIdeal.nD Cert.GatebRIdeal.τ).loc Cert.GatebRIdeal.main_arg0) = m' ((c.tc : Thread Cert.GatebRIdeal.nD Cert.GatebRIdeal.τ).loc Cert.GatebRIdeal.main_arg0)
          ∧ r.2.mem ((c.tc : Thread Cert.GatebRIdeal.nD Cert.GatebRIdeal.τ).loc Cert.GatebRIdeal.main_arg1) = m' ((c.tc : Thread Cert.GatebRIdeal.nD Cert.GatebRIdeal.τ).loc Cert.GatebRIdeal.main_arg1)
          ∧ r.2.mem ((c.tc : Thread Cert.GatebRIdeal.nD Cert.GatebRIdeal.τ).loc Cert.GatebRIdeal.main_arg2) = m' ((c.tc : Thread Cert.GatebRIdeal.nD Cert.GatebRIdeal.τ).loc Cert.GatebRIdeal.main_arg2)
          ∧ r.2.mem ((c.tc : Thread Cert.GatebRIdeal.nD Cert.GatebRIdeal.τ).loc Cert.GatebRIdeal.main_arg3) = m' ((c.tc : Thread Cert.GatebRIdeal.nD Cert.GatebRIdeal.τ).loc Cert.GatebRIdeal.main_arg3)
          ∧ r.2.mem ((c.tc : Thread Cert.GatebRIdeal.nD Cert.GatebRIdeal.τ).loc Cert.GatebRIdeal.main_arg4) = m' ((c.tc : Thread Cert.GatebRIdeal.nD Cert.GatebRIdeal.τ).loc Cert.GatebRIdeal.main_arg4)
          ∧ r.2.mem ((c.tc : Thread Cert.GatebRIdeal.nD Cert.GatebRIdeal.τ).loc Cert.GatebRIdeal.main_arg5) = m' ((c.tc : Thread Cert.GatebRIdeal.nD Cert.GatebRIdeal.τ).loc Cert.GatebRIdeal.main_arg5))

def Claim : Prop :=
  ∃ (hFinalK : Cert.FinalK.Facts) (hFinalKIdeal : Cert.FinalKIdeal.Facts) (hFinalRIdeal : Cert.FinalRIdeal.Facts) (hDactK : Cert.DactK.Facts) (hDactKIdeal : Cert.DactKIdeal.Facts) (hDactRIdeal : Cert.DactRIdeal.Facts) (hDnK : Cert.DnK.Facts) (hDnKIdeal : Cert.DnKIdeal.Facts) (hDnRIdeal : Cert.DnRIdeal.Facts) (hTailK : Cert.TailK.Facts) (hTailKIdeal : Cert.TailKIdeal.Facts) (hTailRIdeal : Cert.TailRIdeal.Facts) (hDninK : Cert.DninK.Facts) (hDninKIdeal : Cert.DninKIdeal.Facts) (hDninRIdeal : Cert.DninRIdeal.Facts) (hDnodK : Cert.DnodK.Facts) (hDnodKIdeal : Cert.DnodKIdeal.Facts) (hDnodRIdeal : Cert.DnodRIdeal.Facts) (hAttnf16K : Cert.Attnf16K.Facts) (hAttnf16KIdeal : Cert.Attnf16KIdeal.Facts) (hAttnf16RIdeal : Cert.Attnf16RIdeal.Facts) (hAttnf4K : Cert.Attnf4K.Facts) (hAttnf4KIdeal : Cert.Attnf4KIdeal.Facts) (hAttnf4RIdeal : Cert.Attnf4RIdeal.Facts) (hAttnf1K : Cert.Attnf1K.Facts) (hAttnf1KIdeal : Cert.Attnf1KIdeal.Facts) (hAttnf1RIdeal : Cert.Attnf1RIdeal.Facts) (hAttnfeK : Cert.AttnfeK.Facts) (hAttnfeKIdeal : Cert.AttnfeKIdeal.Facts) (hAttnfeRIdeal : Cert.AttnfeRIdeal.Facts) (hAttnb16K : Cert.Attnb16K.Facts) (hAttnb16KIdeal : Cert.Attnb16KIdeal.Facts) (hAttnb16RIdeal : Cert.Attnb16RIdeal.Facts) (hPosteK : Cert.PosteK.Facts) (hPosteKIdeal : Cert.PosteKIdeal.Facts) (hPosteRIdeal : Cert.PosteRIdeal.Facts) (hRmsfK : Cert.RmsfK.Facts) (hRmsfKIdeal : Cert.RmsfKIdeal.Facts) (hRmsfRIdeal : Cert.RmsfRIdeal.Facts) (hPrepeK : Cert.PrepeK.Facts) (hPrepeKIdeal : Cert.PrepeKIdeal.Facts) (hPrepeRIdeal : Cert.PrepeRIdeal.Facts) (hGupK : Cert.GupK.Facts) (hGupKIdeal : Cert.GupKIdeal.Facts) (hGupRIdeal : Cert.GupRIdeal.Facts) (hMnfK : Cert.MnfK.Facts) (hMnfKIdeal : Cert.MnfKIdeal.Facts) (hMnfRIdeal : Cert.MnfRIdeal.Facts) (hMnmK : Cert.MnmK.Facts) (hMnmKIdeal : Cert.MnmKIdeal.Facts) (hMnmRIdeal : Cert.MnmRIdeal.Facts) (hGatefK : Cert.GatefK.Facts) (hGatefKIdeal : Cert.GatefKIdeal.Facts) (hGatefRIdeal : Cert.GatefRIdeal.Facts) (hGatebK : Cert.GatebK.Facts) (hGatebKIdeal : Cert.GatebKIdeal.Facts) (hGatebRIdeal : Cert.GatebRIdeal.Facts) (hPre_final_finite : Cert.Pre_final_finite.Facts) (hPre_dact_finite : Cert.Pre_dact_finite.Facts) (hPre_dnorm_finite : Cert.Pre_dnorm_finite.Facts) (hPre_tail_finite : Cert.Pre_tail_finite.Facts) (hPre_dnin_finite : Cert.Pre_dnin_finite.Facts) (hPre_dnod_finite : Cert.Pre_dnod_finite.Facts) (hPre_attnb16_finite : Cert.Pre_attnb16_finite.Facts),
    quiescent_FinalK (hFinalK := hFinalK)
    ∧ quiescent_FinalKIdeal (hFinalKIdeal := hFinalKIdeal)
    ∧ quiescent_FinalKIdeal_pre_final_finite (hFinalKIdeal := hFinalKIdeal) (hPre_final_finite := hPre_final_finite)
    ∧ quiescent_FinalRIdeal (hFinalRIdeal := hFinalRIdeal)
    ∧ quiescent_FinalRIdeal_pre_final_finite (hFinalRIdeal := hFinalRIdeal) (hPre_final_finite := hPre_final_finite)
    ∧ quiescent_DactK (hDactK := hDactK)
    ∧ quiescent_DactKIdeal (hDactKIdeal := hDactKIdeal)
    ∧ quiescent_DactKIdeal_pre_dact_finite (hDactKIdeal := hDactKIdeal) (hPre_dact_finite := hPre_dact_finite)
    ∧ quiescent_DactRIdeal (hDactRIdeal := hDactRIdeal)
    ∧ quiescent_DactRIdeal_pre_dact_finite (hDactRIdeal := hDactRIdeal) (hPre_dact_finite := hPre_dact_finite)
    ∧ quiescent_DnK (hDnK := hDnK)
    ∧ quiescent_DnKIdeal (hDnKIdeal := hDnKIdeal)
    ∧ quiescent_DnKIdeal_pre_dnorm_finite (hDnKIdeal := hDnKIdeal) (hPre_dnorm_finite := hPre_dnorm_finite)
    ∧ quiescent_DnRIdeal (hDnRIdeal := hDnRIdeal)
    ∧ quiescent_DnRIdeal_pre_dnorm_finite (hDnRIdeal := hDnRIdeal) (hPre_dnorm_finite := hPre_dnorm_finite)
    ∧ quiescent_TailK (hTailK := hTailK)
    ∧ quiescent_TailKIdeal (hTailKIdeal := hTailKIdeal)
    ∧ quiescent_TailKIdeal_pre_tail_finite (hTailKIdeal := hTailKIdeal) (hPre_tail_finite := hPre_tail_finite)
    ∧ quiescent_TailRIdeal (hTailRIdeal := hTailRIdeal)
    ∧ quiescent_TailRIdeal_pre_tail_finite (hTailRIdeal := hTailRIdeal) (hPre_tail_finite := hPre_tail_finite)
    ∧ quiescent_DninK (hDninK := hDninK)
    ∧ quiescent_DninKIdeal (hDninKIdeal := hDninKIdeal)
    ∧ quiescent_DninKIdeal_pre_dnin_finite (hDninKIdeal := hDninKIdeal) (hPre_dnin_finite := hPre_dnin_finite)
    ∧ quiescent_DninRIdeal (hDninRIdeal := hDninRIdeal)
    ∧ quiescent_DninRIdeal_pre_dnin_finite (hDninRIdeal := hDninRIdeal) (hPre_dnin_finite := hPre_dnin_finite)
    ∧ quiescent_DnodK (hDnodK := hDnodK)
    ∧ quiescent_DnodKIdeal (hDnodKIdeal := hDnodKIdeal)
    ∧ quiescent_DnodKIdeal_pre_dnod_finite (hDnodKIdeal := hDnodKIdeal) (hPre_dnod_finite := hPre_dnod_finite)
    ∧ quiescent_DnodRIdeal (hDnodRIdeal := hDnodRIdeal)
    ∧ quiescent_DnodRIdeal_pre_dnod_finite (hDnodRIdeal := hDnodRIdeal) (hPre_dnod_finite := hPre_dnod_finite)
    ∧ quiescent_Attnf16K (hAttnf16K := hAttnf16K)
    ∧ quiescent_Attnf16KIdeal (hAttnf16KIdeal := hAttnf16KIdeal)
    ∧ quiescent_Attnf16RIdeal (hAttnf16RIdeal := hAttnf16RIdeal)
    ∧ quiescent_Attnf4K (hAttnf4K := hAttnf4K)
    ∧ quiescent_Attnf4KIdeal (hAttnf4KIdeal := hAttnf4KIdeal)
    ∧ quiescent_Attnf4RIdeal (hAttnf4RIdeal := hAttnf4RIdeal)
    ∧ quiescent_Attnf1K (hAttnf1K := hAttnf1K)
    ∧ quiescent_Attnf1KIdeal (hAttnf1KIdeal := hAttnf1KIdeal)
    ∧ quiescent_Attnf1RIdeal (hAttnf1RIdeal := hAttnf1RIdeal)
    ∧ quiescent_AttnfeK (hAttnfeK := hAttnfeK)
    ∧ quiescent_AttnfeKIdeal (hAttnfeKIdeal := hAttnfeKIdeal)
    ∧ quiescent_AttnfeRIdeal (hAttnfeRIdeal := hAttnfeRIdeal)
    ∧ quiescent_Attnb16K (hAttnb16K := hAttnb16K)
    ∧ quiescent_Attnb16KIdeal (hAttnb16KIdeal := hAttnb16KIdeal)
    ∧ quiescent_Attnb16KIdeal_pre_attnb16_finite (hAttnb16KIdeal := hAttnb16KIdeal) (hPre_attnb16_finite := hPre_attnb16_finite)
    ∧ quiescent_Attnb16RIdeal (hAttnb16RIdeal := hAttnb16RIdeal)
    ∧ quiescent_Attnb16RIdeal_pre_attnb16_finite (hAttnb16RIdeal := hAttnb16RIdeal) (hPre_attnb16_finite := hPre_attnb16_finite)
    ∧ quiescent_PosteK (hPosteK := hPosteK)
    ∧ quiescent_PosteKIdeal (hPosteKIdeal := hPosteKIdeal)
    ∧ quiescent_PosteRIdeal (hPosteRIdeal := hPosteRIdeal)
    ∧ quiescent_RmsfK (hRmsfK := hRmsfK)
    ∧ quiescent_RmsfKIdeal (hRmsfKIdeal := hRmsfKIdeal)
    ∧ quiescent_RmsfRIdeal (hRmsfRIdeal := hRmsfRIdeal)
    ∧ quiescent_PrepeK (hPrepeK := hPrepeK)
    ∧ quiescent_PrepeKIdeal (hPrepeKIdeal := hPrepeKIdeal)
    ∧ quiescent_PrepeRIdeal (hPrepeRIdeal := hPrepeRIdeal)
    ∧ quiescent_GupK (hGupK := hGupK)
    ∧ quiescent_GupKIdeal (hGupKIdeal := hGupKIdeal)
    ∧ quiescent_GupRIdeal (hGupRIdeal := hGupRIdeal)
    ∧ quiescent_MnfK (hMnfK := hMnfK)
    ∧ quiescent_MnfKIdeal (hMnfKIdeal := hMnfKIdeal)
    ∧ quiescent_MnfRIdeal (hMnfRIdeal := hMnfRIdeal)
    ∧ quiescent_MnmK (hMnmK := hMnmK)
    ∧ quiescent_MnmKIdeal (hMnmKIdeal := hMnmKIdeal)
    ∧ quiescent_MnmRIdeal (hMnmRIdeal := hMnmRIdeal)
    ∧ quiescent_GatefK (hGatefK := hGatefK)
    ∧ quiescent_GatefKIdeal (hGatefKIdeal := hGatefKIdeal)
    ∧ quiescent_GatefRIdeal (hGatefRIdeal := hGatefRIdeal)
    ∧ quiescent_GatebK (hGatebK := hGatebK)
    ∧ quiescent_GatebKIdeal (hGatebKIdeal := hGatebKIdeal)
    ∧ quiescent_GatebRIdeal (hGatebRIdeal := hGatebRIdeal)
    ∧ preserves_FinalK_FinalKIdeal
    ∧ algebraic_FinalKIdeal_FinalRIdeal_pre_final_finite (hFinalKIdeal := hFinalKIdeal) (hFinalRIdeal := hFinalRIdeal) (hPre_final_finite := hPre_final_finite)
    ∧ preserves_DactK_DactKIdeal
    ∧ algebraic_DactKIdeal_DactRIdeal_pre_dact_finite (hDactKIdeal := hDactKIdeal) (hDactRIdeal := hDactRIdeal) (hPre_dact_finite := hPre_dact_finite)
    ∧ preserves_DnK_DnKIdeal
    ∧ algebraic_DnKIdeal_DnRIdeal_pre_dnorm_finite (hDnKIdeal := hDnKIdeal) (hDnRIdeal := hDnRIdeal) (hPre_dnorm_finite := hPre_dnorm_finite)
    ∧ preserves_TailK_TailKIdeal
    ∧ algebraic_TailKIdeal_TailRIdeal_pre_tail_finite (hTailKIdeal := hTailKIdeal) (hTailRIdeal := hTailRIdeal) (hPre_tail_finite := hPre_tail_finite)
    ∧ preserves_DninK_DninKIdeal
    ∧ algebraic_DninKIdeal_DninRIdeal_pre_dnin_finite (hDninKIdeal := hDninKIdeal) (hDninRIdeal := hDninRIdeal) (hPre_dnin_finite := hPre_dnin_finite)
    ∧ preserves_DnodK_DnodKIdeal
    ∧ algebraic_DnodKIdeal_DnodRIdeal_pre_dnod_finite (hDnodKIdeal := hDnodKIdeal) (hDnodRIdeal := hDnodRIdeal) (hPre_dnod_finite := hPre_dnod_finite)
    ∧ preserves_Attnf16K_Attnf16KIdeal
    ∧ algebraic_Attnf16KIdeal_Attnf16RIdeal (hAttnf16KIdeal := hAttnf16KIdeal) (hAttnf16RIdeal := hAttnf16RIdeal)
    ∧ preserves_Attnf4K_Attnf4KIdeal
    ∧ algebraic_Attnf4KIdeal_Attnf4RIdeal (hAttnf4KIdeal := hAttnf4KIdeal) (hAttnf4RIdeal := hAttnf4RIdeal)
    ∧ preserves_Attnf1K_Attnf1KIdeal
    ∧ algebraic_Attnf1KIdeal_Attnf1RIdeal (hAttnf1KIdeal := hAttnf1KIdeal) (hAttnf1RIdeal := hAttnf1RIdeal)
    ∧ preserves_AttnfeK_AttnfeKIdeal
    ∧ algebraic_AttnfeKIdeal_AttnfeRIdeal (hAttnfeKIdeal := hAttnfeKIdeal) (hAttnfeRIdeal := hAttnfeRIdeal)
    ∧ preserves_Attnb16K_Attnb16KIdeal
    ∧ algebraic_Attnb16KIdeal_Attnb16RIdeal_pre_attnb16_finite (hAttnb16KIdeal := hAttnb16KIdeal) (hAttnb16RIdeal := hAttnb16RIdeal) (hPre_attnb16_finite := hPre_attnb16_finite)
    ∧ preserves_PosteK_PosteKIdeal
    ∧ algebraic_PosteKIdeal_PosteRIdeal (hPosteKIdeal := hPosteKIdeal) (hPosteRIdeal := hPosteRIdeal)
    ∧ preserves_RmsfK_RmsfKIdeal
    ∧ algebraic_RmsfKIdeal_RmsfRIdeal (hRmsfKIdeal := hRmsfKIdeal) (hRmsfRIdeal := hRmsfRIdeal)
    ∧ preserves_PrepeK_PrepeKIdeal
    ∧ algebraic_PrepeKIdeal_PrepeRIdeal (hPrepeKIdeal := hPrepeKIdeal) (hPrepeRIdeal := hPrepeRIdeal)
    ∧ preserves_GupK_GupKIdeal
    ∧ algebraic_GupKIdeal_GupRIdeal (hGupKIdeal := hGupKIdeal) (hGupRIdeal := hGupRIdeal)
    ∧ preserves_MnfK_MnfKIdeal
    ∧ algebraic_MnfKIdeal_MnfRIdeal (hMnfKIdeal := hMnfKIdeal) (hMnfRIdeal := hMnfRIdeal)
    ∧ preserves_MnmK_MnmKIdeal
    ∧ algebraic_MnmKIdeal_MnmRIdeal (hMnmKIdeal := hMnmKIdeal) (hMnmRIdeal := hMnmRIdeal)
    ∧ preserves_GatefK_GatefKIdeal
    ∧ algebraic_GatefKIdeal_GatefRIdeal (hGatefKIdeal := hGatefKIdeal) (hGatefRIdeal := hGatefRIdeal)
    ∧ preserves_GatebK_GatebKIdeal
    ∧ algebraic_GatebKIdeal_GatebRIdeal (hGatebKIdeal := hGatebKIdeal) (hGatebRIdeal := hGatebRIdeal)
-- ==== Pre_attnb16_finite.lean ====
abbrev S1x8192x512 : Shape := ⟨3, ![1, 8192, 512]⟩
abbrev S4x2048x512 : Shape := ⟨3, ![4, 2048, 512]⟩
abbrev S16x512x512 : Shape := ⟨3, ![16, 512, 512]⟩
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bitsLt_bf16_f32 : FTy.bits .bf16 < FTy.bits .f32
  bcast_S_S1x8192x512 : S_.BroadcastsInDim S1x8192x512 (![] : Fin 0 → Fin S1x8192x512.rank)
  reducesTo_S1x8192x512_S_d0_1_2 : S1x8192x512.ReducesTo [0, 1, 2] S_
  bcast_S_S4x2048x512 : S_.BroadcastsInDim S4x2048x512 (![] : Fin 0 → Fin S4x2048x512.rank)
  reducesTo_S4x2048x512_S_d0_1_2 : S4x2048x512.ReducesTo [0, 1, 2] S_
  bcast_S_S16x512x512 : S_.BroadcastsInDim S16x512x512 (![] : Fin 0 → Fin S16x512x512.rank)
  reducesTo_S16x512x512_S_d0_1_2 : S16x512x512.ReducesTo [0, 1, 2] S_

variable [Facts]

def fn_part3 {F : FTy → Type} [FloatOps F] (main_v51 : IVec S_ 1) (main_v53 : FVec F S16x512x512 .f32) : IVec S_ 1 :=
  let main_cst_16 : FVec F S_ .f32 := constant S_ .f32 0x7F800000#32
  let main_v54 : FVec F S16x512x512 .f32 := broadcastInDim S16x512x512 ![] bcast_S_S16x512x512 main_cst_16
  let main_v55 : IVec S16x512x512 1 := cmpf .olt main_v53 main_v54
  let main_c_17 : IVec S_ 1 := constantI S_ 1 1#1
  let main_v56 : IVec S_ 1 := (fun x v => Host.reduce IntOp.andi x v reducesTo_S16x512x512_S_d0_1_2 h_S_) main_v55 main_c_17
  let main_v57 : IVec S_ 1 := andi main_v51 main_v56
  main_v57

def fn_part2 {F : FTy → Type} [FloatOps F] (main_arg6 : FVec F S16x512x512 .bf16) (main_arg7 : FVec F S16x512x512 .bf16) (main_arg8 : FVec F S16x512x512 .bf16) (main_v33 : IVec S_ 1) (main_v35 : FVec F S4x2048x512 .f32) : IVec S_ 1 :=
  let main_cst_10 : FVec F S_ .f32 := constant S_ .f32 0x7F800000#32
  let main_v36 : FVec F S4x2048x512 .f32 := broadcastInDim S4x2048x512 ![] bcast_S_S4x2048x512 main_cst_10
  let main_v37 : IVec S4x2048x512 1 := cmpf .olt main_v35 main_v36
  let main_c_11 : IVec S_ 1 := constantI S_ 1 1#1
  let main_v38 : IVec S_ 1 := (fun x v => Host.reduce IntOp.andi x v reducesTo_S4x2048x512_S_d0_1_2 h_S_) main_v37 main_c_11
  let main_v39 : IVec S_ 1 := andi main_v33 main_v38
  let main_v40 : FVec F S16x512x512 .f32 := (extf .f32 · bitsLt_bf16_f32) main_arg6
  let main_v41 : FVec F S16x512x512 .f32 := Host.absf main_v40
  let main_cst_12 : FVec F S_ .f32 := constant S_ .f32 0x7F800000#32
  let main_v42 : FVec F S16x512x512 .f32 := broadcastInDim S16x512x512 ![] bcast_S_S16x512x512 main_cst_12
  let main_v43 : IVec S16x512x512 1 := cmpf .olt main_v41 main_v42
  let main_c_13 : IVec S_ 1 := constantI S_ 1 1#1
  let main_v44 : IVec S_ 1 := (fun x v => Host.reduce IntOp.andi x v reducesTo_S16x512x512_S_d0_1_2 h_S_) main_v43 main_c_13
  let main_v45 : IVec S_ 1 := andi main_v39 main_v44
  let main_v46 : FVec F S16x512x512 .f32 := (extf .f32 · bitsLt_bf16_f32) main_arg7
  let main_v47 : FVec F S16x512x512 .f32 := Host.absf main_v46
  let main_cst_14 : FVec F S_ .f32 := constant S_ .f32 0x7F800000#32
  let main_v48 : FVec F S16x512x512 .f32 := broadcastInDim S16x512x512 ![] bcast_S_S16x512x512 main_cst_14
  let main_v49 : IVec S16x512x512 1 := cmpf .olt main_v47 main_v48
  let main_c_15 : IVec S_ 1 := constantI S_ 1 1#1
  let main_v50 : IVec S_ 1 := (fun x v => Host.reduce IntOp.andi x v reducesTo_S16x512x512_S_d0_1_2 h_S_) main_v49 main_c_15
  let main_v51 : IVec S_ 1 := andi main_v45 main_v50
  let main_v52 : FVec F S16x512x512 .f32 := (extf .f32 · bitsLt_bf16_f32) main_arg8
  let main_v53 : FVec F S16x512x512 .f32 := Host.absf main_v52
  fn_part3 (F := F) main_v51 main_v53

def fn_part1 {F : FTy → Type} [FloatOps F] (main_arg3 : FVec F S4x2048x512 .bf16) (main_arg4 : FVec F S4x2048x512 .bf16) (main_arg5 : FVec F S4x2048x512 .bf16) (main_arg6 : FVec F S16x512x512 .bf16) (main_arg7 : FVec F S16x512x512 .bf16) (main_arg8 : FVec F S16x512x512 .bf16) (main_v15 : IVec S_ 1) (main_v17 : FVec F S1x8192x512 .f32) : IVec S_ 1 :=
  let main_cst_4 : FVec F S_ .f32 := constant S_ .f32 0x7F800000#32
  let main_v18 : FVec F S1x8192x512 .f32 := broadcastInDim S1x8192x512 ![] bcast_S_S1x8192x512 main_cst_4
  let main_v19 : IVec S1x8192x512 1 := cmpf .olt main_v17 main_v18
  let main_c_5 : IVec S_ 1 := constantI S_ 1 1#1
  let main_v20 : IVec S_ 1 := (fun x v => Host.reduce IntOp.andi x v reducesTo_S1x8192x512_S_d0_1_2 h_S_) main_v19 main_c_5
  let main_v21 : IVec S_ 1 := andi main_v15 main_v20
  let main_v22 : FVec F S4x2048x512 .f32 := (extf .f32 · bitsLt_bf16_f32) main_arg3
  let main_v23 : FVec F S4x2048x512 .f32 := Host.absf main_v22
  let main_cst_6 : FVec F S_ .f32 := constant S_ .f32 0x7F800000#32
  let main_v24 : FVec F S4x2048x512 .f32 := broadcastInDim S4x2048x512 ![] bcast_S_S4x2048x512 main_cst_6
  let main_v25 : IVec S4x2048x512 1 := cmpf .olt main_v23 main_v24
  let main_c_7 : IVec S_ 1 := constantI S_ 1 1#1
  let main_v26 : IVec S_ 1 := (fun x v => Host.reduce IntOp.andi x v reducesTo_S4x2048x512_S_d0_1_2 h_S_) main_v25 main_c_7
  let main_v27 : IVec S_ 1 := andi main_v21 main_v26
  let main_v28 : FVec F S4x2048x512 .f32 := (extf .f32 · bitsLt_bf16_f32) main_arg4
  let main_v29 : FVec F S4x2048x512 .f32 := Host.absf main_v28
  let main_cst_8 : FVec F S_ .f32 := constant S_ .f32 0x7F800000#32
  let main_v30 : FVec F S4x2048x512 .f32 := broadcastInDim S4x2048x512 ![] bcast_S_S4x2048x512 main_cst_8
  let main_v31 : IVec S4x2048x512 1 := cmpf .olt main_v29 main_v30
  let main_c_9 : IVec S_ 1 := constantI S_ 1 1#1
  let main_v32 : IVec S_ 1 := (fun x v => Host.reduce IntOp.andi x v reducesTo_S4x2048x512_S_d0_1_2 h_S_) main_v31 main_c_9
  let main_v33 : IVec S_ 1 := andi main_v27 main_v32
  let main_v34 : FVec F S4x2048x512 .f32 := (extf .f32 · bitsLt_bf16_f32) main_arg5
  let main_v35 : FVec F S4x2048x512 .f32 := Host.absf main_v34
  fn_part2 (F := F) main_arg6 main_arg7 main_arg8 main_v33 main_v35

def fn {F : FTy → Type} [FloatOps F] (main_arg0 : FVec F S1x8192x512 .bf16) (main_arg1 : FVec F S1x8192x512 .bf16) (main_arg2 : FVec F S1x8192x512 .bf16) (main_arg3 : FVec F S4x2048x512 .bf16) (main_arg4 : FVec F S4x2048x512 .bf16) (main_arg5 : FVec F S4x2048x512 .bf16) (main_arg6 : FVec F S16x512x512 .bf16) (main_arg7 : FVec F S16x512x512 .bf16) (main_arg8 : FVec F S16x512x512 .bf16) (main_arg9 : FVec F S8192x512 .f32) : IVec S_ 1 :=
  let main_v0 : FVec F S8192x512 .f32 := Host.absf main_arg9
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1x8192x512 .f32 := (extf .f32 · bitsLt_bf16_f32) main_arg0
  let main_v5 : FVec F S1x8192x512 .f32 := Host.absf main_v4
  let main_cst_0 : FVec F S_ .f32 := constant S_ .f32 0x7F800000#32
  let main_v6 : FVec F S1x8192x512 .f32 := broadcastInDim S1x8192x512 ![] bcast_S_S1x8192x512 main_cst_0
  let main_v7 : IVec S1x8192x512 1 := cmpf .olt main_v5 main_v6
  let main_c_1 : IVec S_ 1 := constantI S_ 1 1#1
  let main_v8 : IVec S_ 1 := (fun x v => Host.reduce IntOp.andi x v reducesTo_S1x8192x512_S_d0_1_2 h_S_) main_v7 main_c_1
  let main_v9 : IVec S_ 1 := andi main_v3 main_v8
  let main_v10 : FVec F S1x8192x512 .f32 := (extf .f32 · bitsLt_bf16_f32) main_arg1
  let main_v11 : FVec F S1x8192x512 .f32 := Host.absf main_v10
  let main_cst_2 : FVec F S_ .f32 := constant S_ .f32 0x7F800000#32
  let main_v12 : FVec F S1x8192x512 .f32 := broadcastInDim S1x8192x512 ![] bcast_S_S1x8192x512 main_cst_2
  let main_v13 : IVec S1x8192x512 1 := cmpf .olt main_v11 main_v12
  let main_c_3 : IVec S_ 1 := constantI S_ 1 1#1
  let main_v14 : IVec S_ 1 := (fun x v => Host.reduce IntOp.andi x v reducesTo_S1x8192x512_S_d0_1_2 h_S_) main_v13 main_c_3
  let main_v15 : IVec S_ 1 := andi main_v9 main_v14
  let main_v16 : FVec F S1x8192x512 .f32 := (extf .f32 · bitsLt_bf16_f32) main_arg2
  let main_v17 : FVec F S1x8192x512 .f32 := Host.absf main_v16
  fn_part1 (F := F) main_arg3 main_arg4 main_arg5 main_arg6 main_arg7 main_arg8 main_v15 main_v17
-- ==== Pre_dact_finite.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2816 .bf16) (main_arg1 : FVec F S8192x2816 .bf16) (main_arg2 : FVec F S2816x1024 .f32) (main_arg3 : FVec F S8192x1024 .bf16) : IVec S_ 1 :=
  let main_v0 : FVec F S8192x2816 .f32 := (extf .f32 · bitsLt_bf16_f32) main_arg1
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S2816x1024 .f32 := Host.absf main_arg2
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S8192x1024 .f32 := (extf .f32 · bitsLt_bf16_f32) main_arg3
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  main_v15
-- ==== Pre_dnin_finite.lean ====
abbrev S8192x1024 : Shape := ⟨2, ![8192, 1024]⟩
abbrev S1x1024 : Shape := ⟨2, ![1, 1024]⟩
abbrev S1024x1792 : Shape := ⟨2, ![1024, 1792]⟩
abbrev S8192x1792 : Shape := ⟨2, ![8192, 1792]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1792 : S_.BroadcastsInDim S1024x1792 (![] : Fin 0 → Fin S1024x1792.rank)
  reducesTo_S1024x1792_S_d0_1 : S1024x1792.ReducesTo [0, 1] S_
  bitsLt_bf16_f32 : FTy.bits .bf16 < FTy.bits .f32
  bcast_S_S8192x1792 : S_.BroadcastsInDim S8192x1792 (![] : Fin 0 → Fin S8192x1792.rank)
  reducesTo_S8192x1792_S_d0_1 : S8192x1792.ReducesTo [0, 1] S_

variable [Facts]

def fn_part1 {F : FTy → Type} [FloatOps F] (main_v13 : IVec S_ 1) (main_v15 : FVec F S8192x1792 .f32) (main_v16 : FVec F S8192x1792 .f32) : IVec S_ 1 :=
  let main_v17 : IVec S8192x1792 1 := cmpf .olt main_v15 main_v16
  let main_c_5 : IVec S_ 1 := constantI S_ 1 1#1
  let main_v18 : IVec S_ 1 := (fun x v => Host.reduce IntOp.andi x v reducesTo_S8192x1792_S_d0_1 h_S_) main_v17 main_c_5
  let main_v19 : IVec S_ 1 := andi main_v13 main_v18
  main_v19

def fn {F : FTy → Type} [FloatOps F] (main_arg0 : FVec F S8192x1024 .f32) (main_arg1 : FVec F S1x1024 .f32) (main_arg2 : FVec F S1024x1792 .f32) (main_arg3 : FVec F S8192x1792 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1792 .f32 := Host.absf main_arg2
  let main_cst_2 : FVec F S_ .f32 := constant S_ .f32 0x7F800000#32
  let main_v10 : FVec F S1024x1792 .f32 := broadcastInDim S1024x1792 ![] bcast_S_S1024x1792 main_cst_2
  let main_v11 : IVec S1024x1792 1 := cmpf .olt main_v9 main_v10
  let main_c_3 : IVec S_ 1 := constantI S_ 1 1#1
  let main_v12 : IVec S_ 1 := (fun x v => Host.reduce IntOp.andi x v reducesTo_S1024x1792_S_d0_1 h_S_) main_v11 main_c_3
  let main_v13 : IVec S_ 1 := andi main_v8 main_v12
  let main_v14 : FVec F S8192x1792 .f32 := (extf .f32 · bitsLt_bf16_f32) main_arg3
  let main_v15 : FVec F S8192x1792 .f32 := Host.absf main_v14
  let main_cst_4 : FVec F S_ .f32 := constant S_ .f32 0x7F800000#32
  let main_v16 : FVec F S8192x1792 .f32 := broadcastInDim S8192x1792 ![] bcast_S_S8192x1792 main_cst_4
  fn_part1 (F := F) main_v13 main_v15 main_v16
-- ==== Pre_dnod_finite.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_

variable [Facts]

def fn_part1 {F : FTy → Type} [FloatOps F] (main_v13 : IVec S_ 1) (main_v15 : FVec F S8192x2560 .f32) (main_v16 : FVec F S8192x2560 .f32) : IVec S_ 1 :=
  let main_v17 : IVec S8192x2560 1 := cmpf .olt main_v15 main_v16
  let main_c_5 : IVec S_ 1 := constantI S_ 1 1#1
  let main_v18 : IVec S_ 1 := (fun x v => Host.reduce IntOp.andi x v reducesTo_S8192x2560_S_d0_1 h_S_) main_v17 main_c_5
  let main_v19 : IVec S_ 1 := andi main_v13 main_v18
  main_v19

def fn {F : FTy → Type} [FloatOps F] (main_arg0 : FVec F S8192x1024 .f32) (main_arg1 : FVec F S1x1024 .f32) (main_arg2 : FVec F S1024x2560 .f32) (main_arg3 : FVec F S8192x2560 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2560 .f32 := Host.absf main_arg2
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  let main_c_3 : IVec S_ 1 := constantI S_ 1 1#1
  let main_v12 : IVec S_ 1 := (fun x v => Host.reduce IntOp.andi x v reducesTo_S1024x2560_S_d0_1 h_S_) main_v11 main_c_3
  let main_v13 : IVec S_ 1 := andi main_v8 main_v12
  let main_v14 : FVec F S8192x2560 .f32 := (extf .f32 · bitsLt_bf16_f32) main_arg3
  let main_v15 : FVec F S8192x2560 .f32 := Host.absf main_v14
  let main_cst_4 : FVec F S_ .f32 := constant S_ .f32 0x7F800000#32
  let main_v16 : FVec F S8192x2560 .f32 := broadcastInDim S8192x2560 ![] bcast_S_S8192x2560 main_cst_4
  fn_part1 (F := F) main_v13 main_v15 main_v16
-- ==== Pre_dnorm_finite.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .bf16) (main_arg5 : FVec F S8192x2816 .bf16) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x2816 .f32 := (extf .f32 · bitsLt_bf16_f32) main_arg4
  let main_v20 : FVec F S8192x2816 .f32 := Host.absf main_v19
  let main_cst_6 : FVec F S_ .f32 := constant S_ .f32 0x7F800000#32
  let main_v21 : FVec F S8192x2816 .f32 := broadcastInDim S8192x2816 ![] bcast_S_S8192x2816 main_cst_6
  let main_v22 : IVec S8192x2816 1 := cmpf .olt main_v20 main_v21
  let main_c_7 : IVec S_ 1 := constantI S_ 1 1#1
  let main_v23 : IVec S_ 1 := (fun x v => Host.reduce IntOp.andi x v reducesTo_S8192x2816_S_d0_1 h_S_) main_v22 main_c_7
  let main_v24 : IVec S_ 1 := andi main_v18 main_v23
  let main_v25 : FVec F S8192x2816 .f32 := (extf .f32 · bitsLt_bf16_f32) main_arg5
  let main_v26 : FVec F S8192x2816 .f32 := Host.absf main_v25
  let main_cst_8 : FVec F S_ .f32 := constant S_ .f32 0x7F800000#32
  let main_v27 : FVec F S8192x2816 .f32 := broadcastInDim S8192x2816 ![] bcast_S_S8192x2816 main_cst_8
  let main_v28 : IVec S8192x2816 1 := cmpf .olt main_v26 main_v27
  let main_c_9 : IVec S_ 1 := constantI S_ 1 1#1
  let main_v29 : IVec S_ 1 := (fun x v => Host.reduce IntOp.andi x v reducesTo_S8192x2816_S_d0_1 h_S_) main_v28 main_c_9
  let main_v30 : IVec S_ 1 := andi main_v24 main_v29
  main_v30

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S8192x2816 .bf16) (main_arg5 : FVec F S8192x2816 .bf16) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_final_finite.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S8192x1024 .f32 := Host.absf main_arg4
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v19 main_v23
  main_v24

def fn {F : FTy → Type} [FloatOps F] (main_arg0 : FVec F S8192x1024 .f32) (main_arg1 : FVec F S8192x2816 .bf16) (main_arg2 : FVec F S2816x1024 .f32) (main_arg3 : FVec F S1x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_c_1 : IVec S_ 1 := constantI S_ 1 1#1
  let main_v8 : IVec S_ 1 := (fun x v => Host.reduce IntOp.andi x v reducesTo_S8192x2816_S_d0_1 h_S_) main_v7 main_c_1
  let main_v9 : IVec S_ 1 := andi main_v3 main_v8
  let main_v10 : FVec F S2816x1024 .f32 := Host.absf main_arg2
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_tail_finite.lean ====
abbrev S8192x512 : Shape := ⟨2, ![8192, 512]⟩
abbrev S1x512 : Shape := ⟨2, ![1, 512]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  slices_S8192x1024_S8192x512_0_512 : S8192x1024.Slices ![0, 512] S8192x512

variable [Facts]

def fn {F : FTy → Type} [FloatOps F] (main_arg0 : FVec F S8192x512 .f32) (main_arg1 : FVec F S1x512 .f32) (main_arg2 : FVec F S1x512 .f32) (main_arg3 : FVec F S1x512 .f32) (main_arg4 : FVec F S8192x1024 .f32) : IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : IVec S8192x512 1 := broadcastInDim S8192x512 ![0, 1] bcast_S1x512_S8192x512_0_1 main_v5
  let main_v7 : IVec S8192x512 1 := andi main_v2 main_v6
  let main_v8 : FVec F S1x512 .f32 := Host.absf main_arg2
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  let main_v11 : IVec S8192x512 1 := broadcastInDim S8192x512 ![0, 1] bcast_S1x512_S8192x512_0_1 main_v10
  let main_v12 : IVec S8192x512 1 := andi main_v7 main_v11
  let main_v13 : FVec F S8192x512 .f32 := (extractStridedSlice S8192x512 ![0, 512] · slices_S8192x1024_S8192x512_0_512) main_arg4
  let main_v14 : FVec F S8192x512 .f32 := Host.absf main_v13
  let main_cst_2 : FVec F S_ .f32 := constant S_ .f32 0x7F800000#32
  let main_v15 : FVec F S8192x512 .f32 := broadcastInDim S8192x512 ![] bcast_S_S8192x512 main_cst_2
  let main_v16 : IVec S8192x512 1 := cmpf .olt main_v14 main_v15
  let main_v17 : IVec S8192x512 1 := andi main_v12 main_v16
  main_v17
-- ==== FinalK.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S2816x1024, .bf16⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FinalRIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== DactK.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩
abbrev S384x1024 : Shape := ⟨2, ![384, 1024]⟩
abbrev S1024x384 : Shape := ⟨2, ![1024, 384]⟩
abbrev S256x1024 : Shape := ⟨2, ![256, 1024]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .f32⟩
  | .hbm, ⟨3, _⟩ => ⟨S8192x1024, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .f32⟩
  | .hbm, ⟨3, _⟩ => ⟨S8192x1024, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DnK.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DnRIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== TailK.lean ====
abbrev S8192x512 : Shape := ⟨2, ![8192, 512]⟩
abbrev S1x512 : Shape := ⟨2, ![1, 512]⟩
abbrev S8192x1024 : Shape := ⟨2, ![8192, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S1x512, .f32⟩
  | .hbm, ⟨9, _⟩ => ⟨S1x512, .f32⟩
  | .hbm, ⟨10, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TailRIdeal.lean ====
abbrev S8192x512 : Shape := ⟨2, ![8192, 512]⟩
abbrev S1x512 : Shape := ⟨2, ![1, 512]⟩
abbrev S8192x1024 : Shape := ⟨2, ![8192, 1024]⟩
abbrev S512 : Shape := ⟨1, ![512]⟩
abbrev S_ : Shape := ⟨0, ![]⟩
abbrev S8192 : Shape := ⟨1, ![8192]⟩
abbrev S8192x1 : Shape := ⟨2, ![8192, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S512, .f32⟩
  | .hbm, ⟨65, _⟩ => ⟨S8192x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S512, .f32⟩
  | .hbm, ⟨73, _⟩ => ⟨S8192x512, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x512, .f32⟩
  | .hbm, ⟨78, _⟩ => ⟨S8192x512, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x512, .f32⟩
  | .hbm, ⟨100, _⟩ => ⟨S8192x512, .f32⟩
  | .hbm, ⟨101, _⟩ => ⟨S1x512, .f32⟩
  | .hbm, ⟨102, _⟩ => ⟨S1x512, .f32⟩
  | .hbm, ⟨103, _⟩ => ⟨S_, .f32⟩
  | .hbm, ⟨104, _⟩ => ⟨S512, .f32⟩
  | .hbm, ⟨105, _⟩ => ⟨S1x512, .f32⟩
  | .hbm, ⟨106, _⟩ => ⟨S_, .f32⟩
  | .hbm, ⟨107, _⟩ => ⟨S512, .f32⟩
  | .hbm, ⟨108, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_15 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩

abbrev nD : Nat := 1
abbrev τ : Topo := Topo.v7x

variable {F : FTy → Type} [FloatOps F]
-- ==== DninK.lean ====
abbrev S8192x1024 : Shape := ⟨2, ![8192, 1024]⟩
abbrev S1x1024 : Shape := ⟨2, ![1, 1024]⟩
abbrev S1024x1792 : Shape := ⟨2, ![1024, 1792]⟩
abbrev S8192x1792 : Shape := ⟨2, ![8192, 1792]⟩
abbrev S1792x1024 : Shape := ⟨2, ![1792, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .f32⟩
  | .hbm, ⟨3, _⟩ => ⟨S8192x1792, .bf16⟩
  | .hbm, ⟨4, _⟩ => ⟨S8192x1024, .f32⟩
  | .hbm, ⟨5, _⟩ => ⟨S1792x1024, .f32⟩
  | .hbm, ⟨6, _⟩ => ⟨S1792x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DninRIdeal.lean ====
abbrev S8192x1024 : Shape := ⟨2, ![8192, 1024]⟩
abbrev S1x1024 : Shape := ⟨2, ![1, 1024]⟩
abbrev S1024x1792 : Shape := ⟨2, ![1024, 1792]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1792, .f32⟩
  | .hbm, ⟨3, _⟩ => ⟨S8192x1792, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1792, .f32⟩
  | .hbm, ⟨25, _⟩ => ⟨S8192x1792, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DnodK.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S2560x1024 : Shape := ⟨2, ![2560, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .bf16⟩
  | .hbm, ⟨4, _⟩ => ⟨S8192x1024, .f32⟩
  | .hbm, ⟨5, _⟩ => ⟨S2560x1024, .f32⟩
  | .hbm, ⟨6, _⟩ => ⟨S2560x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DnodRIdeal.lean ====
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x2560, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2560, .f32⟩
  | .hbm, ⟨25, _⟩ => ⟨S8192x2560, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Attnf16K.lean ====
abbrev S16x512x512 : Shape := ⟨3, ![16, 512, 512]⟩
abbrev S1x512x128 : Shape := ⟨3, ![1, 512, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x512x512, .bf16⟩
  | .hbm, ⟨1, _⟩ => ⟨S16x512x512, .bf16⟩
  | .hbm, ⟨2, _⟩ => ⟨S16x512x512, .bf16⟩
  | .hbm, ⟨3, _⟩ => ⟨S16x512x512, .bf16⟩
  | .hbm, ⟨4, _⟩ => ⟨S16x512x512, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .f32⟩
  | .local _ .vmem, ⟨9, _⟩ => ⟨S1x512x128, .f32⟩
  | _, _ => ⟨S16x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def k0_mult1 (i : grid0.Coords) : BitVec 32 :=
  let arg2 : BitVec 32 := BitVec.ofNat 32 (i 2).val
  let c512_i32 : BitVec 32 := 512#32
  let v3 : BitVec 32 := Scalar.muli arg2 c512_i32
  let c0_i32 : BitVec 32 := 0#32
  let v4 : BitVec 32 := Scalar.addi v3 c0_i32
  let c128_i32 : BitVec 32 := 128#32
  let v5 : BitVec 32 := Scalar.subi v4 c128_i32
  let c0_i32_0 : BitVec 32 := 0#32
  let v6 : BitVec 32 := Scalar.maxsi v5 c0_i32_0
  v6
def k0_off1 (i : grid0.Coords) : Fin 3 → Nat :=
  let c0 : Index := 0#32
  let arg2 : BitVec 32 := BitVec.ofNat 32 (i 2).val
  let c512_i32 : BitVec 32 := 512#32
  let v3 : BitVec 32 := Scalar.muli arg2 c512_i32
  let c0_i32 : BitVec 32 := 0#32
  let v4 : BitVec 32 := Scalar.addi v3 c0_i32
  let c128_i32 : BitVec 32 := 128#32
  let v5 : BitVec 32 := Scalar.subi v4 c128_i32
  let c0_i32_0 : BitVec 32 := 0#32
  let v6 : BitVec 32 := Scalar.maxsi v5 c0_i32_0
  let v7 : BitVec 32 := v6
  let v9 : Index := Scalar.indexCast v7
  let c0_1 : Index := 0#32
  ![0, v9.toNat, 0]
def k0_mult2 (i : grid0.Coords) : BitVec 32 :=
  let arg2 : BitVec 32 := BitVec.ofNat 32 (i 2).val
  let c512_i32_21 : BitVec 32 := 512#32
  let v70 : BitVec 32 := Scalar.muli arg2 c512_i32_21
  let c128_i32_22 : BitVec 32 := 128#32
  let v71 : BitVec 32 := Scalar.addi v70 c128_i32_22
  let c128_i32_23 : BitVec 32 := 128#32
  let v72 : BitVec 32 := Scalar.subi v71 c128_i32_23
  v72
def k0_off2 (i : grid0.Coords) (c128_i32_22 : BitVec 32) : Fin 3 → Nat :=
  let c0_24 : Index := 0#32
  let arg2 : BitVec 32 := BitVec.ofNat 32 (i 2).val
  let c512_i32_21 : BitVec 32 := 512#32
  let v70 : BitVec 32 := Scalar.muli arg2 c512_i32_21
  let v71 : BitVec 32 := Scalar.addi v70 c128_i32_22
  let c128_i32_23 : BitVec 32 := 128#32
  let v72 : BitVec 32 := Scalar.subi v71 c128_i32_23
  let v73 : BitVec 32 := v72
  let v74 : Index := Scalar.indexCast v73
  let c0_25 : Index := 0#32
  ![0, v74.toNat, 0]
def k0_mult3 (i : grid0.Coords) : BitVec 32 :=
  let arg2 : BitVec 32 := BitVec.ofNat 32 (i 2).val
  let c512_i32_48 : BitVec 32 := 512#32
  let v135 : BitVec 32 := Scalar.muli arg2 c512_i32_48
  let c256_i32 : BitVec 32 := 256#32
  let v136 : BitVec 32 := Scalar.addi v135 c256_i32
  let c128_i32_49 : BitVec 32 := 128#32
  let v137 : BitVec 32 := Scalar.subi v136 c128_i32_49
  v137
def k0_mult4 (i : grid0.Coords) : BitVec 32 :=
  let arg2 : BitVec 32 := BitVec.ofNat 32 (i 2).val
  let c512_i32_74 : BitVec 32 := 512#32
  let v200 : BitVec 32 := Scalar.muli arg2 c512_i32_74
  let c384_i32 : BitVec 32 := 384#32
  let v201 : BitVec 32 := Scalar.addi v200 c384_i32
  let c128_i32_75 : BitVec 32 := 128#32
  let v202 : BitVec 32 := Scalar.subi v201 c128_i32_75
  v202
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Attnf16KIdeal.lean ====
variable {F : FTy → Type} [FloatOps F] [Named F]
def κ : String → Option EReal := fun
  | "mask" => some ⊥
  | _ => none
-- ==== Attnf16RIdeal.lean ====
abbrev S16x512x512 : Shape := ⟨3, ![16, 512, 512]⟩
abbrev S16x512x8x64 : Shape := ⟨4, ![16, 512, 8, 64]⟩
abbrev S16x8x512x512 : Shape := ⟨4, ![16, 8, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512x8 : Shape := ⟨3, ![16, 512, 8]⟩
abbrev S16x512x8x1 : Shape := ⟨4, ![16, 512, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S16x512x512, .bf16⟩
  | .hbm, ⟨1, _⟩ => ⟨S16x512x512, .bf16⟩
  | .hbm, ⟨2, _⟩ => ⟨S16x512x512, .bf16⟩
  | .hbm, ⟨3, _⟩ => ⟨S16x512x512, .f32⟩
  | .hbm, ⟨4, _⟩ => ⟨S16x512x8x64, .f32⟩
  | .hbm, ⟨5, _⟩ => ⟨S16x512x512, .f32⟩
  | .hbm, ⟨6, _⟩ => ⟨S16x512x8x64, .f32⟩
  | .hbm, ⟨7, _⟩ => ⟨S16x512x512, .f32⟩
  | .hbm, ⟨8, _⟩ => ⟨S16x512x8x64, .f32⟩
  | .hbm, ⟨9, _⟩ => ⟨S16x8x512x512, .f32⟩
  | .hbm, ⟨10, _⟩ => ⟨S_, .f32⟩
  | .hbm, ⟨11, _⟩ => ⟨S16x8x512x512, .f32⟩
  | .hbm, ⟨12, _⟩ => ⟨S16x8x512x512, .f32⟩
  | .hbm, ⟨13, _⟩ => ⟨S512, .i32⟩
  | .hbm, ⟨14, _⟩ => ⟨S512x1, .i32⟩
  | .hbm, ⟨15, _⟩ => ⟨S512, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i1⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S16x8x512x512, .i1⟩
  | .hbm, ⟨33, _⟩ => ⟨S16x8x512x512, .f32⟩
  | .hbm, ⟨34, _⟩ => ⟨S16x8x512x512, .f32⟩
  | .hbm, ⟨35, _⟩ => ⟨S_, .f32⟩
  | .hbm, ⟨36, _⟩ => ⟨S16x8x512, .f32⟩
  | .hbm, ⟨37, _⟩ => ⟨S16x8x512x1, .f32⟩
  | .hbm, ⟨38, _⟩ => ⟨S16x8x512x512, .f32⟩
  | .hbm, ⟨39, _⟩ => ⟨S16x8x512x512, .f32⟩
  | .hbm, ⟨40, _⟩ => ⟨S16x8x512x512, .f32⟩
  | .hbm, ⟨41, _⟩ => ⟨S_, .f32⟩
  | .hbm, ⟨42, _⟩ => ⟨S16x8x512, .f32⟩
  | .hbm, ⟨43, _⟩ => ⟨S16x8x64x512, .f32⟩
  | .hbm, ⟨44, _⟩ => ⟨S16x512x8x64, .f32⟩
  | .hbm, ⟨45, _⟩ => ⟨S16x512x8, .f32⟩
  | .hbm, ⟨46, _⟩ => ⟨S16x512x8x1, .f32⟩
  | .hbm, ⟨47, _⟩ => ⟨S16x512x8x64, .f32⟩
  | .hbm, ⟨48, _⟩ => ⟨S16x512x8x64, .f32⟩
  | .hbm, ⟨49, _⟩ => ⟨S16x8x512, .f32⟩
  | .hbm, ⟨50, _⟩ => ⟨S16x8x512, .f32⟩
  | .hbm, ⟨51, _⟩ => ⟨S16x512x8, .f32⟩
  | .hbm, ⟨52, _⟩ => ⟨S16x512x512, .f32⟩
  | .hbm, ⟨53, _⟩ => ⟨S16x512x512, .bf16⟩
  | .hbm, ⟨54, _⟩ => ⟨S16x512x8x1, .f32⟩
  | .hbm, ⟨55, _⟩ => ⟨S16x512x8x64, .f32⟩
  | .hbm, ⟨56, _⟩ => ⟨S16x512x512, .f32⟩
  | _, _ => ⟨S16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Attnf4K.lean ====
abbrev S4x2048x512 : Shape := ⟨3, ![4, 2048, 512]⟩
abbrev S1x1024x128 : Shape := ⟨3, ![1, 1024, 128]⟩
abbrev S1x2048x128 : Shape := ⟨3, ![1, 2048, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S4x2048x512, .bf16⟩
  | .hbm, ⟨3, _⟩ => ⟨S4x2048x512, .bf16⟩
  | .hbm, ⟨4, _⟩ => ⟨S4x2048x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .f32⟩
  | .local _ .vmem, ⟨9, _⟩ => ⟨S1x1024x128, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  let c0_i32 : BitVec 32 := 0#32
  let v4 : BitVec 32 := Scalar.addi v3 c0_i32
  let c128_i32 : BitVec 32 := 128#32
  let v5 : BitVec 32 := Scalar.subi v4 c128_i32
  let c0_i32_0 : BitVec 32 := 0#32
  let v6 : BitVec 32 := Scalar.maxsi v5 c0_i32_0
  v6
def k0_off1 (i : grid0.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let c0_i32 : BitVec 32 := 0#32
  let v4 : BitVec 32 := Scalar.addi v3 c0_i32
  let c128_i32 : BitVec 32 := 128#32
  let v5 : BitVec 32 := Scalar.subi v4 c128_i32
  let c0_i32_0 : BitVec 32 := 0#32
  let v6 : BitVec 32 := Scalar.maxsi v5 c0_i32_0
  let v7 : BitVec 32 := v6
  let v9 : Index := Scalar.indexCast v7
  let c0_1 : Index := 0#32
  ![0, v9.toNat, 0]
def k0_mult2 (i : grid0.Coords) : BitVec 32 :=
  let arg2 : BitVec 32 := BitVec.ofNat 32 (i 2).val
  let c1024_i32_21 : BitVec 32 := 1024#32
  let v70 : BitVec 32 := Scalar.muli arg2 c1024_i32_21
  let c128_i32_22 : BitVec 32 := 128#32
  let v71 : BitVec 32 := Scalar.addi v70 c128_i32_22
  let c128_i32_23 : BitVec 32 := 128#32
  let v72 : BitVec 32 := Scalar.subi v71 c128_i32_23
  v72
def k0_off2 (i : grid0.Coords) (c128_i32_22 : BitVec 32) : Fin 3 → Nat :=
  let c0_24 : Index := 0#32
  let arg2 : BitVec 32 := BitVec.ofNat 32 (i 2).val
  let c1024_i32_21 : BitVec 32 := 1024#32
  let v70 : BitVec 32 := Scalar.muli arg2 c1024_i32_21
  let v71 : BitVec 32 := Scalar.addi v70 c128_i32_22
  let c128_i32_23 : BitVec 32 := 128#32
  let v72 : BitVec 32 := Scalar.subi v71 c128_i32_23
  let v73 : BitVec 32 := v72
  let v74 : Index := Scalar.indexCast v73
  let c0_25 : Index := 0#32
  ![0, v74.toNat, 0]
def k0_mult3 (i : grid0.Coords) : BitVec 32 :=
  let arg2 : BitVec 32 := BitVec.ofNat 32 (i 2).val
  let c1024_i32_48 : BitVec 32 := 1024#32
  let v135 : BitVec 32 := Scalar.muli arg2 c1024_i32_48
  let c256_i32 : BitVec 32 := 256#32
  let v136 : BitVec 32 := Scalar.addi v135 c256_i32
  let c128_i32_49 : BitVec 32 := 128#32
  let v137 : BitVec 32 := Scalar.subi v136 c128_i32_49
  v137
def k0_mult4 (i : grid0.Coords) : BitVec 32 :=
  let arg2 : BitVec 32 := BitVec.ofNat 32 (i 2).val
  let c1024_i32_74 : BitVec 32 := 1024#32
  let v200 : BitVec 32 := Scalar.muli arg2 c1024_i32_74
  let c384_i32 : BitVec 32 := 384#32
  let v201 : BitVec 32 := Scalar.addi v200 c384_i32
  let c128_i32_75 : BitVec 32 := 128#32
  let v202 : BitVec 32 := Scalar.subi v201 c128_i32_75
  v202
def k0_mult5 (i : grid0.Coords) : BitVec 32 :=
  let arg2 : BitVec 32 := BitVec.ofNat 32 (i 2).val
  let c1024_i32_100 : BitVec 32 := 1024#32
  let v265 : BitVec 32 := Scalar.muli arg2 c1024_i32_100
  let c512_i32 : BitVec 32 := 512#32
  let v266 : BitVec 32 := Scalar.addi v265 c512_i32
  let c128_i32_101 : BitVec 32 := 128#32
  let v267 : BitVec 32 := Scalar.subi v266 c128_i32_101
  v267
def k0_mult6 (i : grid0.Coords) : BitVec 32 :=
  let arg2 : BitVec 32 := BitVec.ofNat 32 (i 2).val
  let c1024_i32_126 : BitVec 32 := 1024#32
  let v330 : BitVec 32 := Scalar.muli arg2 c1024_i32_126
  let c640_i32 : BitVec 32 := 640#32
  let v331 : BitVec 32 := Scalar.addi v330 c640_i32
  let c128_i32_127 : BitVec 32 := 128#32
  let v332 : BitVec 32 := Scalar.subi v331 c128_i32_127
  v332
def k0_mult7 (i : grid0.Coords) : BitVec 32 :=
  let arg2 : BitVec 32 := BitVec.ofNat 32 (i 2).val
  let c1024_i32_152 : BitVec 32 := 1024#32
  let v395 : BitVec 32 := Scalar.muli arg2 c1024_i32_152
  let c768_i32 : BitVec 32 := 768#32
  let v396 : BitVec 32 := Scalar.addi v395 c768_i32
  let c128_i32_153 : BitVec 32 := 128#32
  let v397 : BitVec 32 := Scalar.subi v396 c128_i32_153
  v397
def k0_mult8 (i : grid0.Coords) : BitVec 32 :=
  let arg2 : BitVec 32 := BitVec.ofNat 32 (i 2).val
  let c1024_i32_178 : BitVec 32 := 1024#32
  let v460 : BitVec 32 := Scalar.muli arg2 c1024_i32_178
  let c896_i32 : BitVec 32 := 896#32
  let v461 : BitVec 32 := Scalar.addi v460 c896_i32
  let c128_i32_179 : BitVec 32 := 128#32
  let v462 : BitVec 32 := Scalar.subi v461 c128_i32_179
  v462
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Attnf4KIdeal.lean ====
variable {F : FTy → Type} [FloatOps F] [Named F]
def κ : String → Option EReal := fun
  | "mask" => some ⊥
  | _ => none
-- ==== Attnf4RIdeal.lean ====
abbrev S4x2048x512 : Shape := ⟨3, ![4, 2048, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S4x2048x8x1 : Shape := ⟨4, ![4, 2048, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S4x2048x512, .bf16⟩
  | .hbm, ⟨2, _⟩ => ⟨S4x2048x512, .bf16⟩
  | .hbm, ⟨3, _⟩ => ⟨S4x2048x512, .f32⟩
  | .hbm, ⟨4, _⟩ => ⟨S4x2048x8x64, .f32⟩
  | .hbm, ⟨5, _⟩ => ⟨S4x2048x512, .f32⟩
  | .hbm, ⟨6, _⟩ => ⟨S4x2048x8x64, .f32⟩
  | .hbm, ⟨7, _⟩ => ⟨S4x2048x512, .f32⟩
  | .hbm, ⟨8, _⟩ => ⟨S4x2048x8x64, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x8x2048x2048, .i1⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x64x2048, .f32⟩
  | .hbm, ⟨44, _⟩ => ⟨S4x2048x8x64, .f32⟩
  | .hbm, ⟨45, _⟩ => ⟨S4x2048x8, .f32⟩
  | .hbm, ⟨46, _⟩ => ⟨S4x2048x8x1, .f32⟩
  | .hbm, ⟨47, _⟩ => ⟨S4x2048x8x64, .f32⟩
  | .hbm, ⟨48, _⟩ => ⟨S4x2048x8x64, .f32⟩
  | .hbm, ⟨49, _⟩ => ⟨S4x8x2048, .f32⟩
  | .hbm, ⟨50, _⟩ => ⟨S4x8x2048, .f32⟩
  | .hbm, ⟨51, _⟩ => ⟨S4x2048x8, .f32⟩
  | .hbm, ⟨52, _⟩ => ⟨S4x2048x512, .f32⟩
  | .hbm, ⟨53, _⟩ => ⟨S4x2048x512, .bf16⟩
  | .hbm, ⟨54, _⟩ => ⟨S4x2048x8x1, .f32⟩
  | .hbm, ⟨55, _⟩ => ⟨S4x2048x8x64, .f32⟩
  | .hbm, ⟨56, _⟩ => ⟨S4x2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Attnf1K.lean ====
abbrev S1x8192x512 : Shape := ⟨3, ![1, 8192, 512]⟩
abbrev S1x1024x128 : Shape := ⟨3, ![1, 1024, 128]⟩
abbrev S1x8192x128 : Shape := ⟨3, ![1, 8192, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S1x8192x512, .bf16⟩
  | .hbm, ⟨1, _⟩ => ⟨S1x8192x512, .bf16⟩
  | .hbm, ⟨2, _⟩ => ⟨S1x8192x512, .bf16⟩
  | .hbm, ⟨3, _⟩ => ⟨S1x8192x512, .bf16⟩
  | .hbm, ⟨4, _⟩ => ⟨S1x8192x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .f32⟩
  | .local _ .vmem, ⟨9, _⟩ => ⟨S1x1024x128, .f32⟩
  | _, _ => ⟨S1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 8], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  let c0_i32 : BitVec 32 := 0#32
  let v4 : BitVec 32 := Scalar.addi v3 c0_i32
  let c128_i32 : BitVec 32 := 128#32
  let v5 : BitVec 32 := Scalar.subi v4 c128_i32
  let c0_i32_0 : BitVec 32 := 0#32
  let v6 : BitVec 32 := Scalar.maxsi v5 c0_i32_0
  v6
def k0_off1 (i : grid0.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let c0_i32 : BitVec 32 := 0#32
  let v4 : BitVec 32 := Scalar.addi v3 c0_i32
  let c128_i32 : BitVec 32 := 128#32
  let v5 : BitVec 32 := Scalar.subi v4 c128_i32
  let c0_i32_0 : BitVec 32 := 0#32
  let v6 : BitVec 32 := Scalar.maxsi v5 c0_i32_0
  let v7 : BitVec 32 := v6
  let v9 : Index := Scalar.indexCast v7
  let c0_1 : Index := 0#32
  ![0, v9.toNat, 0]
def k0_mult2 (i : grid0.Coords) : BitVec 32 :=
  let arg2 : BitVec 32 := BitVec.ofNat 32 (i 2).val
  let c1024_i32_21 : BitVec 32 := 1024#32
  let v70 : BitVec 32 := Scalar.muli arg2 c1024_i32_21
  let c128_i32_22 : BitVec 32 := 128#32
  let v71 : BitVec 32 := Scalar.addi v70 c128_i32_22
  let c128_i32_23 : BitVec 32 := 128#32
  let v72 : BitVec 32 := Scalar.subi v71 c128_i32_23
  v72
def k0_off2 (i : grid0.Coords) (c128_i32_22 : BitVec 32) : Fin 3 → Nat :=
  let c0_24 : Index := 0#32
  let arg2 : BitVec 32 := BitVec.ofNat 32 (i 2).val
  let c1024_i32_21 : BitVec 32 := 1024#32
  let v70 : BitVec 32 := Scalar.muli arg2 c1024_i32_21
  let v71 : BitVec 32 := Scalar.addi v70 c128_i32_22
  let c128_i32_23 : BitVec 32 := 128#32
  let v72 : BitVec 32 := Scalar.subi v71 c128_i32_23
  let v73 : BitVec 32 := v72
  let v74 : Index := Scalar.indexCast v73
  let c0_25 : Index := 0#32
  ![0, v74.toNat, 0]
def k0_mult3 (i : grid0.Coords) : BitVec 32 :=
  let arg2 : BitVec 32 := BitVec.ofNat 32 (i 2).val
  let c1024_i32_48 : BitVec 32 := 1024#32
  let v135 : BitVec 32 := Scalar.muli arg2 c1024_i32_48
  let c256_i32 : BitVec 32 := 256#32
  let v136 : BitVec 32 := Scalar.addi v135 c256_i32
  let c128_i32_49 : BitVec 32 := 128#32
  let v137 : BitVec 32 := Scalar.subi v136 c128_i32_49
  v137
def k0_mult4 (i : grid0.Coords) : BitVec 32 :=
  let arg2 : BitVec 32 := BitVec.ofNat 32 (i 2).val
  let c1024_i32_74 : BitVec 32 := 1024#32
  let v200 : BitVec 32 := Scalar.muli arg2 c1024_i32_74
  let c384_i32 : BitVec 32 := 384#32
  let v201 : BitVec 32 := Scalar.addi v200 c384_i32
  let c128_i32_75 : BitVec 32 := 128#32
  let v202 : BitVec 32 := Scalar.subi v201 c128_i32_75
  v202
def k0_mult5 (i : grid0.Coords) : BitVec 32 :=
  let arg2 : BitVec 32 := BitVec.ofNat 32 (i 2).val
  let c1024_i32_100 : BitVec 32 := 1024#32
  let v265 : BitVec 32 := Scalar.muli arg2 c1024_i32_100
  let c512_i32 : BitVec 32 := 512#32
  let v266 : BitVec 32 := Scalar.addi v265 c512_i32
  let c128_i32_101 : BitVec 32 := 128#32
  let v267 : BitVec 32 := Scalar.subi v266 c128_i32_101
  v267
def k0_mult6 (i : grid0.Coords) : BitVec 32 :=
  let arg2 : BitVec 32 := BitVec.ofNat 32 (i 2).val
  let c1024_i32_126 : BitVec 32 := 1024#32
  let v330 : BitVec 32 := Scalar.muli arg2 c1024_i32_126
  let c640_i32 : BitVec 32 := 640#32
  let v331 : BitVec 32 := Scalar.addi v330 c640_i32
  let c128_i32_127 : BitVec 32 := 128#32
  let v332 : BitVec 32 := Scalar.subi v331 c128_i32_127
  v332
def k0_mult7 (i : grid0.Coords) : BitVec 32 :=
  let arg2 : BitVec 32 := BitVec.ofNat 32 (i 2).val
  let c1024_i32_152 : BitVec 32 := 1024#32
  let v395 : BitVec 32 := Scalar.muli arg2 c1024_i32_152
  let c768_i32 : BitVec 32 := 768#32
  let v396 : BitVec 32 := Scalar.addi v395 c768_i32
  let c128_i32_153 : BitVec 32 := 128#32
  let v397 : BitVec 32 := Scalar.subi v396 c128_i32_153
  v397
def k0_mult8 (i : grid0.Coords) : BitVec 32 :=
  let arg2 : BitVec 32 := BitVec.ofNat 32 (i 2).val
  let c1024_i32_178 : BitVec 32 := 1024#32
  let v460 : BitVec 32 := Scalar.muli arg2 c1024_i32_178
  let c896_i32 : BitVec 32 := 896#32
  let v461 : BitVec 32 := Scalar.addi v460 c896_i32
  let c128_i32_179 : BitVec 32 := 128#32
  let v462 : BitVec 32 := Scalar.subi v461 c128_i32_179
  v462
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Attnf1KIdeal.lean ====
variable {F : FTy → Type} [FloatOps F] [Named F]
def κ : String → Option EReal := fun
  | "mask" => some ⊥
  | _ => none
-- ==== Attnf1RIdeal.lean ====
abbrev S1x8192x512 : Shape := ⟨3, ![1, 8192, 512]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x8 : Shape := ⟨3, ![1, 8192, 8]⟩
abbrev S1x8192x8x1 : Shape := ⟨4, ![1, 8192, 8, 1]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x512, .bf16⟩
  | .hbm, ⟨1, _⟩ => ⟨S1x8192x512, .bf16⟩
  | .hbm, ⟨2, _⟩ => ⟨S1x8192x512, .bf16⟩
  | .hbm, ⟨3, _⟩ => ⟨S1x8192x512, .f32⟩
  | .hbm, ⟨4, _⟩ => ⟨S1x8192x8x64, .f32⟩
  | .hbm, ⟨5, _⟩ => ⟨S1x8192x512, .f32⟩
  | .hbm, ⟨6, _⟩ => ⟨S1x8192x8x64, .f32⟩
  | .hbm, ⟨7, _⟩ => ⟨S1x8192x512, .f32⟩
  | .hbm, ⟨8, _⟩ => ⟨S1x8192x8x64, .f32⟩
  | .hbm, ⟨9, _⟩ => ⟨S1x8x8192x8192, .f32⟩
  | .hbm, ⟨10, _⟩ => ⟨S_, .f32⟩
  | .hbm, ⟨11, _⟩ => ⟨S1x8x8192x8192, .f32⟩
  | .hbm, ⟨12, _⟩ => ⟨S1x8x8192x8192, .f32⟩
  | .hbm, ⟨13, _⟩ => ⟨S8192, .i32⟩
  | .hbm, ⟨14, _⟩ => ⟨S8192x1, .i32⟩
  | .hbm, ⟨15, _⟩ => ⟨S8192, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S1x8x8192x8192, .i1⟩
  | .hbm, ⟨33, _⟩ => ⟨S1x8x8192x8192, .f32⟩
  | .hbm, ⟨34, _⟩ => ⟨S1x8x8192x8192, .f32⟩
  | .hbm, ⟨35, _⟩ => ⟨S_, .f32⟩
  | .hbm, ⟨36, _⟩ => ⟨S1x8x8192, .f32⟩
  | .hbm, ⟨37, _⟩ => ⟨S1x8x8192x1, .f32⟩
  | .hbm, ⟨38, _⟩ => ⟨S1x8x8192x8192, .f32⟩
  | .hbm, ⟨39, _⟩ => ⟨S1x8x8192x8192, .f32⟩
  | .hbm, ⟨40, _⟩ => ⟨S1x8x8192x8192, .f32⟩
  | .hbm, ⟨41, _⟩ => ⟨S_, .f32⟩
  | .hbm, ⟨42, _⟩ => ⟨S1x8x8192, .f32⟩
  | .hbm, ⟨43, _⟩ => ⟨S1x8x64x8192, .f32⟩
  | .hbm, ⟨44, _⟩ => ⟨S1x8192x8x64, .f32⟩
  | .hbm, ⟨45, _⟩ => ⟨S1x8192x8, .f32⟩
  | .hbm, ⟨46, _⟩ => ⟨S1x8192x8x1, .f32⟩
  | .hbm, ⟨47, _⟩ => ⟨S1x8192x8x64, .f32⟩
  | .hbm, ⟨48, _⟩ => ⟨S1x8192x8x64, .f32⟩
  | .hbm, ⟨49, _⟩ => ⟨S1x8x8192, .f32⟩
  | .hbm, ⟨50, _⟩ => ⟨S1x8x8192, .f32⟩
  | .hbm, ⟨51, _⟩ => ⟨S1x8192x8, .f32⟩
  | .hbm, ⟨52, _⟩ => ⟨S1x8192x512, .f32⟩
  | .hbm, ⟨53, _⟩ => ⟨S1x8192x512, .bf16⟩
  | .hbm, ⟨54, _⟩ => ⟨S1x8192x8x1, .f32⟩
  | .hbm, ⟨55, _⟩ => ⟨S1x8192x8x64, .f32⟩
  | .hbm, ⟨56, _⟩ => ⟨S1x8192x512, .f32⟩
  | _, _ => ⟨S1x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== AttnfeK.lean ====
abbrev S8192x512 : Shape := ⟨2, ![8192, 512]⟩
abbrev S8192x128 : Shape := ⟨2, ![8192, 128]⟩
abbrev S1x8 : Shape := ⟨2, ![1, 8]⟩
abbrev S1x8192x512 : Shape := ⟨3, ![1, 8192, 512]⟩
abbrev S8192x2x1x64 : Shape := ⟨4, ![8192, 2, 1, 64]⟩
abbrev S8192x2x2x64 : Shape := ⟨4, ![8192, 2, 2, 64]⟩
abbrev S1x8192x256 : Shape := ⟨3, ![1, 8192, 256]⟩
abbrev S8 : Shape := ⟨1, ![8]⟩
abbrev S1x1024x128 : Shape := ⟨3, ![1, 1024, 128]⟩
abbrev S1x8192x128 : Shape := ⟨3, ![1, 8192, 128]⟩
abbrev S128x128 : Shape := ⟨2, ![128, 128]⟩
abbrev S256x1 : Shape := ⟨2, ![256, 1]⟩
abbrev S1 : Shape := ⟨1, ![1]⟩
abbrev S1x256x128 : Shape := ⟨3, ![1, 256, 128]⟩
abbrev S256x128 : Shape := ⟨2, ![256, 128]⟩
abbrev S1x128x128 : Shape := ⟨3, ![1, 128, 128]⟩
abbrev S256x256 : Shape := ⟨2, ![256, 256]⟩
abbrev S256 : Shape := ⟨1, ![256]⟩
abbrev S128x1 : Shape := ⟨2, ![128, 1]⟩

abbrev nBuf : Space → Nat
  | .hbm => 15
  | .vmem => 12
  | .smem => 1
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S1x8, .f32⟩
  | .hbm, ⟨4, _⟩ => ⟨S1x8192x512, .bf16⟩
  | .hbm, ⟨5, _⟩ => ⟨S8192x2x1x64, .bf16⟩
  | .hbm, ⟨6, _⟩ => ⟨S8192x2x2x64, .bf16⟩
  | .hbm, ⟨7, _⟩ => ⟨S1x8192x256, .bf16⟩
  | .hbm, ⟨8, _⟩ => ⟨S8192x2x1x64, .bf16⟩
  | .hbm, ⟨9, _⟩ => ⟨S8192x2x2x64, .bf16⟩
  | .hbm, ⟨10, _⟩ => ⟨S1x8192x256, .bf16⟩
  | .hbm, ⟨11, _⟩ => ⟨S8, .f32⟩
  | .hbm, ⟨12, _⟩ => ⟨S1x8192x512, .f32⟩
  | .hbm, ⟨13, _⟩ => ⟨S1x8192x512, .f32⟩
  | .hbm, ⟨14, _⟩ => ⟨S1x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .bf16⟩
  | .local _ .vmem, ⟨11, _⟩ => ⟨S1x1024x128, .bf16⟩
  | .local _ .smem, ⟨0, _⟩ => ⟨S8, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 4, 8], ![false, false, false]⟩

def k0_off1 (i : grid0.Coords) : Fin 1 → Nat :=
  let c2_i32 : BitVec 32 := 2#32
  let arg1 : BitVec 32 := BitVec.ofNat 32 (i 1).val
  let v6 : BitVec 32 := Scalar.muli c2_i32 arg1
  let v7 : Index := Scalar.indexCast v6
  ![v7.toNat]
def k0_off2 (i : grid0.Coords) : Fin 1 → Nat :=
  let c2_i32_0 : BitVec 32 := 2#32
  let arg1 : BitVec 32 := BitVec.ofNat 32 (i 1).val
  let v9 : BitVec 32 := Scalar.muli c2_i32_0 arg1
  let c1_i32 : BitVec 32 := 1#32
  let v10 : BitVec 32 := Scalar.addi v9 c1_i32
  let v11 : Index := Scalar.indexCast v10
  ![v11.toNat]
def k0_mult1 (i : grid0.Coords) : BitVec 32 :=
  let arg2 : BitVec 32 := BitVec.ofNat 32 (i 2).val
  let c1024_i32 : BitVec 32 := 1024#32
  let v16 : BitVec 32 := Scalar.muli arg2 c1024_i32
  let c0_i32 : BitVec 32 := 0#32
  let v17 : BitVec 32 := Scalar.addi v16 c0_i32
  let c128_i32_1 : BitVec 32 := 128#32
  let v18 : BitVec 32 := Scalar.subi v17 c128_i32_1
  let c0_i32_2 : BitVec 32 := 0#32
  let v19 : BitVec 32 := Scalar.maxsi v18 c0_i32_2
  v19
def k0_off3 (i : grid0.Coords) : Fin 3 → Nat :=
  let c0 : Index := 0#32
  let arg2 : BitVec 32 := BitVec.ofNat 32 (i 2).val
  let c1024_i32 : BitVec 32 := 1024#32
  let v16 : BitVec 32 := Scalar.muli arg2 c1024_i32
  let c0_i32 : BitVec 32 := 0#32
  let v17 : BitVec 32 := Scalar.addi v16 c0_i32
  let c128_i32_1 : BitVec 32 := 128#32
  let v18 : BitVec 32 := Scalar.subi v17 c128_i32_1
  let c0_i32_2 : BitVec 32 := 0#32
  let v19 : BitVec 32 := Scalar.maxsi v18 c0_i32_2
  let v20 : BitVec 32 := v19
  let v22 : Index := Scalar.indexCast v20
  let c0_3 : Index := 0#32
  ![0, v22.toNat, 0]
def k0_mult2 (i : grid0.Coords) : BitVec 32 :=
  let arg2 : BitVec 32 := BitVec.ofNat 32 (i 2).val
  let c1024_i32_27 : BitVec 32 := 1024#32
  let v90 : BitVec 32 := Scalar.muli arg2 c1024_i32_27
  let c128_i32_28 : BitVec 32 := 128#32
  let v91 : BitVec 32 := Scalar.addi v90 c128_i32_28
  let c128_i32_29 : BitVec 32 := 128#32
  let v92 : BitVec 32 := Scalar.subi v91 c128_i32_29
  v92
def k0_off4 (i : grid0.Coords) (c128_i32_28 : BitVec 32) : Fin 3 → Nat :=
  let c0_30 : Index := 0#32
  let arg2 : BitVec 32 := BitVec.ofNat 32 (i 2).val
  let c1024_i32_27 : BitVec 32 := 1024#32
  let v90 : BitVec 32 := Scalar.muli arg2 c1024_i32_27
  let v91 : BitVec 32 := Scalar.addi v90 c128_i32_28
  let c128_i32_29 : BitVec 32 := 128#32
  let v92 : BitVec 32 := Scalar.subi v91 c128_i32_29
  let v93 : BitVec 32 := v92
  let v94 : Index := Scalar.indexCast v93
  let c0_31 : Index := 0#32
  ![0, v94.toNat, 0]
def k0_mult3 (i : grid0.Coords) : BitVec 32 :=
  let arg2 : BitVec 32 := BitVec.ofNat 32 (i 2).val
  let c1024_i32_57 : BitVec 32 := 1024#32
  let v162 : BitVec 32 := Scalar.muli arg2 c1024_i32_57
  let c256_i32 : BitVec 32 := 256#32
  let v163 : BitVec 32 := Scalar.addi v162 c256_i32
  let c128_i32_58 : BitVec 32 := 128#32
  let v164 : BitVec 32 := Scalar.subi v163 c128_i32_58
  v164
def k0_mult4 (i : grid0.Coords) : BitVec 32 :=
  let arg2 : BitVec 32 := BitVec.ofNat 32 (i 2).val
  let c1024_i32_86 : BitVec 32 := 1024#32
  let v234 : BitVec 32 := Scalar.muli arg2 c1024_i32_86
  let c384_i32 : BitVec 32 := 384#32
  let v235 : BitVec 32 := Scalar.addi v234 c384_i32
  let c128_i32_87 : BitVec 32 := 128#32
  let v236 : BitVec 32 := Scalar.subi v235 c128_i32_87
  v236
def k0_mult5 (i : grid0.Coords) : BitVec 32 :=
  let arg2 : BitVec 32 := BitVec.ofNat 32 (i 2).val
  let c1024_i32_115 : BitVec 32 := 1024#32
  let v306 : BitVec 32 := Scalar.muli arg2 c1024_i32_115
  let c512_i32 : BitVec 32 := 512#32
  let v307 : BitVec 32 := Scalar.addi v306 c512_i32
  let c128_i32_116 : BitVec 32 := 128#32
  let v308 : BitVec 32 := Scalar.subi v307 c128_i32_116
  v308
def k0_mult6 (i : grid0.Coords) : BitVec 32 :=
  let arg2 : BitVec 32 := BitVec.ofNat 32 (i 2).val
  let c1024_i32_144 : BitVec 32 := 1024#32
  let v378 : BitVec 32 := Scalar.muli arg2 c1024_i32_144
  let c640_i32 : BitVec 32 := 640#32
  let v379 : BitVec 32 := Scalar.addi v378 c640_i32
  let c128_i32_145 : BitVec 32 := 128#32
  let v380 : BitVec 32 := Scalar.subi v379 c128_i32_145
  v380
def k0_mult7 (i : grid0.Coords) : BitVec 32 :=
  let arg2 : BitVec 32 := BitVec.ofNat 32 (i 2).val
  let c1024_i32_173 : BitVec 32 := 1024#32
  let v450 : BitVec 32 := Scalar.muli arg2 c1024_i32_173
  let c768_i32 : BitVec 32 := 768#32
  let v451 : BitVec 32 := Scalar.addi v450 c768_i32
  let c128_i32_174 : BitVec 32 := 128#32
  let v452 : BitVec 32 := Scalar.subi v451 c128_i32_174
  v452
def k0_mult8 (i : grid0.Coords) : BitVec 32 :=
  let arg2 : BitVec 32 := BitVec.ofNat 32 (i 2).val
  let c1024_i32_202 : BitVec 32 := 1024#32
  let v522 : BitVec 32 := Scalar.muli arg2 c1024_i32_202
  let c896_i32 : BitVec 32 := 896#32
  let v523 : BitVec 32 := Scalar.addi v522 c896_i32
  let c128_i32_203 : BitVec 32 := 128#32
  let v524 : BitVec 32 := Scalar.subi v523 c128_i32_203
  v524
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnfeKIdeal.lean ====
variable {F : FTy → Type} [FloatOps F] [Named F]
def κ : String → Option EReal := fun
  | "mask" => some ⊥
  | _ => none
-- ==== AttnfeRIdeal.lean ====
abbrev S8192x512 : Shape := ⟨2, ![8192, 512]⟩
abbrev S8192x128 : Shape := ⟨2, ![8192, 128]⟩
abbrev S1x8 : Shape := ⟨2, ![1, 8]⟩
abbrev S8192x2x4x64 : Shape := ⟨4, ![8192, 2, 4, 64]⟩
abbrev S8192x2x64 : Shape := ⟨3, ![8192, 2, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x4 : Shape := ⟨2, ![2, 4]⟩
abbrev S2x4x1 : Shape := ⟨3, ![2, 4, 1]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S8192x2x4 : Shape := ⟨3, ![8192, 2, 4]⟩
abbrev S8192x2x4x1 : Shape := ⟨4, ![8192, 2, 4, 1]⟩
abbrev S1x8192x512 : Shape := ⟨3, ![1, 8192, 512]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S1x8, .f32⟩
  | .hbm, ⟨4, _⟩ => ⟨S8192x512, .f32⟩
  | .hbm, ⟨5, _⟩ => ⟨S8192x128, .f32⟩
  | .hbm, ⟨6, _⟩ => ⟨S8192x128, .f32⟩
  | .hbm, ⟨7, _⟩ => ⟨S8192x2x4x64, .f32⟩
  | .hbm, ⟨8, _⟩ => ⟨S8192x2x64, .f32⟩
  | .hbm, ⟨9, _⟩ => ⟨S8192x2x64, .f32⟩
  | .hbm, ⟨10, _⟩ => ⟨S2x8192x8192x4, .f32⟩
  | .hbm, ⟨11, _⟩ => ⟨S2x4x8192x8192, .f32⟩
  | .hbm, ⟨12, _⟩ => ⟨S_, .f32⟩
  | .hbm, ⟨13, _⟩ => ⟨S2x4x8192x8192, .f32⟩
  | .hbm, ⟨14, _⟩ => ⟨S2x4x8192x8192, .f32⟩
  | .hbm, ⟨15, _⟩ => ⟨S8192, .i32⟩
  | .hbm, ⟨16, _⟩ => ⟨S8192x1, .i32⟩
  | .hbm, ⟨17, _⟩ => ⟨S8192, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i1⟩
  | .hbm, ⟨25, _⟩ => ⟨S8192x8192, .i32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i1⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S2x4x8192x8192, .i1⟩
  | .hbm, ⟨35, _⟩ => ⟨S2x4x8192x8192, .f32⟩
  | .hbm, ⟨36, _⟩ => ⟨S2x4x8192x8192, .f32⟩
  | .hbm, ⟨37, _⟩ => ⟨S2x4, .f32⟩
  | .hbm, ⟨38, _⟩ => ⟨S2x4x1, .f32⟩
  | .hbm, ⟨39, _⟩ => ⟨S_, .f32⟩
  | .hbm, ⟨40, _⟩ => ⟨S2x4x8192, .f32⟩
  | .hbm, ⟨41, _⟩ => ⟨S2x4x8192, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x8192, .f32⟩
  | .hbm, ⟨47, _⟩ => ⟨S_, .f32⟩
  | .hbm, ⟨48, _⟩ => ⟨S2x4x8192, .f32⟩
  | .hbm, ⟨49, _⟩ => ⟨S2x4x8192, .f32⟩
  | .hbm, ⟨50, _⟩ => ⟨S2x4x8192, .f32⟩
  | .hbm, ⟨51, _⟩ => ⟨S2x4x8192, .f32⟩
  | .hbm, ⟨52, _⟩ => ⟨S2x4x8192, .f32⟩
  | .hbm, ⟨53, _⟩ => ⟨S2x64x4x8192, .f32⟩
  | .hbm, ⟨54, _⟩ => ⟨S8192x2x4x64, .f32⟩
  | .hbm, ⟨55, _⟩ => ⟨S8192x2x4, .f32⟩
  | .hbm, ⟨56, _⟩ => ⟨S8192x2x4x1, .f32⟩
  | .hbm, ⟨57, _⟩ => ⟨S8192x2x4x64, .f32⟩
  | .hbm, ⟨58, _⟩ => ⟨S8192x2x4x64, .f32⟩
  | .hbm, ⟨59, _⟩ => ⟨S2x4x8192, .f32⟩
  | .hbm, ⟨60, _⟩ => ⟨S2x4x8192, .f32⟩
  | .hbm, ⟨61, _⟩ => ⟨S8192x2x4, .f32⟩
  | .hbm, ⟨62, _⟩ => ⟨S1x8192x512, .f32⟩
  | .hbm, ⟨63, _⟩ => ⟨S8192x2x4x1, .f32⟩
  | .hbm, ⟨64, _⟩ => ⟨S8192x2x4x64, .f32⟩
  | .hbm, ⟨65, _⟩ => ⟨S1x8192x512, .f32⟩
  | .hbm, ⟨66, _⟩ => ⟨S1x8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Attnb16K.lean ====
abbrev S1x8192x512 : Shape := ⟨3, ![1, 8192, 512]⟩
abbrev S4x2048x512 : Shape := ⟨3, ![4, 2048, 512]⟩
abbrev S16x512x512 : Shape := ⟨3, ![16, 512, 512]⟩
abbrev S8192x512 : Shape := ⟨2, ![8192, 512]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x8 : Shape := ⟨3, ![1, 8192, 8]⟩
abbrev S1x8192x8x1 : Shape := ⟨4, ![1, 8192, 8, 1]⟩
abbrev S8192x1x8x64 : Shape := ⟨4, ![8192, 1, 8, 64]⟩
abbrev S8192x8x64 : Shape := ⟨3, ![8192, 8, 64]⟩
abbrev S8192x1x8 : Shape := ⟨3, ![8192, 1, 8]⟩
abbrev S8192x8 : Shape := ⟨2, ![8192, 8]⟩
abbrev S4x2048x8x64 : Shape := ⟨4, ![4, 2048, 8, 64]⟩
abbrev S4x8x2048x2048 : Shape := ⟨4, ![4, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S4x2048x8x1 : Shape := ⟨4, ![4, 2048, 8, 1]⟩
abbrev S2048x4x8x64 : Shape := ⟨4, ![2048, 4, 8, 64]⟩
abbrev S2048x4x8 : Shape := ⟨3, ![2048, 4, 8]⟩
abbrev S16x512x8x64 : Shape := ⟨4, ![16, 512, 8, 64]⟩
abbrev S16x8x512x512 : Shape := ⟨4, ![16, 8, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512x8 : Shape := ⟨3, ![16, 512, 8]⟩
abbrev S16x512x8x1 : Shape := ⟨4, ![16, 512, 8, 1]⟩
abbrev S512x16x8x64 : Shape := ⟨4, ![512, 16, 8, 64]⟩
abbrev S512x16x8 : Shape := ⟨3, ![512, 16, 8]⟩
abbrev S8192x8x1 : Shape := ⟨3, ![8192, 8, 1]⟩
abbrev S512x16x512 : Shape := ⟨3, ![512, 16, 512]⟩
abbrev S1x512x128 : Shape := ⟨3, ![1, 512, 128]⟩
abbrev S512x128 : Shape := ⟨2, ![512, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S256 : Shape := ⟨1, ![256]⟩
abbrev S256x1 : Shape := ⟨2, ![256, 1]⟩
abbrev S256x256 : Shape := ⟨2, ![256, 256]⟩

abbrev nBuf : Space → Nat
  | .hbm => 217
  | .vmem => 20
  | .smem => 0
  | _ => 0

abbrev hbmTy0_0 (i : Nat) : BufTy := match i % 128 with
  | 0 => ⟨S1x8192x512, .bf16⟩
  | 1 => ⟨S1x8192x512, .bf16⟩
  | 2 => ⟨S1x8192x512, .bf16⟩
  | 3 => ⟨S4x2048x512, .bf16⟩
  | 4 => ⟨S4x2048x512, .bf16⟩
  | 5 => ⟨S4x2048x512, .bf16⟩
  | 6 => ⟨S16x512x512, .bf16⟩
  | 7 => ⟨S16x512x512, .bf16⟩
  | 8 => ⟨S16x512x512, .bf16⟩
  | 9 => ⟨S8192x512, .f32⟩
  | 10 => ⟨S1x8192x512, .f32⟩
  | 11 => ⟨S1x8192x8x64, .f32⟩
  | 12 => ⟨S1x8192x512, .f32⟩
  | 13 => ⟨S1x8192x8x64, .f32⟩
  | 14 => ⟨S1x8192x512, .f32⟩
  | 15 => ⟨S1x8192x8x64, .f32⟩
  | 16 => ⟨S1x8x8192x8192, .f32⟩
  | 17 => ⟨S_, .f32⟩
  | 18 => ⟨S1x8x8192x8192, .f32⟩
  | 19 => ⟨S1x8x8192x8192, .f32⟩
  | 20 => ⟨S8192, .i32⟩
  | 21 => ⟨S8192x1, .i32⟩
  | 22 => ⟨S8192, .i32⟩
  | 23 => ⟨S1x8192, .i32⟩
  | 24 => ⟨S8192x8192, .i32⟩
  | 25 => ⟨S8192x8192, .i32⟩
  | 26 => ⟨S8192x8192, .i32⟩
  | 27 => ⟨S_, .i32⟩
  | 28 => ⟨S8192x8192, .i32⟩
  | 29 => ⟨S8192x8192, .i1⟩
  | 30 => ⟨S8192x8192, .i32⟩
  | 31 => ⟨S8192x8192, .i32⟩
  | 32 => ⟨S8192x8192, .i32⟩
  | 33 => ⟨S_, .i32⟩
  | 34 => ⟨S8192x8192, .i32⟩
  | 35 => ⟨S8192x8192, .i1⟩
  | 36 => ⟨S8192x8192, .i1⟩
  | 37 => ⟨S_, .f32⟩
  | 38 => ⟨S_, .f32⟩
  | 39 => ⟨S1x8x8192x8192, .i1⟩
  | 40 => ⟨S1x8x8192x8192, .f32⟩
  | 41 => ⟨S1x8x8192x8192, .f32⟩
  | 42 => ⟨S_, .f32⟩
  | 43 => ⟨S1x8x8192, .f32⟩
  | 44 => ⟨S1x8x8192x1, .f32⟩
  | 45 => ⟨S1x8x8192x8192, .f32⟩
  | 46 => ⟨S1x8x8192x8192, .f32⟩
  | 47 => ⟨S1x8x8192x8192, .f32⟩
  | 48 => ⟨S_, .f32⟩
  | 49 => ⟨S1x8x8192, .f32⟩
  | 50 => ⟨S1x8x64x8192, .f32⟩
  | 51 => ⟨S1x8192x8x64, .f32⟩
  | 52 => ⟨S1x8192x8, .f32⟩
  | 53 => ⟨S1x8192x8x1, .f32⟩
  | 54 => ⟨S1x8192x8x64, .f32⟩
  | 55 => ⟨S1x8192x8x64, .f32⟩
  | 56 => ⟨S1x8x8192, .f32⟩
  | 57 => ⟨S1x8x8192, .f32⟩
  | 58 => ⟨S1x8192x8, .f32⟩
  | 59 => ⟨S1x8192x8x64, .bf16⟩
  | 60 => ⟨S8192x1x8x64, .bf16⟩
  | 61 => ⟨S8192x8x64, .bf16⟩
  | 62 => ⟨S8192x8x64, .f32⟩
  | 63 => ⟨S8192x1x8, .f32⟩
  | 64 => ⟨S8192x8, .f32⟩
  | 65 => ⟨S4x2048x512, .f32⟩
  | 66 => ⟨S4x2048x8x64, .f32⟩
  | 67 => ⟨S4x2048x512, .f32⟩
  | 68 => ⟨S4x2048x8x64, .f32⟩
  | 69 => ⟨S4x2048x512, .f32⟩
  | 70 => ⟨S4x2048x8x64, .f32⟩
  | 71 => ⟨S4x8x2048x2048, .f32⟩
  | 72 => ⟨S_, .f32⟩
  | 73 => ⟨S4x8x2048x2048, .f32⟩
  | 74 => ⟨S4x8x2048x2048, .f32⟩
  | 75 => ⟨S2048, .i32⟩
  | 76 => ⟨S2048x1, .i32⟩
  | 77 => ⟨S2048, .i32⟩
  | 78 => ⟨S1x2048, .i32⟩
  | 79 => ⟨S2048x2048, .i32⟩
  | 80 => ⟨S2048x2048, .i32⟩
  | 81 => ⟨S2048x2048, .i32⟩
  | 82 => ⟨S_, .i32⟩
  | 83 => ⟨S2048x2048, .i32⟩
  | 84 => ⟨S2048x2048, .i1⟩
  | 85 => ⟨S2048x2048, .i32⟩
  | 86 => ⟨S2048x2048, .i32⟩
  | 87 => ⟨S2048x2048, .i32⟩
  | 88 => ⟨S_, .i32⟩
  | 89 => ⟨S2048x2048, .i32⟩
  | 90 => ⟨S2048x2048, .i1⟩
  | 91 => ⟨S2048x2048, .i1⟩
  | 92 => ⟨S_, .f32⟩
  | 93 => ⟨S_, .f32⟩
  | 94 => ⟨S4x8x2048x2048, .i1⟩
  | 95 => ⟨S4x8x2048x2048, .f32⟩
  | 96 => ⟨S4x8x2048x2048, .f32⟩
  | 97 => ⟨S_, .f32⟩
  | 98 => ⟨S4x8x2048, .f32⟩
  | 99 => ⟨S4x8x2048x1, .f32⟩
  | 100 => ⟨S4x8x2048x2048, .f32⟩
  | 101 => ⟨S4x8x2048x2048, .f32⟩
  | 102 => ⟨S4x8x2048x2048, .f32⟩
  | 103 => ⟨S_, .f32⟩
  | 104 => ⟨S4x8x2048, .f32⟩
  | 105 => ⟨S4x8x64x2048, .f32⟩
  | 106 => ⟨S4x2048x8x64, .f32⟩
  | 107 => ⟨S4x2048x8, .f32⟩
  | 108 => ⟨S4x2048x8x1, .f32⟩
  | 109 => ⟨S4x2048x8x64, .f32⟩
  | 110 => ⟨S4x2048x8x64, .f32⟩
  | 111 => ⟨S4x8x2048, .f32⟩
  | 112 => ⟨S4x8x2048, .f32⟩
  | 113 => ⟨S4x2048x8, .f32⟩
  | 114 => ⟨S4x2048x8x64, .bf16⟩
  | 115 => ⟨S2048x4x8x64, .bf16⟩
  | 116 => ⟨S8192x8x64, .bf16⟩
  | 117 => ⟨S8192x8x64, .f32⟩
  | 118 => ⟨S2048x4x8, .f32⟩
  | 119 => ⟨S8192x8, .f32⟩
  | 120 => ⟨S16x512x512, .f32⟩
  | 121 => ⟨S16x512x8x64, .f32⟩
  | 122 => ⟨S16x512x512, .f32⟩
  | 123 => ⟨S16x512x8x64, .f32⟩
  | 124 => ⟨S16x512x512, .f32⟩
  | 125 => ⟨S16x512x8x64, .f32⟩
  | 126 => ⟨S16x8x512x512, .f32⟩
  | 127 => ⟨S_, .f32⟩
  | _ => ⟨S1x8192x512, .bf16⟩

abbrev hbmTy0_1 (i : Nat) : BufTy := match i % 128 with
  | 0 => ⟨S16x8x512x512, .f32⟩
  | 1 => ⟨S16x8x512x512, .f32⟩
  | 2 => ⟨S512, .i32⟩
  | 3 => ⟨S512x1, .i32⟩
  | 4 => ⟨S512, .i32⟩
  | 5 => ⟨S1x512, .i32⟩
  | 6 => ⟨S512x512, .i32⟩
  | 7 => ⟨S512x512, .i32⟩
  | 8 => ⟨S512x512, .i32⟩
  | 9 => ⟨S_, .i32⟩
  | 10 => ⟨S512x512, .i32⟩
  | 11 => ⟨S512x512, .i1⟩
  | 12 => ⟨S512x512, .i32⟩
  | 13 => ⟨S512x512, .i32⟩
  | 14 => ⟨S512x512, .i32⟩
  | 15 => ⟨S_, .i32⟩
  | 16 => ⟨S512x512, .i32⟩
  | 17 => ⟨S512x512, .i1⟩
  | 18 => ⟨S512x512, .i1⟩
  | 19 => ⟨S_, .f32⟩
  | 20 => ⟨S_, .f32⟩
  | 21 => ⟨S16x8x512x512, .i1⟩
  | 22 => ⟨S16x8x512x512, .f32⟩
  | 23 => ⟨S16x8x512x512, .f32⟩
  | 24 => ⟨S_, .f32⟩
  | 25 => ⟨S16x8x512, .f32⟩
  | 26 => ⟨S16x8x512x1, .f32⟩
  | 27 => ⟨S16x8x512x512, .f32⟩
  | 28 => ⟨S16x8x512x512, .f32⟩
  | 29 => ⟨S16x8x512x512, .f32⟩
  | 30 => ⟨S_, .f32⟩
  | 31 => ⟨S16x8x512, .f32⟩
  | 32 => ⟨S16x8x64x512, .f32⟩
  | 33 => ⟨S16x512x8x64, .f32⟩
  | 34 => ⟨S16x512x8, .f32⟩
  | 35 => ⟨S16x512x8x1, .f32⟩
  | 36 => ⟨S16x512x8x64, .f32⟩
  | 37 => ⟨S16x512x8x64, .f32⟩
  | 38 => ⟨S16x8x512, .f32⟩
  | 39 => ⟨S16x8x512, .f32⟩
  | 40 => ⟨S16x512x8, .f32⟩
  | 41 => ⟨S16x512x8x64, .bf16⟩
  | 42 => ⟨S512x16x8x64, .bf16⟩
  | 43 => ⟨S8192x8x64, .bf16⟩
  | 44 => ⟨S8192x8x64, .f32⟩
  | 45 => ⟨S512x16x8, .f32⟩
  | 46 => ⟨S8192x8, .f32⟩
  | 47 => ⟨S8192x8, .f32⟩
  | 48 => ⟨S8192x8, .f32⟩
  | 49 => ⟨S8192x8, .f32⟩
  | 50 => ⟨S8192x8, .f32⟩
  | 51 => ⟨S8192x8, .f32⟩
  | 52 => ⟨S8192x8, .f32⟩
  | 53 => ⟨S8192x8, .f32⟩
  | 54 => ⟨S8192x8, .f32⟩
  | 55 => ⟨S8192x8, .f32⟩
  | 56 => ⟨S8192x8, .f32⟩
  | 57 => ⟨S8192x8, .f32⟩
  | 58 => ⟨S8192x8x1, .f32⟩
  | 59 => ⟨S8192x8x64, .f32⟩
  | 60 => ⟨S8192x8x64, .f32⟩
  | 61 => ⟨S_, .f32⟩
  | 62 => ⟨S8192x8x64, .f32⟩
  | 63 => ⟨S8192x8x64, .f32⟩
  | 64 => ⟨S8192x8, .f32⟩
  | 65 => ⟨S8192x8x1, .f32⟩
  | 66 => ⟨S8192x8x64, .f32⟩
  | 67 => ⟨S8192x8x64, .f32⟩
  | 68 => ⟨S8192x8x64, .f32⟩
  | 69 => ⟨S8192x8, .f32⟩
  | 70 => ⟨S8192x8x1, .f32⟩
  | 71 => ⟨S8192x8x64, .f32⟩
  | 72 => ⟨S8192x8x64, .f32⟩
  | 73 => ⟨S8192x8x64, .f32⟩
  | 74 => ⟨S8192x512, .f32⟩
  | 75 => ⟨S8192x8, .f32⟩
  | 76 => ⟨S8192x8, .f32⟩
  | 77 => ⟨S8192x8x64, .f32⟩
  | 78 => ⟨S8192x512, .f32⟩
  | 79 => ⟨S512x16x512, .f32⟩
  | 80 => ⟨S16x512x512, .f32⟩
  | 81 => ⟨S512x16x512, .f32⟩
  | 82 => ⟨S16x512x512, .f32⟩
  | 83 => ⟨S512x16x512, .f32⟩
  | 84 => ⟨S16x512x512, .f32⟩
  | 85 => ⟨S16x512x512, .bf16⟩
  | 86 => ⟨S16x512x512, .bf16⟩
  | 87 => ⟨S16x512x512, .bf16⟩
  | 88 => ⟨S16x512x512, .bf16⟩
  | _ => ⟨S1x8192x512, .bf16⟩

abbrev hbmTy (i : Nat) : BufTy := match i / 128 with
  | 0 => hbmTy0_0 i
  | 1 => hbmTy0_1 i
  | _ => ⟨S1x8192x512, .bf16⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S512x128, .f32⟩
  | .local _ .vmem, ⟨19, _⟩ => ⟨S512x128, .f32⟩
  | _, _ => ⟨S1x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_10 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_11 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_c_12 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_13 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v116 : Ref sig .tc := ⟨.hbm, 151, rfl⟩
abbrev main_cst_14 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_15 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_16 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176_0 : Ref sig .tc := ⟨.hbm, 214, rfl⟩
abbrev main_v176_1 : Ref sig .tc := ⟨.hbm, 215, rfl⟩
abbrev main_v176_2 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![16, 4, 1, 1], ![false, false, false, false]⟩

def k0_mult1 (i : grid0.Coords) : BitVec 32 :=
  let arg3 : BitVec 32 := BitVec.ofNat 32 (i 3).val
  let c512_i32 : BitVec 32 := 512#32
  let v8 : BitVec 32 := Scalar.muli arg3 c512_i32
  let c0_i32_2 : BitVec 32 := 0#32
  let v9 : BitVec 32 := Scalar.addi v8 c0_i32_2
  let c128_i32 : BitVec 32 := 128#32
  let v10 : BitVec 32 := Scalar.subi v9 c128_i32
  let c0_i32_3 : BitVec 32 := 0#32
  let v11 : BitVec 32 := Scalar.maxsi v10 c0_i32_3
  v11
def k0_off1 (i : grid0.Coords) : Fin 3 → Nat :=
  let c0 : Index := 0#32
  let arg3 : BitVec 32 := BitVec.ofNat 32 (i 3).val
  let c512_i32 : BitVec 32 := 512#32
  let v8 : BitVec 32 := Scalar.muli arg3 c512_i32
  let c0_i32_2 : BitVec 32 := 0#32
  let v9 : BitVec 32 := Scalar.addi v8 c0_i32_2
  let c128_i32 : BitVec 32 := 128#32
  let v10 : BitVec 32 := Scalar.subi v9 c128_i32
  let c0_i32_3 : BitVec 32 := 0#32
  let v11 : BitVec 32 := Scalar.maxsi v10 c0_i32_3
  let v12 : BitVec 32 := v11
  let v14 : Index := Scalar.indexCast v12
  let c0_4 : Index := 0#32
  ![0, v14.toNat, 0]
def k0_off2 (i : grid0.Coords) : Fin 2 → Nat :=
  let arg3 : BitVec 32 := BitVec.ofNat 32 (i 3).val
  let c512_i32 : BitVec 32 := 512#32
  let v8 : BitVec 32 := Scalar.muli arg3 c512_i32
  let c0_i32_2 : BitVec 32 := 0#32
  let v9 : BitVec 32 := Scalar.addi v8 c0_i32_2
  let c128_i32 : BitVec 32 := 128#32
  let v10 : BitVec 32 := Scalar.subi v9 c128_i32
  let c0_i32_3 : BitVec 32 := 0#32
  let v11 : BitVec 32 := Scalar.maxsi v10 c0_i32_3
  let v12 : BitVec 32 := v11
  let v73 : Index := Scalar.indexCast v12
  let c0_29 : Index := 0#32
  ![v73.toNat, 0]
def k0_mult2 (i : grid0.Coords) : BitVec 32 :=
  let arg3 : BitVec 32 := BitVec.ofNat 32 (i 3).val
  let c512_i32_40 : BitVec 32 := 512#32
  let v103 : BitVec 32 := Scalar.muli arg3 c512_i32_40
  let c128_i32_41 : BitVec 32 := 128#32
  let v104 : BitVec 32 := Scalar.addi v103 c128_i32_41
  let c128_i32_42 : BitVec 32 := 128#32
  let v105 : BitVec 32 := Scalar.subi v104 c128_i32_42
  v105
def k0_off3 (i : grid0.Coords) (c128_i32_41 : BitVec 32) : Fin 3 → Nat :=
  let c0_43 : Index := 0#32
  let arg3 : BitVec 32 := BitVec.ofNat 32 (i 3).val
  let c512_i32_40 : BitVec 32 := 512#32
  let v103 : BitVec 32 := Scalar.muli arg3 c512_i32_40
  let v104 : BitVec 32 := Scalar.addi v103 c128_i32_41
  let c128_i32_42 : BitVec 32 := 128#32
  let v105 : BitVec 32 := Scalar.subi v104 c128_i32_42
  let v106 : BitVec 32 := v105
  let v107 : Index := Scalar.indexCast v106
  let c0_44 : Index := 0#32
  ![0, v107.toNat, 0]
def k0_off4 (i : grid0.Coords) (c128_i32_41 : BitVec 32) : Fin 2 → Nat :=
  let arg3 : BitVec 32 := BitVec.ofNat 32 (i 3).val
  let c512_i32_40 : BitVec 32 := 512#32
  let v103 : BitVec 32 := Scalar.muli arg3 c512_i32_40
  let v104 : BitVec 32 := Scalar.addi v103 c128_i32_41
  let c128_i32_42 : BitVec 32 := 128#32
  let v105 : BitVec 32 := Scalar.subi v104 c128_i32_42
  let v106 : BitVec 32 := v105
  let v166 : Index := Scalar.indexCast v106
  let c0_72 : Index := 0#32
  ![v166.toNat, 0]
def k0_mult3 (i : grid0.Coords) : BitVec 32 :=
  let arg3 : BitVec 32 := BitVec.ofNat 32 (i 3).val
  let c512_i32_83 : BitVec 32 := 512#32
  let v196 : BitVec 32 := Scalar.muli arg3 c512_i32_83
  let c256_i32 : BitVec 32 := 256#32
  let v197 : BitVec 32 := Scalar.addi v196 c256_i32
  let c128_i32_84 : BitVec 32 := 128#32
  let v198 : BitVec 32 := Scalar.subi v197 c128_i32_84
  v198
def k0_mult4 (i : grid0.Coords) : BitVec 32 :=
  let arg3 : BitVec 32 := BitVec.ofNat 32 (i 3).val
  let c512_i32_125 : BitVec 32 := 512#32
  let v289 : BitVec 32 := Scalar.muli arg3 c512_i32_125
  let c384_i32 : BitVec 32 := 384#32
  let v290 : BitVec 32 := Scalar.addi v289 c384_i32
  let c128_i32_126 : BitVec 32 := 128#32
  let v291 : BitVec 32 := Scalar.subi v290 c128_i32_126
  v291
def k0_cond2 (i : grid0.Coords) : BitVec 1 :=
  let arg2 : BitVec 32 := BitVec.ofNat 32 (i 2).val
  let c0_i32_167 : BitVec 32 := 0#32
  let v382 : BitVec 1 := Scalar.cmpi .eq arg2 c0_i32_167
  let arg3 : BitVec 32 := BitVec.ofNat 32 (i 3).val
  let c0_i32_168 : BitVec 32 := 0#32
  let v383 : BitVec 1 := Scalar.cmpi .eq arg3 c0_i32_168
  let v384 : BitVec 1 := Scalar.andi v382 v383
  let v385 : BitVec 32 := Scalar.extui v384
  let c0_i32_169 : BitVec 32 := 0#32
  let v386 : BitVec 1 := Scalar.cmpi .ne v385 c0_i32_169
  v386

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, arg3.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, arg3.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, arg3.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, arg3.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, arg3.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== Attnb16KIdeal.lean ====
variable {F : FTy → Type} [FloatOps F] [Named F]
def κ : String → Option EReal := fun
  | "mask" => some ⊥
  | _ => none
-- ==== Attnb16RIdeal.lean ====
abbrev S1x8192x512 : Shape := ⟨3, ![1, 8192, 512]⟩
abbrev S4x2048x512 : Shape := ⟨3, ![4, 2048, 512]⟩
abbrev S16x512x512 : Shape := ⟨3, ![16, 512, 512]⟩
abbrev S8192x512 : Shape := ⟨2, ![8192, 512]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x8 : Shape := ⟨3, ![1, 8192, 8]⟩
abbrev S1x8192x8x1 : Shape := ⟨4, ![1, 8192, 8, 1]⟩
abbrev S8192x1x8x64 : Shape := ⟨4, ![8192, 1, 8, 64]⟩
abbrev S8192x8x64 : Shape := ⟨3, ![8192, 8, 64]⟩
abbrev S8192x1x8 : Shape := ⟨3, ![8192, 1, 8]⟩
abbrev S8192x8 : Shape := ⟨2, ![8192, 8]⟩
abbrev S4x2048x8x64 : Shape := ⟨4, ![4, 2048, 8, 64]⟩
abbrev S4x8x2048x2048 : Shape := ⟨4, ![4, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8 : Shape := ⟨3, ![4, 2048, 8]⟩
abbrev S4x2048x8x1 : Shape := ⟨4, ![4, 2048, 8, 1]⟩
abbrev S2048x4x8x64 : Shape := ⟨4, ![2048, 4, 8, 64]⟩
abbrev S2048x4x8 : Shape := ⟨3, ![2048, 4, 8]⟩
abbrev S16x512x8x64 : Shape := ⟨4, ![16, 512, 8, 64]⟩
abbrev S16x8x512x512 : Shape := ⟨4, ![16, 8, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512x8 : Shape := ⟨3, ![16, 512, 8]⟩
abbrev S16x512x8x1 : Shape := ⟨4, ![16, 512, 8, 1]⟩
abbrev S512x16x8x64 : Shape := ⟨4, ![512, 16, 8, 64]⟩
abbrev S512x16x8 : Shape := ⟨3, ![512, 16, 8]⟩
abbrev S3x8192x8 : Shape := ⟨3, ![3, 8192, 8]⟩
abbrev S8192x8x1 : Shape := ⟨3, ![8192, 8, 1]⟩
abbrev S16x8x512x64 : Shape := ⟨4, ![16, 8, 512, 64]⟩

abbrev nBuf : Space → Nat
  | .hbm => 354
  | .vmem => 0
  | .smem => 0
  | _ => 0

abbrev hbmTy0_0 (i : Nat) : BufTy := match i % 128 with
  | 0 => ⟨S1x8192x512, .bf16⟩
  | 1 => ⟨S1x8192x512, .bf16⟩
  | 2 => ⟨S1x8192x512, .bf16⟩
  | 3 => ⟨S4x2048x512, .bf16⟩
  | 4 => ⟨S4x2048x512, .bf16⟩
  | 5 => ⟨S4x2048x512, .bf16⟩
  | 6 => ⟨S16x512x512, .bf16⟩
  | 7 => ⟨S16x512x512, .bf16⟩
  | 8 => ⟨S16x512x512, .bf16⟩
  | 9 => ⟨S8192x512, .f32⟩
  | 10 => ⟨S1x8192x512, .f32⟩
  | 11 => ⟨S1x8192x8x64, .f32⟩
  | 12 => ⟨S1x8192x512, .f32⟩
  | 13 => ⟨S1x8192x8x64, .f32⟩
  | 14 => ⟨S1x8192x512, .f32⟩
  | 15 => ⟨S1x8192x8x64, .f32⟩
  | 16 => ⟨S1x8x8192x8192, .f32⟩
  | 17 => ⟨S_, .f32⟩
  | 18 => ⟨S1x8x8192x8192, .f32⟩
  | 19 => ⟨S1x8x8192x8192, .f32⟩
  | 20 => ⟨S8192, .i32⟩
  | 21 => ⟨S8192x1, .i32⟩
  | 22 => ⟨S8192, .i32⟩
  | 23 => ⟨S1x8192, .i32⟩
  | 24 => ⟨S8192x8192, .i32⟩
  | 25 => ⟨S8192x8192, .i32⟩
  | 26 => ⟨S8192x8192, .i32⟩
  | 27 => ⟨S_, .i32⟩
  | 28 => ⟨S8192x8192, .i32⟩
  | 29 => ⟨S8192x8192, .i1⟩
  | 30 => ⟨S8192x8192, .i32⟩
  | 31 => ⟨S8192x8192, .i32⟩
  | 32 => ⟨S8192x8192, .i32⟩
  | 33 => ⟨S_, .i32⟩
  | 34 => ⟨S8192x8192, .i32⟩
  | 35 => ⟨S8192x8192, .i1⟩
  | 36 => ⟨S8192x8192, .i1⟩
  | 37 => ⟨S_, .f32⟩
  | 38 => ⟨S_, .f32⟩
  | 39 => ⟨S1x8x8192x8192, .i1⟩
  | 40 => ⟨S1x8x8192x8192, .f32⟩
  | 41 => ⟨S1x8x8192x8192, .f32⟩
  | 42 => ⟨S_, .f32⟩
  | 43 => ⟨S1x8x8192, .f32⟩
  | 44 => ⟨S1x8x8192x1, .f32⟩
  | 45 => ⟨S1x8x8192x8192, .f32⟩
  | 46 => ⟨S1x8x8192x8192, .f32⟩
  | 47 => ⟨S1x8x8192x8192, .f32⟩
  | 48 => ⟨S_, .f32⟩
  | 49 => ⟨S1x8x8192, .f32⟩
  | 50 => ⟨S1x8x64x8192, .f32⟩
  | 51 => ⟨S1x8192x8x64, .f32⟩
  | 52 => ⟨S1x8192x8, .f32⟩
  | 53 => ⟨S1x8192x8x1, .f32⟩
  | 54 => ⟨S1x8192x8x64, .f32⟩
  | 55 => ⟨S1x8192x8x64, .f32⟩
  | 56 => ⟨S1x8x8192, .f32⟩
  | 57 => ⟨S1x8x8192, .f32⟩
  | 58 => ⟨S1x8192x8, .f32⟩
  | 59 => ⟨S1x8192x8x64, .bf16⟩
  | 60 => ⟨S8192x1x8x64, .bf16⟩
  | 61 => ⟨S8192x8x64, .bf16⟩
  | 62 => ⟨S8192x8x64, .f32⟩
  | 63 => ⟨S8192x1x8, .f32⟩
  | 64 => ⟨S8192x8, .f32⟩
  | 65 => ⟨S4x2048x512, .f32⟩
  | 66 => ⟨S4x2048x8x64, .f32⟩
  | 67 => ⟨S4x2048x512, .f32⟩
  | 68 => ⟨S4x2048x8x64, .f32⟩
  | 69 => ⟨S4x2048x512, .f32⟩
  | 70 => ⟨S4x2048x8x64, .f32⟩
  | 71 => ⟨S4x8x2048x2048, .f32⟩
  | 72 => ⟨S_, .f32⟩
  | 73 => ⟨S4x8x2048x2048, .f32⟩
  | 74 => ⟨S4x8x2048x2048, .f32⟩
  | 75 => ⟨S2048, .i32⟩
  | 76 => ⟨S2048x1, .i32⟩
  | 77 => ⟨S2048, .i32⟩
  | 78 => ⟨S1x2048, .i32⟩
  | 79 => ⟨S2048x2048, .i32⟩
  | 80 => ⟨S2048x2048, .i32⟩
  | 81 => ⟨S2048x2048, .i32⟩
  | 82 => ⟨S_, .i32⟩
  | 83 => ⟨S2048x2048, .i32⟩
  | 84 => ⟨S2048x2048, .i1⟩
  | 85 => ⟨S2048x2048, .i32⟩
  | 86 => ⟨S2048x2048, .i32⟩
  | 87 => ⟨S2048x2048, .i32⟩
  | 88 => ⟨S_, .i32⟩
  | 89 => ⟨S2048x2048, .i32⟩
  | 90 => ⟨S2048x2048, .i1⟩
  | 91 => ⟨S2048x2048, .i1⟩
  | 92 => ⟨S_, .f32⟩
  | 93 => ⟨S_, .f32⟩
  | 94 => ⟨S4x8x2048x2048, .i1⟩
  | 95 => ⟨S4x8x2048x2048, .f32⟩
  | 96 => ⟨S4x8x2048x2048, .f32⟩
  | 97 => ⟨S_, .f32⟩
  | 98 => ⟨S4x8x2048, .f32⟩
  | 99 => ⟨S4x8x2048x1, .f32⟩
  | 100 => ⟨S4x8x2048x2048, .f32⟩
  | 101 => ⟨S4x8x2048x2048, .f32⟩
  | 102 => ⟨S4x8x2048x2048, .f32⟩
  | 103 => ⟨S_, .f32⟩
  | 104 => ⟨S4x8x2048, .f32⟩
  | 105 => ⟨S4x8x64x2048, .f32⟩
  | 106 => ⟨S4x2048x8x64, .f32⟩
  | 107 => ⟨S4x2048x8, .f32⟩
  | 108 => ⟨S4x2048x8x1, .f32⟩
  | 109 => ⟨S4x2048x8x64, .f32⟩
  | 110 => ⟨S4x2048x8x64, .f32⟩
  | 111 => ⟨S4x8x2048, .f32⟩
  | 112 => ⟨S4x8x2048, .f32⟩
  | 113 => ⟨S4x2048x8, .f32⟩
  | 114 => ⟨S4x2048x8x64, .bf16⟩
  | 115 => ⟨S2048x4x8x64, .bf16⟩
  | 116 => ⟨S8192x8x64, .bf16⟩
  | 117 => ⟨S8192x8x64, .f32⟩
  | 118 => ⟨S2048x4x8, .f32⟩
  | 119 => ⟨S8192x8, .f32⟩
  | 120 => ⟨S16x512x512, .f32⟩
  | 121 => ⟨S16x512x8x64, .f32⟩
  | 122 => ⟨S16x512x512, .f32⟩
  | 123 => ⟨S16x512x8x64, .f32⟩
  | 124 => ⟨S16x512x512, .f32⟩
  | 125 => ⟨S16x512x8x64, .f32⟩
  | 126 => ⟨S16x8x512x512, .f32⟩
  | 127 => ⟨S_, .f32⟩
  | _ => ⟨S1x8192x512, .bf16⟩

abbrev hbmTy0_1 (i : Nat) : BufTy := match i % 128 with
  | 0 => ⟨S16x8x512x512, .f32⟩
  | 1 => ⟨S16x8x512x512, .f32⟩
  | 2 => ⟨S512, .i32⟩
  | 3 => ⟨S512x1, .i32⟩
  | 4 => ⟨S512, .i32⟩
  | 5 => ⟨S1x512, .i32⟩
  | 6 => ⟨S512x512, .i32⟩
  | 7 => ⟨S512x512, .i32⟩
  | 8 => ⟨S512x512, .i32⟩
  | 9 => ⟨S_, .i32⟩
  | 10 => ⟨S512x512, .i32⟩
  | 11 => ⟨S512x512, .i1⟩
  | 12 => ⟨S512x512, .i32⟩
  | 13 => ⟨S512x512, .i32⟩
  | 14 => ⟨S512x512, .i32⟩
  | 15 => ⟨S_, .i32⟩
  | 16 => ⟨S512x512, .i32⟩
  | 17 => ⟨S512x512, .i1⟩
  | 18 => ⟨S512x512, .i1⟩
  | 19 => ⟨S_, .f32⟩
  | 20 => ⟨S_, .f32⟩
  | 21 => ⟨S16x8x512x512, .i1⟩
  | 22 => ⟨S16x8x512x512, .f32⟩
  | 23 => ⟨S16x8x512x512, .f32⟩
  | 24 => ⟨S_, .f32⟩
  | 25 => ⟨S16x8x512x512, .f32⟩
  | 26 => ⟨S_, .f32⟩
  | 27 => ⟨S16x8x512, .f32⟩
  | 28 => ⟨S16x8x512x1, .f32⟩
  | 29 => ⟨S16x8x512x512, .f32⟩
  | 30 => ⟨S16x8x512x512, .i1⟩
  | 31 => ⟨S16x8x512x512, .f32⟩
  | 32 => ⟨S_, .f32⟩
  | 33 => ⟨S16x8x512, .f32⟩
  | 34 => ⟨S16x8x512x1, .f32⟩
  | 35 => ⟨S16x8x512x512, .f32⟩
  | 36 => ⟨S16x8x512x512, .f32⟩
  | 37 => ⟨S16x8x512x512, .f32⟩
  | 38 => ⟨S_, .f32⟩
  | 39 => ⟨S16x8x512, .f32⟩
  | 40 => ⟨S16x8x64x512, .f32⟩
  | 41 => ⟨S16x512x8x64, .f32⟩
  | 42 => ⟨S16x512x8, .f32⟩
  | 43 => ⟨S16x512x8x1, .f32⟩
  | 44 => ⟨S16x512x8x64, .f32⟩
  | 45 => ⟨S16x512x8x64, .f32⟩
  | 46 => ⟨S16x512x8x1, .f32⟩
  | 47 => ⟨S_, .f32⟩
  | 48 => ⟨S16x512x8x1, .f32⟩
  | 49 => ⟨S16x512x8x1, .f32⟩
  | 50 => ⟨S16x8x512, .f32⟩
  | 51 => ⟨S16x8x512, .f32⟩
  | 52 => ⟨S16x512x8, .f32⟩
  | 53 => ⟨S16x512x8x64, .bf16⟩
  | 54 => ⟨S512x16x8x64, .bf16⟩
  | 55 => ⟨S8192x8x64, .bf16⟩
  | 56 => ⟨S8192x8x64, .f32⟩
  | 57 => ⟨S512x16x8, .f32⟩
  | 58 => ⟨S8192x8, .f32⟩
  | 59 => ⟨S1x8192x8, .f32⟩
  | 60 => ⟨S1x8192x8, .f32⟩
  | 61 => ⟨S1x8192x8, .f32⟩
  | 62 => ⟨S3x8192x8, .f32⟩
  | 63 => ⟨S_, .f32⟩
  | 64 => ⟨S8192x8, .f32⟩
  | 65 => ⟨S_, .f32⟩
  | 66 => ⟨S8192x8, .f32⟩
  | 67 => ⟨S_, .f32⟩
  | 68 => ⟨S8192x8, .f32⟩
  | 69 => ⟨S1x8192x8, .f32⟩
  | 70 => ⟨S3x8192x8, .f32⟩
  | 71 => ⟨S3x8192x8, .i1⟩
  | 72 => ⟨S3x8192x8, .f32⟩
  | 73 => ⟨S_, .f32⟩
  | 74 => ⟨S8192x8, .f32⟩
  | 75 => ⟨S_, .f32⟩
  | 76 => ⟨S8192x8, .f32⟩
  | 77 => ⟨S8192x8, .f32⟩
  | 78 => ⟨S_, .f32⟩
  | 79 => ⟨S8192x8, .f32⟩
  | 80 => ⟨S8192x8, .i1⟩
  | 81 => ⟨S_, .f32⟩
  | 82 => ⟨S8192x8, .f32⟩
  | 83 => ⟨S8192x8, .i1⟩
  | 84 => ⟨S_, .f32⟩
  | 85 => ⟨S8192x8, .f32⟩
  | 86 => ⟨S_, .f32⟩
  | 87 => ⟨S8192x8, .f32⟩
  | 88 => ⟨S_, .f32⟩
  | 89 => ⟨S8192x8, .f32⟩
  | 90 => ⟨S8192x8, .f32⟩
  | 91 => ⟨S8192x8, .f32⟩
  | 92 => ⟨S1x8192x8, .f32⟩
  | 93 => ⟨S3x8192x8, .f32⟩
  | 94 => ⟨S3x8192x8, .f32⟩
  | 95 => ⟨S3x8192x8, .f32⟩
  | 96 => ⟨S_, .f32⟩
  | 97 => ⟨S8192x8, .f32⟩
  | 98 => ⟨S1x8192x8, .f32⟩
  | 99 => ⟨S3x8192x8, .f32⟩
  | 100 => ⟨S3x8192x8, .f32⟩
  | 101 => ⟨S1x8192x8, .f32⟩
  | 102 => ⟨S_, .f32⟩
  | 103 => ⟨S1x8192x8, .f32⟩
  | 104 => ⟨S1x8192x8, .f32⟩
  | 105 => ⟨S1x8192x8, .f32⟩
  | 106 => ⟨S8192x8, .f32⟩
  | 107 => ⟨S1x8192x8, .f32⟩
  | 108 => ⟨S8192x8, .f32⟩
  | 109 => ⟨S1x8192x8, .f32⟩
  | 110 => ⟨S8192x8, .f32⟩
  | 111 => ⟨S8192x8x1, .f32⟩
  | 112 => ⟨S8192x8x64, .f32⟩
  | 113 => ⟨S8192x8x64, .f32⟩
  | 114 => ⟨S_, .f32⟩
  | 115 => ⟨S8192x8x64, .f32⟩
  | 116 => ⟨S8192x8x64, .f32⟩
  | 117 => ⟨S8192x8x1, .f32⟩
  | 118 => ⟨S8192x8x64, .f32⟩
  | 119 => ⟨S8192x8x64, .f32⟩
  | 120 => ⟨S8192x8x64, .f32⟩
  | 121 => ⟨S8192x8x1, .f32⟩
  | 122 => ⟨S8192x8x64, .f32⟩
  | 123 => ⟨S8192x8x64, .f32⟩
  | 124 => ⟨S8192x8x64, .f32⟩
  | 125 => ⟨S8192x512, .f32⟩
  | 126 => ⟨S8192x8x64, .f32⟩
  | 127 => ⟨S8192x8x64, .f32⟩
  | _ => ⟨S1x8192x512, .bf16⟩

abbrev hbmTy0_2 (i : Nat) : BufTy := match i % 128 with
  | 0 => ⟨S8192x8x64, .f32⟩
  | 1 => ⟨S8192x8x64, .f32⟩
  | 2 => ⟨S_, .f32⟩
  | 3 => ⟨S8192x8, .f32⟩
  | 4 => ⟨S8192x8x1, .f32⟩
  | 5 => ⟨S_, .f32⟩
  | 6 => ⟨S8192x8, .f32⟩
  | 7 => ⟨S8192x8x64, .f32⟩
  | 8 => ⟨S_, .f32⟩
  | 9 => ⟨S8192x8, .f32⟩
  | 10 => ⟨S8192x8x1, .f32⟩
  | 11 => ⟨S_, .f32⟩
  | 12 => ⟨S8192x8, .f32⟩
  | 13 => ⟨S8192x8x64, .f32⟩
  | 14 => ⟨S_, .f32⟩
  | 15 => ⟨S8192x8, .f32⟩
  | 16 => ⟨S8192x8x1, .f32⟩
  | 17 => ⟨S_, .f32⟩
  | 18 => ⟨S8192x8, .f32⟩
  | 19 => ⟨S1x8192x8, .f32⟩
  | 20 => ⟨S1x8192x8, .f32⟩
  | 21 => ⟨S1x8192x8, .f32⟩
  | 22 => ⟨S3x8192x8, .f32⟩
  | 23 => ⟨S3x8192x8, .f32⟩
  | 24 => ⟨S3x8192x8, .f32⟩
  | 25 => ⟨S3x8192x8, .f32⟩
  | 26 => ⟨S_, .f32⟩
  | 27 => ⟨S8192x8, .f32⟩
  | 28 => ⟨S1x8192x8, .f32⟩
  | 29 => ⟨S1x8192x8, .f32⟩
  | 30 => ⟨S3x8192x8, .f32⟩
  | 31 => ⟨S3x8192x8, .f32⟩
  | 32 => ⟨S_, .f32⟩
  | 33 => ⟨S8192x8, .f32⟩
  | 34 => ⟨S3x8192x8, .f32⟩
  | 35 => ⟨S3x8192x8, .f32⟩
  | 36 => ⟨S3x8192x8, .f32⟩
  | 37 => ⟨S1x8192x8, .f32⟩
  | 38 => ⟨S8192x8, .f32⟩
  | 39 => ⟨S1x8192x8, .f32⟩
  | 40 => ⟨S8192x8, .f32⟩
  | 41 => ⟨S1x8192x8, .f32⟩
  | 42 => ⟨S8192x8, .f32⟩
  | 43 => ⟨S512x16x8, .f32⟩
  | 44 => ⟨S16x512x8, .f32⟩
  | 45 => ⟨S8192x8x64, .bf16⟩
  | 46 => ⟨S512x16x8x64, .bf16⟩
  | 47 => ⟨S16x512x8x64, .bf16⟩
  | 48 => ⟨S16x512x8x64, .f32⟩
  | 49 => ⟨S16x8x512, .f32⟩
  | 50 => ⟨S16x8x512, .f32⟩
  | 51 => ⟨S16x512x8x64, .f32⟩
  | 52 => ⟨S16x512x8x64, .f32⟩
  | 53 => ⟨S16x512x8x64, .f32⟩
  | 54 => ⟨S_, .f32⟩
  | 55 => ⟨S16x512x8, .f32⟩
  | 56 => ⟨S16x512x8x1, .f32⟩
  | 57 => ⟨S16x512x8x1, .f32⟩
  | 58 => ⟨S16x512x8x64, .f32⟩
  | 59 => ⟨S16x512x8x64, .f32⟩
  | 60 => ⟨S_, .f32⟩
  | 61 => ⟨S16x512x8, .f32⟩
  | 62 => ⟨S16x8x512, .f32⟩
  | 63 => ⟨S16x8x512, .f32⟩
  | 64 => ⟨S16x8x64x512, .f32⟩
  | 65 => ⟨S16x8x512x512, .f32⟩
  | 66 => ⟨S16x8x64x512, .f32⟩
  | 67 => ⟨S16x512x8x64, .f32⟩
  | 68 => ⟨S16x8x512x512, .f32⟩
  | 69 => ⟨S16x8x512x512, .f32⟩
  | 70 => ⟨S16x8x512x512, .f32⟩
  | 71 => ⟨S16x8x512x512, .f32⟩
  | 72 => ⟨S_, .f32⟩
  | 73 => ⟨S16x8x512, .f32⟩
  | 74 => ⟨S16x8x512x1, .f32⟩
  | 75 => ⟨S_, .f32⟩
  | 76 => ⟨S16x8x512, .f32⟩
  | 77 => ⟨S16x8x512, .f32⟩
  | 78 => ⟨S16x8x512, .f32⟩
  | 79 => ⟨S16x8x512x512, .f32⟩
  | 80 => ⟨S16x8x512x512, .f32⟩
  | 81 => ⟨S16x8x512x512, .f32⟩
  | 82 => ⟨S_, .f32⟩
  | 83 => ⟨S16x8x512x512, .f32⟩
  | 84 => ⟨S16x8x512x512, .f32⟩
  | 85 => ⟨S_, .f32⟩
  | 86 => ⟨S16x8x512x512, .f32⟩
  | 87 => ⟨S16x8x512x512, .f32⟩
  | 88 => ⟨S16x8x512x64, .f32⟩
  | 89 => ⟨S16x512x8x64, .f32⟩
  | 90 => ⟨S16x8x512x64, .f32⟩
  | 91 => ⟨S16x512x8x64, .f32⟩
  | 92 => ⟨S16x512x512, .f32⟩
  | 93 => ⟨S16x512x512, .bf16⟩
  | 94 => ⟨S16x512x512, .f32⟩
  | 95 => ⟨S16x512x512, .bf16⟩
  | 96 => ⟨S16x512x512, .f32⟩
  | 97 => ⟨S16x512x512, .bf16⟩
  | _ => ⟨S1x8192x512, .bf16⟩

abbrev hbmTy (i : Nat) : BufTy := match i / 128 with
  | 0 => hbmTy0_0 i
  | 1 => hbmTy0_1 i
  | 2 => hbmTy0_2 i
  | _ => ⟨S1x8192x512, .bf16⟩

abbrev bufTy : (tb : Table) → Fin (tcTables nBuf tb) → BufTy
  | .hbm, ⟨i, _⟩ => hbmTy i
  | _, _ => ⟨S1x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_5 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_10 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_11 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_c_12 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_13 : Ref sig .tc := ⟨.hbm, 147, rfl⟩
abbrev main_call2_v0 : Ref sig .tc := ⟨.hbm, 148, rfl⟩
abbrev main_v116_1 : Ref sig .tc := ⟨.hbm, 149, rfl⟩
abbrev main_call2_v2 : Ref sig .tc := ⟨.hbm, 150, rfl⟩
abbrev main_v116_0 : Ref sig .tc := ⟨.hbm, 151, rfl⟩
abbrev main_call2_cst : Ref sig .tc := ⟨.hbm, 152, rfl⟩
abbrev main_v116_2 : Ref sig .tc := ⟨.hbm, 153, rfl⟩
abbrev main_cst_14 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_15 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_16 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_17 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_18 : Ref sig .tc := ⟨.hbm, 191, rfl⟩
abbrev main_v150 : Ref sig .tc := ⟨.hbm, 192, rfl⟩
abbrev main_cst_19 : Ref sig .tc := ⟨.hbm, 193, rfl⟩
abbrev main_v151 : Ref sig .tc := ⟨.hbm, 194, rfl⟩
abbrev main_cst_20 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_21 : Ref sig .tc := ⟨.hbm, 201, rfl⟩
abbrev main_v157 : Ref sig .tc := ⟨.hbm, 202, rfl⟩
abbrev main_cst_22 : Ref sig .tc := ⟨.hbm, 203, rfl⟩
abbrev main_v158 : Ref sig .tc := ⟨.hbm, 204, rfl⟩
abbrev main_v159 : Ref sig .tc := ⟨.hbm, 205, rfl⟩
abbrev main_cst_23 : Ref sig .tc := ⟨.hbm, 206, rfl⟩
abbrev main_v160 : Ref sig .tc := ⟨.hbm, 207, rfl⟩
abbrev main_v161 : Ref sig .tc := ⟨.hbm, 208, rfl⟩
abbrev main_cst_24 : Ref sig .tc := ⟨.hbm, 209, rfl⟩
abbrev main_v162 : Ref sig .tc := ⟨.hbm, 210, rfl⟩
abbrev main_v163 : Ref sig .tc := ⟨.hbm, 211, rfl⟩
abbrev main_cst_25 : Ref sig .tc := ⟨.hbm, 212, rfl⟩
abbrev main_v164 : Ref sig .tc := ⟨.hbm, 213, rfl⟩
abbrev main_cst_26 : Ref sig .tc := ⟨.hbm, 214, rfl⟩
abbrev main_v165 : Ref sig .tc := ⟨.hbm, 215, rfl⟩
abbrev main_cst_27 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_28 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_cst_29 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_30 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_cst_31 : Ref sig .tc := ⟨.hbm, 258, rfl⟩
abbrev main_v204 : Ref sig .tc := ⟨.hbm, 259, rfl⟩
abbrev main_v205 : Ref sig .tc := ⟨.hbm, 260, rfl⟩
abbrev main_cst_32 : Ref sig .tc := ⟨.hbm, 261, rfl⟩
abbrev main_v206 : Ref sig .tc := ⟨.hbm, 262, rfl⟩
abbrev main_v207 : Ref sig .tc := ⟨.hbm, 263, rfl⟩
abbrev main_cst_33 : Ref sig .tc := ⟨.hbm, 264, rfl⟩
abbrev main_v208 : Ref sig .tc := ⟨.hbm, 265, rfl⟩
abbrev main_v209 : Ref sig .tc := ⟨.hbm, 266, rfl⟩
abbrev main_cst_34 : Ref sig .tc := ⟨.hbm, 267, rfl⟩
abbrev main_v210 : Ref sig .tc := ⟨.hbm, 268, rfl⟩
abbrev main_v211 : Ref sig .tc := ⟨.hbm, 269, rfl⟩
abbrev main_cst_35 : Ref sig .tc := ⟨.hbm, 270, rfl⟩
abbrev main_v212 : Ref sig .tc := ⟨.hbm, 271, rfl⟩
abbrev main_v213 : Ref sig .tc := ⟨.hbm, 272, rfl⟩
abbrev main_cst_36 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_cst_37 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_cst_38 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_cst_39 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_cst_40 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_cst_41 : Ref sig .tc := ⟨.hbm, 328, rfl⟩
abbrev main_v264 : Ref sig .tc := ⟨.hbm, 329, rfl⟩
abbrev main_v265 : Ref sig .tc := ⟨.hbm, 330, rfl⟩
abbrev main_cst_42 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_call3_cst : Ref sig .tc := ⟨.hbm, 338, rfl⟩
abbrev main_call3_v0 : Ref sig .tc := ⟨.hbm, 339, rfl⟩
abbrev main_v272 : Ref sig .tc := ⟨.hbm, 340, rfl⟩
abbrev main_cst_43 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩

abbrev nD : Nat := 1
abbrev τ : Topo := Topo.v7x

variable {F : FTy → Type} [FloatOps F]
-- ==== PosteK.lean ====
abbrev S8192x1792 : Shape := ⟨2, ![8192, 1792]⟩
abbrev S8192x512 : Shape := ⟨2, ![8192, 512]⟩
abbrev S8192x256 : Shape := ⟨2, ![8192, 256]⟩
abbrev S8192x1024 : Shape := ⟨2, ![8192, 1024]⟩
abbrev S1x8192x512 : Shape := ⟨3, ![1, 8192, 512]⟩
abbrev S1x8192x256 : Shape := ⟨3, ![1, 8192, 256]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x512x512 : Shape := ⟨3, ![1, 512, 512]⟩
abbrev S1x512x256 : Shape := ⟨3, ![1, 512, 256]⟩
abbrev S512x1024 : Shape := ⟨2, ![512, 1024]⟩
abbrev S512x128 : Shape := ⟨2, ![512, 128]⟩
abbrev S512x1792 : Shape := ⟨2, ![512, 1792]⟩
abbrev S512x512 : Shape := ⟨2, ![512, 512]⟩
abbrev S1x512x128 : Shape := ⟨3, ![1, 512, 128]⟩

abbrev nBuf : Space → Nat
  | .hbm => 44
  | .vmem => 16
  | .smem => 0
  | _ => 0

abbrev bufTy : (tb : Table) → Fin (tcTables nBuf tb) → BufTy
  | .hbm, ⟨0, _⟩ => ⟨S8192x1792, .f32⟩
  | .hbm, ⟨1, _⟩ => ⟨S8192x512, .bf16⟩
  | .hbm, ⟨2, _⟩ => ⟨S8192x256, .bf16⟩
  | .hbm, ⟨3, _⟩ => ⟨S8192x256, .bf16⟩
  | .hbm, ⟨4, _⟩ => ⟨S8192x1024, .bf16⟩
  | .hbm, ⟨5, _⟩ => ⟨S1x8192x512, .bf16⟩
  | .hbm, ⟨6, _⟩ => ⟨S1x8192x256, .bf16⟩
  | .hbm, ⟨7, _⟩ => ⟨S1x8192x256, .bf16⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S_, .f32⟩
  | .hbm, ⟨25, _⟩ => ⟨S8192x48, .f32⟩
  | .hbm, ⟨26, _⟩ => ⟨S_, .f32⟩
  | .hbm, ⟨27, _⟩ => ⟨S8192x48, .f32⟩
  | .hbm, ⟨28, _⟩ => ⟨S_, .f32⟩
  | .hbm, ⟨29, _⟩ => ⟨S8192x8, .f32⟩
  | .hbm, ⟨30, _⟩ => ⟨S8192x64, .f32⟩
  | .hbm, ⟨31, _⟩ => ⟨S8192x8, .f32⟩
  | .hbm, ⟨32, _⟩ => ⟨S8192x64, .f32⟩
  | .hbm, ⟨33, _⟩ => ⟨S8192x64, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S1x8192x1x64, .f32⟩
  | .hbm, ⟨41, _⟩ => ⟨S1x8192x2x64, .f32⟩
  | .hbm, ⟨42, _⟩ => ⟨S8192x128, .f32⟩
  | .hbm, ⟨43, _⟩ => ⟨S8192x1792, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1792, .bf16⟩
  | .local _ .vmem, ⟨15, _⟩ => ⟨S512x1792, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PosteRIdeal.lean ====
abbrev S8192x1792 : Shape := ⟨2, ![8192, 1792]⟩
abbrev S8192x512 : Shape := ⟨2, ![8192, 512]⟩
abbrev S8192x256 : Shape := ⟨2, ![8192, 256]⟩
abbrev S8192x1024 : Shape := ⟨2, ![8192, 1024]⟩
abbrev S8192x128 : Shape := ⟨2, ![8192, 128]⟩
abbrev S8192x8x64 : Shape := ⟨3, ![8192, 8, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x8x8 : Shape := ⟨3, ![8192, 8, 8]⟩
abbrev S8192x8x16 : Shape := ⟨3, ![8192, 8, 16]⟩
abbrev S8192x8x48 : Shape := ⟨3, ![8192, 8, 48]⟩
abbrev S8192x2x64 : Shape := ⟨3, ![8192, 2, 64]⟩
abbrev S8192x2x8 : Shape := ⟨3, ![8192, 2, 8]⟩
abbrev S8192x2x16 : Shape := ⟨3, ![8192, 2, 16]⟩
abbrev S8192x2x48 : Shape := ⟨3, ![8192, 2, 48]⟩
abbrev S8192x2x1x64 : Shape := ⟨4, ![8192, 2, 1, 64]⟩
abbrev S8192x2x2x64 : Shape := ⟨4, ![8192, 2, 2, 64]⟩

abbrev nBuf : Space → Nat
  | .hbm => 155
  | .vmem => 0
  | .smem => 0
  | _ => 0

abbrev hbmTy0_0 (i : Nat) : BufTy := match i % 128 with
  | 0 => ⟨S8192x1792, .f32⟩
  | 1 => ⟨S8192x512, .bf16⟩
  | 2 => ⟨S8192x256, .bf16⟩
  | 3 => ⟨S8192x256, .bf16⟩
  | 4 => ⟨S8192x1024, .bf16⟩
  | 5 => ⟨S8192x512, .f32⟩
  | 6 => ⟨S8192x256, .f32⟩
  | 7 => ⟨S8192x256, .f32⟩
  | 8 => ⟨S8192x1024, .f32⟩
  | 9 => ⟨S8192x512, .f32⟩
  | 10 => ⟨S8192x128, .f32⟩
  | 11 => ⟨S8192x128, .f32⟩
  | 12 => ⟨S8192x1024, .f32⟩
  | 13 => ⟨S8192x8x64, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8192, .i32⟩
  | 23 => ⟨S8192, .f32⟩
  | 24 => ⟨S8192x1, .f32⟩
  | 25 => ⟨S1x8, .f32⟩
  | 26 => ⟨S8192x8, .f32⟩
  | 27 => ⟨S8192x8, .f32⟩
  | 28 => ⟨S8192x8, .f32⟩
  | 29 => ⟨S8192x8, .f32⟩
  | 30 => ⟨S8192x1x8, .f32⟩
  | 31 => ⟨S8192x8, .f32⟩
  | 32 => ⟨S8192x1x8, .f32⟩
  | 33 => ⟨S8192x8x8, .f32⟩
  | 34 => ⟨S8192x8x8, .f32⟩
  | 35 => ⟨S8192x8x8, .f32⟩
  | 36 => ⟨S8192x8x8, .f32⟩
  | 37 => ⟨S8192x8x8, .f32⟩
  | 38 => ⟨S8192x8x8, .f32⟩
  | 39 => ⟨S8192x8x8, .f32⟩
  | 40 => ⟨S8192x8x8, .f32⟩
  | 41 => ⟨S8192x8x8, .f32⟩
  | 42 => ⟨S8192x8x8, .f32⟩
  | 43 => ⟨S8192x8x8, .f32⟩
  | 44 => ⟨S8192x8x8, .f32⟩
  | 45 => ⟨S8192x8x16, .f32⟩
  | 46 => ⟨S8192x8x48, .f32⟩
  | 47 => ⟨S8192x8x64, .f32⟩
  | 48 => ⟨S8192x2x64, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8192, .i32⟩
  | 58 => ⟨S8192, .f32⟩
  | 59 => ⟨S8192x1, .f32⟩
  | 60 => ⟨S1x8, .f32⟩
  | 61 => ⟨S8192x8, .f32⟩
  | 62 => ⟨S8192x8, .f32⟩
  | 63 => ⟨S8192x8, .f32⟩
  | 64 => ⟨S8192x8, .f32⟩
  | 65 => ⟨S8192x1x8, .f32⟩
  | 66 => ⟨S8192x8, .f32⟩
  | 67 => ⟨S8192x1x8, .f32⟩
  | 68 => ⟨S8192x2x8, .f32⟩
  | 69 => ⟨S8192x2x8, .f32⟩
  | 70 => ⟨S8192x2x8, .f32⟩
  | 71 => ⟨S8192x2x8, .f32⟩
  | 72 => ⟨S8192x2x8, .f32⟩
  | 73 => ⟨S8192x2x8, .f32⟩
  | 74 => ⟨S8192x2x8, .f32⟩
  | 75 => ⟨S8192x2x8, .f32⟩
  | 76 => ⟨S8192x2x8, .f32⟩
  | 77 => ⟨S8192x2x8, .f32⟩
  | 78 => ⟨S8192x2x8, .f32⟩
  | 79 => ⟨S8192x2x8, .f32⟩
  | 80 => ⟨S8192x2x16, .f32⟩
  | 81 => ⟨S8192x2x48, .f32⟩
  | 82 => ⟨S8192x2x64, .f32⟩
  | 83 => ⟨S8192x2x64, .f32⟩
  | 84 => ⟨S8192x512, .f32⟩
  | 85 => ⟨S8192x2x1x64, .f32⟩
  | 86 => ⟨S8192x2x2x64, .f32⟩
  | 87 => ⟨S8192x256, .f32⟩
  | 88 => ⟨S8192x2x1x64, .f32⟩
  | 89 => ⟨S8192x2x2x64, .f32⟩
  | 90 => ⟨S8192x256, .f32⟩
  | 91 => ⟨S8192x2x2x64, .f32⟩
  | 92 => ⟨S_, .f32⟩
  | 93 => ⟨S8192x2x64, .f32⟩
  | 94 => ⟨S8192x2x1x64, .f32⟩
  | 95 => ⟨S_, .f32⟩
  | 96 => ⟨S8192x2x64, .f32⟩
  | 97 => ⟨S8192x2x2x64, .f32⟩
  | 98 => ⟨S_, .f32⟩
  | 99 => ⟨S8192x2x64, .f32⟩
  | 100 => ⟨S8192x2x1x64, .f32⟩
  | 101 => ⟨S_, .f32⟩
  | 102 => ⟨S8192x2x64, .f32⟩
  | 103 => ⟨S8192x8x64, .f32⟩
  | 104 => ⟨S8192x128, .f32⟩
  | 105 => ⟨S8192x2x16, .f32⟩
  | 106 => ⟨S8192x2x48, .f32⟩
  | 107 => ⟨S_, .f32⟩
  | 108 => ⟨S8192x2x64, .f32⟩
  | 109 => ⟨S8192x2x8, .f32⟩
  | 110 => ⟨S8192x2x8, .f32⟩
  | 111 => ⟨S8192x2x8, .f32⟩
  | 112 => ⟨S8192x2x8, .f32⟩
  | 113 => ⟨S8192x2x8, .f32⟩
  | 114 => ⟨S8192x2x8, .f32⟩
  | 115 => ⟨S8192x2x8, .f32⟩
  | 116 => ⟨S8192x2x8, .f32⟩
  | 117 => ⟨S8192x2x8, .f32⟩
  | 118 => ⟨S8192x2x8, .f32⟩
  | 119 => ⟨S8192x2x8, .f32⟩
  | 120 => ⟨S8192x2x8, .f32⟩
  | 121 => ⟨S8192x2x8, .f32⟩
  | 122 => ⟨S_, .f32⟩
  | 123 => ⟨S8192x2x64, .f32⟩
  | 124 => ⟨S8192x2x64, .f32⟩
  | 125 => ⟨S_, .f32⟩
  | 126 => ⟨S8192x2x64, .f32⟩
  | 127 => ⟨S8192x2x64, .f32⟩
  | _ => ⟨S8192x1792, .f32⟩

abbrev hbmTy0_1 (i : Nat) : BufTy := match i % 128 with
  | 0 => ⟨S8192x128, .f32⟩
  | 1 => ⟨S8192x8x16, .f32⟩
  | 2 => ⟨S8192x8x48, .f32⟩
  | 3 => ⟨S_, .f32⟩
  | 4 => ⟨S8192x8x64, .f32⟩
  | 5 => ⟨S8192x8x8, .f32⟩
  | 6 => ⟨S8192x8x8, .f32⟩
  | 7 => ⟨S8192x8x8, .f32⟩
  | 8 => ⟨S8192x8x8, .f32⟩
  | 9 => ⟨S8192x8x8, .f32⟩
  | 10 => ⟨S8192x8x8, .f32⟩
  | 11 => ⟨S8192x8x8, .f32⟩
  | 12 => ⟨S8192x8x8, .f32⟩
  | 13 => ⟨S8192x8x8, .f32⟩
  | 14 => ⟨S8192x8x8, .f32⟩
  | 15 => ⟨S8192x8x8, .f32⟩
  | 16 => ⟨S8192x8x8, .f32⟩
  | 17 => ⟨S8192x8x8, .f32⟩
  | 18 => ⟨S_, .f32⟩
  | 19 => ⟨S8192x8x64, .f32⟩
  | 20 => ⟨S8192x8x64, .f32⟩
  | 21 => ⟨S_, .f32⟩
  | 22 => ⟨S8192x8x64, .f32⟩
  | 23 => ⟨S8192x8x64, .f32⟩
  | 24 => ⟨S8192x512, .f32⟩
  | 25 => ⟨S8192x1792, .f32⟩
  | 26 => ⟨S8192x1792, .bf16⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_3 : Ref sig .tc := ⟨.hbm, 92, rfl⟩
abbrev main_v83 : Ref sig .tc := ⟨.hbm, 93, rfl⟩
abbrev main_v84 : Ref sig .tc := ⟨.hbm, 94, rfl⟩
abbrev main_cst_4 : Ref sig .tc := ⟨.hbm, 95, rfl⟩
abbrev main_v85 : Ref sig .tc := ⟨.hbm, 96, rfl⟩
abbrev main_v86 : Ref sig .tc := ⟨.hbm, 97, rfl⟩
abbrev main_cst_5 : Ref sig .tc := ⟨.hbm, 98, rfl⟩
abbrev main_v87 : Ref sig .tc := ⟨.hbm, 99, rfl⟩
abbrev main_v88 : Ref sig .tc := ⟨.hbm, 100, rfl⟩
abbrev main_cst_6 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_7 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_cst_8 : Ref sig .tc := ⟨.hbm, 122, rfl⟩
abbrev main_v108 : Ref sig .tc := ⟨.hbm, 123, rfl⟩
abbrev main_v109 : Ref sig .tc := ⟨.hbm, 124, rfl⟩
abbrev main_cst_9 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_10 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_11 : Ref sig .tc := ⟨.hbm, 146, rfl⟩
abbrev main_v129 : Ref sig .tc := ⟨.hbm, 147, rfl⟩
abbrev main_v130 : Ref sig .tc := ⟨.hbm, 148, rfl⟩
abbrev main_cst_12 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩

abbrev nD : Nat := 1
abbrev τ : Topo := Topo.v7x

variable {F : FTy → Type} [FloatOps F]
-- ==== RmsfK.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsfRIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PrepeK.lean ====
abbrev S8192x1792 : Shape := ⟨2, ![8192, 1792]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x512 : Shape := ⟨3, ![1, 8192, 512]⟩
abbrev S1x8192x256 : Shape := ⟨3, ![1, 8192, 256]⟩
abbrev S512x1792 : Shape := ⟨2, ![512, 1792]⟩
abbrev S512x128 : Shape := ⟨2, ![512, 128]⟩
abbrev S1x512x512 : Shape := ⟨3, ![1, 512, 512]⟩
abbrev S1x512x256 : Shape := ⟨3, ![1, 512, 256]⟩
abbrev S512x512 : Shape := ⟨2, ![512, 512]⟩
abbrev S1x512x128 : Shape := ⟨3, ![1, 512, 128]⟩

abbrev nBuf : Space → Nat
  | .hbm => 39
  | .vmem => 14
  | .smem => 0
  | _ => 0

abbrev bufTy : (tb : Table) → Fin (tcTables nBuf tb) → BufTy
  | .hbm, ⟨0, _⟩ => ⟨S8192x1792, .bf16⟩
  | .hbm, ⟨1, _⟩ => ⟨S8, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8192, .f32⟩
  | .hbm, ⟨10, _⟩ => ⟨S8192x1, .f32⟩
  | .hbm, ⟨11, _⟩ => ⟨S1x8, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192x48, .f32⟩
  | .hbm, ⟨19, _⟩ => ⟨S_, .f32⟩
  | .hbm, ⟨20, _⟩ => ⟨S8192x48, .f32⟩
  | .hbm, ⟨21, _⟩ => ⟨S_, .f32⟩
  | .hbm, ⟨22, _⟩ => ⟨S8192x8, .f32⟩
  | .hbm, ⟨23, _⟩ => ⟨S8192x64, .f32⟩
  | .hbm, ⟨24, _⟩ => ⟨S8192x8, .f32⟩
  | .hbm, ⟨25, _⟩ => ⟨S8192x64, .f32⟩
  | .hbm, ⟨26, _⟩ => ⟨S8192x64, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S1x8192x1x64, .f32⟩
  | .hbm, ⟨34, _⟩ => ⟨S1x8192x2x64, .f32⟩
  | .hbm, ⟨35, _⟩ => ⟨S8192x128, .f32⟩
  | .hbm, ⟨36, _⟩ => ⟨S1x8192x512, .bf16⟩
  | .hbm, ⟨37, _⟩ => ⟨S1x8192x256, .bf16⟩
  | .hbm, ⟨38, _⟩ => ⟨S1x8192x256, .bf16⟩
  | .local _ .vmem, ⟨0, _⟩ => ⟨S512x1792, .bf16⟩
  | .local _ .vmem, ⟨1, _⟩ => ⟨S512x1792, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x512, .bf16⟩
  | .local _ .vmem, ⟨9, _⟩ => ⟨S1x512x512, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v30_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PrepeRIdeal.lean ====
abbrev S8192x1792 : Shape := ⟨2, ![8192, 1792]⟩
abbrev S8192x512 : Shape := ⟨2, ![8192, 512]⟩
abbrev S8192x128 : Shape := ⟨2, ![8192, 128]⟩
abbrev S8192x1024 : Shape := ⟨2, ![8192, 1024]⟩
abbrev S8192x8x64 : Shape := ⟨3, ![8192, 8, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x8x8 : Shape := ⟨3, ![8192, 8, 8]⟩
abbrev S8192x8x16 : Shape := ⟨3, ![8192, 8, 16]⟩
abbrev S8192x8x48 : Shape := ⟨3, ![8192, 8, 48]⟩
abbrev S8192x2x64 : Shape := ⟨3, ![8192, 2, 64]⟩
abbrev S8192x2x8 : Shape := ⟨3, ![8192, 2, 8]⟩
abbrev S8192x2x16 : Shape := ⟨3, ![8192, 2, 16]⟩
abbrev S8192x2x48 : Shape := ⟨3, ![8192, 2, 48]⟩
abbrev S8192x2x1x64 : Shape := ⟨4, ![8192, 2, 1, 64]⟩
abbrev S8192x2x2x64 : Shape := ⟨4, ![8192, 2, 2, 64]⟩
abbrev S8192x256 : Shape := ⟨2, ![8192, 256]⟩
abbrev S1x8192x512 : Shape := ⟨3, ![1, 8192, 512]⟩
abbrev S1x8192x256 : Shape := ⟨3, ![1, 8192, 256]⟩

abbrev nBuf : Space → Nat
  | .hbm => 90
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1792, .f32⟩
  | .hbm, ⟨2, _⟩ => ⟨S8192x512, .f32⟩
  | .hbm, ⟨3, _⟩ => ⟨S8192x128, .f32⟩
  | .hbm, ⟨4, _⟩ => ⟨S8192x128, .f32⟩
  | .hbm, ⟨5, _⟩ => ⟨S8192x1024, .f32⟩
  | .hbm, ⟨6, _⟩ => ⟨S8192x8x64, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8192, .i32⟩
  | .hbm, ⟨16, _⟩ => ⟨S8192, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x1x8, .f32⟩
  | .hbm, ⟨24, _⟩ => ⟨S8192x8, .f32⟩
  | .hbm, ⟨25, _⟩ => ⟨S8192x1x8, .f32⟩
  | .hbm, ⟨26, _⟩ => ⟨S8192x8x8, .f32⟩
  | .hbm, ⟨27, _⟩ => ⟨S8192x8x8, .f32⟩
  | .hbm, ⟨28, _⟩ => ⟨S8192x8x8, .f32⟩
  | .hbm, ⟨29, _⟩ => ⟨S8192x8x8, .f32⟩
  | .hbm, ⟨30, _⟩ => ⟨S8192x8x8, .f32⟩
  | .hbm, ⟨31, _⟩ => ⟨S8192x8x8, .f32⟩
  | .hbm, ⟨32, _⟩ => ⟨S8192x8x8, .f32⟩
  | .hbm, ⟨33, _⟩ => ⟨S8192x8x8, .f32⟩
  | .hbm, ⟨34, _⟩ => ⟨S8192x8x8, .f32⟩
  | .hbm, ⟨35, _⟩ => ⟨S8192x8x8, .f32⟩
  | .hbm, ⟨36, _⟩ => ⟨S8192x8x8, .f32⟩
  | .hbm, ⟨37, _⟩ => ⟨S8192x8x8, .f32⟩
  | .hbm, ⟨38, _⟩ => ⟨S8192x8x16, .f32⟩
  | .hbm, ⟨39, _⟩ => ⟨S8192x8x48, .f32⟩
  | .hbm, ⟨40, _⟩ => ⟨S8192x8x64, .f32⟩
  | .hbm, ⟨41, _⟩ => ⟨S8192x2x64, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8192, .i32⟩
  | .hbm, ⟨51, _⟩ => ⟨S8192, .f32⟩
  | .hbm, ⟨52, _⟩ => ⟨S8192x1, .f32⟩
  | .hbm, ⟨53, _⟩ => ⟨S1x8, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S8192x8, .f32⟩
  | .hbm, ⟨58, _⟩ => ⟨S8192x1x8, .f32⟩
  | .hbm, ⟨59, _⟩ => ⟨S8192x8, .f32⟩
  | .hbm, ⟨60, _⟩ => ⟨S8192x1x8, .f32⟩
  | .hbm, ⟨61, _⟩ => ⟨S8192x2x8, .f32⟩
  | .hbm, ⟨62, _⟩ => ⟨S8192x2x8, .f32⟩
  | .hbm, ⟨63, _⟩ => ⟨S8192x2x8, .f32⟩
  | .hbm, ⟨64, _⟩ => ⟨S8192x2x8, .f32⟩
  | .hbm, ⟨65, _⟩ => ⟨S8192x2x8, .f32⟩
  | .hbm, ⟨66, _⟩ => ⟨S8192x2x8, .f32⟩
  | .hbm, ⟨67, _⟩ => ⟨S8192x2x8, .f32⟩
  | .hbm, ⟨68, _⟩ => ⟨S8192x2x8, .f32⟩
  | .hbm, ⟨69, _⟩ => ⟨S8192x2x8, .f32⟩
  | .hbm, ⟨70, _⟩ => ⟨S8192x2x8, .f32⟩
  | .hbm, ⟨71, _⟩ => ⟨S8192x2x8, .f32⟩
  | .hbm, ⟨72, _⟩ => ⟨S8192x2x8, .f32⟩
  | .hbm, ⟨73, _⟩ => ⟨S8192x2x16, .f32⟩
  | .hbm, ⟨74, _⟩ => ⟨S8192x2x48, .f32⟩
  | .hbm, ⟨75, _⟩ => ⟨S8192x2x64, .f32⟩
  | .hbm, ⟨76, _⟩ => ⟨S8192x2x64, .f32⟩
  | .hbm, ⟨77, _⟩ => ⟨S8192x512, .f32⟩
  | .hbm, ⟨78, _⟩ => ⟨S8192x2x1x64, .f32⟩
  | .hbm, ⟨79, _⟩ => ⟨S8192x2x2x64, .f32⟩
  | .hbm, ⟨80, _⟩ => ⟨S8192x256, .f32⟩
  | .hbm, ⟨81, _⟩ => ⟨S8192x2x1x64, .f32⟩
  | .hbm, ⟨82, _⟩ => ⟨S8192x2x2x64, .f32⟩
  | .hbm, ⟨83, _⟩ => ⟨S8192x256, .f32⟩
  | .hbm, ⟨84, _⟩ => ⟨S8192x512, .bf16⟩
  | .hbm, ⟨85, _⟩ => ⟨S1x8192x512, .bf16⟩
  | .hbm, ⟨86, _⟩ => ⟨S8192x256, .bf16⟩
  | .hbm, ⟨87, _⟩ => ⟨S1x8192x256, .bf16⟩
  | .hbm, ⟨88, _⟩ => ⟨S8192x256, .bf16⟩
  | .hbm, ⟨89, _⟩ => ⟨S1x8192x256, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_v42 : Ref sig .tc := ⟨.hbm, 46, rfl⟩
abbrev main_cst_2 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩

abbrev nD : Nat := 1
abbrev τ : Topo := Topo.v7x

variable {F : FTy → Type} [FloatOps F]
-- ==== GupK.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S384x1024 : Shape := ⟨2, ![384, 1024]⟩
abbrev S1024x384 : Shape := ⟨2, ![1024, 384]⟩
abbrev S256x1024 : Shape := ⟨2, ![256, 1024]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GupRIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .f32⟩
  | .hbm, ⟨2, _⟩ => ⟨S1024x2816, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S8192x2816, .bf16⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== MnfK.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S2816x1024, .bf16⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MnfRIdeal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MnmK.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MnmRIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== GatefK.lean ====
abbrev S8192x2560 : Shape := ⟨2, ![8192, 2560]⟩
abbrev S1x512 : Shape := ⟨2, ![1, 512]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S8192x512 : Shape := ⟨2, ![8192, 512]⟩
abbrev S512x2560 : Shape := ⟨2, ![512, 2560]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S128x512 : Shape := ⟨2, ![128, 512]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x2560, .bf16⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S128x8, .f32⟩
  | .hbm, ⟨8, _⟩ => ⟨S8192x512, .f32⟩
  | .hbm, ⟨9, _⟩ => ⟨S8192x512, .bf16⟩
  | .local _ .vmem, ⟨0, _⟩ => ⟨S512x2560, .bf16⟩
  | .local _ .vmem, ⟨1, _⟩ => ⟨S512x2560, .bf16⟩
  | .local _ .vmem, ⟨2, _⟩ => ⟨S1x512, .f32⟩
  | .local _ .vmem, ⟨3, _⟩ => ⟨S1x512, .f32⟩
  | .local _ .vmem, ⟨4, _⟩ => ⟨S8x128x128, .f32⟩
  | .local _ .vmem, ⟨5, _⟩ => ⟨S128x8, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatefRIdeal.lean ====
abbrev S8192x2560 : Shape := ⟨2, ![8192, 2560]⟩
abbrev S1x512 : Shape := ⟨2, ![1, 512]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x128x128 : Shape := ⟨3, ![8, 128, 128]⟩
abbrev S8x64x64x128 : Shape := ⟨4, ![8, 64, 64, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S64x128x8x64, .f32⟩
  | .hbm, ⟨52, _⟩ => ⟨S_, .i1⟩
  | .hbm, ⟨53, _⟩ => ⟨S128x128, .i1⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .i1⟩
  | .hbm, ⟨61, _⟩ => ⟨S128x128, .i1⟩
  | .hbm, ⟨62, _⟩ => ⟨S128x128, .i1⟩
  | .hbm, ⟨63, _⟩ => ⟨S1x128x128, .i1⟩
  | .hbm, ⟨64, _⟩ => ⟨S8x128x128, .f32⟩
  | .hbm, ⟨65, _⟩ => ⟨S_, .i32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S8x64x64x128, .f32⟩
  | .hbm, ⟨71, _⟩ => ⟨S64x128x8x64, .f32⟩
  | .hbm, ⟨72, _⟩ => ⟨S8x128, .f32⟩
  | .hbm, ⟨73, _⟩ => ⟨S128x8, .f32⟩
  | .hbm, ⟨74, _⟩ => ⟨S1x128x8x1, .f32⟩
  | .hbm, ⟨75, _⟩ => ⟨S64x128x8x64, .f32⟩
  | .hbm, ⟨76, _⟩ => ⟨S64x128x8x64, .f32⟩
  | .hbm, ⟨77, _⟩ => ⟨S8192x512, .f32⟩
  | .hbm, ⟨78, _⟩ => ⟨S8192x512, .f32⟩
  | .hbm, ⟨79, _⟩ => ⟨S8192x512, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_0 : Ref sig .tc := ⟨.hbm, 60, rfl⟩
abbrev main_call0_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== GatebK.lean ====
abbrev S8192x2560 : Shape := ⟨2, ![8192, 2560]⟩
abbrev S1x512 : Shape := ⟨2, ![1, 512]⟩
abbrev S8x128x128 : Shape := ⟨3, ![8, 128, 128]⟩
abbrev S8x128 : Shape := ⟨2, ![8, 128]⟩
abbrev S8192x1024 : Shape := ⟨2, ![8192, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S512x1024 : Shape := ⟨2, ![512, 1024]⟩
abbrev S512x2560 : Shape := ⟨2, ![512, 2560]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S8x512 : Shape := ⟨2, ![8, 512]⟩

abbrev nBuf : Space → Nat
  | .hbm => 80
  | .vmem => 16
  | .smem => 0
  | _ => 0

abbrev bufTy : (tb : Table) → Fin (tcTables nBuf tb) → BufTy
  | .hbm, ⟨0, _⟩ => ⟨S8192x2560, .bf16⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S8192x1024, .f32⟩
  | .hbm, ⟨6, _⟩ => ⟨S8192x512, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S64x128x8x64, .f32⟩
  | .hbm, ⟨51, _⟩ => ⟨S_, .i1⟩
  | .hbm, ⟨52, _⟩ => ⟨S128x128, .i1⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S_, .i1⟩
  | .hbm, ⟨60, _⟩ => ⟨S128x128, .i1⟩
  | .hbm, ⟨61, _⟩ => ⟨S128x128, .i1⟩
  | .hbm, ⟨62, _⟩ => ⟨S1x128x128, .i1⟩
  | .hbm, ⟨63, _⟩ => ⟨S_, .i32⟩
  | .hbm, ⟨64, _⟩ => ⟨S_, .f32⟩
  | .hbm, ⟨65, _⟩ => ⟨S8x128x128, .i1⟩
  | .hbm, ⟨66, _⟩ => ⟨S8x128x128, .f32⟩
  | .hbm, ⟨67, _⟩ => ⟨S8x128x128, .f32⟩
  | .hbm, ⟨68, _⟩ => ⟨S8x64x64x128, .f32⟩
  | .hbm, ⟨69, _⟩ => ⟨S64x128x8x64, .f32⟩
  | .hbm, ⟨70, _⟩ => ⟨S128x8, .f32⟩
  | .hbm, ⟨71, _⟩ => ⟨S1x128x8x1, .f32⟩
  | .hbm, ⟨72, _⟩ => ⟨S64x128x8x64, .f32⟩
  | .hbm, ⟨73, _⟩ => ⟨S64x128x8x64, .f32⟩
  | .hbm, ⟨74, _⟩ => ⟨S8192x512, .f32⟩
  | .hbm, ⟨75, _⟩ => ⟨S8192x1024, .bf16⟩
  | .hbm, ⟨76, _⟩ => ⟨S1x512, .f32⟩
  | .hbm, ⟨77, _⟩ => ⟨S1x512, .f32⟩
  | .hbm, ⟨78, _⟩ => ⟨S8x128x128, .f32⟩
  | .hbm, ⟨79, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S8x128x128, .f32⟩
  | .local _ .vmem, ⟨9, _⟩ => ⟨S512x1024, .bf16⟩
  | .local _ .vmem, ⟨10, _⟩ => ⟨S512x1024, .bf16⟩
  | .local _ .vmem, ⟨11, _⟩ => ⟨S1x512, .f32⟩
  | .local _ .vmem, ⟨12, _⟩ => ⟨S1x512, .f32⟩
  | .local _ .vmem, ⟨13, _⟩ => ⟨S8x128x128, .f32⟩
  | .local _ .vmem, ⟨14, _⟩ => ⟨S8x128, .f32⟩
  | .local _ .vmem, ⟨15, _⟩ => ⟨S512x512, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_0 : Ref sig .tc := ⟨.hbm, 59, rfl⟩
abbrev main_call0_v5 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_v47_3 : Ref sig .tc := ⟨.hbm, 78, rfl⟩
abbrev main_v47_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GatebRIdeal.lean ====
abbrev S8192x2560 : Shape := ⟨2, ![8192, 2560]⟩
abbrev S1x512 : Shape := ⟨2, ![1, 512]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩

abbrev nBuf : Space → Nat
  | .hbm => 87
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S64x128x8x64, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .i32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S8x64x64x128, .f32⟩
  | .hbm, ⟨71, _⟩ => ⟨S64x128x8x64, .f32⟩
  | .hbm, ⟨72, _⟩ => ⟨S128x8, .f32⟩
  | .hbm, ⟨73, _⟩ => ⟨S1x128x8x1, .f32⟩
  | .hbm, ⟨74, _⟩ => ⟨S64x128x8x64, .f32⟩
  | .hbm, ⟨75, _⟩ => ⟨S64x128x8x64, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S64x128x8x64, .f32⟩
  | .hbm, ⟨81, _⟩ => ⟨S_, .f32⟩
  | .hbm, ⟨82, _⟩ => ⟨S128x8, .f32⟩
  | .hbm, ⟨83, _⟩ => ⟨S1x128x8x1, .f32⟩
  | .hbm, ⟨84, _⟩ => ⟨S_, .f32⟩
  | .hbm, ⟨85, _⟩ => ⟨S128x8, .f32⟩
  | .hbm, ⟨86, _⟩ => ⟨S8x128, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]
-- ==== Proof.Finite.lean ====
/-
  Arithmetic of finite values: the extended-real operations of a program applied to real numbers are the real
  operations. Every lemma rewrites towards one coercion outside, so that a program's term whose inputs are real
  becomes the coercion of a real expression.
-/
module

public import Idealize.ShloMosaic.Lib.Pointwise
public import Idealize.ShloMosaic.Lib.ReduceAll
public import Idealize.ShloMosaic.PureOps.Ideal.Laws
public import Mathlib.Tactic.Positivity
public import Mathlib.Tactic.FieldSimp
public import Mathlib.Tactic.Ring

@[expose] public section

noncomputable section

namespace Cert.Finite

open Idealize.ShloMosaic

variable (a b : ℝ)

theorem cadd : (a : EReal) + b = ((a + b : ℝ) : EReal) := (EReal.coe_add a b).symm
theorem csub : (a : EReal) - b = ((a - b : ℝ) : EReal) := (EReal.coe_sub a b).symm
theorem cmul : (a : EReal) * b = ((a * b : ℝ) : EReal) := (EReal.coe_mul a b).symm
theorem cneg : -(a : EReal) = ((-a : ℝ) : EReal) := (EReal.coe_neg a).symm
theorem czero_sub : 0 - (a : EReal) = ((-a : ℝ) : EReal) := by rw [zero_sub, cneg]
theorem cone_add : 1 + (a : EReal) = ((1 + a : ℝ) : EReal) := by rw [← EReal.coe_one, cadd]
theorem cone_sub : 1 - (a : EReal) = ((1 - a : ℝ) : EReal) := by rw [← EReal.coe_one, csub]

theorem csum {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, cadd]

theorem cdiv (h : b ≠ 0) : Ideal.div (a : EReal) (b : EReal) = ((a / b : ℝ) : EReal) := by
  rw [Ideal.div_coe h, cmul, mul_one_div]

theorem cone_div (h : b ≠ 0) : Ideal.div 1 (b : EReal) = ((1 / b : ℝ) : EReal) := by
  rw [← EReal.coe_one, cdiv _ _ h]

theorem crsqrt (h : 0 < a) : Ideal.rsqrt (a : EReal) = (((Real.sqrt a)⁻¹ : ℝ) : EReal) := by
  rw [Ideal.rsqrt_coe, if_neg (not_lt.mpr h.le), if_neg h.ne']

/-- The extended real of a value that is neither infinity is its real part's coercion. -/
theorem coe_of_finite {x : EReal} (h : max x (-x) < ⊤) : x = ((x.toReal : ℝ) : EReal) := by
  induction x with
  | bot => simp at h
  | top => simp at h
  | coe x => rfl

/-! ### Literals -/

theorem lit_inf : Ideal.ofBits .f32 0x7F800000#32 = ⊤ := by
  simp [Ideal.ofBits, Ideal.ieee]

theorem lit_neg_half : Ideal.ofBits .f32 0xBF000000#32 = ((-(1 / 2) : ℝ) : EReal) := by
  simp [Ideal.ofBits, Ideal.ieee, -EReal.coe_mul]; norm_num

theorem lit_512 : Ideal.ofBits .f32 0x44000000#32 = ((512 : ℝ) : EReal) := by
  simp [Ideal.ofBits, Ideal.ieee, -EReal.coe_mul]; norm_num

theorem lit_eps5 : Ideal.ofBits .f32 0x3727C5AC#32 = ((10995116 / 2 ^ 40 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_inv2048 : Ideal.ofBits .f32 0x3A000000#32 = ((1 / 2048 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_eps6 : Ideal.ofBits .f32 0x358637BD#32 = ((8796093 / 2 ^ 43 : ℝ) : EReal) := by
  simp [Ideal.ofBits, Ideal.ieee, -EReal.coe_mul]; norm_num

/-- Two truth bits' "and" is one exactly where both are. -/
theorem andi_one (x y : BitVec 1) : IntOp.andi x y = 1#1 ↔ x = 1#1 ∧ y = 1#1 := by
  revert x y; decide

theorem bit_one (p : Prop) [Decidable p] : BitVec.ofBool (decide p) = 1#1 ↔ p := by
  by_cases h : p <;> simp [h]

/-- "Every element's absolute value is below infinity", as a precondition prints it: every element is a real number. -/
theorem all_finite {s : Shape} (x : FVec Ideal s .f32) (hb : (⟨0, ![]⟩ : Shape).BroadcastsInDim s (![] : Fin 0 → Fin s.rank))
    {axes : List (Fin s.rank)} (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1)
    (i : s.Idx) : x i = ((x i).toReal : EReal) := by
  haveI : Subsingleton (⟨0, ![]⟩ : Shape).Idx := ⟨fun a b => funext fun k => k.elim0⟩
  have e' := Host.reduce_andi_all _ _ h hu j e i
  revert e'
  pointwise [lit_inf]
  exact fun e' => coe_of_finite ((bit_one _).mp e')

/-- Two buffers of a two-axis shape that agree at every pair of coordinates. -/
theorem ext2 {n k : Nat} {α : Type} {f g : (⟨2, ![n, k]⟩ : Shape).Idx → α} (h : ∀ i j, f (ix2 i j) = g (ix2 i j)) : f = g := by
  funext y
  rw [← ix2_eta y]
  exact h _ _

/-- A sum of products of real numbers is a real number. -/
theorem sum_mul_real {ι : Type*} [Fintype ι] (f g : ι → EReal) (hf : ∀ k, f k = ((f k).toReal : EReal)) (hg : ∀ k, g k = ((g k).toReal : EReal)) :
    ∑ k, f k * g k = ((∑ k, (f k).toReal * (g k).toReal : ℝ) : EReal) :=
  (Finset.sum_congr rfl fun k _ => (congrArg₂ (· * ·) (hf k) (hg k)).trans (cmul _ _)).trans (csum _ _)

end Cert.Finite
-- ==== Proof.RmsMath.lean ====
/-
  The gradient of a root-mean-square norm over 1024 columns, on real numbers: the kernel's closed form and the chain
  rule's three terms.
-/
module

public import proofs.«01_k».proof.Proof.Finite
public import Mathlib.Tactic.LinearCombination

@[expose] public section

noncomputable section

namespace Cert.Rms

variable (X G Y : Fin 1024 → ℝ)

/-- The mean square with its floor. -/
def q : ℝ := (∑ j, X j * X j) / 1024 + 8796093 / 2 ^ 43
def rs : ℝ := (Real.sqrt (q X))⁻¹
/-- The normalised row. -/
def xh (l : Fin 1024) : ℝ := X l * rs X
/-- The gradient of the row, from the cotangent `Y` of the scaled norm. -/
def dx (l : Fin 1024) : ℝ := rs X * (Y l * G l - xh X l * ((∑ j, Y j * G j * xh X j) / 1024))

theorem q_pos : 0 < q X := by
  have : 0 ≤ ∑ j, X j * X j := Finset.sum_nonneg fun j _ => mul_self_nonneg _
  unfold q; positivity

theorem rs_sq : rs X * rs X = 1 / q X := by
  rw [rs, ← mul_inv, Real.mul_self_sqrt (q_pos X).le, one_div]

/-- The chain rule's form: the direct term, and the square's two halves. -/
theorem dx_eq (l : Fin 1024) :
    Y l * G l * rs X + X l * ((∑ j, X j * (Y j * G j)) * (-(1 / 2) * (rs X / q X)) / 1024)
      + (∑ j, X j * (Y j * G j)) * (-(1 / 2) * (rs X / q X)) / 1024 * X l = dx X G Y l := by
  have hs : ∑ j, Y j * G j * xh X j = (∑ j, X j * (Y j * G j)) * rs X := by
    rw [Finset.sum_mul]
    exact Finset.sum_congr rfl fun j _ => by unfold xh; ring
  have h := rs_sq X
  rw [dx, hs, xh, div_eq_mul_one_div (rs X) (q X), ← h]
  ring

/-- The difference from the target, and its share of the loss's gradient. -/
def err (T : Fin 1024 → ℝ) (l : Fin 1024) : ℝ := xh X l * G l - T l
def derr (T : Fin 1024 → ℝ) (l : Fin 1024) : ℝ := err X G T l * (1 / 1024)

end Cert.Rms

end
-- ==== Proof.FinalValue.lean ====
/-
  The arrays the step's last product leaves with the loss: the loss, and the gradients through the last norm.
-/
module

public import proofs.«01_k».proof.Proof.RmsMath
public import proofs.«01_k».proof.Proof.Gen.FinalKIdeal.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.FinalKIdeal.Block

open Cert.FinalKIdeal Cert.FinalKIdeal.Gen Idealize.ShloMosaic Idealize.ShloMosaic.TcCoe Cert.Finite Cert.Rms

section Payloads

variable (a : Vec Ideal S512x2816 .bf16) (b : Vec Ideal S2816x1024 .bf16) (x : Vec Ideal S512x1024 .f32)
  (X : Fin 512 → Fin 1024 → ℝ)
  (hX : ∀ r l, (∑ k : Fin 2816, a (ix2 r k) * b (ix2 k l)) + x (ix2 r l) = (X r l : EReal))
  (g : Vec Ideal S1x1024 .f32) (G : Fin 1024 → ℝ) (hg : ∀ l, g (ix2 0 l) = (G l : EReal))
  (t : Vec Ideal S512x1024 .f32) (T : Fin 512 → Fin 1024 → ℝ) (ht : ∀ r l, t (ix2 r l) = (T r l : EReal))

include hX in
theorem pay7_eq (r : Fin 512) (l : Fin 1024) : k0_pay7 a b x (ix2 r l) = (X r l : EReal) := by
  rw [← hX]
  pointwise [k0_pay7]

include hX in
theorem pay8_eq (r : Fin 512) : k0_pay8 a b x (ix2 r 0) = (rs (X r) : EReal) := by
  have h := q_pos (X r)
  unfold q at h
  pointwise [k0_pay8, pay7_eq a b x X hX, lit_1024, lit_eps6]
  simp (disch := first | positivity | exact h) only [cadd, cmul, csum, cdiv, crsqrt]
  rfl

include hX in
theorem pay9_eq (r : Fin 512) (l : Fin 1024) : k0_pay9 a b x (ix2 r l) = (xh (X r) l : EReal) := by
  pointwise [k0_pay9, pay8_eq a b x X hX, pay7_eq a b x X hX]
  rw [cmul]
  rfl

include hX hg ht in
/-- The difference from the target. -/
theorem pay10_eq (r : Fin 512) (l : Fin 1024) : k0_pay10 a b x g t (ix2 r l) = (err (X r) G (T r) l : EReal) := by
  pointwise [k0_pay10, pay9_eq a b x X hX, hg, ht]
  rw [cmul, csub]
  rfl

include hX hg ht in
/-- The block's share of the loss. -/
theorem pay11_eq (u v : Fin 1) : k0_pay11 a b x g t (ix2 u v)
    = ((1 / 2048 * ∑ r, ∑ l, err (X r) G (T r) l * err (X r) G (T r) l : ℝ) : EReal) := by
  pointwise [k0_pay11, pay10_eq a b x X hX g G hg t T ht, lit_inv2048]
  simp only [cmul, csum]

include hX hg ht in
theorem pay12_eq (r : Fin 512) (l : Fin 1024) : k0_pay12 a b x g t (ix2 r l) = (derr (X r) G (T r) l : EReal) := by
  pointwise [k0_pay12, pay10_eq a b x X hX g G hg t T ht, lit_inv1024]
  rw [cmul]
  rfl

include hX hg ht in
theorem pay13_eq (r : Fin 512) (l : Fin 1024) : k0_pay13 a b x g t (ix2 r l) = ((derr (X r) G (T r) l * G l : ℝ) : EReal) := by
  pointwise [k0_pay13, pay12_eq a b x X hX g G hg t T ht, hg, cmul]

include hX hg ht in
/-- What is stored at a row: the norm's gradient. -/
theorem pay1_eq (r : Fin 512) (l : Fin 1024) :
    k0_pay1 (k0_pay8 a b x) (k0_pay13 a b x g t) (k0_pay14 a b x g t) (ix2 r l) = (dx (X r) G (derr (X r) G (T r)) l : EReal) := by
  pointwise [k0_pay1, k0_pay14, pay8_eq a b x X hX, pay9_eq a b x X hX, pay13_eq a b x X hX g G hg t T ht, lit_1024]
  simp (disch := positivity) only [cadd, csub, cmul, csum, cdiv]
  rfl

include hX hg ht in
theorem pay2_eq (r : Fin 512) (l : Fin 1024) :
    k0_pay2 (k0_pay8 a b x) (k0_pay13 a b x g t) (k0_pay14 a b x g t) (ix2 r l) = (dx (X r) G (derr (X r) G (T r)) l : EReal) :=
  pay1_eq a b x X hX g G hg t T ht r l

include hX hg ht in
theorem pay5_eq (acc : Vec Ideal S1x1024 .f32) (l : Fin 1024) :
    k0_pay5 (k0_pay9 a b x) (k0_pay12 a b x g t) acc (ix2 0 l)
      = acc (ix2 0 l) + ∑ r, ((derr (X r) G (T r) l * xh (X r) l : ℝ) : EReal) := by
  pointwise [k0_pay5, pay12_eq a b x X hX g G hg t T ht, pay9_eq a b x X hX, cmul]

include hX hg ht in
theorem pay6_eq (acc : Vec Ideal S1x128 .f32) (l : Fin 128) :
    k0_pay6 (k0_pay11 a b x g t) acc (ix2 0 l)
      = acc (ix2 0 l) + ((1 / 2048 * ∑ r, ∑ l, err (X r) G (T r) l * err (X r) G (T r) l : ℝ) : EReal) := by
  pointwise [k0_pay6, pay11_eq a b x X hX g G hg t T ht]

theorem pay3_eq (l : Fin 1024) : k0_pay3 (F := Ideal) (ix2 0 l) = 0 := by pointwise [k0_pay3]
theorem pay4_eq (l : Fin 128) : k0_pay4 (F := Ideal) (ix2 0 l) = 0 := by pointwise [k0_pay4]

end Payloads

variable (m : (ℓ : Loc nD τ sig) → Buf (Elt Ideal) ℓ) (c : Dev nD)

abbrev aH : Vec Ideal S8192x1024 .f32 := m ((c : Thread nD τ).loc main_arg0)
abbrev aA : Vec Ideal S8192x2816 .bf16 := m ((c : Thread nD τ).loc main_arg1)
abbrev aW : Vec Ideal S2816x1024 .f32 := m ((c : Thread nD τ).loc main_arg2)
abbrev aG : Vec Ideal S1x1024 .f32 := m ((c : Thread nD τ).loc main_arg3)
abbrev aT : Vec Ideal S8192x1024 .f32 := m ((c : Thread nD τ).loc main_arg4)

variable (X : Fin 8192 → Fin 1024 → ℝ)
  (hX : ∀ r l, (∑ k : Fin 2816, aA m c (ix2 r k) * aW m c (ix2 k l)) + aH m c (ix2 r l) = (X r l : EReal))
  (G : Fin 1024 → ℝ) (hG : ∀ l, aG m c (ix2 0 l) = (G l : EReal))
  (T : Fin 8192 → Fin 1024 → ℝ) (hT : ∀ r l, aT m c (ix2 r l) = (T r l : EReal))

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

theorem V_main_v0 : (V m c main_v0 : Vec Ideal S2816x1024 .bf16) = (truncf .bf16 (aW m c) bitsLt_bf16_f32 : FVec Ideal S2816x1024 .bf16) := by
  show StableHlo.after hostOps0 _ _ = _
  after_results
  all_goals rfl

abbrev bA (t : Fin cfg0.N) : Vec Ideal S512x2816 .bf16 := iblk m c 0 t
abbrev bW (t : Fin cfg0.N) : Vec Ideal S2816x1024 .bf16 := iblk m c 1 t
abbrev bH (t : Fin cfg0.N) : Vec Ideal S512x1024 .f32 := iblk m c 2 t

theorem blk0 (t : Fin cfg0.N) (r : Fin 512) (k : Fin 2816) : iblk m c 0 t (ix2 r k) = aA m c (ix2 (at_ t r) k) := by
  have h : (win0_0.blk t).view.emb (ix2 r k) = (ix2 (at_ t r) k : S8192x2816.Idx) := by blk_ext [e0]
  blk_simp [iblk]
  rw [h, V_main_arg1]

theorem blk1 (t : Fin cfg0.N) (k : Fin 2816) (l : Fin 1024) : iblk m c 1 t (ix2 k l) = aW m c (ix2 k l) := by
  have h : (win0_1.blk t).view.emb (ix2 k l) = (ix2 k l : S2816x1024.Idx) := by blk_ext [e1]
  blk_simp [iblk]
  rw [h]
  exact congrFun (V_main_v0 m c) (ix2 k l)

theorem blk2 (t : Fin cfg0.N) (r : Fin 512) (l : Fin 1024) : iblk m c 2 t (ix2 r l) = aH m c (ix2 (at_ t r) l) := by
  have h : (win0_2.blk t).view.emb (ix2 r l) = (ix2 (at_ t r) l : S8192x1024.Idx) := by blk_ext [e2]
  blk_simp [iblk]
  rw [h, V_main_arg0]

include hG in
theorem blk3 (t : Fin cfg0.N) (l : Fin 1024) : iblk m c 3 t (ix2 0 l) = (G l : EReal) := by
  have h : (win0_3.blk t).view.emb (ix2 0 l) = (ix2 0 l : S1x1024.Idx) := by blk_ext [e3]
  blk_simp [iblk]
  rw [h, V_main_arg3, ← hG]

include hT in
theorem blk4 (t : Fin cfg0.N) (r : Fin 512) (l : Fin 1024) : iblk m c 4 t (ix2 r l) = (T (at_ t r) l : EReal) := by
  have h : (win0_4.blk t).view.emb (ix2 r l) = (ix2 (at_ t r) l : S8192x1024.Idx) := by blk_ext [e4]
  blk_simp [iblk]
  rw [h, V_main_arg4, ← hT]

include hX in
/-- The rows the norm reads: the residual with the product. -/
theorem rows (t : Fin cfg0.N) (r : Fin 512) (l : Fin 1024) :
    (∑ k : Fin 2816, bA m c t (ix2 r k) * bW m c t (ix2 k l)) + bH m c t (ix2 r l) = (X (at_ t r) l : EReal) := by
  rw [← hX]
  exact congrArg₂ (· + ·) (Finset.sum_congr rfl fun k _ => congrArg₂ (· * ·) (blk0 m c t r k) (blk1 m c t k l)) (blk2 m c t r l)

include hX hG hT in
theorem final5 : (dats m 0 c).arrAt 5 cfg0.N = fun i : S8192x1024.Idx => (dx (X (i 0)) G (derr (X (i 0)) G (T (i 0))) (i 1) : EReal) := by
  refine (dats m 0 c).arrAt_eq_of_covers 5 _ (by decide +kernel) fun t hf y => ?_
  have h : (win0_5.blk t).view.emb y = (ix2 (at_ t (y 0)) (y 1) : S8192x1024.Idx) := by blk_ext [e5]
  blk_simp
  rw [after0_5, h]
  by_cases h0 : t.val % 16 = 0
  · rw [outsAt0_A m c t h0]
    frame_out
    exact (congrArg _ (eq_ix2 y)).trans (pay1_eq _ _ _ _ (rows m c X hX t) _ _ (blk3 m c G hG t) _ _ (blk4 m c T hT t) _ _)
  · rw [outsAt0_B m c t h0]
    frame_out
    exact (congrArg _ (eq_ix2 y)).trans (pay1_eq _ _ _ _ (rows m c X hX t) _ _ (blk3 m c G hG t) _ _ (blk4 m c T hT t) _ _)

include hX hG hT in
theorem final6 : (dats m 0 c).arrAt 6 cfg0.N = fun i : S8192x1024.Idx => (dx (X (i 0)) G (derr (X (i 0)) G (T (i 0))) (i 1) : EReal) := by
  refine (dats m 0 c).arrAt_eq_of_covers 6 _ (by decide +kernel) fun t hf y => ?_
  have h : (win0_6.blk t).view.emb y = (ix2 (at_ t (y 0)) (y 1) : S8192x1024.Idx) := by blk_ext [e6]
  blk_simp
  rw [after0_6, h]
  by_cases h0 : t.val % 16 = 0
  · rw [outsAt0_A m c t h0]
    frame_out
    exact (congrArg _ (eq_ix2 y)).trans (pay2_eq _ _ _ _ (rows m c X hX t) _ _ (blk3 m c G hG t) _ _ (blk4 m c T hT t) _ _)
  · rw [outsAt0_B m c t h0]
    frame_out
    exact (congrArg _ (eq_ix2 y)).trans (pay2_eq _ _ _ _ (rows m c X hX t) _ _ (blk3 m c G hG t) _ _ (blk4 m c T hT t) _ _)

theorem row0 (y : S1x1024.Idx) : y = ix2 0 (y 1) := by blk_ext
theorem lane0 (y : S1x128.Idx) : y = ix2 0 (y 1) := by blk_ext

include hX hG hT in
/-- The gradient of the norm's scale. -/
theorem final7 : (dats m 0 c).arrAt 7 cfg0.N = fun i : S1x1024.Idx => ∑ r : Fin 8192, ((derr (X r) G (T r) (i 1) * xh (X r) (i 1) : ℝ) : EReal) := by
  refine (dats m 0 c).arrAt_eq_of_covers 7 _ (by decide +kernel) fun t hf y => ?_
  have h15 : t.val % 16 = 15 := (flush0_7 t).mp hf
  have hN : cfg0.grid.N = 16 := N_0
  have hl : t.val + 1 = cfg0.grid.N := by have := t.isLt; omega
  have h : (win0_7.blk t).view.emb y = (ix2 0 (y 1) : S1x1024.Idx) := by blk_ext [e7]
  blk_simp
  rw [after0_7, h]
  rw [Pipeline.eq_sum_fin_of_reset_step_apply_last (fun n h => (outsAt0 m c n h).2.2.1) 16 (fun _ => 0)
      (fun t y => ∑ r, ((derr (X (at_ t r)) G (T (at_ t r)) (y 1) * xh (X (at_ t r)) (y 1) : ℝ) : EReal))
      (fun t h y => by
        rw [outsAt0_A m c t h]; frame_out
        exact (congrArg _ (row0 y)).trans ((pay5_eq _ _ _ _ (rows m c X hX t) _ _ (blk3 m c G hG t) _ _ (blk4 m c T hT t) _ _).trans
          (congrArg (· + _) (pay3_eq _))))
      (fun t h y => by
        rw [outsAt0_B m c t h]; frame_out
        refine (congrArg _ (row0 y)).trans ((pay5_eq _ _ _ _ (rows m c X hX t) _ _ (blk3 m c G hG t) _ _ (blk4 m c T hT t) _ _).trans ?_)
        exact congrArg₂ (· + ·) (congrArg _ (row0 y).symm) rfl)
      (le_of_eq N_0) t hl y, zero_add]
  exact Fin.sum_mul_add_congr (f := fun r : Fin 8192 => ((derr (X r) G (T r) (y 1) * xh (X r) (y 1) : ℝ) : EReal)) fun s k h => rfl

/-- One row's squared difference. -/
abbrev sq (r : Fin 8192) : ℝ := ∑ l, err (X r) G (T r) l * err (X r) G (T r) l

include hX hG hT in
/-- The loss, in every lane. -/
theorem final8 : (dats m 0 c).arrAt 8 cfg0.N = fun i : S1x128.Idx => ((1 / 2048 * ∑ r, sq X G T r : ℝ) : EReal) := by
  refine (dats m 0 c).arrAt_eq_of_covers 8 _ (by decide +kernel) fun t hf y => ?_
  have h15 : t.val % 16 = 15 := (flush0_8 t).mp hf
  have hN : cfg0.grid.N = 16 := N_0
  have hl : t.val + 1 = cfg0.grid.N := by have := t.isLt; omega
  have h : (win0_8.blk t).view.emb y = (ix2 0 (y 1) : S1x128.Idx) := by blk_ext [e8]
  blk_simp
  rw [after0_8]
  rw [Pipeline.eq_sum_fin_of_reset_step_apply_last (fun n h => (outsAt0 m c n h).2.2.2) 16 (fun _ => 0)
      (fun t y => ((1 / 2048 * ∑ r, sq X G T (at_ t r) : ℝ) : EReal))
      (fun t h y => by
        rw [outsAt0_A m c t h]; frame_out
        exact (congrArg _ (lane0 y)).trans ((pay6_eq _ _ _ _ (rows m c X hX t) _ _ (blk3 m c G hG t) _ _ (blk4 m c T hT t) _ _).trans
          (congrArg (· + _) (pay4_eq _))))
      (fun t h y => by
        rw [outsAt0_B m c t h]; frame_out
        refine (congrArg _ (lane0 y)).trans ((pay6_eq _ _ _ _ (rows m c X hX t) _ _ (blk3 m c G hG t) _ _ (blk4 m c T hT t) _ _).trans ?_)
        exact congrArg₂ (· + ·) (congrArg _ (lane0 y).symm) rfl)
      (le_of_eq N_0) t hl y, zero_add]
  rw [csum, ← Finset.mul_sum]
  exact congrArg (fun s : ℝ => ((1 / 2048 * s : ℝ) : EReal)) (Fin.sum_mul_add_congr (f := sq X G T) fun s k h => rfl)

end Cert.FinalKIdeal.Block

end
-- ==== Proof.FinalClaim.lean ====
/-
  The last product with the loss: kernel and chain rule leave the same loss and the same three gradients.
-/
module

public import proofs.«01_k».proof.Defs
public import proofs.«01_k».proof.Proof.FinalValue
public import proofs.«01_k».proof.Proof.Gen.FinalRIdeal.Run
public import proofs.«01_k».proof.Proof.Gen.FinalRIdeal.Read

@[expose] public section

set_option maxRecDepth 16384

noncomputable section

namespace Cert.FinalRIdeal.Read

open Cert.FinalRIdeal Cert.FinalRIdeal.Gen Cert.FinalRIdeal.Value Idealize.ShloMosaic Cert.Finite Cert.Rms

variable (x : FVec Ideal S8192x1024 .f32) (a : FVec Ideal S8192x2816 .bf16) (w : FVec Ideal S2816x1024 .f32) (g : FVec Ideal S1x1024 .f32) (t : FVec Ideal S8192x1024 .f32)
  (X : Fin 8192 → Fin 1024 → ℝ) (hX : ∀ r l, (∑ k : Fin 2816, a (ix2 r k) * w (ix2 k l)) + x (ix2 r l) = (X r l : EReal))
  (G : Fin 1024 → ℝ) (hG : ∀ l, g (ix2 0 l) = (G l : EReal))
  (T : Fin 8192 → Fin 1024 → ℝ) (hT : ∀ r l, t (ix2 r l) = (T r l : EReal))

include hX in
/-- The row the norm reads. -/
theorem v2_eq (r : Fin 8192) (l : Fin 1024) : val_main_v2 (F := Ideal) x a w (ix2 r l) = (X r l : EReal) := by
  rw [← hX, add_comm]
  pointwise [val_main_v0, val_main_v1, val_main_v2]

include hX in
theorem v9_eq (r : Fin 8192) (i : Fin 1) : val_main_v9 (F := Ideal) x a w (ix2 r i) = (q (X r) : EReal) := by
  pointwise [val_main_v3, val_main_cst, val_main_v4, val_main_v5, val_main_cst_0, val_main_v6, val_main_v7, val_main_cst_1, val_main_v8, val_main_v9, v2_eq x a w X hX, lit_1024, lit_eps6]
  simp (disch := positivity) only [cadd, cmul, csum, cdiv]
  rfl

include hX in
theorem v10_eq (r : Fin 8192) (i : Fin 1) : val_main_v10 (F := Ideal) x a w (ix2 r i) = (rs (X r) : EReal) := by
  have h := q_pos (X r)
  pointwise [val_main_v10, v9_eq x a w X hX]
  rw [crsqrt _ h]
  rfl

include hX in
theorem v15_eq (r : Fin 8192) (l : Fin 1024) : val_main_v15 (F := Ideal) x a w (ix2 r l) = (xh (X r) l : EReal) := by
  pointwise [val_main_v15, val_main_v14, v10_eq x a w X hX, v2_eq x a w X hX]
  rw [cmul]
  rfl

include hX hG hT in
theorem v18_eq (r : Fin 8192) (l : Fin 1024) : val_main_v18 (F := Ideal) x a w g t (ix2 r l) = (err (X r) G (T r) l : EReal) := by
  pointwise [val_main_v16, val_main_v17, val_main_v18, v15_eq x a w X hX, hG, hT]
  rw [cmul, csub]
  rfl

include hX hG hT in
/-- The loss, in every lane. -/
theorem v53_eq (i : S1x128.Idx) : val_main_v53 (F := Ideal) x a w g t i
    = ((1 / 2048 * ∑ r, ∑ l, err (X r) G (T r) l * err (X r) G (T r) l : ℝ) : EReal) := by
  have h : i = ix2 0 (i 1) := by blk_ext
  rw [h]
  pointwise [val_main_v53, val_main_v26, val_main_cst_7, val_main_v25, val_main_cst_6, val_main_v24, val_main_v23, val_main_cst_5, val_main_v22, val_main_cst_4, val_main_v19,
    v18_eq x a w g t X hX G hG T hT, lit_half, lit_1024]
  simp (disch := positivity) only [cmul, csum, cdiv]
  rw [← Finset.sum_div]
  congr 1
  ring

include hX hG hT in
theorem v32_eq (r : Fin 8192) (l : Fin 1024) : val_main_v32 (F := Ideal) x a w g t (ix2 r l) = (derr (X r) G (T r) l : EReal) := by
  pointwise [val_main_v20, val_main_cst_3, val_main_v21, val_main_v27, val_main_cst_8, val_main_cst_9, val_main_v28, val_main_v29, val_main_cst_10, val_main_v30, val_main_v31, val_main_v32,
    v18_eq x a w g t X hX G hG T hT, lit_half, lit_1024, lit_two]
  simp (disch := positivity) only [cmul, cdiv, mul_one]
  unfold derr
  congr 1
  ring

include hX hG hT in
theorem v35_eq (i : S1x1024.Idx) : val_main_v35 (F := Ideal) x a w g t i = ∑ r : Fin 8192, ((derr (X r) G (T r) (i 1) * xh (X r) (i 1) : ℝ) : EReal) := by
  have h : i = ix2 0 (i 1) := by blk_ext
  rw [h]
  pointwise [val_main_v35, val_main_v34, val_main_cst_11, val_main_v33, v15_eq x a w X hX, v32_eq x a w g t X hX G hG T hT, cmul]
  exact Finset.sum_congr rfl fun r _ => congrArg _ (mul_comm _ _)

include hX hG hT in
theorem v37_eq (r : Fin 8192) (l : Fin 1024) : val_main_v37 (F := Ideal) x a w g t (ix2 r l) = ((derr (X r) G (T r) l * G l : ℝ) : EReal) := by
  pointwise [val_main_v36, val_main_v37, v32_eq x a w g t X hX G hG T hT, hG, cmul]

include hX hG hT in
theorem v45_eq (r : Fin 8192) (i : Fin 1) : val_main_v45 (F := Ideal) x a w g t (ix2 r i)
    = (((∑ j, X r j * (derr (X r) G (T r) j * G j)) * (-(1 / 2) * (rs (X r) / q (X r))) / 1024 : ℝ) : EReal) := by
  have h := q_pos (X r)
  pointwise [val_main_v45, val_main_v44, val_main_cst_13, val_main_v43, val_main_v40, val_main_v39, val_main_cst_12, val_main_v38, val_main_v13, val_main_v12, val_main_cst_2, val_main_v11,
    v37_eq x a w g t X hX G hG T hT, v9_eq x a w X hX, v10_eq x a w X hX, v2_eq x a w X hX, lit_1024, lit_neg_half]
  simp (disch := first | positivity | exact h) only [cmul, csum, cdiv]

include hX hG hT in
theorem v47_eq (r : Fin 8192) (l : Fin 1024) : val_main_v47 (F := Ideal) x a w g t (ix2 r l)
    = (((∑ j, X r j * (derr (X r) G (T r) j * G j)) * (-(1 / 2) * (rs (X r) / q (X r))) / 1024 : ℝ) : EReal) := by
  pointwise [val_main_v47, val_main_v46, val_main_cst_14, v45_eq x a w g t X hX G hG T hT, Fin.sum_univ_one]

include hX hG hT in
theorem v51_eq (r : Fin 8192) (l : Fin 1024) : val_main_v51 (F := Ideal) x a w g t (ix2 r l) = (dx (X r) G (derr (X r) G (T r)) l : EReal) := by
  rw [← dx_eq]
  pointwise [val_main_v51, val_main_v50, val_main_v49, val_main_v48, val_main_v42, val_main_v41, v37_eq x a w g t X hX G hG T hT, v10_eq x a w X hX, v47_eq x a w g t X hX G hG T hT, v2_eq x a w X hX]
  simp only [cmul, cadd]

end Cert.FinalRIdeal.Read

namespace Cert.Final

open Idealize.ShloMosaic Idealize.ShloMosaic.TcCoe Idealize.SL.Sem Cert.Finite Cert.Rms

/-- The side conditions of the precondition's own text. -/
theorem preFacts : Cert.Pre_final_finite.Facts := by constructor <;> decide

section
variable {x : FVec Ideal Pre_final_finite.S8192x1024 .f32} {a : FVec Ideal Pre_final_finite.S8192x2816 .bf16} {w : FVec Ideal Pre_final_finite.S2816x1024 .f32}
  {g : FVec Ideal Pre_final_finite.S1x1024 .f32} {t : FVec Ideal Pre_final_finite.S8192x1024 .f32}

theorem parts [Cert.Pre_final_finite.Facts] (h : Cert.Pre_final_finite.fn x a w g t = fun _ => 1#1) :
    (∀ i, x i = ((x i : EReal).toReal : EReal)) ∧ (∀ i, a i = ((a i : EReal).toReal : EReal)) ∧ (∀ i, w i = ((w i : EReal).toReal : EReal))
      ∧ (∀ i, g i = ((g i : EReal).toReal : EReal)) ∧ ∀ i, t i = ((t i : EReal).toReal : EReal) := by
  have e := congrFun h (fun k => k.elim0)
  obtain ⟨e, e5⟩ := (andi_one _ _).mp e
  obtain ⟨e, e4⟩ := (andi_one _ _).mp e
  obtain ⟨e, e3⟩ := (andi_one _ _).mp e
  obtain ⟨e1, e2⟩ := (andi_one _ _).mp e
  exact ⟨fun i => all_finite _ _ _ _ _ e1 i, fun i => all_finite _ _ _ _ _ e2 i, fun i => all_finite _ _ _ _ _ e3 i,
    fun i => all_finite _ _ _ _ _ e4 i, fun i => all_finite _ _ _ _ _ e5 i⟩
end

/-- The kernel's loss and three gradients are the chain rule's. -/
theorem claim : @Cert.algebraic_FinalKIdeal_FinalRIdeal_pre_final_finite Cert.FinalKIdeal.Gen.facts Cert.FinalRIdeal.Gen.facts preFacts := by
  haveI := preFacts
  intro m g m' g' hpre hargs
  refine ⟨fun c => (FinalKIdeal.Gen.dats m 0 c).arrAt 5 _, fun c => (FinalKIdeal.Gen.dats m 0 c).arrAt 6 _, fun c => (FinalKIdeal.Gen.dats m 0 c).arrAt 7 _,
    fun c => (FinalKIdeal.Gen.dats m 0 c).arrAt 8 _, FinalKIdeal.Value.run_blocks m g, (θ_run FinalRIdeal.defs _ _).mono (fun r h c => ?_) (FinalRIdeal.Value.run m' g')⟩
  obtain ⟨fx, fa, fw, fg, ft⟩ := parts (hpre c)
  obtain ⟨a0, a1, a2, a3, a4⟩ := hargs c
  obtain ⟨h0, h1, h2, h3, k⟩ := h c
  rw [a0, a1, a2, a3, a4] at h2
  rw [a0, a1, a2, a3, a4] at h3
  have hG : ∀ l, FinalKIdeal.Block.aG m c (ix2 0 l) = ((FinalKIdeal.Block.aG m c (ix2 0 l) : EReal).toReal : EReal) := fun l => fg _
  have hT : ∀ r l, FinalKIdeal.Block.aT m c (ix2 r l) = ((FinalKIdeal.Block.aT m c (ix2 r l) : EReal).toReal : EReal) := fun r l => ft _
  have hX : ∀ (r : Fin 8192) (l : Fin 1024), (∑ k : Fin 2816, FinalKIdeal.Block.aA m c (ix2 r k) * FinalKIdeal.Block.aW m c (ix2 k l))
      + FinalKIdeal.Block.aH m c (ix2 r l) = ((_ : ℝ) : EReal) := fun r l =>
    (congrArg₂ (· + ·) (sum_mul_real (fun k : Fin 2816 => FinalKIdeal.Block.aA m c (ix2 r k)) _ (fun _ => fa _) fun _ => fw _) (fx _)).trans (cadd _ _)
  have e0 : FinalRIdeal.Value.res_main_v51 m' c = FinalRIdeal.Read.val_main_v51 (F := Ideal) (FinalKIdeal.Block.aH m c) (FinalKIdeal.Block.aA m c) (FinalKIdeal.Block.aW m c)
      (FinalKIdeal.Block.aG m c) (FinalKIdeal.Block.aT m c) := by
    unfold FinalRIdeal.Value.res_main_v51
    rw [a0, a1, a2, a3, a4]
    rfl
  have e1 : FinalRIdeal.Value.res_main_v52 m' c = FinalRIdeal.Read.val_main_v52 (F := Ideal) (FinalKIdeal.Block.aH m c) (FinalKIdeal.Block.aA m c) (FinalKIdeal.Block.aW m c)
      (FinalKIdeal.Block.aG m c) (FinalKIdeal.Block.aT m c) := by
    unfold FinalRIdeal.Value.res_main_v52
    rw [a0, a1, a2, a3, a4]
    rfl
  refine ⟨((h0.trans e0).trans ?_).trans (FinalKIdeal.Block.final5 m c _ hX _ hG _ hT).symm, ((h1.trans e1).trans ?_).trans (FinalKIdeal.Block.final6 m c _ hX _ hG _ hT).symm,
    (h2.trans ?_).trans (FinalKIdeal.Block.final7 m c _ hX _ hG _ hT).symm, (h3.trans ?_).trans (FinalKIdeal.Block.final8 m c _ hX _ hG _ hT).symm, k⟩
  · exact ext2 fun r l => FinalRIdeal.Read.v51_eq _ _ _ _ _ _ hX _ hG _ hT r l
  · exact ext2 fun r l => FinalRIdeal.Read.v51_eq _ _ _ _ _ _ hX _ hG _ hT r l
  · exact funext fun i => FinalRIdeal.Read.v35_eq _ _ _ _ _ _ hX _ hG _ hT i
  · exact funext fun i => FinalRIdeal.Read.v53_eq _ _ _ _ _ _ hX _ hG _ hT i

/-- The reference runs to its end and leaves its arguments and counters as they were: it declares no semaphore. -/
theorem refFrame : @Cert.quiescent_FinalRIdeal Cert.FinalRIdeal.Gen.facts := fun m ρ _ =>
  (θ_run FinalRIdeal.defs _ _).mono (fun r h => ⟨fun c => (h c).2.2.2.2, Idealize.ShloMosaic.sem_eq_zero_of_no_sems (by decide) r.2⟩)
    (FinalRIdeal.Value.run m ρ)

end Cert.Final

end
-- ==== Proof.TailMath.lean ====
/-
  The arithmetic of one row of the convolution's tail `silu (layer_norm y)` and of its gradient, over the reals. The
  layer norm's shift may be infinite: the gate's derivative is defined at every extended real.
-/
module

public import proofs.«01_k».proof.Proof.Finite

@[expose] public section

noncomputable section

namespace Cert.Tail

open Idealize.ShloMosaic Cert.Finite

/-- The logistic function. -/
def sig (z : ℝ) : ℝ := 1 / (1 + Real.exp (-z))

theorem one_add_exp_ne (z : ℝ) : 1 + Real.exp z ≠ 0 := (add_pos one_pos (Real.exp_pos z)).ne'

/-- The derivative of `z * sig z`, continued to the infinities by its limits. -/
def ds : EReal → ℝ
  | ⊥ => 0
  | ⊤ => 1
  | (z : ℝ) => sig z * (1 + z * (1 - sig z))

theorem ds_bot : ds ⊥ = 0 := rfl
theorem ds_top : ds ⊤ = 1 := rfl
theorem ds_coe (z : ℝ) : ds z = sig z * (1 + z * (1 - sig z)) := rfl
theorem one_add_top : (1 : EReal) + ⊤ = ⊤ := rfl
theorem one_sub_one : (1 : EReal) - 1 = 0 := by rw [← EReal.coe_one, csub, sub_self, EReal.coe_zero]

/-- The kernel's form of the gate's gradient. -/
theorem gate_left (d : ℝ) (z : EReal) :
    (d : EReal) * Ideal.div 1 (1 + Ideal.exp (0 - z)) * (1 + z * (1 - Ideal.div 1 (1 + Ideal.exp (0 - z)))) = ((d * ds z : ℝ) : EReal) := by
  rw [zero_sub]
  induction z with
  | bot => simp [ds_bot, ds_top, Ideal.div, one_add_top, one_sub_one]
  | top => simp [ds_bot, ds_top, Ideal.div, one_add_top, one_sub_one]
  | coe z =>
    have h := one_add_exp_ne (-z)
    simp (disch := exact h) only [cneg, Ideal.exp_coe, cone_add, cone_div, cone_sub, cmul]
    rw [ds_coe, sig]; congr 1; ring

/-- The derivative as the chain rule writes it: through the product's first factor and through its second. -/
theorem gate_right (d : ℝ) (z : EReal) :
    (d : EReal) * Ideal.div 1 (1 + Ideal.exp (-z))
      + z * d * (Ideal.div 1 (1 + Ideal.exp (-z)) * (1 - Ideal.div 1 (1 + Ideal.exp (-z)))) = ((d * ds z : ℝ) : EReal) := by
  induction z with
  | bot => simp [ds_bot, ds_top, Ideal.div, one_add_top, one_sub_one]
  | top => simp [ds_bot, ds_top, Ideal.div, one_add_top, one_sub_one]
  | coe z =>
    have h := one_add_exp_ne (-z)
    simp (disch := exact h) only [cneg, Ideal.exp_coe, cone_add, cone_div, cone_sub, cmul, cadd]
    rw [ds_coe, sig]; congr 1; ring

variable (X : Fin 512 → ℝ) (G : Fin 512 → ℝ) (b : Fin 512 → EReal) (D : Fin 512 → ℝ)

def mean : ℝ := (∑ j, X j) / 512
def xc (l : Fin 512) : ℝ := X l - mean X
def q : ℝ := (∑ j, xc X j * xc X j) / 512 + 10995116 / 2 ^ 40
def rs : ℝ := (Real.sqrt (q X))⁻¹
def xh (l : Fin 512) : ℝ := xc X l * rs X
/-- The normalised value before the gate. -/
def zz (l : Fin 512) : EReal := ((xh X l * G l : ℝ) : EReal) + b l
/-- The gradient at the layer norm's output. -/
def dz (l : Fin 512) : ℝ := D l * ds (zz X G b l)
/-- The gradient at the layer norm's input. -/
def dx (l : Fin 512) : ℝ :=
  rs X * (dz X G b D l * G l - (∑ j, dz X G b D j * G j) / 512
    - xh X l * ((∑ j, dz X G b D j * G j * xh X j) / 512))

theorem q_pos : 0 < q X := by
  have : 0 ≤ ∑ j, xc X j * xc X j := Finset.sum_nonneg fun j _ => mul_self_nonneg _
  unfold q; positivity

theorem sum_xc : ∑ j, xc X j = 0 := by
  simp only [xc, mean, Finset.sum_sub_distrib, Finset.sum_const, Finset.card_univ, Fintype.card_fin, nsmul_eq_mul]
  push_cast; ring

theorem rs_sq : rs X * rs X = 1 / q X := by
  rw [rs, ← mul_inv, Real.mul_self_sqrt (q_pos X).le, one_div]

/-- The reference's gradient, before the mean's own share is added. -/
def dx0 (E : Fin 512 → ℝ) (l : Fin 512) : ℝ :=
  E l * rs X + xc X l * ((∑ j, xc X j * E j) * (-(1 / 2) * (rs X / q X)) / 512)
    + ((∑ j, xc X j * E j) * (-(1 / 2) * (rs X / q X)) / 512) * xc X l

/-- Both forms of a layer norm's gradient agree: the centred row sums to zero and `rs X ^ 2 = 1 / q X`. -/
theorem dx0_eq (E : Fin 512 → ℝ) (l : Fin 512) :
    dx0 X E l + (∑ j, -(dx0 X E j)) / 512
      = rs X * (E l - (∑ j, E j) / 512 - xh X l * ((∑ j, E j * xh X j) / 512)) := by
  have hs : ∑ j, E j * xh X j = rs X * ∑ j, xc X j * E j := by
    rw [Finset.mul_sum]; exact Finset.sum_congr rfl fun j _ => by rw [xh]; ring
  have hq : rs X / q X = rs X * (rs X * rs X) := by rw [rs_sq, mul_one_div]
  have h0 : ∑ j, -(dx0 X E j) = -(rs X * ∑ j, E j) := by
    simp only [dx0, neg_add, Finset.sum_add_distrib, Finset.sum_neg_distrib, ← Finset.sum_mul, ← Finset.mul_sum, sum_xc]
    ring
  rw [h0, hs, dx0, hq, xh]; ring

theorem dx_eq (l : Fin 512) :
    dx0 X (fun j => dz X G b D j * G j) l + (∑ j, -(dx0 X (fun j => dz X G b D j * G j) j)) / 512 = dx X G b D l :=
  dx0_eq X _ l

/-- The column of the mixer's 1024 that holds the convolution half's column `l`. -/
abbrev hi (l : Fin 512) : Fin 1024 := ⟨512 + l.val, by omega⟩

/-- Row `r` of the layer norm's input: the convolution's output with its bias. -/
abbrev row (X0 : Fin 8192 → Fin 512 → ℝ) (C : Fin 512 → ℝ) (r : Fin 8192) (l : Fin 512) : ℝ := X0 r l + C l

end Cert.Tail

end
-- ==== Proof.DactValue.lean ====
/-
  The two arrays the feed-forward layer's backward kernel leaves.
-/
module

public import proofs.«01_k».proof.Proof.TailMath
public import proofs.«01_k».proof.Proof.Gen.DactKIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.DactKIdeal.Block

open Cert.DactKIdeal Cert.DactKIdeal.Gen Idealize.ShloMosaic Idealize.ShloMosaic.TcCoe

variable (m : (ℓ : Loc nD τ sig) → Buf (Elt Ideal) ℓ) (c : Dev nD)

abbrev gate (r : Fin 8192) (j : Fin 2816) : EReal := (m ((c : Thread nD τ).loc main_arg0) : Vec Ideal S8192x2816 .bf16) (ix2 r j)
abbrev up (r : Fin 8192) (j : Fin 2816) : EReal := (m ((c : Thread nD τ).loc main_arg1) : Vec Ideal S8192x2816 .bf16) (ix2 r j)
abbrev w (j : Fin 2816) (k : Fin 1024) : EReal := (m ((c : Thread nD τ).loc main_arg2) : Vec Ideal S2816x1024 .f32) (ix2 j k)
abbrev dh (r : Fin 8192) (k : Fin 1024) : EReal := (m ((c : Thread nD τ).loc main_arg3) : Vec Ideal S8192x1024 .bf16) (ix2 r k)

/-- The cotangent of the gated product. -/
abbrev dact (r : Fin 8192) (j : Fin 2816) : EReal := ∑ k, dh m c r k * w m c j k
/-- The logistic function. -/
abbrev sg (z : EReal) : EReal := Ideal.div 1 (1 + Ideal.exp (0 - z))

abbrev atR (t : Fin cfg0.N) (r : Fin 1024) : Fin 8192 := ⟨t.val % 8 * 1024 + r.val, by omega⟩
abbrev atC (t : Fin cfg0.N) (j : Fin 1408) : Fin 2816 := ⟨t.val / 8 * 1408 + j.val, by have := t.isLt; have : cfg0.N = 16 := N_0; omega⟩

theorem e0 : ∀ t : Fin cfg0.N, win0_0.index t = ![t.val % 8, 0] := (by decide +kernel : ∀ t : Fin grid0.N, _)
theorem e1 : ∀ t : Fin cfg0.N, win0_1.index t = ![t.val / 8, 0] := (by decide +kernel : ∀ t : Fin grid0.N, _)
theorem e2 : ∀ t : Fin cfg0.N, win0_2.index t = ![t.val % 8, t.val / 8] := (by decide +kernel : ∀ t : Fin grid0.N, _)
theorem e3 : ∀ t : Fin cfg0.N, win0_3.index t = ![t.val % 8, t.val / 8] := (by decide +kernel : ∀ t : Fin grid0.N, _)
theorem e4 : ∀ t : Fin cfg0.N, win0_4.index t = ![t.val % 8, t.val / 8] := (by decide +kernel : ∀ t : Fin grid0.N, _)
theorem e5 : ∀ t : Fin cfg0.N, win0_5.index t = ![t.val % 8, t.val / 8] := (by decide +kernel : ∀ t : Fin grid0.N, _)

/-- The gradient of the gate's input. -/
abbrev dgate (r : Fin 8192) (j : Fin 2816) : EReal :=
  dact m c r j * up m c r j * sg (gate m c r j) * (1 + gate m c r j * (1 - sg (gate m c r j)))
/-- The gradient of the gated factor. -/
abbrev dup (r : Fin 8192) (j : Fin 2816) : EReal := dact m c r j * gate m c r j * sg (gate m c r j)

theorem V_main_v0 : V m c main_v0 = (m ((c : Thread nD τ).loc main_arg2) : Vec Ideal S2816x1024 .f32) := by
  show StableHlo.after hostOps0 _ _ = _
  after_results
  all_goals rfl

theorem blk0 (t : Fin cfg0.N) (r k : Fin 1024) : iblk m c 0 t (ix2 r k) = dh m c (atR t r) k := by
  have h : (win0_0.blk t).view.emb (ix2 r k) = (ix2 (atR t r) k : S8192x1024.Idx) := by blk_ext [e0]
  blk_simp [iblk]
  rw [h, V_main_arg3]

theorem blk1 (t : Fin cfg0.N) (j : Fin 1408) (k : Fin 1024) : iblk m c 1 t (ix2 j k) = w m c (atC t j) k := by
  have h : (win0_1.blk t).view.emb (ix2 j k) = (ix2 (atC t j) k : S2816x1024.Idx) := by blk_ext [e1]
  blk_simp [iblk]
  rw [h, V_main_v0]

theorem blk2 (t : Fin cfg0.N) (r : Fin 1024) (j : Fin 1408) : iblk m c 2 t (ix2 r j) = gate m c (atR t r) (atC t j) := by
  have h : (win0_2.blk t).view.emb (ix2 r j) = (ix2 (atR t r) (atC t j) : S8192x2816.Idx) := by blk_ext [e2]
  blk_simp [iblk]
  rw [h, V_main_arg0]

theorem blk3 (t : Fin cfg0.N) (r : Fin 1024) (j : Fin 1408) : iblk m c 3 t (ix2 r j) = up m c (atR t r) (atC t j) := by
  have h : (win0_3.blk t).view.emb (ix2 r j) = (ix2 (atR t r) (atC t j) : S8192x2816.Idx) := by blk_ext [e3]
  blk_simp [iblk]
  rw [h, V_main_arg1]

theorem final4 : (dats m 0 c).arrAt 4 cfg0.N = fun i : S8192x2816.Idx => dgate m c (i 0) (i 1) := by
  refine (dats m 0 c).arrAt_eq_of_covers 4 _ (by decide +kernel) fun t hf y => ?_
  have h : (win0_4.blk t).view.emb y = (ix2 (atR t (y 0)) (atC t (y 1)) : S8192x2816.Idx) := by blk_ext [e4]
  blk_simp
  rw [after0_4, h]
  simp only [outsAt0]
  frame_out
  canon_tiles x hx using View.cover_of_tiledBy _ ![1024, 128] (by sl_kernel_rfl) _
  all_goals
    rw [eq_ix2 x]
    open_payloads
    pointwise [blk0, blk1, blk2, blk3]
    exact congrArg₂ (dgate m c) (congrArg (atR t) (Fin.ext hx0.symm)) (congrArg (atC t) (Fin.ext (by simpa using hx1.symm)))

theorem final5 : (dats m 0 c).arrAt 5 cfg0.N = fun i : S8192x2816.Idx => dup m c (i 0) (i 1) := by
  refine (dats m 0 c).arrAt_eq_of_covers 5 _ (by decide +kernel) fun t hf y => ?_
  have h : (win0_5.blk t).view.emb y = (ix2 (atR t (y 0)) (atC t (y 1)) : S8192x2816.Idx) := by blk_ext [e5]
  blk_simp
  rw [after0_5, h]
  simp only [outsAt0]
  frame_out
  canon_tiles x hx using View.cover_of_tiledBy _ ![1024, 128] (by sl_kernel_rfl) _
  all_goals
    rw [eq_ix2 x]
    open_payloads
    pointwise [blk0, blk1, blk2, blk3]
    exact congrArg₂ (dup m c) (congrArg (atR t) (Fin.ext hx0.symm)) (congrArg (atC t) (Fin.ext (by simpa using hx1.symm)))

end Cert.DactKIdeal.Block

end
-- ==== Proof.DactClaim.lean ====
/-
  The gradient of the gated feed-forward product: kernel and chain rule leave the same two arrays.
-/
module

public import proofs.«01_k».proof.Defs
public import proofs.«01_k».proof.Proof.DactValue
public import proofs.«01_k».proof.Proof.Gen.DactRIdeal.Run
public import proofs.«01_k».proof.Proof.Gen.DactRIdeal.Read

@[expose] public section

set_option maxRecDepth 16384

noncomputable section

namespace Cert.DactRIdeal.Read

open Cert.DactRIdeal Cert.DactRIdeal.Gen Cert.DactRIdeal.Value Idealize.ShloMosaic Cert.Finite Cert.Tail

variable (g u : FVec Ideal S8192x2816 .bf16) (w : FVec Ideal S2816x1024 .f32) (d : FVec Ideal S8192x1024 .bf16)

/-- The gate's gradient at real cotangents: the two halves of the logistic's chain rule together. -/
theorem v10_eq (r : Fin 8192) (j : Fin 2816) (U : ℝ) (hu : u (ix2 r j) = (U : EReal)) (S : ℝ) (hs : ∑ k : Fin 1024, d (ix2 r k) * w (ix2 j k) = (S : EReal)) :
    val_main_v10 (F := Ideal) g u w d (ix2 r j)
      = (∑ k : Fin 1024, d (ix2 r k) * w (ix2 j k)) * u (ix2 r j) * Ideal.div 1 (1 + Ideal.exp (0 - g (ix2 r j)))
          * (1 + g (ix2 r j) * (1 - Ideal.div 1 (1 + Ideal.exp (0 - g (ix2 r j))))) := by
  rw [hs, hu, cmul, gate_left, ← gate_right]
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_v8, val_main_call1_v0, val_main_call1_v1, val_main_call1_v2, val_main_v9, val_main_v10, val_main_v11, hs, hu, cmul]

theorem v11_eq (r : Fin 8192) (j : Fin 2816) :
    val_main_v11 (F := Ideal) g w d (ix2 r j)
      = (∑ k : Fin 1024, d (ix2 r k) * w (ix2 j k)) * g (ix2 r j) * Ideal.div 1 (1 + Ideal.exp (0 - g (ix2 r j))) := by
  rw [zero_sub]
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_v8, val_main_call1_v0, val_main_call1_v1, val_main_call1_v2, val_main_v9, val_main_v10, val_main_v11]
  simp only [mul_comm, mul_left_comm, mul_assoc]

end Cert.DactRIdeal.Read

namespace Cert.Dact

open Idealize.ShloMosaic Idealize.ShloMosaic.TcCoe Idealize.SL.Sem Cert.Finite Cert.Tail

/-- The side conditions of the precondition's own text. -/
theorem preFacts : Cert.Pre_dact_finite.Facts := by constructor <;> decide

section
variable {g u : FVec Ideal Pre_dact_finite.S8192x2816 .bf16} {w : FVec Ideal Pre_dact_finite.S2816x1024 .f32} {d : FVec Ideal Pre_dact_finite.S8192x1024 .bf16}

theorem parts [Cert.Pre_dact_finite.Facts] (h : Cert.Pre_dact_finite.fn g u w d = fun _ => 1#1) :
    (∀ i, u i = ((u i : EReal).toReal : EReal)) ∧ (∀ i, w i = ((w i : EReal).toReal : EReal)) ∧ ∀ i, d i = ((d i : EReal).toReal : EReal) := by
  have e := congrFun h (fun k => k.elim0)
  obtain ⟨e, e3⟩ := (andi_one _ _).mp e
  obtain ⟨e1, e2⟩ := (andi_one _ _).mp e
  exact ⟨fun i => all_finite _ _ _ _ _ e1 i, fun i => all_finite _ _ _ _ _ e2 i, fun i => all_finite _ _ _ _ _ e3 i⟩
end

/-- The kernel's two gradients are the chain rule's. -/
theorem claim : @Cert.algebraic_DactKIdeal_DactRIdeal_pre_dact_finite Cert.DactKIdeal.Gen.facts Cert.DactRIdeal.Gen.facts preFacts := by
  haveI := preFacts
  intro m g m' g' hpre hargs
  refine ⟨fun c => (DactKIdeal.Gen.dats m 0 c).arrAt 4 _, fun c => (DactKIdeal.Gen.dats m 0 c).arrAt 5 _,
    DactKIdeal.Value.run_blocks m g, (θ_run DactRIdeal.defs _ _).mono (fun r h c => ?_) (DactRIdeal.Value.run m' g')⟩
  obtain ⟨fu, fw, fd⟩ := parts (hpre c)
  obtain ⟨a0, a1, a2, a3⟩ := hargs c
  obtain ⟨h0, h1, k⟩ := h c
  rw [a0, a1, a2, a3] at h0
  rw [a0, a2, a3] at h1
  refine ⟨(h0.trans ?_).trans (DactKIdeal.Block.final4 m c).symm, (h1.trans ?_).trans (DactKIdeal.Block.final5 m c).symm, k⟩
  · exact ext2 fun r j => DactRIdeal.Read.v10_eq _ _ _ _ r j _ (fu _) _ (sum_mul_real (fun k : Fin 1024 => (m ((c : Thread DactKIdeal.nD DactKIdeal.τ).loc DactKIdeal.main_arg3) : Vec Ideal DactKIdeal.S8192x1024 .bf16) (ix2 r k)) _ (fun _ => fd _) fun _ => fw _)
  · exact ext2 fun r j => DactRIdeal.Read.v11_eq _ _ _ r j

/-- The reference runs to its end and leaves its arguments and counters as they were: it declares no semaphore. -/
theorem refFrame : @Cert.quiescent_DactRIdeal Cert.DactRIdeal.Gen.facts := fun m ρ _ =>
  (θ_run DactRIdeal.defs _ _).mono (fun r h => ⟨fun c => (h c).2.2, Idealize.ShloMosaic.sem_eq_zero_of_no_sems (by decide) r.2⟩)
    (DactRIdeal.Value.run m ρ)

end Cert.Dact

end
-- ==== Proof.DnValue.lean ====
/-
  The arrays the fused norm gradient of the feed-forward leaves, where the two products' sum is finite.
-/
module

public import proofs.«01_k».proof.Proof.RmsMath
public import proofs.«01_k».proof.Proof.Gen.DnKIdeal.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.DnKIdeal.Block

open Cert.DnKIdeal Cert.DnKIdeal.Gen Idealize.ShloMosaic Idealize.ShloMosaic.TcCoe Cert.Finite Cert.Rms

section Payloads

variable (a : Vec Ideal S512x2816 .bf16) (b : Vec Ideal S2816x1024 .bf16) (a' : Vec Ideal S512x2816 .bf16) (b' : Vec Ideal S2816x1024 .bf16)
  (Y : Fin 512 → Fin 1024 → ℝ)
  (hY : ∀ r l, (∑ k : Fin 2816, a' (ix2 r k) * b' (ix2 k l)) + ∑ k : Fin 2816, a (ix2 r k) * b (ix2 k l) = (Y r l : EReal))
  (x : Vec Ideal S512x1024 .f32) (X : Fin 512 → Fin 1024 → ℝ) (hx : ∀ r l, x (ix2 r l) = (X r l : EReal))
  (g : Vec Ideal S1x1024 .f32) (G : Fin 1024 → ℝ) (hg : ∀ l, g (ix2 0 l) = (G l : EReal))

include hY in
/-- The cotangent of the scaled norm. -/
theorem pay4_eq (r : Fin 512) (l : Fin 1024) : k0_pay4 a b a' b' (ix2 r l) = (Y r l : EReal) := by
  rw [← hY]
  pointwise [k0_pay4]

include hx in
theorem pay5_eq (r : Fin 512) : k0_pay5 x (ix2 r 0) = (rs (X r) : EReal) := by
  have h := q_pos (X r)
  unfold q at h
  pointwise [k0_pay5, hx, lit_1024, lit_eps6]
  simp (disch := first | positivity | exact h) only [cadd, cmul, csum, cdiv, crsqrt]
  rfl

include hx in
theorem pay6_eq (r : Fin 512) (l : Fin 1024) : k0_pay6 x (ix2 r l) = (xh (X r) l : EReal) := by
  pointwise [k0_pay6, pay5_eq x X hx, hx]
  rw [cmul]
  rfl

include hY hx in
theorem pay7_eq (acc : Vec Ideal S1x1024 .f32) (l : Fin 1024) :
    k0_pay7 a b a' b' x acc (ix2 0 l) = acc (ix2 0 l) + ∑ r, ((Y r l * xh (X r) l : ℝ) : EReal) := by
  pointwise [k0_pay7, pay4_eq a b a' b' Y hY, pay6_eq x X hx, cmul]

include hY hg in
theorem pay8_eq (r : Fin 512) (l : Fin 1024) : k0_pay8 a b a' b' g (ix2 r l) = ((Y r l * G l : ℝ) : EReal) := by
  pointwise [k0_pay8, pay4_eq a b a' b' Y hY, hg, cmul]

include hY hx hg in
/-- What is stored at a row: the residual's cotangent and the norm's gradient. -/
theorem pay1_eq (d : Vec Ideal S512x1024 .f32) (r : Fin 512) (l : Fin 1024) :
    k0_pay1 (k0_pay5 x) (k0_pay6 x) (k0_pay8 a b a' b' g) d (ix2 r l) = d (ix2 r l) + (dx (X r) G (Y r) l : EReal) := by
  pointwise [k0_pay1, pay5_eq x X hx, pay6_eq x X hx, pay8_eq a b a' b' Y hY g G hg, lit_1024]
  simp (disch := positivity) only [cadd, csub, cmul, csum, cdiv]
  rfl

include hY hx hg in
theorem pay2_eq (d : Vec Ideal S512x1024 .f32) (r : Fin 512) (l : Fin 1024) :
    k0_pay2 (k0_pay5 x) (k0_pay6 x) (k0_pay8 a b a' b' g) d (ix2 r l) = d (ix2 r l) + (dx (X r) G (Y r) l : EReal) :=
  pay1_eq a b a' b' Y hY x X hx g G hg d r l

theorem pay3_eq (l : Fin 1024) : k0_pay3 (F := Ideal) (ix2 0 l) = 0 := by pointwise [k0_pay3]

end Payloads

variable (m : (ℓ : Loc nD τ sig) → Buf (Elt Ideal) ℓ) (c : Dev nD)

abbrev aX : Vec Ideal S8192x1024 .f32 := m ((c : Thread nD τ).loc main_arg0)
abbrev aG : Vec Ideal S1x1024 .f32 := m ((c : Thread nD τ).loc main_arg1)
abbrev aW : Vec Ideal S1024x2816 .f32 := m ((c : Thread nD τ).loc main_arg2)
abbrev aU : Vec Ideal S1024x2816 .f32 := m ((c : Thread nD τ).loc main_arg3)
abbrev aDW : Vec Ideal S8192x2816 .bf16 := m ((c : Thread nD τ).loc main_arg4)
abbrev aDU : Vec Ideal S8192x2816 .bf16 := m ((c : Thread nD τ).loc main_arg5)
abbrev aD : Vec Ideal S8192x1024 .f32 := m ((c : Thread nD τ).loc main_arg6)

variable (X : Fin 8192 → Fin 1024 → ℝ) (hX : ∀ r l, aX m c (ix2 r l) = (X r l : EReal))
  (G : Fin 1024 → ℝ) (hG : ∀ l, aG m c (ix2 0 l) = (G l : EReal))
  (Y : Fin 8192 → Fin 1024 → ℝ)
  (hY : ∀ r l, (∑ k : Fin 2816, aDU m c (ix2 r k) * aU m c (ix2 l k)) + ∑ k : Fin 2816, aDW m c (ix2 r k) * aW m c (ix2 l k) = (Y r l : EReal))

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![0, 0] := (by decide +kernel : ∀ t : Fin grid0.N, _)

theorem V_main_v1 (k : Fin 2816) (l : Fin 1024) : (V m c main_v1 : Vec Ideal S2816x1024 .bf16) (ix2 k l) = aW m c (ix2 l k) := by
  have h : V m c main_v1 = (truncf .bf16 (transpose S2816x1024 [1, 0] (aW m c) transposes_S1024x2816_S2816x1024_1_0) bitsLt_bf16_f32 : FVec Ideal S2816x1024 .bf16) := by
    show StableHlo.after hostOps0 _ _ = _
    after_results
    all_goals rfl
  rw [h]
  pointwise []

theorem V_main_v3 (k : Fin 2816) (l : Fin 1024) : (V m c main_v3 : Vec Ideal S2816x1024 .bf16) (ix2 k l) = aU m c (ix2 l k) := by
  have h : V m c main_v3 = (truncf .bf16 (transpose S2816x1024 [1, 0] (aU m c) transposes_S1024x2816_S2816x1024_1_0) bitsLt_bf16_f32 : FVec Ideal S2816x1024 .bf16) := by
    show StableHlo.after hostOps0 _ _ = _
    after_results
    all_goals rfl
  rw [h]
  pointwise []

theorem blk0 (t : Fin cfg0.N) (r : Fin 512) (k : Fin 2816) : iblk m c 0 t (ix2 r k) = aDW m c (ix2 (at_ t r) k) := by
  have h : (win0_0.blk t).view.emb (ix2 r k) = (ix2 (at_ t r) k : S8192x2816.Idx) := by blk_ext [e0]
  blk_simp [iblk]
  rw [h, V_main_arg4]

theorem blk1 (t : Fin cfg0.N) (r : Fin 512) (k : Fin 2816) : iblk m c 1 t (ix2 r k) = aDU m c (ix2 (at_ t r) k) := by
  have h : (win0_1.blk t).view.emb (ix2 r k) = (ix2 (at_ t r) k : S8192x2816.Idx) := by blk_ext [e1]
  blk_simp [iblk]
  rw [h, V_main_arg5]

theorem blk2 (t : Fin cfg0.N) (k : Fin 2816) (l : Fin 1024) : iblk m c 2 t (ix2 k l) = aW m c (ix2 l k) := by
  have h : (win0_2.blk t).view.emb (ix2 k l) = (ix2 k l : S2816x1024.Idx) := by blk_ext [e2]
  blk_simp [iblk]
  rw [h]
  exact V_main_v1 m c k l

theorem blk3 (t : Fin cfg0.N) (k : Fin 2816) (l : Fin 1024) : iblk m c 3 t (ix2 k l) = aU m c (ix2 l k) := by
  have h : (win0_3.blk t).view.emb (ix2 k l) = (ix2 k l : S2816x1024.Idx) := by blk_ext [e3]
  blk_simp [iblk]
  rw [h]
  exact V_main_v3 m c k l

include hX in
theorem blk4 (t : Fin cfg0.N) (r : Fin 512) (l : Fin 1024) : iblk m c 4 t (ix2 r l) = (X (at_ t r) l : EReal) := by
  have h : (win0_4.blk t).view.emb (ix2 r l) = (ix2 (at_ t r) l : S8192x1024.Idx) := by blk_ext [e4]
  blk_simp [iblk]
  rw [h, V_main_arg0, ← hX]

theorem blk5 (t : Fin cfg0.N) (r : Fin 512) (l : Fin 1024) : iblk m c 5 t (ix2 r l) = aD m c (ix2 (at_ t r) l) := by
  have h : (win0_5.blk t).view.emb (ix2 r l) = (ix2 (at_ t r) l : S8192x1024.Idx) := by blk_ext [e5]
  blk_simp [iblk]
  rw [h, V_main_arg6]

include hG in
theorem blk6 (t : Fin cfg0.N) (l : Fin 1024) : iblk m c 6 t (ix2 0 l) = (G l : EReal) := by
  have h : (win0_6.blk t).view.emb (ix2 0 l) = (ix2 0 l : S1x1024.Idx) := by blk_ext [e6]
  blk_simp [iblk]
  rw [h, V_main_arg1, ← hG]

abbrev bDW (t : Fin cfg0.N) : Vec Ideal S512x2816 .bf16 := iblk m c 0 t
abbrev bDU (t : Fin cfg0.N) : Vec Ideal S512x2816 .bf16 := iblk m c 1 t
abbrev bW (t : Fin cfg0.N) : Vec Ideal S2816x1024 .bf16 := iblk m c 2 t
abbrev bU (t : Fin cfg0.N) : Vec Ideal S2816x1024 .bf16 := iblk m c 3 t

include hY in
theorem dots (t : Fin cfg0.N) (r : Fin 512) (l : Fin 1024) :
    (∑ k : Fin 2816, bDU m c t (ix2 r k) * bU m c t (ix2 k l)) + ∑ k : Fin 2816, bDW m c t (ix2 r k) * bW m c t (ix2 k l)
      = (Y (at_ t r) l : EReal) := by
  rw [← hY]
  exact congrArg₂ (· + ·) (Finset.sum_congr rfl fun k _ => congrArg₂ (· * ·) (blk1 m c t r k) (blk3 m c t k l))
    (Finset.sum_congr rfl fun k _ => congrArg₂ (· * ·) (blk0 m c t r k) (blk2 m c t k l))

include hX hG hY in
/-- The gradient at the residual stream. -/
theorem final7 : (dats m 0 c).arrAt 7 cfg0.N = fun i : S8192x1024.Idx => aD m c i + (dx (X (i 0)) G (Y (i 0)) (i 1) : EReal) := by
  refine (dats m 0 c).arrAt_eq_of_covers 7 _ (by decide +kernel) fun t hf y => ?_
  have h : (win0_7.blk t).view.emb y = (ix2 (at_ t (y 0)) (y 1) : S8192x1024.Idx) := by blk_ext [e7]
  blk_simp
  rw [after0_7, h]
  by_cases h0 : t.val % 16 = 0
  · rw [outsAt0_A m c t h0]
    frame_out
    exact (congrArg _ (eq_ix2 y)).trans ((pay1_eq _ _ _ _ _ (dots m c Y hY t) _ _ (blk4 m c X hX t) _ _ (blk6 m c G hG t) _ _ _).trans (congrArg (· + _) (blk5 m c t _ _)))
  · rw [outsAt0_B m c t h0]
    frame_out
    exact (congrArg _ (eq_ix2 y)).trans ((pay1_eq _ _ _ _ _ (dots m c Y hY t) _ _ (blk4 m c X hX t) _ _ (blk6 m c G hG t) _ _ _).trans (congrArg (· + _) (blk5 m c t _ _)))

include hX hG hY in
/-- The same array, in the narrow format. -/
theorem final8 : (dats m 0 c).arrAt 8 cfg0.N = fun i : S8192x1024.Idx => aD m c i + (dx (X (i 0)) G (Y (i 0)) (i 1) : EReal) := by
  refine (dats m 0 c).arrAt_eq_of_covers 8 _ (by decide +kernel) fun t hf y => ?_
  have h : (win0_8.blk t).view.emb y = (ix2 (at_ t (y 0)) (y 1) : S8192x1024.Idx) := by blk_ext [e8]
  blk_simp
  rw [after0_8, h]
  by_cases h0 : t.val % 16 = 0
  · rw [outsAt0_A m c t h0]
    frame_out
    exact (congrArg _ (eq_ix2 y)).trans ((pay2_eq _ _ _ _ _ (dots m c Y hY t) _ _ (blk4 m c X hX t) _ _ (blk6 m c G hG t) _ _ _).trans (congrArg (· + _) (blk5 m c t _ _)))
  · rw [outsAt0_B m c t h0]
    frame_out
    exact (congrArg _ (eq_ix2 y)).trans ((pay2_eq _ _ _ _ _ (dots m c Y hY t) _ _ (blk4 m c X hX t) _ _ (blk6 m c G hG t) _ _ _).trans (congrArg (· + _) (blk5 m c t _ _)))

theorem row0 (y : S1x1024.Idx) : y = ix2 0 (y 1) := by blk_ext

include hX hY in
/-- The gradient of the norm's scale. -/
theorem final9 : (dats m 0 c).arrAt 9 cfg0.N = fun i : S1x1024.Idx => ∑ r : Fin 8192, ((Y r (i 1) * xh (X r) (i 1) : ℝ) : EReal) := by
  refine (dats m 0 c).arrAt_eq_of_covers 9 _ (by decide +kernel) fun t hf y => ?_
  have h15 : t.val % 16 = 15 := (flush0_9 t).mp hf
  have hN : cfg0.grid.N = 16 := N_0
  have hl : t.val + 1 = cfg0.grid.N := by have := t.isLt; omega
  have h : (win0_9.blk t).view.emb y = (ix2 0 (y 1) : S1x1024.Idx) := by blk_ext [e9]
  blk_simp
  rw [after0_9, h]
  rw [Pipeline.eq_sum_fin_of_reset_step_apply_last (fun n h => (outsAt0 m c n h).2.2) 16 (fun _ => 0)
      (fun t y => ∑ r, ((Y (at_ t r) (y 1) * xh (X (at_ t r)) (y 1) : ℝ) : EReal))
      (fun t h y => by
        rw [outsAt0_A m c t h]; frame_out
        exact (congrArg _ (row0 y)).trans ((pay7_eq _ _ _ _ _ (dots m c Y hY t) _ _ (blk4 m c X hX t) _ _).trans
          (congrArg (· + _) (pay3_eq _))))
      (fun t h y => by
        rw [outsAt0_B m c t h]; frame_out
        refine (congrArg _ (row0 y)).trans ((pay7_eq _ _ _ _ _ (dots m c Y hY t) _ _ (blk4 m c X hX t) _ _).trans ?_)
        exact congrArg₂ (· + ·) (congrArg _ (row0 y).symm) rfl)
      (le_of_eq N_0) t hl y, zero_add]
  exact Fin.sum_mul_add_congr (f := fun r : Fin 8192 => ((Y r (y 1) * xh (X r) (y 1) : ℝ) : EReal)) fun s k h => rfl

end Cert.DnKIdeal.Block

end
-- ==== Proof.DnClaim.lean ====
/-
  The fused norm gradient of the feed-forward: kernel and chain rule leave the same three arrays.
-/
module

public import proofs.«01_k».proof.Defs
public import proofs.«01_k».proof.Proof.DnValue
public import proofs.«01_k».proof.Proof.Gen.DnRIdeal.Run
public import proofs.«01_k».proof.Proof.Gen.DnRIdeal.Read

@[expose] public section

set_option maxRecDepth 16384

noncomputable section

namespace Cert.DnRIdeal.Read

open Cert.DnRIdeal Cert.DnRIdeal.Gen Cert.DnRIdeal.Value Idealize.ShloMosaic Cert.Finite Cert.Rms

variable (x : FVec Ideal S8192x1024 .f32) (g : FVec Ideal S1x1024 .f32) (w u : FVec Ideal S1024x2816 .f32)
  (dw du : FVec Ideal S8192x2816 .bf16) (d : FVec Ideal S8192x1024 .f32)
  (X : Fin 8192 → Fin 1024 → ℝ) (hX : ∀ r l, x (ix2 r l) = (X r l : EReal))
  (G : Fin 1024 → ℝ) (hG : ∀ l, g (ix2 0 l) = (G l : EReal))
  (Y : Fin 8192 → Fin 1024 → ℝ)
  (hY : ∀ r l, (∑ k : Fin 2816, du (ix2 r k) * u (ix2 l k)) + ∑ k : Fin 2816, dw (ix2 r k) * w (ix2 l k) = (Y r l : EReal))

include hX in
theorem v6_eq (r : Fin 8192) (i : Fin 1) : val_main_v6 (F := Ideal) x (ix2 r i) = (q (X r) : EReal) := by
  pointwise [val_main_v0, val_main_cst, val_main_v1, val_main_v2, val_main_cst_0, val_main_v3, val_main_v4, val_main_cst_1, val_main_v5, val_main_v6, hX, lit_1024, lit_eps6]
  simp (disch := positivity) only [cadd, cmul, csum, cdiv]
  rfl

include hX in
theorem v7_eq (r : Fin 8192) (i : Fin 1) : val_main_v7 (F := Ideal) x (ix2 r i) = (rs (X r) : EReal) := by
  have h := q_pos (X r)
  pointwise [val_main_v7, v6_eq x X hX]
  rw [crsqrt _ h]
  rfl

include hX in
theorem v12_eq (r : Fin 8192) (l : Fin 1024) : val_main_v12 (F := Ideal) x (ix2 r l) = (xh (X r) l : EReal) := by
  pointwise [val_main_v12, val_main_v11, v7_eq x X hX, hX]
  rw [cmul]
  rfl

include hY in
theorem v21_eq (r : Fin 8192) (l : Fin 1024) : val_main_v21 (F := Ideal) w u dw du (ix2 r l) = (Y r l : EReal) := by
  rw [← hY]
  pointwise [val_main_v17, val_main_v18, val_main_v19, val_main_v20, val_main_v21]

include hX hY in
theorem v24_eq (i : S1x1024.Idx) : val_main_v24 (F := Ideal) x w u dw du i = ∑ r : Fin 8192, ((Y r (i 1) * xh (X r) (i 1) : ℝ) : EReal) := by
  have h : i = ix2 0 (i 1) := by blk_ext
  rw [h]
  pointwise [val_main_v24, val_main_v23, val_main_cst_3, val_main_v22, v12_eq x X hX, v21_eq w u dw du Y hY, cmul]
  exact Finset.sum_congr rfl fun r _ => congrArg _ (mul_comm _ _)

include hG hY in
theorem v26_eq (r : Fin 8192) (l : Fin 1024) : val_main_v26 (F := Ideal) g w u dw du (ix2 r l) = ((Y r l * G l : ℝ) : EReal) := by
  pointwise [val_main_v25, val_main_v26, v21_eq w u dw du Y hY, hG, cmul]

include hX hG hY in
theorem v35_eq (r : Fin 8192) (i : Fin 1) : val_main_v35 (F := Ideal) x g w u dw du (ix2 r i)
    = (((∑ j, X r j * (Y r j * G j)) * (-(1 / 2) * (rs (X r) / q (X r))) / 1024 : ℝ) : EReal) := by
  have h := q_pos (X r)
  pointwise [val_main_v35, val_main_v34, val_main_cst_5, val_main_v33, val_main_v29, val_main_v28, val_main_cst_4, val_main_v27, val_main_v10, val_main_v9, val_main_cst_2, val_main_v8,
    v26_eq g w u dw du G hG Y hY, v6_eq x X hX, v7_eq x X hX, hX, lit_1024, lit_neg_half]
  simp (disch := first | positivity | exact h) only [cmul, csum, cdiv]

include hX hG hY in
theorem v37_eq (r : Fin 8192) (l : Fin 1024) : val_main_v37 (F := Ideal) x g w u dw du (ix2 r l)
    = (((∑ j, X r j * (Y r j * G j)) * (-(1 / 2) * (rs (X r) / q (X r))) / 1024 : ℝ) : EReal) := by
  pointwise [val_main_v37, val_main_v36, val_main_cst_6, v35_eq x g w u dw du X hX G hG Y hY, Fin.sum_univ_one]

include hX hG hY in
theorem v41_eq (r : Fin 8192) (l : Fin 1024) : val_main_v41 (F := Ideal) x g w u dw du d (ix2 r l)
    = d (ix2 r l) + (dx (X r) G (Y r) l : EReal) := by
  rw [← dx_eq]
  pointwise [val_main_v41, val_main_v40, val_main_v39, val_main_v38, val_main_v32, val_main_v31, val_main_v30, v26_eq g w u dw du G hG Y hY, v7_eq x X hX, v37_eq x g w u dw du X hX G hG Y hY, hX]
  simp only [cmul, add_assoc, cadd]

end Cert.DnRIdeal.Read

namespace Cert.Dn

open Idealize.ShloMosaic Idealize.ShloMosaic.TcCoe Idealize.SL.Sem Cert.Finite Cert.Rms

/-- The side conditions of the precondition's own text. -/
theorem preFacts : Cert.Pre_dnorm_finite.Facts := by constructor <;> decide

section
variable {x : FVec Ideal Pre_dnorm_finite.S8192x1024 .f32} {g : FVec Ideal Pre_dnorm_finite.S1x1024 .f32} {w u : FVec Ideal Pre_dnorm_finite.S1024x2816 .f32}
  {dw du : FVec Ideal Pre_dnorm_finite.S8192x2816 .bf16} {d : FVec Ideal Pre_dnorm_finite.S8192x1024 .f32}

theorem parts [Cert.Pre_dnorm_finite.Facts] (h : Cert.Pre_dnorm_finite.fn x g w u dw du d = fun _ => 1#1) :
    (∀ i, x i = ((x i : EReal).toReal : EReal)) ∧ (∀ i, g i = ((g i : EReal).toReal : EReal)) ∧ (∀ i, w i = ((w i : EReal).toReal : EReal))
      ∧ (∀ i, u i = ((u i : EReal).toReal : EReal)) ∧ (∀ i, dw i = ((dw i : EReal).toReal : EReal)) ∧ ∀ i, du i = ((du i : EReal).toReal : EReal) := by
  have e := congrFun h (fun k => k.elim0)
  obtain ⟨e, e6⟩ := (andi_one _ _).mp e
  obtain ⟨e, e5⟩ := (andi_one _ _).mp e
  obtain ⟨e, e4⟩ := (andi_one _ _).mp e
  obtain ⟨e, e3⟩ := (andi_one _ _).mp e
  obtain ⟨e1, e2⟩ := (andi_one _ _).mp e
  exact ⟨fun i => all_finite _ _ _ _ _ e1 i, fun i => all_finite _ _ _ _ _ e2 i, fun i => all_finite _ _ _ _ _ e3 i,
    fun i => all_finite _ _ _ _ _ e4 i, fun i => all_finite _ _ _ _ _ e5 i, fun i => all_finite _ _ _ _ _ e6 i⟩
end

/-- The kernel's three gradients are the chain rule's. -/
theorem claim : @Cert.algebraic_DnKIdeal_DnRIdeal_pre_dnorm_finite Cert.DnKIdeal.Gen.facts Cert.DnRIdeal.Gen.facts preFacts := by
  haveI := preFacts
  intro m g m' g' hpre hargs
  refine ⟨fun c => (DnKIdeal.Gen.dats m 0 c).arrAt 7 _, fun c => (DnKIdeal.Gen.dats m 0 c).arrAt 8 _, fun c => (DnKIdeal.Gen.dats m 0 c).arrAt 9 _,
    DnKIdeal.Value.run_blocks m g, (θ_run DnRIdeal.defs _ _).mono (fun r h c => ?_) (DnRIdeal.Value.run m' g')⟩
  obtain ⟨fx, fg, fw, fu, fdw, fdu⟩ := parts (hpre c)
  obtain ⟨a0, a1, a2, a3, a4, a5, a6⟩ := hargs c
  obtain ⟨h0, h1, h2, k⟩ := h c
  rw [a0, a2, a3, a4, a5] at h2
  have hX : ∀ r l, DnKIdeal.Block.aX m c (ix2 r l) = ((DnKIdeal.Block.aX m c (ix2 r l) : EReal).toReal : EReal) := fun r l => fx _
  have hG : ∀ l, DnKIdeal.Block.aG m c (ix2 0 l) = ((DnKIdeal.Block.aG m c (ix2 0 l) : EReal).toReal : EReal) := fun l => fg _
  have hY : ∀ (r : Fin 8192) (l : Fin 1024), (∑ k : Fin 2816, DnKIdeal.Block.aDU m c (ix2 r k) * DnKIdeal.Block.aU m c (ix2 l k))
      + ∑ k : Fin 2816, DnKIdeal.Block.aDW m c (ix2 r k) * DnKIdeal.Block.aW m c (ix2 l k) = ((_ : ℝ) : EReal) := fun r l =>
    (congrArg₂ (· + ·) (sum_mul_real (fun k : Fin 2816 => DnKIdeal.Block.aDU m c (ix2 r k)) _ (fun _ => fdu _) fun _ => fu _)
      (sum_mul_real (fun k : Fin 2816 => DnKIdeal.Block.aDW m c (ix2 r k)) _ (fun _ => fdw _) fun _ => fw _)).trans (cadd _ _)
  have e0 : DnRIdeal.Value.res_main_v41 m' c = DnRIdeal.Read.val_main_v41 (F := Ideal) (DnKIdeal.Block.aX m c) (DnKIdeal.Block.aG m c) (DnKIdeal.Block.aW m c) (DnKIdeal.Block.aU m c)
      (DnKIdeal.Block.aDW m c) (DnKIdeal.Block.aDU m c) (DnKIdeal.Block.aD m c) := by
    unfold DnRIdeal.Value.res_main_v41
    rw [a0, a1, a2, a3, a4, a5, a6]
    rfl
  have e1 : DnRIdeal.Value.res_main_v42 m' c = DnRIdeal.Read.val_main_v42 (F := Ideal) (DnKIdeal.Block.aX m c) (DnKIdeal.Block.aG m c) (DnKIdeal.Block.aW m c) (DnKIdeal.Block.aU m c)
      (DnKIdeal.Block.aDW m c) (DnKIdeal.Block.aDU m c) (DnKIdeal.Block.aD m c) := by
    unfold DnRIdeal.Value.res_main_v42
    rw [a0, a1, a2, a3, a4, a5, a6]
    rfl
  refine ⟨((h0.trans e0).trans ?_).trans (DnKIdeal.Block.final7 m c _ hX _ hG _ hY).symm, ((h1.trans e1).trans ?_).trans (DnKIdeal.Block.final8 m c _ hX _ hG _ hY).symm,
    (h2.trans ?_).trans (DnKIdeal.Block.final9 m c _ hX _ hY).symm, k⟩
  · exact ext2 fun r l => DnRIdeal.Read.v41_eq _ _ _ _ _ _ _ _ hX _ hG _ hY r l
  · exact ext2 fun r l => DnRIdeal.Read.v41_eq _ _ _ _ _ _ _ _ hX _ hG _ hY r l
  · exact funext fun i => DnRIdeal.Read.v24_eq _ _ _ _ _ _ hX _ hY i

/-- The reference runs to its end and leaves its arguments and counters as they were: it declares no semaphore. -/
theorem refFrame : @Cert.quiescent_DnRIdeal Cert.DnRIdeal.Gen.facts := fun m ρ _ =>
  (θ_run DnRIdeal.defs _ _).mono (fun r h => ⟨fun c => (h c).2.2.2, Idealize.ShloMosaic.sem_eq_zero_of_no_sems (by decide) r.2⟩)
    (DnRIdeal.Value.run m ρ)

end Cert.Dn

end
-- ==== Proof.TailBlock.lean ====
/-
  What one grid point of the tail's backward kernel stores: at a block of finite rows, the layer norm's gradient of
  every row, and the three running column sums with the block's rows added.
-/
module

public import proofs.«01_k».proof.Proof.TailMath
public import proofs.«01_k».proof.Proof.Gen.TailKIdeal.Value

@[expose] public section

set_option maxRecDepth 16384

noncomputable section

namespace Cert.TailKIdeal.Block

open Cert.TailKIdeal Cert.TailKIdeal.Gen Idealize.ShloMosaic Idealize.ShloMosaic.TcCoe Cert.Finite Cert.Tail

section Payloads

variable (y : Vec Ideal S512x512 .f32) (X : Fin 512 → Fin 512 → ℝ) (hy : ∀ r l, y (ix2 r l) = (X r l : EReal))
  (g : Vec Ideal S1x512 .f32) (G : Fin 512 → ℝ) (hg : ∀ l, g (ix2 0 l) = (G l : EReal))
  (b : Vec Ideal S1x512 .f32) (B : Fin 512 → EReal) (hb : ∀ l, b (ix2 0 l) = B l) (d : Vec Ideal S512x512 .f32) (D : Fin 512 → Fin 512 → ℝ)
  (hd : ∀ r l, d (ix2 r l) = (D r l : EReal))

include hy in
theorem pay5_eq (r : Fin 512) : k0_pay5 y (ix2 r 0) = (rs (X r) : EReal) := by
  have h := q_pos (X r)
  unfold q xc mean at h
  pointwise [k0_pay5, k0_pay4, hy, lit_512, lit_eps5]
  simp (disch := first | positivity | exact h) only [cadd, csub, cmul, csum, cdiv, crsqrt]
  rfl

include hy in
theorem pay6_eq (r l : Fin 512) : k0_pay6 y (ix2 r l) = (xh (X r) l : EReal) := by
  pointwise [k0_pay6, k0_pay4, pay5_eq y X hy, hy, lit_512]
  simp (disch := positivity) only [cadd, csub, cmul, csum, cdiv]
  rfl

include hy hg hb in
theorem pay7_eq (r l : Fin 512) : k0_pay7 y g b (ix2 r l) = zz (X r) G B l := by
  pointwise [k0_pay7, pay6_eq y X hy, hg, hb]
  rfl

include hy hg hb hd in
/-- The gradient at the layer norm's output. -/
theorem pay11_eq (r l : Fin 512) :
    k0_pay11 (k0_pay9 y g b d) (k0_pay10 y g b) (ix2 r l) = (dz (X r) G B (D r) l : EReal) := by
  rw [dz, ← gate_left]
  pointwise [k0_pay11, k0_pay9, k0_pay10, k0_pay8, pay7_eq y X hy g G hg b B hb, hd]

include hy hg hb hd in
/-- The gradient at the layer norm's input. -/
theorem pay14_eq (r l : Fin 512) :
    k0_pay14 g (k0_pay5 y) (k0_pay6 y) (k0_pay9 y g b d) (k0_pay10 y g b) (ix2 r l)
      = (dx (X r) G B (D r) l : EReal) := by
  unfold k0_pay14
  pointwise [pay11_eq y X hy g G hg b B hb d D hd, pay5_eq y X hy, pay6_eq y X hy, hg, lit_512]
  simp (disch := positivity) only [cadd, csub, cmul, csum, cdiv]
  rfl

include hy hg hb hd in
theorem pay12_eq (acc : Vec Ideal S1x512 .f32) (l : Fin 512) :
    k0_pay12 (k0_pay6 y) (k0_pay9 y g b d) (k0_pay10 y g b) acc (ix2 0 l)
      = acc (ix2 0 l) + ∑ r, ((dz (X r) G B (D r) l * xh (X r) l : ℝ) : EReal) := by
  pointwise [k0_pay12, pay11_eq y X hy g G hg b B hb d D hd, pay6_eq y X hy, cmul]

include hy hg hb hd in
theorem pay13_eq (acc : Vec Ideal S1x512 .f32) (l : Fin 512) :
    k0_pay13 (k0_pay9 y g b d) (k0_pay10 y g b) acc (ix2 0 l)
      = acc (ix2 0 l) + ∑ r, (dz (X r) G B (D r) l : EReal) := by
  pointwise [k0_pay13, pay11_eq y X hy g G hg b B hb d D hd]

include hy hg hb hd in
theorem pay15_eq (acc : Vec Ideal S1x512 .f32) (l : Fin 512) :
    k0_pay15 g (k0_pay5 y) (k0_pay6 y) (k0_pay9 y g b d) (k0_pay10 y g b) acc (ix2 0 l)
      = acc (ix2 0 l) + ∑ r, (dx (X r) G B (D r) l : EReal) := by
  unfold k0_pay15
  pointwise [pay14_eq y X hy g G hg b B hb d D hd]

theorem pay1_eq (l : Fin 512) : k0_pay1 (F := Ideal) (ix2 0 l) = 0 := by pointwise [k0_pay1]
theorem pay2_eq (l : Fin 512) : k0_pay2 (F := Ideal) (ix2 0 l) = 0 := by pointwise [k0_pay2]
theorem pay3_eq (l : Fin 512) : k0_pay3 (F := Ideal) (ix2 0 l) = 0 := by pointwise [k0_pay3]

end Payloads

/-! ### The stores of one grid point -/

variable {F : FTy → Type} [FloatOps F]

/-- The cotangent's part a point reads: the block's second half of columns. -/
abbrev ct (d : Vec F S512x1024 .f32) : Vec F S512x512 .f32 :=
  View.ld d (Rect.unit ![0, 512] ![512, 512] inb_S512x1024_S512x512_0_512)

theorem ct_apply (d : Vec F S512x1024 .f32) (r l : Fin 512) : ct d (ix2 r l) = d (ix2 r (hi l)) := by
  unfold ct View.ld
  congr 1
  funext a
  apply Fin.ext
  match a with
  | ⟨0, _⟩ => show 0 + 1 * r.val = r.val; omega
  | ⟨1, _⟩ => show 512 + 1 * l.val = 512 + l.val; omega

end Cert.TailKIdeal.Block

end
-- ==== Proof.TailValue.lean ====
/-
  The arrays the tail's backward kernel leaves, at finite arguments.
-/
module

public import proofs.«01_k».proof.Proof.TailBlock
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.TailKIdeal.Block

open Cert.TailKIdeal Cert.TailKIdeal.Gen Idealize.ShloMosaic Idealize.ShloMosaic.TcCoe Cert.Finite Cert.Tail

variable (m : (ℓ : Loc nD τ sig) → Buf (Elt Ideal) ℓ) (c : Dev nD)
  (X0 : Fin 8192 → Fin 512 → ℝ) (hx : ∀ r l, (m ((c : Thread nD τ).loc main_arg0) : Vec Ideal S8192x512 .f32) (ix2 r l) = (X0 r l : EReal))
  (C : Fin 512 → ℝ) (hc : ∀ l, (m ((c : Thread nD τ).loc main_arg1) : Vec Ideal S1x512 .f32) (ix2 0 l) = (C l : EReal))
  (G : Fin 512 → ℝ) (hg : ∀ l, (m ((c : Thread nD τ).loc main_arg2) : Vec Ideal S1x512 .f32) (ix2 0 l) = (G l : EReal))
  (D : Fin 8192 → Fin 512 → ℝ)
  (hd : ∀ r (l : Fin 512), (m ((c : Thread nD τ).loc main_arg4) : Vec Ideal S8192x1024 .f32) (ix2 r (hi l)) = (D r l : EReal))

/-- The layer norm's shift. -/
abbrev shift (l : Fin 512) : EReal := (m ((c : Thread nD τ).loc main_arg3) : Vec Ideal S1x512 .f32) (ix2 0 l)

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)

theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)

theorem V_main_v1 : V m c main_v1 = (addf (m ((c : Thread nD τ).loc main_arg0) : FVec Ideal S8192x512 .f32)
    (broadcastInDim S8192x512 ![0, 1] bcast_S1x512_S8192x512_0_1 (m ((c : Thread nD τ).loc main_arg1) : FVec Ideal S1x512 .f32))
      : FVec Ideal S8192x512 .f32) := by
  show StableHlo.after hostOps0 _ _ = _
  after_results
  all_goals rfl

include hx hc in
theorem blk1 (t : Fin cfg0.N) (r l : Fin 512) : iblk m c 1 t (ix2 r l) = (row X0 C (at_ t r) l : EReal) := by
  have h : (win0_1.blk t).view.emb (ix2 r l) = (ix2 (at_ t r) l : S8192x512.Idx) := by blk_ext [e1]
  blk_simp [iblk]
  rw [h, V_main_v1]
  pointwise [hx, hc, cadd]

include hg in
theorem blk2 (t : Fin cfg0.N) (l : Fin 512) : iblk m c 2 t (ix2 0 l) = (G l : EReal) := by
  have h : (win0_2.blk t).view.emb (ix2 0 l) = (ix2 0 l : S1x512.Idx) := by blk_ext [e2]
  blk_simp [iblk]
  rw [h, V_main_arg2, hg]

theorem blk3 (t : Fin cfg0.N) (l : Fin 512) : iblk m c 3 t (ix2 0 l) = shift m c l := by
  have h : (win0_3.blk t).view.emb (ix2 0 l) = (ix2 0 l : S1x512.Idx) := by blk_ext [e3]
  blk_simp [iblk]
  rw [h, V_main_arg3]

include hd in
theorem blk0 (t : Fin cfg0.N) (r l : Fin 512) : ct (F := Ideal) (iblk m c 0 t) (ix2 r l) = (D (at_ t r) l : EReal) := by
  have h : (win0_0.blk t).view.emb (ix2 r (hi l)) = (ix2 (at_ t r) (hi l) : S8192x1024.Idx) := by
    blk_ext [e0]
  rw [ct_apply]
  blk_simp [iblk]
  rw [h, V_main_arg4, hd]

include hx hc hg hd in
/-- The gradient at the convolution's output: every row's. -/
theorem final4 : (dats m 0 c).arrAt 4 cfg0.N
    = fun i : S8192x512.Idx => (dx (row X0 C (i 0)) G (shift m c) (D (i 0)) (i 1) : EReal) := by
  refine (dats m 0 c).arrAt_eq_of_covers 4 _ (by decide +kernel) fun t hf y => ?_
  have h : (win0_4.blk t).view.emb y = (ix2 (at_ t (y 0)) (y 1) : S8192x512.Idx) := by blk_ext [e4]
  blk_simp
  rw [after0_4, h]
  by_cases h0 : t.val % 16 = 0
  · rw [outsAt0_A m c t h0]
    frame_out
    exact (congrArg _ (eq_ix2 y)).trans (pay14_eq _ _ (blk1 m c X0 hx C hc t) _ _ (blk2 m c G hg t) _ _ (blk3 m c t) _ _ (blk0 m c D hd t) _ _)
  · rw [outsAt0_B m c t h0]
    frame_out
    exact (congrArg _ (eq_ix2 y)).trans (pay14_eq _ _ (blk1 m c X0 hx C hc t) _ _ (blk2 m c G hg t) _ _ (blk3 m c t) _ _ (blk0 m c D hd t) _ _)

theorem row0 (y : S1x512.Idx) : y = ix2 0 (y 1) := by blk_ext

/-- The points' blocks of rows are all the rows. -/
theorem sum_rows (f : Fin 8192 → EReal) : ∑ p : Fin cfg0.N, ∑ r : Fin 512, f (at_ p r) = ∑ r, f r := by
  refine Fin.sum_mul_add_congr fun s k h => ?_
  rfl

include hx hc hg hd in
/-- The gradient of the layer norm's scale: a sum over all rows. -/
theorem final5 : (dats m 0 c).arrAt 5 cfg0.N = fun i : S1x512.Idx => ∑ r : Fin 8192, ((dz (row X0 C r) G (shift m c) (D r) (i 1) * xh (row X0 C r) (i 1) : ℝ) : EReal) := by
  refine (dats m 0 c).arrAt_eq_of_covers 5 _ (by decide +kernel) fun t hf y => ?_
  have h15 : t.val % 16 = 15 := (flush0_5 t).mp hf
  have hN : cfg0.grid.N = 16 := N_0
  have hl : t.val + 1 = cfg0.grid.N := by have := t.isLt; omega
  have h : (win0_5.blk t).view.emb y = (ix2 0 (y 1) : S1x512.Idx) := by blk_ext [e5]
  blk_simp
  rw [after0_5, h]
  rw [Pipeline.eq_sum_fin_of_reset_step_apply_last (fun n h => (outsAt0 m c n h).2.1) 16 (fun _ => 0)
      (fun t y => ∑ r, ((dz (row X0 C (at_ t r)) G (shift m c) (D (at_ t r)) (y 1) * xh (row X0 C (at_ t r)) (y 1) : ℝ) : EReal))
      (fun t h y => by
        rw [outsAt0_A m c t h]; frame_out
        exact (congrArg _ (row0 y)).trans ((pay12_eq _ _ (blk1 m c X0 hx C hc t) _ _ (blk2 m c G hg t) _ _ (blk3 m c t) _ _ (blk0 m c D hd t) _ _).trans
          (congrArg (· + _) (pay1_eq _))))
      (fun t h y => by
        rw [outsAt0_B m c t h]; frame_out
        refine (congrArg _ (row0 y)).trans ((pay12_eq _ _ (blk1 m c X0 hx C hc t) _ _ (blk2 m c G hg t) _ _ (blk3 m c t) _ _ (blk0 m c D hd t) _ _).trans ?_)
        exact congrArg₂ (· + ·) (congrArg _ (row0 y).symm) rfl)
      (le_of_eq N_0) t hl y, zero_add]
  exact sum_rows fun r => ((dz (row X0 C r) G (shift m c) (D r) (y 1) * xh (row X0 C r) (y 1) : ℝ) : EReal)

include hx hc hg hd in
/-- The gradient of the layer norm's shift. -/
theorem final6 : (dats m 0 c).arrAt 6 cfg0.N = fun i : S1x512.Idx => ∑ r : Fin 8192, (dz (row X0 C r) G (shift m c) (D r) (i 1) : EReal) := by
  refine (dats m 0 c).arrAt_eq_of_covers 6 _ (by decide +kernel) fun t hf y => ?_
  have h15 : t.val % 16 = 15 := (flush0_6 t).mp hf
  have hN : cfg0.grid.N = 16 := N_0
  have hl : t.val + 1 = cfg0.grid.N := by have := t.isLt; omega
  have h : (win0_6.blk t).view.emb y = (ix2 0 (y 1) : S1x512.Idx) := by blk_ext [e6]
  blk_simp
  rw [after0_6, h]
  rw [Pipeline.eq_sum_fin_of_reset_step_apply_last (fun n h => (outsAt0 m c n h).2.2.1) 16 (fun _ => 0)
      (fun t y => ∑ r, (dz (row X0 C (at_ t r)) G (shift m c) (D (at_ t r)) (y 1) : EReal))
      (fun t h y => by
        rw [outsAt0_A m c t h]; frame_out
        exact (congrArg _ (row0 y)).trans ((pay13_eq _ _ (blk1 m c X0 hx C hc t) _ _ (blk2 m c G hg t) _ _ (blk3 m c t) _ _ (blk0 m c D hd t) _ _).trans
          (congrArg (· + _) (pay2_eq _))))
      (fun t h y => by
        rw [outsAt0_B m c t h]; frame_out
        refine (congrArg _ (row0 y)).trans ((pay13_eq _ _ (blk1 m c X0 hx C hc t) _ _ (blk2 m c G hg t) _ _ (blk3 m c t) _ _ (blk0 m c D hd t) _ _).trans ?_)
        exact congrArg₂ (· + ·) (congrArg _ (row0 y).symm) rfl)
      (le_of_eq N_0) t hl y, zero_add]
  exact sum_rows fun r => (dz (row X0 C r) G (shift m c) (D r) (y 1) : EReal)

include hx hc hg hd in
/-- The gradient of the convolution's bias. -/
theorem final7 : (dats m 0 c).arrAt 7 cfg0.N = fun i : S1x512.Idx => ∑ r : Fin 8192, (dx (row X0 C r) G (shift m c) (D r) (i 1) : EReal) := by
  refine (dats m 0 c).arrAt_eq_of_covers 7 _ (by decide +kernel) fun t hf y => ?_
  have h15 : t.val % 16 = 15 := (flush0_7 t).mp hf
  have hN : cfg0.grid.N = 16 := N_0
  have hl : t.val + 1 = cfg0.grid.N := by have := t.isLt; omega
  have h : (win0_7.blk t).view.emb y = (ix2 0 (y 1) : S1x512.Idx) := by blk_ext [e7]
  blk_simp
  rw [after0_7, h]
  rw [Pipeline.eq_sum_fin_of_reset_step_apply_last (fun n h => (outsAt0 m c n h).2.2.2) 16 (fun _ => 0)
      (fun t y => ∑ r, (dx (row X0 C (at_ t r)) G (shift m c) (D (at_ t r)) (y 1) : EReal))
      (fun t h y => by
        rw [outsAt0_A m c t h]; frame_out
        exact (congrArg _ (row0 y)).trans ((pay15_eq _ _ (blk1 m c X0 hx C hc t) _ _ (blk2 m c G hg t) _ _ (blk3 m c t) _ _ (blk0 m c D hd t) _ _).trans
          (congrArg (· + _) (pay3_eq _))))
      (fun t h y => by
        rw [outsAt0_B m c t h]; frame_out
        refine (congrArg _ (row0 y)).trans ((pay15_eq _ _ (blk1 m c X0 hx C hc t) _ _ (blk2 m c G hg t) _ _ (blk3 m c t) _ _ (blk0 m c D hd t) _ _).trans ?_)
        exact congrArg₂ (· + ·) (congrArg _ (row0 y).symm) rfl)
      (le_of_eq N_0) t hl y, zero_add]
  exact sum_rows fun r => (dx (row X0 C r) G (shift m c) (D r) (y 1) : EReal)

end Cert.TailKIdeal.Block

end
-- ==== Proof.TailRef.lean ====
/-
  The arrays the tail's reference leaves, at finite arguments: the chain rule's form of each gradient, brought to the
  form of TailMath.
-/
module

public import proofs.«01_k».proof.Proof.TailMath
public import proofs.«01_k».proof.Proof.Gen.TailRIdeal.Run

@[expose] public section

set_option maxRecDepth 16384

noncomputable section

namespace Cert.TailRIdeal.Read

open Cert.TailRIdeal Cert.TailRIdeal.Gen Cert.TailRIdeal.Value Idealize.ShloMosaic Idealize.ShloMosaic.TcCoe Cert.Finite Cert.Tail

variable (V0 : Valuation τ sig (Elt Ideal))
  (X0 : Fin 8192 → Fin 512 → ℝ) (hx : ∀ r l, (V0 (Proc.devRef .tc main_arg0) : Vec Ideal S8192x512 .f32) (ix2 r l) = (X0 r l : EReal))
  (C : Fin 512 → ℝ) (hc : ∀ l, (V0 (Proc.devRef .tc main_arg1) : Vec Ideal S1x512 .f32) (ix2 0 l) = (C l : EReal))
  (G : Fin 512 → ℝ) (hg : ∀ l, (V0 (Proc.devRef .tc main_arg2) : Vec Ideal S1x512 .f32) (ix2 0 l) = (G l : EReal))
  (B : Fin 512 → EReal) (hb : ∀ l, (V0 (Proc.devRef .tc main_arg3) : Vec Ideal S1x512 .f32) (ix2 0 l) = B l)
  (D : Fin 8192 → Fin 512 → ℝ)
  (hd : ∀ r (l : Fin 512), (V0 (Proc.devRef .tc main_arg4) : Vec Ideal S8192x1024 .f32) (ix2 r (hi l)) = (D r l : EReal))

include hx hc in
theorem v3_eq (r : Fin 8192) (l : Fin 512) : res_main_v3 V0 (ix2 r l) = (row X0 C r l : EReal) := by
  pointwise [res_main_v3, hx, hc, cadd]

include hx hc in
theorem v11_eq (r : Fin 8192) (l : Fin 512) : res_main_v11 V0 (ix2 r l) = (xc (row X0 C r) l : EReal) := by
  pointwise [res_main_v11, v3_eq V0 X0 hx C hc, lit_512]
  simp (disch := positivity) only [cadd, csub, cmul, csum, cdiv]
  rfl

include hx hc in
theorem v18_eq (r : Fin 8192) (u : Fin 1) : res_main_v18 V0 (ix2 r u) = (q (row X0 C r) : EReal) := by
  pointwise [res_main_v18, v11_eq V0 X0 hx C hc, lit_512, lit_eps5]
  simp (disch := positivity) only [cadd, csub, cmul, csum, cdiv]
  rfl

include hx hc in
theorem v19_eq (r : Fin 8192) (u : Fin 1) : res_main_v19 V0 (ix2 r u) = (rs (row X0 C r) : EReal) := by
  pointwise [res_main_v19, v18_eq V0 X0 hx C hc]
  exact crsqrt _ (q_pos _)

include hx hc in
theorem v24_eq (r : Fin 8192) (l : Fin 512) : res_main_v24 V0 (ix2 r l) = (xh (row X0 C r) l : EReal) := by
  pointwise [res_main_v24, v11_eq V0 X0 hx C hc, v19_eq V0 X0 hx C hc]
  rw [cmul, xh]

include hg in
theorem v25_eq (l : Fin 512) : res_main_v25 V0 (ix2 0 l) = (G l : EReal) := by
  pointwise [res_main_v25, hg]

include hx hc hg hb in
theorem v30_eq (r : Fin 8192) (l : Fin 512) : res_main_v30 V0 (ix2 r l) = zz (row X0 C r) G B l := by
  pointwise [res_main_v30, v24_eq V0 X0 hx C hc, v25_eq V0 G hg, hb]
  rw [cmul, zz]

include hd in
theorem v32_eq (r : Fin 8192) (l : Fin 512) : res_main_v32 V0 (ix2 r l) = (D r l : EReal) := by
  pointwise [res_main_v32]
  exact hd r l

include hx hc hg hb hd in
theorem v33_eq (r : Fin 8192) (l : Fin 512) : res_main_v33 V0 (ix2 r l) = (dz (row X0 C r) G B (D r) l : EReal) := by
  rw [dz, ← gate_right]
  pointwise [res_main_v33, res_main_v31_2, v30_eq V0 X0 hx C hc G hg B hb, v32_eq V0 D hd]

include hx hc hg hb hd in
theorem v41_eq (r : Fin 8192) (l : Fin 512) : res_main_v41 V0 (ix2 r l) = ((dz (row X0 C r) G B (D r) l * G l : ℝ) : EReal) := by
  pointwise [res_main_v41, v33_eq V0 X0 hx C hc G hg B hb D hd, v25_eq V0 G hg, cmul]

include hx hc hg hb hd in
theorem v52_eq (r : Fin 8192) (l : Fin 512) : res_main_v52 V0 (ix2 r l)
    = (((∑ j, xc (row X0 C r) j * (dz (row X0 C r) G B (D r) j * G j)) * (-(1 / 2) * (rs (row X0 C r) / q (row X0 C r))) / 512 : ℝ) : EReal) := by
  have hq := (q_pos (row X0 C r)).ne'
  pointwise [res_main_v52, v41_eq V0 X0 hx C hc G hg B hb D hd, v11_eq V0 X0 hx C hc, v18_eq V0 X0 hx C hc, v19_eq V0 X0 hx C hc, lit_512, lit_neg_half]
  simp (disch := first | positivity | exact hq) only [Fin.sum_univ_one, cadd, csub, cmul, csum, cdiv]

include hx hc hg hb hd in
theorem v56_eq (r : Fin 8192) (l : Fin 512) : res_main_v56 V0 (ix2 r l)
    = (dx0 (row X0 C r) (fun j => dz (row X0 C r) G B (D r) j * G j) l : EReal) := by
  pointwise [res_main_v56, v41_eq V0 X0 hx C hc G hg B hb D hd, v11_eq V0 X0 hx C hc, v19_eq V0 X0 hx C hc, v52_eq V0 X0 hx C hc G hg B hb D hd]
  simp only [cadd, cmul]
  rfl

include hx hc hg hb hd in
/-- The gradient of the layer norm's input. -/
theorem res_dx (r : Fin 8192) (l : Fin 512) :
    (addf (res_main_v56 V0) (broadcastInDim S8192x512 ![0] bcast_S8192_S8192x512_0 (Host.reduceAdd (Host.divf (shapeCast _ (Host.reduceAdd (Host.negf (res_main_v56 V0)) (constant S_ .f32 0x00000000#32) reducesTo_S8192x512_S8192_d1 h_S_) shapeCasts_S8192_S8192x1) (broadcastInDim S8192x1 ![] bcast_S_S8192x1 (constant S_ .f32 0x44000000#32))) (constant S_ .f32 0x00000000#32) reducesTo_S8192x1_S8192_d1 h_S_)) : FVec Ideal S8192x512 .f32) (ix2 r l)
      = (dx (row X0 C r) G B (D r) l : EReal) := by
  rw [← dx_eq]
  pointwise [v56_eq V0 X0 hx C hc G hg B hb D hd, lit_512]
  simp (disch := positivity) only [Fin.sum_univ_one, cadd, cneg, csum, cdiv]

/-- A sum over the rows kept as one row, summed again over that one row. -/
theorem colsum (x : FVec Ideal S8192x512 .f32) (u : Fin 1) (l : Fin 512) :
    (broadcastInDim S1x512 ![1] bcast_S512_S1x512_1 (Host.reduceAdd (shapeCast _ (Host.reduceAdd x (constant S_ .f32 0x00000000#32) reducesTo_S8192x512_S512_d0 h_S_) shapeCasts_S512_S1x512) (constant S_ .f32 0x00000000#32) reducesTo_S1x512_S512_d0 h_S_) : FVec Ideal S1x512 .f32) (ix2 u l)
      = ∑ r : Fin 8192, x (ix2 r l) := by
  pointwise []
  exact Fin.sum_univ_one _

include hx hc hg hb hd in
/-- One row's part of the scale's gradient. -/
theorem part_dg (r : Fin 8192) (l : Fin 512) : (mulf (res_main_v24 V0) (res_main_v33 V0) : FVec Ideal S8192x512 .f32) (ix2 r l)
    = (dz (row X0 C r) G B (D r) l * xh (row X0 C r) l : ℝ) := by
  pointwise [v24_eq V0 X0 hx C hc, v33_eq V0 X0 hx C hc G hg B hb D hd, cmul]
  rw [mul_comm]

end Cert.TailRIdeal.Read

end
-- ==== Proof.TailPre.lean ====
/-
  What the tail's precondition says: the named arguments are real numbers.
-/
module

public import proofs.«01_k».proof.Proof.TailMath
public import proofs.«01_k».proof.Pre_tail_finite

@[expose] public section

set_option maxRecDepth 16384

noncomputable section

namespace Cert.Pre_tail_finite

open Idealize.ShloMosaic Cert.Finite Cert.Tail

variable [Facts] {a0 : FVec Ideal S8192x512 .f32} {a1 a2 a3 : FVec Ideal S1x512 .f32} {a4 : FVec Ideal S8192x1024 .f32}

theorem parts (h : fn a0 a1 a2 a3 a4 = fun _ => 1#1) (r : Fin 8192) (l : Fin 512) :
    max (a0 (ix2 r l)) (-(a0 (ix2 r l))) < ⊤ ∧ max (a1 (ix2 0 l)) (-(a1 (ix2 0 l))) < ⊤
      ∧ max (a2 (ix2 0 l)) (-(a2 (ix2 0 l))) < ⊤
      ∧ max (a4 (ix2 r (hi l))) (-(a4 (ix2 r (hi l)))) < ⊤ := by
  have e := congrFun h (ix2 r l)
  revert e
  pointwise [fn, lit_inf]
  simp only [andi_one, bit_one]
  exact fun e => ⟨e.1.1.1, e.1.1.2, e.1.2, e.2⟩

end Cert.Pre_tail_finite

end
-- ==== Proof.TailClaim.lean ====
/-
  The gradient of the convolution's tail: kernel and chain rule leave the same four arrays.
-/
module

public import proofs.«01_k».proof.Defs
public import proofs.«01_k».proof.Proof.TailValue
public import proofs.«01_k».proof.Proof.TailRef
public import proofs.«01_k».proof.Proof.TailPre

@[expose] public section

set_option maxRecDepth 16384

noncomputable section

namespace Cert.Tail

open Idealize.ShloMosaic Idealize.ShloMosaic.TcCoe Idealize.SL.Sem Cert.Finite

/-- The side conditions of the precondition's own text. -/
theorem preFacts : Cert.Pre_tail_finite.Facts := by constructor <;> decide

/-- The kernel's four gradients are the chain rule's. -/
theorem claim : @Cert.algebraic_TailKIdeal_TailRIdeal_pre_tail_finite Cert.TailKIdeal.Gen.facts Cert.TailRIdeal.Gen.facts preFacts := by
  haveI := preFacts
  intro m g m' g' hpre hargs
  have fin := fun c => Cert.Pre_tail_finite.parts (hpre c)
  let X0 : Dev TailKIdeal.nD → Fin 8192 → Fin 512 → ℝ := fun c r l => EReal.toReal ((m ((c : Thread TailKIdeal.nD TailKIdeal.τ).loc TailKIdeal.main_arg0) : Vec Ideal TailKIdeal.S8192x512 .f32) (ix2 r l))
  let C : Dev TailKIdeal.nD → Fin 512 → ℝ := fun c l => EReal.toReal ((m ((c : Thread TailKIdeal.nD TailKIdeal.τ).loc TailKIdeal.main_arg1) : Vec Ideal TailKIdeal.S1x512 .f32) (ix2 0 l))
  let G : Dev TailKIdeal.nD → Fin 512 → ℝ := fun c l => EReal.toReal ((m ((c : Thread TailKIdeal.nD TailKIdeal.τ).loc TailKIdeal.main_arg2) : Vec Ideal TailKIdeal.S1x512 .f32) (ix2 0 l))
  let D : Dev TailKIdeal.nD → Fin 8192 → Fin 512 → ℝ := fun c r l => EReal.toReal ((m ((c : Thread TailKIdeal.nD TailKIdeal.τ).loc TailKIdeal.main_arg4) : Vec Ideal TailKIdeal.S8192x1024 .f32) (ix2 r (hi l)))
  have hx := fun c r l => coe_of_finite (fin c r l).1
  have hc := fun c l => coe_of_finite (fin c 0 l).2.1
  have hg := fun c l => coe_of_finite (fin c 0 l).2.2.1
  have hd := fun c r l => coe_of_finite (fin c r l).2.2.2
  refine ⟨fun c => (TailKIdeal.Gen.dats m 0 c).arrAt 4 _, fun c => (TailKIdeal.Gen.dats m 0 c).arrAt 5 _, fun c => (TailKIdeal.Gen.dats m 0 c).arrAt 6 _, fun c => (TailKIdeal.Gen.dats m 0 c).arrAt 7 _,
    TailKIdeal.Value.run_blocks m g, (θ_run TailRIdeal.defs _ _).mono (fun r h c => ?_) (TailRIdeal.Value.run m' g')⟩
  obtain ⟨a0, a1, a2, a3, a4⟩ := hargs c
  have hx' : ∀ r l, (m' ((c : Thread TailRIdeal.nD TailRIdeal.τ).loc TailRIdeal.main_arg0) : Vec Ideal TailKIdeal.S8192x512 .f32) (ix2 r l) = (X0 c r l : EReal) := fun r l => (congrFun a0 _).trans (hx c r l)
  have hc' : ∀ l, (m' ((c : Thread TailRIdeal.nD TailRIdeal.τ).loc TailRIdeal.main_arg1) : Vec Ideal TailKIdeal.S1x512 .f32) (ix2 0 l) = (C c l : EReal) := fun l => (congrFun a1 _).trans (hc c l)
  have hg' : ∀ l, (m' ((c : Thread TailRIdeal.nD TailRIdeal.τ).loc TailRIdeal.main_arg2) : Vec Ideal TailKIdeal.S1x512 .f32) (ix2 0 l) = (G c l : EReal) := fun l => (congrFun a2 _).trans (hg c l)
  have hb' : ∀ l, (m' ((c : Thread TailRIdeal.nD TailRIdeal.τ).loc TailRIdeal.main_arg3) : Vec Ideal TailKIdeal.S1x512 .f32) (ix2 0 l) = TailKIdeal.Block.shift m c l := fun l => congrFun a3 _
  have hd' : ∀ r (l : Fin 512), (m' ((c : Thread TailRIdeal.nD TailRIdeal.τ).loc TailRIdeal.main_arg4) : Vec Ideal TailKIdeal.S8192x1024 .f32) (ix2 r (hi l)) = (D c r l : EReal) := fun r l => (congrFun a4 _).trans (hd c r l)
  obtain ⟨h0, h1, h2, h3, k⟩ := h c
  refine ⟨(h0.trans ?_).trans (TailKIdeal.Block.final4 m c _ (hx c) _ (hc c) _ (hg c) _ (hd c)).symm, (h1.trans ?_).trans (TailKIdeal.Block.final5 m c _ (hx c) _ (hc c) _ (hg c) _ (hd c)).symm,
    (h2.trans ?_).trans (TailKIdeal.Block.final6 m c _ (hx c) _ (hc c) _ (hg c) _ (hd c)).symm, (h3.trans ?_).trans (TailKIdeal.Block.final7 m c _ (hx c) _ (hc c) _ (hg c) _ (hd c)).symm, k⟩
  · exact ext2 fun r l => TailRIdeal.Read.res_dx (StableHlo.launchContents m' c) _ hx' _ hc' _ hg' _ hb' _ hd' r l
  · exact ext2 fun u l => (TailRIdeal.Read.colsum _ u l).trans (Finset.sum_congr rfl fun r _ => TailRIdeal.Read.part_dg (StableHlo.launchContents m' c) _ hx' _ hc' _ hg' _ hb' _ hd' r l)
  · exact ext2 fun u l => (TailRIdeal.Read.colsum _ u l).trans (Finset.sum_congr rfl fun r _ => TailRIdeal.Read.v33_eq (StableHlo.launchContents m' c) _ hx' _ hc' _ hg' _ hb' _ hd' r l)
  · exact ext2 fun u l => (TailRIdeal.Read.colsum _ u l).trans (Finset.sum_congr rfl fun r _ => TailRIdeal.Read.res_dx (StableHlo.launchContents m' c) _ hx' _ hc' _ hg' _ hb' _ hd' r l)

/-- The reference runs to its end and leaves its arguments and counters as they were: it declares no semaphore. -/
theorem refFrame : @Cert.quiescent_TailRIdeal Cert.TailRIdeal.Gen.facts := fun m ρ _ =>
  (θ_run TailRIdeal.defs _ _).mono (fun r h => ⟨fun c => (h c).2.2.2.2, Idealize.ShloMosaic.sem_eq_zero_of_no_sems (by decide) r.2⟩)
    (TailRIdeal.Value.run m ρ)

end Cert.Tail

end
-- ==== Proof.DninValue.lean ====
/-
  The arrays the fused norm gradient of the input projection leaves, where the product is finite.
-/
module

public import proofs.«01_k».proof.Proof.RmsMath
public import proofs.«01_k».proof.Proof.Gen.DninKIdeal.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.DninKIdeal.Block

open Cert.DninKIdeal Cert.DninKIdeal.Gen Idealize.ShloMosaic Idealize.ShloMosaic.TcCoe Cert.Finite Cert.Rms

section Payloads

variable (a : Vec Ideal S512x1792 .bf16) (b : Vec Ideal S1792x1024 .bf16)
  (Y : Fin 512 → Fin 1024 → ℝ)
  (hY : ∀ r l, ∑ k : Fin 1792, a (ix2 r k) * b (ix2 k l) = (Y r l : EReal))
  (x : Vec Ideal S512x1024 .f32) (X : Fin 512 → Fin 1024 → ℝ) (hx : ∀ r l, x (ix2 r l) = (X r l : EReal))
  (g : Vec Ideal S1x1024 .f32) (G : Fin 1024 → ℝ) (hg : ∀ l, g (ix2 0 l) = (G l : EReal))

include hY in
/-- The cotangent of the scaled norm. -/
theorem pay4_eq (r : Fin 512) (l : Fin 1024) : k0_pay4 a b (ix2 r l) = (Y r l : EReal) := by
  rw [← hY]
  pointwise [k0_pay4]

include hx in
theorem pay5_eq (r : Fin 512) : k0_pay5 x (ix2 r 0) = (rs (X r) : EReal) := by
  have h := q_pos (X r)
  unfold q at h
  pointwise [k0_pay5, hx, lit_1024, lit_eps6]
  simp (disch := first | positivity | exact h) only [cadd, cmul, csum, cdiv, crsqrt]
  rfl

include hx in
theorem pay6_eq (r : Fin 512) (l : Fin 1024) : k0_pay6 x (ix2 r l) = (xh (X r) l : EReal) := by
  pointwise [k0_pay6, pay5_eq x X hx, hx]
  rw [cmul]
  rfl

include hY hx in
theorem pay7_eq (acc : Vec Ideal S1x1024 .f32) (l : Fin 1024) :
    k0_pay7 a b x acc (ix2 0 l) = acc (ix2 0 l) + ∑ r, ((Y r l * xh (X r) l : ℝ) : EReal) := by
  pointwise [k0_pay7, pay4_eq a b Y hY, pay6_eq x X hx, cmul]

include hY hg in
theorem pay8_eq (r : Fin 512) (l : Fin 1024) : k0_pay8 a b g (ix2 r l) = ((Y r l * G l : ℝ) : EReal) := by
  pointwise [k0_pay8, pay4_eq a b Y hY, hg, cmul]

include hY hx hg in
/-- What is stored at a row: the residual's cotangent and the norm's gradient. -/
theorem pay1_eq (d : Vec Ideal S512x1024 .f32) (r : Fin 512) (l : Fin 1024) :
    k0_pay1 (k0_pay5 x) (k0_pay6 x) (k0_pay8 a b g) d (k0_pay9 a b x g) (ix2 r l) = d (ix2 r l) + (dx (X r) G (Y r) l : EReal) := by
  pointwise [k0_pay1, k0_pay9, pay5_eq x X hx, pay6_eq x X hx, pay8_eq a b Y hY g G hg, lit_1024]
  simp (disch := positivity) only [cadd, csub, cmul, csum, cdiv]
  rfl

include hY hx hg in
theorem pay2_eq (d : Vec Ideal S512x1024 .f32) (r : Fin 512) (l : Fin 1024) :
    k0_pay2 (k0_pay5 x) (k0_pay6 x) (k0_pay8 a b g) d (k0_pay9 a b x g) (ix2 r l) = d (ix2 r l) + (dx (X r) G (Y r) l : EReal) :=
  pay1_eq a b Y hY x X hx g G hg d r l

theorem pay3_eq (l : Fin 1024) : k0_pay3 (F := Ideal) (ix2 0 l) = 0 := by pointwise [k0_pay3]

end Payloads

variable (m : (ℓ : Loc nD τ sig) → Buf (Elt Ideal) ℓ) (c : Dev nD)

abbrev aX : Vec Ideal S8192x1024 .f32 := m ((c : Thread nD τ).loc main_arg0)
abbrev aG : Vec Ideal S1x1024 .f32 := m ((c : Thread nD τ).loc main_arg1)
abbrev aW : Vec Ideal S1024x1792 .f32 := m ((c : Thread nD τ).loc main_arg2)
abbrev aDW : Vec Ideal S8192x1792 .bf16 := m ((c : Thread nD τ).loc main_arg3)
abbrev aD : Vec Ideal S8192x1024 .f32 := m ((c : Thread nD τ).loc main_arg4)

variable (X : Fin 8192 → Fin 1024 → ℝ) (hX : ∀ r l, aX m c (ix2 r l) = (X r l : EReal))
  (G : Fin 1024 → ℝ) (hG : ∀ l, aG m c (ix2 0 l) = (G l : EReal))
  (Y : Fin 8192 → Fin 1024 → ℝ)
  (hY : ∀ r l, ∑ k : Fin 1792, aDW m c (ix2 r k) * aW m c (ix2 l k) = (Y r l : EReal))

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)

theorem V_main_v1 (k : Fin 1792) (l : Fin 1024) : (V m c main_v1 : Vec Ideal S1792x1024 .bf16) (ix2 k l) = aW m c (ix2 l k) := by
  have h : V m c main_v1 = (truncf .bf16 (transpose S1792x1024 [1, 0] (aW m c) transposes_S1024x1792_S1792x1024_1_0) bitsLt_bf16_f32 : FVec Ideal S1792x1024 .bf16) := by
    show StableHlo.after hostOps0 _ _ = _
    after_results
    all_goals rfl
  rw [h]
  pointwise []

theorem blk0 (t : Fin cfg0.N) (r : Fin 512) (k : Fin 1792) : iblk m c 0 t (ix2 r k) = aDW m c (ix2 (at_ t r) k) := by
  have h : (win0_0.blk t).view.emb (ix2 r k) = (ix2 (at_ t r) k : S8192x1792.Idx) := by blk_ext [e0]
  blk_simp [iblk]
  rw [h, V_main_arg3]

theorem blk1 (t : Fin cfg0.N) (k : Fin 1792) (l : Fin 1024) : iblk m c 1 t (ix2 k l) = aW m c (ix2 l k) := by
  have h : (win0_1.blk t).view.emb (ix2 k l) = (ix2 k l : S1792x1024.Idx) := by blk_ext [e1]
  blk_simp [iblk]
  rw [h]
  exact V_main_v1 m c k l

include hX in
theorem blk2 (t : Fin cfg0.N) (r : Fin 512) (l : Fin 1024) : iblk m c 2 t (ix2 r l) = (X (at_ t r) l : EReal) := by
  have h : (win0_2.blk t).view.emb (ix2 r l) = (ix2 (at_ t r) l : S8192x1024.Idx) := by blk_ext [e2]
  blk_simp [iblk]
  rw [h, V_main_arg0, ← hX]

theorem blk3 (t : Fin cfg0.N) (r : Fin 512) (l : Fin 1024) : iblk m c 3 t (ix2 r l) = aD m c (ix2 (at_ t r) l) := by
  have h : (win0_3.blk t).view.emb (ix2 r l) = (ix2 (at_ t r) l : S8192x1024.Idx) := by blk_ext [e3]
  blk_simp [iblk]
  rw [h, V_main_arg4]

include hG in
theorem blk4 (t : Fin cfg0.N) (l : Fin 1024) : iblk m c 4 t (ix2 0 l) = (G l : EReal) := by
  have h : (win0_4.blk t).view.emb (ix2 0 l) = (ix2 0 l : S1x1024.Idx) := by blk_ext [e4]
  blk_simp [iblk]
  rw [h, V_main_arg1, ← hG]

abbrev bDW (t : Fin cfg0.N) : Vec Ideal S512x1792 .bf16 := iblk m c 0 t
abbrev bW (t : Fin cfg0.N) : Vec Ideal S1792x1024 .bf16 := iblk m c 1 t

include hY in
theorem dots (t : Fin cfg0.N) (r : Fin 512) (l : Fin 1024) :
    ∑ k : Fin 1792, bDW m c t (ix2 r k) * bW m c t (ix2 k l)
      = (Y (at_ t r) l : EReal) := by
  rw [← hY]
  exact Finset.sum_congr rfl fun k _ => congrArg₂ (· * ·) (blk0 m c t r k) (blk1 m c t k l)

include hX hG hY in
/-- The gradient at the residual stream. -/
theorem final5 : (dats m 0 c).arrAt 5 cfg0.N = fun i : S8192x1024.Idx => aD m c i + (dx (X (i 0)) G (Y (i 0)) (i 1) : EReal) := by
  refine (dats m 0 c).arrAt_eq_of_covers 5 _ (by decide +kernel) fun t hf y => ?_
  have h : (win0_5.blk t).view.emb y = (ix2 (at_ t (y 0)) (y 1) : S8192x1024.Idx) := by blk_ext [e5]
  blk_simp
  rw [after0_5, h]
  by_cases h0 : t.val % 16 = 0
  · rw [outsAt0_A m c t h0]
    frame_out
    exact (congrArg _ (eq_ix2 y)).trans ((pay1_eq _ _ _ (dots m c Y hY t) _ _ (blk2 m c X hX t) _ _ (blk4 m c G hG t) _ _ _).trans (congrArg (· + _) (blk3 m c t _ _)))
  · rw [outsAt0_B m c t h0]
    frame_out
    exact (congrArg _ (eq_ix2 y)).trans ((pay1_eq _ _ _ (dots m c Y hY t) _ _ (blk2 m c X hX t) _ _ (blk4 m c G hG t) _ _ _).trans (congrArg (· + _) (blk3 m c t _ _)))

include hX hG hY in
/-- The same array, in the narrow format. -/
theorem final6 : (dats m 0 c).arrAt 6 cfg0.N = fun i : S8192x1024.Idx => aD m c i + (dx (X (i 0)) G (Y (i 0)) (i 1) : EReal) := by
  refine (dats m 0 c).arrAt_eq_of_covers 6 _ (by decide +kernel) fun t hf y => ?_
  have h : (win0_6.blk t).view.emb y = (ix2 (at_ t (y 0)) (y 1) : S8192x1024.Idx) := by blk_ext [e6]
  blk_simp
  rw [after0_6, h]
  by_cases h0 : t.val % 16 = 0
  · rw [outsAt0_A m c t h0]
    frame_out
    exact (congrArg _ (eq_ix2 y)).trans ((pay2_eq _ _ _ (dots m c Y hY t) _ _ (blk2 m c X hX t) _ _ (blk4 m c G hG t) _ _ _).trans (congrArg (· + _) (blk3 m c t _ _)))
  · rw [outsAt0_B m c t h0]
    frame_out
    exact (congrArg _ (eq_ix2 y)).trans ((pay2_eq _ _ _ (dots m c Y hY t) _ _ (blk2 m c X hX t) _ _ (blk4 m c G hG t) _ _ _).trans (congrArg (· + _) (blk3 m c t _ _)))

theorem row0 (y : S1x1024.Idx) : y = ix2 0 (y 1) := by blk_ext

include hX hY in
/-- The gradient of the norm's scale. -/
theorem final7 : (dats m 0 c).arrAt 7 cfg0.N = fun i : S1x1024.Idx => ∑ r : Fin 8192, ((Y r (i 1) * xh (X r) (i 1) : ℝ) : EReal) := by
  refine (dats m 0 c).arrAt_eq_of_covers 7 _ (by decide +kernel) fun t hf y => ?_
  have h15 : t.val % 16 = 15 := (flush0_7 t).mp hf
  have hN : cfg0.grid.N = 16 := N_0
  have hl : t.val + 1 = cfg0.grid.N := by have := t.isLt; omega
  have h : (win0_7.blk t).view.emb y = (ix2 0 (y 1) : S1x1024.Idx) := by blk_ext [e7]
  blk_simp
  rw [after0_7, h]
  rw [Pipeline.eq_sum_fin_of_reset_step_apply_last (fun n h => (outsAt0 m c n h).2.2) 16 (fun _ => 0)
      (fun t y => ∑ r, ((Y (at_ t r) (y 1) * xh (X (at_ t r)) (y 1) : ℝ) : EReal))
      (fun t h y => by
        rw [outsAt0_A m c t h]; frame_out
        exact (congrArg _ (row0 y)).trans ((pay7_eq _ _ _ (dots m c Y hY t) _ _ (blk2 m c X hX t) _ _).trans
          (congrArg (· + _) (pay3_eq _))))
      (fun t h y => by
        rw [outsAt0_B m c t h]; frame_out
        refine (congrArg _ (row0 y)).trans ((pay7_eq _ _ _ (dots m c Y hY t) _ _ (blk2 m c X hX t) _ _).trans ?_)
        exact congrArg₂ (· + ·) (congrArg _ (row0 y).symm) rfl)
      (le_of_eq N_0) t hl y, zero_add]
  exact Fin.sum_mul_add_congr (f := fun r : Fin 8192 => ((Y r (y 1) * xh (X r) (y 1) : ℝ) : EReal)) fun s k h => rfl

end Cert.DninKIdeal.Block

end
-- ==== Proof.DninClaim.lean ====
/-
  The fused norm gradient of the input projection: kernel and chain rule leave the same three arrays.
-/
module

public import proofs.«01_k».proof.Defs
public import proofs.«01_k».proof.Proof.DninValue
public import proofs.«01_k».proof.Proof.Gen.DninRIdeal.Run
public import proofs.«01_k».proof.Proof.Gen.DninRIdeal.Read

@[expose] public section

set_option maxRecDepth 16384

noncomputable section

namespace Cert.DninRIdeal.Read

open Cert.DninRIdeal Cert.DninRIdeal.Gen Cert.DninRIdeal.Value Idealize.ShloMosaic Cert.Finite Cert.Rms

variable (x : FVec Ideal S8192x1024 .f32) (g : FVec Ideal S1x1024 .f32) (w : FVec Ideal S1024x1792 .f32)
  (dw : FVec Ideal S8192x1792 .bf16) (d : FVec Ideal S8192x1024 .f32)
  (X : Fin 8192 → Fin 1024 → ℝ) (hX : ∀ r l, x (ix2 r l) = (X r l : EReal))
  (G : Fin 1024 → ℝ) (hG : ∀ l, g (ix2 0 l) = (G l : EReal))
  (Y : Fin 8192 → Fin 1024 → ℝ)
  (hY : ∀ r l, ∑ k : Fin 1792, dw (ix2 r k) * w (ix2 l k) = (Y r l : EReal))

include hX in
theorem v6_eq (r : Fin 8192) (i : Fin 1) : val_main_v6 (F := Ideal) x (ix2 r i) = (q (X r) : EReal) := by
  pointwise [val_main_v0, val_main_cst, val_main_v1, val_main_v2, val_main_cst_0, val_main_v3, val_main_v4, val_main_cst_1, val_main_v5, val_main_v6, hX, lit_1024, lit_eps6]
  simp (disch := positivity) only [cadd, cmul, csum, cdiv]
  rfl

include hX in
theorem v7_eq (r : Fin 8192) (i : Fin 1) : val_main_v7 (F := Ideal) x (ix2 r i) = (rs (X r) : EReal) := by
  have h := q_pos (X r)
  pointwise [val_main_v7, v6_eq x X hX]
  rw [crsqrt _ h]
  rfl

include hX in
theorem v12_eq (r : Fin 8192) (l : Fin 1024) : val_main_v12 (F := Ideal) x (ix2 r l) = (xh (X r) l : EReal) := by
  pointwise [val_main_v12, val_main_v11, v7_eq x X hX, hX]
  rw [cmul]
  rfl

include hY in
theorem v21_eq (r : Fin 8192) (l : Fin 1024) : val_main_v17 (F := Ideal) w dw (ix2 r l) = (Y r l : EReal) := by
  rw [← hY]
  pointwise [val_main_v16, val_main_v17]

include hX hY in
theorem v24_eq (i : S1x1024.Idx) : val_main_v20 (F := Ideal) x w dw i = ∑ r : Fin 8192, ((Y r (i 1) * xh (X r) (i 1) : ℝ) : EReal) := by
  have h : i = ix2 0 (i 1) := by blk_ext
  rw [h]
  pointwise [val_main_v20, val_main_v19, val_main_cst_3, val_main_v18, v12_eq x X hX, v21_eq w dw Y hY, cmul]
  exact Finset.sum_congr rfl fun r _ => congrArg _ (mul_comm _ _)

include hG hY in
theorem v26_eq (r : Fin 8192) (l : Fin 1024) : val_main_v22 (F := Ideal) g w dw (ix2 r l) = ((Y r l * G l : ℝ) : EReal) := by
  pointwise [val_main_v21, val_main_v22, v21_eq w dw Y hY, hG, cmul]

include hX hG hY in
theorem v35_eq (r : Fin 8192) (i : Fin 1) : val_main_v31 (F := Ideal) x g w dw (ix2 r i)
    = (((∑ j, X r j * (Y r j * G j)) * (-(1 / 2) * (rs (X r) / q (X r))) / 1024 : ℝ) : EReal) := by
  have h := q_pos (X r)
  pointwise [val_main_v31, val_main_v30, val_main_cst_5, val_main_v29, val_main_v25, val_main_v24, val_main_cst_4, val_main_v23, val_main_v10, val_main_v9, val_main_cst_2, val_main_v8,
    v26_eq g w dw G hG Y hY, v6_eq x X hX, v7_eq x X hX, hX, lit_1024, lit_neg_half]
  simp (disch := first | positivity | exact h) only [cmul, csum, cdiv]

include hX hG hY in
theorem v37_eq (r : Fin 8192) (l : Fin 1024) : val_main_v33 (F := Ideal) x g w dw (ix2 r l)
    = (((∑ j, X r j * (Y r j * G j)) * (-(1 / 2) * (rs (X r) / q (X r))) / 1024 : ℝ) : EReal) := by
  pointwise [val_main_v33, val_main_v32, val_main_cst_6, v35_eq x g w dw X hX G hG Y hY, Fin.sum_univ_one]

include hX hG hY in
theorem v41_eq (r : Fin 8192) (l : Fin 1024) : val_main_v37 (F := Ideal) x g w dw d (ix2 r l)
    = d (ix2 r l) + (dx (X r) G (Y r) l : EReal) := by
  rw [← dx_eq]
  pointwise [val_main_v37, val_main_v36, val_main_v35, val_main_v34, val_main_v28, val_main_v27, val_main_v26, v26_eq g w dw G hG Y hY, v7_eq x X hX, v37_eq x g w dw X hX G hG Y hY, hX]
  simp only [cmul, add_assoc, cadd]

end Cert.DninRIdeal.Read

namespace Cert.Dnin

open Idealize.ShloMosaic Idealize.ShloMosaic.TcCoe Idealize.SL.Sem Cert.Finite Cert.Rms

/-- The side conditions of the precondition's own text. -/
theorem preFacts : Cert.Pre_dnin_finite.Facts := by constructor <;> decide

section
variable {x : FVec Ideal Pre_dnin_finite.S8192x1024 .f32} {g : FVec Ideal Pre_dnin_finite.S1x1024 .f32} {w : FVec Ideal Pre_dnin_finite.S1024x1792 .f32}
  {dw : FVec Ideal Pre_dnin_finite.S8192x1792 .bf16} {d : FVec Ideal Pre_dnin_finite.S8192x1024 .f32}

theorem parts [Cert.Pre_dnin_finite.Facts] (h : Cert.Pre_dnin_finite.fn x g w dw d = fun _ => 1#1) :
    (∀ i, x i = ((x i : EReal).toReal : EReal)) ∧ (∀ i, g i = ((g i : EReal).toReal : EReal)) ∧ (∀ i, w i = ((w i : EReal).toReal : EReal))
      ∧ ∀ i, dw i = ((dw i : EReal).toReal : EReal) := by
  have e := congrFun h (fun k => k.elim0)
  obtain ⟨e, e4⟩ := (andi_one _ _).mp e
  obtain ⟨e, e3⟩ := (andi_one _ _).mp e
  obtain ⟨e1, e2⟩ := (andi_one _ _).mp e
  exact ⟨fun i => all_finite _ _ _ _ _ e1 i, fun i => all_finite _ _ _ _ _ e2 i, fun i => all_finite _ _ _ _ _ e3 i,
    fun i => all_finite _ _ _ _ _ e4 i⟩
end

/-- The kernel's three gradients are the chain rule's. -/
theorem claim : @Cert.algebraic_DninKIdeal_DninRIdeal_pre_dnin_finite Cert.DninKIdeal.Gen.facts Cert.DninRIdeal.Gen.facts preFacts := by
  haveI := preFacts
  intro m g m' g' hpre hargs
  refine ⟨fun c => (DninKIdeal.Gen.dats m 0 c).arrAt 5 _, fun c => (DninKIdeal.Gen.dats m 0 c).arrAt 6 _, fun c => (DninKIdeal.Gen.dats m 0 c).arrAt 7 _,
    DninKIdeal.Value.run_blocks m g, (θ_run DninRIdeal.defs _ _).mono (fun r h c => ?_) (DninRIdeal.Value.run m' g')⟩
  obtain ⟨fx, fg, fw, fdw⟩ := parts (hpre c)
  obtain ⟨a0, a1, a2, a3, a4⟩ := hargs c
  obtain ⟨h0, h1, h2, k⟩ := h c
  rw [a0, a2, a3] at h2
  have hX : ∀ r l, DninKIdeal.Block.aX m c (ix2 r l) = ((DninKIdeal.Block.aX m c (ix2 r l) : EReal).toReal : EReal) := fun r l => fx _
  have hG : ∀ l, DninKIdeal.Block.aG m c (ix2 0 l) = ((DninKIdeal.Block.aG m c (ix2 0 l) : EReal).toReal : EReal) := fun l => fg _
  have hY : ∀ (r : Fin 8192) (l : Fin 1024), ∑ k : Fin 1792, DninKIdeal.Block.aDW m c (ix2 r k) * DninKIdeal.Block.aW m c (ix2 l k) = ((_ : ℝ) : EReal) := fun r l =>
    sum_mul_real (fun k : Fin 1792 => DninKIdeal.Block.aDW m c (ix2 r k)) _ (fun _ => fdw _) fun _ => fw _
  have e0 : DninRIdeal.Value.res_main_v37 m' c = DninRIdeal.Read.val_main_v37 (F := Ideal) (DninKIdeal.Block.aX m c) (DninKIdeal.Block.aG m c) (DninKIdeal.Block.aW m c)
      (DninKIdeal.Block.aDW m c) (DninKIdeal.Block.aD m c) := by
    unfold DninRIdeal.Value.res_main_v37
    rw [a0, a1, a2, a3, a4]
    rfl
  have e1 : DninRIdeal.Value.res_main_v38 m' c = DninRIdeal.Read.val_main_v38 (F := Ideal) (DninKIdeal.Block.aX m c) (DninKIdeal.Block.aG m c) (DninKIdeal.Block.aW m c)
      (DninKIdeal.Block.aDW m c) (DninKIdeal.Block.aD m c) := by
    unfold DninRIdeal.Value.res_main_v38
    rw [a0, a1, a2, a3, a4]
    rfl
  refine ⟨((h0.trans e0).trans ?_).trans (DninKIdeal.Block.final5 m c _ hX _ hG _ hY).symm, ((h1.trans e1).trans ?_).trans (DninKIdeal.Block.final6 m c _ hX _ hG _ hY).symm,
    (h2.trans ?_).trans (DninKIdeal.Block.final7 m c _ hX _ hY).symm, k⟩
  · exact ext2 fun r l => DninRIdeal.Read.v41_eq _ _ _ _ _ _ hX _ hG _ hY r l
  · exact ext2 fun r l => DninRIdeal.Read.v41_eq _ _ _ _ _ _ hX _ hG _ hY r l
  · exact funext fun i => DninRIdeal.Read.v24_eq _ _ _ _ hX _ hY i

/-- The reference runs to its end and leaves its arguments and counters as they were: it declares no semaphore. -/
theorem refFrame : @Cert.quiescent_DninRIdeal Cert.DninRIdeal.Gen.facts := fun m ρ _ =>
  (θ_run DninRIdeal.defs _ _).mono (fun r h => ⟨fun c => (h c).2.2.2, Idealize.ShloMosaic.sem_eq_zero_of_no_sems (by decide) r.2⟩)
    (DninRIdeal.Value.run m ρ)

end Cert.Dnin

end
-- ==== Proof.DnodValue.lean ====
/-
  The arrays the fused norm gradient of the odd mixer's input projection leaves, where the product is finite.
-/
module

public import proofs.«01_k».proof.Proof.RmsMath
public import proofs.«01_k».proof.Proof.Gen.DnodKIdeal.Value
public import Idealize.ShloMosaic.Lib.Pipeline.ValueKit.Acc
public import Idealize.ShloMosaic.Lib.Pipeline.ValueKit.Geometry
public import Idealize.ShloMosaic.Lib.Tactic

@[expose] public section

set_option maxRecDepth 16384

noncomputable section

namespace Cert.DnodKIdeal.Block

open Cert.DnodKIdeal Cert.DnodKIdeal.Gen Idealize.ShloMosaic Idealize.ShloMosaic.TcCoe Cert.Finite Cert.Rms

section Payloads

variable (a : Vec Ideal S512x2560 .bf16) (b : Vec Ideal S2560x1024 .bf16)
  (Y : Fin 512 → Fin 1024 → ℝ)
  (hY : ∀ r l, ∑ k : Fin 2560, a (ix2 r k) * b (ix2 k l) = (Y r l : EReal))
  (x : Vec Ideal S512x1024 .f32) (X : Fin 512 → Fin 1024 → ℝ) (hx : ∀ r l, x (ix2 r l) = (X r l : EReal))
  (g : Vec Ideal S1x1024 .f32) (G : Fin 1024 → ℝ) (hg : ∀ l, g (ix2 0 l) = (G l : EReal))

include hY in
/-- The cotangent of the scaled norm. -/
theorem pay4_eq (r : Fin 512) (l : Fin 1024) : k0_pay4 a b (ix2 r l) = (Y r l : EReal) := by
  rw [← hY]
  pointwise [k0_pay4]

include hx in
theorem pay5_eq (r : Fin 512) : k0_pay5 x (ix2 r 0) = (rs (X r) : EReal) := by
  have h := q_pos (X r)
  unfold q at h
  pointwise [k0_pay5, hx, lit_1024, lit_eps6]
  simp (disch := first | positivity | exact h) only [cadd, cmul, csum, cdiv, crsqrt]
  rfl

include hx in
theorem pay6_eq (r : Fin 512) (l : Fin 1024) : k0_pay6 x (ix2 r l) = (xh (X r) l : EReal) := by
  pointwise [k0_pay6, pay5_eq x X hx, hx]
  rw [cmul]
  rfl

include hY hx in
theorem pay7_eq (acc : Vec Ideal S1x1024 .f32) (l : Fin 1024) :
    k0_pay7 a b x acc (ix2 0 l) = acc (ix2 0 l) + ∑ r, ((Y r l * xh (X r) l : ℝ) : EReal) := by
  pointwise [k0_pay7, pay4_eq a b Y hY, pay6_eq x X hx, cmul]

include hY hg in
theorem pay8_eq (r : Fin 512) (l : Fin 1024) : k0_pay8 a b g (ix2 r l) = ((Y r l * G l : ℝ) : EReal) := by
  pointwise [k0_pay8, pay4_eq a b Y hY, hg, cmul]

include hY hx hg in
/-- What is stored at a row: the residual's cotangent and the norm's gradient. -/
theorem pay1_eq (d : Vec Ideal S512x1024 .f32) (r : Fin 512) (l : Fin 1024) :
    k0_pay1 (k0_pay5 x) (k0_pay6 x) (k0_pay8 a b g) d (k0_pay9 a b x g) (ix2 r l) = d (ix2 r l) + (dx (X r) G (Y r) l : EReal) := by
  pointwise [k0_pay1, k0_pay9, pay5_eq x X hx, pay6_eq x X hx, pay8_eq a b Y hY g G hg, lit_1024]
  simp (disch := positivity) only [cadd, csub, cmul, csum, cdiv]
  rfl

include hY hx hg in
theorem pay2_eq (d : Vec Ideal S512x1024 .f32) (r : Fin 512) (l : Fin 1024) :
    k0_pay2 (k0_pay5 x) (k0_pay6 x) (k0_pay8 a b g) d (k0_pay9 a b x g) (ix2 r l) = d (ix2 r l) + (dx (X r) G (Y r) l : EReal) :=
  pay1_eq a b Y hY x X hx g G hg d r l

theorem pay3_eq (l : Fin 1024) : k0_pay3 (F := Ideal) (ix2 0 l) = 0 := by pointwise [k0_pay3]

end Payloads

variable (m : (ℓ : Loc nD τ sig) → Buf (Elt Ideal) ℓ) (c : Dev nD)

abbrev aX : Vec Ideal S8192x1024 .f32 := m ((c : Thread nD τ).loc main_arg0)
abbrev aG : Vec Ideal S1x1024 .f32 := m ((c : Thread nD τ).loc main_arg1)
abbrev aW : Vec Ideal S1024x2560 .f32 := m ((c : Thread nD τ).loc main_arg2)
abbrev aDW : Vec Ideal S8192x2560 .bf16 := m ((c : Thread nD τ).loc main_arg3)
abbrev aD : Vec Ideal S8192x1024 .f32 := m ((c : Thread nD τ).loc main_arg4)

variable (X : Fin 8192 → Fin 1024 → ℝ) (hX : ∀ r l, aX m c (ix2 r l) = (X r l : EReal))
  (G : Fin 1024 → ℝ) (hG : ∀ l, aG m c (ix2 0 l) = (G l : EReal))
  (Y : Fin 8192 → Fin 1024 → ℝ)
  (hY : ∀ r l, ∑ k : Fin 2560, aDW m c (ix2 r k) * aW m c (ix2 l k) = (Y r l : EReal))

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)

theorem V_main_v1 (k : Fin 2560) (l : Fin 1024) : (V m c main_v1 : Vec Ideal S2560x1024 .bf16) (ix2 k l) = aW m c (ix2 l k) := by
  have h : V m c main_v1 = (truncf .bf16 (transpose S2560x1024 [1, 0] (aW m c) transposes_S1024x2560_S2560x1024_1_0) bitsLt_bf16_f32 : FVec Ideal S2560x1024 .bf16) := by
    show StableHlo.after hostOps0 _ _ = _
    after_results
    all_goals rfl
  rw [h]
  pointwise []

theorem blk0 (t : Fin cfg0.N) (r : Fin 512) (k : Fin 2560) : iblk m c 0 t (ix2 r k) = aDW m c (ix2 (at_ t r) k) := by
  have h : (win0_0.blk t).view.emb (ix2 r k) = (ix2 (at_ t r) k : S8192x2560.Idx) := by blk_ext [e0]
  blk_simp [iblk]
  rw [h, V_main_arg3]

theorem blk1 (t : Fin cfg0.N) (k : Fin 2560) (l : Fin 1024) : iblk m c 1 t (ix2 k l) = aW m c (ix2 l k) := by
  have h : (win0_1.blk t).view.emb (ix2 k l) = (ix2 k l : S2560x1024.Idx) := by blk_ext [e1]
  blk_simp [iblk]
  rw [h]
  exact V_main_v1 m c k l

include hX in
theorem blk2 (t : Fin cfg0.N) (r : Fin 512) (l : Fin 1024) : iblk m c 2 t (ix2 r l) = (X (at_ t r) l : EReal) := by
  have h : (win0_2.blk t).view.emb (ix2 r l) = (ix2 (at_ t r) l : S8192x1024.Idx) := by blk_ext [e2]
  blk_simp [iblk]
  rw [h, V_main_arg0, ← hX]

theorem blk3 (t : Fin cfg0.N) (r : Fin 512) (l : Fin 1024) : iblk m c 3 t (ix2 r l) = aD m c (ix2 (at_ t r) l) := by
  have h : (win0_3.blk t).view.emb (ix2 r l) = (ix2 (at_ t r) l : S8192x1024.Idx) := by blk_ext [e3]
  blk_simp [iblk]
  rw [h, V_main_arg4]

include hG in
theorem blk4 (t : Fin cfg0.N) (l : Fin 1024) : iblk m c 4 t (ix2 0 l) = (G l : EReal) := by
  have h : (win0_4.blk t).view.emb (ix2 0 l) = (ix2 0 l : S1x1024.Idx) := by blk_ext [e4]
  blk_simp [iblk]
  rw [h, V_main_arg1, ← hG]

abbrev bDW (t : Fin cfg0.N) : Vec Ideal S512x2560 .bf16 := iblk m c 0 t
abbrev bW (t : Fin cfg0.N) : Vec Ideal S2560x1024 .bf16 := iblk m c 1 t

include hY in
theorem dots (t : Fin cfg0.N) (r : Fin 512) (l : Fin 1024) :
    ∑ k : Fin 2560, bDW m c t (ix2 r k) * bW m c t (ix2 k l)
      = (Y (at_ t r) l : EReal) := by
  rw [← hY]
  exact Finset.sum_congr rfl fun k _ => congrArg₂ (· * ·) (blk0 m c t r k) (blk1 m c t k l)

include hX hG hY in
/-- The gradient at the residual stream. -/
theorem final5 : (dats m 0 c).arrAt 5 cfg0.N = fun i : S8192x1024.Idx => aD m c i + (dx (X (i 0)) G (Y (i 0)) (i 1) : EReal) := by
  refine (dats m 0 c).arrAt_eq_of_covers 5 _ (by decide +kernel) fun t hf y => ?_
  have h : (win0_5.blk t).view.emb y = (ix2 (at_ t (y 0)) (y 1) : S8192x1024.Idx) := by blk_ext [e5]
  blk_simp
  rw [after0_5, h]
  by_cases h0 : t.val % 16 = 0
  · rw [outsAt0_A m c t h0]
    frame_out
    exact (congrArg _ (eq_ix2 y)).trans ((pay1_eq _ _ _ (dots m c Y hY t) _ _ (blk2 m c X hX t) _ _ (blk4 m c G hG t) _ _ _).trans (congrArg (· + _) (blk3 m c t _ _)))
  · rw [outsAt0_B m c t h0]
    frame_out
    exact (congrArg _ (eq_ix2 y)).trans ((pay1_eq _ _ _ (dots m c Y hY t) _ _ (blk2 m c X hX t) _ _ (blk4 m c G hG t) _ _ _).trans (congrArg (· + _) (blk3 m c t _ _)))

include hX hG hY in
/-- The same array, in the narrow format. -/
theorem final6 : (dats m 0 c).arrAt 6 cfg0.N = fun i : S8192x1024.Idx => aD m c i + (dx (X (i 0)) G (Y (i 0)) (i 1) : EReal) := by
  refine (dats m 0 c).arrAt_eq_of_covers 6 _ (by decide +kernel) fun t hf y => ?_
  have h : (win0_6.blk t).view.emb y = (ix2 (at_ t (y 0)) (y 1) : S8192x1024.Idx) := by blk_ext [e6]
  blk_simp
  rw [after0_6, h]
  by_cases h0 : t.val % 16 = 0
  · rw [outsAt0_A m c t h0]
    frame_out
    exact (congrArg _ (eq_ix2 y)).trans ((pay2_eq _ _ _ (dots m c Y hY t) _ _ (blk2 m c X hX t) _ _ (blk4 m c G hG t) _ _ _).trans (congrArg (· + _) (blk3 m c t _ _)))
  · rw [outsAt0_B m c t h0]
    frame_out
    exact (congrArg _ (eq_ix2 y)).trans ((pay2_eq _ _ _ (dots m c Y hY t) _ _ (blk2 m c X hX t) _ _ (blk4 m c G hG t) _ _ _).trans (congrArg (· + _) (blk3 m c t _ _)))

theorem row0 (y : S1x1024.Idx) : y = ix2 0 (y 1) := by blk_ext

include hX hY in
/-- The gradient of the norm's scale. -/
theorem final7 : (dats m 0 c).arrAt 7 cfg0.N = fun i : S1x1024.Idx => ∑ r : Fin 8192, ((Y r (i 1) * xh (X r) (i 1) : ℝ) : EReal) := by
  refine (dats m 0 c).arrAt_eq_of_covers 7 _ (by decide +kernel) fun t hf y => ?_
  have h15 : t.val % 16 = 15 := (flush0_7 t).mp hf
  have hN : cfg0.grid.N = 16 := N_0
  have hl : t.val + 1 = cfg0.grid.N := by have := t.isLt; omega
  have h : (win0_7.blk t).view.emb y = (ix2 0 (y 1) : S1x1024.Idx) := by blk_ext [e7]
  blk_simp
  rw [after0_7, h]
  rw [Pipeline.eq_sum_fin_of_reset_step_apply_last (fun n h => (outsAt0 m c n h).2.2) 16 (fun _ => 0)
      (fun t y => ∑ r, ((Y (at_ t r) (y 1) * xh (X (at_ t r)) (y 1) : ℝ) : EReal))
      (fun t h y => by
        rw [outsAt0_A m c t h]; frame_out
        exact (congrArg _ (row0 y)).trans ((pay7_eq _ _ _ (dots m c Y hY t) _ _ (blk2 m c X hX t) _ _).trans
          (congrArg (· + _) (pay3_eq _))))
      (fun t h y => by
        rw [outsAt0_B m c t h]; frame_out
        refine (congrArg _ (row0 y)).trans ((pay7_eq _ _ _ (dots m c Y hY t) _ _ (blk2 m c X hX t) _ _).trans ?_)
        exact congrArg₂ (· + ·) (congrArg _ (row0 y).symm) rfl)
      (le_of_eq N_0) t hl y, zero_add]
  exact Fin.sum_mul_add_congr (f := fun r : Fin 8192 => ((Y r (y 1) * xh (X r) (y 1) : ℝ) : EReal)) fun s k h => rfl

end Cert.DnodKIdeal.Block

end
-- ==== Proof.DnodClaim.lean ====
/-
  The fused norm gradient of the odd mixer's input projection: kernel and chain rule leave the same three arrays.
-/
module

public import proofs.«01_k».proof.Defs
public import proofs.«01_k».proof.Proof.DnodValue
public import proofs.«01_k».proof.Proof.Gen.DnodRIdeal.Run
public import proofs.«01_k».proof.Proof.Gen.DnodRIdeal.Read

@[expose] public section

set_option maxRecDepth 16384

noncomputable section

namespace Cert.DnodRIdeal.Read

open Cert.DnodRIdeal Cert.DnodRIdeal.Gen Cert.DnodRIdeal.Value Idealize.ShloMosaic Cert.Finite Cert.Rms

variable (x : FVec Ideal S8192x1024 .f32) (g : FVec Ideal S1x1024 .f32) (w : FVec Ideal S1024x2560 .f32)
  (dw : FVec Ideal S8192x2560 .bf16) (d : FVec Ideal S8192x1024 .f32)
  (X : Fin 8192 → Fin 1024 → ℝ) (hX : ∀ r l, x (ix2 r l) = (X r l : EReal))
  (G : Fin 1024 → ℝ) (hG : ∀ l, g (ix2 0 l) = (G l : EReal))
  (Y : Fin 8192 → Fin 1024 → ℝ)
  (hY : ∀ r l, ∑ k : Fin 2560, dw (ix2 r k) * w (ix2 l k) = (Y r l : EReal))

include hX in
theorem v6_eq (r : Fin 8192) (i : Fin 1) : val_main_v6 (F := Ideal) x (ix2 r i) = (q (X r) : EReal) := by
  pointwise [val_main_v0, val_main_cst, val_main_v1, val_main_v2, val_main_cst_0, val_main_v3, val_main_v4, val_main_cst_1, val_main_v5, val_main_v6, hX, lit_1024, lit_eps6]
  simp (disch := positivity) only [cadd, cmul, csum, cdiv]
  rfl

include hX in
theorem v7_eq (r : Fin 8192) (i : Fin 1) : val_main_v7 (F := Ideal) x (ix2 r i) = (rs (X r) : EReal) := by
  have h := q_pos (X r)
  pointwise [val_main_v7, v6_eq x X hX]
  rw [crsqrt _ h]
  rfl

include hX in
theorem v12_eq (r : Fin 8192) (l : Fin 1024) : val_main_v12 (F := Ideal) x (ix2 r l) = (xh (X r) l : EReal) := by
  pointwise [val_main_v12, val_main_v11, v7_eq x X hX, hX]
  rw [cmul]
  rfl

include hY in
theorem v21_eq (r : Fin 8192) (l : Fin 1024) : val_main_v17 (F := Ideal) w dw (ix2 r l) = (Y r l : EReal) := by
  rw [← hY]
  pointwise [val_main_v16, val_main_v17]

include hX hY in
theorem v24_eq (i : S1x1024.Idx) : val_main_v20 (F := Ideal) x w dw i = ∑ r : Fin 8192, ((Y r (i 1) * xh (X r) (i 1) : ℝ) : EReal) := by
  have h : i = ix2 0 (i 1) := by blk_ext
  rw [h]
  pointwise [val_main_v20, val_main_v19, val_main_cst_3, val_main_v18, v12_eq x X hX, v21_eq w dw Y hY, cmul]
  exact Finset.sum_congr rfl fun r _ => congrArg _ (mul_comm _ _)

include hG hY in
theorem v26_eq (r : Fin 8192) (l : Fin 1024) : val_main_v22 (F := Ideal) g w dw (ix2 r l) = ((Y r l * G l : ℝ) : EReal) := by
  pointwise [val_main_v21, val_main_v22, v21_eq w dw Y hY, hG, cmul]

include hX hG hY in
theorem v35_eq (r : Fin 8192) (i : Fin 1) : val_main_v31 (F := Ideal) x g w dw (ix2 r i)
    = (((∑ j, X r j * (Y r j * G j)) * (-(1 / 2) * (rs (X r) / q (X r))) / 1024 : ℝ) : EReal) := by
  have h := q_pos (X r)
  pointwise [val_main_v31, val_main_v30, val_main_cst_5, val_main_v29, val_main_v25, val_main_v24, val_main_cst_4, val_main_v23, val_main_v10, val_main_v9, val_main_cst_2, val_main_v8,
    v26_eq g w dw G hG Y hY, v6_eq x X hX, v7_eq x X hX, hX, lit_1024, lit_neg_half]
  simp (disch := first | positivity | exact h) only [cmul, csum, cdiv]

include hX hG hY in
theorem v37_eq (r : Fin 8192) (l : Fin 1024) : val_main_v33 (F := Ideal) x g w dw (ix2 r l)
    = (((∑ j, X r j * (Y r j * G j)) * (-(1 / 2) * (rs (X r) / q (X r))) / 1024 : ℝ) : EReal) := by
  pointwise [val_main_v33, val_main_v32, val_main_cst_6, v35_eq x g w dw X hX G hG Y hY, Fin.sum_univ_one]

include hX hG hY in
theorem v41_eq (r : Fin 8192) (l : Fin 1024) : val_main_v37 (F := Ideal) x g w dw d (ix2 r l)
    = d (ix2 r l) + (dx (X r) G (Y r) l : EReal) := by
  rw [← dx_eq]
  pointwise [val_main_v37, val_main_v36, val_main_v35, val_main_v34, val_main_v28, val_main_v27, val_main_v26, v26_eq g w dw G hG Y hY, v7_eq x X hX, v37_eq x g w dw X hX G hG Y hY, hX]
  simp only [cmul, add_assoc, cadd]

end Cert.DnodRIdeal.Read

namespace Cert.Dnod

open Idealize.ShloMosaic Idealize.ShloMosaic.TcCoe Idealize.SL.Sem Cert.Finite Cert.Rms

/-- The side conditions of the precondition's own text. -/
theorem preFacts : Cert.Pre_dnod_finite.Facts := by constructor <;> decide

section
variable {x : FVec Ideal Pre_dnod_finite.S8192x1024 .f32} {g : FVec Ideal Pre_dnod_finite.S1x1024 .f32} {w : FVec Ideal Pre_dnod_finite.S1024x2560 .f32}
  {dw : FVec Ideal Pre_dnod_finite.S8192x2560 .bf16} {d : FVec Ideal Pre_dnod_finite.S8192x1024 .f32}

theorem parts [Cert.Pre_dnod_finite.Facts] (h : Cert.Pre_dnod_finite.fn x g w dw d = fun _ => 1#1) :
    (∀ i, x i = ((x i : EReal).toReal : EReal)) ∧ (∀ i, g i = ((g i : EReal).toReal : EReal)) ∧ (∀ i, w i = ((w i : EReal).toReal : EReal))
      ∧ ∀ i, dw i = ((dw i : EReal).toReal : EReal) := by
  have e := congrFun h (fun k => k.elim0)
  obtain ⟨e, e4⟩ := (andi_one _ _).mp e
  obtain ⟨e, e3⟩ := (andi_one _ _).mp e
  obtain ⟨e1, e2⟩ := (andi_one _ _).mp e
  exact ⟨fun i => all_finite _ _ _ _ _ e1 i, fun i => all_finite _ _ _ _ _ e2 i, fun i => all_finite _ _ _ _ _ e3 i,
    fun i => all_finite _ _ _ _ _ e4 i⟩
end

/-- The kernel's three gradients are the chain rule's. -/
theorem claim : @Cert.algebraic_DnodKIdeal_DnodRIdeal_pre_dnod_finite Cert.DnodKIdeal.Gen.facts Cert.DnodRIdeal.Gen.facts preFacts := by
  haveI := preFacts
  intro m g m' g' hpre hargs
  refine ⟨fun c => (DnodKIdeal.Gen.dats m 0 c).arrAt 5 _, fun c => (DnodKIdeal.Gen.dats m 0 c).arrAt 6 _, fun c => (DnodKIdeal.Gen.dats m 0 c).arrAt 7 _,
    DnodKIdeal.Value.run_blocks m g, (θ_run DnodRIdeal.defs _ _).mono (fun r h c => ?_) (DnodRIdeal.Value.run m' g')⟩
  obtain ⟨fx, fg, fw, fdw⟩ := parts (hpre c)
  obtain ⟨a0, a1, a2, a3, a4⟩ := hargs c
  obtain ⟨h0, h1, h2, k⟩ := h c
  rw [a0, a2, a3] at h2
  have hX : ∀ r l, DnodKIdeal.Block.aX m c (ix2 r l) = ((DnodKIdeal.Block.aX m c (ix2 r l) : EReal).toReal : EReal) := fun r l => fx _
  have hG : ∀ l, DnodKIdeal.Block.aG m c (ix2 0 l) = ((DnodKIdeal.Block.aG m c (ix2 0 l) : EReal).toReal : EReal) := fun l => fg _
  have hY : ∀ (r : Fin 8192) (l : Fin 1024), ∑ k : Fin 2560, DnodKIdeal.Block.aDW m c (ix2 r k) * DnodKIdeal.Block.aW m c (ix2 l k) = ((_ : ℝ) : EReal) := fun r l =>
    sum_mul_real (fun k : Fin 2560 => DnodKIdeal.Block.aDW m c (ix2 r k)) _ (fun _ => fdw _) fun _ => fw _
  have e0 : DnodRIdeal.Value.res_main_v37 m' c = DnodRIdeal.Read.val_main_v37 (F := Ideal) (DnodKIdeal.Block.aX m c) (DnodKIdeal.Block.aG m c) (DnodKIdeal.Block.aW m c)
      (DnodKIdeal.Block.aDW m c) (DnodKIdeal.Block.aD m c) := by
    unfold DnodRIdeal.Value.res_main_v37
    rw [a0, a1, a2, a3, a4]
    rfl
  have e1 : DnodRIdeal.Value.res_main_v38 m' c = DnodRIdeal.Read.val_main_v38 (F := Ideal) (DnodKIdeal.Block.aX m c) (DnodKIdeal.Block.aG m c) (DnodKIdeal.Block.aW m c)
      (DnodKIdeal.Block.aDW m c) (DnodKIdeal.Block.aD m c) := by
    unfold DnodRIdeal.Value.res_main_v38
    rw [a0, a1, a2, a3, a4]
    rfl
  refine ⟨((h0.trans e0).trans ?_).trans (DnodKIdeal.Block.final5 m c _ hX _ hG _ hY).symm, ((h1.trans e1).trans ?_).trans (DnodKIdeal.Block.final6 m c _ hX _ hG _ hY).symm,
    (h2.trans ?_).trans (DnodKIdeal.Block.final7 m c _ hX _ hY).symm, k⟩
  · exact ext2 fun r l => DnodRIdeal.Read.v41_eq _ _ _ _ _ _ hX _ hG _ hY r l
  · exact ext2 fun r l => DnodRIdeal.Read.v41_eq _ _ _ _ _ _ hX _ hG _ hY r l
  · exact funext fun i => DnodRIdeal.Read.v24_eq _ _ _ _ hX _ hY i

/-- The reference runs to its end and leaves its arguments and counters as they were: it declares no semaphore. -/
theorem refFrame : @Cert.quiescent_DnodRIdeal Cert.DnodRIdeal.Gen.facts := fun m ρ _ =>
  (θ_run DnodRIdeal.defs _ _).mono (fun r h => ⟨fun c => (h c).2.2.2, Idealize.ShloMosaic.sem_eq_zero_of_no_sems (by decide) r.2⟩)
    (DnodRIdeal.Value.run m ρ)

end Cert.Dnod

end
-- ==== Proof.AttnBlock.lean ====
/-
  One block of banded attention as the kernels compute it: 128 rows of two heads laid on 128 lanes, stacked to 256
  rows, against a window of 256 keys. Each definition is a run of the kernel's operations; each lemma reads it at an
  entry.
-/
module

public import proofs.«01_k».proof.Proof.Finite
public import proofs.«01_k».proof.Proof.Gen.Attnf16KIdeal.Skeleton
public import Idealize.ShloMosaic.Lib.Tactic

@[expose] public section

set_option maxRecDepth 16384

noncomputable section

namespace Cert.Attn

open Cert.Attnf16KIdeal Cert.Attnf16KIdeal.Gen Idealize.ShloMosaic Idealize.ShloMosaic.TcCoe

/-- The stacked row that holds lane `l` of row `r`: the first head's rows come first. -/
abbrev row (r l : Fin 128) : Fin 256 := ⟨r.val + l.val / 64 * 128, by omega⟩

/-- The lanes of the first head. -/
abbrev lo : IVec S128x128 1 := k0_pay3
/-- The two heads of a block, one under the other, each with the other's lanes cleared. -/
abbrev stack (q : FVec Ideal S128x128 .bf16) : FVec Ideal S256x128 .bf16 :=
  concatenate S256x128 0 [⟨S128x128, select lo q (broadcast S128x128 (Scalar.ofBits .bf16 0x0000#16 : Ideal .bf16))⟩,
    ⟨S128x128, select lo (broadcast S128x128 (Scalar.ofBits .bf16 0x0000#16 : Ideal .bf16)) q⟩] concatenates_S128x128_S128x128_S256x128_d0
/-- The scaled products of stacked rows with the window's keys. -/
abbrev raw (q : FVec Ideal S128x128 .bf16) (k : FVec Ideal S256x128 .bf16) : FVec Ideal S256x256 .f32 :=
  mulf (matmul dot_S256x128_S256x128_S256x256_1_1_0_0_n_n none (stack q) k (constant S256x256 .f32 0x00000000#32))
    (broadcast S256x256 (Scalar.ofBits .f32 0x3E000000#32 : Ideal .f32))
/-- The scores, with the keys outside the band at minus infinity. -/
abbrev scores (valid : IVec S256x256 1) (q : FVec Ideal S128x128 .bf16) (k : FVec Ideal S256x128 .bf16) : FVec Ideal S256x256 .f32 :=
  select valid (raw q k) (broadcast S256x256 (Named.named κ "mask" 0xF149F2CA#32 : Ideal .f32))
/-- The greatest score of a row. -/
abbrev top (s : FVec Ideal S256x256 .f32) : FVec Ideal S256x1 .f32 :=
  shapeCast S256x1 (multiReduction .maximumf [1] S256 s 0xFF800000#32 reduces_S256x256_S256 (.inl rfl) rfl) shapeCasts_S256_S256x1
/-- The weights. -/
abbrev wts (s : FVec Ideal S256x256 .f32) (m : FVec Ideal S256x1 .f32) : FVec Ideal S256x256 .f32 :=
  exp (subf s (broadcastTo S256x256 m broadcasts_S256x1_S256x256))
/-- The sum of a row's weights. -/
abbrev total (p : FVec Ideal S256x256 .f32) : FVec Ideal S256x1 .f32 :=
  shapeCast S256x1 (multiReduction .add [1] S256 p 0x00000000#32 reduces_S256x256_S256 (.inl rfl) rfl) shapeCasts_S256_S256x1
/-- Stacked rows laid side by side on the lanes again. -/
abbrev unstack (x : FVec Ideal S256x128 .f32) : FVec Ideal S128x128 .f32 :=
  select lo (extractStridedSlice S128x128 ![0, 0] x slices_S256x128_o0_0_S128x128)
    (extractStridedSlice S128x128 ![128, 0] x slices_S256x128_o128_0_S128x128)
/-- The attended values. -/
abbrev vals (p : FVec Ideal S256x256 .f32) (l : FVec Ideal S256x1 .f32) (v : FVec Ideal S256x128 .bf16) : FVec Ideal S128x128 .f32 :=
  unstack (divf (matmul dot_S256x256_S256x128_S256x128_1_0_0_1_n_n none (truncf .bf16 p bitsLt_bf16_f32) v (constant S256x128 .f32 0x00000000#32))
    (broadcastTo S256x128 l broadcasts_S256x1_S256x128))
/-- A value per stacked row, on every lane of its head. -/
abbrev lanes (x : FVec Ideal S256x1 .f32) : FVec Ideal S128x128 .f32 :=
  select lo
    (broadcastTo S128x128 (shapeCast S128x1 (extractStridedSlice S128x1 ![0, 0] x slices_S256x1_o0_0_S128x1) shapeCasts_S128x1_S128x1) broadcasts_S128x1_S128x128)
    (broadcastTo S128x128 (shapeCast S128x1 (extractStridedSlice S128x1 ![128, 0] x slices_S256x1_o128_0_S128x1) shapeCasts_S128x1_S128x1) broadcasts_S128x1_S128x128)

theorem lo_apply (r l : Fin 128) : lo (ix2 r l) = if l.val < 64 then 1#1 else 0#1 := by
  pointwise [lo, k0_pay3]
  revert l
  decide +kernel

theorem lit_eighth : Ideal.ofBits .f32 0x3E000000#32 = ((1 / 8 : ℝ) : EReal) := by
  simp [Ideal.ofBits, Ideal.ieee, -EReal.coe_mul]; norm_num

theorem lit_bot : Ideal.ofBits .f32 0xFF800000#32 = ⊥ := by
  simp [Ideal.ofBits, Ideal.ieee]

theorem mask_bot : (Named.named κ "mask" 0xF149F2CA#32 : Ideal .f32) = (⊥ : EReal) := rfl

theorem row_lo (r l : Fin 128) (h : l.val < 64) : row r l = ⟨r.val, by omega⟩ := Fin.ext (by show r.val + l.val / 64 * 128 = _; simp; omega)
theorem row_hi (r l : Fin 128) (h : ¬ l.val < 64) : row r l = ⟨128 + r.val, by omega⟩ := Fin.ext (by show r.val + l.val / 64 * 128 = 128 + r.val; omega)

theorem unstack_apply (x : FVec Ideal S256x128 .f32) (r l : Fin 128) : unstack x (ix2 r l) = x (ix2 (row r l) l) := by
  by_cases h : l.val < 64
  · rw [row_lo r l h]
    pointwise [unstack, lo_apply, h]
  · rw [row_hi r l h]
    pointwise [unstack, lo_apply, h]

theorem lanes_apply (x : FVec Ideal S256x1 .f32) (r l : Fin 128) : lanes x (ix2 r l) = x (ix2 (row r l) 0) := by
  by_cases h : l.val < 64
  · rw [row_lo r l h]
    pointwise [lanes, lo_apply, h]
  · rw [row_hi r l h]
    pointwise [lanes, lo_apply, h]

/-- A stacked row's row within its head. -/
abbrev sub (r : Fin 256) : Fin 128 := ⟨r.val % 128, by omega⟩

theorem stack_apply (q : FVec Ideal S128x128 .bf16) (r : Fin 256) (x : Fin 128) :
    stack q (ix2 r x) = if x.val / 64 = r.val / 128 then q (ix2 (sub r) x) else 0 := by
  by_cases h : r.val < 128 <;> by_cases hx : x.val < 64
  · have e : sub r = ⟨r.val, h⟩ := Fin.ext (by show r.val % 128 = r.val; omega)
    have c : x.val / 64 = r.val / 128 := by omega
    rw [e, if_pos c]
    pointwise [stack, lo_apply, h, hx]
  · have c : ¬ x.val / 64 = r.val / 128 := by omega
    rw [if_neg c]
    pointwise [stack, lo_apply, h, hx]
  · have c : ¬ x.val / 64 = r.val / 128 := by omega
    rw [if_neg c]
    pointwise [stack, lo_apply, h, hx]
  · have e : sub r = ⟨r.val - 128, by omega⟩ := Fin.ext (by show r.val % 128 = r.val - 128; omega)
    have c : x.val / 64 = r.val / 128 := by omega
    rw [e, if_pos c]
    pointwise [stack, lo_apply, h, hx]

theorem top_apply (s : FVec Ideal S256x256 .f32) (r : Fin 256) (u : Fin 1) :
    top s (ix2 r u) = Finset.univ.fold max ⊥ fun k => s (ix2 r k) := by
  pointwise [top, lit_bot]

theorem wts_apply (s : FVec Ideal S256x256 .f32) (m : FVec Ideal S256x1 .f32) (r k : Fin 256) :
    wts s m (ix2 r k) = Ideal.exp (s (ix2 r k) - m (ix2 r 0)) := by
  pointwise [wts]

theorem total_apply (p : FVec Ideal S256x256 .f32) (r : Fin 256) (u : Fin 1) : total p (ix2 r u) = ∑ k, p (ix2 r k) := by
  pointwise [total]

theorem vals_apply (p : FVec Ideal S256x256 .f32) (l : FVec Ideal S256x1 .f32) (v : FVec Ideal S256x128 .bf16) (r x : Fin 128) :
    vals p l v (ix2 r x) = Ideal.div (∑ k, p (ix2 (row r x) k) * v (ix2 k x)) (l (ix2 (row r x) 0)) := by
  unfold vals
  rw [unstack_apply]
  pointwise []

theorem raw_apply (q : FVec Ideal S128x128 .bf16) (k : FVec Ideal S256x128 .bf16) (r u : Fin 256) :
    raw q k (ix2 r u) = (∑ x : Fin 128, stack q (ix2 r x) * k (ix2 u x)) * ((1 / 8 : ℝ) : EReal) := by
  pointwise [raw, lit_eighth]

theorem scores_apply (valid : IVec S256x256 1) (q : FVec Ideal S128x128 .bf16) (k : FVec Ideal S256x128 .bf16) (r u : Fin 256) :
    scores valid q k (ix2 r u) = if valid (ix2 r u) = 1#1 then raw q k (ix2 r u) else ⊥ := by
  unfold scores
  generalize raw q k = y
  pointwise [mask_bot]
  rfl

/-- The lane of a head within its pair. -/
abbrev lane (h : Fin 2) (e : Fin 64) : Fin 128 := ⟨h.val * 64 + e.val, by omega⟩
/-- The head a lane belongs to. -/
abbrev half (l : Fin 128) : Fin 2 := ⟨l.val / 64, by omega⟩

/-- A product of stacked rows only meets the lanes of the row's own head. -/
theorem stack_sum (q : FVec Ideal S128x128 .bf16) (f : Fin 128 → EReal) (r l : Fin 128) :
    ∑ x, stack q (ix2 (row r l) x) * f x = ∑ e, q (ix2 r (lane (half l) e)) * f (lane (half l) e) := by
  have hr : (row r l).val % 128 = r.val := by show (r.val + l.val / 64 * 128) % 128 = _; omega
  have hh : (row r l).val / 128 = l.val / 64 := by show (r.val + l.val / 64 * 128) / 128 = _; omega
  have e0 : ∀ x, stack q (ix2 (row r l) x) = if x.val / 64 = l.val / 64 then q (ix2 r x) else 0 := fun x => by
    rw [stack_apply, hh]
    have : sub (row r l) = r := Fin.ext hr
    rw [this]
  simp only [e0, ite_mul, zero_mul]
  rw [← Finset.sum_filter]
  symm
  refine Finset.sum_bij (fun e _ => lane (half l) e) ?_ ?_ ?_ ?_
  · intro e _
    simp
    show (l.val / 64 * 64 + e.val) / 64 = _
    omega
  · intro a _ b _ h
    have := congrArg Fin.val h
    exact Fin.ext (by simpa using this)
  · intro x hx
    simp at hx
    exact ⟨⟨x.val % 64, by omega⟩, Finset.mem_univ _, Fin.ext (by show l.val / 64 * 64 + x.val % 64 = x.val; omega)⟩
  · intro _ _; rfl

section Window

variable {n : ℕ}

/-- Key `j` of the window that starts at `st`. -/
abbrev key (st : ℕ) (hn : st + 256 ≤ n) (j : Fin 256) : Fin n := ⟨st + j.val, by omega⟩

/-- The scores of query `t` of a head: its products with the head's keys, minus infinity outside the band. -/
def band (w : ℕ) (Q : Fin 64 → EReal) (K : Fin n → Fin 64 → EReal) (t : ℕ) (u : Fin n) : EReal :=
  if u.val ≤ t ∧ t ≤ u.val + w then (∑ e, Q e * K u e) * ((1 / 8 : ℝ) : EReal) else ⊥

theorem fold_window (f : Fin n → EReal) (st : ℕ) (hn : st + 256 ≤ n) (h : ∀ u, u.val < st ∨ st + 256 ≤ u.val → f u = ⊥) :
    Finset.univ.fold max ⊥ f = Finset.univ.fold max ⊥ fun j : Fin 256 => f (key st hn j) := by
  show Finset.univ.sup f = Finset.univ.sup fun j : Fin 256 => f (key st hn j)
  apply le_antisymm
  · refine Finset.sup_le fun u _ => ?_
    by_cases hu : u.val < st ∨ st + 256 ≤ u.val
    · rw [h u hu]; exact bot_le
    · have := Finset.le_sup (f := fun j : Fin 256 => f (key st hn j)) (Finset.mem_univ (⟨u.val - st, by omega⟩ : Fin 256))
      refine le_trans (le_of_eq ?_) this
      exact congrArg f (Fin.ext (by show u.val = st + (u.val - st); omega))
  · exact Finset.sup_le fun j _ => Finset.le_sup (Finset.mem_univ _)

theorem sum_window (f : Fin n → EReal) (st : ℕ) (hn : st + 256 ≤ n) (h : ∀ u, u.val < st ∨ st + 256 ≤ u.val → f u = 0) :
    ∑ u, f u = ∑ j : Fin 256, f (key st hn j) := by
  symm
  rw [← Finset.sum_filter_of_ne (p := fun u : Fin n => st ≤ u.val ∧ u.val < st + 256) (fun u _ hu => by
    by_contra hc
    exact hu (h u (by omega)))]
  refine Finset.sum_bij (fun j _ => (key st hn j)) ?_ ?_ ?_ ?_
  · intro j _; simp
  · intro a _ b _ hab
    have := congrArg Fin.val hab
    exact Fin.ext (by simpa using this)
  · intro u hu
    simp at hu
    exact ⟨⟨u.val - st, by omega⟩, Finset.mem_univ _, Fin.ext (by show st + (u.val - st) = u.val; omega)⟩
  · intro _ _; rfl

/-- The weight of a key outside the band is zero, whatever is subtracted. -/
theorem exp_bot_sub (m : EReal) : Ideal.exp (⊥ - m) = 0 := by
  rw [sub_eq_add_neg, EReal.bot_add]
  rfl

variable (w : ℕ) (st off : ℕ) (hn : st + 256 ≤ n) (r l : Fin 128)
  (hw : w ≤ 128) (ho : off = 128 ∨ st = 0 ∧ off = 0)
  (valid : IVec S256x256 1)
  (hv : ∀ a j : Fin 256, valid (ix2 a j) = 1#1 ↔ j.val ≤ a.val % 128 + off ∧ a.val % 128 + off ≤ j.val + w)
  (q : FVec Ideal S128x128 .bf16) (k v : FVec Ideal S256x128 .bf16)
  (Q : Fin 64 → EReal) (K : Fin n → Fin 64 → EReal) (V : Fin n → EReal)
  (hq : ∀ e, q (ix2 r (lane (half l) e)) = Q e)
  (hk : ∀ (j : Fin 256) e, k (ix2 j (lane (half l) e)) = K (key st hn j) e)
  (hvv : ∀ j : Fin 256, v (ix2 j l) = V (key st hn j))

include hv hq hk in
theorem scores_eq (j : Fin 256) : scores valid q k (ix2 (row r l) j) = band w Q K (st + off + r.val) (key st hn j) := by
  have hr : (row r l).val % 128 = r.val := by show (r.val + l.val / 64 * 128) % 128 = _; omega
  rw [scores_apply, raw_apply, stack_sum, band]
  simp only [hv, hr, hq, hk]
  by_cases h : j.val ≤ r.val + off ∧ r.val + off ≤ j.val + w
  · rw [if_pos h, if_pos (by show st + j.val ≤ _ ∧ _ ≤ st + j.val + w; omega)]
  · rw [if_neg h, if_neg (by show ¬ (st + j.val ≤ _ ∧ _ ≤ st + j.val + w); omega)]

include hw ho in
theorem band_out (u : Fin n) (h : u.val < st ∨ st + 256 ≤ u.val) : band w Q K (st + off + r.val) u = ⊥ := by
  rw [band, if_neg (by omega)]

include hn hw ho hv hq hk in
theorem top_eq (z : Fin 1) : top (scores valid q k) (ix2 (row r l) z) = Finset.univ.fold max ⊥ (band w Q K (st + off + r.val)) := by
  rw [top_apply, fold_window _ st hn (band_out w st off r hw ho Q K)]
  exact congrArg (fun f => Finset.univ.fold max ⊥ f) (funext fun j => scores_eq w st off hn r l valid hv q k Q K hq hk j)

include hn hw ho hv hq hk in
theorem weights_sum (m : FVec Ideal S256x1 .f32) (M : EReal) (hm : m (ix2 (row r l) 0) = M) (z : Fin 1) :
    total (wts (scores valid q k) m) (ix2 (row r l) z) = ∑ u, Ideal.exp (band w Q K (st + off + r.val) u - M) := by
  rw [total_apply, sum_window _ st hn fun u h => by rw [band_out w st off r hw ho Q K u h, exp_bot_sub]]
  exact Finset.sum_congr rfl fun j _ => by rw [wts_apply, hm, scores_eq w st off hn r l valid hv q k Q K hq hk j]

include hn hw ho hv hq hk hvv in
theorem vals_eq (m d : FVec Ideal S256x1 .f32) (M D : EReal) (hm : m (ix2 (row r l) 0) = M) (hd : d (ix2 (row r l) 0) = D) :
    vals (wts (scores valid q k) m) d v (ix2 r l) = Ideal.div (∑ u, Ideal.exp (band w Q K (st + off + r.val) u - M) * V u) D := by
  rw [vals_apply, hd, sum_window _ st hn fun u h => by rw [band_out w st off r hw ho Q K u h, exp_bot_sub, zero_mul]]
  exact congrArg (fun x => Ideal.div x D) (Finset.sum_congr rfl fun j _ => by
    rw [wts_apply, hm, scores_eq w st off hn r l valid hv q k Q K hq hk j, hvv])

end Window

/-- The band's mask: row `a` of a block whose first row is `s` rows after the window's start sees key `j` at a
    distance of at most `w`. -/
abbrev seen (w s : BitVec 32) : IVec S256x256 1 :=
  cmpi .sle (absi (subi (muli (broadcast S256x256 2#32)
    (addi (subi (andi (iota .tc S256x256 32 [0] iota_S256x256_d0_w32) (broadcast S256x256 127#32)) (iota .tc S256x256 32 [1] iota_S256x256_d1_w32))
      (broadcast S256x256 s))) (broadcast S256x256 w))) (broadcast S256x256 w)

theorem seen_apply (w s : BitVec 32) (a j : Fin 256) : seen w s (ix2 a j)
    = IntOp.cmpi .sle (IntOp.absi (IntOp.subi (IntOp.muli 2#32 (IntOp.addi (IntOp.subi (IntOp.andi (BitVec.ofNat 32 a.val) 127#32) (BitVec.ofNat 32 j.val)) s)) w)) w := by
  pointwise [seen]

/-- The mask read over the integers. -/
theorem seen_iff (w s : ℕ) (hw : w ≤ 128) (hs : s ≤ 128) (a j : Fin 256) :
    seen (BitVec.ofNat 32 w) (BitVec.ofNat 32 s) (ix2 a j) = 1#1 ↔ j.val ≤ a.val % 128 + s ∧ a.val % 128 + s ≤ j.val + w := by
  rw [seen_apply]
  have ha : (IntOp.andi (BitVec.ofNat 32 a.val) 127#32) = BitVec.ofNat 32 (a.val % 128) := by
    revert a; decide +kernel
  rw [ha]
  have hx : IntOp.subi (IntOp.muli 2#32 (IntOp.addi (IntOp.subi (BitVec.ofNat 32 (a.val % 128)) (BitVec.ofNat 32 j.val)) (BitVec.ofNat 32 s))) (BitVec.ofNat 32 w)
      = BitVec.ofInt 32 (2 * ((a.val % 128 : ℕ) - (j.val : ℤ) + (s : ℤ)) - (w : ℤ)) := by
    rw [sub_eq_add_neg (2 * _ : ℤ), sub_eq_add_neg, BitVec.ofInt_add, BitVec.ofInt_mul, BitVec.ofInt_add, BitVec.ofInt_add, BitVec.ofInt_neg, BitVec.ofInt_neg]
    simp only [BitVec.ofInt_natCast, ← BitVec.sub_eq_add_neg]
    rfl
  rw [hx]
  have hj := j.isLt
  generalize hz : (2 * ((a.val % 128 : ℕ) - (j.val : ℤ) + (s : ℤ)) - (w : ℤ)) = z
  have hb : -1024 ≤ z ∧ z ≤ 1024 := by omega
  have ht : (BitVec.ofInt 32 z).toInt = z := by
    rw [BitVec.toInt_ofInt]; exact Int.bmod_eq_of_le (by norm_num <;> omega) (by norm_num <;> omega)
  have hw' : (BitVec.ofNat 32 w).toInt = w := by
    rw [← BitVec.ofInt_natCast, BitVec.toInt_ofInt]; exact Int.bmod_eq_of_le (by norm_num <;> omega) (by norm_num <;> omega)
  have habs : (IntOp.absi (BitVec.ofInt 32 z)).toInt = |z| := by
    unfold IntOp.absi
    rw [BitVec.msb_eq_toInt, ht]
    by_cases hn : z < 0
    · rw [if_pos (by simpa using hn), ← BitVec.ofInt_neg, BitVec.toInt_ofInt, abs_of_neg hn]
      exact Int.bmod_eq_of_le (by norm_num <;> omega) (by norm_num <;> omega)
    · rw [if_neg (by simpa using hn), ht, abs_of_nonneg (by omega)]
  have hc : IntOp.cmpi .sle (IntOp.absi (BitVec.ofInt 32 z)) (BitVec.ofNat 32 w) = 1#1 ↔ |z| ≤ w := by
    show BitVec.ofBool (BitVec.sle _ _) = 1#1 ↔ _
    rw [BitVec.sle_eq_decide, habs, hw']
    exact Cert.Finite.bit_one _
  rw [hc, abs_le]
  omega

/-- A run of rows loaded from a block, read at an entry. -/
theorem ld_at {n w : ℕ} {φ : EltTy} (b : Vec Ideal ⟨3, ![1, n, 128]⟩ φ) (off : Fin 3 → ℕ) {st : ℕ} (ho : off = ![0, st, 0])
    (h : ∀ a, off a + (![1, w, 128] : Fin 3 → ℕ) a ≤ (![1, n, 128] : Fin 3 → ℕ) a) (j : Fin w) (x : Fin 128) (hj : st + j.val < n) :
    View.ld b (Rect.unit off ![1, w, 128] h) (ix3 0 j x) = b (ix3 0 ⟨st + j.val, hj⟩ x) := by
  subst ho
  exact congrArg b (by funext a; fin_cases a <;> exact Fin.ext (by simp [Rect.unit, Rect.emb]))

/-- Such a run lies inside the block. -/
theorem inb {n w st : ℕ} (off : Fin 3 → ℕ) (ho : off = ![0, st, 0]) (hs : st + w ≤ n) : ∀ a, off a + (![1, w, 128] : Fin 3 → ℕ) a ≤ (![1, n, 128] : Fin 3 → ℕ) a := by
  subst ho
  intro a
  fin_cases a
  · show 0 + 1 ≤ 1
    omega
  · show st + w ≤ n
    exact hs
  · show 0 + 128 ≤ 128
    omega

/-- The attended values of one block without sinks, as a kernel stores them. -/
abbrev outO (w s : BitVec 32) (q : Vec Ideal S1x128x128 .bf16) (k v : Vec Ideal S1x256x128 .bf16) : FVec Ideal S1x128x128 .bf16 :=
  let sc := scores (seen w s) (shapeCast S128x128 q shapeCasts_S1x128x128_S128x128) (shapeCast S256x128 k shapeCasts_S1x256x128_S256x128)
  let p := wts sc (top sc)
  shapeCast S1x128x128 (truncf .bf16 (vals p (total p) (shapeCast S256x128 v shapeCasts_S1x256x128_S256x128)) bitsLt_bf16_f32) shapeCasts_S128x128_S1x128x128

/-- The logarithms of the weights' sums, as a kernel stores them. -/
abbrev outL (w s : BitVec 32) (q : Vec Ideal S1x128x128 .bf16) (k : Vec Ideal S1x256x128 .bf16) : FVec Ideal S1x128x128 .f32 :=
  let sc := scores (seen w s) (shapeCast S128x128 q shapeCasts_S1x128x128_S128x128) (shapeCast S256x128 k shapeCasts_S1x256x128_S256x128)
  shapeCast S1x128x128 (lanes (addf (top sc) (log (total (wts sc (top sc)))))) shapeCasts_S128x128_S1x128x128

section Spec

variable {n : ℕ} (w : ℕ) (q k v : Fin n → Fin 512 → EReal)

/-- The lanes of the head that holds lane `c`. -/
abbrev col (c : Fin 512) (e : Fin 64) : Fin 512 := ⟨c.val / 64 * 64 + e.val, by omega⟩
/-- The scores of row `t` on the head of lane `c`. -/
abbrev sc (t : Fin n) (c : Fin 512) : Fin n → EReal := band w (fun e => q t (col c e)) (fun u e => k u (col c e)) t.val
/-- Their maximum. -/
abbrev mx (t : Fin n) (c : Fin 512) : EReal := Finset.univ.fold max ⊥ (sc w q k t c)
/-- The sum of their weights. -/
abbrev den (t : Fin n) (c : Fin 512) : EReal := ∑ u, Ideal.exp (sc w q k t c u - mx w q k t c)
/-- Banded attention. -/
abbrev att (t : Fin n) (c : Fin 512) : EReal := Ideal.div (∑ u, Ideal.exp (sc w q k t c u - mx w q k t c) * v u c) (den w q k t c)
/-- The logarithm of its weights' sum. -/
abbrev lse (t : Fin n) (c : Fin 512) : EReal := mx w q k t c + Ideal.log (den w q k t c)

variable (st off : ℕ) (hn : st + 256 ≤ n) (hw : w ≤ 128) (ho : off = 128 ∨ st = 0 ∧ off = 0) (r l : Fin 128) (t : Fin n) (ht : t.val = st + off + r.val)
  (c : Fin 512) (hc : c.val % 128 = l.val)
  (x : Vec Ideal S1x128x128 .bf16) (y z : Vec Ideal S1x256x128 .bf16)
  (hx : ∀ e, x (ix3 0 r (lane (half l) e)) = q t (col c e))
  (hy : ∀ (j : Fin 256) e, y (ix3 0 j (lane (half l) e)) = k (key st hn j) (col c e))
  (hz : ∀ j : Fin 256, z (ix3 0 j l) = v (key st hn j) c)

include hn hw ho ht hx hy hz in
theorem outO_apply (b : Fin 1) : outO (BitVec.ofNat 32 w) (BitVec.ofNat 32 off) x y z (ix3 b r l) = att w q k v t c := by
  have hv := seen_iff w off hw (by omega)
  have hq : ∀ e, shapeCast S128x128 x shapeCasts_S1x128x128_S128x128 (ix2 r (lane (half l) e)) = q t (col c e) := fun e => by
    pointwise [hx]
  have hk : ∀ (j : Fin 256) e, shapeCast S256x128 y shapeCasts_S1x256x128_S256x128 (ix2 j (lane (half l) e)) = k (key st hn j) (col c e) := fun j e => by
    pointwise [hy]
  have hvv : ∀ j : Fin 256, shapeCast S256x128 z shapeCasts_S1x256x128_S256x128 (ix2 j l) = v (key st hn j) c := fun j => by
    pointwise [hz]
  unfold outO
  generalize shapeCast S128x128 x shapeCasts_S1x128x128_S128x128 = a at hq ⊢
  generalize shapeCast S256x128 y shapeCasts_S1x256x128_S256x128 = b' at hk ⊢
  generalize shapeCast S256x128 z shapeCasts_S1x256x128_S256x128 = d at hvv ⊢
  have hm := top_eq w st off hn r l hw ho _ hv a b' (fun e => q t (col c e)) (fun u e => k u (col c e)) hq hk
  have hd := weights_sum w st off hn r l hw ho _ hv a b' (fun e => q t (col c e)) (fun u e => k u (col c e)) hq hk _ _ (hm 0)
  have hr := vals_eq w st off hn r l hw ho _ hv a b' d (fun e => q t (col c e)) (fun u e => k u (col c e)) (fun u => v u c) hq hk hvv _ _ _ _ (hm 0) (hd 0)
  rw [← ht] at hr
  refine Eq.trans ?_ hr
  generalize vals _ _ _ = o
  pointwise []

include hn hw ho ht hx hy in
theorem outL_apply (b : Fin 1) : outL (BitVec.ofNat 32 w) (BitVec.ofNat 32 off) x y (ix3 b r l) = lse w q k t c := by
  have hv := seen_iff w off hw (by omega)
  have hq : ∀ e, shapeCast S128x128 x shapeCasts_S1x128x128_S128x128 (ix2 r (lane (half l) e)) = q t (col c e) := fun e => by
    pointwise [hx]
  have hk : ∀ (j : Fin 256) e, shapeCast S256x128 y shapeCasts_S1x256x128_S256x128 (ix2 j (lane (half l) e)) = k (key st hn j) (col c e) := fun j e => by
    pointwise [hy]
  unfold outL
  generalize shapeCast S128x128 x shapeCasts_S1x128x128_S128x128 = a at hq ⊢
  generalize shapeCast S256x128 y shapeCasts_S1x256x128_S256x128 = b' at hk ⊢
  have hm := top_eq w st off hn r l hw ho _ hv a b' (fun e => q t (col c e)) (fun u e => k u (col c e)) hq hk
  have hd := weights_sum w st off hn r l hw ho _ hv a b' (fun e => q t (col c e)) (fun u e => k u (col c e)) hq hk _ _ (hm 0)
  rw [← ht] at hm hd
  have hr := lanes_apply (addf (top (scores (seen (BitVec.ofNat 32 w) (BitVec.ofNat 32 off)) a b')) (log (total (wts (scores (seen (BitVec.ofNat 32 w) (BitVec.ofNat 32 off)) a b') (top (scores (seen (BitVec.ofNat 32 w) (BitVec.ofNat 32 off)) a b')))))) r l
  have hs : shapeCast S1x128x128 (lanes (addf (top (scores (seen (BitVec.ofNat 32 w) (BitVec.ofNat 32 off)) a b')) (log (total (wts (scores (seen (BitVec.ofNat 32 w) (BitVec.ofNat 32 off)) a b') (top (scores (seen (BitVec.ofNat 32 w) (BitVec.ofNat 32 off)) a b'))))))) shapeCasts_S128x128_S1x128x128 (ix3 b r l)
      = lanes (addf (top (scores (seen (BitVec.ofNat 32 w) (BitVec.ofNat 32 off)) a b')) (log (total (wts (scores (seen (BitVec.ofNat 32 w) (BitVec.ofNat 32 off)) a b') (top (scores (seen (BitVec.ofNat 32 w) (BitVec.ofNat 32 off)) a b')))))) (ix2 r l) := by
    generalize lanes _ = o
    pointwise []
  refine hs.trans (hr.trans ?_)
  show top _ _ + Ideal.log (total _ _) = _
  rw [hm 0, hd 0]

end Spec

end Cert.Attn

end
-- ==== Proof.Attn16Value.lean ====
/-
  The two arrays the banded attention leaves, at dilation 16.
-/
module

public import proofs.«01_k».proof.Proof.AttnBlock
public import proofs.«01_k».proof.Proof.Gen.Attnf16KIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.Attnf16KIdeal.Block

open Cert.Attnf16KIdeal Cert.Attnf16KIdeal.Gen Idealize.ShloMosaic Idealize.ShloMosaic.TcCoe Cert.Attn

variable (m : (ℓ : Loc nD τ sig) → Buf (Elt Ideal) ℓ) (c : Dev nD)

/-- The arguments, by residue class, row and lane. -/
abbrev aq (d : Fin 16) (r : Fin 512) (l : Fin 512) : EReal := (m ((c : Thread nD τ).loc main_arg0) : Vec Ideal S16x512x512 .bf16) (ix3 d r l)
abbrev ak (d : Fin 16) (r : Fin 512) (l : Fin 512) : EReal := (m ((c : Thread nD τ).loc main_arg1) : Vec Ideal S16x512x512 .bf16) (ix3 d r l)
abbrev av (d : Fin 16) (r : Fin 512) (l : Fin 512) : EReal := (m ((c : Thread nD τ).loc main_arg2) : Vec Ideal S16x512x512 .bf16) (ix3 d r l)

theorem lt (t : Fin cfg0.N) : t.val < 64 := by have := t.isLt; have : cfg0.N = 64 := N_0; omega
/-- The residue class, rows and lanes of a grid point. -/
abbrev atD (t : Fin cfg0.N) : Fin 16 := ⟨t.val / 4, by have := lt t; omega⟩
abbrev atR (t : Fin cfg0.N) (r : Fin 512) : Fin 512 := ⟨t.val % 1 * 512 + r.val, by omega⟩
abbrev atL (t : Fin cfg0.N) (l : Fin 128) : Fin 512 := ⟨t.val / 1 % 4 * 128 + l.val, by omega⟩

theorem e0 : ∀ t : Fin cfg0.N, win0_0.index t = ![t.val / 4, t.val % 1, t.val / 1 % 4] := (by decide +kernel : ∀ t : Fin grid0.N, _)
theorem e1 : ∀ t : Fin cfg0.N, win0_1.index t = ![t.val / 4, 0, t.val / 1 % 4] := (by decide +kernel : ∀ t : Fin grid0.N, _)
theorem e2 : ∀ t : Fin cfg0.N, win0_2.index t = ![t.val / 4, 0, t.val / 1 % 4] := (by decide +kernel : ∀ t : Fin grid0.N, _)
theorem e3 : ∀ t : Fin cfg0.N, win0_3.index t = ![t.val / 4, t.val % 1, t.val / 1 % 4] := (by decide +kernel : ∀ t : Fin grid0.N, _)
theorem e4 : ∀ t : Fin cfg0.N, win0_4.index t = ![t.val / 4, t.val % 1, t.val / 1 % 4] := (by decide +kernel : ∀ t : Fin grid0.N, _)

/-- Where the windows of a grid point's blocks start. -/
theorem o1 : ∀ t : Fin cfg0.N, k0_off1 (grid0.coords t) = ![0, t.val % 1 * 512 - 128, 0] := (by decide +kernel : ∀ t : Fin grid0.N, _)
theorem o2 : ∀ t : Fin cfg0.N, ∀ i : Fin 3, k0_off2 (grid0.coords t) (BitVec.ofNat 32 (128 + 128 * i.val)) = ![0, t.val % 1 * 512 + i.val * 128, 0] :=
  (by decide +kernel : ∀ t : Fin grid0.N, _)
/-- The first block's rows start after its window's start by 128, and at the first rows by nothing. -/
abbrev dist (t : Fin cfg0.N) : ℕ := t.val % 1 * 512 - (t.val % 1 * 512 - 128)
theorem ds : ∀ t : Fin cfg0.N, Scalar.subi (Scalar.addi (Scalar.muli (BitVec.ofNat 32 (grid0.coords t 2).val) 512#32) 0#32)
    (Scalar.maxsi (Scalar.subi (Scalar.addi (Scalar.muli (BitVec.ofNat 32 (grid0.coords t 2).val) 512#32) 0#32) 128#32) 0#32) = BitVec.ofNat 32 (dist t) :=
  (by decide +kernel : ∀ t : Fin grid0.N, _)
theorem mask0 (t : Fin cfg0.N) : k0_pay6 (grid0.coords t) = seen (BitVec.ofNat 32 128) (BitVec.ofNat 32 (dist t)) := by
  rw [← ds t]
  rfl

theorem blk0 (t : Fin cfg0.N) (r : Fin 512) (l : Fin 128) : iblk m c 0 t (ix3 0 r l) = aq m c (atD t) (atR t r) (atL t l) := by
  have h : (win0_0.blk t).view.emb (ix3 0 r l) = (ix3 (atD t) (atR t r) (atL t l) : S16x512x512.Idx) := by blk_ext [e0]
  blk_simp [iblk]
  rw [h, V_main_arg0]

theorem blk1 (t : Fin cfg0.N) (r : Fin 512) (l : Fin 128) : iblk m c 1 t (ix3 0 r l) = ak m c (atD t) r (atL t l) := by
  have h : (win0_1.blk t).view.emb (ix3 0 r l) = (ix3 (atD t) r (atL t l) : S16x512x512.Idx) := by blk_ext [e1]
  blk_simp [iblk]
  rw [h, V_main_arg1]

theorem blk2 (t : Fin cfg0.N) (r : Fin 512) (l : Fin 128) : iblk m c 2 t (ix3 0 r l) = av m c (atD t) r (atL t l) := by
  have h : (win0_2.blk t).view.emb (ix3 0 r l) = (ix3 (atD t) r (atL t l) : S16x512x512.Idx) := by blk_ext [e2]
  blk_simp [iblk]
  rw [h, V_main_arg2]

section Piece

variable (t : Fin cfg0.N) (st off r0 : ℕ) (hr : r0 + 128 ≤ 512) (ho : off = 128 ∨ st = 0 ∧ off = 0) (hs : st + off = t.val % 1 * 512 + r0) (hn : st + 256 ≤ 512)
  (p0 p1 : Fin 3 → ℕ) (h0 : p0 = ![0, r0, 0]) (h1 : p1 = ![0, st, 0])
  (i0 : ∀ a, p0 a + (![1, 128, 128] : Fin 3 → ℕ) a ≤ (![1, 512, 128] : Fin 3 → ℕ) a) (i1 : ∀ a, p1 a + (![1, 256, 128] : Fin 3 → ℕ) a ≤ (![1, 512, 128] : Fin 3 → ℕ) a)
  (b : Fin 1) (r l : Fin 128) (y1 : Fin 512) (y2 : Fin 128) (hy1 : y1.val = r0 + r.val) (hy2 : y2.val = l.val)

include hr ho hs hn h0 h1 hy1 hy2 in
/-- What one block stores of the attended values. -/
theorem pieceO : outO (BitVec.ofNat 32 128) (BitVec.ofNat 32 off) (View.ld (iblk m c 0 t) (Rect.unit p0 ![1, 128, 128] i0))
    (View.ld (iblk m c 1 t) (Rect.unit p1 ![1, 256, 128] i1)) (View.ld (iblk m c 2 t) (Rect.unit p1 ![1, 256, 128] i1)) (ix3 b r l)
      = att 128 (aq m c (atD t)) (ak m c (atD t)) (av m c (atD t)) (atR t y1) (atL t y2) := by
  refine outO_apply 128 (aq m c (atD t)) (ak m c (atD t)) (av m c (atD t)) st off hn (le_refl _) ho r l (atR t y1) ?_ (atL t y2)
    _ _ _ (fun e => ?_) (fun j e => ?_) (fun j => ?_) b
  · show t.val % 1 * 512 + y1.val = st + off + r.val
    omega
  · rw [ld_at _ _ h0 _ r _ (by omega), blk0]
    exact congrArg₂ (aq m c (atD t)) (Fin.ext (by show t.val % 1 * 512 + (r0 + r.val) = t.val % 1 * 512 + y1.val; omega))
      (Fin.ext (by show t.val / 1 % 4 * 128 + (l.val / 64 * 64 + e.val) = (t.val / 1 % 4 * 128 + y2.val) / 64 * 64 + e.val; omega))
  · rw [ld_at _ _ h1 _ j _ (by omega), blk1]
    exact congrArg (ak m c (atD t) _)
      (Fin.ext (by show t.val / 1 % 4 * 128 + (l.val / 64 * 64 + e.val) = (t.val / 1 % 4 * 128 + y2.val) / 64 * 64 + e.val; omega))
  · rw [ld_at _ _ h1 _ j _ (by omega), blk2]
    exact congrArg (av m c (atD t) _) (Fin.ext (by show t.val / 1 % 4 * 128 + l.val = t.val / 1 % 4 * 128 + y2.val; omega))

include hr ho hs hn h0 h1 hy1 hy2 in
/-- What one block stores of the logarithms. -/
theorem pieceL : outL (BitVec.ofNat 32 128) (BitVec.ofNat 32 off) (View.ld (iblk m c 0 t) (Rect.unit p0 ![1, 128, 128] i0))
    (View.ld (iblk m c 1 t) (Rect.unit p1 ![1, 256, 128] i1)) (ix3 b r l)
      = lse 128 (aq m c (atD t)) (ak m c (atD t)) (atR t y1) (atL t y2) := by
  refine outL_apply 128 (aq m c (atD t)) (ak m c (atD t)) st off hn (le_refl _) ho r l (atR t y1) ?_ (atL t y2)
    _ _ (fun e => ?_) (fun j e => ?_) b
  · show t.val % 1 * 512 + y1.val = st + off + r.val
    omega
  · rw [ld_at _ _ h0 _ r _ (by omega), blk0]
    exact congrArg₂ (aq m c (atD t)) (Fin.ext (by show t.val % 1 * 512 + (r0 + r.val) = t.val % 1 * 512 + y1.val; omega))
      (Fin.ext (by show t.val / 1 % 4 * 128 + (l.val / 64 * 64 + e.val) = (t.val / 1 % 4 * 128 + y2.val) / 64 * 64 + e.val; omega))
  · rw [ld_at _ _ h1 _ j _ (by omega), blk1]
    exact congrArg (ak m c (atD t) _)
      (Fin.ext (by show t.val / 1 % 4 * 128 + (l.val / 64 * 64 + e.val) = (t.val / 1 % 4 * 128 + y2.val) / 64 * 64 + e.val; omega))

end Piece

theorem final3 : (dats m 0 c).arrAt 3 cfg0.N = fun i : S16x512x512.Idx => att 128 (aq m c (i 0)) (ak m c (i 0)) (av m c (i 0)) (i 1) (i 2) := by
  refine (dats m 0 c).arrAt_eq_of_covers 3 _ (by decide +kernel) fun t hf y => ?_
  have h : (win0_3.blk t).view.emb y = (ix3 (atD t) (atR t (y 1)) (atL t (y 2)) : S16x512x512.Idx) := by
    have : (y 0).val < 1 := (y 0).isLt
    blk_ext [e3]
  blk_simp
  rw [after0_3, h]
  simp only [outsAt0]
  frame_out
  have hl := lt t
  canon_tiles x hx using View.cover_of_tiledBy _ ![1, 128, 128] (by sl_kernel_rfl) _
  all_goals try rw [Memref.IsWhole.read_unread]
  all_goals try first | rw [mask0] | rw [ds t]
  all_goals rw [eq_ix3 x]
  · exact pieceO m c t (t.val % 1 * 512 + 256) 128 384 (by omega) (.inl rfl) (by omega) (by omega) ![0, 384, 0] (k0_off2 (grid0.coords t) 384#32) rfl (o2 t 2) (inb _ rfl (by omega)) (inb _ (o2 t 2) (by omega)) (x 0) (x 1) (x 2) (y 1) (y 2) hx1 hx2
  · exact pieceO m c t (t.val % 1 * 512 + 128) 128 256 (by omega) (.inl rfl) (by omega) (by omega) ![0, 256, 0] (k0_off2 (grid0.coords t) 256#32) rfl (o2 t 1) (inb _ rfl (by omega)) (inb _ (o2 t 1) (by omega)) (x 0) (x 1) (x 2) (y 1) (y 2) hx1 hx2
  · exact pieceO m c t (t.val % 1 * 512 + 0) 128 128 (by omega) (.inl rfl) (by omega) (by omega) ![0, 128, 0] (k0_off2 (grid0.coords t) 128#32) rfl (o2 t 0) (inb _ rfl (by omega)) (inb _ (o2 t 0) (by omega)) (x 0) (x 1) (x 2) (y 1) (y 2) hx1 hx2
  · exact pieceO m c t (t.val % 1 * 512 - 128) (dist t) 0 (by omega) (by unfold dist; omega) (by unfold dist; omega) (by omega) ![0, 0, 0] (k0_off1 (grid0.coords t)) rfl (o1 t) (inb _ rfl (by omega)) (inb _ (o1 t) (by omega)) (x 0) (x 1) (x 2) (y 1) (y 2) (by omega) hx2

theorem final4 : (dats m 0 c).arrAt 4 cfg0.N = fun i : S16x512x512.Idx => lse 128 (aq m c (i 0)) (ak m c (i 0)) (i 1) (i 2) := by
  refine (dats m 0 c).arrAt_eq_of_covers 4 _ (by decide +kernel) fun t hf y => ?_
  have h : (win0_4.blk t).view.emb y = (ix3 (atD t) (atR t (y 1)) (atL t (y 2)) : S16x512x512.Idx) := by
    have : (y 0).val < 1 := (y 0).isLt
    blk_ext [e4]
  blk_simp
  rw [after0_4, h]
  simp only [outsAt0]
  frame_out
  have hl := lt t
  canon_tiles x hx using View.cover_of_tiledBy _ ![1, 128, 128] (by sl_kernel_rfl) _
  all_goals try rw [Memref.IsWhole.read_unread]
  all_goals try first | rw [mask0] | rw [ds t]
  all_goals rw [eq_ix3 x]
  · exact pieceL m c t (t.val % 1 * 512 + 256) 128 384 (by omega) (.inl rfl) (by omega) (by omega) ![0, 384, 0] (k0_off2 (grid0.coords t) 384#32) rfl (o2 t 2) (inb _ rfl (by omega)) (inb _ (o2 t 2) (by omega)) (x 0) (x 1) (x 2) (y 1) (y 2) hx1 hx2
  · exact pieceL m c t (t.val % 1 * 512 + 128) 128 256 (by omega) (.inl rfl) (by omega) (by omega) ![0, 256, 0] (k0_off2 (grid0.coords t) 256#32) rfl (o2 t 1) (inb _ rfl (by omega)) (inb _ (o2 t 1) (by omega)) (x 0) (x 1) (x 2) (y 1) (y 2) hx1 hx2
  · exact pieceL m c t (t.val % 1 * 512 + 0) 128 128 (by omega) (.inl rfl) (by omega) (by omega) ![0, 128, 0] (k0_off2 (grid0.coords t) 128#32) rfl (o2 t 0) (inb _ rfl (by omega)) (inb _ (o2 t 0) (by omega)) (x 0) (x 1) (x 2) (y 1) (y 2) hx1 hx2
  · exact pieceL m c t (t.val % 1 * 512 - 128) (dist t) 0 (by omega) (by unfold dist; omega) (by unfold dist; omega) (by omega) ![0, 0, 0] (k0_off1 (grid0.coords t)) rfl (o1 t) (inb _ rfl (by omega)) (inb _ (o1 t) (by omega)) (x 0) (x 1) (x 2) (y 1) (y 2) (by omega) hx2

end Cert.Attnf16KIdeal.Block

end
-- ==== Proof.AttnSpan.lean ====
/-
  The mask of banded attention as the whole-array program tests it, as a statement on row numbers.
-/
module

public import Idealize.ShloMosaic.Lib.Pipeline.ValueKit
public import Idealize.ShloMosaic.Lib.Tactic

@[expose] public section

noncomputable section

namespace Cert.Attn

open Idealize.ShloMosaic

/-- The difference of two row numbers lies between 0 and `w` exactly where the column is not after the row and at most `w` before it. -/
theorem span_iff (a b w : ℕ) (ha : a < 8192) (hb : b < 8192) (hw : w < 8192) :
    IntOp.andi (IntOp.cmpi .sge (IntOp.subi (BitVec.ofNat 32 a) (BitVec.ofNat 32 b)) 0#32)
      (IntOp.cmpi .sle (IntOp.subi (BitVec.ofNat 32 a) (BitVec.ofNat 32 b)) (BitVec.ofNat 32 w)) = if b ≤ a ∧ a ≤ b + w then 1#1 else 0#1 := by
  have hx : IntOp.subi (BitVec.ofNat 32 a) (BitVec.ofNat 32 b) = BitVec.ofInt 32 ((a : ℤ) - (b : ℤ)) := by
    rw [sub_eq_add_neg, BitVec.ofInt_add, BitVec.ofInt_neg]
    simp only [BitVec.ofInt_natCast, ← BitVec.sub_eq_add_neg]
    rfl
  have ht : (BitVec.ofInt 32 ((a : ℤ) - (b : ℤ))).toInt = (a : ℤ) - (b : ℤ) := by
    rw [BitVec.toInt_ofInt]; exact Int.bmod_eq_of_le (by norm_num <;> omega) (by norm_num <;> omega)
  have hw' : (BitVec.ofNat 32 w).toInt = w := by
    rw [← BitVec.ofInt_natCast, BitVec.toInt_ofInt]; exact Int.bmod_eq_of_le (by norm_num <;> omega) (by norm_num <;> omega)
  rw [hx]
  show BitVec.ofBool (BitVec.sle _ _) &&& BitVec.ofBool (BitVec.sle _ _) = _
  rw [BitVec.sle_eq_decide, BitVec.sle_eq_decide, ht, hw']
  have h0 : (0#32).toInt = 0 := rfl
  rw [h0]
  by_cases h1 : (0 : ℤ) ≤ (a : ℤ) - b
  · by_cases h2 : (a : ℤ) - b ≤ w
    · rw [decide_eq_true h1, decide_eq_true h2, if_pos (by omega)]; rfl
    · rw [decide_eq_true h1, decide_eq_false h2, if_neg (by omega)]; rfl
  · rw [decide_eq_false h1, if_neg (by omega)]
    cases decide ((a : ℤ) - b ≤ w) <;> rfl

end Cert.Attn

end
-- ==== Proof.Attn16Claim.lean ====
/-
  Banded attention at dilation 16: the kernel's two arrays are those of attention over all keys under the mask.
-/
module

public import proofs.«01_k».proof.Defs
public import proofs.«01_k».proof.Proof.Attn16Value
public import proofs.«01_k».proof.Proof.AttnSpan
public import proofs.«01_k».proof.Proof.Gen.Attnf16RIdeal.Run
public import proofs.«01_k».proof.Proof.Gen.Attnf16RIdeal.Read

@[expose] public section

set_option maxRecDepth 16384

noncomputable section

namespace Cert.Attnf16RIdeal.Read

open Cert.Attnf16RIdeal Cert.Attnf16RIdeal.Gen Cert.Attnf16RIdeal.Value Idealize.ShloMosaic Cert.Attn

variable (q k v : FVec Ideal S16x512x512 .bf16)

/-- One residue class of an argument, by row and lane. -/
abbrev cls (x : FVec Ideal S16x512x512 .bf16) (b : Fin 16) (t : Fin 512) (c : Fin 512) : EReal := x (ix3 b t c)
/-- The lane of a head's element. -/
abbrev elt (h : Fin 8) (e : Fin 64) : Fin 512 := ⟨h.val * 64 + e.val, by omega⟩

theorem v1_eq (b : Fin 16) (t : Fin 512) (h : Fin 8) (e : Fin 64) : val_main_v1 (F := Ideal) q (ix4 b t h e) = cls q b t (elt h e) := by
  pointwise [val_main_v1, val_main_v0]

theorem v3_eq (b : Fin 16) (t : Fin 512) (h : Fin 8) (e : Fin 64) : val_main_v3 (F := Ideal) k (ix4 b t h e) = cls k b t (elt h e) := by
  pointwise [val_main_v3, val_main_v2]

theorem v5_eq (b : Fin 16) (t : Fin 512) (h : Fin 8) (e : Fin 64) : val_main_v5 (F := Ideal) v (ix4 b t h e) = cls v b t (elt h e) := by
  pointwise [val_main_v5, val_main_v4]

theorem v8_eq (b : Fin 16) (h : Fin 8) (t u : Fin 512) : val_main_v8 (F := Ideal) q k (ix4 b h t u)
    = (∑ e, cls q b t (elt h e) * cls k b u (elt h e)) * ((1 / 8 : ℝ) : EReal) := by
  pointwise [val_main_v8, val_main_v7, val_main_cst, val_main_v6, v1_eq, v3_eq, lit_eighth]

theorem v23_eq (t u : Fin 512) : val_main_v23 (F := Ideal) (ix2 t u) = if u.val ≤ t.val ∧ t.val ≤ u.val + 128 then 1#1 else 0#1 := by
  rw [← span_iff t.val u.val 128 (by omega) (by omega) (by omega)]
  pointwise [val_main_v23, val_main_v22, val_main_v21, val_main_c_0, val_main_v20, val_main_v19, val_main_v18, val_main_v17, val_main_v16, val_main_c,
    val_main_v15, val_main_v14, val_main_v13, val_main_v12, val_main_v11, val_main_v10, val_main_v9]

theorem v24_eq (b : Fin 16) (h : Fin 8) (t u : Fin 512) (e : Fin 64) : val_main_v24 (F := Ideal) q k (ix4 b h t u) = sc 128 (cls q b) (cls k b) t (elt h e) u := by
  have hc : ∀ i, col (elt h e) i = elt h i := fun i => Fin.ext (by show (h.val * 64 + e.val) / 64 * 64 + i.val = h.val * 64 + i.val; omega)
  unfold sc band
  simp only [hc]
  rw [← v8_eq]
  generalize hs : val_main_v8 (F := Ideal) q k = s
  pointwise [val_main_v24, hs, val_main_call0_v1, v23_eq, val_main_call0_v2]
  by_cases hh : u.val ≤ t.val ∧ t.val ≤ u.val + 128
  · rw [if_pos hh, if_pos hh]
    rfl
  · rw [if_neg hh, if_neg hh]
    exact lit_bot

theorem v25_eq (b : Fin 16) (h : Fin 8) (t : Fin 512) (e : Fin 64) : val_main_v25 (F := Ideal) q k (ix3 b h t) = mx 128 (cls q b) (cls k b) t (elt h e) := by
  have hs : ∀ u, val_main_v24 (F := Ideal) q k (ix4 b h t u) = sc 128 (cls q b) (cls k b) t (elt h e) u := fun u => v24_eq q k b h t u e
  generalize hx : val_main_v24 (F := Ideal) q k = s at hs
  pointwise [val_main_v25, hx, hs, val_main_cst_2, lit_bot]

theorem v29_eq (b : Fin 16) (h : Fin 8) (t u : Fin 512) (e : Fin 64) : val_main_v29 (F := Ideal) q k (ix4 b h t u)
    = Ideal.exp (sc 128 (cls q b) (cls k b) t (elt h e) u - mx 128 (cls q b) (cls k b) t (elt h e)) := by
  have hs := v24_eq q k b h t u e
  have hm := v25_eq q k b h t e
  generalize hx : val_main_v24 (F := Ideal) q k = s at hs
  generalize hy : val_main_v25 (F := Ideal) q k = y at hm
  pointwise [val_main_v29, val_main_v28, val_main_v27, val_main_v26, hx, hy, hs, hm]

theorem v30_eq (b : Fin 16) (h : Fin 8) (t : Fin 512) (e : Fin 64) : val_main_v30 (F := Ideal) q k (ix3 b h t) = den 128 (cls q b) (cls k b) t (elt h e) := by
  have hs := fun u => v29_eq q k b h t u e
  generalize hx : val_main_v29 (F := Ideal) q k = s at hs
  pointwise [val_main_v30, hx, hs, val_main_cst_3]

theorem v31_eq (b : Fin 16) (h : Fin 8) (t : Fin 512) (e : Fin 64) : val_main_v31 (F := Ideal) q k v (ix4 b h e t)
    = ∑ u, Ideal.exp (sc 128 (cls q b) (cls k b) t (elt h e) u - mx 128 (cls q b) (cls k b) t (elt h e)) * cls v b u (elt h e) := by
  have hs := fun u => v29_eq q k b h t u e
  generalize hx : val_main_v29 (F := Ideal) q k = s at hs
  simp only [← hs]
  pointwise [val_main_v31, hx, v5_eq]
  exact Finset.sum_congr rfl fun u _ => mul_comm _ _

theorem elt_half (c : Fin 512) : elt ⟨c.val / 64, by omega⟩ ⟨c.val % 64, by omega⟩ = c := Fin.ext (by show c.val / 64 * 64 + c.val % 64 = c.val; omega)

theorem v41_eq (b : Fin 16) (t : Fin 512) (c : Fin 512) : val_main_v41 (F := Ideal) q k v (ix3 b t c) = att 128 (cls q b) (cls k b) (cls v b) t c := by
  have h1 := v31_eq q k v b ⟨c.val / 64, by omega⟩ t ⟨c.val % 64, by omega⟩
  have h2 := v30_eq q k b ⟨c.val / 64, by omega⟩ t ⟨c.val % 64, by omega⟩
  rw [elt_half] at h1 h2
  unfold att
  rw [← h1, ← h2]
  generalize hx : val_main_v31 (F := Ideal) q k v = x
  generalize hy : val_main_v30 (F := Ideal) q k = y
  pointwise [val_main_v41, val_main_v40, val_main_v36, val_main_v35, val_main_v34, val_main_v33, val_main_v32, hx, hy]

theorem v38_eq (b : Fin 16) (h : Fin 8) (t : Fin 512) (e : Fin 64) : val_main_v38 (F := Ideal) q k (ix3 b h t) = lse 128 (cls q b) (cls k b) t (elt h e) := by
  rw [val_main_v38_apply, val_main_v37_apply, v25_eq q k b h t e, v30_eq q k b h t e]
  rfl

theorem v44_eq (b : Fin 16) (t : Fin 512) (c : Fin 512) : val_main_v44 (F := Ideal) q k (ix3 b t c) = lse 128 (cls q b) (cls k b) t c := by
  have h1 := v38_eq q k b ⟨c.val / 64, by omega⟩ t ⟨c.val % 64, by omega⟩
  rw [elt_half] at h1
  rw [← h1]
  generalize hx : val_main_v38 (F := Ideal) q k = x
  pointwise [val_main_v44, val_main_v43, val_main_v42, val_main_v39, hx]

end Cert.Attnf16RIdeal.Read

namespace Cert.Attnf16KIdeal.Block

open Cert.Attnf16KIdeal Cert.Attnf16KIdeal.Gen Idealize.ShloMosaic Idealize.ShloMosaic.TcCoe

variable (m : (ℓ : Loc nD τ sig) → Buf (Elt Ideal) ℓ) (c : Dev nD)

/-- The arguments as arrays. -/
abbrev vq : FVec Ideal S16x512x512 .bf16 := m ((c : Thread nD τ).loc main_arg0)
abbrev vk : FVec Ideal S16x512x512 .bf16 := m ((c : Thread nD τ).loc main_arg1)
abbrev vv : FVec Ideal S16x512x512 .bf16 := m ((c : Thread nD τ).loc main_arg2)

end Cert.Attnf16KIdeal.Block

namespace Cert.Attn16

open Idealize.ShloMosaic Idealize.ShloMosaic.TcCoe Idealize.SL.Sem Cert.Attn

/-- The attention's rows and the logarithms of its weights' sums are those of the masked attention over all keys. -/
theorem claim : @Cert.algebraic_Attnf16KIdeal_Attnf16RIdeal Cert.Attnf16KIdeal.Gen.facts Cert.Attnf16RIdeal.Gen.facts := by
  intro m g m' g' _ hargs
  refine ⟨fun c => (Attnf16KIdeal.Gen.dats m 0 c).arrAt 3 _, fun c => (Attnf16KIdeal.Gen.dats m 0 c).arrAt 4 _,
    Attnf16KIdeal.Value.run_blocks m g, (θ_run Attnf16RIdeal.defs _ _).mono (fun r h c => ?_) (Attnf16RIdeal.Value.run m' g')⟩
  obtain ⟨a0, a1, a2⟩ := hargs c
  obtain ⟨h0, h1, k⟩ := h c
  have e0 : Attnf16RIdeal.Value.res_main_v41 m' c = Attnf16RIdeal.Read.val_main_v41 (F := Ideal) (Attnf16KIdeal.Block.vq m c)
      (Attnf16KIdeal.Block.vk m c) (Attnf16KIdeal.Block.vv m c) := by
    unfold Attnf16RIdeal.Value.res_main_v41
    rw [a0, a1, a2]
    rfl
  have e1 : Attnf16RIdeal.Value.res_main_v44 m' c = Attnf16RIdeal.Read.val_main_v44 (F := Ideal) (Attnf16KIdeal.Block.vq m c)
      (Attnf16KIdeal.Block.vk m c) := by
    unfold Attnf16RIdeal.Value.res_main_v44
    rw [a0, a1]
    rfl
  refine ⟨((h0.trans e0).trans ?_).trans (Attnf16KIdeal.Block.final3 m c).symm, ((h1.trans e1).trans ?_).trans (Attnf16KIdeal.Block.final4 m c).symm, k⟩
  · exact funext fun i => (congrArg _ (ix3_eta i).symm).trans (Attnf16RIdeal.Read.v41_eq _ _ _ _ _ _)
  · exact funext fun i => (congrArg _ (ix3_eta i).symm).trans (Attnf16RIdeal.Read.v44_eq _ _ _ _ _)

/-- The reference runs to its end and leaves its arguments and counters as they were: it declares no semaphore. -/
theorem refFrame : @Cert.quiescent_Attnf16RIdeal Cert.Attnf16RIdeal.Gen.facts := fun m ρ _ =>
  (θ_run Attnf16RIdeal.defs _ _).mono (fun r h => ⟨fun c => (h c).2.2, Idealize.ShloMosaic.sem_eq_zero_of_no_sems (by decide) r.2⟩)
    (Attnf16RIdeal.Value.run m ρ)

end Cert.Attn16

end
-- ==== Proof.Attn4Value.lean ====
/-
  The two arrays the banded attention leaves, at dilation 4.
-/
module

public import proofs.«01_k».proof.Proof.AttnBlock
public import proofs.«01_k».proof.Proof.Gen.Attnf4KIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.Attnf4KIdeal.Block

open Cert.Attnf4KIdeal Cert.Attnf4KIdeal.Gen Idealize.ShloMosaic Idealize.ShloMosaic.TcCoe Cert.Attn

variable (m : (ℓ : Loc nD τ sig) → Buf (Elt Ideal) ℓ) (c : Dev nD)

/-- The arguments, by residue class, row and lane. -/
abbrev aq (d : Fin 4) (r : Fin 2048) (l : Fin 512) : EReal := (m ((c : Thread nD τ).loc main_arg0) : Vec Ideal S4x2048x512 .bf16) (ix3 d r l)
abbrev ak (d : Fin 4) (r : Fin 2048) (l : Fin 512) : EReal := (m ((c : Thread nD τ).loc main_arg1) : Vec Ideal S4x2048x512 .bf16) (ix3 d r l)
abbrev av (d : Fin 4) (r : Fin 2048) (l : Fin 512) : EReal := (m ((c : Thread nD τ).loc main_arg2) : Vec Ideal S4x2048x512 .bf16) (ix3 d r l)

theorem lt (t : Fin cfg0.N) : t.val < 32 := by have := t.isLt; have : cfg0.N = 32 := N_0; omega
/-- The residue class, rows and lanes of a grid point. -/
abbrev atD (t : Fin cfg0.N) : Fin 4 := ⟨t.val / 8, by have := lt t; omega⟩
abbrev atR (t : Fin cfg0.N) (r : Fin 1024) : Fin 2048 := ⟨t.val % 2 * 1024 + r.val, by omega⟩
abbrev atL (t : Fin cfg0.N) (l : Fin 128) : Fin 512 := ⟨t.val / 2 % 4 * 128 + l.val, by omega⟩

theorem e0 : ∀ t : Fin cfg0.N, win0_0.index t = ![t.val / 8, t.val % 2, t.val / 2 % 4] := (by decide +kernel : ∀ t : Fin grid0.N, _)
theorem e1 : ∀ t : Fin cfg0.N, win0_1.index t = ![t.val / 8, 0, t.val / 2 % 4] := (by decide +kernel : ∀ t : Fin grid0.N, _)
theorem e2 : ∀ t : Fin cfg0.N, win0_2.index t = ![t.val / 8, 0, t.val / 2 % 4] := (by decide +kernel : ∀ t : Fin grid0.N, _)
theorem e3 : ∀ t : Fin cfg0.N, win0_3.index t = ![t.val / 8, t.val % 2, t.val / 2 % 4] := (by decide +kernel : ∀ t : Fin grid0.N, _)
theorem e4 : ∀ t : Fin cfg0.N, win0_4.index t = ![t.val / 8, t.val % 2, t.val / 2 % 4] := (by decide +kernel : ∀ t : Fin grid0.N, _)

/-- Where the windows of a grid point's blocks start. -/
theorem o1 : ∀ t : Fin cfg0.N, k0_off1 (grid0.coords t) = ![0, t.val % 2 * 1024 - 128, 0] := (by decide +kernel : ∀ t : Fin grid0.N, _)
theorem o2 : ∀ t : Fin cfg0.N, ∀ i : Fin 7, k0_off2 (grid0.coords t) (BitVec.ofNat 32 (128 + 128 * i.val)) = ![0, t.val % 2 * 1024 + i.val * 128, 0] :=
  (by decide +kernel : ∀ t : Fin grid0.N, _)
/-- The first block's rows start after its window's start by 128, and at the first rows by nothing. -/
abbrev dist (t : Fin cfg0.N) : ℕ := t.val % 2 * 1024 - (t.val % 2 * 1024 - 128)
theorem ds : ∀ t : Fin cfg0.N, Scalar.subi (Scalar.addi (Scalar.muli (BitVec.ofNat 32 (grid0.coords t 2).val) 1024#32) 0#32)
    (Scalar.maxsi (Scalar.subi (Scalar.addi (Scalar.muli (BitVec.ofNat 32 (grid0.coords t 2).val) 1024#32) 0#32) 128#32) 0#32) = BitVec.ofNat 32 (dist t) :=
  (by decide +kernel : ∀ t : Fin grid0.N, _)
theorem mask0 (t : Fin cfg0.N) : k0_pay4 (grid0.coords t) = seen (BitVec.ofNat 32 128) (BitVec.ofNat 32 (dist t)) := by
  rw [← ds t]
  rfl

theorem blk0 (t : Fin cfg0.N) (r : Fin 1024) (l : Fin 128) : iblk m c 0 t (ix3 0 r l) = aq m c (atD t) (atR t r) (atL t l) := by
  have h : (win0_0.blk t).view.emb (ix3 0 r l) = (ix3 (atD t) (atR t r) (atL t l) : S4x2048x512.Idx) := by blk_ext [e0]
  blk_simp [iblk]
  rw [h, V_main_arg0]

theorem blk1 (t : Fin cfg0.N) (r : Fin 2048) (l : Fin 128) : iblk m c 1 t (ix3 0 r l) = ak m c (atD t) r (atL t l) := by
  have h : (win0_1.blk t).view.emb (ix3 0 r l) = (ix3 (atD t) r (atL t l) : S4x2048x512.Idx) := by blk_ext [e1]
  blk_simp [iblk]
  rw [h, V_main_arg1]

theorem blk2 (t : Fin cfg0.N) (r : Fin 2048) (l : Fin 128) : iblk m c 2 t (ix3 0 r l) = av m c (atD t) r (atL t l) := by
  have h : (win0_2.blk t).view.emb (ix3 0 r l) = (ix3 (atD t) r (atL t l) : S4x2048x512.Idx) := by blk_ext [e2]
  blk_simp [iblk]
  rw [h, V_main_arg2]

section Piece

variable (t : Fin cfg0.N) (st off r0 : ℕ) (hr : r0 + 128 ≤ 1024) (ho : off = 128 ∨ st = 0 ∧ off = 0) (hs : st + off = t.val % 2 * 1024 + r0) (hn : st + 256 ≤ 2048)
  (p0 p1 : Fin 3 → ℕ) (h0 : p0 = ![0, r0, 0]) (h1 : p1 = ![0, st, 0])
  (i0 : ∀ a, p0 a + (![1, 128, 128] : Fin 3 → ℕ) a ≤ (![1, 1024, 128] : Fin 3 → ℕ) a) (i1 : ∀ a, p1 a + (![1, 256, 128] : Fin 3 → ℕ) a ≤ (![1, 2048, 128] : Fin 3 → ℕ) a)
  (b : Fin 1) (r l : Fin 128) (y1 : Fin 1024) (y2 : Fin 128) (hy1 : y1.val = r0 + r.val) (hy2 : y2.val = l.val)

include hr ho hs hn h0 h1 hy1 hy2 in
/-- What one block stores of the attended values. -/
theorem pieceO : outO (BitVec.ofNat 32 128) (BitVec.ofNat 32 off) (View.ld (iblk m c 0 t) (Rect.unit p0 ![1, 128, 128] i0))
    (View.ld (iblk m c 1 t) (Rect.unit p1 ![1, 256, 128] i1)) (View.ld (iblk m c 2 t) (Rect.unit p1 ![1, 256, 128] i1)) (ix3 b r l)
      = att 128 (aq m c (atD t)) (ak m c (atD t)) (av m c (atD t)) (atR t y1) (atL t y2) := by
  refine outO_apply 128 (aq m c (atD t)) (ak m c (atD t)) (av m c (atD t)) st off hn (le_refl _) ho r l (atR t y1) ?_ (atL t y2)
    _ _ _ (fun e => ?_) (fun j e => ?_) (fun j => ?_) b
  · show t.val % 2 * 1024 + y1.val = st + off + r.val
    omega
  · rw [ld_at _ _ h0 _ r _ (by omega), blk0]
    exact congrArg₂ (aq m c (atD t)) (Fin.ext (by show t.val % 2 * 1024 + (r0 + r.val) = t.val % 2 * 1024 + y1.val; omega))
      (Fin.ext (by show t.val / 2 % 4 * 128 + (l.val / 64 * 64 + e.val) = (t.val / 2 % 4 * 128 + y2.val) / 64 * 64 + e.val; omega))
  · rw [ld_at _ _ h1 _ j _ (by omega), blk1]
    exact congrArg (ak m c (atD t) _)
      (Fin.ext (by show t.val / 2 % 4 * 128 + (l.val / 64 * 64 + e.val) = (t.val / 2 % 4 * 128 + y2.val) / 64 * 64 + e.val; omega))
  · rw [ld_at _ _ h1 _ j _ (by omega), blk2]
    exact congrArg (av m c (atD t) _) (Fin.ext (by show t.val / 2 % 4 * 128 + l.val = t.val / 2 % 4 * 128 + y2.val; omega))

include hr ho hs hn h0 h1 hy1 hy2 in
/-- What one block stores of the logarithms. -/
theorem pieceL : outL (BitVec.ofNat 32 128) (BitVec.ofNat 32 off) (View.ld (iblk m c 0 t) (Rect.unit p0 ![1, 128, 128] i0))
    (View.ld (iblk m c 1 t) (Rect.unit p1 ![1, 256, 128] i1)) (ix3 b r l)
      = lse 128 (aq m c (atD t)) (ak m c (atD t)) (atR t y1) (atL t y2) := by
  refine outL_apply 128 (aq m c (atD t)) (ak m c (atD t)) st off hn (le_refl _) ho r l (atR t y1) ?_ (atL t y2)
    _ _ (fun e => ?_) (fun j e => ?_) b
  · show t.val % 2 * 1024 + y1.val = st + off + r.val
    omega
  · rw [ld_at _ _ h0 _ r _ (by omega), blk0]
    exact congrArg₂ (aq m c (atD t)) (Fin.ext (by show t.val % 2 * 1024 + (r0 + r.val) = t.val % 2 * 1024 + y1.val; omega))
      (Fin.ext (by show t.val / 2 % 4 * 128 + (l.val / 64 * 64 + e.val) = (t.val / 2 % 4 * 128 + y2.val) / 64 * 64 + e.val; omega))
  · rw [ld_at _ _ h1 _ j _ (by omega), blk1]
    exact congrArg (ak m c (atD t) _)
      (Fin.ext (by show t.val / 2 % 4 * 128 + (l.val / 64 * 64 + e.val) = (t.val / 2 % 4 * 128 + y2.val) / 64 * 64 + e.val; omega))

end Piece

theorem final3 : (dats m 0 c).arrAt 3 cfg0.N = fun i : S4x2048x512.Idx => att 128 (aq m c (i 0)) (ak m c (i 0)) (av m c (i 0)) (i 1) (i 2) := by
  refine (dats m 0 c).arrAt_eq_of_covers 3 _ (by decide +kernel) fun t hf y => ?_
  have h : (win0_3.blk t).view.emb y = (ix3 (atD t) (atR t (y 1)) (atL t (y 2)) : S4x2048x512.Idx) := by
    have : (y 0).val < 1 := (y 0).isLt
    blk_ext [e3]
  blk_simp
  rw [after0_3, h]
  simp only [outsAt0]
  frame_out
  have hl := lt t
  canon_tiles x hx using View.cover_of_tiledBy _ ![1, 128, 128] (by sl_kernel_rfl) _
  all_goals try rw [Memref.IsWhole.read_unread]
  all_goals try first | rw [mask0] | rw [ds t]
  all_goals rw [eq_ix3 x]
  · exact pieceO m c t (t.val % 2 * 1024 + 768) 128 896 (by omega) (.inl rfl) (by omega) (by omega) ![0, 896, 0] (k0_off2 (grid0.coords t) 896#32) rfl (o2 t 6) (inb _ rfl (by omega)) (inb _ (o2 t 6) (by omega)) (x 0) (x 1) (x 2) (y 1) (y 2) hx1 hx2
  · exact pieceO m c t (t.val % 2 * 1024 + 640) 128 768 (by omega) (.inl rfl) (by omega) (by omega) ![0, 768, 0] (k0_off2 (grid0.coords t) 768#32) rfl (o2 t 5) (inb _ rfl (by omega)) (inb _ (o2 t 5) (by omega)) (x 0) (x 1) (x 2) (y 1) (y 2) hx1 hx2
  · unfold k0_pay46 k0_pay47
    exact pieceO m c t (t.val % 2 * 1024 + 512) 128 640 (by omega) (.inl rfl) (by omega) (by omega) ![0, 640, 0] (k0_off2 (grid0.coords t) 640#32) rfl (o2 t 4) (inb _ rfl (by omega)) (inb _ (o2 t 4) (by omega)) (x 0) (x 1) (x 2) (y 1) (y 2) hx1 hx2
  · exact pieceO m c t (t.val % 2 * 1024 + 384) 128 512 (by omega) (.inl rfl) (by omega) (by omega) ![0, 512, 0] (k0_off2 (grid0.coords t) 512#32) rfl (o2 t 3) (inb _ rfl (by omega)) (inb _ (o2 t 3) (by omega)) (x 0) (x 1) (x 2) (y 1) (y 2) hx1 hx2
  · exact pieceO m c t (t.val % 2 * 1024 + 256) 128 384 (by omega) (.inl rfl) (by omega) (by omega) ![0, 384, 0] (k0_off2 (grid0.coords t) 384#32) rfl (o2 t 2) (inb _ rfl (by omega)) (inb _ (o2 t 2) (by omega)) (x 0) (x 1) (x 2) (y 1) (y 2) hx1 hx2
  · exact pieceO m c t (t.val % 2 * 1024 + 128) 128 256 (by omega) (.inl rfl) (by omega) (by omega) ![0, 256, 0] (k0_off2 (grid0.coords t) 256#32) rfl (o2 t 1) (inb _ rfl (by omega)) (inb _ (o2 t 1) (by omega)) (x 0) (x 1) (x 2) (y 1) (y 2) hx1 hx2
  · exact pieceO m c t (t.val % 2 * 1024 + 0) 128 128 (by omega) (.inl rfl) (by omega) (by omega) ![0, 128, 0] (k0_off2 (grid0.coords t) 128#32) rfl (o2 t 0) (inb _ rfl (by omega)) (inb _ (o2 t 0) (by omega)) (x 0) (x 1) (x 2) (y 1) (y 2) hx1 hx2
  · exact pieceO m c t (t.val % 2 * 1024 - 128) (dist t) 0 (by omega) (by unfold dist; omega) (by unfold dist; omega) (by omega) ![0, 0, 0] (k0_off1 (grid0.coords t)) rfl (o1 t) (inb _ rfl (by omega)) (inb _ (o1 t) (by omega)) (x 0) (x 1) (x 2) (y 1) (y 2) (by omega) hx2

theorem final4 : (dats m 0 c).arrAt 4 cfg0.N = fun i : S4x2048x512.Idx => lse 128 (aq m c (i 0)) (ak m c (i 0)) (i 1) (i 2) := by
  refine (dats m 0 c).arrAt_eq_of_covers 4 _ (by decide +kernel) fun t hf y => ?_
  have h : (win0_4.blk t).view.emb y = (ix3 (atD t) (atR t (y 1)) (atL t (y 2)) : S4x2048x512.Idx) := by
    have : (y 0).val < 1 := (y 0).isLt
    blk_ext [e4]
  blk_simp
  rw [after0_4, h]
  simp only [outsAt0]
  frame_out
  have hl := lt t
  canon_tiles x hx using View.cover_of_tiledBy _ ![1, 128, 128] (by sl_kernel_rfl) _
  all_goals try rw [Memref.IsWhole.read_unread]
  all_goals try first | rw [mask0] | rw [ds t]
  all_goals rw [eq_ix3 x]
  · exact pieceL m c t (t.val % 2 * 1024 + 768) 128 896 (by omega) (.inl rfl) (by omega) (by omega) ![0, 896, 0] (k0_off2 (grid0.coords t) 896#32) rfl (o2 t 6) (inb _ rfl (by omega)) (inb _ (o2 t 6) (by omega)) (x 0) (x 1) (x 2) (y 1) (y 2) hx1 hx2
  · exact pieceL m c t (t.val % 2 * 1024 + 640) 128 768 (by omega) (.inl rfl) (by omega) (by omega) ![0, 768, 0] (k0_off2 (grid0.coords t) 768#32) rfl (o2 t 5) (inb _ rfl (by omega)) (inb _ (o2 t 5) (by omega)) (x 0) (x 1) (x 2) (y 1) (y 2) hx1 hx2
  · unfold k0_pay46 k0_pay47
    exact pieceL m c t (t.val % 2 * 1024 + 512) 128 640 (by omega) (.inl rfl) (by omega) (by omega) ![0, 640, 0] (k0_off2 (grid0.coords t) 640#32) rfl (o2 t 4) (inb _ rfl (by omega)) (inb _ (o2 t 4) (by omega)) (x 0) (x 1) (x 2) (y 1) (y 2) hx1 hx2
  · exact pieceL m c t (t.val % 2 * 1024 + 384) 128 512 (by omega) (.inl rfl) (by omega) (by omega) ![0, 512, 0] (k0_off2 (grid0.coords t) 512#32) rfl (o2 t 3) (inb _ rfl (by omega)) (inb _ (o2 t 3) (by omega)) (x 0) (x 1) (x 2) (y 1) (y 2) hx1 hx2
  · exact pieceL m c t (t.val % 2 * 1024 + 256) 128 384 (by omega) (.inl rfl) (by omega) (by omega) ![0, 384, 0] (k0_off2 (grid0.coords t) 384#32) rfl (o2 t 2) (inb _ rfl (by omega)) (inb _ (o2 t 2) (by omega)) (x 0) (x 1) (x 2) (y 1) (y 2) hx1 hx2
  · exact pieceL m c t (t.val % 2 * 1024 + 128) 128 256 (by omega) (.inl rfl) (by omega) (by omega) ![0, 256, 0] (k0_off2 (grid0.coords t) 256#32) rfl (o2 t 1) (inb _ rfl (by omega)) (inb _ (o2 t 1) (by omega)) (x 0) (x 1) (x 2) (y 1) (y 2) hx1 hx2
  · exact pieceL m c t (t.val % 2 * 1024 + 0) 128 128 (by omega) (.inl rfl) (by omega) (by omega) ![0, 128, 0] (k0_off2 (grid0.coords t) 128#32) rfl (o2 t 0) (inb _ rfl (by omega)) (inb _ (o2 t 0) (by omega)) (x 0) (x 1) (x 2) (y 1) (y 2) hx1 hx2
  · exact pieceL m c t (t.val % 2 * 1024 - 128) (dist t) 0 (by omega) (by unfold dist; omega) (by unfold dist; omega) (by omega) ![0, 0, 0] (k0_off1 (grid0.coords t)) rfl (o1 t) (inb _ rfl (by omega)) (inb _ (o1 t) (by omega)) (x 0) (x 1) (x 2) (y 1) (y 2) (by omega) hx2

end Cert.Attnf4KIdeal.Block

end
-- ==== Proof.Attn4Claim.lean ====
/-
  Banded attention at dilation 4: the kernel's two arrays are those of attention over all keys under the mask.
-/
module

public import proofs.«01_k».proof.Defs
public import proofs.«01_k».proof.Proof.Attn4Value
public import proofs.«01_k».proof.Proof.AttnSpan
public import proofs.«01_k».proof.Proof.Gen.Attnf4RIdeal.Run
public import proofs.«01_k».proof.Proof.Gen.Attnf4RIdeal.Read

@[expose] public section

set_option maxRecDepth 16384

noncomputable section

namespace Cert.Attnf4RIdeal.Read

open Cert.Attnf4RIdeal Cert.Attnf4RIdeal.Gen Cert.Attnf4RIdeal.Value Idealize.ShloMosaic Cert.Attn

variable (q k v : FVec Ideal S4x2048x512 .bf16)

/-- One residue class of an argument, by row and lane. -/
abbrev cls (x : FVec Ideal S4x2048x512 .bf16) (b : Fin 4) (t : Fin 2048) (c : Fin 512) : EReal := x (ix3 b t c)
/-- The lane of a head's element. -/
abbrev elt (h : Fin 8) (e : Fin 64) : Fin 512 := ⟨h.val * 64 + e.val, by omega⟩

theorem v1_eq (b : Fin 4) (t : Fin 2048) (h : Fin 8) (e : Fin 64) : val_main_v1 (F := Ideal) q (ix4 b t h e) = cls q b t (elt h e) := by
  pointwise [val_main_v1, val_main_v0]

theorem v3_eq (b : Fin 4) (t : Fin 2048) (h : Fin 8) (e : Fin 64) : val_main_v3 (F := Ideal) k (ix4 b t h e) = cls k b t (elt h e) := by
  pointwise [val_main_v3, val_main_v2]

theorem v5_eq (b : Fin 4) (t : Fin 2048) (h : Fin 8) (e : Fin 64) : val_main_v5 (F := Ideal) v (ix4 b t h e) = cls v b t (elt h e) := by
  pointwise [val_main_v5, val_main_v4]

theorem v8_eq (b : Fin 4) (h : Fin 8) (t u : Fin 2048) : val_main_v8 (F := Ideal) q k (ix4 b h t u)
    = (∑ e, cls q b t (elt h e) * cls k b u (elt h e)) * ((1 / 8 : ℝ) : EReal) := by
  pointwise [val_main_v8, val_main_v7, val_main_cst, val_main_v6, v1_eq, v3_eq, lit_eighth]

theorem v23_eq (t u : Fin 2048) : val_main_v23 (F := Ideal) (ix2 t u) = if u.val ≤ t.val ∧ t.val ≤ u.val + 128 then 1#1 else 0#1 := by
  rw [← span_iff t.val u.val 128 (by omega) (by omega) (by omega)]
  pointwise [val_main_v23, val_main_v22, val_main_v21, val_main_c_0, val_main_v20, val_main_v19, val_main_v18, val_main_v17, val_main_v16, val_main_c,
    val_main_v15, val_main_v14, val_main_v13, val_main_v12, val_main_v11, val_main_v10, val_main_v9]

theorem v24_eq (b : Fin 4) (h : Fin 8) (t u : Fin 2048) (e : Fin 64) : val_main_v24 (F := Ideal) q k (ix4 b h t u) = sc 128 (cls q b) (cls k b) t (elt h e) u := by
  have hc : ∀ i, col (elt h e) i = elt h i := fun i => Fin.ext (by show (h.val * 64 + e.val) / 64 * 64 + i.val = h.val * 64 + i.val; omega)
  unfold sc band
  simp only [hc]
  rw [← v8_eq]
  generalize hs : val_main_v8 (F := Ideal) q k = s
  pointwise [val_main_v24, hs, val_main_call0_v1, v23_eq, val_main_call0_v2]
  by_cases hh : u.val ≤ t.val ∧ t.val ≤ u.val + 128
  · rw [if_pos hh, if_pos hh]
    rfl
  · rw [if_neg hh, if_neg hh]
    exact lit_bot

theorem v25_eq (b : Fin 4) (h : Fin 8) (t : Fin 2048) (e : Fin 64) : val_main_v25 (F := Ideal) q k (ix3 b h t) = mx 128 (cls q b) (cls k b) t (elt h e) := by
  have hs : ∀ u, val_main_v24 (F := Ideal) q k (ix4 b h t u) = sc 128 (cls q b) (cls k b) t (elt h e) u := fun u => v24_eq q k b h t u e
  generalize hx : val_main_v24 (F := Ideal) q k = s at hs
  pointwise [val_main_v25, hx, hs, val_main_cst_2, lit_bot]

theorem v29_eq (b : Fin 4) (h : Fin 8) (t u : Fin 2048) (e : Fin 64) : val_main_v29 (F := Ideal) q k (ix4 b h t u)
    = Ideal.exp (sc 128 (cls q b) (cls k b) t (elt h e) u - mx 128 (cls q b) (cls k b) t (elt h e)) := by
  have hs := v24_eq q k b h t u e
  have hm := v25_eq q k b h t e
  generalize hx : val_main_v24 (F := Ideal) q k = s at hs
  generalize hy : val_main_v25 (F := Ideal) q k = y at hm
  pointwise [val_main_v29, val_main_v28, val_main_v27, val_main_v26, hx, hy, hs, hm]

theorem v30_eq (b : Fin 4) (h : Fin 8) (t : Fin 2048) (e : Fin 64) : val_main_v30 (F := Ideal) q k (ix3 b h t) = den 128 (cls q b) (cls k b) t (elt h e) := by
  have hs := fun u => v29_eq q k b h t u e
  generalize hx : val_main_v29 (F := Ideal) q k = s at hs
  pointwise [val_main_v30, hx, hs, val_main_cst_3]

theorem v31_eq (b : Fin 4) (h : Fin 8) (t : Fin 2048) (e : Fin 64) : val_main_v31 (F := Ideal) q k v (ix4 b h e t)
    = ∑ u, Ideal.exp (sc 128 (cls q b) (cls k b) t (elt h e) u - mx 128 (cls q b) (cls k b) t (elt h e)) * cls v b u (elt h e) := by
  have hs := fun u => v29_eq q k b h t u e
  generalize hx : val_main_v29 (F := Ideal) q k = s at hs
  simp only [← hs]
  pointwise [val_main_v31, hx, v5_eq]
  exact Finset.sum_congr rfl fun u _ => mul_comm _ _

theorem elt_half (c : Fin 512) : elt ⟨c.val / 64, by omega⟩ ⟨c.val % 64, by omega⟩ = c := Fin.ext (by show c.val / 64 * 64 + c.val % 64 = c.val; omega)

theorem v41_eq (b : Fin 4) (t : Fin 2048) (c : Fin 512) : val_main_v41 (F := Ideal) q k v (ix3 b t c) = att 128 (cls q b) (cls k b) (cls v b) t c := by
  have h1 := v31_eq q k v b ⟨c.val / 64, by omega⟩ t ⟨c.val % 64, by omega⟩
  have h2 := v30_eq q k b ⟨c.val / 64, by omega⟩ t ⟨c.val % 64, by omega⟩
  rw [elt_half] at h1 h2
  unfold att
  rw [← h1, ← h2]
  generalize hx : val_main_v31 (F := Ideal) q k v = x
  generalize hy : val_main_v30 (F := Ideal) q k = y
  pointwise [val_main_v41, val_main_v40, val_main_v36, val_main_v35, val_main_v34, val_main_v33, val_main_v32, hx, hy]

theorem v38_eq (b : Fin 4) (h : Fin 8) (t : Fin 2048) (e : Fin 64) : val_main_v38 (F := Ideal) q k (ix3 b h t) = lse 128 (cls q b) (cls k b) t (elt h e) := by
  rw [val_main_v38_apply, val_main_v37_apply, v25_eq q k b h t e, v30_eq q k b h t e]
  rfl

theorem v44_eq (b : Fin 4) (t : Fin 2048) (c : Fin 512) : val_main_v44 (F := Ideal) q k (ix3 b t c) = lse 128 (cls q b) (cls k b) t c := by
  have h1 := v38_eq q k b ⟨c.val / 64, by omega⟩ t ⟨c.val % 64, by omega⟩
  rw [elt_half] at h1
  rw [← h1]
  generalize hx : val_main_v38 (F := Ideal) q k = x
  pointwise [val_main_v44, val_main_v43, val_main_v42, val_main_v39, hx]

end Cert.Attnf4RIdeal.Read

namespace Cert.Attnf4KIdeal.Block

open Cert.Attnf4KIdeal Cert.Attnf4KIdeal.Gen Idealize.ShloMosaic Idealize.ShloMosaic.TcCoe

variable (m : (ℓ : Loc nD τ sig) → Buf (Elt Ideal) ℓ) (c : Dev nD)

/-- The arguments as arrays. -/
abbrev vq : FVec Ideal S4x2048x512 .bf16 := m ((c : Thread nD τ).loc main_arg0)
abbrev vk : FVec Ideal S4x2048x512 .bf16 := m ((c : Thread nD τ).loc main_arg1)
abbrev vv : FVec Ideal S4x2048x512 .bf16 := m ((c : Thread nD τ).loc main_arg2)

end Cert.Attnf4KIdeal.Block

namespace Cert.Attn4

open Idealize.ShloMosaic Idealize.ShloMosaic.TcCoe Idealize.SL.Sem Cert.Attn

/-- The attention's rows and the logarithms of its weights' sums are those of the masked attention over all keys. -/
theorem claim : @Cert.algebraic_Attnf4KIdeal_Attnf4RIdeal Cert.Attnf4KIdeal.Gen.facts Cert.Attnf4RIdeal.Gen.facts := by
  intro m g m' g' _ hargs
  refine ⟨fun c => (Attnf4KIdeal.Gen.dats m 0 c).arrAt 3 _, fun c => (Attnf4KIdeal.Gen.dats m 0 c).arrAt 4 _,
    Attnf4KIdeal.Value.run_blocks m g, (θ_run Attnf4RIdeal.defs _ _).mono (fun r h c => ?_) (Attnf4RIdeal.Value.run m' g')⟩
  obtain ⟨a0, a1, a2⟩ := hargs c
  obtain ⟨h0, h1, k⟩ := h c
  have e0 : Attnf4RIdeal.Value.res_main_v41 m' c = Attnf4RIdeal.Read.val_main_v41 (F := Ideal) (Attnf4KIdeal.Block.vq m c)
      (Attnf4KIdeal.Block.vk m c) (Attnf4KIdeal.Block.vv m c) := by
    unfold Attnf4RIdeal.Value.res_main_v41
    rw [a0, a1, a2]
    rfl
  have e1 : Attnf4RIdeal.Value.res_main_v44 m' c = Attnf4RIdeal.Read.val_main_v44 (F := Ideal) (Attnf4KIdeal.Block.vq m c)
      (Attnf4KIdeal.Block.vk m c) := by
    unfold Attnf4RIdeal.Value.res_main_v44
    rw [a0, a1]
    rfl
  refine ⟨((h0.trans e0).trans ?_).trans (Attnf4KIdeal.Block.final3 m c).symm, ((h1.trans e1).trans ?_).trans (Attnf4KIdeal.Block.final4 m c).symm, k⟩
  · exact funext fun i => (congrArg _ (ix3_eta i).symm).trans (Attnf4RIdeal.Read.v41_eq _ _ _ _ _ _)
  · exact funext fun i => (congrArg _ (ix3_eta i).symm).trans (Attnf4RIdeal.Read.v44_eq _ _ _ _ _)

/-- The reference runs to its end and leaves its arguments and counters as they were: it declares no semaphore. -/
theorem refFrame : @Cert.quiescent_Attnf4RIdeal Cert.Attnf4RIdeal.Gen.facts := fun m ρ _ =>
  (θ_run Attnf4RIdeal.defs _ _).mono (fun r h => ⟨fun c => (h c).2.2, Idealize.ShloMosaic.sem_eq_zero_of_no_sems (by decide) r.2⟩)
    (Attnf4RIdeal.Value.run m ρ)

end Cert.Attn4

end
-- ==== Proof.Attn1Value.lean ====
/-
  The two arrays the banded attention leaves, at dilation 1.
-/
module

public import proofs.«01_k».proof.Proof.AttnBlock
public import proofs.«01_k».proof.Proof.Gen.Attnf1KIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.Attnf1KIdeal.Block

open Cert.Attnf1KIdeal Cert.Attnf1KIdeal.Gen Idealize.ShloMosaic Idealize.ShloMosaic.TcCoe Cert.Attn

variable (m : (ℓ : Loc nD τ sig) → Buf (Elt Ideal) ℓ) (c : Dev nD)

/-- The arguments, by residue class, row and lane. -/
abbrev aq (d : Fin 1) (r : Fin 8192) (l : Fin 512) : EReal := (m ((c : Thread nD τ).loc main_arg0) : Vec Ideal S1x8192x512 .bf16) (ix3 d r l)
abbrev ak (d : Fin 1) (r : Fin 8192) (l : Fin 512) : EReal := (m ((c : Thread nD τ).loc main_arg1) : Vec Ideal S1x8192x512 .bf16) (ix3 d r l)
abbrev av (d : Fin 1) (r : Fin 8192) (l : Fin 512) : EReal := (m ((c : Thread nD τ).loc main_arg2) : Vec Ideal S1x8192x512 .bf16) (ix3 d r l)

theorem lt (t : Fin cfg0.N) : t.val < 32 := by have := t.isLt; have : cfg0.N = 32 := N_0; omega
/-- The residue class, rows and lanes of a grid point. -/
abbrev atD (t : Fin cfg0.N) : Fin 1 := ⟨t.val / 32, by have := lt t; omega⟩
abbrev atR (t : Fin cfg0.N) (r : Fin 1024) : Fin 8192 := ⟨t.val % 8 * 1024 + r.val, by omega⟩
abbrev atL (t : Fin cfg0.N) (l : Fin 128) : Fin 512 := ⟨t.val / 8 % 4 * 128 + l.val, by omega⟩

theorem e0 : ∀ t : Fin cfg0.N, win0_0.index t = ![t.val / 32, t.val % 8, t.val / 8 % 4] := (by decide +kernel : ∀ t : Fin grid0.N, _)
theorem e1 : ∀ t : Fin cfg0.N, win0_1.index t = ![t.val / 32, 0, t.val / 8 % 4] := (by decide +kernel : ∀ t : Fin grid0.N, _)
theorem e2 : ∀ t : Fin cfg0.N, win0_2.index t = ![t.val / 32, 0, t.val / 8 % 4] := (by decide +kernel : ∀ t : Fin grid0.N, _)
theorem e3 : ∀ t : Fin cfg0.N, win0_3.index t = ![t.val / 32, t.val % 8, t.val / 8 % 4] := (by decide +kernel : ∀ t : Fin grid0.N, _)
theorem e4 : ∀ t : Fin cfg0.N, win0_4.index t = ![t.val / 32, t.val % 8, t.val / 8 % 4] := (by decide +kernel : ∀ t : Fin grid0.N, _)

/-- Where the windows of a grid point's blocks start. -/
theorem o1 : ∀ t : Fin cfg0.N, k0_off1 (grid0.coords t) = ![0, t.val % 8 * 1024 - 128, 0] := (by decide +kernel : ∀ t : Fin grid0.N, _)
theorem o2 : ∀ t : Fin cfg0.N, ∀ i : Fin 7, k0_off2 (grid0.coords t) (BitVec.ofNat 32 (128 + 128 * i.val)) = ![0, t.val % 8 * 1024 + i.val * 128, 0] :=
  (by decide +kernel : ∀ t : Fin grid0.N, _)
/-- The first block's rows start after its window's start by 128, and at the first rows by nothing. -/
abbrev dist (t : Fin cfg0.N) : ℕ := t.val % 8 * 1024 - (t.val % 8 * 1024 - 128)
theorem ds : ∀ t : Fin cfg0.N, Scalar.subi (Scalar.addi (Scalar.muli (BitVec.ofNat 32 (grid0.coords t 2).val) 1024#32) 0#32)
    (Scalar.maxsi (Scalar.subi (Scalar.addi (Scalar.muli (BitVec.ofNat 32 (grid0.coords t 2).val) 1024#32) 0#32) 128#32) 0#32) = BitVec.ofNat 32 (dist t) :=
  (by decide +kernel : ∀ t : Fin grid0.N, _)
theorem mask0 (t : Fin cfg0.N) : k0_pay4 (grid0.coords t) = seen (BitVec.ofNat 32 128) (BitVec.ofNat 32 (dist t)) := by
  rw [← ds t]
  rfl

theorem blk0 (t : Fin cfg0.N) (r : Fin 1024) (l : Fin 128) : iblk m c 0 t (ix3 0 r l) = aq m c (atD t) (atR t r) (atL t l) := by
  have h : (win0_0.blk t).view.emb (ix3 0 r l) = (ix3 (atD t) (atR t r) (atL t l) : S1x8192x512.Idx) := by blk_ext [e0]
  blk_simp [iblk]
  rw [h, V_main_arg0]

theorem blk1 (t : Fin cfg0.N) (r : Fin 8192) (l : Fin 128) : iblk m c 1 t (ix3 0 r l) = ak m c (atD t) r (atL t l) := by
  have h : (win0_1.blk t).view.emb (ix3 0 r l) = (ix3 (atD t) r (atL t l) : S1x8192x512.Idx) := by blk_ext [e1]
  blk_simp [iblk]
  rw [h, V_main_arg1]

theorem blk2 (t : Fin cfg0.N) (r : Fin 8192) (l : Fin 128) : iblk m c 2 t (ix3 0 r l) = av m c (atD t) r (atL t l) := by
  have h : (win0_2.blk t).view.emb (ix3 0 r l) = (ix3 (atD t) r (atL t l) : S1x8192x512.Idx) := by blk_ext [e2]
  blk_simp [iblk]
  rw [h, V_main_arg2]

section Piece

variable (t : Fin cfg0.N) (st off r0 : ℕ) (hr : r0 + 128 ≤ 1024) (ho : off = 128 ∨ st = 0 ∧ off = 0) (hs : st + off = t.val % 8 * 1024 + r0) (hn : st + 256 ≤ 8192)
  (p0 p1 : Fin 3 → ℕ) (h0 : p0 = ![0, r0, 0]) (h1 : p1 = ![0, st, 0])
  (i0 : ∀ a, p0 a + (![1, 128, 128] : Fin 3 → ℕ) a ≤ (![1, 1024, 128] : Fin 3 → ℕ) a) (i1 : ∀ a, p1 a + (![1, 256, 128] : Fin 3 → ℕ) a ≤ (![1, 8192, 128] : Fin 3 → ℕ) a)
  (b : Fin 1) (r l : Fin 128) (y1 : Fin 1024) (y2 : Fin 128) (hy1 : y1.val = r0 + r.val) (hy2 : y2.val = l.val)

include hr ho hs hn h0 h1 hy1 hy2 in
/-- What one block stores of the attended values. -/
theorem pieceO : outO (BitVec.ofNat 32 128) (BitVec.ofNat 32 off) (View.ld (iblk m c 0 t) (Rect.unit p0 ![1, 128, 128] i0))
    (View.ld (iblk m c 1 t) (Rect.unit p1 ![1, 256, 128] i1)) (View.ld (iblk m c 2 t) (Rect.unit p1 ![1, 256, 128] i1)) (ix3 b r l)
      = att 128 (aq m c (atD t)) (ak m c (atD t)) (av m c (atD t)) (atR t y1) (atL t y2) := by
  refine outO_apply 128 (aq m c (atD t)) (ak m c (atD t)) (av m c (atD t)) st off hn (le_refl _) ho r l (atR t y1) ?_ (atL t y2)
    _ _ _ (fun e => ?_) (fun j e => ?_) (fun j => ?_) b
  · show t.val % 8 * 1024 + y1.val = st + off + r.val
    omega
  · rw [ld_at _ _ h0 _ r _ (by omega), blk0]
    exact congrArg₂ (aq m c (atD t)) (Fin.ext (by show t.val % 8 * 1024 + (r0 + r.val) = t.val % 8 * 1024 + y1.val; omega))
      (Fin.ext (by show t.val / 8 % 4 * 128 + (l.val / 64 * 64 + e.val) = (t.val / 8 % 4 * 128 + y2.val) / 64 * 64 + e.val; omega))
  · rw [ld_at _ _ h1 _ j _ (by omega), blk1]
    exact congrArg (ak m c (atD t) _)
      (Fin.ext (by show t.val / 8 % 4 * 128 + (l.val / 64 * 64 + e.val) = (t.val / 8 % 4 * 128 + y2.val) / 64 * 64 + e.val; omega))
  · rw [ld_at _ _ h1 _ j _ (by omega), blk2]
    exact congrArg (av m c (atD t) _) (Fin.ext (by show t.val / 8 % 4 * 128 + l.val = t.val / 8 % 4 * 128 + y2.val; omega))

include hr ho hs hn h0 h1 hy1 hy2 in
/-- What one block stores of the logarithms. -/
theorem pieceL : outL (BitVec.ofNat 32 128) (BitVec.ofNat 32 off) (View.ld (iblk m c 0 t) (Rect.unit p0 ![1, 128, 128] i0))
    (View.ld (iblk m c 1 t) (Rect.unit p1 ![1, 256, 128] i1)) (ix3 b r l)
      = lse 128 (aq m c (atD t)) (ak m c (atD t)) (atR t y1) (atL t y2) := by
  refine outL_apply 128 (aq m c (atD t)) (ak m c (atD t)) st off hn (le_refl _) ho r l (atR t y1) ?_ (atL t y2)
    _ _ (fun e => ?_) (fun j e => ?_) b
  · show t.val % 8 * 1024 + y1.val = st + off + r.val
    omega
  · rw [ld_at _ _ h0 _ r _ (by omega), blk0]
    exact congrArg₂ (aq m c (atD t)) (Fin.ext (by show t.val % 8 * 1024 + (r0 + r.val) = t.val % 8 * 1024 + y1.val; omega))
      (Fin.ext (by show t.val / 8 % 4 * 128 + (l.val / 64 * 64 + e.val) = (t.val / 8 % 4 * 128 + y2.val) / 64 * 64 + e.val; omega))
  · rw [ld_at _ _ h1 _ j _ (by omega), blk1]
    exact congrArg (ak m c (atD t) _)
      (Fin.ext (by show t.val / 8 % 4 * 128 + (l.val / 64 * 64 + e.val) = (t.val / 8 % 4 * 128 + y2.val) / 64 * 64 + e.val; omega))

end Piece

theorem final3 : (dats m 0 c).arrAt 3 cfg0.N = fun i : S1x8192x512.Idx => att 128 (aq m c (i 0)) (ak m c (i 0)) (av m c (i 0)) (i 1) (i 2) := by
  refine (dats m 0 c).arrAt_eq_of_covers 3 _ (by decide +kernel) fun t hf y => ?_
  have h : (win0_3.blk t).view.emb y = (ix3 (atD t) (atR t (y 1)) (atL t (y 2)) : S1x8192x512.Idx) := by
    have : (y 0).val < 1 := (y 0).isLt
    blk_ext [e3]
  blk_simp
  rw [after0_3, h]
  simp only [outsAt0]
  frame_out
  have hl := lt t
  canon_tiles x hx using View.cover_of_tiledBy _ ![1, 128, 128] (by sl_kernel_rfl) _
  all_goals try rw [Memref.IsWhole.read_unread]
  all_goals try first | rw [mask0] | rw [ds t]
  all_goals rw [eq_ix3 x]
  · exact pieceO m c t (t.val % 8 * 1024 + 768) 128 896 (by omega) (.inl rfl) (by omega) (by omega) ![0, 896, 0] (k0_off2 (grid0.coords t) 896#32) rfl (o2 t 6) (inb _ rfl (by omega)) (inb _ (o2 t 6) (by omega)) (x 0) (x 1) (x 2) (y 1) (y 2) hx1 hx2
  · exact pieceO m c t (t.val % 8 * 1024 + 640) 128 768 (by omega) (.inl rfl) (by omega) (by omega) ![0, 768, 0] (k0_off2 (grid0.coords t) 768#32) rfl (o2 t 5) (inb _ rfl (by omega)) (inb _ (o2 t 5) (by omega)) (x 0) (x 1) (x 2) (y 1) (y 2) hx1 hx2
  · unfold k0_pay46 k0_pay47
    exact pieceO m c t (t.val % 8 * 1024 + 512) 128 640 (by omega) (.inl rfl) (by omega) (by omega) ![0, 640, 0] (k0_off2 (grid0.coords t) 640#32) rfl (o2 t 4) (inb _ rfl (by omega)) (inb _ (o2 t 4) (by omega)) (x 0) (x 1) (x 2) (y 1) (y 2) hx1 hx2
  · exact pieceO m c t (t.val % 8 * 1024 + 384) 128 512 (by omega) (.inl rfl) (by omega) (by omega) ![0, 512, 0] (k0_off2 (grid0.coords t) 512#32) rfl (o2 t 3) (inb _ rfl (by omega)) (inb _ (o2 t 3) (by omega)) (x 0) (x 1) (x 2) (y 1) (y 2) hx1 hx2
  · exact pieceO m c t (t.val % 8 * 1024 + 256) 128 384 (by omega) (.inl rfl) (by omega) (by omega) ![0, 384, 0] (k0_off2 (grid0.coords t) 384#32) rfl (o2 t 2) (inb _ rfl (by omega)) (inb _ (o2 t 2) (by omega)) (x 0) (x 1) (x 2) (y 1) (y 2) hx1 hx2
  · exact pieceO m c t (t.val % 8 * 1024 + 128) 128 256 (by omega) (.inl rfl) (by omega) (by omega) ![0, 256, 0] (k0_off2 (grid0.coords t) 256#32) rfl (o2 t 1) (inb _ rfl (by omega)) (inb _ (o2 t 1) (by omega)) (x 0) (x 1) (x 2) (y 1) (y 2) hx1 hx2
  · exact pieceO m c t (t.val % 8 * 1024 + 0) 128 128 (by omega) (.inl rfl) (by omega) (by omega) ![0, 128, 0] (k0_off2 (grid0.coords t) 128#32) rfl (o2 t 0) (inb _ rfl (by omega)) (inb _ (o2 t 0) (by omega)) (x 0) (x 1) (x 2) (y 1) (y 2) hx1 hx2
  · exact pieceO m c t (t.val % 8 * 1024 - 128) (dist t) 0 (by omega) (by unfold dist; omega) (by unfold dist; omega) (by omega) ![0, 0, 0] (k0_off1 (grid0.coords t)) rfl (o1 t) (inb _ rfl (by omega)) (inb _ (o1 t) (by omega)) (x 0) (x 1) (x 2) (y 1) (y 2) (by omega) hx2

theorem final4 : (dats m 0 c).arrAt 4 cfg0.N = fun i : S1x8192x512.Idx => lse 128 (aq m c (i 0)) (ak m c (i 0)) (i 1) (i 2) := by
  refine (dats m 0 c).arrAt_eq_of_covers 4 _ (by decide +kernel) fun t hf y => ?_
  have h : (win0_4.blk t).view.emb y = (ix3 (atD t) (atR t (y 1)) (atL t (y 2)) : S1x8192x512.Idx) := by
    have : (y 0).val < 1 := (y 0).isLt
    blk_ext [e4]
  blk_simp
  rw [after0_4, h]
  simp only [outsAt0]
  frame_out
  have hl := lt t
  canon_tiles x hx using View.cover_of_tiledBy _ ![1, 128, 128] (by sl_kernel_rfl) _
  all_goals try rw [Memref.IsWhole.read_unread]
  all_goals try first | rw [mask0] | rw [ds t]
  all_goals rw [eq_ix3 x]
  · exact pieceL m c t (t.val % 8 * 1024 + 768) 128 896 (by omega) (.inl rfl) (by omega) (by omega) ![0, 896, 0] (k0_off2 (grid0.coords t) 896#32) rfl (o2 t 6) (inb _ rfl (by omega)) (inb _ (o2 t 6) (by omega)) (x 0) (x 1) (x 2) (y 1) (y 2) hx1 hx2
  · exact pieceL m c t (t.val % 8 * 1024 + 640) 128 768 (by omega) (.inl rfl) (by omega) (by omega) ![0, 768, 0] (k0_off2 (grid0.coords t) 768#32) rfl (o2 t 5) (inb _ rfl (by omega)) (inb _ (o2 t 5) (by omega)) (x 0) (x 1) (x 2) (y 1) (y 2) hx1 hx2
  · unfold k0_pay46 k0_pay47
    exact pieceL m c t (t.val % 8 * 1024 + 512) 128 640 (by omega) (.inl rfl) (by omega) (by omega) ![0, 640, 0] (k0_off2 (grid0.coords t) 640#32) rfl (o2 t 4) (inb _ rfl (by omega)) (inb _ (o2 t 4) (by omega)) (x 0) (x 1) (x 2) (y 1) (y 2) hx1 hx2
  · exact pieceL m c t (t.val % 8 * 1024 + 384) 128 512 (by omega) (.inl rfl) (by omega) (by omega) ![0, 512, 0] (k0_off2 (grid0.coords t) 512#32) rfl (o2 t 3) (inb _ rfl (by omega)) (inb _ (o2 t 3) (by omega)) (x 0) (x 1) (x 2) (y 1) (y 2) hx1 hx2
  · exact pieceL m c t (t.val % 8 * 1024 + 256) 128 384 (by omega) (.inl rfl) (by omega) (by omega) ![0, 384, 0] (k0_off2 (grid0.coords t) 384#32) rfl (o2 t 2) (inb _ rfl (by omega)) (inb _ (o2 t 2) (by omega)) (x 0) (x 1) (x 2) (y 1) (y 2) hx1 hx2
  · exact pieceL m c t (t.val % 8 * 1024 + 128) 128 256 (by omega) (.inl rfl) (by omega) (by omega) ![0, 256, 0] (k0_off2 (grid0.coords t) 256#32) rfl (o2 t 1) (inb _ rfl (by omega)) (inb _ (o2 t 1) (by omega)) (x 0) (x 1) (x 2) (y 1) (y 2) hx1 hx2
  · exact pieceL m c t (t.val % 8 * 1024 + 0) 128 128 (by omega) (.inl rfl) (by omega) (by omega) ![0, 128, 0] (k0_off2 (grid0.coords t) 128#32) rfl (o2 t 0) (inb _ rfl (by omega)) (inb _ (o2 t 0) (by omega)) (x 0) (x 1) (x 2) (y 1) (y 2) hx1 hx2
  · exact pieceL m c t (t.val % 8 * 1024 - 128) (dist t) 0 (by omega) (by unfold dist; omega) (by unfold dist; omega) (by omega) ![0, 0, 0] (k0_off1 (grid0.coords t)) rfl (o1 t) (inb _ rfl (by omega)) (inb _ (o1 t) (by omega)) (x 0) (x 1) (x 2) (y 1) (y 2) (by omega) hx2

end Cert.Attnf1KIdeal.Block

end
-- ==== Proof.Attn1Claim.lean ====
/-
  Banded attention at dilation 1: the kernel's two arrays are those of attention over all keys under the mask.
-/
module

public import proofs.«01_k».proof.Defs
public import proofs.«01_k».proof.Proof.Attn1Value
public import proofs.«01_k».proof.Proof.AttnSpan
public import proofs.«01_k».proof.Proof.Gen.Attnf1RIdeal.Run
public import proofs.«01_k».proof.Proof.Gen.Attnf1RIdeal.Read

@[expose] public section

set_option maxRecDepth 16384

noncomputable section

namespace Cert.Attnf1RIdeal.Read

open Cert.Attnf1RIdeal Cert.Attnf1RIdeal.Gen Cert.Attnf1RIdeal.Value Idealize.ShloMosaic Cert.Attn

variable (q k v : FVec Ideal S1x8192x512 .bf16)

/-- One residue class of an argument, by row and lane. -/
abbrev cls (x : FVec Ideal S1x8192x512 .bf16) (b : Fin 1) (t : Fin 8192) (c : Fin 512) : EReal := x (ix3 b t c)
/-- The lane of a head's element. -/
abbrev elt (h : Fin 8) (e : Fin 64) : Fin 512 := ⟨h.val * 64 + e.val, by omega⟩

theorem v1_eq (b : Fin 1) (t : Fin 8192) (h : Fin 8) (e : Fin 64) : val_main_v1 (F := Ideal) q (ix4 b t h e) = cls q b t (elt h e) := by
  obtain rfl : b = 0 := Subsingleton.elim _ _
  pointwise [val_main_v1, val_main_v0]

theorem v3_eq (b : Fin 1) (t : Fin 8192) (h : Fin 8) (e : Fin 64) : val_main_v3 (F := Ideal) k (ix4 b t h e) = cls k b t (elt h e) := by
  obtain rfl : b = 0 := Subsingleton.elim _ _
  pointwise [val_main_v3, val_main_v2]

theorem v5_eq (b : Fin 1) (t : Fin 8192) (h : Fin 8) (e : Fin 64) : val_main_v5 (F := Ideal) v (ix4 b t h e) = cls v b t (elt h e) := by
  obtain rfl : b = 0 := Subsingleton.elim _ _
  pointwise [val_main_v5, val_main_v4]

theorem v8_eq (b : Fin 1) (h : Fin 8) (t u : Fin 8192) : val_main_v8 (F := Ideal) q k (ix4 b h t u)
    = (∑ e, cls q b t (elt h e) * cls k b u (elt h e)) * ((1 / 8 : ℝ) : EReal) := by
  obtain rfl : b = 0 := Subsingleton.elim _ _
  pointwise [val_main_v8, val_main_v7, val_main_cst, val_main_v6, v1_eq, v3_eq, lit_eighth]

theorem v23_eq (t u : Fin 8192) : val_main_v23 (F := Ideal) (ix2 t u) = if u.val ≤ t.val ∧ t.val ≤ u.val + 128 then 1#1 else 0#1 := by
  rw [← span_iff t.val u.val 128 (by omega) (by omega) (by omega)]
  pointwise [val_main_v23, val_main_v22, val_main_v21, val_main_c_0, val_main_v20, val_main_v19, val_main_v18, val_main_v17, val_main_v16, val_main_c,
    val_main_v15, val_main_v14, val_main_v13, val_main_v12, val_main_v11, val_main_v10, val_main_v9]

theorem v24_eq (b : Fin 1) (h : Fin 8) (t u : Fin 8192) (e : Fin 64) : val_main_v24 (F := Ideal) q k (ix4 b h t u) = sc 128 (cls q b) (cls k b) t (elt h e) u := by
  obtain rfl : b = 0 := Subsingleton.elim _ _
  have hc : ∀ i, col (elt h e) i = elt h i := fun i => Fin.ext (by show (h.val * 64 + e.val) / 64 * 64 + i.val = h.val * 64 + i.val; omega)
  unfold sc band
  simp only [hc]
  rw [← v8_eq]
  generalize hs : val_main_v8 (F := Ideal) q k = s
  pointwise [val_main_v24, hs, val_main_call0_v1, v23_eq, val_main_call0_v2]
  by_cases hh : u.val ≤ t.val ∧ t.val ≤ u.val + 128
  · rw [if_pos hh, if_pos hh]
    rfl
  · rw [if_neg hh, if_neg hh]
    exact lit_bot

theorem v25_eq (b : Fin 1) (h : Fin 8) (t : Fin 8192) (e : Fin 64) : val_main_v25 (F := Ideal) q k (ix3 b h t) = mx 128 (cls q b) (cls k b) t (elt h e) := by
  obtain rfl : b = 0 := Subsingleton.elim _ _
  have hs : ∀ u, val_main_v24 (F := Ideal) q k (ix4 0 h t u) = sc 128 (cls q 0) (cls k 0) t (elt h e) u := fun u => v24_eq q k 0 h t u e
  generalize hx : val_main_v24 (F := Ideal) q k = s at hs
  pointwise [val_main_v25, hx, hs, val_main_cst_2, lit_bot]

theorem v29_eq (b : Fin 1) (h : Fin 8) (t u : Fin 8192) (e : Fin 64) : val_main_v29 (F := Ideal) q k (ix4 b h t u)
    = Ideal.exp (sc 128 (cls q b) (cls k b) t (elt h e) u - mx 128 (cls q b) (cls k b) t (elt h e)) := by
  obtain rfl : b = 0 := Subsingleton.elim _ _
  have hs := v24_eq q k 0 h t u e
  have hm := v25_eq q k 0 h t e
  generalize hx : val_main_v24 (F := Ideal) q k = s at hs
  generalize hy : val_main_v25 (F := Ideal) q k = y at hm
  pointwise [val_main_v29, val_main_v28, val_main_v27, val_main_v26, hx, hy, hs, hm]

theorem v30_eq (b : Fin 1) (h : Fin 8) (t : Fin 8192) (e : Fin 64) : val_main_v30 (F := Ideal) q k (ix3 b h t) = den 128 (cls q b) (cls k b) t (elt h e) := by
  obtain rfl : b = 0 := Subsingleton.elim _ _
  have hs := fun u => v29_eq q k 0 h t u e
  generalize hx : val_main_v29 (F := Ideal) q k = s at hs
  pointwise [val_main_v30, hx, hs, val_main_cst_3]

theorem v31_eq (b : Fin 1) (h : Fin 8) (t : Fin 8192) (e : Fin 64) : val_main_v31 (F := Ideal) q k v (ix4 b h e t)
    = ∑ u, Ideal.exp (sc 128 (cls q b) (cls k b) t (elt h e) u - mx 128 (cls q b) (cls k b) t (elt h e)) * cls v b u (elt h e) := by
  obtain rfl : b = 0 := Subsingleton.elim _ _
  have hs := fun u => v29_eq q k 0 h t u e
  generalize hx : val_main_v29 (F := Ideal) q k = s at hs
  simp only [← hs]
  pointwise [val_main_v31, hx, v5_eq]
  exact Finset.sum_congr rfl fun u _ => mul_comm _ _

theorem elt_half (c : Fin 512) : elt ⟨c.val / 64, by omega⟩ ⟨c.val % 64, by omega⟩ = c := Fin.ext (by show c.val / 64 * 64 + c.val % 64 = c.val; omega)

theorem v41_eq (b : Fin 1) (t : Fin 8192) (c : Fin 512) : val_main_v41 (F := Ideal) q k v (ix3 b t c) = att 128 (cls q b) (cls k b) (cls v b) t c := by
  obtain rfl : b = 0 := Subsingleton.elim _ _
  have h1 := v31_eq q k v 0 ⟨c.val / 64, by omega⟩ t ⟨c.val % 64, by omega⟩
  have h2 := v30_eq q k 0 ⟨c.val / 64, by omega⟩ t ⟨c.val % 64, by omega⟩
  rw [elt_half] at h1 h2
  unfold att
  rw [← h1, ← h2]
  generalize hx : val_main_v31 (F := Ideal) q k v = x
  generalize hy : val_main_v30 (F := Ideal) q k = y
  pointwise [val_main_v41, val_main_v40, val_main_v36, val_main_v35, val_main_v34, val_main_v33, val_main_v32, hx, hy]

theorem v38_eq (b : Fin 1) (h : Fin 8) (t : Fin 8192) (e : Fin 64) : val_main_v38 (F := Ideal) q k (ix3 b h t) = lse 128 (cls q b) (cls k b) t (elt h e) := by
  obtain rfl : b = 0 := Subsingleton.elim _ _
  rw [val_main_v38_apply, val_main_v37_apply, v25_eq q k 0 h t e, v30_eq q k 0 h t e]
  rfl

theorem v44_eq (b : Fin 1) (t : Fin 8192) (c : Fin 512) : val_main_v44 (F := Ideal) q k (ix3 b t c) = lse 128 (cls q b) (cls k b) t c := by
  obtain rfl : b = 0 := Subsingleton.elim _ _
  have h1 := v38_eq q k 0 ⟨c.val / 64, by omega⟩ t ⟨c.val % 64, by omega⟩
  rw [elt_half] at h1
  rw [← h1]
  generalize hx : val_main_v38 (F := Ideal) q k = x
  pointwise [val_main_v44, val_main_v43, val_main_v42, val_main_v39, hx]

end Cert.Attnf1RIdeal.Read

namespace Cert.Attnf1KIdeal.Block

open Cert.Attnf1KIdeal Cert.Attnf1KIdeal.Gen Idealize.ShloMosaic Idealize.ShloMosaic.TcCoe

variable (m : (ℓ : Loc nD τ sig) → Buf (Elt Ideal) ℓ) (c : Dev nD)

/-- The arguments as arrays. -/
abbrev vq : FVec Ideal S1x8192x512 .bf16 := m ((c : Thread nD τ).loc main_arg0)
abbrev vk : FVec Ideal S1x8192x512 .bf16 := m ((c : Thread nD τ).loc main_arg1)
abbrev vv : FVec Ideal S1x8192x512 .bf16 := m ((c : Thread nD τ).loc main_arg2)

end Cert.Attnf1KIdeal.Block

namespace Cert.Attn1

open Idealize.ShloMosaic Idealize.ShloMosaic.TcCoe Idealize.SL.Sem Cert.Attn

/-- The attention's rows and the logarithms of its weights' sums are those of the masked attention over all keys. -/
theorem claim : @Cert.algebraic_Attnf1KIdeal_Attnf1RIdeal Cert.Attnf1KIdeal.Gen.facts Cert.Attnf1RIdeal.Gen.facts := by
  intro m g m' g' _ hargs
  refine ⟨fun c => (Attnf1KIdeal.Gen.dats m 0 c).arrAt 3 _, fun c => (Attnf1KIdeal.Gen.dats m 0 c).arrAt 4 _,
    Attnf1KIdeal.Value.run_blocks m g, (θ_run Attnf1RIdeal.defs _ _).mono (fun r h c => ?_) (Attnf1RIdeal.Value.run m' g')⟩
  obtain ⟨a0, a1, a2⟩ := hargs c
  obtain ⟨h0, h1, k⟩ := h c
  have e0 : Attnf1RIdeal.Value.res_main_v41 m' c = Attnf1RIdeal.Read.val_main_v41 (F := Ideal) (Attnf1KIdeal.Block.vq m c)
      (Attnf1KIdeal.Block.vk m c) (Attnf1KIdeal.Block.vv m c) := by
    unfold Attnf1RIdeal.Value.res_main_v41
    rw [a0, a1, a2]
    rfl
  have e1 : Attnf1RIdeal.Value.res_main_v44 m' c = Attnf1RIdeal.Read.val_main_v44 (F := Ideal) (Attnf1KIdeal.Block.vq m c)
      (Attnf1KIdeal.Block.vk m c) := by
    unfold Attnf1RIdeal.Value.res_main_v44
    rw [a0, a1]
    rfl
  refine ⟨((h0.trans e0).trans ?_).trans (Attnf1KIdeal.Block.final3 m c).symm, ((h1.trans e1).trans ?_).trans (Attnf1KIdeal.Block.final4 m c).symm, k⟩
  · exact funext fun i => (congrArg _ (ix3_eta i).symm).trans (Attnf1RIdeal.Read.v41_eq _ _ _ _ _ _)
  · exact funext fun i => (congrArg _ (ix3_eta i).symm).trans (Attnf1RIdeal.Read.v44_eq _ _ _ _ _)

/-- The reference runs to its end and leaves its arguments and counters as they were: it declares no semaphore. -/
theorem refFrame : @Cert.quiescent_Attnf1RIdeal Cert.Attnf1RIdeal.Gen.facts := fun m ρ _ =>
  (θ_run Attnf1RIdeal.defs _ _).mono (fun r h => ⟨fun c => (h c).2.2, Idealize.ShloMosaic.sem_eq_zero_of_no_sems (by decide) r.2⟩)
    (Attnf1RIdeal.Value.run m ρ)

end Cert.Attn1

end
-- ==== Proof.AttnSink.lean ====
/-
  One block of banded attention whose rows also weigh a sink.
-/
module

public import proofs.«01_k».proof.Proof.AttnBlock
public import proofs.«01_k».proof.Proof.Gen.AttnfeKIdeal.Skeleton

@[expose] public section

set_option maxRecDepth 16384

noncomputable section

namespace Cert.Attn

open Cert.Attnf16KIdeal Cert.Attnf16KIdeal.Gen Idealize.ShloMosaic Idealize.ShloMosaic.TcCoe

/-- The sinks of the two heads, one per stacked row. -/
abbrev snk (a b : Elt Ideal .f32) : FVec Ideal S256x1 .f32 := AttnfeKIdeal.Gen.k0_pay6 a b
/-- The greatest of a row's scores and its sink. -/
abbrev topS (s : FVec Ideal S256x256 .f32) (k : FVec Ideal S256x1 .f32) : FVec Ideal S256x1 .f32 := maximumf (top s) k
/-- The sum of a row's weights, the sink's among them. -/
abbrev totalS (s : FVec Ideal S256x256 .f32) (k : FVec Ideal S256x1 .f32) : FVec Ideal S256x1 .f32 :=
  addf (total (wts s (topS s k))) (exp (subf k (topS s k)))

theorem snk_apply (a b : Elt Ideal .f32) (r l : Fin 128) (z : Fin 1) : snk a b (ix2 (row r l) z) = if l.val < 64 then a else b := by
  have h : IntOp.cmpi .slt (BitVec.ofNat 32 (row r l).val) 128#32 = if l.val < 64 then 1#1 else 0#1 := by
    have e : ∀ x : Fin 256, IntOp.cmpi .slt (BitVec.ofNat 32 x.val) 128#32 = if x.val < 128 then 1#1 else 0#1 := by decide +kernel
    rw [e]
    by_cases hl : l.val < 64
    · rw [if_pos hl, if_pos (by simp [row]; omega)]
    · rw [if_neg hl, if_neg (by simp [row]; omega)]
  generalize row r l = x at h
  pointwise [snk, AttnfeKIdeal.Gen.k0_pay6, h]
  by_cases hl : l.val < 64
  · rw [if_pos hl, if_pos hl]; rfl
  · rw [if_neg hl, if_neg hl]; rfl

/-- What a kernel stores of one block with sinks: attended values, and logarithms of the weights' sums. -/
abbrev sinkO (w s : BitVec 32) (x : FVec Ideal S256x1 .f32) (q : Vec Ideal S1x128x128 .bf16) (k v : Vec Ideal S1x256x128 .bf16) : FVec Ideal S128x128 .f32 :=
  let sc := scores (seen w s) (shapeCast S128x128 q shapeCasts_S1x128x128_S128x128) (shapeCast S256x128 k shapeCasts_S1x256x128_S256x128)
  vals (wts sc (topS sc x)) (totalS sc x) (shapeCast S256x128 v shapeCasts_S1x256x128_S256x128)
abbrev sinkL (w s : BitVec 32) (x : FVec Ideal S256x1 .f32) (q : Vec Ideal S1x128x128 .bf16) (k : Vec Ideal S1x256x128 .bf16) : FVec Ideal S128x128 .f32 :=
  let sc := scores (seen w s) (shapeCast S128x128 q shapeCasts_S1x128x128_S128x128) (shapeCast S256x128 k shapeCasts_S1x256x128_S256x128)
  lanes (addf (topS sc x) (log (totalS sc x)))

section Spec
variable {n : ℕ} (w : ℕ) (q k v : Fin n → Fin 512 → EReal) (z : EReal)

/-- The maximum of a row's scores and its sink. -/
abbrev mxS (t : Fin n) (c : Fin 512) : EReal := max (mx w q k t c) z
/-- The sum of its weights, the sink's among them. -/
abbrev denS (t : Fin n) (c : Fin 512) : EReal := ∑ u, Ideal.exp (sc w q k t c u - mxS w q k z t c) + Ideal.exp (z - mxS w q k z t c)
/-- Banded attention with a sink. -/
abbrev attS (t : Fin n) (c : Fin 512) : EReal := Ideal.div (∑ u, Ideal.exp (sc w q k t c u - mxS w q k z t c) * v u c) (denS w q k z t c)
/-- The logarithm of its weights' sum. -/
abbrev lseS (t : Fin n) (c : Fin 512) : EReal := mxS w q k z t c + Ideal.log (denS w q k z t c)

variable (st off : ℕ) (hn : st + 256 ≤ n) (hw : w ≤ 128) (ho : off = 128 ∨ st = 0 ∧ off = 0) (r l : Fin 128) (t : Fin n) (ht : t.val = st + off + r.val)
  (c : Fin 512) (x : Vec Ideal S1x128x128 .bf16) (y y' : Vec Ideal S1x256x128 .bf16) (a b : Elt Ideal .f32)
  (hx : ∀ e, x (ix3 0 r (lane (half l) e)) = q t (col c e))
  (hy : ∀ (j : Fin 256) e, y (ix3 0 j (lane (half l) e)) = k (key st hn j) (col c e))
  (hz : ∀ j : Fin 256, y' (ix3 0 j l) = v (key st hn j) c)
  (hs : (if l.val < 64 then a else b) = z)

include hn hw ho ht hx hy hz hs in
theorem sinkO_apply : sinkO (BitVec.ofNat 32 w) (BitVec.ofNat 32 off) (snk a b) x y y' (ix2 r l) = attS w q k v z t c := by
  have hv := seen_iff w off hw (by omega)
  have hq : ∀ e, shapeCast S128x128 x shapeCasts_S1x128x128_S128x128 (ix2 r (lane (half l) e)) = q t (col c e) := fun e => by
    pointwise [hx]
  have hk : ∀ (j : Fin 256) e, shapeCast S256x128 y shapeCasts_S1x256x128_S256x128 (ix2 j (lane (half l) e)) = k (key st hn j) (col c e) := fun j e => by
    pointwise [hy]
  have hvv : ∀ j : Fin 256, shapeCast S256x128 y' shapeCasts_S1x256x128_S256x128 (ix2 j l) = v (key st hn j) c := fun j => by
    pointwise [hz]
  unfold sinkO
  generalize shapeCast S128x128 x shapeCasts_S1x128x128_S128x128 = g at hq ⊢
  generalize shapeCast S256x128 y shapeCasts_S1x256x128_S256x128 = b' at hk ⊢
  generalize shapeCast S256x128 y' shapeCasts_S1x256x128_S256x128 = d at hvv ⊢
  have hsn := (snk_apply a b r l 0).trans hs
  generalize snk a b = u at hsn ⊢
  have hm : topS (scores (seen (BitVec.ofNat 32 w) (BitVec.ofNat 32 off)) g b') u (ix2 (row r l) 0) = mxS w q k z t c :=
    congrArg₂ max ((top_eq w st off hn r l hw ho _ hv g b' (fun e => q t (col c e)) (fun u e => k u (col c e)) hq hk 0).trans (by rw [← ht])) hsn
  have hd := weights_sum w st off hn r l hw ho _ hv g b' (fun e => q t (col c e)) (fun u e => k u (col c e)) hq hk _ _ hm 0
  rw [← ht] at hd
  have hd' : totalS (scores (seen (BitVec.ofNat 32 w) (BitVec.ofNat 32 off)) g b') u (ix2 (row r l) 0) = denS w q k z t c :=
    congrArg₂ (· + ·) hd (congrArg₂ (fun p o => Ideal.exp (p - o)) hsn hm)
  have hr := vals_eq w st off hn r l hw ho _ hv g b' d (fun e => q t (col c e)) (fun u e => k u (col c e)) (fun u => v u c) hq hk hvv _ _ _ _ hm hd'
  rw [← ht] at hr
  exact hr

include hn hw ho ht hx hy hs in
theorem sinkL_apply : sinkL (BitVec.ofNat 32 w) (BitVec.ofNat 32 off) (snk a b) x y (ix2 r l) = lseS w q k z t c := by
  have hv := seen_iff w off hw (by omega)
  have hq : ∀ e, shapeCast S128x128 x shapeCasts_S1x128x128_S128x128 (ix2 r (lane (half l) e)) = q t (col c e) := fun e => by
    pointwise [hx]
  have hk : ∀ (j : Fin 256) e, shapeCast S256x128 y shapeCasts_S1x256x128_S256x128 (ix2 j (lane (half l) e)) = k (key st hn j) (col c e) := fun j e => by
    pointwise [hy]
  unfold sinkL
  generalize shapeCast S128x128 x shapeCasts_S1x128x128_S128x128 = g at hq ⊢
  generalize shapeCast S256x128 y shapeCasts_S1x256x128_S256x128 = b' at hk ⊢
  have hsn := (snk_apply a b r l 0).trans hs
  generalize snk a b = u at hsn ⊢
  have hm : topS (scores (seen (BitVec.ofNat 32 w) (BitVec.ofNat 32 off)) g b') u (ix2 (row r l) 0) = mxS w q k z t c :=
    congrArg₂ max ((top_eq w st off hn r l hw ho _ hv g b' (fun e => q t (col c e)) (fun u e => k u (col c e)) hq hk 0).trans (by rw [← ht])) hsn
  have hd := weights_sum w st off hn r l hw ho _ hv g b' (fun e => q t (col c e)) (fun u e => k u (col c e)) hq hk _ _ hm 0
  rw [← ht] at hd
  have hd' : totalS (scores (seen (BitVec.ofNat 32 w) (BitVec.ofNat 32 off)) g b') u (ix2 (row r l) 0) = denS w q k z t c :=
    congrArg₂ (· + ·) hd (congrArg₂ (fun p o => Ideal.exp (p - o)) hsn hm)
  exact (lanes_apply _ r l).trans (congrArg₂ (fun p o => p + Ideal.log o) hm hd')

/-- A block of rows under a leading axis of one. -/
theorem lead_apply {φ : FTy} (o : FVec Ideal S128x128 φ) (i : Fin 1) : shapeCast S1x128x128 o shapeCasts_S128x128_S1x128x128 (ix3 i r l) = o (ix2 r l) := by
  pointwise []

end Spec

end Cert.Attn

end
-- ==== Proof.AttnEValue.lean ====
/-
  The three arrays the banded attention with sinks leaves.
-/
module

public import proofs.«01_k».proof.Proof.AttnSink
public import proofs.«01_k».proof.Proof.Gen.AttnfeKIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.AttnfeKIdeal.Block

open Cert.AttnfeKIdeal Cert.AttnfeKIdeal.Gen Idealize.ShloMosaic Idealize.ShloMosaic.TcCoe Cert.Attn

variable (m : (ℓ : Loc nD τ sig) → Buf (Elt Ideal) ℓ) (c : Dev nD)

/-- The arguments as arrays. -/
abbrev vq : FVec Ideal S8192x512 .bf16 := m ((c : Thread nD τ).loc main_arg0)
abbrev vk : FVec Ideal S8192x128 .bf16 := m ((c : Thread nD τ).loc main_arg1)
abbrev vv : FVec Ideal S8192x128 .bf16 := m ((c : Thread nD τ).loc main_arg2)
abbrev vs : FVec Ideal S1x8 .f32 := m ((c : Thread nD τ).loc main_arg3)
/-- The key and value column of a query's lane: two groups of four heads share one head of keys and values. -/
abbrev kv (l : Fin 512) : Fin 128 := ⟨l.val / 256 * 64 + l.val % 64, by omega⟩
/-- The arguments by row and lane, keys and values once per query head. -/
abbrev aq (r : Fin 8192) (l : Fin 512) : EReal := vq m c (ix2 r l)
abbrev ak (r : Fin 8192) (l : Fin 512) : EReal := vk m c (ix2 r (kv l))
abbrev av (r : Fin 8192) (l : Fin 512) : EReal := vv m c (ix2 r (kv l))
/-- The sink of a lane's head. -/
abbrev az (l : Fin 512) : EReal := vs m c (ix2 0 ⟨l.val / 64, by omega⟩)

theorem lt (t : Fin cfg0.N) : t.val < 32 := by have := t.isLt; have : cfg0.N = 32 := N_0; omega
/-- The rows and lanes of a grid point. -/
abbrev atR (t : Fin cfg0.N) (r : Fin 1024) : Fin 8192 := ⟨t.val % 8 * 1024 + r.val, by omega⟩
abbrev atL (t : Fin cfg0.N) (l : Fin 128) : Fin 512 := ⟨t.val / 8 % 4 * 128 + l.val, by omega⟩
/-- The lane of the repeated keys. -/
abbrev rep (t : Fin cfg0.N) (l : Fin 128) : Fin 256 := ⟨t.val / 8 % 4 / 2 * 128 + l.val, by omega⟩

theorem e1 : ∀ t : Fin cfg0.N, win0_1.index t = ![0, t.val % 8, t.val / 8 % 4] := (by decide +kernel : ∀ t : Fin grid0.N, _)
theorem e2 : ∀ t : Fin cfg0.N, win0_2.index t = ![0, 0, t.val / 8 % 4 / 2] := (by decide +kernel : ∀ t : Fin grid0.N, _)
theorem e3 : ∀ t : Fin cfg0.N, win0_3.index t = ![0, 0, t.val / 8 % 4 / 2] := (by decide +kernel : ∀ t : Fin grid0.N, _)
theorem e4 : ∀ t : Fin cfg0.N, win0_4.index t = ![0, t.val % 8, t.val / 8 % 4] := (by decide +kernel : ∀ t : Fin grid0.N, _)
theorem e5 : ∀ t : Fin cfg0.N, win0_5.index t = ![0, t.val % 8, t.val / 8 % 4] := (by decide +kernel : ∀ t : Fin grid0.N, _)
theorem e6 : ∀ t : Fin cfg0.N, win0_6.index t = ![0, t.val % 8, t.val / 8 % 4] := (by decide +kernel : ∀ t : Fin grid0.N, _)

/-- Where the windows of a grid point's blocks start. -/
theorem o3 : ∀ t : Fin cfg0.N, k0_off3 (grid0.coords t) = ![0, t.val % 8 * 1024 - 128, 0] := (by decide +kernel : ∀ t : Fin grid0.N, _)
theorem o4 : ∀ t : Fin cfg0.N, ∀ i : Fin 7, k0_off4 (grid0.coords t) (BitVec.ofNat 32 (128 + 128 * i.val)) = ![0, t.val % 8 * 1024 + i.val * 128, 0] :=
  (by decide +kernel : ∀ t : Fin grid0.N, _)
/-- The first block's rows start after its window's start by 128, and at the first rows by nothing. -/
abbrev dist (t : Fin cfg0.N) : ℕ := t.val % 8 * 1024 - (t.val % 8 * 1024 - 128)
theorem ds : ∀ t : Fin cfg0.N, Scalar.subi (Scalar.addi (Scalar.muli (BitVec.ofNat 32 (grid0.coords t 2).val) 1024#32) 0#32)
    (Scalar.maxsi (Scalar.subi (Scalar.addi (Scalar.muli (BitVec.ofNat 32 (grid0.coords t 2).val) 1024#32) 0#32) 128#32) 0#32) = BitVec.ofNat 32 (dist t) :=
  (by decide +kernel : ∀ t : Fin grid0.N, _)

theorem V_main_v0 (i : Fin 1) (r : Fin 8192) (l : Fin 512) : (V m c main_v0 : Vec Ideal S1x8192x512 .bf16) (ix3 i r l) = aq m c r l := by
  have h : V m c main_v0 = (broadcastInDim S1x8192x512 ![1, 2] bcast_S8192x512_S1x8192x512_1_2 (vq m c) : FVec Ideal S1x8192x512 .bf16) := by
    show StableHlo.after hostOps0 _ _ = _
    after_results
    all_goals rfl
  rw [h]
  pointwise []

/-- A head of keys repeated for two query heads. -/
abbrev twice (x : FVec Ideal S8192x128 .bf16) : FVec Ideal S1x8192x256 .bf16 :=
  shapeCast S1x8192x256 (broadcastInDim S8192x2x2x64 ![0, 1, 2, 3] bcast_S8192x2x1x64_S8192x2x2x64_0_1_2_3
    (shapeCast S8192x2x1x64 x shapeCasts_S8192x128_S8192x2x1x64)) shapeCasts_S8192x2x2x64_S1x8192x256

theorem twice_apply (x : FVec Ideal S8192x128 .bf16) (i : Fin 1) (r : Fin 8192) (l : Fin 256) (e : Fin 128) (he : e.val = l.val / 128 * 64 + l.val % 64) :
    twice x (ix3 i r l) = x (ix2 r e) := by
  have h : e = ⟨l.val / 128 * 64 + l.val % 64, by omega⟩ := Fin.ext he
  rw [h]
  pointwise []

theorem V_main_v3 : V m c main_v3 = twice (vk m c) := by
  show StableHlo.after hostOps0 _ _ = _
  after_results
  all_goals rfl

theorem V_main_v6 : V m c main_v6 = twice (vv m c) := by
  show StableHlo.after hostOps0 _ _ = _
  after_results
  all_goals rfl

theorem V_main_v7 (j : Fin 8) : (V m c main_v7 : Vec Ideal S8 .f32) (ix1 j) = vs m c (ix2 0 j) := by
  have h : V m c main_v7 = (shapeCast S8 (vs m c) shapeCasts_S1x8_S8 : FVec Ideal S8 .f32) := by
    show StableHlo.after hostOps0 _ _ = _
    after_results
    all_goals rfl
  rw [h]
  pointwise []

theorem blk1 (t : Fin cfg0.N) (r : Fin 1024) (l : Fin 128) : iblk m c 1 t (ix3 0 r l) = aq m c (atR t r) (atL t l) := by
  have h : (win0_1.blk t).view.emb (ix3 0 r l) = (ix3 0 (atR t r) (atL t l) : S1x8192x512.Idx) := by blk_ext [e1]
  blk_simp [iblk]
  rw [h]
  exact V_main_v0 m c _ _ _

theorem blk2 (t : Fin cfg0.N) (r : Fin 8192) (l : Fin 128) : iblk m c 2 t (ix3 0 r l) = ak m c r (atL t l) := by
  have h : (win0_2.blk t).view.emb (ix3 0 r l) = (ix3 0 r (rep t l) : S1x8192x256.Idx) := by blk_ext [e2]
  blk_simp [iblk]
  rw [h]
  exact (congrFun (V_main_v3 m c) _).trans (twice_apply _ _ _ _ _ (by
    show (t.val / 8 % 4 * 128 + l.val) / 256 * 64 + (t.val / 8 % 4 * 128 + l.val) % 64 = (t.val / 8 % 4 / 2 * 128 + l.val) / 128 * 64 + (t.val / 8 % 4 / 2 * 128 + l.val) % 64
    omega))

theorem blk3 (t : Fin cfg0.N) (r : Fin 8192) (l : Fin 128) : iblk m c 3 t (ix3 0 r l) = av m c r (atL t l) := by
  have h : (win0_3.blk t).view.emb (ix3 0 r l) = (ix3 0 r (rep t l) : S1x8192x256.Idx) := by blk_ext [e3]
  blk_simp [iblk]
  rw [h]
  exact (congrFun (V_main_v6 m c) _).trans (twice_apply _ _ _ _ _ (by
    show (t.val / 8 % 4 * 128 + l.val) / 256 * 64 + (t.val / 8 % 4 * 128 + l.val) % 64 = (t.val / 8 % 4 / 2 * 128 + l.val) / 128 * 64 + (t.val / 8 % 4 / 2 * 128 + l.val) % 64
    omega))

theorem e0 : ∀ t : Fin cfg0.N, win0_0.index t = ![0] := (by decide +kernel : ∀ t : Fin grid0.N, _)
theorem o1 : ∀ t : Fin cfg0.N, k0_off1 (grid0.coords t) = ![t.val / 8 % 4 * 2] := (by decide +kernel : ∀ t : Fin grid0.N, _)
theorem o2 : ∀ t : Fin cfg0.N, k0_off2 (grid0.coords t) = ![t.val / 8 % 4 * 2 + 1] := (by decide +kernel : ∀ t : Fin grid0.N, _)

theorem blk0 (t : Fin cfg0.N) (j : Fin 8) : iblk m c 0 t (ix1 j) = vs m c (ix2 0 j) := by
  have h : (win0_0.blk t).view.emb (ix1 j) = (ix1 j : S8.Idx) := by blk_ext [e0]
  blk_simp [iblk]
  rw [h]
  exact V_main_v7 m c _

theorem one_pos : 0 < S1.numel := by
  rw [numel1_S1]
  exact Nat.one_pos
/-- The sinks of a grid point's two heads. -/
abbrev z0 (t : Fin cfg0.N) : Elt Ideal .f32 := View.ld (iblk m c 0 t) (Rect.unit (s := S8) (k0_off1 (grid0.coords t)) ![1] (k0_off1_inb (grid0.coords t))) (Shape.Idx.first (s := S1) one_pos)
abbrev z1 (t : Fin cfg0.N) : Elt Ideal .f32 := View.ld (iblk m c 0 t) (Rect.unit (s := S8) (k0_off2 (grid0.coords t)) ![1] (k0_off2_inb (grid0.coords t))) (Shape.Idx.first (s := S1) one_pos)

theorem sink_at (p : Fin 1 → ℕ) (j : Fin 8) (hp : p = ![j.val]) (x : Vec Ideal S8 .f32) (i) (f : (Rect.unit (s := S8) p ![1] i).shape.Idx) : View.ld x (Rect.unit (s := S8) p ![1] i) f = x (ix1 j) := by
  subst hp
  show x _ = x _
  refine congrArg x (funext fun a => Fin.ext ?_)
  obtain rfl : a = 0 := Subsingleton.elim _ _
  have : (f 0).val < 1 := (f 0).isLt
  show j.val + 1 * (f 0).val = j.val
  omega

theorem sinks (t : Fin cfg0.N) (l y2 : Fin 128) (h : y2.val = l.val) : (if l.val < 64 then z0 m c t else z1 m c t) = az m c (atL t y2) := by
  unfold z0 z1
  rw [sink_at _ ⟨t.val / 8 % 4 * 2, by omega⟩ (o1 t), sink_at _ ⟨t.val / 8 % 4 * 2 + 1, by omega⟩ (o2 t), blk0, blk0]
  by_cases hl : l.val < 64
  · rw [if_pos hl]
    exact congrArg (fun j => vs m c (ix2 0 j)) (Fin.ext (by show t.val / 8 % 4 * 2 = (t.val / 8 % 4 * 128 + y2.val) / 64; omega))
  · rw [if_neg hl]
    exact congrArg (fun j => vs m c (ix2 0 j)) (Fin.ext (by show t.val / 8 % 4 * 2 + 1 = (t.val / 8 % 4 * 128 + y2.val) / 64; omega))

section Piece

variable (t : Fin cfg0.N) (st off r0 : ℕ) (hr : r0 + 128 ≤ 1024) (ho : off = 128 ∨ st = 0 ∧ off = 0) (hs : st + off = t.val % 8 * 1024 + r0) (hn : st + 256 ≤ 8192)
  (p0 p1 : Fin 3 → ℕ) (h0 : p0 = ![0, r0, 0]) (h1 : p1 = ![0, st, 0])
  (i0 : ∀ a, p0 a + (![1, 128, 128] : Fin 3 → ℕ) a ≤ (![1, 1024, 128] : Fin 3 → ℕ) a) (i1 : ∀ a, p1 a + (![1, 256, 128] : Fin 3 → ℕ) a ≤ (![1, 8192, 128] : Fin 3 → ℕ) a)
  (b : Fin 1) (r l : Fin 128) (y1 : Fin 1024) (y2 : Fin 128) (hy1 : y1.val = r0 + r.val) (hy2 : y2.val = l.val)

include hr ho hs hn h0 h1 hy1 hy2 in
/-- What one block's attended values are. -/
theorem blockO : sinkO (BitVec.ofNat 32 127) (BitVec.ofNat 32 off) (snk (z0 m c t) (z1 m c t)) (View.ld (iblk m c 1 t) (Rect.unit p0 ![1, 128, 128] i0))
    (View.ld (iblk m c 2 t) (Rect.unit p1 ![1, 256, 128] i1)) (View.ld (iblk m c 3 t) (Rect.unit p1 ![1, 256, 128] i1)) (ix2 r l)
      = attS 127 (aq m c) (ak m c) (av m c) (az m c (atL t y2)) (atR t y1) (atL t y2) := by
  refine sinkO_apply 127 (aq m c) (ak m c) (av m c) _ st off hn (by omega) ho r l (atR t y1) ?_ (atL t y2)
    _ _ _ _ _ (fun e => ?_) (fun j e => ?_) (fun j => ?_) (sinks m c t l y2 hy2)
  · show t.val % 8 * 1024 + y1.val = st + off + r.val
    omega
  · rw [ld_at _ _ h0 _ r _ (by omega), blk1]
    exact congrArg₂ (aq m c) (Fin.ext (by show t.val % 8 * 1024 + (r0 + r.val) = t.val % 8 * 1024 + y1.val; omega))
      (Fin.ext (by show t.val / 8 % 4 * 128 + (l.val / 64 * 64 + e.val) = (t.val / 8 % 4 * 128 + y2.val) / 64 * 64 + e.val; omega))
  · rw [ld_at _ _ h1 _ j _ (by omega), blk2]
    exact congrArg (ak m c _)
      (Fin.ext (by show t.val / 8 % 4 * 128 + (l.val / 64 * 64 + e.val) = (t.val / 8 % 4 * 128 + y2.val) / 64 * 64 + e.val; omega))
  · rw [ld_at _ _ h1 _ j _ (by omega), blk3]
    exact congrArg (av m c _) (Fin.ext (by show t.val / 8 % 4 * 128 + l.val = t.val / 8 % 4 * 128 + y2.val; omega))

include hr ho hs hn h0 h1 hy1 hy2 in
/-- What one block's logarithms are. -/
theorem blockL : sinkL (BitVec.ofNat 32 127) (BitVec.ofNat 32 off) (snk (z0 m c t) (z1 m c t)) (View.ld (iblk m c 1 t) (Rect.unit p0 ![1, 128, 128] i0))
    (View.ld (iblk m c 2 t) (Rect.unit p1 ![1, 256, 128] i1)) (ix2 r l)
      = lseS 127 (aq m c) (ak m c) (az m c (atL t y2)) (atR t y1) (atL t y2) := by
  refine sinkL_apply 127 (aq m c) (ak m c) _ st off hn (by omega) ho r l (atR t y1) ?_ (atL t y2)
    _ _ _ _ (fun e => ?_) (fun j e => ?_) (sinks m c t l y2 hy2)
  · show t.val % 8 * 1024 + y1.val = st + off + r.val
    omega
  · rw [ld_at _ _ h0 _ r _ (by omega), blk1]
    exact congrArg₂ (aq m c) (Fin.ext (by show t.val % 8 * 1024 + (r0 + r.val) = t.val % 8 * 1024 + y1.val; omega))
      (Fin.ext (by show t.val / 8 % 4 * 128 + (l.val / 64 * 64 + e.val) = (t.val / 8 % 4 * 128 + y2.val) / 64 * 64 + e.val; omega))
  · rw [ld_at _ _ h1 _ j _ (by omega), blk2]
    exact congrArg (ak m c _)
      (Fin.ext (by show t.val / 8 % 4 * 128 + (l.val / 64 * 64 + e.val) = (t.val / 8 % 4 * 128 + y2.val) / 64 * 64 + e.val; omega))

include hr ho hs hn h0 h1 hy1 hy2 in
/-- What one block stores, under the leading axis of one. -/
theorem pieceO : shapeCast S1x128x128 (sinkO (BitVec.ofNat 32 127) (BitVec.ofNat 32 off) (snk (z0 m c t) (z1 m c t)) (View.ld (iblk m c 1 t) (Rect.unit p0 ![1, 128, 128] i0))
    (View.ld (iblk m c 2 t) (Rect.unit p1 ![1, 256, 128] i1)) (View.ld (iblk m c 3 t) (Rect.unit p1 ![1, 256, 128] i1))) shapeCasts_S128x128_S1x128x128 (ix3 b r l)
      = attS 127 (aq m c) (ak m c) (av m c) (az m c (atL t y2)) (atR t y1) (atL t y2) :=
  (lead_apply r l _ b).trans (blockO m c t st off r0 hr ho hs hn p0 p1 h0 h1 i0 i1 r l y1 y2 hy1 hy2)

include hr ho hs hn h0 h1 hy1 hy2 in
theorem pieceB : shapeCast S1x128x128 (truncf .bf16 (sinkO (BitVec.ofNat 32 127) (BitVec.ofNat 32 off) (snk (z0 m c t) (z1 m c t)) (View.ld (iblk m c 1 t) (Rect.unit p0 ![1, 128, 128] i0))
    (View.ld (iblk m c 2 t) (Rect.unit p1 ![1, 256, 128] i1)) (View.ld (iblk m c 3 t) (Rect.unit p1 ![1, 256, 128] i1))) bitsLt_bf16_f32 : FVec Ideal S128x128 .bf16) shapeCasts_S128x128_S1x128x128 (ix3 b r l)
      = attS 127 (aq m c) (ak m c) (av m c) (az m c (atL t y2)) (atR t y1) (atL t y2) :=
  (lead_apply r l _ b).trans (blockO m c t st off r0 hr ho hs hn p0 p1 h0 h1 i0 i1 r l y1 y2 hy1 hy2)

include hr ho hs hn h0 h1 hy1 hy2 in
theorem pieceL : shapeCast S1x128x128 (sinkL (BitVec.ofNat 32 127) (BitVec.ofNat 32 off) (snk (z0 m c t) (z1 m c t)) (View.ld (iblk m c 1 t) (Rect.unit p0 ![1, 128, 128] i0))
    (View.ld (iblk m c 2 t) (Rect.unit p1 ![1, 256, 128] i1))) shapeCasts_S128x128_S1x128x128 (ix3 b r l)
      = lseS 127 (aq m c) (ak m c) (az m c (atL t y2)) (atR t y1) (atL t y2) :=
  (lead_apply r l _ b).trans (blockL m c t st off r0 hr ho hs hn p0 p1 h0 h1 i0 i1 r l y1 y2 hy1 hy2)

end Piece

theorem final4 : (dats m 0 c).arrAt 4 cfg0.N = fun i : S1x8192x512.Idx => attS 127 (aq m c) (ak m c) (av m c) (az m c (i 2)) (i 1) (i 2) := by
  refine (dats m 0 c).arrAt_eq_of_covers 4 _ (by decide +kernel) fun t hf y => ?_
  have h : (win0_4.blk t).view.emb y = (ix3 0 (atR t (y 1)) (atL t (y 2)) : S1x8192x512.Idx) := by
    have : (y 0).val < 1 := (y 0).isLt
    blk_ext [e4]
  blk_simp
  rw [after0_4, h]
  simp only [outsAt0]
  frame_out
  have hl := lt t
  canon_tiles x hx using View.cover_of_tiledBy _ ![1, 128, 128] (by sl_kernel_rfl) _
  all_goals try rw [Memref.IsWhole.read_unread]
  all_goals try rw [ds t]
  all_goals rw [eq_ix3 x]
  · exact pieceO m c t (t.val % 8 * 1024 + 768) 128 896 (by omega) (.inl rfl) (by omega) (by omega) ![0, 896, 0] (k0_off4 (grid0.coords t) 896#32) rfl (o4 t 6) (inb _ rfl (by omega)) (inb _ (o4 t 6) (by omega)) (x 0) (x 1) (x 2) (y 1) (y 2) hx1 hx2
  · exact pieceO m c t (t.val % 8 * 1024 + 640) 128 768 (by omega) (.inl rfl) (by omega) (by omega) ![0, 768, 0] (k0_off4 (grid0.coords t) 768#32) rfl (o4 t 5) (inb _ rfl (by omega)) (inb _ (o4 t 5) (by omega)) (x 0) (x 1) (x 2) (y 1) (y 2) hx1 hx2
  · exact pieceO m c t (t.val % 8 * 1024 + 512) 128 640 (by omega) (.inl rfl) (by omega) (by omega) ![0, 640, 0] (k0_off4 (grid0.coords t) 640#32) rfl (o4 t 4) (inb _ rfl (by omega)) (inb _ (o4 t 4) (by omega)) (x 0) (x 1) (x 2) (y 1) (y 2) hx1 hx2
  · exact pieceO m c t (t.val % 8 * 1024 + 384) 128 512 (by omega) (.inl rfl) (by omega) (by omega) ![0, 512, 0] (k0_off4 (grid0.coords t) 512#32) rfl (o4 t 3) (inb _ rfl (by omega)) (inb _ (o4 t 3) (by omega)) (x 0) (x 1) (x 2) (y 1) (y 2) hx1 hx2
  · exact pieceO m c t (t.val % 8 * 1024 + 256) 128 384 (by omega) (.inl rfl) (by omega) (by omega) ![0, 384, 0] (k0_off4 (grid0.coords t) 384#32) rfl (o4 t 2) (inb _ rfl (by omega)) (inb _ (o4 t 2) (by omega)) (x 0) (x 1) (x 2) (y 1) (y 2) hx1 hx2
  · exact pieceO m c t (t.val % 8 * 1024 + 128) 128 256 (by omega) (.inl rfl) (by omega) (by omega) ![0, 256, 0] (k0_off4 (grid0.coords t) 256#32) rfl (o4 t 1) (inb _ rfl (by omega)) (inb _ (o4 t 1) (by omega)) (x 0) (x 1) (x 2) (y 1) (y 2) hx1 hx2
  · exact pieceO m c t (t.val % 8 * 1024 + 0) 128 128 (by omega) (.inl rfl) (by omega) (by omega) ![0, 128, 0] (k0_off4 (grid0.coords t) 128#32) rfl (o4 t 0) (inb _ rfl (by omega)) (inb _ (o4 t 0) (by omega)) (x 0) (x 1) (x 2) (y 1) (y 2) hx1 hx2
  · exact pieceO m c t (t.val % 8 * 1024 - 128) (dist t) 0 (by omega) (by unfold dist; omega) (by unfold dist; omega) (by omega) ![0, 0, 0] (k0_off3 (grid0.coords t)) rfl (o3 t) (inb _ rfl (by omega)) (inb _ (o3 t) (by omega)) (x 0) (x 1) (x 2) (y 1) (y 2) (by omega) hx2

theorem final5 : (dats m 0 c).arrAt 5 cfg0.N = fun i : S1x8192x512.Idx => lseS 127 (aq m c) (ak m c) (az m c (i 2)) (i 1) (i 2) := by
  refine (dats m 0 c).arrAt_eq_of_covers 5 _ (by decide +kernel) fun t hf y => ?_
  have h : (win0_5.blk t).view.emb y = (ix3 0 (atR t (y 1)) (atL t (y 2)) : S1x8192x512.Idx) := by
    have : (y 0).val < 1 := (y 0).isLt
    blk_ext [e5]
  blk_simp
  rw [after0_5, h]
  simp only [outsAt0]
  frame_out
  have hl := lt t
  canon_tiles x hx using View.cover_of_tiledBy _ ![1, 128, 128] (by sl_kernel_rfl) _
  all_goals try rw [Memref.IsWhole.read_unread]
  all_goals try rw [ds t]
  all_goals rw [eq_ix3 x]
  · exact pieceL m c t (t.val % 8 * 1024 + 768) 128 896 (by omega) (.inl rfl) (by omega) (by omega) ![0, 896, 0] (k0_off4 (grid0.coords t) 896#32) rfl (o4 t 6) (inb _ rfl (by omega)) (inb _ (o4 t 6) (by omega)) (x 0) (x 1) (x 2) (y 1) (y 2) hx1 hx2
  · exact pieceL m c t (t.val % 8 * 1024 + 640) 128 768 (by omega) (.inl rfl) (by omega) (by omega) ![0, 768, 0] (k0_off4 (grid0.coords t) 768#32) rfl (o4 t 5) (inb _ rfl (by omega)) (inb _ (o4 t 5) (by omega)) (x 0) (x 1) (x 2) (y 1) (y 2) hx1 hx2
  · exact pieceL m c t (t.val % 8 * 1024 + 512) 128 640 (by omega) (.inl rfl) (by omega) (by omega) ![0, 640, 0] (k0_off4 (grid0.coords t) 640#32) rfl (o4 t 4) (inb _ rfl (by omega)) (inb _ (o4 t 4) (by omega)) (x 0) (x 1) (x 2) (y 1) (y 2) hx1 hx2
  · exact pieceL m c t (t.val % 8 * 1024 + 384) 128 512 (by omega) (.inl rfl) (by omega) (by omega) ![0, 512, 0] (k0_off4 (grid0.coords t) 512#32) rfl (o4 t 3) (inb _ rfl (by omega)) (inb _ (o4 t 3) (by omega)) (x 0) (x 1) (x 2) (y 1) (y 2) hx1 hx2
  · exact pieceL m c t (t.val % 8 * 1024 + 256) 128 384 (by omega) (.inl rfl) (by omega) (by omega) ![0, 384, 0] (k0_off4 (grid0.coords t) 384#32) rfl (o4 t 2) (inb _ rfl (by omega)) (inb _ (o4 t 2) (by omega)) (x 0) (x 1) (x 2) (y 1) (y 2) hx1 hx2
  · exact pieceL m c t (t.val % 8 * 1024 + 128) 128 256 (by omega) (.inl rfl) (by omega) (by omega) ![0, 256, 0] (k0_off4 (grid0.coords t) 256#32) rfl (o4 t 1) (inb _ rfl (by omega)) (inb _ (o4 t 1) (by omega)) (x 0) (x 1) (x 2) (y 1) (y 2) hx1 hx2
  · exact pieceL m c t (t.val % 8 * 1024 + 0) 128 128 (by omega) (.inl rfl) (by omega) (by omega) ![0, 128, 0] (k0_off4 (grid0.coords t) 128#32) rfl (o4 t 0) (inb _ rfl (by omega)) (inb _ (o4 t 0) (by omega)) (x 0) (x 1) (x 2) (y 1) (y 2) hx1 hx2
  · exact pieceL m c t (t.val % 8 * 1024 - 128) (dist t) 0 (by omega) (by unfold dist; omega) (by unfold dist; omega) (by omega) ![0, 0, 0] (k0_off3 (grid0.coords t)) rfl (o3 t) (inb _ rfl (by omega)) (inb _ (o3 t) (by omega)) (x 0) (x 1) (x 2) (y 1) (y 2) (by omega) hx2

theorem final6 : (dats m 0 c).arrAt 6 cfg0.N = fun i : S1x8192x512.Idx => attS 127 (aq m c) (ak m c) (av m c) (az m c (i 2)) (i 1) (i 2) := by
  refine (dats m 0 c).arrAt_eq_of_covers 6 _ (by decide +kernel) fun t hf y => ?_
  have h : (win0_6.blk t).view.emb y = (ix3 0 (atR t (y 1)) (atL t (y 2)) : S1x8192x512.Idx) := by
    have : (y 0).val < 1 := (y 0).isLt
    blk_ext [e6]
  blk_simp
  rw [after0_6, h]
  simp only [outsAt0]
  frame_out
  have hl := lt t
  canon_tiles x hx using View.cover_of_tiledBy _ ![1, 128, 128] (by sl_kernel_rfl) _
  all_goals try rw [Memref.IsWhole.read_unread]
  all_goals try rw [ds t]
  all_goals rw [eq_ix3 x]
  · exact pieceB m c t (t.val % 8 * 1024 + 768) 128 896 (by omega) (.inl rfl) (by omega) (by omega) ![0, 896, 0] (k0_off4 (grid0.coords t) 896#32) rfl (o4 t 6) (inb _ rfl (by omega)) (inb _ (o4 t 6) (by omega)) (x 0) (x 1) (x 2) (y 1) (y 2) hx1 hx2
  · exact pieceB m c t (t.val % 8 * 1024 + 640) 128 768 (by omega) (.inl rfl) (by omega) (by omega) ![0, 768, 0] (k0_off4 (grid0.coords t) 768#32) rfl (o4 t 5) (inb _ rfl (by omega)) (inb _ (o4 t 5) (by omega)) (x 0) (x 1) (x 2) (y 1) (y 2) hx1 hx2
  · exact pieceB m c t (t.val % 8 * 1024 + 512) 128 640 (by omega) (.inl rfl) (by omega) (by omega) ![0, 640, 0] (k0_off4 (grid0.coords t) 640#32) rfl (o4 t 4) (inb _ rfl (by omega)) (inb _ (o4 t 4) (by omega)) (x 0) (x 1) (x 2) (y 1) (y 2) hx1 hx2
  · exact pieceB m c t (t.val % 8 * 1024 + 384) 128 512 (by omega) (.inl rfl) (by omega) (by omega) ![0, 512, 0] (k0_off4 (grid0.coords t) 512#32) rfl (o4 t 3) (inb _ rfl (by omega)) (inb _ (o4 t 3) (by omega)) (x 0) (x 1) (x 2) (y 1) (y 2) hx1 hx2
  · exact pieceB m c t (t.val % 8 * 1024 + 256) 128 384 (by omega) (.inl rfl) (by omega) (by omega) ![0, 384, 0] (k0_off4 (grid0.coords t) 384#32) rfl (o4 t 2) (inb _ rfl (by omega)) (inb _ (o4 t 2) (by omega)) (x 0) (x 1) (x 2) (y 1) (y 2) hx1 hx2
  · exact pieceB m c t (t.val % 8 * 1024 + 128) 128 256 (by omega) (.inl rfl) (by omega) (by omega) ![0, 256, 0] (k0_off4 (grid0.coords t) 256#32) rfl (o4 t 1) (inb _ rfl (by omega)) (inb _ (o4 t 1) (by omega)) (x 0) (x 1) (x 2) (y 1) (y 2) hx1 hx2
  · exact pieceB m c t (t.val % 8 * 1024 + 0) 128 128 (by omega) (.inl rfl) (by omega) (by omega) ![0, 128, 0] (k0_off4 (grid0.coords t) 128#32) rfl (o4 t 0) (inb _ rfl (by omega)) (inb _ (o4 t 0) (by omega)) (x 0) (x 1) (x 2) (y 1) (y 2) hx1 hx2
  · exact pieceB m c t (t.val % 8 * 1024 - 128) (dist t) 0 (by omega) (by unfold dist; omega) (by unfold dist; omega) (by omega) ![0, 0, 0] (k0_off3 (grid0.coords t)) rfl (o3 t) (inb _ rfl (by omega)) (inb _ (o3 t) (by omega)) (x 0) (x 1) (x 2) (y 1) (y 2) (by omega) hx2

end Cert.AttnfeKIdeal.Block

end
-- ==== Proof.AttnEClaim.lean ====
/-
  Banded attention with sinks: the kernel's three arrays are those of attention over all keys under the mask.
-/
module

public import proofs.«01_k».proof.Defs
public import proofs.«01_k».proof.Proof.AttnEValue
public import proofs.«01_k».proof.Proof.AttnSpan
public import proofs.«01_k».proof.Proof.Gen.AttnfeRIdeal.Run
public import proofs.«01_k».proof.Proof.Gen.AttnfeRIdeal.Read

@[expose] public section

set_option maxRecDepth 16384

noncomputable section

namespace Cert.AttnfeRIdeal.Read

open Cert.AttnfeRIdeal Cert.AttnfeRIdeal.Gen Cert.AttnfeRIdeal.Value Idealize.ShloMosaic Cert.Attn

variable (q : FVec Ideal S8192x512 .bf16) (k v : FVec Ideal S8192x128 .bf16) (z : FVec Ideal S1x8 .f32)

/-- The lane of a query head's element, and the column of its key. -/
abbrev elt (g : Fin 2) (j : Fin 4) (e : Fin 64) : Fin 512 := ⟨g.val * 256 + j.val * 64 + e.val, by omega⟩
abbrev kel (g : Fin 2) (e : Fin 64) : Fin 128 := ⟨g.val * 64 + e.val, by omega⟩
abbrev hd (g : Fin 2) (j : Fin 4) : Fin 8 := ⟨g.val * 4 + j.val, by omega⟩
/-- The arguments by row and lane, keys and values once per query head. -/
def rq (t : Fin 8192) (c : Fin 512) : EReal := q (ix2 t c)
def rk (t : Fin 8192) (c : Fin 512) : EReal := k (ix2 t (Cert.AttnfeKIdeal.Block.kv c))

theorem rk_elt (t : Fin 8192) (g : Fin 2) (j : Fin 4) (e : Fin 64) : rk k t (elt g j e) = k (ix2 t (kel g e)) :=
  congrArg (fun x => k (ix2 t x)) (Fin.ext (by show (g.val * 256 + j.val * 64 + e.val) / 256 * 64 + (g.val * 256 + j.val * 64 + e.val) % 64 = g.val * 64 + e.val; omega))

theorem v3_eq (t : Fin 8192) (g : Fin 2) (j : Fin 4) (e : Fin 64) : val_main_v3 (F := Ideal) q (ix4 t g j e) = rq q t (elt g j e) := by
  pointwise [val_main_v3, val_main_v0, rq]

theorem v4_eq (t : Fin 8192) (g : Fin 2) (e : Fin 64) : val_main_v4 (F := Ideal) k (ix3 t g e) = k (ix2 t (kel g e)) := by
  pointwise [val_main_v4, val_main_v1]

theorem v5_eq (t : Fin 8192) (g : Fin 2) (e : Fin 64) : val_main_v5 (F := Ideal) v (ix3 t g e) = v (ix2 t (kel g e)) := by
  pointwise [val_main_v5, val_main_v2]

theorem v9_eq (g : Fin 2) (j : Fin 4) (t u : Fin 8192) : val_main_v9 (F := Ideal) q k (ix4 g j t u)
    = (∑ e, rq q t (elt g j e) * k (ix2 u (kel g e))) * ((1 / 8 : ℝ) : EReal) := by
  pointwise [val_main_v9, val_main_v8, val_main_cst, val_main_v7, val_main_v6, v3_eq, v4_eq, lit_eighth]
  refine congrArg (· * _) (Finset.sum_congr rfl fun e _ => mul_comm _ _)

theorem v24_eq (t u : Fin 8192) : val_main_v24 (F := Ideal) (ix2 t u) = if u.val ≤ t.val ∧ t.val ≤ u.val + 127 then 1#1 else 0#1 := by
  rw [← span_iff t.val u.val 127 (by omega) (by omega) (by omega)]
  pointwise [val_main_v24, val_main_v23, val_main_v22, val_main_c_0, val_main_v21, val_main_v20, val_main_v19, val_main_v18, val_main_v17, val_main_c, val_main_v16,
    val_main_v15, val_main_v14, val_main_v13, val_main_v12, val_main_v11, val_main_v10]

theorem v25_eq (g : Fin 2) (j : Fin 4) (t u : Fin 8192) (e : Fin 64) : val_main_v25 (F := Ideal) q k (ix4 g j t u) = sc 127 (rq q) (rk k) t (elt g j e) u := by
  have hc : ∀ i, col (elt g j e) i = elt g j i := fun i => Fin.ext (by show (g.val * 256 + j.val * 64 + e.val) / 64 * 64 + i.val = g.val * 256 + j.val * 64 + i.val; omega)
  unfold sc band
  simp only [hc, rk_elt]
  rw [← v9_eq]
  generalize hs : val_main_v9 (F := Ideal) q k = s
  pointwise [val_main_v25, hs, val_main_call0_v1, v24_eq, val_main_call0_v2]
  by_cases hh : u.val ≤ t.val ∧ t.val ≤ u.val + 127
  · rw [if_pos hh, if_pos hh]
    rfl
  · rw [if_neg hh, if_neg hh]
    exact lit_bot

theorem v26_eq (g : Fin 2) (j : Fin 4) : val_main_v26 (F := Ideal) z (ix2 g j) = z (ix2 0 (hd g j)) := by
  pointwise [val_main_v26]

theorem v30_eq (g : Fin 2) (j : Fin 4) (t : Fin 8192) (e : Fin 64) : val_main_v30 (F := Ideal) q k z (ix3 g j t) = mxS 127 (rq q) (rk k) (z (ix2 0 (hd g j))) t (elt g j e) := by
  have hs : ∀ u, val_main_v25 (F := Ideal) q k (ix4 g j t u) = sc 127 (rq q) (rk k) t (elt g j e) u := fun u => v25_eq q k g j t u e
  generalize hx : val_main_v25 (F := Ideal) q k = s at hs
  have hm : val_main_v28 (F := Ideal) q k (ix3 g j t) = mx 127 (rq q) (rk k) t (elt g j e) := by
    pointwise [val_main_v28, hx, hs, val_main_cst_2, lit_bot]
  rw [val_main_v30_apply, hm]
  refine congrArg (max _) ?_
  pointwise [val_main_v29, val_main_v27, v26_eq]

theorem v34_eq (g : Fin 2) (j : Fin 4) (t u : Fin 8192) (e : Fin 64) : val_main_v34 (F := Ideal) q k z (ix4 g j t u)
    = Ideal.exp (sc 127 (rq q) (rk k) t (elt g j e) u - mxS 127 (rq q) (rk k) (z (ix2 0 (hd g j))) t (elt g j e)) := by
  have hs := v25_eq q k g j t u e
  have hm := v30_eq q k z g j t e
  generalize hx : val_main_v25 (F := Ideal) q k = s at hs
  generalize hy : val_main_v30 (F := Ideal) q k z = y at hm
  pointwise [val_main_v34, val_main_v33, val_main_v32, val_main_v31, hx, hy, hs, hm]

theorem v39_eq (g : Fin 2) (j : Fin 4) (t : Fin 8192) (e : Fin 64) : val_main_v39 (F := Ideal) q k z (ix3 g j t) = denS 127 (rq q) (rk k) (z (ix2 0 (hd g j))) t (elt g j e) := by
  have hs := fun u => v34_eq q k z g j t u e
  have hm := v30_eq q k z g j t e
  generalize hx : val_main_v34 (F := Ideal) q k z = s at hs
  generalize hy : val_main_v30 (F := Ideal) q k z = y at hm
  have h1 : val_main_v35 (F := Ideal) q k z (ix3 g j t) = ∑ u, Ideal.exp (sc 127 (rq q) (rk k) t (elt g j e) u - mxS 127 (rq q) (rk k) (z (ix2 0 (hd g j))) t (elt g j e)) := by
    pointwise [val_main_v35, hx, hs, val_main_cst_3]
  have h2 : val_main_v38 (F := Ideal) q k z (ix3 g j t) = Ideal.exp (z (ix2 0 (hd g j)) - mxS 127 (rq q) (rk k) (z (ix2 0 (hd g j))) t (elt g j e)) := by
    pointwise [val_main_v38, val_main_v37, val_main_v36, val_main_v27, v26_eq, hy, hm]
  rw [val_main_v39_apply, h1, h2]
  rfl

theorem v40_eq (g : Fin 2) (j : Fin 4) (t : Fin 8192) (e : Fin 64) : val_main_v40 (F := Ideal) q k v z (ix4 g e j t)
    = ∑ u, Ideal.exp (sc 127 (rq q) (rk k) t (elt g j e) u - mxS 127 (rq q) (rk k) (z (ix2 0 (hd g j))) t (elt g j e)) * rk v u (elt g j e) := by
  have hs := fun u => v34_eq q k z g j t u e
  generalize hx : val_main_v34 (F := Ideal) q k z = s at hs
  simp only [← hs, rk_elt]
  pointwise [val_main_v40, hx, v5_eq]
  exact Finset.sum_congr rfl fun u _ => mul_comm _ _

theorem elt_parts (c : Fin 512) : elt ⟨c.val / 256, by omega⟩ ⟨c.val / 64 % 4, by omega⟩ ⟨c.val % 64, by omega⟩ = c :=
  Fin.ext (by show c.val / 256 * 256 + c.val / 64 % 4 * 64 + c.val % 64 = c.val; omega)
theorem hd_parts (c : Fin 512) : hd ⟨c.val / 256, by omega⟩ ⟨c.val / 64 % 4, by omega⟩ = ⟨c.val / 64, by omega⟩ :=
  Fin.ext (by show c.val / 256 * 4 + c.val / 64 % 4 = c.val / 64; omega)

theorem v49_eq (b : Fin 1) (t : Fin 8192) (c : Fin 512) : val_main_v49 (F := Ideal) q k v z (ix3 b t c)
    = attS 127 (rq q) (rk k) (rk v) (z (ix2 0 ⟨c.val / 64, by omega⟩)) t c := by
  have h1 := v40_eq q k v z ⟨c.val / 256, by omega⟩ ⟨c.val / 64 % 4, by omega⟩ t ⟨c.val % 64, by omega⟩
  have h2 := v39_eq q k z ⟨c.val / 256, by omega⟩ ⟨c.val / 64 % 4, by omega⟩ t ⟨c.val % 64, by omega⟩
  rw [elt_parts, hd_parts] at h1 h2
  unfold attS
  rw [← h1, ← h2]
  generalize hx : val_main_v40 (F := Ideal) q k v z = x
  generalize hy : val_main_v39 (F := Ideal) q k z = y
  pointwise [val_main_v49, val_main_v45, val_main_v44, val_main_v43, val_main_v42, val_main_v41, hx, hy]

theorem v47_eq (g : Fin 2) (j : Fin 4) (t : Fin 8192) (e : Fin 64) : val_main_v47 (F := Ideal) q k z (ix3 g j t) = lseS 127 (rq q) (rk k) (z (ix2 0 (hd g j))) t (elt g j e) := by
  rw [val_main_v47_apply, val_main_v46_apply, v30_eq q k z g j t e, v39_eq q k z g j t e]
  rfl

theorem v52_eq (b : Fin 1) (t : Fin 8192) (c : Fin 512) : val_main_v52 (F := Ideal) q k z (ix3 b t c)
    = lseS 127 (rq q) (rk k) (z (ix2 0 ⟨c.val / 64, by omega⟩)) t c := by
  have h1 := v47_eq q k z ⟨c.val / 256, by omega⟩ ⟨c.val / 64 % 4, by omega⟩ t ⟨c.val % 64, by omega⟩
  rw [elt_parts, hd_parts] at h1
  rw [← h1]
  generalize hx : val_main_v47 (F := Ideal) q k z = x
  pointwise [val_main_v52, val_main_v51, val_main_v50, val_main_v48, hx]

theorem v53_eq (b : Fin 1) (t : Fin 8192) (c : Fin 512) : val_main_v53 (F := Ideal) q k v z (ix3 b t c)
    = attS 127 (rq q) (rk k) (rk v) (z (ix2 0 ⟨c.val / 64, by omega⟩)) t c := by
  rw [← v49_eq q k v z b t c]
  generalize hx : val_main_v49 (F := Ideal) q k v z = x
  pointwise [val_main_v53, hx]

end Cert.AttnfeRIdeal.Read

namespace Cert.AttnE

open Idealize.ShloMosaic Idealize.ShloMosaic.TcCoe Idealize.SL.Sem Cert.Attn Cert.AttnfeKIdeal.Block

/-- The attention's rows, in both widths, and the logarithms of its weights' sums are those of the masked attention over all keys. -/
theorem claim : @Cert.algebraic_AttnfeKIdeal_AttnfeRIdeal Cert.AttnfeKIdeal.Gen.facts Cert.AttnfeRIdeal.Gen.facts := by
  intro m g m' g' _ hargs
  refine ⟨fun c => (AttnfeKIdeal.Gen.dats m 0 c).arrAt 4 _, fun c => (AttnfeKIdeal.Gen.dats m 0 c).arrAt 5 _, fun c => (AttnfeKIdeal.Gen.dats m 0 c).arrAt 6 _,
    AttnfeKIdeal.Value.run_blocks m g, (θ_run AttnfeRIdeal.defs _ _).mono (fun r h c => ?_) (AttnfeRIdeal.Value.run m' g')⟩
  obtain ⟨a0, a1, a2, a3⟩ := hargs c
  obtain ⟨h0, h1, h2, k⟩ := h c
  have e0 : AttnfeRIdeal.Value.res_main_v49 m' c = AttnfeRIdeal.Read.val_main_v49 (F := Ideal) (vq m c) (vk m c) (vv m c) (vs m c) := by
    unfold AttnfeRIdeal.Value.res_main_v49
    rw [a0, a1, a2, a3]
    rfl
  have e1 : AttnfeRIdeal.Value.res_main_v52 m' c = AttnfeRIdeal.Read.val_main_v52 (F := Ideal) (vq m c) (vk m c) (vs m c) := by
    unfold AttnfeRIdeal.Value.res_main_v52
    rw [a0, a1, a3]
    rfl
  have e2 : AttnfeRIdeal.Value.res_main_v53 m' c = AttnfeRIdeal.Read.val_main_v53 (F := Ideal) (vq m c) (vk m c) (vv m c) (vs m c) := by
    unfold AttnfeRIdeal.Value.res_main_v53
    rw [a0, a1, a2, a3]
    rfl
  refine ⟨((h0.trans e0).trans ?_).trans (final4 m c).symm, ((h1.trans e1).trans ?_).trans (final5 m c).symm,
    ((h2.trans e2).trans ?_).trans (final6 m c).symm, k⟩
  · exact funext fun i => (congrArg _ (ix3_eta i).symm).trans (AttnfeRIdeal.Read.v49_eq _ _ _ _ _ _ _)
  · exact funext fun i => (congrArg _ (ix3_eta i).symm).trans (AttnfeRIdeal.Read.v52_eq _ _ _ _ _ _)
  · exact funext fun i => (congrArg _ (ix3_eta i).symm).trans (AttnfeRIdeal.Read.v53_eq _ _ _ _ _ _ _)

/-- The reference runs to its end and leaves its arguments and counters as they were: it declares no semaphore. -/
theorem refFrame : @Cert.quiescent_AttnfeRIdeal Cert.AttnfeRIdeal.Gen.facts := fun m ρ _ =>
  (θ_run AttnfeRIdeal.defs _ _).mono (fun r h => ⟨fun c => (h c).2.2.2, Idealize.ShloMosaic.sem_eq_zero_of_no_sems (by decide) r.2⟩)
    (AttnfeRIdeal.Value.run m ρ)

end Cert.AttnE

end
-- ==== Proof.AttnBack.lean ====
/-
  One block of the gradient of banded attention as the kernels compute it: 128 rows of two heads, stacked to 256 rows,
  against a window of 256 keys. Each lemma reads a run of the kernel's operations at an entry.
-/
module

public import proofs.«01_k».proof.Proof.AttnBlock
public import proofs.«01_k».proof.Proof.Gen.Attnb16KIdeal.Skeleton
public import Idealize.ShloMosaic.Lib.Tactic

@[expose] public section

set_option maxRecDepth 16384

noncomputable section

namespace Cert.AttnB

open Cert.Attnb16KIdeal Cert.Attnb16KIdeal.Gen Idealize.ShloMosaic Idealize.ShloMosaic.TcCoe Cert.Attn

/-- Nothing, on every lane. -/
abbrev nil : FVec Ideal S128x128 .f32 := broadcast S128x128 (Scalar.ofBits .f32 0x00000000#32 : Ideal .f32)
/-- The two heads of a block, one under the other, each with the other's lanes cleared. -/
abbrev stackF (x : FVec Ideal S128x128 .f32) : FVec Ideal S256x128 .f32 :=
  concatenate S256x128 0 [⟨S128x128, select lo x nil⟩, ⟨S128x128, select lo nil x⟩] concatenates_S128x128_S128x128_S256x128_d0
/-- The lanes of the two heads exchanged. -/
abbrev swap (x : FVec Ideal S128x128 .f32) : FVec Ideal S128x128 .f32 := dynamicRotate 1 64#32 none x rotates_S128x128_d1
/-- Each head's value of a row on all lanes. -/
abbrev both (x : FVec Ideal S128x128 .f32) : FVec Ideal S256x128 .f32 :=
  concatenate S256x128 0 [⟨S128x128, select lo x (swap x)⟩, ⟨S128x128, select lo (swap x) x⟩] concatenates_S128x128_S128x128_S256x128_d0
/-- The weights, from the logarithms of their sums. -/
abbrev wtsB (s : FVec Ideal S256x256 .f32) (x : FVec Ideal S256x128 .f32) : FVec Ideal S256x256 .f32 :=
  exp (subf s (concatenate S256x256 1 [⟨S256x128, x⟩, ⟨S256x128, x⟩] concatenates_S256x128_S256x128_S256x256_d1))
/-- The products of the cotangent's rows with the values. -/
abbrev dots (d : FVec Ideal S128x128 .bf16) (v : FVec Ideal S256x128 .bf16) : FVec Ideal S256x256 .f32 :=
  matmul dot_S256x128_S256x128_S256x256_1_1_0_0_n_n none (stack d) v (constant S256x256 .f32 0x00000000#32)
/-- The products of the cotangent's rows with the output's. -/
abbrev self (d : FVec Ideal S128x128 .f32) (o : FVec Ideal S128x128 .f32) : FVec Ideal S256x1 .f32 :=
  shapeCast S256x1 (multiReduction .add [1] S256 (stackF (mulf d o)) 0x00000000#32 reduces_S256x128_S256 (.inl rfl) rfl) shapeCasts_S256_S256x1
/-- The scores' gradient. -/
abbrev dsB (p dp : FVec Ideal S256x256 .f32) (z : FVec Ideal S256x1 .f32) : FVec Ideal S256x256 .bf16 :=
  truncf .bf16 (mulf (mulf p (subf dp (broadcastTo S256x256 z broadcasts_S256x1_S256x256))) (broadcast S256x256 (Scalar.ofBits .f32 0x3E000000#32 : Ideal .f32))) bitsLt_bf16_f32
/-- The queries' gradient. -/
abbrev dqB (s : FVec Ideal S256x256 .bf16) (k : FVec Ideal S256x128 .bf16) : FVec Ideal S128x128 .f32 :=
  unstack (matmul dot_S256x256_S256x128_S256x128_1_0_0_1_n_n none s k (constant S256x128 .f32 0x00000000#32))
/-- A product over the stacked rows, added to what the window held. -/
abbrev upd (s : FVec Ideal S256x256 .bf16) (x : FVec Ideal S128x128 .bf16) (old : FVec Ideal S256x128 .f32) : FVec Ideal S256x128 .f32 :=
  addf (matmul dot_S256x256_S256x128_S256x128_0_0_1_1_n_n none s (stack x) (constant S256x128 .f32 0x00000000#32)) old

theorem stackF_apply (x : FVec Ideal S128x128 .f32) (a : Fin 256) (y : Fin 128) :
    stackF x (ix2 a y) = if y.val / 64 = a.val / 128 then x (ix2 (sub a) y) else 0 := by
  refine Eq.trans ?_ (stack_apply (x : FVec Ideal S128x128 .bf16) a y)
  have hz : (nil : S128x128.Idx → EReal) = (broadcast S128x128 (Scalar.ofBits .bf16 0x0000#16 : Ideal .bf16) : FVec Ideal S128x128 .bf16) := funext fun i =>
    (show Ideal.ofBits .f32 0x00000000#32 = Ideal.ofBits .bf16 0x0000#16 by simp [Ideal.ofBits, Ideal.ieee])
  unfold stackF stack
  rw [hz]

/-- The lane that holds lane `l`'s head at lane `y` of the other's half or its own. -/
theorem both_apply (x : FVec Ideal S128x128 .f32) (r l y : Fin 128) (L : EReal) (hx : ∀ e, x (ix2 r (lane (half l) e)) = L) :
    both x (ix2 (row r l) y) = L := by
  have hl : ∀ z : Fin 128, z.val / 64 = l.val / 64 → x (ix2 r z) = L := fun z hz => by
    rw [← hx ⟨z.val % 64, by omega⟩]
    exact congrArg (fun i => x (ix2 r i)) (Fin.ext (by show z.val = l.val / 64 * 64 + z.val % 64; omega))
  by_cases h : l.val < 64 <;> by_cases hy : y.val < 64
  · rw [row_lo r l h]
    pointwise [both, lo_apply, hy]
    exact hl _ (by omega)
  · rw [row_lo r l h]
    pointwise [both, lo_apply, hy]
    exact hl _ (by show (y.val + 128 - 64) % 128 / 64 = _; omega)
  · rw [row_hi r l h]
    pointwise [both, lo_apply, hy]
    exact hl _ (by show (y.val + 128 - 64) % 128 / 64 = _; omega)
  · rw [row_hi r l h]
    pointwise [both, lo_apply, hy]
    exact hl _ (by omega)

theorem wtsB_apply (s : FVec Ideal S256x256 .f32) (x : FVec Ideal S256x128 .f32) (a u : Fin 256) (L : EReal) (hx : ∀ y, x (ix2 a y) = L) :
    wtsB s x (ix2 a u) = Ideal.exp (s (ix2 a u) - L) := by
  by_cases h : u.val < 128
  · pointwise [wtsB, hx, h]
  · pointwise [wtsB, hx, h]

theorem dots_apply (d : FVec Ideal S128x128 .bf16) (v : FVec Ideal S256x128 .bf16) (a u : Fin 256) :
    dots d v (ix2 a u) = ∑ x : Fin 128, stack d (ix2 a x) * v (ix2 u x) := by
  pointwise [dots]

theorem self_apply (d : FVec Ideal S128x128 .f32) (o : FVec Ideal S128x128 .f32) (a : Fin 256) (z : Fin 1) :
    self d o (ix2 a z) = ∑ x : Fin 128, stackF (mulf d o) (ix2 a x) := by
  generalize hs : stackF (mulf d o) = s
  pointwise [self, hs]

theorem dsB_apply (p dp : FVec Ideal S256x256 .f32) (z : FVec Ideal S256x1 .f32) (a u : Fin 256) :
    dsB p dp z (ix2 a u) = p (ix2 a u) * (dp (ix2 a u) - z (ix2 a 0)) * ((1 / 8 : ℝ) : EReal) := by
  pointwise [dsB, lit_eighth]

theorem dqB_apply (s : FVec Ideal S256x256 .bf16) (k : FVec Ideal S256x128 .bf16) (r l : Fin 128) :
    dqB s k (ix2 r l) = ∑ u, s (ix2 (row r l) u) * k (ix2 u l) := by
  unfold dqB
  rw [unstack_apply]
  pointwise []

theorem upd_apply (s : FVec Ideal S256x256 .bf16) (x : FVec Ideal S128x128 .bf16) (old : FVec Ideal S256x128 .f32) (u : Fin 256) (l : Fin 128) :
    upd s x old (ix2 u l) = (∑ a : Fin 256, s (ix2 a u) * stack x (ix2 a l)) + old (ix2 u l) := by
  generalize hs : stack x = y
  pointwise [upd, hs]

/-- A product over the stacked rows only meets the rows of the lane's own head. -/
theorem rows_sum (x : FVec Ideal S128x128 .bf16) (f : Fin 256 → EReal) (l : Fin 128) :
    ∑ a, f a * stack x (ix2 a l) = ∑ r : Fin 128, f (row r l) * x (ix2 r l) := by
  simp only [stack_apply, mul_ite, mul_zero]
  rw [← Finset.sum_filter]
  symm
  refine Finset.sum_bij (fun r _ => row r l) ?_ ?_ ?_ ?_
  · intro r _
    simp only [Finset.mem_filter, Finset.mem_univ, true_and]
    show l.val / 64 = (r.val + l.val / 64 * 128) / 128
    omega
  · intro a _ b _ h
    have h' : a.val + l.val / 64 * 128 = b.val + l.val / 64 * 128 := congrArg Fin.val h
    exact Fin.ext (by omega)
  · intro a ha
    have ha' : l.val / 64 = a.val / 128 := by simpa using ha
    exact ⟨sub a, Finset.mem_univ _, Fin.ext (by show a.val % 128 + l.val / 64 * 128 = a.val; omega)⟩
  · intro r _
    have : sub (row r l) = r := Fin.ext (by show (r.val + l.val / 64 * 128) % 128 = r.val; omega)
    rw [this]

/-- The same for a sum of stacked rows over the lanes. -/
theorem self_sum (d o : FVec Ideal S128x128 .f32) (r l : Fin 128) (z : Fin 1) :
    self d o (ix2 (row r l) z) = ∑ e, d (ix2 r (lane (half l) e)) * o (ix2 r (lane (half l) e)) := by
  rw [self_apply]
  have h := stack_sum (mulf d o : FVec Ideal S128x128 .f32) (fun _ => 1) r l
  simp only [mul_one, stack_apply] at h
  simp only [stackF_apply]
  exact h

/-- Row `r` of the block whose first row is `off` after its window's start. -/
abbrev tt {n : ℕ} (st off : ℕ) (hn : st + 256 ≤ n) (ho : off = 128 ∨ st = 0 ∧ off = 0) (r : Fin 128) : Fin n := ⟨st + off + r.val, by omega⟩

/-- A lane's element within its head. -/
abbrev elm (l : Fin 128) : Fin 64 := ⟨l.val % 64, by omega⟩
theorem lane_self (l : Fin 128) : lane (half l) (elm l) = l := Fin.ext (by show l.val / 64 * 64 + l.val % 64 = l.val; omega)

section Head

variable {n : ℕ} (w : ℕ) (Q K V D O : Fin n → Fin 64 → EReal) (L : Fin n → EReal)

/-- The weight of key `u` for row `t`, from the logarithm of the weights' sum. -/
def wt (t u : Fin n) : EReal := Ideal.exp (band w (Q t) K t.val u - L t)
/-- The gradient of the score of row `t` at key `u`. -/
def gd (t u : Fin n) : EReal := wt w Q K L t u * ((∑ e, D t e * V u e) - ∑ e, D t e * O t e) * ((1 / 8 : ℝ) : EReal)

theorem wt_out (t u : Fin n) (h : ¬ (u.val ≤ t.val ∧ t.val ≤ u.val + w)) : wt w Q K L t u = 0 := by
  rw [wt, band, if_neg h, exp_bot_sub]

theorem gd_out (t u : Fin n) (h : ¬ (u.val ≤ t.val ∧ t.val ≤ u.val + w)) : gd w Q K V D O L t u = 0 := by
  rw [gd, wt_out w Q K L t u h, zero_mul, zero_mul]

variable (st off : ℕ) (hn : st + 256 ≤ n) (hw : w ≤ 128) (ho : off = 128 ∨ st = 0 ∧ off = 0)

variable (l : Fin 128) (valid : IVec S256x256 1)
  (hv : ∀ a j : Fin 256, valid (ix2 a j) = 1#1 ↔ j.val ≤ a.val % 128 + off ∧ a.val % 128 + off ≤ j.val + w)
  (q d : FVec Ideal S128x128 .bf16) (k v : FVec Ideal S256x128 .bf16) (dF o ls : FVec Ideal S128x128 .f32)
  (hq : ∀ r e, q (ix2 r (lane (half l) e)) = Q (tt st off hn ho r) e)
  (hd : ∀ r e, d (ix2 r (lane (half l) e)) = D (tt st off hn ho r) e)
  (hdF : ∀ r e, dF (ix2 r (lane (half l) e)) = D (tt st off hn ho r) e)
  (hO : ∀ r e, o (ix2 r (lane (half l) e)) = O (tt st off hn ho r) e)
  (hL : ∀ r e, ls (ix2 r (lane (half l) e)) = L (tt st off hn ho r))
  (hk : ∀ (j : Fin 256) e, k (ix2 j (lane (half l) e)) = K (key st hn j) e)
  (hV : ∀ (j : Fin 256) e, v (ix2 j (lane (half l) e)) = V (key st hn j) e)

include hv hq hk hL in
theorem wtsB_eq (r : Fin 128) (j : Fin 256) : wtsB (scores valid q k) (both ls) (ix2 (row r l) j) = wt w Q K L (tt st off hn ho r) (key st hn j) := by
  rw [wtsB_apply _ _ _ _ (L (tt st off hn ho r)) fun y => both_apply ls r l y _ (hL r),
    scores_eq w st off hn r l valid hv q k (Q (tt st off hn ho r)) K (hq r) hk j]
  rfl

include hv hq hd hdF hO hL hk hV in
theorem dsB_eq (r : Fin 128) (j : Fin 256) : dsB (wtsB (scores valid q k) (both ls)) (dots d v) (self dF o) (ix2 (row r l) j)
    = gd w Q K V D O L (tt st off hn ho r) (key st hn j) := by
  rw [dsB_apply, wtsB_eq w Q K L st off hn ho l valid hv q k ls hq hL hk r j, dots_apply, stack_sum, self_sum]
  simp only [hd, hV, hdF, hO]
  rfl

include hw hv hq hd hdF hO hL hk hV in
/-- The queries' gradient of a block's row is the sum over all keys. -/
theorem dqB_eq (r : Fin 128) : dqB (dsB (wtsB (scores valid q k) (both ls)) (dots d v) (self dF o)) k (ix2 r l)
    = ∑ u, gd w Q K V D O L (tt st off hn ho r) u * K u (elm l) := by
  rw [dqB_apply, sum_window _ st hn fun u h => by
    rw [gd_out w Q K V D O L _ u (by show ¬ (u.val ≤ st + off + r.val ∧ st + off + r.val ≤ u.val + w); omega), zero_mul]]
  refine Finset.sum_congr rfl fun j _ => ?_
  rw [dsB_eq w Q K V D O L st off hn ho l valid hv q d k v dF o ls hq hd hdF hO hL hk hV r j, ← hk, lane_self]

include hv hq hd hdF hO hL hk hV in
/-- The keys' gradient gains the block's rows. -/
theorem dkB_eq (old : FVec Ideal S256x128 .f32) (j : Fin 256) : upd (dsB (wtsB (scores valid q k) (both ls)) (dots d v) (self dF o)) q old (ix2 j l)
    = (∑ r : Fin 128, gd w Q K V D O L (tt st off hn ho r) (key st hn j) * Q (tt st off hn ho r) (elm l)) + old (ix2 j l) := by
  rw [upd_apply, rows_sum]
  congr 1
  refine Finset.sum_congr rfl fun r _ => ?_
  rw [dsB_eq w Q K V D O L st off hn ho l valid hv q d k v dF o ls hq hd hdF hO hL hk hV r j, ← hq, lane_self]

include hv hq hd hL hk in
/-- The values' gradient gains the block's rows. -/
theorem dvB_eq (old : FVec Ideal S256x128 .f32) (j : Fin 256) : upd (truncf .bf16 (wtsB (scores valid q k) (both ls)) bitsLt_bf16_f32) d old (ix2 j l)
    = (∑ r : Fin 128, wt w Q K L (tt st off hn ho r) (key st hn j) * D (tt st off hn ho r) (elm l)) + old (ix2 j l) := by
  rw [upd_apply, rows_sum]
  congr 1
  refine Finset.sum_congr rfl fun r _ => ?_
  rw [show (truncf .bf16 (wtsB (scores valid q k) (both ls)) bitsLt_bf16_f32 : FVec Ideal S256x256 .bf16) (ix2 (row r l) j) = wt w Q K L (tt st off hn ho r) (key st hn j)
    from wtsB_eq w Q K L st off hn ho l valid hv q k ls hq hL hk r j, ← hd, lane_self]

end Head

section Sum

variable {n : ℕ} (f : Fin n → EReal)

/-- The sum over the rows of the first `b` blocks. -/
def acc (b : ℕ) : EReal := ∑ t : Fin n, if t.val < 128 * b then f t else 0

theorem acc_zero : acc f 0 = 0 := Finset.sum_eq_zero fun t _ => if_neg (by omega)

theorem acc_all (b : ℕ) (h : n ≤ 128 * b) : acc f b = ∑ t, f t := Finset.sum_congr rfl fun t _ => if_pos (by omega)

theorem acc_succ (b : ℕ) (h : 128 * b + 128 ≤ n) (p : Fin 128 → Fin n) (hp : ∀ r, (p r).val = 128 * b + r.val) :
    acc f (b + 1) = (∑ r, f (p r)) + acc f b := by
  have e : ∑ r, f (p r) = ∑ t : Fin n, if 128 * b ≤ t.val ∧ t.val < 128 * b + 128 then f t else 0 := by
    rw [← Finset.sum_filter]
    refine Finset.sum_bij (fun r _ => p r) ?_ ?_ ?_ ?_
    · intro r _
      simp only [Finset.mem_filter, Finset.mem_univ, true_and]
      have := hp r
      omega
    · intro a _ c _ hac
      have h1 := hp a
      have h2 := hp c
      have : (p a).val = (p c).val := congrArg Fin.val hac
      exact Fin.ext (by omega)
    · intro t ht
      have ht' : 128 * b ≤ t.val ∧ t.val < 128 * b + 128 := by simpa using ht
      exact ⟨⟨t.val - 128 * b, by omega⟩, Finset.mem_univ _, Fin.ext (by rw [hp]; show 128 * b + (t.val - 128 * b) = t.val; omega)⟩
    · intro _ _; rfl
  rw [e, acc, acc, ← Finset.sum_add_distrib]
  refine Finset.sum_congr rfl fun t _ => ?_
  by_cases h1 : t.val < 128 * b
  · rw [if_pos (by omega), if_neg (by omega), if_pos h1, zero_add]
  · by_cases h2 : t.val < 128 * b + 128
    · rw [if_pos (by omega), if_pos (by omega), if_neg h1, add_zero]
    · rw [if_neg (by omega), if_neg (by omega), if_neg h1, add_zero]

/-- A block none of whose rows counts leaves the sum. -/
theorem acc_skip (b : ℕ) (h : 128 * b + 128 ≤ n) (p : Fin 128 → Fin n) (hp : ∀ r, (p r).val = 128 * b + r.val) (h0 : ∀ r, f (p r) = 0) :
    acc f (b + 1) = acc f b := by
  rw [acc_succ f b h p hp, Finset.sum_eq_zero fun r _ => h0 r, zero_add]

end Sum

section Window

variable {n : ℕ} (P : List (View.Piece (Elt Ideal) ⟨2, ![n, 128]⟩ .f32)) (f g : Fin n → Fin 128 → EReal) (st : ℕ) (hn : st + 256 ≤ n)
  (off : Fin 2 → ℕ) (ho : off = ![st, 0]) (hb : ∀ a, off a + (![256, 128] : Fin 2 → ℕ) a ≤ (![n, 128] : Fin 2 → ℕ) a)

include ho in
/-- A window read back from what the stores so far left. -/
theorem read_window (hP : ∀ u x, View.canon P (ix2 u x) = f u x) {sig : RefSig} {κ : Kind} {sp : Space} (W : View sig κ sp ⟨2, ![n, 128]⟩ .f32) (j : Fin 256) (x : Fin 128) :
    W.readCov P (Rect.unit (s := ⟨2, ![n, 128]⟩) off ![256, 128] hb).toLoadRect (ix2 j x) = f (key st hn j) x := by
  subst ho
  rw [View.readCov_eq_canon', ← hP]
  exact congrArg (View.canon P) (by funext a; fin_cases a <;> exact Fin.ext (by simp [Rect.unit, Rect.emb]))

include ho in
/-- A store to a window changes the window and nothing else. -/
theorem store_window (hP : ∀ u x, View.canon P (ix2 u x) = f u x) (w : (⟨2, ![256, 128]⟩ : Shape).Idx → EReal) (hw : ∀ j x, w (ix2 j x) = g (key st hn j) x)
    (hg : ∀ u x, (u.val < st ∨ st + 256 ≤ u.val) → g u x = f u x) (u : Fin n) (x : Fin 128) :
    View.canon ((⟨Rect.unit (s := ⟨2, ![n, 128]⟩) off ![256, 128] hb, w⟩ : View.Piece (Elt Ideal) ⟨2, ![n, 128]⟩ .f32) :: P) (ix2 u x) = g u x := by
  subst ho
  by_cases h : u.val < st ∨ st + 256 ≤ u.val
  · rw [View.canon_cons_of_not_mem, hP, hg u x h]
    intro hm
    have := (Rect.mem_set_unit (s := ⟨2, ![n, 128]⟩) (off := ![st, 0]) (size := ![256, 128]) (inb := hb) (i := ix2 u x)).mp hm (0 : Fin 2)
    have h' : st ≤ u.val ∧ u.val < st + 256 := this
    omega
  · have e : (ix2 u x : (⟨2, ![n, 128]⟩ : Shape).Idx) = (Rect.unit (s := ⟨2, ![n, 128]⟩) ![st, 0] ![256, 128] hb).emb (ix2 (⟨u.val - st, by omega⟩ : Fin 256) x) := by
      funext a
      fin_cases a
      · exact Fin.ext (by simp [Rect.unit, Rect.emb]; omega)
      · exact Fin.ext (by simp [Rect.unit, Rect.emb])
    rw [e]
    refine (View.canon_cons_emb (Val := Elt Ideal) (e := .f32) (Rect.unit (s := ⟨2, ![n, 128]⟩) ![st, 0] ![256, 128] hb) w P (ix2 (⟨u.val - st, by omega⟩ : Fin 256) x)).trans ((hw _ _).trans ?_)
    exact congrArg (fun i => g i x) (Fin.ext (by show st + (u.val - st) = u.val; omega))

end Window

section Out

variable (s : BitVec 32) (q : Vec Ideal S1x128x128 .bf16) (k v : Vec Ideal S1x256x128 .bf16) (d : FVec Ideal S128x128 .f32) (o ls : Vec Ideal S1x128x128 .f32)

/-- A block's weights, as a kernel computes them from what it loads. -/
abbrev wtsO : FVec Ideal S256x256 .f32 :=
  wtsB (scores (seen 128#32 s) (shapeCast S128x128 q shapeCasts_S1x128x128_S128x128) (shapeCast S256x128 k shapeCasts_S1x256x128_S256x128))
    (both (shapeCast S128x128 ls shapeCasts_S1x128x128_S128x128))
/-- The scores' gradient. -/
abbrev dsO : FVec Ideal S256x256 .bf16 :=
  dsB (wtsO s q k ls) (dots (truncf .bf16 d bitsLt_bf16_f32) (shapeCast S256x128 v shapeCasts_S1x256x128_S256x128))
    (self d (shapeCast S128x128 o shapeCasts_S1x128x128_S128x128))
/-- The queries' gradient, as a kernel stores it. -/
abbrev outQ : FVec Ideal S1x128x128 .bf16 :=
  shapeCast S1x128x128 (truncf .bf16 (dqB (dsO s q k v d o ls) (shapeCast S256x128 k shapeCasts_S1x256x128_S256x128)) bitsLt_bf16_f32) shapeCasts_S128x128_S1x128x128
/-- The keys' gradient so far, as a kernel stores it. -/
abbrev outK (old : Vec Ideal S256x128 .f32) : FVec Ideal S256x128 .f32 :=
  shapeCast S256x128 (upd (dsO s q k v d o ls) (shapeCast S128x128 q shapeCasts_S1x128x128_S128x128) old) shapeCasts_S256x128_S256x128
/-- The values' gradient so far. -/
abbrev outV (old : Vec Ideal S256x128 .f32) : FVec Ideal S256x128 .f32 :=
  shapeCast S256x128 (upd (truncf .bf16 (wtsO s q k ls) bitsLt_bf16_f32) (truncf .bf16 d bitsLt_bf16_f32) old) shapeCasts_S256x128_S256x128

variable {n : ℕ} (Q K V D O : Fin 2 → Fin n → Fin 64 → EReal) (L : Fin 2 → Fin n → EReal) (st off : ℕ) (hn : st + 256 ≤ n) (ho : off = 128 ∨ st = 0 ∧ off = 0)
  (hs : s = BitVec.ofNat 32 off)
  (hq : ∀ h r e, q (ix3 0 r (lane h e)) = Q h (tt st off hn ho r) e)
  (hd : ∀ h r e, d (ix2 r (lane h e)) = D h (tt st off hn ho r) e)
  (hO : ∀ h r e, o (ix3 0 r (lane h e)) = O h (tt st off hn ho r) e)
  (hL : ∀ h r e, ls (ix3 0 r (lane h e)) = L h (tt st off hn ho r))
  (hk : ∀ h (j : Fin 256) e, k (ix3 0 j (lane h e)) = K h (key st hn j) e)
  (hV : ∀ h (j : Fin 256) e, v (ix3 0 j (lane h e)) = V h (key st hn j) e)

include hs hq hd hO hL hk hV in
theorem outQ_apply (z : Fin 1) (r l : Fin 128) : outQ s q k v d o ls (ix3 z r l)
    = ∑ u, gd 128 (Q (half l)) (K (half l)) (V (half l)) (D (half l)) (O (half l)) (L (half l)) (tt st off hn ho r) u * K (half l) u (elm l) := by
  subst hs
  have e := dqB_eq 128 (Q (half l)) (K (half l)) (V (half l)) (D (half l)) (O (half l)) (L (half l)) st off hn (le_refl _) ho l _ (seen_iff 128 off (le_refl _) (by omega))
    (shapeCast S128x128 q shapeCasts_S1x128x128_S128x128) (truncf .bf16 d bitsLt_bf16_f32) (shapeCast S256x128 k shapeCasts_S1x256x128_S256x128)
    (shapeCast S256x128 v shapeCasts_S1x256x128_S256x128) d (shapeCast S128x128 o shapeCasts_S1x128x128_S128x128) (shapeCast S128x128 ls shapeCasts_S1x128x128_S128x128)
    (fun r e => by pointwise [hq]) (fun r e => by pointwise [hd]) (fun r e => hd _ r e) (fun r e => by pointwise [hO]) (fun r e => by pointwise [hL])
    (fun r e => by pointwise [hk]) (fun r e => by pointwise [hV]) r
  rw [← e]
  unfold outQ dsO wtsO
  generalize dqB _ _ = y
  pointwise []

include hs hq hd hO hL hk hV in
theorem outK_apply (old : Vec Ideal S256x128 .f32) (j : Fin 256) (l : Fin 128) : outK s q k v d o ls old (ix2 j l)
    = (∑ r, gd 128 (Q (half l)) (K (half l)) (V (half l)) (D (half l)) (O (half l)) (L (half l)) (tt st off hn ho r) (key st hn j) * Q (half l) (tt st off hn ho r) (elm l)) + old (ix2 j l) := by
  subst hs
  have e := dkB_eq 128 (Q (half l)) (K (half l)) (V (half l)) (D (half l)) (O (half l)) (L (half l)) st off hn ho l _ (seen_iff 128 off (le_refl _) (by omega))
    (shapeCast S128x128 q shapeCasts_S1x128x128_S128x128) (truncf .bf16 d bitsLt_bf16_f32) (shapeCast S256x128 k shapeCasts_S1x256x128_S256x128)
    (shapeCast S256x128 v shapeCasts_S1x256x128_S256x128) d (shapeCast S128x128 o shapeCasts_S1x128x128_S128x128) (shapeCast S128x128 ls shapeCasts_S1x128x128_S128x128)
    (fun r e => by pointwise [hq]) (fun r e => by pointwise [hd]) (fun r e => hd _ r e) (fun r e => by pointwise [hO]) (fun r e => by pointwise [hL])
    (fun r e => by pointwise [hk]) (fun r e => by pointwise [hV]) old j
  rw [← e]
  unfold outK dsO wtsO
  generalize upd _ _ _ = y
  pointwise []

include hs hq hd hL hk in
theorem outV_apply (old : Vec Ideal S256x128 .f32) (j : Fin 256) (l : Fin 128) : outV s q k d ls old (ix2 j l)
    = (∑ r, wt 128 (Q (half l)) (K (half l)) (L (half l)) (tt st off hn ho r) (key st hn j) * D (half l) (tt st off hn ho r) (elm l)) + old (ix2 j l) := by
  subst hs
  have e := dvB_eq 128 (Q (half l)) (K (half l)) (D (half l)) (L (half l)) st off hn ho l _ (seen_iff 128 off (le_refl _) (by omega))
    (shapeCast S128x128 q shapeCasts_S1x128x128_S128x128) (truncf .bf16 d bitsLt_bf16_f32) (shapeCast S256x128 k shapeCasts_S1x256x128_S256x128)
    (shapeCast S128x128 ls shapeCasts_S1x128x128_S128x128)
    (fun r e => by pointwise [hq]) (fun r e => by pointwise [hd]) (fun r e => by pointwise [hL])
    (fun r e => by pointwise [hk]) old j
  rw [← e]
  unfold outV wtsO
  generalize upd _ _ _ = y
  pointwise []

/-- What the keys' gradient gains from row `t`. -/
def gk (u : Fin n) (x : Fin 128) (t : Fin n) : EReal :=
  gd 128 (Q (half x)) (K (half x)) (V (half x)) (D (half x)) (O (half x)) (L (half x)) t u * Q (half x) t (elm x)
/-- What the values' gradient gains from row `t`. -/
def gv (u : Fin n) (x : Fin 128) (t : Fin n) : EReal := wt 128 (Q (half x)) (K (half x)) (L (half x)) t u * D (half x) t (elm x)

variable (b : ℕ) (hb : st + off = 128 * b) (P : List (View.Piece (Elt Ideal) ⟨2, ![n, 128]⟩ .f32)) {sig : RefSig} {κ : Kind} {sp : Space} (W : View sig κ sp ⟨2, ![n, 128]⟩ .f32)
  (p p' : Fin 2 → ℕ) (hp : p = ![st, 0]) (hp' : p' = ![st, 0]) (hi : ∀ a, p a + (![256, 128] : Fin 2 → ℕ) a ≤ (![n, 128] : Fin 2 → ℕ) a)
  (hi' : ∀ a, p' a + (![256, 128] : Fin 2 → ℕ) a ≤ (![n, 128] : Fin 2 → ℕ) a)

include hs hq hd hO hL hk hV hb hp hp' in
/-- One block's store to the keys' gradient adds its rows. -/
theorem stepK (hP : ∀ u x, View.canon P (ix2 u x) = acc (gk Q K V D O L u x) b) (u : Fin n) (x : Fin 128) :
    View.canon ((⟨Rect.unit (s := ⟨2, ![n, 128]⟩) p ![256, 128] hi,
      outK s q k v d o ls (W.readCov P (Rect.unit (s := ⟨2, ![n, 128]⟩) p' ![256, 128] hi').toLoadRect)⟩ : View.Piece (Elt Ideal) ⟨2, ![n, 128]⟩ .f32) :: P) (ix2 u x)
      = acc (gk Q K V D O L u x) (b + 1) := by
  refine store_window P (fun u x => acc (gk Q K V D O L u x) b) (fun u x => acc (gk Q K V D O L u x) (b + 1)) st hn p hp hi hP _ (fun j x => ?_) (fun u x h => ?_) u x
  · rw [outK_apply s q k v d o ls Q K V D O L st off hn ho hs hq hd hO hL hk hV, read_window P (fun u x => acc (gk Q K V D O L u x) b) st hn p' hp' hi' hP W j x,
      acc_succ _ b (by omega) (tt st off hn ho) (fun r => by show st + off + r.val = _; omega)]
    rfl
  · refine acc_skip _ b (by omega) (tt st off hn ho) (fun r => by show st + off + r.val = _; omega) fun r => ?_
    rw [gk, gd_out 128 _ _ _ _ _ _ _ _ (by show ¬ (u.val ≤ st + off + r.val ∧ st + off + r.val ≤ u.val + 128); omega), zero_mul]

include hs hq hd hL hk hb hp hp' in
/-- One block's store to the values' gradient adds its rows. -/
theorem stepV (hP : ∀ u x, View.canon P (ix2 u x) = acc (gv Q K D L u x) b) (u : Fin n) (x : Fin 128) :
    View.canon ((⟨Rect.unit (s := ⟨2, ![n, 128]⟩) p ![256, 128] hi,
      outV s q k d ls (W.readCov P (Rect.unit (s := ⟨2, ![n, 128]⟩) p' ![256, 128] hi').toLoadRect)⟩ : View.Piece (Elt Ideal) ⟨2, ![n, 128]⟩ .f32) :: P) (ix2 u x)
      = acc (gv Q K D L u x) (b + 1) := by
  refine store_window P (fun u x => acc (gv Q K D L u x) b) (fun u x => acc (gv Q K D L u x) (b + 1)) st hn p hp hi hP _ (fun j x => ?_) (fun u x h => ?_) u x
  · rw [outV_apply s q k d ls Q K D L st off hn ho hs hq hd hL hk, read_window P (fun u x => acc (gv Q K D L u x) b) st hn p' hp' hi' hP W j x,
      acc_succ _ b (by omega) (tt st off hn ho) (fun r => by show st + off + r.val = _; omega)]
    rfl
  · refine acc_skip _ b (by omega) (tt st off hn ho) (fun r => by show st + off + r.val = _; omega) fun r => ?_
    rw [gv, wt_out 128 _ _ _ _ _ (by show ¬ (u.val ≤ st + off + r.val ∧ st + off + r.val ≤ u.val + 128); omega), zero_mul]

end Out

/-- A loaded block of rows, widened. -/
abbrev wide (x : Vec Ideal S1x128x128 .bf16) : FVec Ideal S128x128 .f32 := extf .f32 (shapeCast S128x128 x shapeCasts_S1x128x128_S128x128) bitsLt_bf16_f32
theorem wide_apply (x : Vec Ideal S1x128x128 .bf16) (r l : Fin 128) : wide x (ix2 r l) = x (ix3 0 r l) := by
  pointwise []

section Load

variable {n nb : ℕ} (base : ℕ) (B0 B3 : Vec Ideal ⟨3, ![1, nb, 128]⟩ .bf16) (B1 B2 : Vec Ideal ⟨3, ![1, n, 128]⟩ .bf16) (B4 B5 : Vec Ideal ⟨3, ![1, nb, 128]⟩ .f32)
  (Q K V D O : Fin 2 → Fin n → Fin 64 → EReal) (L : Fin 2 → Fin n → EReal)
  (h0 : ∀ h (r : Fin nb) e (hr : base + r.val < n), B0 (ix3 0 r (lane h e)) = Q h ⟨base + r.val, hr⟩ e)
  (h1 : ∀ h r e, B1 (ix3 0 r (lane h e)) = K h r e)
  (h2 : ∀ h r e, B2 (ix3 0 r (lane h e)) = V h r e)
  (h3 : ∀ h (r : Fin nb) e (hr : base + r.val < n), B3 (ix3 0 r (lane h e)) = D h ⟨base + r.val, hr⟩ e)
  (h4 : ∀ h (r : Fin nb) e (hr : base + r.val < n), B4 (ix3 0 r (lane h e)) = O h ⟨base + r.val, hr⟩ e)
  (h5 : ∀ h (r : Fin nb) e (hr : base + r.val < n), B5 (ix3 0 r (lane h e)) = L h ⟨base + r.val, hr⟩)
  (st off r0 : ℕ) (hn : st + 256 ≤ n) (ho : off = 128 ∨ st = 0 ∧ off = 0) (hs : st + off = base + r0) (hr0 : r0 + 128 ≤ nb)
  (p0 p1 : Fin 3 → ℕ) (e0 : p0 = ![0, r0, 0]) (e1 : p1 = ![0, st, 0])
  (i0 : ∀ a, p0 a + (![1, 128, 128] : Fin 3 → ℕ) a ≤ (![1, nb, 128] : Fin 3 → ℕ) a) (i1 : ∀ a, p1 a + (![1, 256, 128] : Fin 3 → ℕ) a ≤ (![1, n, 128] : Fin 3 → ℕ) a)

include hs hr0 e0 in
/-- The rows a block loads. -/
theorem load_rows {φ : EltTy} (B : Vec Ideal ⟨3, ![1, nb, 128]⟩ φ) (X : Fin 2 → Fin n → Fin 64 → Elt Ideal φ)
    (hB : ∀ h (r : Fin nb) e (hr : base + r.val < n), B (ix3 0 r (lane h e)) = X h ⟨base + r.val, hr⟩ e) (h : Fin 2) (r : Fin 128) (e : Fin 64) :
    View.ld B (Rect.unit p0 ![1, 128, 128] i0) (ix3 0 r (lane h e)) = X h (tt st off hn ho r) e := by
  rw [ld_at _ _ e0 _ r _ (by omega), hB h _ e (by show base + (r0 + r.val) < n; omega)]
  exact congrArg (fun z => X h z e) (Fin.ext (by show base + (r0 + r.val) = st + off + r.val; omega))

include e1 in
/-- The keys a block loads. -/
theorem load_keys {φ : EltTy} (B : Vec Ideal ⟨3, ![1, n, 128]⟩ φ) (X : Fin 2 → Fin n → Fin 64 → Elt Ideal φ)
    (hB : ∀ h r e, B (ix3 0 r (lane h e)) = X h r e) (h : Fin 2) (j : Fin 256) (e : Fin 64) :
    View.ld B (Rect.unit p1 ![1, 256, 128] i1) (ix3 0 j (lane h e)) = X h (key st hn j) e := by
  rw [ld_at _ _ e1 _ j _ (by omega), hB]

/-- The cotangent's rows a block loads. -/
abbrev dRows : FVec Ideal S128x128 .f32 := wide (View.ld B3 (Rect.unit p0 ![1, 128, 128] i0))

include hs hr0 e0 h3 in
theorem dRows_apply (h : Fin 2) (r : Fin 128) (e : Fin 64) : dRows B3 p0 i0 (ix2 r (lane h e)) = D h (tt st off hn ho r) e := by
  exact (wide_apply _ r (lane h e)).trans (load_rows base st off r0 hn ho hs hr0 p0 e0 i0 B3 D h3 h r e)

include hn ho h0 h1 h2 h3 h4 h5 hs hr0 e0 e1 in
theorem pieceQ (z : Fin 1) (r l : Fin 128) (y : Fin n) (hy : y.val = base + r0 + r.val) :
    outQ (BitVec.ofNat 32 off) (View.ld B0 (Rect.unit p0 ![1, 128, 128] i0)) (View.ld B1 (Rect.unit p1 ![1, 256, 128] i1)) (View.ld B2 (Rect.unit p1 ![1, 256, 128] i1))
      (dRows B3 p0 i0) (View.ld B4 (Rect.unit p0 ![1, 128, 128] i0)) (View.ld B5 (Rect.unit p0 ![1, 128, 128] i0)) (ix3 z r l)
    = ∑ u, gd 128 (Q (half l)) (K (half l)) (V (half l)) (D (half l)) (O (half l)) (L (half l)) y u * K (half l) u (elm l) := by
  obtain rfl : y = tt st off hn ho r := Fin.ext (by rw [hy]; show _ = st + off + r.val; omega)
  exact outQ_apply _ _ _ _ _ _ _ Q K V D O L st off hn ho rfl (load_rows base st off r0 hn ho hs hr0 p0 e0 i0 B0 Q h0)
    (dRows_apply base B3 D h3 st off r0 hn ho hs hr0 p0 e0 i0) (load_rows base st off r0 hn ho hs hr0 p0 e0 i0 B4 O h4)
    (load_rows base st off r0 hn ho hs hr0 p0 e0 i0 B5 (fun h t _ => L h t) h5) (load_keys st hn p1 e1 i1 B1 K h1) (load_keys st hn p1 e1 i1 B2 V h2) z r l

variable (b : ℕ) (hb : st + off = 128 * b) (P : List (View.Piece (Elt Ideal) ⟨2, ![n, 128]⟩ .f32)) {sig : RefSig} {κ : Kind} {sp : Space} (W : View sig κ sp ⟨2, ![n, 128]⟩ .f32)
  (p p' : Fin 2 → ℕ) (hp : p = ![st, 0]) (hp' : p' = ![st, 0]) (hi : ∀ a, p a + (![256, 128] : Fin 2 → ℕ) a ≤ (![n, 128] : Fin 2 → ℕ) a)
  (hi' : ∀ a, p' a + (![256, 128] : Fin 2 → ℕ) a ≤ (![n, 128] : Fin 2 → ℕ) a)

include hn ho h0 h1 h2 h3 h4 h5 hs hr0 e0 e1 hb hp hp' in
theorem pieceK (hP : ∀ u x, View.canon P (ix2 u x) = acc (gk Q K V D O L u x) b) (u : Fin n) (x : Fin 128) :
    View.canon ((⟨Rect.unit (s := ⟨2, ![n, 128]⟩) p ![256, 128] hi,
      outK (BitVec.ofNat 32 off) (View.ld B0 (Rect.unit p0 ![1, 128, 128] i0)) (View.ld B1 (Rect.unit p1 ![1, 256, 128] i1)) (View.ld B2 (Rect.unit p1 ![1, 256, 128] i1))
        (dRows B3 p0 i0) (View.ld B4 (Rect.unit p0 ![1, 128, 128] i0)) (View.ld B5 (Rect.unit p0 ![1, 128, 128] i0))
        (W.readCov P (Rect.unit (s := ⟨2, ![n, 128]⟩) p' ![256, 128] hi').toLoadRect)⟩ : View.Piece (Elt Ideal) ⟨2, ![n, 128]⟩ .f32) :: P) (ix2 u x)
      = acc (gk Q K V D O L u x) (b + 1) :=
  stepK _ _ _ _ _ _ _ Q K V D O L st off hn ho rfl (load_rows base st off r0 hn ho hs hr0 p0 e0 i0 B0 Q h0)
    (dRows_apply base B3 D h3 st off r0 hn ho hs hr0 p0 e0 i0) (load_rows base st off r0 hn ho hs hr0 p0 e0 i0 B4 O h4)
    (load_rows base st off r0 hn ho hs hr0 p0 e0 i0 B5 (fun h t _ => L h t) h5) (load_keys st hn p1 e1 i1 B1 K h1) (load_keys st hn p1 e1 i1 B2 V h2) b hb P W p p' hp hp' hi hi' hP u x

include hn ho h0 h1 h3 h5 hs hr0 e0 e1 hb hp hp' in
theorem pieceV (hP : ∀ u x, View.canon P (ix2 u x) = acc (gv Q K D L u x) b) (u : Fin n) (x : Fin 128) :
    View.canon ((⟨Rect.unit (s := ⟨2, ![n, 128]⟩) p ![256, 128] hi,
      outV (BitVec.ofNat 32 off) (View.ld B0 (Rect.unit p0 ![1, 128, 128] i0)) (View.ld B1 (Rect.unit p1 ![1, 256, 128] i1))
        (dRows B3 p0 i0) (View.ld B5 (Rect.unit p0 ![1, 128, 128] i0))
        (W.readCov P (Rect.unit (s := ⟨2, ![n, 128]⟩) p' ![256, 128] hi').toLoadRect)⟩ : View.Piece (Elt Ideal) ⟨2, ![n, 128]⟩ .f32) :: P) (ix2 u x)
      = acc (gv Q K D L u x) (b + 1) :=
  stepV _ _ _ _ _ Q K D L st off hn ho rfl (load_rows base st off r0 hn ho hs hr0 p0 e0 i0 B0 Q h0)
    (dRows_apply base B3 D h3 st off r0 hn ho hs hr0 p0 e0 i0)
    (load_rows base st off r0 hn ho hs hr0 p0 e0 i0 B5 (fun h t _ => L h t) h5) (load_keys st hn p1 e1 i1 B1 K h1) b hb P W p p' hp hp' hi hi' hP u x

end Load

end Cert.AttnB

end
-- ==== Proof.Attnb16Blocks.lean ====
/-
  The blocks of a grid point of the gradient of the banded attention, at dilation 16.
-/
module

public import proofs.«01_k».proof.Proof.AttnBack
public import proofs.«01_k».proof.Proof.Gen.Attnb16KIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.Attnb16KIdeal.Block

open Cert.Attnb16KIdeal Cert.Attnb16KIdeal.Gen Idealize.ShloMosaic Idealize.ShloMosaic.TcCoe Cert.Attn Cert.AttnB

variable (m : (ℓ : Loc nD τ sig) → Buf (Elt Ideal) ℓ) (c : Dev nD)

/-- The lane of an element of a head. -/
abbrev colg (g : Fin 8) (e : Fin 64) : Fin 512 := ⟨g.val * 64 + e.val, by omega⟩
/-- A head of an array, by residue class: rows and elements of the head. -/
abbrev headOf (A : S16x512x512.Idx → EReal) (d : Fin 16) (g : Fin 8) (r : Fin 512) (e : Fin 64) : EReal := A (ix3 d r (colg g e))
/-- An array read by residue class, row and lane from its heads. -/
def flat (f : Fin 16 → Fin 8 → Fin 512 → Fin 64 → EReal) (d : Fin 16) (r l : Fin 512) : EReal := f d ⟨l.val / 64, by omega⟩ r ⟨l.val % 64, by omega⟩
abbrev hq : Fin 16 → Fin 8 → Fin 512 → Fin 64 → EReal := headOf (m ((c : Thread nD τ).loc main_arg6))
abbrev hk : Fin 16 → Fin 8 → Fin 512 → Fin 64 → EReal := headOf (m ((c : Thread nD τ).loc main_arg7))
abbrev hv : Fin 16 → Fin 8 → Fin 512 → Fin 64 → EReal := headOf (m ((c : Thread nD τ).loc main_arg8))

theorem lt (t : Fin cfg0.N) : t.val < 64 := by have := t.isLt; have : cfg0.N = 64 := N_0; omega
/-- The residue class and lanes of a grid point. -/
abbrev atD (t : Fin cfg0.N) : Fin 16 := ⟨t.val / 4, by have := lt t; omega⟩
abbrev atL (t : Fin cfg0.N) (l : Fin 128) : Fin 512 := ⟨t.val % 4 * 128 + l.val, by omega⟩

/-- The heads of a grid point. -/
abbrev atH (t : Fin cfg0.N) (h : Fin 2) : Fin 8 := ⟨t.val % 4 * 2 + h.val, by omega⟩
theorem atL_lane (t : Fin cfg0.N) (h : Fin 2) (e : Fin 64) : atL t (lane h e) = colg (atH t h) e :=
  Fin.ext (by show t.val % 4 * 128 + (h.val * 64 + e.val) = (t.val % 4 * 2 + h.val) * 64 + e.val; omega)

theorem e0 : ∀ t : Fin cfg0.N, win0_0.index t = ![t.val / 4, 0, t.val % 4] := (by decide +kernel : ∀ t : Fin grid0.N, _)
theorem e1 : ∀ t : Fin cfg0.N, win0_1.index t = ![t.val / 4, 0, t.val % 4] := (by decide +kernel : ∀ t : Fin grid0.N, _)
theorem e2 : ∀ t : Fin cfg0.N, win0_2.index t = ![t.val / 4, 0, t.val % 4] := (by decide +kernel : ∀ t : Fin grid0.N, _)
theorem e3 : ∀ t : Fin cfg0.N, win0_3.index t = ![t.val / 4, 0, t.val % 4] := (by decide +kernel : ∀ t : Fin grid0.N, _)
theorem e4 : ∀ t : Fin cfg0.N, win0_4.index t = ![t.val / 4, 0, t.val % 4] := (by decide +kernel : ∀ t : Fin grid0.N, _)
theorem e5 : ∀ t : Fin cfg0.N, win0_5.index t = ![t.val / 4, 0, t.val % 4] := (by decide +kernel : ∀ t : Fin grid0.N, _)
theorem e6 : ∀ t : Fin cfg0.N, win0_6.index t = ![t.val / 4, 0, t.val % 4] := (by decide +kernel : ∀ t : Fin grid0.N, _)
theorem e7 : ∀ t : Fin cfg0.N, win0_7.index t = ![t.val / 4, 0, t.val % 4] := (by decide +kernel : ∀ t : Fin grid0.N, _)
theorem e8 : ∀ t : Fin cfg0.N, win0_8.index t = ![t.val / 4, 0, t.val % 4] := (by decide +kernel : ∀ t : Fin grid0.N, _)

theorem blk0 (t : Fin cfg0.N) (r : Fin 512) (l : Fin 128) : iblk m c 0 t (ix3 0 r l) = (m ((c : Thread nD τ).loc main_arg6) : S16x512x512.Idx → EReal) (ix3 (atD t) r (atL t l)) := by
  have h : (win0_0.blk t).view.emb (ix3 0 r l) = (ix3 (atD t) r (atL t l) : S16x512x512.Idx) := by blk_ext [e0]
  blk_simp [iblk]
  rw [h, V_main_arg6]
theorem blk1 (t : Fin cfg0.N) (r : Fin 512) (l : Fin 128) : iblk m c 1 t (ix3 0 r l) = (m ((c : Thread nD τ).loc main_arg7) : S16x512x512.Idx → EReal) (ix3 (atD t) r (atL t l)) := by
  have h : (win0_1.blk t).view.emb (ix3 0 r l) = (ix3 (atD t) r (atL t l) : S16x512x512.Idx) := by blk_ext [e1]
  blk_simp [iblk]
  rw [h, V_main_arg7]
theorem blk2 (t : Fin cfg0.N) (r : Fin 512) (l : Fin 128) : iblk m c 2 t (ix3 0 r l) = (m ((c : Thread nD τ).loc main_arg8) : S16x512x512.Idx → EReal) (ix3 (atD t) r (atL t l)) := by
  have h : (win0_2.blk t).view.emb (ix3 0 r l) = (ix3 (atD t) r (atL t l) : S16x512x512.Idx) := by blk_ext [e2]
  blk_simp [iblk]
  rw [h, V_main_arg8]
theorem blkX3 (X : (b : Ref sig Kind.tc) → Buf (Elt Ideal) ((c : Thread nD τ).loc b)) (t : Fin cfg0.N) (r : Fin 512) (l : Fin 128) :
    ((cfg0.win 3).blk t).view.read (Elt Ideal) (X (Pipeline.arrRef spec0 3)) (ix3 0 r l) = X main_v175 (ix3 (atD t) r (atL t l) : S16x512x512.Idx) := by
  have h : (win0_3.blk t).view.emb (ix3 0 r l) = (ix3 (atD t) r (atL t l) : S16x512x512.Idx) := by blk_ext [e3]
  exact congrArg (X main_v175) h
theorem blk3 (t : Fin cfg0.N) (r : Fin 512) (l : Fin 128) : iblk m c 3 t (ix3 0 r l) = V m c main_v175 (ix3 (atD t) r (atL t l) : S16x512x512.Idx) :=
  blkX3 c (V m c) t r l
theorem blkX4 (X : (b : Ref sig Kind.tc) → Buf (Elt Ideal) ((c : Thread nD τ).loc b)) (t : Fin cfg0.N) (r : Fin 512) (l : Fin 128) :
    ((cfg0.win 4).blk t).view.read (Elt Ideal) (X (Pipeline.arrRef spec0 4)) (ix3 0 r l) = X main_v170 (ix3 (atD t) r (atL t l) : S16x512x512.Idx) := by
  have h : (win0_4.blk t).view.emb (ix3 0 r l) = (ix3 (atD t) r (atL t l) : S16x512x512.Idx) := by blk_ext [e4]
  exact congrArg (X main_v170) h
theorem blk4 (t : Fin cfg0.N) (r : Fin 512) (l : Fin 128) : iblk m c 4 t (ix3 0 r l) = V m c main_v170 (ix3 (atD t) r (atL t l) : S16x512x512.Idx) :=
  blkX4 c (V m c) t r l
theorem blkX5 (X : (b : Ref sig Kind.tc) → Buf (Elt Ideal) ((c : Thread nD τ).loc b)) (t : Fin cfg0.N) (r : Fin 512) (l : Fin 128) :
    ((cfg0.win 5).blk t).view.read (Elt Ideal) (X (Pipeline.arrRef spec0 5)) (ix3 0 r l) = X main_v172 (ix3 (atD t) r (atL t l) : S16x512x512.Idx) := by
  have h : (win0_5.blk t).view.emb (ix3 0 r l) = (ix3 (atD t) r (atL t l) : S16x512x512.Idx) := by blk_ext [e5]
  exact congrArg (X main_v172) h
theorem blk5 (t : Fin cfg0.N) (r : Fin 512) (l : Fin 128) : iblk m c 5 t (ix3 0 r l) = V m c main_v172 (ix3 (atD t) r (atL t l) : S16x512x512.Idx) :=
  blkX5 c (V m c) t r l

theorem flat_at (f : Fin 16 → Fin 8 → Fin 512 → Fin 64 → EReal) (t : Fin cfg0.N) (r : Fin 512) (l : Fin 128) :
    flat f (atD t) r (atL t l) = f (atD t) (atH t (half l)) r (elm l) := by
  have e1 : (⟨(atL t l).val / 64, by omega⟩ : Fin 8) = atH t (half l) := Fin.ext (by show (t.val % 4 * 128 + l.val) / 64 = t.val % 4 * 2 + l.val / 64; omega)
  have e2 : (⟨(atL t l).val % 64, by omega⟩ : Fin 64) = elm l := Fin.ext (by show (t.val % 4 * 128 + l.val) % 64 = l.val % 64; omega)
  unfold flat
  rw [e1, e2]

section Heads

variable (Dv Ov : Fin 16 → Fin 8 → Fin 512 → Fin 64 → EReal) (Lv : Fin 16 → Fin 8 → Fin 512 → EReal)
  (hD : ∀ d g r e, V m c main_v175 (ix3 d r (colg g e)) = Dv d g r e)
  (hO : ∀ d g r e, V m c main_v170 (ix3 d r (colg g e)) = Ov d g r e)
  (hL : ∀ d g r e, V m c main_v172 (ix3 d r (colg g e)) = Lv d g r)
  (t : Fin cfg0.N) (h : Fin 2) (r : Fin 512) (e : Fin 64)

theorem b0 (hr : 0 + r.val < 512) : iblk m c 0 t (ix3 0 r (lane h e)) = hq m c (atD t) (atH t h) ⟨0 + r.val, hr⟩ e := by
  rw [blk0, atL_lane]
  exact congrArg (fun z => hq m c (atD t) (atH t h) z e) (Fin.ext (Nat.zero_add _).symm)
theorem b1 : iblk m c 1 t (ix3 0 r (lane h e)) = hk m c (atD t) (atH t h) r e := by rw [blk1, atL_lane]
theorem b2 : iblk m c 2 t (ix3 0 r (lane h e)) = hv m c (atD t) (atH t h) r e := by rw [blk2, atL_lane]
include hD in
theorem b3 (hr : 0 + r.val < 512) : iblk m c 3 t (ix3 0 r (lane h e)) = Dv (atD t) (atH t h) ⟨0 + r.val, hr⟩ e := by
  refine (blk3 m c t r _).trans ?_
  rw [atL_lane]
  refine (hD _ _ _ _).trans ?_
  exact congrArg (fun z => Dv (atD t) (atH t h) z e) (Fin.ext (Nat.zero_add _).symm)
include hO in
theorem b4 (hr : 0 + r.val < 512) : iblk m c 4 t (ix3 0 r (lane h e)) = Ov (atD t) (atH t h) ⟨0 + r.val, hr⟩ e := by
  refine (blk4 m c t r _).trans ?_
  rw [atL_lane]
  refine (hO _ _ _ _).trans ?_
  exact congrArg (fun z => Ov (atD t) (atH t h) z e) (Fin.ext (Nat.zero_add _).symm)
include hL in
theorem b5 (hr : 0 + r.val < 512) : iblk m c 5 t (ix3 0 r (lane h e)) = Lv (atD t) (atH t h) ⟨0 + r.val, hr⟩ := by
  refine (blk5 m c t r _).trans ?_
  rw [atL_lane]
  refine (hL _ _ _ _).trans ?_
  exact congrArg (fun z => Lv (atD t) (atH t h) z) (Fin.ext (Nat.zero_add _).symm)

end Heads

/-- Where the windows of a grid point's blocks start. -/
theorem o1 : ∀ t : Fin cfg0.N, k0_off1 (grid0.coords t) = ![0, 0, 0] := (by decide +kernel : ∀ t : Fin grid0.N, _)
theorem o2 : ∀ t : Fin cfg0.N, k0_off2 (grid0.coords t) = ![0, 0] := (by decide +kernel : ∀ t : Fin grid0.N, _)
theorem o3 : ∀ t : Fin cfg0.N, ∀ i : Fin 3, k0_off3 (grid0.coords t) (BitVec.ofNat 32 (128 + 128 * i.val)) = ![0, i.val * 128, 0] :=
  (by decide +kernel : ∀ t : Fin grid0.N, _)
theorem o4 : ∀ t : Fin cfg0.N, ∀ i : Fin 3, k0_off4 (grid0.coords t) (BitVec.ofNat 32 (128 + 128 * i.val)) = ![i.val * 128, 0] :=
  (by decide +kernel : ∀ t : Fin grid0.N, _)

/-- The first block's rows start at its window. -/
theorem w0 : ∀ t : Fin cfg0.N, Scalar.subi (Scalar.addi (Scalar.muli (BitVec.ofNat 32 (grid0.coords t 3).val) 512#32) 0#32)
    (Scalar.maxsi (Scalar.subi (Scalar.addi (Scalar.muli (BitVec.ofNat 32 (grid0.coords t 3).val) 512#32) 0#32) 128#32) 0#32) = BitVec.ofNat 32 0 :=
  (by decide +kernel : ∀ t : Fin grid0.N, _)

theorem pay5_apply (x : Vec Ideal S512x128 .f32) (z : Fin 1) (r : Fin 512) (l : Fin 128) : k0_pay5 x (ix3 z r l) = x (ix2 r l) := by
  pointwise [k0_pay5]
theorem pay6_apply (x : Vec Ideal S512x128 .f32) (z : Fin 1) (r : Fin 512) (l : Fin 128) : k0_pay6 x (ix3 z r l) = x (ix2 r l) := by
  pointwise [k0_pay6]
theorem pay7_apply (r : Fin 512) (l : Fin 128) : (k0_pay7 : FVec Ideal S512x128 .f32) (ix2 r l) = 0 := by
  pointwise [k0_pay7]
theorem pay8_apply (r : Fin 512) (l : Fin 128) : (k0_pay8 : FVec Ideal S512x128 .f32) (ix2 r l) = 0 := by
  pointwise [k0_pay8]

/-- The scratch read back whole. -/
theorem read_all (P : List (View.Piece (Elt Ideal) S512x128 .f32)) {κ : Kind} {sp : Space} (W : View sig κ sp S512x128 .f32)
    (hi : ∀ a, (![0, 0] : Fin 2 → ℕ) a + (![512, 128] : Fin 2 → ℕ) a ≤ S512x128.size a) (r : Fin 512) (l : Fin 128) :
    W.readCov P (Rect.unit (s := S512x128) ![0, 0] ![512, 128] hi).toLoadRect (ix2 r l) = View.canon P (ix2 r l) := by
  rw [View.readCov_eq_canon']
  exact congrArg (View.canon P) (by funext a; fin_cases a <;> exact Fin.ext (by simp [Rect.unit, Rect.emb]))
/-- The scratch cleared. -/
theorem cleared (w : S512x128.Idx → EReal) (hw : ∀ r l, w (ix2 r l) = 0)
    (hi : ∀ a, (![0, 0] : Fin 2 → ℕ) a + (![512, 128] : Fin 2 → ℕ) a ≤ S512x128.size a) (r : Fin 512) (l : Fin 128) :
    View.canon [(⟨Rect.unit (s := S512x128) ![0, 0] ![512, 128] hi, w⟩ : View.Piece (Elt Ideal) S512x128 .f32)] (ix2 r l) = 0 := by
  have e : (ix2 r l : S512x128.Idx) = (Rect.unit (s := S512x128) ![0, 0] ![512, 128] hi).emb (ix2 r l) := by
    funext a
    fin_cases a <;> exact Fin.ext (by simp [Rect.unit, Rect.emb])
  rw [e]
  exact (View.canon_cons_emb (Val := Elt Ideal) (e := .f32) (Rect.unit (s := S512x128) ![0, 0] ![512, 128] hi) w [] (ix2 r l)).trans (hw r l)

theorem inb2 {st : ℕ} (off : Fin 2 → ℕ) (ho : off = ![st, 0]) (hs : st + 256 ≤ 512) : ∀ a, off a + (![256, 128] : Fin 2 → ℕ) a ≤ (![512, 128] : Fin 2 → ℕ) a := by
  subst ho
  intro a
  fin_cases a
  · exact hs
  · show 0 + 128 ≤ 128
    omega

end Cert.Attnb16KIdeal.Block

end
-- ==== Proof.Attnb16ValueQ.lean ====
/-
  The queries' gradient the kernel leaves, at dilation 16.
-/
module

public import proofs.«01_k».proof.Proof.Attnb16Blocks

@[expose] public section

set_option maxRecDepth 16384

noncomputable section

namespace Cert.Attnb16KIdeal.Block

open Cert.Attnb16KIdeal Cert.Attnb16KIdeal.Gen Idealize.ShloMosaic Idealize.ShloMosaic.TcCoe Cert.Attn Cert.AttnB

variable (m : (ℓ : Loc nD τ sig) → Buf (Elt Ideal) ℓ) (c : Dev nD)

variable (Dv Ov : Fin 16 → Fin 8 → Fin 512 → Fin 64 → EReal) (Lv : Fin 16 → Fin 8 → Fin 512 → EReal)
  (hD : ∀ d g r e, V m c main_v175 (ix3 d r (colg g e)) = Dv d g r e)
  (hO : ∀ d g r e, V m c main_v170 (ix3 d r (colg g e)) = Ov d g r e)
  (hL : ∀ d g r e, V m c main_v172 (ix3 d r (colg g e)) = Lv d g r)

/-- The queries' gradient at a row and element of a head. -/
def dq (d : Fin 16) (g : Fin 8) (r : Fin 512) (e : Fin 64) : EReal :=
  ∑ u, gd 128 (hq m c d g) (hk m c d g) (hv m c d g) (Dv d g) (Ov d g) (Lv d g) r u * hk m c d g u e

include hD hO hL in
theorem final6 : (dats m 0 c).arrAt 6 cfg0.N = fun i : S16x512x512.Idx => flat (dq m c Dv Ov Lv) (i 0) (i 1) (i 2) := by
  refine (dats m 0 c).arrAt_eq_of_covers 6 _ (by decide +kernel) fun t hf y => ?_
  have h : (win0_6.blk t).view.emb y = (ix3 (atD t) (y 1) (atL t (y 2)) : S16x512x512.Idx) := by
    have : (y 0).val < 1 := (y 0).isLt
    blk_ext [e6]
  blk_simp
  rw [after0_6, h]
  simp only [outsAt0]
  frame_out
  have hl := lt t
  have c0 := b0 m c t
  have c1 := b1 m c t
  have c2 := b2 m c t
  have c3 := b3 m c Dv hD t
  have c4 := b4 m c Ov hO t
  have c5 := b5 m c Lv hL t
  generalize iblk m c 0 t = B0 at c0 ⊢
  generalize iblk m c 1 t = B1 at c1 ⊢
  generalize iblk m c 2 t = B2 at c2 ⊢
  generalize iblk m c 3 t = B3 at c3 ⊢
  generalize iblk m c 4 t = B4 at c4 ⊢
  generalize iblk m c 5 t = B5 at c5 ⊢
  canon_tiles x hx using View.cover_of_tiledBy _ ![1, 128, 128] (by sl_kernel_rfl) _
  all_goals try rw [Memref.IsWhole.read_unread]
  all_goals try rw [w0 t]
  all_goals rw [eq_ix3 x]
  · have := pieceQ 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 256 128 384 (by omega) (.inl rfl) (by omega) (by omega) ![0, 384, 0] (k0_off3 (grid0.coords t) 384#32) rfl (o3 t 2) (inb _ rfl (by omega)) (inb _ (o3 t 2) (by omega)) (x 0) (x 1) (x 2) (y 1) (by omega)
    have e : y 2 = x 2 := Fin.ext hx2
    refine Eq.trans ?_ (flat_at (dq m c Dv Ov Lv) t (y 1) (y 2)).symm
    rw [e]
    exact this
  · have := pieceQ 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 128 128 256 (by omega) (.inl rfl) (by omega) (by omega) ![0, 256, 0] (k0_off3 (grid0.coords t) 256#32) rfl (o3 t 1) (inb _ rfl (by omega)) (inb _ (o3 t 1) (by omega)) (x 0) (x 1) (x 2) (y 1) (by omega)
    have e : y 2 = x 2 := Fin.ext hx2
    refine Eq.trans ?_ (flat_at (dq m c Dv Ov Lv) t (y 1) (y 2)).symm
    rw [e]
    exact this
  · have := pieceQ 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 0 128 128 (by omega) (.inl rfl) (by omega) (by omega) ![0, 128, 0] (k0_off3 (grid0.coords t) 128#32) rfl (o3 t 0) (inb _ rfl (by omega)) (inb _ (o3 t 0) (by omega)) (x 0) (x 1) (x 2) (y 1) (by omega)
    have e : y 2 = x 2 := Fin.ext hx2
    refine Eq.trans ?_ (flat_at (dq m c Dv Ov Lv) t (y 1) (y 2)).symm
    rw [e]
    exact this
  · have := pieceQ 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 0 0 0 (by omega) (.inr ⟨rfl, rfl⟩) (by omega) (by omega) ![0, 0, 0] (k0_off1 (grid0.coords t)) rfl (o1 t) (inb _ rfl (by omega)) (inb _ (o1 t) (by omega)) (x 0) (x 1) (x 2) (y 1) (by omega)
    have e : y 2 = x 2 := Fin.ext hx2
    refine Eq.trans ?_ (flat_at (dq m c Dv Ov Lv) t (y 1) (y 2)).symm
    rw [e]
    exact this

end Cert.Attnb16KIdeal.Block

end
-- ==== Proof.Attnb16ValueK.lean ====
/-
  The keys' gradient the kernel leaves, at dilation 16.
-/
module

public import proofs.«01_k».proof.Proof.Attnb16Blocks

@[expose] public section

set_option maxRecDepth 16384

noncomputable section

namespace Cert.Attnb16KIdeal.Block

open Cert.Attnb16KIdeal Cert.Attnb16KIdeal.Gen Idealize.ShloMosaic Idealize.ShloMosaic.TcCoe Cert.Attn Cert.AttnB

variable (m : (ℓ : Loc nD τ sig) → Buf (Elt Ideal) ℓ) (c : Dev nD)

variable (Dv Ov : Fin 16 → Fin 8 → Fin 512 → Fin 64 → EReal) (Lv : Fin 16 → Fin 8 → Fin 512 → EReal)
  (hD : ∀ d g r e, V m c main_v175 (ix3 d r (colg g e)) = Dv d g r e)
  (hO : ∀ d g r e, V m c main_v170 (ix3 d r (colg g e)) = Ov d g r e)
  (hL : ∀ d g r e, V m c main_v172 (ix3 d r (colg g e)) = Lv d g r)

/-- The keys' gradient at a row and element of a head. -/
def dk (d : Fin 16) (g : Fin 8) (u : Fin 512) (e : Fin 64) : EReal :=
  ∑ t, gd 128 (hq m c d g) (hk m c d g) (hv m c d g) (Dv d g) (Ov d g) (Lv d g) t u * hq m c d g t e

set_option maxHeartbeats 2000000 in
include hD hO hL in
theorem final7 : (dats m 0 c).arrAt 7 cfg0.N = fun i : S16x512x512.Idx => flat (dk m c Dv Ov Lv) (i 0) (i 1) (i 2) := by
  refine (dats m 0 c).arrAt_eq_of_covers 7 _ (by decide +kernel) fun t hf y => ?_
  have h : (win0_7.blk t).view.emb y = (ix3 (atD t) (y 1) (atL t (y 2)) : S16x512x512.Idx) := by
    have : (y 0).val < 1 := (y 0).isLt
    blk_ext [e7]
  blk_simp
  rw [after0_7, h]
  simp only [outsAt0]
  frame_out
  have hl := lt t
  have c0 := b0 m c t
  have c1 := b1 m c t
  have c2 := b2 m c t
  have c3 := b3 m c Dv hD t
  have c4 := b4 m c Ov hO t
  have c5 := b5 m c Lv hL t
  generalize iblk m c 0 t = B0 at c0 ⊢
  generalize iblk m c 1 t = B1 at c1 ⊢
  generalize iblk m c 2 t = B2 at c2 ⊢
  generalize iblk m c 3 t = B3 at c3 ⊢
  generalize iblk m c 4 t = B4 at c4 ⊢
  generalize iblk m c 5 t = B5 at c5 ⊢
  rw [w0 t, eq_ix3 y]
  refine (pay5_apply _ _ _ _).trans ((read_all _ _ _ _ _).trans ?_)
  refine Eq.trans ?_ (flat_at (dk m c Dv Ov Lv) t (y 1) (y 2)).symm
  refine Eq.trans ?_ (acc_all _ 4 (by omega))
  have s0 : ∀ u x, View.canon [(⟨Rect.unit (s := S512x128) ![0, 0] ![512, 128] inb_S512x128_S512x128_0_0, k0_pay7 (F := Ideal)⟩ : View.Piece (Elt Ideal) S512x128 .f32)] (ix2 u x) = acc (gk (fun h => hq m c (atD t) (atH t h)) (fun h => hk m c (atD t) (atH t h)) (fun h => hv m c (atD t) (atH t h)) (fun h => Dv (atD t) (atH t h)) (fun h => Ov (atD t) (atH t h)) (fun h => Lv (atD t) (atH t h)) u x) 0 :=
    fun u x => (cleared (k0_pay7 (F := Ideal)) pay7_apply _ u x).trans (acc_zero _).symm
  have s1 := pieceK 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 0 0 0 (by omega) (.inr ⟨rfl, rfl⟩) (by omega) (by omega) ![0, 0, 0] (k0_off1 (grid0.coords t)) rfl (o1 t) (inb _ rfl (by omega)) (inb _ (o1 t) (by omega)) 0 (by omega) _ (View.whole cc0_scratch0) ![0, 0] (k0_off2 (grid0.coords t)) rfl (o2 t) (inb2 _ rfl (by omega)) (inb2 _ (o2 t) (by omega)) s0
  have s2 := pieceK 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 0 128 128 (by omega) (.inl rfl) (by omega) (by omega) ![0, 128, 0] (k0_off3 (grid0.coords t) 128#32) rfl (o3 t 0) (inb _ rfl (by omega)) (inb _ (o3 t 0) (by omega)) 1 (by omega) _ (View.whole cc0_scratch0) ![0, 0] (k0_off4 (grid0.coords t) 128#32) rfl (o4 t 0) (inb2 _ rfl (by omega)) (inb2 _ (o4 t 0) (by omega)) s1
  have s3 := pieceK 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 128 128 256 (by omega) (.inl rfl) (by omega) (by omega) ![0, 256, 0] (k0_off3 (grid0.coords t) 256#32) rfl (o3 t 1) (inb _ rfl (by omega)) (inb _ (o3 t 1) (by omega)) 2 (by omega) _ (View.whole cc0_scratch0) ![128, 0] (k0_off4 (grid0.coords t) 256#32) rfl (o4 t 1) (inb2 _ rfl (by omega)) (inb2 _ (o4 t 1) (by omega)) s2
  have s4 := pieceK 0 B0 B3 B1 B2 B4 B5 (fun h => hq m c (atD t) (atH t h)) (fun h => hk m c (atD t) (atH t h)) (fun h => hv m c (atD t) (atH t h)) (fun h => Dv (atD t) (atH t h)) (fun h => Ov (atD t) (atH t h)) (fun h => Lv (atD t) (atH t h)) c0 c1 c2 c3 c4 c5 256 128 384 (by omega) (.inl rfl) (by omega) (by omega) ![0, 384, 0] (k0_off3 (grid0.coords t) 384#32) rfl (o3 t 2) (inb _ rfl (by omega)) (inb _ (o3 t 2) (by omega)) 3 (by omega) _ (View.whole cc0_scratch0) ![256, 0] (k0_off4 (grid0.coords t) 384#32) rfl (o4 t 2) (inb2 _ rfl (by omega)) (inb2 _ (o4 t 2) (by omega)) s3
  exact s4 _ _

end Cert.Attnb16KIdeal.Block

end
-- ==== Proof.Attnb16ValueV.lean ====
/-
  The values' gradient the kernel leaves, at dilation 16.
-/
module

public import proofs.«01_k».proof.Proof.Attnb16Blocks

@[expose] public section

set_option maxRecDepth 16384

noncomputable section

namespace Cert.Attnb16KIdeal.Block

open Cert.Attnb16KIdeal Cert.Attnb16KIdeal.Gen Idealize.ShloMosaic Idealize.ShloMosaic.TcCoe Cert.Attn Cert.AttnB

variable (m : (ℓ : Loc nD τ sig) → Buf (Elt Ideal) ℓ) (c : Dev nD)

variable (Dv Ov : Fin 16 → Fin 8 → Fin 512 → Fin 64 → EReal) (Lv : Fin 16 → Fin 8 → Fin 512 → EReal)
  (hD : ∀ d g r e, V m c main_v175 (ix3 d r (colg g e)) = Dv d g r e)
  (hO : ∀ d g r e, V m c main_v170 (ix3 d r (colg g e)) = Ov d g r e)
  (hL : ∀ d g r e, V m c main_v172 (ix3 d r (colg g e)) = Lv d g r)

/-- The values' gradient at a row and element of a head. -/
def dv (d : Fin 16) (g : Fin 8) (u : Fin 512) (e : Fin 64) : EReal :=
  ∑ t, wt 128 (hq m c d g) (hk m c d g) (Lv d g) t u * Dv d g t e

set_option maxHeartbeats 2000000 in
include hD hL in
theorem final8 : (dats m 0 c).arrAt 8 cfg0.N = fun i : S16x512x512.Idx => flat (dv m c Dv Lv) (i 0) (i 1) (i 2) := by
  refine (dats m 0 c).arrAt_eq_of_covers 8 _ (by decide +kernel) fun t hf y => ?_
  have h : (win0_8.blk t).view.emb y = (ix3 (atD t) (y 1) (atL t (y 2)) : S16x512x512.Idx) := by
    have : (y 0).val < 1 := (y 0).isLt
    blk_ext [e8]
  blk_simp
  rw [after0_8, h]
  simp only [outsAt0]
  frame_out
  have hl := lt t
  have c0 := b0 m c t
  have c1 := b1 m c t
  have c2 := b2 m c t
  have c3 := b3 m c Dv hD t
  have c5 := b5 m c Lv hL t
  generalize iblk m c 0 t = B0 at c0 ⊢
  generalize iblk m c 1 t = B1 at c1 ⊢
  generalize iblk m c 2 t = B2 at c2 ⊢
  generalize iblk m c 3 t = B3 at c3 ⊢
  generalize iblk m c 4 t = B4
  generalize iblk m c 5 t = B5 at c5 ⊢
  rw [w0 t, eq_ix3 y]
  refine (pay6_apply _ _ _ _).trans ((read_all _ _ _ _ _).trans ?_)
  refine Eq.trans ?_ (flat_at (dv m c Dv Lv) t (y 1) (y 2)).symm
  refine Eq.trans ?_ (acc_all _ 4 (by omega))
  have s0 : ∀ u x, View.canon [(⟨Rect.unit (s := S512x128) ![0, 0] ![512, 128] inb_S512x128_S512x128_0_0, k0_pay8 (F := Ideal)⟩ : View.Piece (Elt Ideal) S512x128 .f32)] (ix2 u x) = acc (gv (fun h => hq m c (atD t) (atH t h)) (fun h => hk m c (atD t) (atH t h)) (fun h => Dv (atD t) (atH t h)) (fun h => Lv (atD t) (atH t h)) u x) 0 :=
    fun u x => (cleared (k0_pay8 (F := Ideal)) pay8_apply _ u x).trans (acc_zero _).symm
  have s1 := pieceV 0 B0 B3 B1 B5 (fun h => hq m c (atD t) (atH t h)) (fun h => hk m c (atD t) (atH t h)) (fun h => Dv (atD t) (atH t h)) (fun h => Lv (atD t) (atH t h)) c0 c1 c3 c5 0 0 0 (by omega) (.inr ⟨rfl, rfl⟩) (by omega) (by omega) ![0, 0, 0] (k0_off1 (grid0.coords t)) rfl (o1 t) (inb _ rfl (by omega)) (inb _ (o1 t) (by omega)) 0 (by omega) _ (View.whole cc0_scratch1) ![0, 0] (k0_off2 (grid0.coords t)) rfl (o2 t) (inb2 _ rfl (by omega)) (inb2 _ (o2 t) (by omega)) s0
  have s2 := pieceV 0 B0 B3 B1 B5 (fun h => hq m c (atD t) (atH t h)) (fun h => hk m c (atD t) (atH t h)) (fun h => Dv (atD t) (atH t h)) (fun h => Lv (atD t) (atH t h)) c0 c1 c3 c5 0 128 128 (by omega) (.inl rfl) (by omega) (by omega) ![0, 128, 0] (k0_off3 (grid0.coords t) 128#32) rfl (o3 t 0) (inb _ rfl (by omega)) (inb _ (o3 t 0) (by omega)) 1 (by omega) _ (View.whole cc0_scratch1) ![0, 0] (k0_off4 (grid0.coords t) 128#32) rfl (o4 t 0) (inb2 _ rfl (by omega)) (inb2 _ (o4 t 0) (by omega)) s1
  have s3 := pieceV 0 B0 B3 B1 B5 (fun h => hq m c (atD t) (atH t h)) (fun h => hk m c (atD t) (atH t h)) (fun h => Dv (atD t) (atH t h)) (fun h => Lv (atD t) (atH t h)) c0 c1 c3 c5 128 128 256 (by omega) (.inl rfl) (by omega) (by omega) ![0, 256, 0] (k0_off3 (grid0.coords t) 256#32) rfl (o3 t 1) (inb _ rfl (by omega)) (inb _ (o3 t 1) (by omega)) 2 (by omega) _ (View.whole cc0_scratch1) ![128, 0] (k0_off4 (grid0.coords t) 256#32) rfl (o4 t 1) (inb2 _ rfl (by omega)) (inb2 _ (o4 t 1) (by omega)) s2
  have s4 := pieceV 0 B0 B3 B1 B5 (fun h => hq m c (atD t) (atH t h)) (fun h => hk m c (atD t) (atH t h)) (fun h => Dv (atD t) (atH t h)) (fun h => Lv (atD t) (atH t h)) c0 c1 c3 c5 256 128 384 (by omega) (.inl rfl) (by omega) (by omega) ![0, 384, 0] (k0_off3 (grid0.coords t) 384#32) rfl (o3 t 2) (inb _ rfl (by omega)) (inb _ (o3 t 2) (by omega)) 3 (by omega) _ (View.whole cc0_scratch1) ![256, 0] (k0_off4 (grid0.coords t) 384#32) rfl (o4 t 2) (inb2 _ rfl (by omega)) (inb2 _ (o4 t 2) (by omega)) s3
  exact s4 _ _

end Cert.Attnb16KIdeal.Block

end
-- ==== Proof.AttnMix.lean ====
/-
  The mix of three branches of attention, at one row and head: the weights are those of a softmax over the branches' log sums.
-/
module

public import proofs.«01_k».proof.Proof.AttnBlock

@[expose] public section

noncomputable section

namespace Cert.Mix

open Idealize.ShloMosaic

variable (a b c x y z : EReal)

/-- The largest of the three log sums. -/
def top : EReal := max (max a b) c
/-- The sum of the branches' weights before they are divided. -/
def den : EReal := Ideal.exp (a - top a b c) + Ideal.exp (b - top a b c) + Ideal.exp (c - top a b c)
/-- The log sum over all branches. -/
def lse : EReal := top a b c + Ideal.log (den a b c)
/-- The mix of the branches' outputs. -/
def mix : EReal := 0 + Ideal.div (Ideal.exp (a - top a b c)) (den a b c) * x + Ideal.div (Ideal.exp (b - top a b c)) (den a b c) * y
  + Ideal.div (Ideal.exp (c - top a b c)) (den a b c) * z

end Cert.Mix

end
-- ==== Proof.Attnb16HostA.lean ====
/-
  The host prefix of the backward attention at dilation 16, window by window: what each window of operations leaves in the
  buffers read later, named by the values of the whole-array program, whose forward lines are the same.
-/
module

public import proofs.«01_k».proof.Proof.Gen.Attnb16KIdeal.Launch
public import proofs.«01_k».proof.Proof.Gen.Attnb16RIdeal.Read
public import Idealize.ShloMosaic.Lib.StableHlo.RunRead
public import Idealize.ShloMosaic.Lib.Tactic

@[expose] public section

set_option maxRecDepth 16384

noncomputable section

namespace Cert.Attnb16KIdeal.Host

open Cert.Attnb16KIdeal Cert.Attnb16KIdeal.Gen Idealize.ShloMosaic
open Cert.Attnb16RIdeal.Read

variable (W : Valuation τ sig (Elt Ideal))

theorem a5  : StableHlo.after hostOps0 W (Proc.devRef .tc main_v5) = val_main_v5 (F := Ideal) (W (Proc.devRef .tc main_arg2)) := by
  after_results; rfl
theorem a8  : StableHlo.after hostOps0 W (Proc.devRef .tc main_v8) = val_main_v8 (F := Ideal) (W (Proc.devRef .tc main_arg0)) (W (Proc.devRef .tc main_arg1)) := by
  after_results; rfl
theorem a23  : StableHlo.after hostOps0 W (Proc.devRef .tc main_v23) = val_main_v23 (F := Ideal) := by
  after_results; rfl
theorem acst  : StableHlo.after hostOps0 W (Proc.devRef .tc main_cst_1) = (constant S_ .f32 0xFF800000#32 : FVec Ideal S_ .f32) := by
  after_results
theorem ka_arg3  : StableHlo.after hostOps0 W (Proc.devRef .tc main_arg3) = W (Proc.devRef .tc main_arg3) := by
  after_results
theorem ka_arg4  : StableHlo.after hostOps0 W (Proc.devRef .tc main_arg4) = W (Proc.devRef .tc main_arg4) := by
  after_results
theorem ka_arg5  : StableHlo.after hostOps0 W (Proc.devRef .tc main_arg5) = W (Proc.devRef .tc main_arg5) := by
  after_results
theorem ka_arg6  : StableHlo.after hostOps0 W (Proc.devRef .tc main_arg6) = W (Proc.devRef .tc main_arg6) := by
  after_results
theorem ka_arg7  : StableHlo.after hostOps0 W (Proc.devRef .tc main_arg7) = W (Proc.devRef .tc main_arg7) := by
  after_results
theorem ka_arg8  : StableHlo.after hostOps0 W (Proc.devRef .tc main_arg8) = W (Proc.devRef .tc main_arg8) := by
  after_results
theorem ka_arg9  : StableHlo.after hostOps0 W (Proc.devRef .tc main_arg9) = W (Proc.devRef .tc main_arg9) := by
  after_results
theorem bv24 (q k : FVec Ideal S1x8192x512 .bf16) (h8 : W (Proc.devRef .tc main_v8) = val_main_v8 (F := Ideal) q k) (h23 : W (Proc.devRef .tc main_v23) = val_main_v23 (F := Ideal)) (hc : W (Proc.devRef .tc main_cst_1) = (constant S_ .f32 0xFF800000#32 : FVec Ideal S_ .f32)) : StableHlo.after hostOps0_1 W (Proc.devRef .tc main_v24) = val_main_v24 (F := Ideal) q k := by
  after_results; simp only [h8, h23, hc]; rfl
theorem kb_v5  : StableHlo.after hostOps0_1 W (Proc.devRef .tc main_v5) = W (Proc.devRef .tc main_v5) := by
  after_results
theorem kb_arg3  : StableHlo.after hostOps0_1 W (Proc.devRef .tc main_arg3) = W (Proc.devRef .tc main_arg3) := by
  after_results
theorem kb_arg4  : StableHlo.after hostOps0_1 W (Proc.devRef .tc main_arg4) = W (Proc.devRef .tc main_arg4) := by
  after_results
theorem kb_arg5  : StableHlo.after hostOps0_1 W (Proc.devRef .tc main_arg5) = W (Proc.devRef .tc main_arg5) := by
  after_results
theorem kb_arg6  : StableHlo.after hostOps0_1 W (Proc.devRef .tc main_arg6) = W (Proc.devRef .tc main_arg6) := by
  after_results
theorem kb_arg7  : StableHlo.after hostOps0_1 W (Proc.devRef .tc main_arg7) = W (Proc.devRef .tc main_arg7) := by
  after_results
theorem kb_arg8  : StableHlo.after hostOps0_1 W (Proc.devRef .tc main_arg8) = W (Proc.devRef .tc main_arg8) := by
  after_results
theorem kb_arg9  : StableHlo.after hostOps0_1 W (Proc.devRef .tc main_arg9) = W (Proc.devRef .tc main_arg9) := by
  after_results
theorem cv43 (q k v : FVec Ideal S1x8192x512 .bf16) (h : W (Proc.devRef .tc main_v24) = val_main_v24 (F := Ideal) q k) (h5 : W (Proc.devRef .tc main_v5) = val_main_v5 (F := Ideal) v) : StableHlo.after hostOps0_2 W (Proc.devRef .tc main_v43) = val_main_v43 (F := Ideal) q k v := by
  after_results; simp only [h, h5]; rfl
theorem cv45 (q k : FVec Ideal S1x8192x512 .bf16) (h : W (Proc.devRef .tc main_v24) = val_main_v24 (F := Ideal) q k) : StableHlo.after hostOps0_2 W (Proc.devRef .tc main_v45) = val_main_v45 (F := Ideal) q k := by
  after_results; simp only [h]; rfl
theorem cv51  : StableHlo.after hostOps0_2 W (Proc.devRef .tc main_v51) = val_main_v51 (F := Ideal) (W (Proc.devRef .tc main_arg5)) := by
  after_results; rfl
theorem cv54  : StableHlo.after hostOps0_2 W (Proc.devRef .tc main_v54) = val_main_v54 (F := Ideal) (W (Proc.devRef .tc main_arg3)) (W (Proc.devRef .tc main_arg4)) := by
  after_results; rfl
theorem cv69  : StableHlo.after hostOps0_2 W (Proc.devRef .tc main_v69) = val_main_v69 (F := Ideal) := by
  after_results; rfl
theorem ccst_7  : StableHlo.after hostOps0_2 W (Proc.devRef .tc main_cst_7) = (constant S_ .f32 0xFF800000#32 : FVec Ideal S_ .f32) := by
  after_results
theorem kc_arg6  : StableHlo.after hostOps0_2 W (Proc.devRef .tc main_arg6) = W (Proc.devRef .tc main_arg6) := by
  after_results
theorem kc_arg7  : StableHlo.after hostOps0_2 W (Proc.devRef .tc main_arg7) = W (Proc.devRef .tc main_arg7) := by
  after_results
theorem kc_arg8  : StableHlo.after hostOps0_2 W (Proc.devRef .tc main_arg8) = W (Proc.devRef .tc main_arg8) := by
  after_results
theorem kc_arg9  : StableHlo.after hostOps0_2 W (Proc.devRef .tc main_arg9) = W (Proc.devRef .tc main_arg9) := by
  after_results
theorem dv70 (q k : FVec Ideal S4x2048x512 .bf16) (h8 : W (Proc.devRef .tc main_v54) = val_main_v54 (F := Ideal) q k) (h23 : W (Proc.devRef .tc main_v69) = val_main_v69 (F := Ideal)) (hc : W (Proc.devRef .tc main_cst_7) = (constant S_ .f32 0xFF800000#32 : FVec Ideal S_ .f32)) : StableHlo.after hostOps0_3 W (Proc.devRef .tc main_v70) = val_main_v70 (F := Ideal) q k := by
  after_results; simp only [h8, h23, hc]; rfl
theorem kd_v43  : StableHlo.after hostOps0_3 W (Proc.devRef .tc main_v43) = W (Proc.devRef .tc main_v43) := by
  after_results
theorem kd_v45  : StableHlo.after hostOps0_3 W (Proc.devRef .tc main_v45) = W (Proc.devRef .tc main_v45) := by
  after_results
theorem kd_v51  : StableHlo.after hostOps0_3 W (Proc.devRef .tc main_v51) = W (Proc.devRef .tc main_v51) := by
  after_results
theorem kd_arg6  : StableHlo.after hostOps0_3 W (Proc.devRef .tc main_arg6) = W (Proc.devRef .tc main_arg6) := by
  after_results
theorem kd_arg7  : StableHlo.after hostOps0_3 W (Proc.devRef .tc main_arg7) = W (Proc.devRef .tc main_arg7) := by
  after_results
theorem kd_arg8  : StableHlo.after hostOps0_3 W (Proc.devRef .tc main_arg8) = W (Proc.devRef .tc main_arg8) := by
  after_results
theorem kd_arg9  : StableHlo.after hostOps0_3 W (Proc.devRef .tc main_arg9) = W (Proc.devRef .tc main_arg9) := by
  after_results
theorem ev89 (q k v : FVec Ideal S4x2048x512 .bf16) (h : W (Proc.devRef .tc main_v70) = val_main_v70 (F := Ideal) q k) (h5 : W (Proc.devRef .tc main_v51) = val_main_v51 (F := Ideal) v) : StableHlo.after hostOps0_4 W (Proc.devRef .tc main_v89) = val_main_v89 (F := Ideal) q k v := by
  after_results; simp only [h, h5]; rfl
theorem ev91 (q k : FVec Ideal S4x2048x512 .bf16) (h : W (Proc.devRef .tc main_v70) = val_main_v70 (F := Ideal) q k) : StableHlo.after hostOps0_4 W (Proc.devRef .tc main_v91) = val_main_v91 (F := Ideal) q k := by
  after_results; simp only [h]; rfl
theorem ev97  : StableHlo.after hostOps0_4 W (Proc.devRef .tc main_v97) = val_main_v97 (F := Ideal) (W (Proc.devRef .tc main_arg8)) := by
  after_results; rfl
theorem ev100  : StableHlo.after hostOps0_4 W (Proc.devRef .tc main_v100) = val_main_v100 (F := Ideal) (W (Proc.devRef .tc main_arg6)) (W (Proc.devRef .tc main_arg7)) := by
  after_results; rfl
theorem ev115  : StableHlo.after hostOps0_4 W (Proc.devRef .tc main_v115) = val_main_v115 (F := Ideal) := by
  after_results; rfl
theorem ecst_13  : StableHlo.after hostOps0_4 W (Proc.devRef .tc main_cst_13) = (constant S_ .f32 0xFF800000#32 : FVec Ideal S_ .f32) := by
  after_results
theorem ke_v43  : StableHlo.after hostOps0_4 W (Proc.devRef .tc main_v43) = W (Proc.devRef .tc main_v43) := by
  after_results
theorem ke_v45  : StableHlo.after hostOps0_4 W (Proc.devRef .tc main_v45) = W (Proc.devRef .tc main_v45) := by
  after_results
theorem ke_arg9  : StableHlo.after hostOps0_4 W (Proc.devRef .tc main_arg9) = W (Proc.devRef .tc main_arg9) := by
  after_results
theorem fv116 (q k : FVec Ideal S16x512x512 .bf16) (h8 : W (Proc.devRef .tc main_v100) = val_main_v100 (F := Ideal) q k) (h23 : W (Proc.devRef .tc main_v115) = val_main_v115 (F := Ideal)) (hc : W (Proc.devRef .tc main_cst_13) = (constant S_ .f32 0xFF800000#32 : FVec Ideal S_ .f32)) : StableHlo.after hostOps0_5 W (Proc.devRef .tc main_v116) = val_main_v116_0 (F := Ideal) q k := by
  after_results; simp only [h8, h23, hc]; rfl
theorem kf_v43  : StableHlo.after hostOps0_5 W (Proc.devRef .tc main_v43) = W (Proc.devRef .tc main_v43) := by
  after_results
theorem kf_v45  : StableHlo.after hostOps0_5 W (Proc.devRef .tc main_v45) = W (Proc.devRef .tc main_v45) := by
  after_results
theorem kf_v89  : StableHlo.after hostOps0_5 W (Proc.devRef .tc main_v89) = W (Proc.devRef .tc main_v89) := by
  after_results
theorem kf_v91  : StableHlo.after hostOps0_5 W (Proc.devRef .tc main_v91) = W (Proc.devRef .tc main_v91) := by
  after_results
theorem kf_v97  : StableHlo.after hostOps0_5 W (Proc.devRef .tc main_v97) = W (Proc.devRef .tc main_v97) := by
  after_results
theorem kf_arg9  : StableHlo.after hostOps0_5 W (Proc.devRef .tc main_arg9) = W (Proc.devRef .tc main_arg9) := by
  after_results
theorem gv135 (q k v : FVec Ideal S16x512x512 .bf16) (h : W (Proc.devRef .tc main_v116) = val_main_v116_0 (F := Ideal) q k) (h5 : W (Proc.devRef .tc main_v97) = val_main_v97 (F := Ideal) v) : StableHlo.after hostOps0_6 W (Proc.devRef .tc main_v135) = val_main_v143 (F := Ideal) q k v := by
  after_results; simp only [h, h5]; rfl
theorem gv137 (q k : FVec Ideal S16x512x512 .bf16) (h : W (Proc.devRef .tc main_v116) = val_main_v116_0 (F := Ideal) q k) : StableHlo.after hostOps0_6 W (Proc.devRef .tc main_v137) = val_main_v145 (F := Ideal) q k := by
  after_results; simp only [h]; rfl

end Cert.Attnb16KIdeal.Host

end
-- ==== Proof.Attnb16Host.lean ====
/-
  What the backward attention at dilation 16 finds in its prepared arguments: the mixed output, the log sum over the branches
  and the cotangent, by residue class, row and head.
-/
module

public import proofs.«01_k».proof.Proof.AttnMix
public import proofs.«01_k».proof.Proof.Attnb16HostA
public import proofs.«01_k».proof.Proof.Attnb16Blocks

@[expose] public section

set_option maxRecDepth 16384

noncomputable section

namespace Cert.Attnb16KIdeal.Host

open Cert.Attnb16KIdeal Cert.Attnb16KIdeal.Gen Idealize.ShloMosaic Idealize.ShloMosaic.TcCoe Cert.Attnb16KIdeal.Block
open Cert.Attnb16RIdeal.Read

/-- The token of a row of a residue class. -/
abbrev tok (d : Fin 16) (r : Fin 512) : Fin 8192 := ⟨r.val * 16 + d.val, by omega⟩

/-- The mixed output as the host computes it from the three branches. -/
def mixed (a b c : FVec Ideal S8192x8 .f32) (x y z : FVec Ideal S8192x8x64 .f32) : FVec Ideal S8192x8x64 .f32 :=
  let t := maximumf (maximumf a b) c
  let p := Host.exp (subf a t)
  let q := Host.exp (subf b t)
  let r := Host.exp (subf c t)
  let s := addf (addf p q) r
  let w := fun v : FVec Ideal S8192x8 .f32 => broadcastInDim S8192x8x64 ![0, 1, 2] bcast_S8192x8x1_S8192x8x64_0_1_2 (broadcastInDim S8192x8x1 ![0, 1] bcast_S8192x8_S8192x8x1_0_1 (Host.divf v s))
  addf (addf (addf (broadcastInDim S8192x8x64 ![] bcast_S_S8192x8x64 (constant S_ .f32 0x00000000#32)) (mulf (w p) x)) (mulf (w q) y)) (mulf (w r) z)

/-- The log sum over the branches as the host computes it. -/
def mixedLse (a b c : FVec Ideal S8192x8 .f32) : FVec Ideal S8192x8 .f32 :=
  let t := maximumf (maximumf a b) c
  addf t (Host.log (addf (addf (Host.exp (subf a t)) (Host.exp (subf b t))) (Host.exp (subf c t))))

theorem mixed_apply (a b c : FVec Ideal S8192x8 .f32) (x y z : FVec Ideal S8192x8x64 .f32) (n : Fin 8192) (g : Fin 8) (e : Fin 64) :
    mixed a b c x y z (ix3 n g e) = Mix.mix (a (ix2 n g)) (b (ix2 n g)) (c (ix2 n g)) (x (ix3 n g e)) (y (ix3 n g e)) (z (ix3 n g e)) := by
  have h0 : Ideal.ofBits .f32 0x00000000#32 = (0 : EReal) := by simp [Ideal.ofBits, Ideal.ieee]
  pointwise [mixed, Mix.mix, Mix.den, Mix.top, h0]

theorem mixedLse_apply (a b c : FVec Ideal S8192x8 .f32) (n : Fin 8192) (g : Fin 8) :
    mixedLse a b c (ix2 n g) = Mix.lse (a (ix2 n g)) (b (ix2 n g)) (c (ix2 n g)) := by
  pointwise [mixedLse, Mix.lse, Mix.den, Mix.top]

/-- An array of tokens and lanes by residue class. -/
def split (x : FVec Ideal S8192x512 .f32) : FVec Ideal S16x512x512 .f32 :=
  transpose S16x512x512 [1, 0, 2] (shapeCast S512x16x512 x shapeCasts_S8192x512_S512x16x512) transposes_S512x16x512_S16x512x512_1_0_2

theorem split_apply (x : FVec Ideal S8192x512 .f32) (d : Fin 16) (r l : Fin 512) : split x (ix3 d r l) = x (ix2 (tok d r) l) := by
  pointwise [split]

theorem cast_heads (x : FVec Ideal S8192x8x64 .f32) (n : Fin 8192) (g : Fin 8) (e : Fin 64) :
    shapeCast S8192x512 x shapeCasts_S8192x8x64_S8192x512 (ix2 n (colg g e)) = x (ix3 n g e) := by
  have h1 : (g.val * 64 + e.val) / 64 = g.val := by omega
  have h2 : (g.val * 64 + e.val) % 64 = e.val := by omega
  pointwise [h1, h2]

theorem spread_apply (x : FVec Ideal S8192x8 .f32) (n : Fin 8192) (g : Fin 8) (e : Fin 64) :
    broadcastInDim S8192x8x64 ![0, 1] bcast_S8192x8_S8192x8x64_0_1 x (ix3 n g e) = x (ix2 n g) := by
  pointwise

section Last

variable (W : Valuation τ sig (Elt Ideal))

theorem g175 : StableHlo.after hostOps0_6 W (Proc.devRef .tc main_v175) = truncf .bf16 (split (W (Proc.devRef .tc main_arg9))) bitsLt_bf16_f32 := by
  after_results; rfl

theorem g135 : StableHlo.after hostOps0_6 W (Proc.devRef .tc main_v170) = split (shapeCast S8192x512 (mixed (W (Proc.devRef .tc main_v45)) (W (Proc.devRef .tc main_v91))
      (StableHlo.after hostOps0_6 W (Proc.devRef .tc main_v137)) (W (Proc.devRef .tc main_v43)) (W (Proc.devRef .tc main_v89))
      (StableHlo.after hostOps0_6 W (Proc.devRef .tc main_v135))) shapeCasts_S8192x8x64_S8192x512) := by
  after_results; rfl

theorem g172 : StableHlo.after hostOps0_6 W (Proc.devRef .tc main_v172) = split (shapeCast S8192x512 (broadcastInDim S8192x8x64 ![0, 1] bcast_S8192x8_S8192x8x64_0_1
      (mixedLse (W (Proc.devRef .tc main_v45)) (W (Proc.devRef .tc main_v91)) (StableHlo.after hostOps0_6 W (Proc.devRef .tc main_v137)))) shapeCasts_S8192x8x64_S8192x512) := by
  after_results; rfl

end Last

/-- Seven lists of operations, one after the other. -/
theorem after_seven (o0 o1 o2 o3 o4 o5 o6 : List (HloOp τ sig (Elt Ideal))) (W : Valuation τ sig (Elt Ideal)) :
    StableHlo.after (List.flatten [o0, o1, o2, o3, o4, o5, o6]) W
      = StableHlo.after o6 (StableHlo.after o5 (StableHlo.after o4 (StableHlo.after o3 (StableHlo.after o2 (StableHlo.after o1 (StableHlo.after o0 W)))))) := by
  simp only [List.flatten_cons, List.flatten_nil, List.append_nil, StableHlo.after_append]

variable (m : (ℓ : Loc nD τ sig) → Buf (Elt Ideal) ℓ) (c : Dev nD)

/-- The contents when the last window of operations begins. -/
def W6 : Valuation τ sig (Elt Ideal) :=
  StableHlo.after hostOps0_5 (StableHlo.after hostOps0_4 (StableHlo.after hostOps0_3 (StableHlo.after hostOps0_2 (StableHlo.after hostOps0_1 (StableHlo.after hostOps0 fun b => m (c, b))))))

theorem V_eq (b : Ref sig .tc) : V m c b = StableHlo.after hostOps0_6 (W6 m c) (Proc.devRef .tc b) := congrFun (after_seven ..) _

abbrev q1 : FVec Ideal S1x8192x512 .bf16 := m ((c : Thread nD τ).loc main_arg0)
abbrev k1 : FVec Ideal S1x8192x512 .bf16 := m ((c : Thread nD τ).loc main_arg1)
abbrev v1 : FVec Ideal S1x8192x512 .bf16 := m ((c : Thread nD τ).loc main_arg2)
abbrev q4 : FVec Ideal S4x2048x512 .bf16 := m ((c : Thread nD τ).loc main_arg3)
abbrev k4 : FVec Ideal S4x2048x512 .bf16 := m ((c : Thread nD τ).loc main_arg4)
abbrev v4 : FVec Ideal S4x2048x512 .bf16 := m ((c : Thread nD τ).loc main_arg5)
abbrev q16 : FVec Ideal S16x512x512 .bf16 := m ((c : Thread nD τ).loc main_arg6)
abbrev k16 : FVec Ideal S16x512x512 .bf16 := m ((c : Thread nD τ).loc main_arg7)
abbrev v16 : FVec Ideal S16x512x512 .bf16 := m ((c : Thread nD τ).loc main_arg8)
abbrev dO : FVec Ideal S8192x512 .f32 := m ((c : Thread nD τ).loc main_arg9)

theorem W_9 : W6 m c (Proc.devRef .tc main_arg9) = dO m c := by
  unfold W6
  rw [kf_arg9, ke_arg9, kd_arg9, kc_arg9, kb_arg9, ka_arg9]
theorem W_43 : W6 m c (Proc.devRef .tc main_v43) = val_main_v43 (F := Ideal) (q1 m c) (k1 m c) (v1 m c) := by
  unfold W6
  rw [kf_v43, ke_v43, kd_v43]
  exact cv43 _ _ _ _ (bv24 _ _ _ (a8 _) (a23 _) (acst _)) ((kb_v5 _).trans (a5 _))
theorem W_45 : W6 m c (Proc.devRef .tc main_v45) = val_main_v45 (F := Ideal) (q1 m c) (k1 m c) := by
  unfold W6
  rw [kf_v45, ke_v45, kd_v45]
  exact cv45 _ _ _ (bv24 _ _ _ (a8 _) (a23 _) (acst _))
theorem W_89 : W6 m c (Proc.devRef .tc main_v89) = val_main_v89 (F := Ideal) (q4 m c) (k4 m c) (v4 m c) := by
  unfold W6
  rw [kf_v89]
  refine ev89 _ _ _ _ (dv70 _ _ _ ?_ (cv69 _) (ccst_7 _)) ?_
  · rw [cv54, kb_arg3, ka_arg3, kb_arg4, ka_arg4]
  · rw [kd_v51, cv51, kb_arg5, ka_arg5]
theorem W_91 : W6 m c (Proc.devRef .tc main_v91) = val_main_v91 (F := Ideal) (q4 m c) (k4 m c) := by
  unfold W6
  rw [kf_v91]
  refine ev91 _ _ _ (dv70 _ _ _ ?_ (cv69 _) (ccst_7 _))
  rw [cv54, kb_arg3, ka_arg3, kb_arg4, ka_arg4]
theorem W_116 : W6 m c (Proc.devRef .tc main_v116) = val_main_v116_0 (F := Ideal) (q16 m c) (k16 m c) := by
  unfold W6
  refine fv116 _ _ _ ?_ (ev115 _) (ecst_13 _)
  rw [ev100, kd_arg6, kc_arg6, kb_arg6, ka_arg6, kd_arg7, kc_arg7, kb_arg7, ka_arg7]
theorem W_97 : W6 m c (Proc.devRef .tc main_v97) = val_main_v97 (F := Ideal) (v16 m c) := by
  unfold W6
  rw [kf_v97, ev97, kd_arg8, kc_arg8, kb_arg8, ka_arg8]

/-- The log sums of the three branches, by token and head. -/
abbrev l1 (n : Fin 8192) (g : Fin 8) : EReal := val_main_v45 (F := Ideal) (q1 m c) (k1 m c) (ix2 n g)
abbrev l4 (n : Fin 8192) (g : Fin 8) : EReal := val_main_v91 (F := Ideal) (q4 m c) (k4 m c) (ix2 n g)
abbrev l16 (n : Fin 8192) (g : Fin 8) : EReal := val_main_v145 (F := Ideal) (q16 m c) (k16 m c) (ix2 n g)
/-- The outputs of the three branches, by token, head and element. -/
abbrev o1 (n : Fin 8192) (g : Fin 8) (e : Fin 64) : EReal := val_main_v43 (F := Ideal) (q1 m c) (k1 m c) (v1 m c) (ix3 n g e)
abbrev o4 (n : Fin 8192) (g : Fin 8) (e : Fin 64) : EReal := val_main_v89 (F := Ideal) (q4 m c) (k4 m c) (v4 m c) (ix3 n g e)
abbrev o16 (n : Fin 8192) (g : Fin 8) (e : Fin 64) : EReal := val_main_v143 (F := Ideal) (q16 m c) (k16 m c) (v16 m c) (ix3 n g e)

theorem V_175 (d : Fin 16) (g : Fin 8) (r : Fin 512) (e : Fin 64) : (V m c main_v175 : S16x512x512.Idx → EReal) (ix3 d r (colg g e)) = dO m c (ix2 (tok d r) (colg g e)) := by
  rw [V_eq, g175, W_9]
  exact split_apply _ d r _

theorem V_170 (d : Fin 16) (g : Fin 8) (r : Fin 512) (e : Fin 64) : (V m c main_v170 : S16x512x512.Idx → EReal) (ix3 d r (colg g e))
    = Mix.mix (l1 m c (tok d r) g) (l4 m c (tok d r) g) (l16 m c (tok d r) g) (o1 m c (tok d r) g e) (o4 m c (tok d r) g e) (o16 m c (tok d r) g e) := by
  rw [V_eq, g135, W_43, W_45, W_89, W_91, gv137 _ _ _ (W_116 m c), gv135 _ _ _ _ (W_116 m c) (W_97 m c)]
  refine (split_apply _ d r _).trans ?_
  rw [cast_heads]
  exact mixed_apply ..

theorem V_172 (d : Fin 16) (g : Fin 8) (r : Fin 512) (e : Fin 64) : (V m c main_v172 : S16x512x512.Idx → EReal) (ix3 d r (colg g e))
    = Mix.lse (l1 m c (tok d r) g) (l4 m c (tok d r) g) (l16 m c (tok d r) g) := by
  rw [V_eq, g172, W_45, W_91, gv137 _ _ _ (W_116 m c)]
  refine (split_apply _ d r _).trans ?_
  rw [cast_heads, spread_apply]
  exact mixedLse_apply ..

end Cert.Attnb16KIdeal.Host

end
-- ==== Proof.AttnBackMath.lean ====
/-
  The gradient of one row of attention under a mask, mixed with other branches by a softmax of their log sums: the chain rule
  through the row's maximum, its total, its log sum and the mix is the short form with the weights of the common softmax.
-/
module

public import proofs.«01_k».proof.Proof.AttnMix
public import proofs.«01_k».proof.Proof.Finite
public import Mathlib.Analysis.SpecialFunctions.Log.Basic

@[expose] public section

noncomputable section

namespace Cert.Mix

open Idealize.ShloMosaic Cert.Finite

section Real

variable {n : ℕ}

/-- A row of scores: each is a real number or masked away, and one of them is a real number. -/
def RealRow (s : Fin n → EReal) : Prop := (∀ u, s u = ⊥ ∨ ∃ r : ℝ, s u = r) ∧ ∃ (u : Fin n) (r : ℝ), s u = r

/-- The largest score of a row. -/
abbrev rowMax (s : Fin n → EReal) : EReal := Finset.univ.fold max ⊥ s
/-- The weight of a key before it is divided. -/
abbrev wgt (s : Fin n → EReal) (u : Fin n) : EReal := Ideal.exp (s u - rowMax s)
/-- The total of a row's weights. -/
abbrev tot (s : Fin n → EReal) : EReal := ∑ u, wgt s u

theorem max_real (s : Fin n → EReal) (h : RealRow s) : ∃ m : ℝ, rowMax s = m ∧ ∃ u, s u = m := by
  obtain ⟨h1, u0, r0, h0⟩ := h
  obtain ⟨u1, -, hu⟩ := Finset.exists_mem_eq_sup Finset.univ ⟨u0, Finset.mem_univ u0⟩ s
  have hle : s u0 ≤ s u1 := hu ▸ Finset.le_sup (f := s) (Finset.mem_univ u0)
  have hm : rowMax s = s u1 := hu
  rcases h1 u1 with hb | ⟨m, hm1⟩
  · rw [hb, h0] at hle
    exact absurd (le_bot_iff.mp hle) (EReal.coe_ne_bot r0)
  · exact ⟨m, hm.trans hm1, u1, hm1⟩

/-- The weights of a row as real numbers. -/
theorem weights (s : Fin n → EReal) (h : RealRow s) : ∃ (m L : ℝ) (P : Fin n → ℝ), rowMax s = m ∧ (∃ u, s u = m) ∧ (∀ u, wgt s u = P u) ∧ tot s = L ∧ 0 < L ∧ ∑ u, P u = L
    ∧ ∀ (u : Fin n) (t : ℝ), Ideal.exp (s u - t) = ((P u * Real.exp (m - t) : ℝ) : EReal) := by
  obtain ⟨m, hm, u1, hu1⟩ := max_real s h
  have hp : ∀ u, ∃ r : ℝ, wgt s u = r ∧ 0 ≤ r ∧ ∀ t : ℝ, Ideal.exp (s u - t) = ((r * Real.exp (m - t) : ℝ) : EReal) := by
    intro u
    rcases h.1 u with hb | ⟨r, hr⟩
    · refine ⟨0, ?_, le_refl _, fun t => ?_⟩
      · show Ideal.exp (s u - rowMax s) = _
        rw [hm, hb, EReal.bot_sub]; rfl
      · rw [hb, EReal.bot_sub, zero_mul]; rfl
    · refine ⟨Real.exp (r - m), ?_, (Real.exp_pos _).le, fun t => ?_⟩
      · show Ideal.exp (s u - rowMax s) = _
        rw [hm, hr, csub, Ideal.exp_coe]
      · rw [hr, csub, Ideal.exp_coe, ← Real.exp_add]
        congr 2; ring
  choose P h1 h2 h3 using hp
  refine ⟨m, ∑ u, P u, P, hm, ⟨u1, hu1⟩, h1, ?_, ?_, rfl, h3⟩
  · show ∑ u, wgt s u = _
    rw [Finset.sum_congr rfl fun u _ => h1 u, csum]
  · refine Finset.sum_pos' (fun u _ => h2 u) ⟨u1, Finset.mem_univ _, ?_⟩
    have e := h1 u1
    show 0 < P u1
    have e' : wgt s u1 = ((1 : ℝ) : EReal) := by
      show Ideal.exp (s u1 - rowMax s) = _
      rw [hm, hu1, csub, Ideal.exp_coe, sub_self, Real.exp_zero]
    have : P u1 = 1 := EReal.coe_eq_coe_iff.mp (e.symm.trans e')
    rw [this]; exact one_pos

theorem log_pos_coe (L : ℝ) (h : 0 < L) : Ideal.log (L : EReal) = ((Real.log L : ℝ) : EReal) := by
  rw [Ideal.log_coe, if_neg (not_le.mpr h)]

variable (s : Fin n → EReal) (D : Fin 64 → EReal) (V : Fin n → Fin 64 → EReal)

/-- The sum of the values by weight, not yet divided. -/
abbrev raw (e : Fin 64) : EReal := ∑ u, V u e * wgt s u
/-- The output's element. -/
abbrev out (e : Fin 64) : EReal := Ideal.div (raw s V e) (tot s)
/-- The cotangent of a key's weight, before the weight itself: through the output, through the log sum and through the division. -/
def cot (al dl : EReal) (u : Fin n) : EReal :=
  (∑ e, Ideal.div (al * D e) (tot s) * V u e) + (Ideal.div dl (tot s) + -∑ e, al * D e * Ideal.div 1 (tot s * tot s) * raw s V e)
/-- The cotangent of a score, with what comes back through the row's maximum. -/
def dsc (al dl cnt : EReal) (eq : Fin n → EReal) (u : Fin n) : EReal :=
  cot s D V al dl u * wgt s u + Ideal.div (dl + ∑ k, -(cot s D V al dl k * wgt s k)) cnt * eq u

theorem dsc_eq (h : RealRow s) (hD : ∀ e, D e = ((D e).toReal : EReal)) (hV : ∀ u e, V u e = ((V u e).toReal : EReal)) (cnt : ℝ) (hc : cnt ≠ 0) (eq : Fin n → EReal)
    (E Z N T : ℝ) (hZ : 0 < Z) (hE : Ideal.exp (rowMax s + Ideal.log (tot s) - T) = E) (u : Fin n) :
    dsc s D V (Ideal.div E Z) ((Ideal.div (∑ e, D e * out s V e) Z + -N) * E) cnt eq u
      = Ideal.exp (s u - ((T : EReal) + Ideal.log Z)) * ((∑ e, D e * V u e) - ((N * Z : ℝ) : EReal)) := by
  obtain ⟨m, L, P, hm, -, hP, hL, hL0, hS, hX⟩ := weights s h
  have hLn := hL0.ne'
  have hZn := hZ.ne'
  obtain ⟨d, rfl⟩ : ∃ d : Fin 64 → ℝ, D = fun e => (d e : EReal) := ⟨fun e => (D e).toReal, funext hD⟩
  obtain ⟨v, rfl⟩ : ∃ v : Fin n → Fin 64 → ℝ, V = fun u e => (v u e : EReal) := ⟨fun u e => (V u e).toReal, funext fun u => funext fun e => hV u e⟩
  have hE' : E = Real.exp (m - T) * L := by
    rw [hm, hL, log_pos_coe L hL0, cadd, csub, Ideal.exp_coe] at hE
    rw [← EReal.coe_eq_coe_iff.mp hE, show m + Real.log L - T = (m - T) + Real.log L by ring, Real.exp_add, Real.exp_log hL0]
  have hraw : ∀ e, raw s (fun u e => (v u e : EReal)) e = ((∑ u, v u e * P u : ℝ) : EReal) := fun e => by
    show ∑ u, (v u e : EReal) * wgt s u = _
    rw [Finset.sum_congr rfl fun u _ => by rw [hP u, cmul], csum]
  have hout : ∀ e, out s (fun u e => (v u e : EReal)) e = (((∑ u, v u e * P u) / L : ℝ) : EReal) := fun e => by
    show Ideal.div (raw s (fun u e => (v u e : EReal)) e) (tot s) = _
    rw [hraw, hL, cdiv _ _ hLn]
  have hG : ∑ e, (d e : EReal) * out s (fun u e => (v u e : EReal)) e = ((∑ e, d e * ((∑ u, v u e * P u) / L) : ℝ) : EReal) := by
    rw [Finset.sum_congr rfl fun e _ => by rw [hout e, cmul], csum]
  rw [hG, cdiv _ _ hZn, cdiv _ _ hZn, cneg, cadd, cmul]
  generalize hg : ∑ e, d e * ((∑ u, v u e * P u) / L) = G
  have hLL : L * L ≠ 0 := mul_ne_zero hLn hLn
  have hcot : ∀ k, cot s (fun e => (d e : EReal)) (fun u e => (v u e : EReal)) ((E / Z : ℝ) : EReal) (((G / Z + -N) * E : ℝ) : EReal) k
      = ((E / Z / L * (∑ e, d e * v k e) + ((G / Z + -N) * E / L - E / Z / L * G) : ℝ) : EReal) := fun k => by
    unfold cot
    simp only [hraw, hL]
    simp (disch := first | exact hLn | exact hLL) only [cmul, cone_div, cdiv, csum, cneg, cadd]
    congr 1
    rw [← hg, sub_eq_add_neg, Finset.mul_sum, Finset.mul_sum]
    congr 1
    · exact Finset.sum_congr rfl fun e _ => by field_simp
    · congr 2
      exact Finset.sum_congr rfl fun e _ => by field_simp
  have hsum : ∑ k, -(cot s (fun e => (d e : EReal)) (fun u e => (v u e : EReal)) ((E / Z : ℝ) : EReal) (((G / Z + -N) * E : ℝ) : EReal) k * wgt s k)
      = ((-((G / Z + -N) * E) : ℝ) : EReal) := by
    rw [Finset.sum_congr rfl fun k _ => by rw [hcot k, hP k, cmul, cneg], csum]
    congr 1
    have h1 : ∑ k, (∑ e, d e * v k e) * P k = G * L := by
      rw [← hg, Finset.sum_mul]
      simp only [Finset.sum_mul, Finset.sum_div, Finset.mul_sum]
      rw [Finset.sum_comm]
      exact Finset.sum_congr rfl fun e _ => Finset.sum_congr rfl fun u _ => by field_simp
    have h2 : ∑ k, (E / Z / L * (∑ e, d e * v k e) + ((G / Z + -N) * E / L - E / Z / L * G)) * P k = (G / Z + -N) * E := by
      simp only [add_mul, Finset.sum_add_distrib, mul_assoc]
      rw [← Finset.mul_sum, ← Finset.mul_sum, hS, h1]
      field_simp
      ring
    rw [Finset.sum_neg_distrib, h2]
  unfold dsc
  rw [hsum, hcot, cadd, add_neg_cancel, cdiv _ _ hc, zero_div, EReal.coe_zero, zero_mul, add_zero, hP, cmul, log_pos_coe Z hZ, cadd, hX]
  simp only [cmul, csum, csub]
  congr 1
  rw [hE', show m - (T + Real.log Z) = (m - T) - Real.log Z by ring, Real.exp_sub (m - T) (Real.log Z), Real.exp_log hZ]
  field_simp
  ring

/-- What a key's value gains from a row. -/
theorem val_eq (h : RealRow s) (x : ℝ) (E Z T : ℝ) (hZ : 0 < Z) (hE : Ideal.exp (rowMax s + Ideal.log (tot s) - T) = E) (u : Fin n) :
    Ideal.div (Ideal.div E Z * (x : EReal)) (tot s) * wgt s u = Ideal.exp (s u - ((T : EReal) + Ideal.log Z)) * x := by
  obtain ⟨m, L, P, hm, -, hP, hL, hL0, hS, hX⟩ := weights s h
  have hLn := hL0.ne'
  have hZn := hZ.ne'
  have hE' : E = Real.exp (m - T) * L := by
    rw [hm, hL, log_pos_coe L hL0, cadd, csub, Ideal.exp_coe] at hE
    rw [← EReal.coe_eq_coe_iff.mp hE, show m + Real.log L - T = (m - T) + Real.log L by ring, Real.exp_add, Real.exp_log hL0]
  rw [hL, hP, log_pos_coe Z hZ, cadd, hX, cdiv _ _ hZn, cmul, cdiv _ _ hLn, cmul, cmul]
  congr 1
  rw [hE', show m - (T + Real.log Z) = (m - T) - Real.log Z by ring, Real.exp_sub (m - T) (Real.log Z), Real.exp_log hZ]
  field_simp

/-- A row's log sum and outputs are real numbers. -/
theorem lse_real (h : RealRow s) : ∃ r : ℝ, rowMax s + Ideal.log (tot s) = r := by
  obtain ⟨m, L, P, hm, -, hP, hL, hL0, hS, hX⟩ := weights s h
  exact ⟨m + Real.log L, by rw [hm, hL, log_pos_coe L hL0, cadd]⟩

theorem out_real (h : RealRow s) (hV : ∀ u e, V u e = ((V u e).toReal : EReal)) (e : Fin 64) : ∃ r : ℝ, out s V e = r := by
  obtain ⟨m, L, P, hm, -, hP, hL, hL0, hS, hX⟩ := weights s h
  refine ⟨(∑ u, (V u e).toReal * P u) / L, ?_⟩
  show Ideal.div (∑ u, V u e * wgt s u) (tot s) = _
  rw [Finset.sum_congr rfl fun u _ => by rw [hV u e, hP u, cmul], csum, hL, cdiv _ _ hL0.ne']

/-- The mix of three branches at a token and head, as real numbers: the mean of the cotangents, times the total, is the cotangent against the mix. -/
theorem mix_row (a b c : ℝ) (D x y z : Fin 64 → EReal) (hD : ∀ e, D e = ((D e).toReal : EReal)) (hx : ∀ e, ∃ r : ℝ, x e = r) (hy : ∀ e, ∃ r : ℝ, y e = r)
    (hz : ∀ e, ∃ r : ℝ, z e = r) : ∃ T Ea Eb Ec Z N : ℝ, top a b c = T ∧ Ideal.exp (a - top a b c) = Ea ∧ Ideal.exp (b - top a b c) = Eb ∧ Ideal.exp (c - top a b c) = Ec
      ∧ den a b c = Z ∧ 0 < Z
      ∧ (∑ e, D e * x e) * Ideal.div 1 ((Z : EReal) * Z) * Ea + (∑ e, D e * y e) * Ideal.div 1 ((Z : EReal) * Z) * Eb + (∑ e, D e * z e) * Ideal.div 1 ((Z : EReal) * Z) * Ec = N
      ∧ ∑ e, D e * mix a b c (x e) (y e) (z e) = ((N * Z : ℝ) : EReal) := by
  obtain ⟨d, rfl⟩ : ∃ d : Fin 64 → ℝ, D = fun e => (d e : EReal) := ⟨fun e => (D e).toReal, funext hD⟩
  choose X hX using hx
  choose Y hY using hy
  choose W hW using hz
  obtain rfl : x = fun e => (X e : EReal) := funext hX
  obtain rfl : y = fun e => (Y e : EReal) := funext hY
  obtain rfl : z = fun e => (W e : EReal) := funext hW
  have ht : top (a : EReal) b c = ((max (max a b) c : ℝ) : EReal) := by
    unfold top
    rw [EReal.coe_strictMono.monotone.map_max, EReal.coe_strictMono.monotone.map_max]
  unfold mix den
  rw [ht]
  generalize max (max a b) c = T
  simp only [csub, Ideal.exp_coe]
  have h1 := Real.exp_pos (a - T)
  have h2 := Real.exp_pos (b - T)
  have h3 := Real.exp_pos (c - T)
  generalize Real.exp (a - T) = Ea at *
  generalize Real.exp (b - T) = Eb at *
  generalize Real.exp (c - T) = Ec at *
  have hZ : 0 < Ea + Eb + Ec := by positivity
  have hZn := hZ.ne'
  have hZZ : (Ea + Eb + Ec) * (Ea + Eb + Ec) ≠ 0 := mul_ne_zero hZn hZn
  refine ⟨T, Ea, Eb, Ec, Ea + Eb + Ec, (∑ e, d e * X e) * (1 / ((Ea + Eb + Ec) * (Ea + Eb + Ec))) * Ea + (∑ e, d e * Y e) * (1 / ((Ea + Eb + Ec) * (Ea + Eb + Ec))) * Eb
    + (∑ e, d e * W e) * (1 / ((Ea + Eb + Ec) * (Ea + Eb + Ec))) * Ec, rfl, rfl, rfl, rfl, ?_, hZ, ?_, ?_⟩
  · simp only [cadd]
  · simp (disch := exact hZZ) only [cmul, cone_div, csum, cadd]
  · rw [Finset.sum_congr rfl fun e _ => show (d e : EReal) * (0 + Ideal.div (Ea : EReal) (Ea + Eb + Ec) * (X e) + Ideal.div (Eb : EReal) (Ea + Eb + Ec) * (Y e) + Ideal.div (Ec : EReal) (Ea + Eb + Ec) * (W e))
        = (((d e * X e) * (Ea / (Ea + Eb + Ec)) + (d e * Y e) * (Eb / (Ea + Eb + Ec)) + (d e * W e) * (Ec / (Ea + Eb + Ec)) : ℝ) : EReal) by
          rw [zero_add]
          simp (disch := exact hZn) only [cadd, cdiv, cmul]
          congr 1; ring, csum]
    congr 1
    rw [Finset.sum_add_distrib, Finset.sum_add_distrib, ← Finset.sum_mul, ← Finset.sum_mul, ← Finset.sum_mul]
    field_simp

/-- How many scores of a row are its largest: a real number that is not zero. -/
theorem count (s : Fin n → EReal) (h : RealRow s) :
    ∃ k : ℝ, k ≠ 0 ∧ ∑ u, (((Ideal.cmp .oeq (s u) (rowMax s)).toNat : ℝ) : EReal) = k := by
  obtain ⟨m, hm, u, hu⟩ := max_real s h
  refine ⟨∑ u, ((Ideal.cmp .oeq (s u) (rowMax s)).toNat : ℝ), ne_of_gt ?_, csum _ _⟩
  refine Finset.sum_pos' (fun u _ => Nat.cast_nonneg _) ⟨u, Finset.mem_univ _, ?_⟩
  rw [hm, hu]
  simp [Ideal.cmp]

/-- The scores of a row of a banded attention over real numbers: the row's own key is in the band. -/
theorem band_real (w : ℕ) (Q : Fin 64 → EReal) (K : Fin n → Fin 64 → EReal) (t : Fin n) (hQ : ∀ e, Q e = ((Q e).toReal : EReal)) (hK : ∀ u e, K u e = ((K u e).toReal : EReal)) :
    RealRow (Cert.Attn.band w Q K t.val) := by
  have hs : ∀ u, (∑ e, Q e * K u e) * ((1 / 8 : ℝ) : EReal) = (((∑ e, (Q e).toReal * (K u e).toReal) * (1 / 8) : ℝ) : EReal) := fun u => by
    rw [sum_mul_real _ _ hQ (hK u), cmul]
  refine ⟨fun u => ?_, t, _, (if_pos ⟨le_refl _, Nat.le_add_right _ _⟩).trans (hs t)⟩
  unfold Cert.Attn.band
  split
  · exact .inr ⟨_, hs u⟩
  · exact .inl rfl

end Real

end Cert.Mix

end
-- ==== Proof.Attnb16Ref.lean ====
/-
  The reference of the gradient of the banded attention at dilation 16, read element by element: the forward pass of the
  branch, the mix of the three branches, and the chain rule back to the scores.
-/
module

public import proofs.«01_k».proof.Proof.AttnBackMath
public import proofs.«01_k».proof.Proof.AttnBack
public import proofs.«01_k».proof.Proof.AttnSpan
public import proofs.«01_k».proof.Proof.Gen.Attnb16RIdeal.Run
public import proofs.«01_k».proof.Proof.Gen.Attnb16RIdeal.Read
public import Idealize.ShloMosaic.Lib.Tactic

@[expose] public section

set_option maxRecDepth 16384

noncomputable section

namespace Cert.Attnb16RIdeal.Read

open Cert.Attnb16RIdeal Cert.Attnb16RIdeal.Gen Cert.Attnb16RIdeal.Value Idealize.ShloMosaic Cert.Attn Cert.Finite

variable (x0 x1 x2 : FVec Ideal S1x8192x512 .bf16) (x3 x4 x5 : FVec Ideal S4x2048x512 .bf16) (x6 x7 x8 : FVec Ideal S16x512x512 .bf16) (x9 : FVec Ideal S8192x512 .f32)

/-- The lane of a head's element, the token of a row of a residue class. -/
abbrev elt (h : Fin 8) (e : Fin 64) : Fin 512 := ⟨h.val * 64 + e.val, by omega⟩
abbrev tok (b : Fin 16) (t : Fin 512) : Fin 8192 := ⟨t.val * 16 + b.val, by omega⟩
/-- A head of a residue class: rows and elements. -/
abbrev head (x : FVec Ideal S16x512x512 .bf16) (b : Fin 16) (h : Fin 8) (t : Fin 512) (e : Fin 64) : EReal := x (ix3 b t (elt h e))
/-- The scores of a row under the mask. -/
def scr (b : Fin 16) (h : Fin 8) (t u : Fin 512) : EReal := band 128 (head x6 b h t) (head x7 b h) t.val u

theorem tok_mod (b : Fin 16) (t : Fin 512) : (t.val * 16 + b.val) % 16 = b.val := by omega
theorem tok_div (b : Fin 16) (t : Fin 512) : (t.val * 16 + b.val) / 16 = t.val := by omega
theorem v93_eq (b : Fin 16) (t : Fin 512) (h : Fin 8) (e : Fin 64) : (val_main_v93 (F := Ideal) x6) (ix4 b t h e) = head x6 b h t e := by
  pointwise [val_main_v93, val_main_v92]
theorem v95_eq (b : Fin 16) (t : Fin 512) (h : Fin 8) (e : Fin 64) : (val_main_v95 (F := Ideal) x7) (ix4 b t h e) = head x7 b h t e := by
  pointwise [val_main_v95, val_main_v94]
theorem v97_eq (b : Fin 16) (t : Fin 512) (h : Fin 8) (e : Fin 64) : (val_main_v97 (F := Ideal) x8) (ix4 b t h e) = head x8 b h t e := by
  pointwise [val_main_v97, val_main_v96]
theorem v100_eq (b : Fin 16) (h : Fin 8) (t u : Fin 512) : (val_main_v100 (F := Ideal) x6 x7) (ix4 b h t u)
    = (∑ e, head x6 b h t e * head x7 b h u e) * ((1 / 8 : ℝ) : EReal) := by
  pointwise [val_main_v100, val_main_v99, val_main_cst_10, val_main_v98, v93_eq, v95_eq, lit_eighth]
theorem v115_eq (t u : Fin 512) : (val_main_v115 (F := Ideal)) (ix2 t u) = if u.val ≤ t.val ∧ t.val ≤ u.val + 128 then 1#1 else 0#1 := by
  rw [← span_iff t.val u.val 128 (by omega) (by omega) (by omega)]
  pointwise [val_main_v115, val_main_v114, val_main_v113, val_main_c_12, val_main_v112, val_main_v111, val_main_v110, val_main_v109, val_main_v108, val_main_c_11, val_main_v107, val_main_v106, val_main_v105, val_main_v104, val_main_v103, val_main_v102, val_main_v101]
theorem mask_eq (b : Fin 16) (h : Fin 8) (t u : Fin 512) : (val_main_v116_1 (F := Ideal)) (ix4 b h t u) = if u.val ≤ t.val ∧ t.val ≤ u.val + 128 then 1#1 else 0#1 := by
  pointwise [val_main_v116_1, v115_eq]
theorem v116_eq (b : Fin 16) (h : Fin 8) (t u : Fin 512) : (val_main_v116_0 (F := Ideal) x6 x7) (ix4 b h t u) = scr x6 x7 b h t u := by
  unfold scr band
  rw [← v100_eq]
  generalize hs : (val_main_v100 (F := Ideal) x6 x7) = s
  pointwise [val_main_v116_0, hs, mask_eq, val_main_call2_v2]
  by_cases hh : u.val ≤ t.val ∧ t.val ≤ u.val + 128
  · rw [if_pos hh, if_pos hh]
    rfl
  · rw [if_neg hh, if_neg hh]
    exact lit_bot
theorem v117_eq (b : Fin 16) (h : Fin 8) (t : Fin 512) : (val_main_v117 (F := Ideal) x6 x7) (ix3 b h t) = Mix.rowMax (scr x6 x7 b h t) := by
  have hs := v116_eq x6 x7 b h t
  generalize hx : (val_main_v116_0 (F := Ideal) x6 x7) = s at hs
  pointwise [val_main_v117, hx, hs, val_main_cst_14, lit_bot]
theorem v126_eq (b : Fin 16) (h : Fin 8) (t u : Fin 512) : (val_main_v126 (F := Ideal) x6 x7) (ix4 b h t u) = Mix.wgt (scr x6 x7 b h t) u := by
  have hs := v116_eq x6 x7 b h t u
  have hm := v117_eq x6 x7 b h t
  generalize hx : (val_main_v116_0 (F := Ideal) x6 x7) = s at hs
  generalize hy : (val_main_v117 (F := Ideal) x6 x7) = y at hm
  pointwise [val_main_v126, val_main_v125, val_main_v124, val_main_v123, hx, hy, hs, hm]
theorem v127_eq (b : Fin 16) (h : Fin 8) (t : Fin 512) : (val_main_v127 (F := Ideal) x6 x7) (ix3 b h t) = Mix.tot (scr x6 x7 b h t) := by
  have hs := fun u => v126_eq x6 x7 b h t u
  generalize hx : (val_main_v126 (F := Ideal) x6 x7) = s at hs
  pointwise [val_main_v127, hx, hs, val_main_cst_16]
theorem v128_eq (b : Fin 16) (h : Fin 8) (t : Fin 512) (e : Fin 64) : (val_main_v128 (F := Ideal) x6 x7 x8) (ix4 b h e t)
    = Mix.raw (scr x6 x7 b h t) (head x8 b h) e := by
  have hs := fun u => v126_eq x6 x7 b h t u
  generalize hx : (val_main_v126 (F := Ideal) x6 x7) = s at hs
  pointwise [val_main_v128, hx, hs, v97_eq]
/-- The denominator of a row, spread over the elements. -/
theorem v131_eq (b : Fin 16) (h : Fin 8) (t : Fin 512) (i : Fin 1) : (val_main_v131 (F := Ideal) x6 x7) (ix4 b t h i) = Mix.tot (scr x6 x7 b h t) := by
  have hs := v127_eq x6 x7 b h t
  generalize hx : (val_main_v127 (F := Ideal) x6 x7) = s at hs
  pointwise [val_main_v131, val_main_v130, hx, hs]
theorem v129_eq (b : Fin 16) (h : Fin 8) (t : Fin 512) (e : Fin 64) : (val_main_v129 (F := Ideal) x6 x7 x8) (ix4 b t h e) = Mix.raw (scr x6 x7 b h t) (head x8 b h) e := by
  have hs := v128_eq x6 x7 x8 b h t e
  generalize hx : (val_main_v128 (F := Ideal) x6 x7 x8) = s at hs
  pointwise [val_main_v129, hx, hs]
theorem v143_eq (b : Fin 16) (h : Fin 8) (t : Fin 512) (e : Fin 64) : (val_main_v143 (F := Ideal) x6 x7 x8) (ix3 (tok b t) h e) = Mix.out (scr x6 x7 b h t) (head x8 b h) e := by
  have h1 := v129_eq x6 x7 x8 b h t e
  have h2 := v131_eq x6 x7 b h t 0
  generalize hx : (val_main_v129 (F := Ideal) x6 x7 x8) = x at h1
  generalize hy : (val_main_v131 (F := Ideal) x6 x7) = y at h2
  pointwise [val_main_v143, val_main_v142, val_main_v141, val_main_v140, val_main_v133, val_main_v132, hx, hy, tok_mod, tok_div, h1, h2]
theorem v138_eq (b : Fin 16) (h : Fin 8) (t : Fin 512) : (val_main_v138 (F := Ideal) x6 x7) (ix3 b h t) = Mix.rowMax (scr x6 x7 b h t) + Ideal.log (Mix.tot (scr x6 x7 b h t)) := by
  rw [val_main_v138_apply, val_main_v137_apply, v117_eq, v127_eq]
  rfl
theorem v145_eq (b : Fin 16) (h : Fin 8) (t : Fin 512) : (val_main_v145 (F := Ideal) x6 x7) (ix2 (tok b t) h) = Mix.rowMax (scr x6 x7 b h t) + Ideal.log (Mix.tot (scr x6 x7 b h t)) := by
  rw [← v138_eq]
  generalize hx : (val_main_v138 (F := Ideal) x6 x7) = x
  pointwise [val_main_v145, val_main_v144, val_main_v139, hx, tok_mod, tok_div]

end Cert.Attnb16RIdeal.Read

end
-- ==== Proof.Attnb16RefB.lean ====
/-
  The reference of the gradient of the banded attention at dilation 16, continued: the mix of the branches and the way back
  through it to the branch's output and log sum.
-/
module

public import proofs.«01_k».proof.Proof.Attnb16Ref

@[expose] public section

set_option maxRecDepth 16384

noncomputable section

namespace Cert.Attnb16RIdeal.Read

open Cert.Attnb16RIdeal Cert.Attnb16RIdeal.Gen Cert.Attnb16RIdeal.Value Idealize.ShloMosaic Cert.Attn Cert.Finite

variable (x0 x1 x2 : FVec Ideal S1x8192x512 .bf16) (x3 x4 x5 : FVec Ideal S4x2048x512 .bf16) (x6 x7 x8 : FVec Ideal S16x512x512 .bf16) (x9 : FVec Ideal S8192x512 .f32)

theorem lit_0 : Ideal.ofBits .f32 0x00000000#32 = (0 : EReal) := by simp [Ideal.ofBits, Ideal.ieee]
theorem lit_1 : Ideal.ofBits .f32 0x3F800000#32 = (1 : EReal) := by simp [Ideal.ofBits, Ideal.ieee, -EReal.coe_mul]; norm_num

theorem fold3 (f : Fin 3 → EReal) : max ⊥ (Finset.univ.fold max ⊥ f) = max (max (f 0) (f 1)) (f 2) := by
  show max ⊥ (Finset.univ.sup f) = _
  rw [bot_sup_eq, Fin.univ_succ, Finset.sup_cons, Finset.sup_map, Fin.univ_succ, Finset.sup_cons, Finset.sup_map, Finset.univ_unique, Finset.sup_singleton, ← sup_assoc]
  rfl

section Mix

variable (n : Fin 8192) (h : Fin 8)

/-- The three log sums of a token and head. -/
abbrev la : EReal := (val_main_v45 (F := Ideal) x0 x1) (ix2 n h)
abbrev lb : EReal := (val_main_v91 (F := Ideal) x3 x4) (ix2 n h)
abbrev lc : EReal := (val_main_v145 (F := Ideal) x6 x7) (ix2 n h)

theorem v149_0 : (val_main_v149 (F := Ideal) x0 x1 x3 x4 x6 x7) (ix3 0 n h) = la x0 x1 n h := by
  unfold la
  generalize hx : (val_main_v45 (F := Ideal) x0 x1) = x
  pointwise [val_main_v149, val_main_v146, hx]
theorem v149_1 : (val_main_v149 (F := Ideal) x0 x1 x3 x4 x6 x7) (ix3 1 n h) = lb x3 x4 n h := by
  unfold lb
  generalize hx : (val_main_v91 (F := Ideal) x3 x4) = x
  pointwise [val_main_v149, val_main_v147, hx]
theorem v149_2 : (val_main_v149 (F := Ideal) x0 x1 x3 x4 x6 x7) (ix3 2 n h) = lc x6 x7 n h := by
  unfold lc
  generalize hx : (val_main_v145 (F := Ideal) x6 x7) = x
  pointwise [val_main_v149, val_main_v148, hx]

/-- The largest log sum and the total of the branches' weights. -/
abbrev tp : EReal := Mix.top (la x0 x1 n h) (lb x3 x4 n h) (lc x6 x7 n h)
abbrev zz : EReal := Mix.den (la x0 x1 n h) (lb x3 x4 n h) (lc x6 x7 n h)
/-- The weight of a branch before it is divided. -/
abbrev ew (l : EReal) : EReal := Ideal.exp (l - tp x0 x1 x3 x4 x6 x7 n h)

theorem v159_eq : (val_main_v159 (F := Ideal) x0 x1 x3 x4 x6 x7) (ix2 n h) = tp x0 x1 x3 x4 x6 x7 n h := by
  have h0 := v149_0 x0 x1 x3 x4 x6 x7 n h
  have h1 := v149_1 x0 x1 x3 x4 x6 x7 n h
  have h2 := v149_2 x0 x1 x3 x4 x6 x7 n h
  unfold tp Mix.top
  rw [← h0, ← h1, ← h2]
  generalize hx : (val_main_v149 (F := Ideal) x0 x1 x3 x4 x6 x7) = x
  pointwise [val_main_v159, val_main_v158, val_main_cst_22, val_main_v152, val_main_cst_20, hx, lit_bot]
  rw [fold3]

theorem v172_i (i : Fin 3) (l : EReal) (hl : (val_main_v149 (F := Ideal) x0 x1 x3 x4 x6 x7) (ix3 i n h) = l) : (val_main_v172 (F := Ideal) x0 x1 x3 x4 x6 x7) (ix3 i n h) = ew x0 x1 x3 x4 x6 x7 n h l := by
  have h1 := v159_eq x0 x1 x3 x4 x6 x7 n h
  unfold ew
  rw [← h1, ← hl]
  generalize hx : (val_main_v149 (F := Ideal) x0 x1 x3 x4 x6 x7) = x
  generalize hy : (val_main_v159 (F := Ideal) x0 x1 x3 x4 x6 x7) = y
  pointwise [val_main_v172, val_main_v171, val_main_v170, val_main_v169, hx, hy]

theorem v173_eq : (val_main_v173 (F := Ideal) x0 x1 x3 x4 x6 x7) (ix2 n h) = zz x0 x1 x3 x4 x6 x7 n h := by
  have h0 := v172_i x0 x1 x3 x4 x6 x7 n h 0 _ (v149_0 x0 x1 x3 x4 x6 x7 n h)
  have h1 := v172_i x0 x1 x3 x4 x6 x7 n h 1 _ (v149_1 x0 x1 x3 x4 x6 x7 n h)
  have h2 := v172_i x0 x1 x3 x4 x6 x7 n h 2 _ (v149_2 x0 x1 x3 x4 x6 x7 n h)
  unfold zz Mix.den
  unfold ew at h0 h1 h2
  rw [← h0, ← h1, ← h2]
  generalize hx : (val_main_v172 (F := Ideal) x0 x1 x3 x4 x6 x7) = x
  pointwise [val_main_v173, val_main_cst_28, hx, lit_0]
  rw [Fin.sum_univ_three]

/-- The share of a branch. -/
theorem v176_i (i : Fin 3) (l : EReal) (hl : (val_main_v149 (F := Ideal) x0 x1 x3 x4 x6 x7) (ix3 i n h) = l) : (val_main_v176 (F := Ideal) x0 x1 x3 x4 x6 x7) (ix3 i n h) = Ideal.div (ew x0 x1 x3 x4 x6 x7 n h l) (zz x0 x1 x3 x4 x6 x7 n h) := by
  have h1 := v173_eq x0 x1 x3 x4 x6 x7 n h
  have h2 := v172_i x0 x1 x3 x4 x6 x7 n h i l hl
  rw [← h1, ← h2]
  generalize hx : (val_main_v172 (F := Ideal) x0 x1 x3 x4 x6 x7) = x
  generalize hy : (val_main_v173 (F := Ideal) x0 x1 x3 x4 x6 x7) = y
  pointwise [val_main_v176, val_main_v175, val_main_v174, hx, hy]

/-- The cotangent of a token, head and element. -/
theorem v200_eq (e : Fin 64) : (val_main_v200 (F := Ideal) x9) (ix3 n h e) = x9 (ix2 n (elt h e)) := by
  pointwise [val_main_v200]

/-- The cotangent against a branch's output. -/
theorem v206_eq : (val_main_v206 (F := Ideal) x6 x7 x8 x9) (ix2 n h) = ∑ e, x9 (ix2 n (elt h e)) * (val_main_v143 (F := Ideal) x6 x7 x8) (ix3 n h e) := by
  have hs := v200_eq x9 n h
  generalize hx : (val_main_v143 (F := Ideal) x6 x7 x8) = x
  generalize hy : (val_main_v200 (F := Ideal) x9) = y at hs
  pointwise [val_main_v206, val_main_cst_32, val_main_v205, val_main_v204, val_main_cst_31, val_main_v203, hx, hy, hs, lit_0, Fin.sum_univ_one]
theorem v210_eq : (val_main_v210 (F := Ideal) x3 x4 x5 x9) (ix2 n h) = ∑ e, x9 (ix2 n (elt h e)) * (val_main_v89 (F := Ideal) x3 x4 x5) (ix3 n h e) := by
  have hs := v200_eq x9 n h
  generalize hx : (val_main_v89 (F := Ideal) x3 x4 x5) = x
  generalize hy : (val_main_v200 (F := Ideal) x9) = y at hs
  pointwise [val_main_v210, val_main_cst_34, val_main_v209, val_main_v208, val_main_cst_33, val_main_v207, hx, hy, hs, lit_0, Fin.sum_univ_one]
theorem v214_eq : (val_main_v214 (F := Ideal) x0 x1 x2 x9) (ix2 n h) = ∑ e, x9 (ix2 n (elt h e)) * (val_main_v43 (F := Ideal) x0 x1 x2) (ix3 n h e) := by
  have hs := v200_eq x9 n h
  generalize hx : (val_main_v43 (F := Ideal) x0 x1 x2) = x
  generalize hy : (val_main_v200 (F := Ideal) x9) = y at hs
  pointwise [val_main_v214, val_main_cst_36, val_main_v213, val_main_v212, val_main_cst_35, val_main_v211, hx, hy, hs, lit_0, Fin.sum_univ_one]

/-- The cotangents against the three outputs. -/
abbrev ga : EReal := ∑ e, x9 (ix2 n (elt h e)) * (val_main_v43 (F := Ideal) x0 x1 x2) (ix3 n h e)
abbrev gb : EReal := ∑ e, x9 (ix2 n (elt h e)) * (val_main_v89 (F := Ideal) x3 x4 x5) (ix3 n h e)
abbrev gc : EReal := ∑ e, x9 (ix2 n (elt h e)) * (val_main_v143 (F := Ideal) x6 x7 x8) (ix3 n h e)

theorem v218_0 : (val_main_v218 (F := Ideal) x0 x1 x2 x3 x4 x5 x6 x7 x8 x9) (ix3 0 n h) = ga x0 x1 x2 x9 n h := by
  unfold ga
  rw [← v214_eq]
  generalize hx : (val_main_v214 (F := Ideal) x0 x1 x2 x9) = x
  pointwise [val_main_v218, val_main_v215, hx]
theorem v218_1 : (val_main_v218 (F := Ideal) x0 x1 x2 x3 x4 x5 x6 x7 x8 x9) (ix3 1 n h) = gb x3 x4 x5 x9 n h := by
  unfold gb
  rw [← v210_eq]
  generalize hx : (val_main_v210 (F := Ideal) x3 x4 x5 x9) = x
  pointwise [val_main_v218, val_main_v216, hx]
theorem v218_2 : (val_main_v218 (F := Ideal) x0 x1 x2 x3 x4 x5 x6 x7 x8 x9) (ix3 2 n h) = gc x6 x7 x8 x9 n h := by
  unfold gc
  rw [← v206_eq]
  generalize hx : (val_main_v206 (F := Ideal) x6 x7 x8 x9) = x
  pointwise [val_main_v218, val_main_v217, hx]

/-- The mean of the cotangents under the branches' weights, once divided. -/
def nn : EReal :=
  let Z := zz x0 x1 x3 x4 x6 x7 n h
  ga x0 x1 x2 x9 n h * Ideal.div 1 (Z * Z) * ew x0 x1 x3 x4 x6 x7 n h (la x0 x1 n h) + gb x3 x4 x5 x9 n h * Ideal.div 1 (Z * Z) * ew x0 x1 x3 x4 x6 x7 n h (lb x3 x4 n h)
    + gc x6 x7 x8 x9 n h * Ideal.div 1 (Z * Z) * ew x0 x1 x3 x4 x6 x7 n h (lc x6 x7 n h)

theorem v222_eq : (val_main_v222 (F := Ideal) x0 x1 x2 x3 x4 x5 x6 x7 x8 x9) (ix2 n h) = nn x0 x1 x2 x3 x4 x5 x6 x7 x8 x9 n h := by
  have h0 := v172_i x0 x1 x3 x4 x6 x7 n h 0 _ (v149_0 x0 x1 x3 x4 x6 x7 n h)
  have h1 := v172_i x0 x1 x3 x4 x6 x7 n h 1 _ (v149_1 x0 x1 x3 x4 x6 x7 n h)
  have h2 := v172_i x0 x1 x3 x4 x6 x7 n h 2 _ (v149_2 x0 x1 x3 x4 x6 x7 n h)
  have g0 := v218_0 x0 x1 x2 x3 x4 x5 x6 x7 x8 x9 n h
  have g1 := v218_1 x0 x1 x2 x3 x4 x5 x6 x7 x8 x9 n h
  have g2 := v218_2 x0 x1 x2 x3 x4 x5 x6 x7 x8 x9 n h
  have hz := v173_eq x0 x1 x3 x4 x6 x7 n h
  unfold nn
  dsimp only
  rw [← h0, ← h1, ← h2, ← g0, ← g1, ← g2, ← hz]
  generalize hx : (val_main_v172 (F := Ideal) x0 x1 x3 x4 x6 x7) = x
  generalize hy : (val_main_v218 (F := Ideal) x0 x1 x2 x3 x4 x5 x6 x7 x8 x9) = y
  generalize hw : (val_main_v173 (F := Ideal) x0 x1 x3 x4 x6 x7) = w
  pointwise [val_main_v222, val_main_cst_37, val_main_v221, val_main_v220, val_main_v219, val_main_v179, val_main_v178, val_main_cst_29, val_main_v177, val_main_v174, hx, hy, hw, lit_0, lit_1]
  rw [Fin.sum_univ_three]

/-- The cotangent of the branch's log sum. -/
theorem v236_eq : (val_main_v236 (F := Ideal) x0 x1 x2 x3 x4 x5 x6 x7 x8 x9) (ix2 n h) = (Ideal.div (gc x6 x7 x8 x9 n h) (zz x0 x1 x3 x4 x6 x7 n h) + -nn x0 x1 x2 x3 x4 x5 x6 x7 x8 x9 n h)
    * ew x0 x1 x3 x4 x6 x7 n h (lc x6 x7 n h) := by
  have h2 := v172_i x0 x1 x3 x4 x6 x7 n h 2 _ (v149_2 x0 x1 x3 x4 x6 x7 n h)
  have g2 := v218_2 x0 x1 x2 x3 x4 x5 x6 x7 x8 x9 n h
  have hz := v173_eq x0 x1 x3 x4 x6 x7 n h
  have hn := v222_eq x0 x1 x2 x3 x4 x5 x6 x7 x8 x9 n h
  rw [← h2, ← g2, ← hz, ← hn]
  generalize hx : (val_main_v172 (F := Ideal) x0 x1 x3 x4 x6 x7) = x
  generalize hy : (val_main_v218 (F := Ideal) x0 x1 x2 x3 x4 x5 x6 x7 x8 x9) = y
  generalize hw : (val_main_v173 (F := Ideal) x0 x1 x3 x4 x6 x7) = w
  generalize hv : (val_main_v222 (F := Ideal) x0 x1 x2 x3 x4 x5 x6 x7 x8 x9) = v
  pointwise [val_main_v236, val_main_v235, val_main_v230, val_main_v229, val_main_v228, val_main_v227, val_main_cst_38, val_main_v226, val_main_v225, val_main_v224, val_main_v223, val_main_v174, hx, hy, hw, hv, lit_0, Fin.sum_univ_one]

/-- The branch's share of the cotangent. -/
theorem v202_eq (e : Fin 64) : (val_main_v202 (F := Ideal) x0 x1 x3 x4 x6 x7 x9) (ix3 n h e) = Ideal.div (ew x0 x1 x3 x4 x6 x7 n h (lc x6 x7 n h)) (zz x0 x1 x3 x4 x6 x7 n h) * x9 (ix2 n (elt h e)) := by
  have h2 := v176_i x0 x1 x3 x4 x6 x7 n h 2 _ (v149_2 x0 x1 x3 x4 x6 x7 n h)
  have hs := v200_eq x9 n h e
  rw [← h2, ← hs]
  generalize hx : (val_main_v176 (F := Ideal) x0 x1 x3 x4 x6 x7) = x
  generalize hy : (val_main_v200 (F := Ideal) x9) = y
  pointwise [val_main_v202, val_main_v201, val_main_v195, val_main_v185, val_main_v184, hx, hy]

end Mix

end Cert.Attnb16RIdeal.Read

end
-- ==== Proof.Attnb16RefC.lean ====
/-
  The reference of the gradient of the banded attention at dilation 16, concluded: the chain rule through the branch to its
  scores, and the three gradients.
-/
module

public import proofs.«01_k».proof.Proof.Attnb16RefB

@[expose] public section

set_option maxRecDepth 16384

noncomputable section

namespace Cert.Attnb16RIdeal.Read

open Cert.Attnb16RIdeal Cert.Attnb16RIdeal.Gen Cert.Attnb16RIdeal.Value Idealize.ShloMosaic Cert.Attn Cert.Finite

variable (x0 x1 x2 : FVec Ideal S1x8192x512 .bf16) (x3 x4 x5 : FVec Ideal S4x2048x512 .bf16) (x6 x7 x8 : FVec Ideal S16x512x512 .bf16) (x9 : FVec Ideal S8192x512 .f32)
  (b : Fin 16) (h : Fin 8)

/-- The branch's share at a row, and the cotangent of the row's log sum. -/
def al (t : Fin 512) : EReal := Ideal.div (ew x0 x1 x3 x4 x6 x7 (tok b t) h (lc x6 x7 (tok b t) h)) (zz x0 x1 x3 x4 x6 x7 (tok b t) h)
def dl (t : Fin 512) : EReal := (Ideal.div (gc x6 x7 x8 x9 (tok b t) h) (zz x0 x1 x3 x4 x6 x7 (tok b t) h) + -nn x0 x1 x2 x3 x4 x5 x6 x7 x8 x9 (tok b t) h)
    * ew x0 x1 x3 x4 x6 x7 (tok b t) h (lc x6 x7 (tok b t) h)
/-- The cotangent of the mixed output at a row's token. -/
abbrev dy (t : Fin 512) (e : Fin 64) : EReal := x9 (ix2 (tok b t) (elt h e))

theorem v243_eq (t : Fin 512) : (val_main_v243 (F := Ideal) x0 x1 x2 x3 x4 x5 x6 x7 x8 x9) (ix3 b h t) = dl x0 x1 x2 x3 x4 x5 x6 x7 x8 x9 b h t := by
  have h1 := v236_eq x0 x1 x2 x3 x4 x5 x6 x7 x8 x9 (tok b t) h
  unfold dl
  rw [← h1]
  generalize hx : (val_main_v236 (F := Ideal) x0 x1 x2 x3 x4 x5 x6 x7 x8 x9) = x
  pointwise [val_main_v243, val_main_v238, val_main_v237, hx]
theorem v242_eq (t : Fin 512) (e : Fin 64) : (val_main_v242 (F := Ideal) x0 x1 x3 x4 x6 x7 x9) (ix4 b t h e) = al x0 x1 x3 x4 x6 x7 b h t * dy x9 b h t e := by
  have h1 := v202_eq x0 x1 x3 x4 x6 x7 x9 (tok b t) h e
  unfold al
  rw [← h1]
  generalize hx : (val_main_v202 (F := Ideal) x0 x1 x3 x4 x6 x7 x9) = x
  pointwise [val_main_v242, val_main_v241, val_main_v240, val_main_v239, hx]
theorem v252_eq (t : Fin 512) (e : Fin 64) : (val_main_v252 (F := Ideal) x0 x1 x3 x4 x6 x7 x9) (ix4 b t h e)
    = Ideal.div (al x0 x1 x3 x4 x6 x7 b h t * dy x9 b h t e) (Mix.tot (scr x6 x7 b h t)) := by
  have h1 := v242_eq x0 x1 x3 x4 x6 x7 x9 b h t e
  have h2 := v131_eq x6 x7 b h t 0
  rw [← h1, ← h2]
  generalize hx : (val_main_v242 (F := Ideal) x0 x1 x3 x4 x6 x7 x9) = x
  generalize hy : (val_main_v131 (F := Ideal) x6 x7) = y
  pointwise [val_main_v252, val_main_v251, hx, hy]
theorem v136_eq (t : Fin 512) : (val_main_v136 (F := Ideal) x6 x7) (ix4 b t h 0) = Ideal.div 1 (Mix.tot (scr x6 x7 b h t) * Mix.tot (scr x6 x7 b h t)) := by
  have h2 := v131_eq x6 x7 b h t 0
  rw [← h2]
  generalize hy : (val_main_v131 (F := Ideal) x6 x7) = y
  pointwise [val_main_v136, val_main_v135, val_main_v134, val_main_cst_17, hy, lit_1]
theorem v255_eq (t : Fin 512) : (val_main_v255 (F := Ideal) x0 x1 x2 x3 x4 x5 x6 x7 x8 x9) (ix3 b h t) = Ideal.div (dl x0 x1 x2 x3 x4 x5 x6 x7 x8 x9 b h t) (Mix.tot (scr x6 x7 b h t))
    + -∑ e, al x0 x1 x3 x4 x6 x7 b h t * dy x9 b h t e * Ideal.div 1 (Mix.tot (scr x6 x7 b h t) * Mix.tot (scr x6 x7 b h t)) * Mix.raw (scr x6 x7 b h t) (head x8 b h) e := by
  have h1 := v242_eq x0 x1 x3 x4 x6 x7 x9 b h t
  have h2 := v136_eq x6 x7 b h t
  have h3 := v129_eq x6 x7 x8 b h t
  have h4 := v243_eq x0 x1 x2 x3 x4 x5 x6 x7 x8 x9 b h t
  have h5 := v127_eq x6 x7 b h t
  rw [← h4, ← h2]
  simp only [← h1, ← h3]
  rw [← h5]
  generalize hx : (val_main_v242 (F := Ideal) x0 x1 x3 x4 x6 x7 x9) = x
  generalize hy : (val_main_v136 (F := Ideal) x6 x7) = y
  generalize hz : (val_main_v129 (F := Ideal) x6 x7 x8) = z
  generalize hw : (val_main_v243 (F := Ideal) x0 x1 x2 x3 x4 x5 x6 x7 x8 x9) = w
  generalize hv : (val_main_v127 (F := Ideal) x6 x7) = v
  pointwise [val_main_v255, val_main_v244, val_main_v254, val_main_v253, val_main_cst_40, val_main_v250, val_main_v249, val_main_v248, val_main_cst_39, val_main_v247, val_main_v246, val_main_v245, hx, hy, hz, hw, hv, lit_0, Fin.sum_univ_one]
theorem v257_eq (t u : Fin 512) : (val_main_v257 (F := Ideal) x0 x1 x3 x4 x6 x7 x8 x9) (ix4 b h t u)
    = ∑ e, Ideal.div (al x0 x1 x3 x4 x6 x7 b h t * dy x9 b h t e) (Mix.tot (scr x6 x7 b h t)) * head x8 b h u e := by
  have h1 := v252_eq x0 x1 x3 x4 x6 x7 x9 b h t
  have h2 := v97_eq x8 b u h
  simp only [← h1, ← h2]
  generalize hx : (val_main_v252 (F := Ideal) x0 x1 x3 x4 x6 x7 x9) = x
  generalize hy : (val_main_v97 (F := Ideal) x8) = y
  pointwise [val_main_v257, val_main_v256, hx, hy]
theorem v262_eq (t u : Fin 512) : (val_main_v262 (F := Ideal) x0 x1 x2 x3 x4 x5 x6 x7 x8 x9) (ix4 b h t u)
    = Mix.cot (scr x6 x7 b h t) (dy x9 b h t) (head x8 b h) (al x0 x1 x3 x4 x6 x7 b h t) (dl x0 x1 x2 x3 x4 x5 x6 x7 x8 x9 b h t) u * Mix.wgt (scr x6 x7 b h t) u := by
  unfold Mix.cot
  rw [← v257_eq, ← v255_eq, ← v126_eq]
  generalize hx : (val_main_v257 (F := Ideal) x0 x1 x3 x4 x6 x7 x8 x9) = x
  generalize hy : (val_main_v255 (F := Ideal) x0 x1 x2 x3 x4 x5 x6 x7 x8 x9) = y
  generalize hz : (val_main_v126 (F := Ideal) x6 x7) = z
  pointwise [val_main_v262, val_main_v261, val_main_v260, hx, hy, hz]
/-- Whether a score is the largest of its row, and how many are. -/
def eqm (t u : Fin 512) : EReal := (((Ideal.cmp .oeq (scr x6 x7 b h t u) (Mix.rowMax (scr x6 x7 b h t))).toNat : ℝ) : EReal)
theorem v121_eq (t u : Fin 512) : (val_main_v121 (F := Ideal) x6 x7) (ix4 b h t u) = eqm x6 x7 b h t u := by
  unfold eqm
  rw [← v117_eq, ← v116_eq]
  generalize hx : (val_main_v116_0 (F := Ideal) x6 x7) = x
  generalize hy : (val_main_v117 (F := Ideal) x6 x7) = y
  pointwise [val_main_v121, val_main_v120, val_main_v119, val_main_v118, hx, hy]
  rfl
theorem v122_eq (t : Fin 512) : (val_main_v122 (F := Ideal) x6 x7) (ix3 b h t) = ∑ u, eqm x6 x7 b h t u := by
  simp only [← v121_eq]
  generalize hx : (val_main_v121 (F := Ideal) x6 x7) = x
  pointwise [val_main_v122, val_main_cst_15, hx, lit_0]
theorem v271_eq (t u : Fin 512) : (val_main_v271 (F := Ideal) x0 x1 x2 x3 x4 x5 x6 x7 x8 x9) (ix4 b h t u)
    = Mix.dsc (scr x6 x7 b h t) (dy x9 b h t) (head x8 b h) (al x0 x1 x3 x4 x6 x7 b h t) (dl x0 x1 x2 x3 x4 x5 x6 x7 x8 x9 b h t) (∑ u, eqm x6 x7 b h t u) (eqm x6 x7 b h t) u := by
  have h4 := v243_eq x0 x1 x2 x3 x4 x5 x6 x7 x8 x9 b h t
  have h5 := v262_eq x0 x1 x2 x3 x4 x5 x6 x7 x8 x9 b h t
  unfold Mix.dsc
  rw [← v122_eq, ← v121_eq]
  simp only [← h5]
  rw [← h4]
  generalize hx : (val_main_v262 (F := Ideal) x0 x1 x2 x3 x4 x5 x6 x7 x8 x9) = x
  generalize hy : (val_main_v243 (F := Ideal) x0 x1 x2 x3 x4 x5 x6 x7 x8 x9) = y
  generalize hz : (val_main_v122 (F := Ideal) x6 x7) = z
  generalize hw : (val_main_v121 (F := Ideal) x6 x7) = w
  pointwise [val_main_v271, val_main_v270, val_main_v269, val_main_v268, val_main_v267, val_main_v266, val_main_cst_42, val_main_v265, val_main_v264, val_main_cst_41, val_main_v263, hx, hy, hz, hw, lit_0, Fin.sum_univ_one]
/-- The cotangent of a scaled score. -/
def dsr (t u : Fin 512) : EReal := (if u.val ≤ t.val ∧ t.val ≤ u.val + 128 then
    Mix.dsc (scr x6 x7 b h t) (dy x9 b h t) (head x8 b h) (al x0 x1 x3 x4 x6 x7 b h t) (dl x0 x1 x2 x3 x4 x5 x6 x7 x8 x9 b h t) (∑ u, eqm x6 x7 b h t u) (eqm x6 x7 b h t) u
    else 0) * ((1 / 8 : ℝ) : EReal)
theorem v274_eq (t u : Fin 512) : (val_main_v274 (F := Ideal) x0 x1 x2 x3 x4 x5 x6 x7 x8 x9) (ix4 b h t u) = dsr x0 x1 x2 x3 x4 x5 x6 x7 x8 x9 b h t u := by
  have h1 := mask_eq b h t u
  unfold dsr
  rw [← v271_eq]
  generalize hx : (val_main_v271 (F := Ideal) x0 x1 x2 x3 x4 x5 x6 x7 x8 x9) = x
  generalize hy : (val_main_v116_1 (F := Ideal)) = y at h1
  pointwise [val_main_v274, val_main_v273, val_main_cst_43, val_main_v272, val_main_call3_v0, val_main_call3_cst, hx, hy, h1, lit_0, lit_eighth]
  by_cases hh : u.val ≤ t.val ∧ t.val ≤ u.val + 128
  · rw [if_pos hh, if_pos hh]
    rfl
  · rw [if_neg hh, if_neg hh, zero_mul]
    rfl

/-- The lane of a head's element, found again. -/
theorem elt_half (c : Fin 512) : elt ⟨c.val / 64, by omega⟩ ⟨c.val % 64, by omega⟩ = c := Fin.ext (by show c.val / 64 * 64 + c.val % 64 = c.val; omega)

theorem v284_eq (t : Fin 512) (e : Fin 64) : (val_main_v284 (F := Ideal) x0 x1 x2 x3 x4 x5 x6 x7 x8 x9) (ix3 b t (elt h e)) = ∑ u, dsr x0 x1 x2 x3 x4 x5 x6 x7 x8 x9 b h t u * head x7 b h u e := by
  have h1 := v274_eq x0 x1 x2 x3 x4 x5 x6 x7 x8 x9 b h t
  have h2 := fun u => v95_eq x7 b u h e
  have e1 : (h.val * 64 + e.val) / 64 = h.val := by omega
  have e2 : (h.val * 64 + e.val) % 64 = e.val := by omega
  simp only [← h1, ← h2]
  generalize hx : (val_main_v274 (F := Ideal) x0 x1 x2 x3 x4 x5 x6 x7 x8 x9) = x
  generalize hy : (val_main_v95 (F := Ideal) x7) = y
  pointwise [val_main_v284, val_main_v283, val_main_v278, val_main_v277, hx, hy, e1, e2]
theorem v282_eq (u : Fin 512) (e : Fin 64) : (val_main_v282 (F := Ideal) x0 x1 x2 x3 x4 x5 x6 x7 x8 x9) (ix3 b u (elt h e)) = ∑ t, dsr x0 x1 x2 x3 x4 x5 x6 x7 x8 x9 b h t u * head x6 b h t e := by
  have h1 := fun t => v274_eq x0 x1 x2 x3 x4 x5 x6 x7 x8 x9 b h t u
  have h2 := fun t => v93_eq x6 b t h e
  have e1 : (h.val * 64 + e.val) / 64 = h.val := by omega
  have e2 : (h.val * 64 + e.val) % 64 = e.val := by omega
  simp only [← h1, ← h2]
  generalize hx : (val_main_v274 (F := Ideal) x0 x1 x2 x3 x4 x5 x6 x7 x8 x9) = x
  generalize hy : (val_main_v93 (F := Ideal) x6) = y
  pointwise [val_main_v282, val_main_v281, val_main_v276, val_main_v275, hx, hy, e1, e2]
theorem v280_eq (u : Fin 512) (e : Fin 64) : (val_main_v280 (F := Ideal) x0 x1 x3 x4 x6 x7 x9) (ix3 b u (elt h e))
    = ∑ t, Ideal.div (al x0 x1 x3 x4 x6 x7 b h t * dy x9 b h t e) (Mix.tot (scr x6 x7 b h t)) * Mix.wgt (scr x6 x7 b h t) u := by
  have h1 := fun t => v252_eq x0 x1 x3 x4 x6 x7 x9 b h t e
  have h2 := fun t => v126_eq x6 x7 b h t u
  have e1 : (h.val * 64 + e.val) / 64 = h.val := by omega
  have e2 : (h.val * 64 + e.val) % 64 = e.val := by omega
  simp only [← h1, ← h2]
  generalize hx : (val_main_v252 (F := Ideal) x0 x1 x3 x4 x6 x7 x9) = x
  generalize hy : (val_main_v126 (F := Ideal) x6 x7) = y
  pointwise [val_main_v280, val_main_v279, val_main_v259, val_main_v258, val_main_v256, hx, hy, e1, e2]

end Cert.Attnb16RIdeal.Read

end
-- ==== Proof.Attnb16RefD.lean ====
/-
  The reference of the gradient of the banded attention at dilation 16 on real numbers: the chain rule's cotangent of a score
  is the short form with the weights of the softmax over all branches.
-/
module

public import proofs.«01_k».proof.Proof.Attnb16RefC
public import proofs.«01_k».proof.Proof.Attn1Claim
public import proofs.«01_k».proof.Proof.Attn4Claim

@[expose] public section

set_option maxRecDepth 16384

noncomputable section

namespace Cert.Attnb16RIdeal.Read

open Cert.Attnb16RIdeal Cert.Attnb16RIdeal.Gen Cert.Attnb16RIdeal.Value Idealize.ShloMosaic Cert.Attn Cert.AttnB Cert.Finite

variable (x0 x1 x2 : FVec Ideal S1x8192x512 .bf16) (x3 x4 x5 : FVec Ideal S4x2048x512 .bf16) (x6 x7 x8 : FVec Ideal S16x512x512 .bf16) (x9 : FVec Ideal S8192x512 .f32)

/-- Every element of an array is a real number. -/
abbrev AllReal {s : Shape} (x : s.Idx → EReal) : Prop := ∀ i, x i = ((x i).toReal : EReal)

/-- A quotient of a weighted sum by its total, over a row of a band. -/
theorem weighted_real {n : ℕ} (s : Fin n → EReal) (hs : Mix.RealRow s) (v : Fin n → EReal) (hv : ∀ u, v u = ((v u).toReal : EReal)) :
    ∃ r : ℝ, Ideal.div (∑ u, Ideal.exp (s u - Finset.univ.fold max ⊥ s) * v u) (∑ u, Ideal.exp (s u - Finset.univ.fold max ⊥ s)) = r := by
  obtain ⟨r, hr⟩ := Mix.out_real s (fun u _ => v u) hs (fun u _ => hv u) 0
  refine ⟨r, Eq.trans (congrArg₂ Ideal.div (Finset.sum_congr rfl fun u _ => mul_comm _ _) rfl) hr⟩

section One
variable (n : Fin 8192) (h : Fin 8)

theorem one_l : (val_main_v38 (F := Ideal) x0 x1) = Attnf1RIdeal.Read.val_main_v38 (F := Ideal) x0 x1 := rfl
theorem one_n : (val_main_v31 (F := Ideal) x0 x1 x2) = Attnf1RIdeal.Read.val_main_v31 (F := Ideal) x0 x1 x2 := rfl
theorem one_d : (val_main_v30 (F := Ideal) x0 x1) = Attnf1RIdeal.Read.val_main_v30 (F := Ideal) x0 x1 := rfl

theorem one_row (h0 : AllReal x0) (h1 : AllReal x1) (e : Fin 64) : Mix.RealRow (sc 128 (Attnf1RIdeal.Read.cls x0 0) (Attnf1RIdeal.Read.cls x1 0) n (elt h e)) :=
  Mix.band_real _ _ _ n (fun _ => h0 _) fun _ _ => h1 _

theorem la_real (h0 : AllReal x0) (h1 : AllReal x1) : ∃ r : ℝ, la x0 x1 n h = r := by
  obtain ⟨r, hr⟩ := Mix.lse_real _ (one_row x0 x1 n h h0 h1 0)
  refine ⟨r, Eq.trans ?_ hr⟩
  refine Eq.trans ?_ (Attnf1RIdeal.Read.v38_eq x0 x1 0 h n 0)
  rw [← one_l]
  unfold la
  generalize hx : (val_main_v38 (F := Ideal) x0 x1) = x
  pointwise [val_main_v45, val_main_v44, val_main_v39, hx]
theorem oa_real (h0 : AllReal x0) (h1 : AllReal x1) (h2 : AllReal x2) (e : Fin 64) : ∃ r : ℝ, (val_main_v43 (F := Ideal) x0 x1 x2) (ix3 n h e) = r := by
  obtain ⟨r, hr⟩ := weighted_real _ (one_row x0 x1 n h h0 h1 e) (fun u => Attnf1RIdeal.Read.cls x2 0 u (elt h e)) fun u => h2 _
  refine ⟨r, Eq.trans ?_ hr⟩
  refine Eq.trans ?_ (congrArg₂ Ideal.div (Attnf1RIdeal.Read.v31_eq x0 x1 x2 0 h n e) (Attnf1RIdeal.Read.v30_eq x0 x1 0 h n e))
  rw [← one_n, ← one_d]
  generalize hx : (val_main_v31 (F := Ideal) x0 x1 x2) = x
  generalize hy : (val_main_v30 (F := Ideal) x0 x1) = y
  pointwise [val_main_v43, val_main_v42, val_main_v41, val_main_v40, val_main_v36, val_main_v35, val_main_v34, val_main_v33, val_main_v32, hx, hy]
end One

section Four
variable (n : Fin 8192) (h : Fin 8)

theorem four_l : (val_main_v84 (F := Ideal) x3 x4) = Attnf4RIdeal.Read.val_main_v38 (F := Ideal) x3 x4 := rfl
theorem four_n : (val_main_v77 (F := Ideal) x3 x4 x5) = Attnf4RIdeal.Read.val_main_v31 (F := Ideal) x3 x4 x5 := rfl
theorem four_d : (val_main_v76 (F := Ideal) x3 x4) = Attnf4RIdeal.Read.val_main_v30 (F := Ideal) x3 x4 := rfl

/-- The residue class and row of a token at dilation 4. -/
abbrev cl4 : Fin 4 := ⟨n.val % 4, by omega⟩
abbrev rw4 : Fin 2048 := ⟨n.val / 4, by omega⟩

theorem four_row (h3 : AllReal x3) (h4 : AllReal x4) (e : Fin 64) : Mix.RealRow (sc 128 (Attnf4RIdeal.Read.cls x3 (cl4 n)) (Attnf4RIdeal.Read.cls x4 (cl4 n)) (rw4 n) (elt h e)) :=
  Mix.band_real _ _ _ (rw4 n) (fun _ => h3 _) fun _ _ => h4 _

theorem lb_real (h3 : AllReal x3) (h4 : AllReal x4) : ∃ r : ℝ, lb x3 x4 n h = r := by
  obtain ⟨r, hr⟩ := Mix.lse_real _ (four_row x3 x4 n h h3 h4 0)
  refine ⟨r, Eq.trans ?_ hr⟩
  refine Eq.trans ?_ (Attnf4RIdeal.Read.v38_eq x3 x4 (cl4 n) h (rw4 n) 0)
  rw [← four_l]
  unfold lb
  generalize hx : (val_main_v84 (F := Ideal) x3 x4) = x
  pointwise [val_main_v91, val_main_v90, val_main_v85, hx]
theorem ob_real (h3 : AllReal x3) (h4 : AllReal x4) (h5 : AllReal x5) (e : Fin 64) : ∃ r : ℝ, (val_main_v89 (F := Ideal) x3 x4 x5) (ix3 n h e) = r := by
  obtain ⟨r, hr⟩ := weighted_real _ (four_row x3 x4 n h h3 h4 e) (fun u => Attnf4RIdeal.Read.cls x5 (cl4 n) u (elt h e)) fun u => h5 _
  refine ⟨r, Eq.trans ?_ hr⟩
  refine Eq.trans ?_ (congrArg₂ Ideal.div (Attnf4RIdeal.Read.v31_eq x3 x4 x5 (cl4 n) h (rw4 n) e) (Attnf4RIdeal.Read.v30_eq x3 x4 (cl4 n) h (rw4 n) e))
  rw [← four_n, ← four_d]
  generalize hx : (val_main_v77 (F := Ideal) x3 x4 x5) = x
  generalize hy : (val_main_v76 (F := Ideal) x3 x4) = y
  pointwise [val_main_v89, val_main_v88, val_main_v87, val_main_v86, val_main_v82, val_main_v81, val_main_v80, val_main_v79, val_main_v78, hx, hy]
end Four

section All
variable (h0 : AllReal x0) (h1 : AllReal x1) (h2 : AllReal x2) (h3 : AllReal x3) (h4 : AllReal x4) (h5 : AllReal x5) (h6 : AllReal x6) (h7 : AllReal x7) (h8 : AllReal x8) (h9 : AllReal x9)
  (b : Fin 16) (h : Fin 8)

/-- The mixed output and the log sum over the branches, by residue class, head and row. -/
def ov (b : Fin 16) (h : Fin 8) (t : Fin 512) (e : Fin 64) : EReal := Mix.mix (la x0 x1 (tok b t) h) (lb x3 x4 (tok b t) h) (lc x6 x7 (tok b t) h)
  ((val_main_v43 (F := Ideal) x0 x1 x2) (ix3 (tok b t) h e)) ((val_main_v89 (F := Ideal) x3 x4 x5) (ix3 (tok b t) h e)) ((val_main_v143 (F := Ideal) x6 x7 x8) (ix3 (tok b t) h e))
def lv (b : Fin 16) (h : Fin 8) (t : Fin 512) : EReal := Mix.lse (la x0 x1 (tok b t) h) (lb x3 x4 (tok b t) h) (lc x6 x7 (tok b t) h)

include h6 h7 in
theorem scr_real (t : Fin 512) : Mix.RealRow (scr x6 x7 b h t) := Mix.band_real _ _ _ t (fun _ => h6 _) fun _ _ => h7 _

include h0 h1 h2 h3 h4 h5 h6 h7 h8 h9 in
/-- What the mix at a row's token is made of, as real numbers. -/
theorem row (t : Fin 512) : ∃ T Ec Z N : ℝ, tp x0 x1 x3 x4 x6 x7 (tok b t) h = T ∧ ew x0 x1 x3 x4 x6 x7 (tok b t) h (lc x6 x7 (tok b t) h) = Ec
    ∧ zz x0 x1 x3 x4 x6 x7 (tok b t) h = Z ∧ 0 < Z ∧ nn x0 x1 x2 x3 x4 x5 x6 x7 x8 x9 (tok b t) h = N
    ∧ ∑ e, dy x9 b h t e * ov x0 x1 x2 x3 x4 x5 x6 x7 x8 b h t e = ((N * Z : ℝ) : EReal) := by
  obtain ⟨a, ha⟩ := la_real x0 x1 (tok b t) h h0 h1
  obtain ⟨b', hb⟩ := lb_real x3 x4 (tok b t) h h3 h4
  obtain ⟨c, hc⟩ := Mix.lse_real _ (scr_real x6 x7 h6 h7 b h t)
  have hc' : lc x6 x7 (tok b t) h = c := (v145_eq x6 x7 b h t).trans hc
  obtain ⟨T, Ea, Eb, Ec, Z, N, k1, k2, k3, k4, k5, k6, k7, k8⟩ := Mix.mix_row a b' c (dy x9 b h t) (fun e => (val_main_v43 (F := Ideal) x0 x1 x2) (ix3 (tok b t) h e)) (fun e => (val_main_v89 (F := Ideal) x3 x4 x5) (ix3 (tok b t) h e))
    (fun e => (val_main_v143 (F := Ideal) x6 x7 x8) (ix3 (tok b t) h e)) (fun _ => h9 _) (oa_real x0 x1 x2 (tok b t) h h0 h1 h2) (ob_real x3 x4 x5 (tok b t) h h3 h4 h5)
    (fun e => (Mix.out_real _ (head x8 b h) (scr_real x6 x7 h6 h7 b h t) (fun _ _ => h8 _) e).imp fun r hr => (v143_eq x6 x7 x8 b h t e).trans hr)
  refine ⟨T, Ec, Z, N, ?_, ?_, ?_, k6, ?_, ?_⟩
  · unfold tp; rw [ha, hb, hc', k1]
  · unfold ew tp; rw [ha, hb, hc', k4]
  · unfold zz; rw [ha, hb, hc', k5]
  · unfold nn zz ew tp ga gb gc
    dsimp only
    rw [ha, hb, hc', k5, k2, k3, k4]
    exact k7
  · unfold ov
    rw [ha, hb, hc']
    exact k8

include h0 h1 h2 h3 h4 h5 h6 h7 h8 h9 in
theorem dsr_eq (t u : Fin 512) : dsr x0 x1 x2 x3 x4 x5 x6 x7 x8 x9 b h t u
    = gd 128 (head x6 b h) (head x7 b h) (head x8 b h) (dy x9 b h) (ov x0 x1 x2 x3 x4 x5 x6 x7 x8 b h) (lv x0 x1 x3 x4 x6 x7 b h) t u := by
  by_cases hh : u.val ≤ t.val ∧ t.val ≤ u.val + 128
  · obtain ⟨T, Ec, Z, N, k1, k2, k3, k4, k5, k6⟩ := row x0 x1 x2 x3 x4 x5 x6 x7 x8 x9 h0 h1 h2 h3 h4 h5 h6 h7 h8 h9 b h t
    obtain ⟨k, hk, hk'⟩ := Mix.count _ (scr_real x6 x7 h6 h7 b h t)
    have hg : gc x6 x7 x8 x9 (tok b t) h = ∑ e, dy x9 b h t e * Mix.out (scr x6 x7 b h t) (head x8 b h) e :=
      Finset.sum_congr rfl fun e _ => congrArg _ (v143_eq x6 x7 x8 b h t e)
    have hlv : lv x0 x1 x3 x4 x6 x7 b h t = (T : EReal) + Ideal.log Z := by rw [← k1, ← k3]; rfl
    have hE : Ideal.exp (Mix.rowMax (scr x6 x7 b h t) + Ideal.log (Mix.tot (scr x6 x7 b h t)) - T) = Ec := by
      rw [← v145_eq, ← k1]; exact k2
    have hcnt : ∑ u, eqm x6 x7 b h t u = (k : EReal) := hk'
    unfold dsr gd wt
    rw [if_pos hh, hlv, k6, hcnt]
    unfold al dl
    rw [k2, k3, k5, hg]
    rw [Mix.dsc_eq _ _ _ (scr_real x6 x7 h6 h7 b h t) (fun _ => h9 _) (fun _ _ => h8 _) k hk _ Ec Z N T k4 hE u]
    rfl
  · unfold dsr
    rw [if_neg hh, zero_mul]
    exact (gd_out _ _ _ _ _ _ _ t u hh).symm

include h0 h1 h2 h3 h4 h5 h6 h7 h8 h9 in
theorem dval_eq (t u : Fin 512) (e : Fin 64) : Ideal.div (al x0 x1 x3 x4 x6 x7 b h t * dy x9 b h t e) (Mix.tot (scr x6 x7 b h t)) * Mix.wgt (scr x6 x7 b h t) u
    = wt 128 (head x6 b h) (head x7 b h) (lv x0 x1 x3 x4 x6 x7 b h) t u * dy x9 b h t e := by
  obtain ⟨T, Ec, Z, N, k1, k2, k3, k4, k5, k6⟩ := row x0 x1 x2 x3 x4 x5 x6 x7 x8 x9 h0 h1 h2 h3 h4 h5 h6 h7 h8 h9 b h t
  have hlv : lv x0 x1 x3 x4 x6 x7 b h t = (T : EReal) + Ideal.log Z := by rw [← k1, ← k3]; rfl
  have hE : Ideal.exp (Mix.rowMax (scr x6 x7 b h t) + Ideal.log (Mix.tot (scr x6 x7 b h t)) - T) = Ec := by
    rw [← v145_eq, ← k1]; exact k2
  have hd : dy x9 b h t e = ((x9 (ix2 (tok b t) (elt h e)) : EReal).toReal : EReal) := h9 _
  unfold wt al
  rw [hlv, k2, k3, hd, Mix.val_eq _ (scr_real x6 x7 h6 h7 b h t) _ Ec Z T k4 hE u]
  rfl

end All

end Cert.Attnb16RIdeal.Read

end
-- ==== Proof.Attnb16Claim.lean ====
/-
  The gradient of the banded attention at dilation 16: the kernel's three blocks are the chain rule's cotangents of the query,
  the key and the value, for finite arguments.
-/
module

public import proofs.«01_k».proof.Defs
public import proofs.«01_k».proof.Proof.Attnb16ValueQ
public import proofs.«01_k».proof.Proof.Attnb16ValueK
public import proofs.«01_k».proof.Proof.Attnb16ValueV
public import proofs.«01_k».proof.Proof.Attnb16Host
public import proofs.«01_k».proof.Proof.Attnb16RefD

@[expose] public section

set_option maxRecDepth 16384

noncomputable section

namespace Cert.Attnb16

open Idealize.ShloMosaic Idealize.ShloMosaic.TcCoe Idealize.SL.Sem Cert.Finite Cert.AttnB Cert.Attnb16RIdeal.Read Cert.Attnb16KIdeal.Host

/-- The side conditions of the precondition's own text. -/
theorem preFacts : Cert.Pre_attnb16_finite.Facts := by constructor <;> decide

section
variable {x0 x1 x2 : FVec Ideal Pre_attnb16_finite.S1x8192x512 .bf16} {x3 x4 x5 : FVec Ideal Pre_attnb16_finite.S4x2048x512 .bf16}
  {x6 x7 x8 : FVec Ideal Pre_attnb16_finite.S16x512x512 .bf16} {x9 : FVec Ideal Pre_attnb16_finite.S8192x512 .f32}

/-- The precondition says that every element of the ten arguments is a real number. -/
theorem parts [Cert.Pre_attnb16_finite.Facts] (h : Cert.Pre_attnb16_finite.fn x0 x1 x2 x3 x4 x5 x6 x7 x8 x9 = fun _ => 1#1) :
    (AllReal x0 ∧ AllReal x1 ∧ AllReal x2) ∧ (AllReal x3 ∧ AllReal x4 ∧ AllReal x5) ∧ (AllReal x6 ∧ AllReal x7 ∧ AllReal x8) ∧ AllReal x9 := by
  have e := congrFun h (fun k => k.elim0)
  obtain ⟨e, e8⟩ := (andi_one _ _).mp e
  obtain ⟨e, e7⟩ := (andi_one _ _).mp e
  obtain ⟨e, e6⟩ := (andi_one _ _).mp e
  obtain ⟨e, e5⟩ := (andi_one _ _).mp e
  obtain ⟨e, e4⟩ := (andi_one _ _).mp e
  obtain ⟨e, e3⟩ := (andi_one _ _).mp e
  obtain ⟨e, e2⟩ := (andi_one _ _).mp e
  obtain ⟨e, e1⟩ := (andi_one _ _).mp e
  obtain ⟨e9, e0⟩ := (andi_one _ _).mp e
  exact ⟨⟨fun i => all_finite _ _ _ _ _ e0 i, fun i => all_finite _ _ _ _ _ e1 i, fun i => all_finite _ _ _ _ _ e2 i⟩,
    ⟨fun i => all_finite _ _ _ _ _ e3 i, fun i => all_finite _ _ _ _ _ e4 i, fun i => all_finite _ _ _ _ _ e5 i⟩,
    ⟨fun i => all_finite _ _ _ _ _ e6 i, fun i => all_finite _ _ _ _ _ e7 i, fun i => all_finite _ _ _ _ _ e8 i⟩,
    fun i => all_finite _ _ _ _ _ e9 i⟩
end

/-- Two arrays of residue classes, rows and lanes agree when they do at every head's element. -/
theorem ext_heads {x : FVec Ideal Attnb16KIdeal.S16x512x512 .bf16} {f : Fin 16 → Fin 8 → Fin 512 → Fin 64 → EReal}
    (h : ∀ b g t e, x (ix3 b t (elt g e)) = f b g t e) : x = fun i => Attnb16KIdeal.Block.flat f (i 0) (i 1) (i 2) := by
  funext i
  have l : (i 2).val < 512 := (i 2).isLt
  have e : i = ix3 (i 0) (i 1) (elt ⟨(i 2).val / 64, by omega⟩ ⟨(i 2).val % 64, Nat.mod_lt _ (by norm_num)⟩) := by
    refine (ix3_eta i).symm.trans (congrArg (ix3 (i 0) (i 1)) (Fin.ext ?_))
    show (i 2).val = (i 2).val / 64 * 64 + (i 2).val % 64
    omega
  exact (congrArg x e).trans (h _ _ _ _)

/-- The kernel's three cotangents are the chain rule's. -/
theorem claim : @Cert.algebraic_Attnb16KIdeal_Attnb16RIdeal_pre_attnb16_finite Cert.Attnb16KIdeal.Gen.facts Cert.Attnb16RIdeal.Gen.facts preFacts := by
  haveI := preFacts
  intro m g m' g' hpre hargs
  refine ⟨fun c => (Attnb16KIdeal.Gen.dats m 0 c).arrAt 6 _, fun c => (Attnb16KIdeal.Gen.dats m 0 c).arrAt 7 _, fun c => (Attnb16KIdeal.Gen.dats m 0 c).arrAt 8 _,
    Attnb16KIdeal.Value.run_blocks m g, (θ_run Attnb16RIdeal.defs _ _).mono (fun r h c => ?_) (Attnb16RIdeal.Value.run m' g')⟩
  obtain ⟨⟨f0, f1, f2⟩, ⟨f3, f4, f5⟩, ⟨f6, f7, f8⟩, f9⟩ := parts (hpre c)
  obtain ⟨a0, a1, a2, a3, a4, a5, a6, a7, a8, a9⟩ := hargs c
  obtain ⟨h0, h1, h2, k⟩ := h c
  have e0 := h0.trans (val_main_v284_eq (StableHlo.launchContents m' c))
  have e1 := h1.trans (val_main_v282_eq (StableHlo.launchContents m' c))
  have e2 := h2.trans (val_main_v280_eq (StableHlo.launchContents m' c))
  have b0 : StableHlo.launchContents m' c (Proc.devRef .tc Attnb16RIdeal.main_arg0) = q1 m c := a0
  have b1 : StableHlo.launchContents m' c (Proc.devRef .tc Attnb16RIdeal.main_arg1) = k1 m c := a1
  have b2 : StableHlo.launchContents m' c (Proc.devRef .tc Attnb16RIdeal.main_arg2) = v1 m c := a2
  have b3 : StableHlo.launchContents m' c (Proc.devRef .tc Attnb16RIdeal.main_arg3) = q4 m c := a3
  have b4 : StableHlo.launchContents m' c (Proc.devRef .tc Attnb16RIdeal.main_arg4) = k4 m c := a4
  have b5 : StableHlo.launchContents m' c (Proc.devRef .tc Attnb16RIdeal.main_arg5) = v4 m c := a5
  have b6 : StableHlo.launchContents m' c (Proc.devRef .tc Attnb16RIdeal.main_arg6) = q16 m c := a6
  have b7 : StableHlo.launchContents m' c (Proc.devRef .tc Attnb16RIdeal.main_arg7) = k16 m c := a7
  have b8 : StableHlo.launchContents m' c (Proc.devRef .tc Attnb16RIdeal.main_arg8) = v16 m c := a8
  have b9 : StableHlo.launchContents m' c (Proc.devRef .tc Attnb16RIdeal.main_arg9) = dO m c := a9
  rw [b0, b1, b2, b3, b4, b5, b6, b7, b8, b9] at e0 e1
  rw [b0, b1, b3, b4, b6, b7, b9] at e2
  have hD : ∀ d g r e, _ = dy (dO m c) d g r e := fun d g r e => V_175 m c d g r e
  have hO : ∀ d g r e, _ = ov (q1 m c) (k1 m c) (v1 m c) (q4 m c) (k4 m c) (v4 m c) (q16 m c) (k16 m c) (v16 m c) d g r e := fun d g r e => V_170 m c d g r e
  have hL : ∀ d g r e, _ = lv (q1 m c) (k1 m c) (q4 m c) (k4 m c) (q16 m c) (k16 m c) d g r := fun d g r e => V_172 m c d g r e
  have hds := fun b h t u => dsr_eq (q1 m c) (k1 m c) (v1 m c) (q4 m c) (k4 m c) (v4 m c) (q16 m c) (k16 m c) (v16 m c) (dO m c) f0 f1 f2 f3 f4 f5 f6 f7 f8 f9 b h t u
  have hdv := fun b h t u e => dval_eq (q1 m c) (k1 m c) (v1 m c) (q4 m c) (k4 m c) (v4 m c) (q16 m c) (k16 m c) (v16 m c) (dO m c) f0 f1 f2 f3 f4 f5 f6 f7 f8 f9 b h t u e
  refine ⟨(e0.trans ?_).trans (Attnb16KIdeal.Block.final6 m c _ _ _ hD hO hL).symm, (e1.trans ?_).trans (Attnb16KIdeal.Block.final7 m c _ _ _ hD hO hL).symm,
    (e2.trans ?_).trans (Attnb16KIdeal.Block.final8 m c _ _ hD hL).symm, k⟩
  · exact ext_heads fun b g t e => (v284_eq _ _ _ _ _ _ _ _ _ _ b g t e).trans (Finset.sum_congr rfl fun u _ => congrArg (· * _) (hds b g t u))
  · exact ext_heads fun b g t e => (v282_eq _ _ _ _ _ _ _ _ _ _ b g t e).trans (Finset.sum_congr rfl fun u _ => congrArg (· * _) (hds b g u t))
  · exact ext_heads fun b g t e => (v280_eq _ _ _ _ _ _ _ b g t e).trans (Finset.sum_congr rfl fun u _ => hdv b g u t e)

/-- The reference runs to its end and leaves its arguments and counters as they were: it declares no semaphore. -/
theorem refFrame : @Cert.quiescent_Attnb16RIdeal Cert.Attnb16RIdeal.Gen.facts := fun m ρ _ =>
  (θ_run Attnb16RIdeal.defs _ _).mono (fun r h => ⟨fun c => (h c).2.2.2, Idealize.ShloMosaic.sem_eq_zero_of_no_sems (by decide) r.2⟩)
    (Attnb16RIdeal.Value.run m ρ)

end Cert.Attnb16

end
-- ==== Proof.PostMath.lean ====
/-
  The gradient of the rotary turn of a head, and the tables a kernel turns by.
-/
module

public import proofs.«01_k».proof.Proof.Finite

@[expose] public section

set_option backward.proofsInPublic true

noncomputable section

namespace Cert.Post

open Idealize.ShloMosaic

/-- A head's 64 elements turned back: the first 8 against the next 8 by the angles' cosines and sines, the others as they are. -/
def turn (h : Fin 64 → EReal) (cs sn : Fin 8 → EReal) (e : Fin 64) : EReal :=
  if h0 : e.val < 8 then h ⟨e.val + 8, by omega⟩ * sn ⟨e.val, h0⟩ + h e * cs ⟨e.val, h0⟩
  else if h1 : e.val < 16 then h e * cs ⟨e.val - 8, by omega⟩ + -(h ⟨e.val - 8, by omega⟩) * sn ⟨e.val - 8, by omega⟩
  else h e

/-- The tables of a head's lane: the cosines twice and ones, the negated sines and zeros, zeros and the sines and zeros. -/
def tabC (cs : Fin 8 → EReal) (e : Fin 64) : EReal :=
  if h0 : e.val < 8 then cs ⟨e.val, h0⟩ else if h1 : e.val < 16 then cs ⟨e.val - 8, by omega⟩ else 1
def tabA (sn : Fin 8 → EReal) (e : Fin 64) : EReal := if h0 : e.val < 8 then -(sn ⟨e.val, h0⟩) else 0
def tabB (sn : Fin 8 → EReal) (e : Fin 64) : EReal := if h0 : e.val < 8 then 0 else if h1 : e.val < 16 then sn ⟨e.val - 8, by omega⟩ else 0

/-- Three products with the tables are the turn, whatever the lanes beyond the head's ends hold: the tables are zero there. -/
theorem turn_eq (h : Fin 64 → EReal) (cs sn : Fin 8 → EReal) (e : Fin 64) (up dn : EReal) (hu : ∀ h0 : e.val < 8, up = h ⟨e.val + 8, by omega⟩)
    (hd : ∀ h1 : 8 ≤ e.val, dn = h ⟨e.val - 8, by omega⟩) :
    h e * tabC cs e + up * (0 - tabA sn e) + dn * (0 - tabB sn e) = turn h cs sn e := by
  unfold turn tabC tabA tabB
  by_cases h0 : e.val < 8
  · simp only [h0, dif_pos, hu h0, sub_zero, mul_zero, add_zero, zero_sub, neg_neg]
    exact add_comm _ _
  · by_cases h1 : e.val < 16
    · simp only [h0, h1, dif_pos, dif_neg, not_false_eq_true, hd (by omega), sub_zero, mul_zero, add_zero, zero_sub, EReal.neg_mul]
      rw [mul_comm (h _) (-_), EReal.neg_mul, mul_comm (sn _)]
    · simp only [h0, h1, dif_neg, not_false_eq_true, sub_zero, mul_zero, add_zero, mul_one]

end Cert.Post

end
-- ==== Proof.PosteBlock.lean ====
/-
  What the even mixer's rotary gradient leaves of one block of 512 tokens.
-/
module

public import proofs.«01_k».proof.Proof.PostMath
public import proofs.«01_k».proof.Proof.Gen.PosteKIdeal.Value
public import Idealize.ShloMosaic.Lib.Pipeline.ValueKit.Geometry
public import Idealize.ShloMosaic.Lib.Tactic

@[expose] public section

set_option backward.proofsInPublic true
set_option maxRecDepth 16384

noncomputable section

namespace Cert.PosteKIdeal.Block

open Cert.PosteKIdeal Cert.PosteKIdeal.Gen Idealize.ShloMosaic Idealize.ShloMosaic.TcCoe Cert.Finite Cert.Post

theorem nil32 : Ideal.ofBits .f32 0x00000000#32 = (0 : EReal) := by simp [Ideal.ofBits, Ideal.ieee]

variable (v0 v2 v6 : Vec Ideal S512x128 .f32) (r : Fin 512) (cs sn : Fin 8 → EReal)
  (hc : ∀ l : Fin 128, v0 (ix2 r l) = tabC cs ⟨l.val % 64, by omega⟩)
  (ha : ∀ l : Fin 128, v2 (ix2 r l) = tabA sn ⟨l.val % 64, by omega⟩)
  (hb : ∀ l : Fin 128, v6 (ix2 r l) = tabB sn ⟨l.val % 64, by omega⟩)

theorem pay3_eq (l : Fin 128) : k0_pay3 (F := Ideal) v0 (ix2 r l) = v0 (ix2 r l) := by
  pointwise [k0_pay3]
theorem pay4_eq (l : Fin 128) : k0_pay4 (F := Ideal) v2 (ix2 r l) = 0 - v2 (ix2 r l) := by
  pointwise [k0_pay4, nil32]
theorem pay5_eq (l : Fin 128) : k0_pay5 (F := Ideal) v6 (ix2 r l) = 0 - v6 (ix2 r l) := by
  pointwise [k0_pay5, nil32]

/-- A table written four times. -/
theorem four (x : FVec Ideal S512x128 .f32) (l : Fin 512) : (concatenate S512x512 1 [⟨S512x128, x⟩, ⟨S512x128, x⟩, ⟨S512x128, x⟩, ⟨S512x128, x⟩]
    concatenates_S512x128_S512x128_S512x128_S512x128_S512x512_d1 : FVec Ideal S512x512 .f32) (ix2 r l) = x (ix2 r ⟨l.val % 128, by omega⟩) := by
  pointwise
  have hl := l.isLt
  by_cases h0 : l.val < 128
  · simp only [h0, dif_pos]
    exact congrArg x (by blk_ext)
  · by_cases h1 : l.val - 128 < 128
    · simp only [h0, h1, dif_pos, dif_neg, not_false_eq_true]
      exact congrArg x (by blk_ext)
    · by_cases h2 : l.val - 128 - 128 < 128
      · simp only [h0, h1, h2, dif_pos, dif_neg, not_false_eq_true]
        exact congrArg x (by blk_ext)
      · simp only [h0, h1, h2, dif_neg, not_false_eq_true]
        exact congrArg x (by blk_ext)

include hc ha hb in
/-- The queries' lanes. -/
theorem pay6_eq (v10 : Vec Ideal S1x512x512 .bf16) (l : Fin 512) : k0_pay6 (F := Ideal) v0 v2 v6 v10 (ix2 r l)
    = turn (fun e => v10 (ix3 0 r ⟨l.val / 64 * 64 + e.val, by omega⟩)) cs sn ⟨l.val % 64, by omega⟩ := by
  rw [← turn_eq _ cs sn ⟨l.val % 64, by omega⟩ (v10 (ix3 0 r ⟨(l.val + 8) % 512, by omega⟩)) (v10 (ix3 0 r ⟨(l.val + 504) % 512, by omega⟩))
    (fun h0 => congrArg (fun i => v10 (ix3 0 r i)) (Fin.ext (by simp only at h0 ⊢; omega)))
    (fun h0 => congrArg (fun i => v10 (ix3 0 r i)) (Fin.ext (by simp only at h0 ⊢; omega)))]
  have f1 := four r (k0_pay3 (F := Ideal) v0) l
  have f2 := four r (k0_pay4 (F := Ideal) v2) l
  have f3 := four r (k0_pay5 (F := Ideal) v6) l
  rw [pay3_eq, hc] at f1
  rw [pay4_eq, ha] at f2
  rw [pay5_eq, hb] at f3
  unfold k0_pay6
  generalize (concatenate S512x512 1 [⟨S512x128, k0_pay3 (F := Ideal) v0⟩, _, _, _] _ : FVec Ideal S512x512 .f32) = t1 at f1 ⊢
  generalize (concatenate S512x512 1 [⟨S512x128, k0_pay4 (F := Ideal) v2⟩, _, _, _] _ : FVec Ideal S512x512 .f32) = t2 at f2 ⊢
  generalize (concatenate S512x512 1 [⟨S512x128, k0_pay5 (F := Ideal) v6⟩, _, _, _] _ : FVec Ideal S512x512 .f32) = t3 at f3 ⊢
  pointwise [f1, f2, f3]
  have d1 : (⟨l.val % 128 % 64, by omega⟩ : Fin 64) = ⟨l.val % 64, by omega⟩ := Fin.ext (by show l.val % 128 % 64 = l.val % 64; omega)
  have d2 : (⟨l.val / 64 * 64 + l.val % 64, by omega⟩ : Fin 512) = l := Fin.ext (by show l.val / 64 * 64 + l.val % 64 = l.val; omega)
  have d3 : (⟨(l.val + 512 - 504) % 512, by omega⟩ : Fin 512) = ⟨(l.val + 8) % 512, by omega⟩ := Fin.ext (by show (l.val + 512 - 504) % 512 = (l.val + 8) % 512; omega)
  have d4 : (⟨(l.val + 512 - 8) % 512, by omega⟩ : Fin 512) = ⟨(l.val + 504) % 512, by omega⟩ := Fin.ext (by show (l.val + 512 - 8) % 512 = (l.val + 504) % 512; omega)
  rw [d1, d2, d3, d4]

/-- Which half of a vector's lanes a lane is in. -/
theorem pay7_eq (l : Fin 128) : k0_pay7 (ix2 r l) = if l.val < 64 then 1#1 else 0#1 := by
  pointwise [k0_pay7]
  revert l
  decide +kernel

theorem up_lt (l : Fin 128) (h : l.val < 64) : 64 + l.val < 128 := by omega
theorem dn_lt (l : Fin 128) : l.val - 64 < 128 := by omega
theorem at_lt (l : Fin 128) (e : Fin 64) : l.val / 64 * 64 + e.val < 128 := by omega
theorem at_lt' (l : Fin 512) (e : Fin 64) : l.val / 64 * 64 + e.val < 512 := by omega
theorem md_lt (n : ℕ) : n % 64 < 64 := by omega

/-- Two halves of a vector's lanes added. -/
def fold (a b : Vec Ideal S1x512x128 .bf16) (l : Fin 128) : EReal :=
  if h : l.val < 64 then a (ix3 0 r l) + a (ix3 0 r ⟨64 + l.val, up_lt l h⟩)
  else b (ix3 0 r ⟨l.val - 64, dn_lt l⟩) + b (ix3 0 r l)

theorem fold_cases (a b : Vec Ideal S1x512x128 .bf16) (l : Fin 128) :
    Scalar.select (if l.val < 64 then 1#1 else 0#1) (a (ix3 0 r l) + a (ix3 0 r ⟨(l.val + 128 - 64) % 128, by omega⟩))
      (b (ix3 0 r l) + b (ix3 0 r ⟨(l.val + 128 - 64) % 128, by omega⟩)) = fold r a b l := by
  unfold fold
  by_cases h : l.val < 64
  · have d : (⟨(l.val + 128 - 64) % 128, by omega⟩ : Fin 128) = ⟨64 + l.val, by omega⟩ := Fin.ext (by show (l.val + 128 - 64) % 128 = 64 + l.val; omega)
    rw [if_pos h, dif_pos h, d]
    rfl
  · have d : (⟨(l.val + 128 - 64) % 128, by omega⟩ : Fin 128) = ⟨l.val - 64, by omega⟩ := Fin.ext (by show (l.val + 128 - 64) % 128 = l.val - 64; omega)
    rw [if_neg h, dif_neg h, d]
    exact add_comm _ _

/-- The values' lanes. -/
theorem pay2_eq (a b : Vec Ideal S1x512x128 .bf16) (l : Fin 128) : k0_pay2 (F := Ideal) k0_pay7 a b (ix2 r l) = fold r a b l := by
  have h7 := pay7_eq r l
  generalize k0_pay7 = z at h7 ⊢
  pointwise [k0_pay2, h7]
  exact fold_cases r a b l

/-- The keys' cotangent, its two copies added. -/
def keys (a b : Vec Ideal S1x512x128 .bf16) : FVec Ideal S512x128 .f32 :=
  select k0_pay7 (addf (k0_pay8 a) (k0_pay10 a)) (addf (k0_pay9 b) (dynamicRotate 1 64#32 none (k0_pay9 b) rotates_S512x128_d1))

theorem keys_eq (a b : Vec Ideal S1x512x128 .bf16) (l : Fin 128) : keys a b (ix2 r l) = fold r a b l := by
  have h7 := pay7_eq r l
  unfold keys
  generalize k0_pay7 = z at h7 ⊢
  pointwise [k0_pay8, k0_pay9, k0_pay10, h7]
  exact fold_cases r a b l

theorem pay1_keys (t1 t2 t3 : FVec Ideal S512x128 .f32) (a b : Vec Ideal S1x512x128 .bf16) :
    k0_pay1 (F := Ideal) t1 t2 t3 k0_pay7 (k0_pay8 a) (k0_pay9 b) (k0_pay10 a)
    = truncf .bf16 (addf (addf (mulf (keys a b) t1) (mulf (dynamicRotate 1 120#32 none (keys a b) rotates_S512x128_d1) t2))
      (mulf (dynamicRotate 1 8#32 none (keys a b) rotates_S512x128_d1) t3)) bitsLt_bf16_f32 := rfl

include hc ha hb in
/-- The keys' lanes. -/
theorem pay1_eq (a b : Vec Ideal S1x512x128 .bf16) (l : Fin 128) :
    k0_pay1 (F := Ideal) (k0_pay3 v0) (k0_pay4 v2) (k0_pay5 v6) k0_pay7 (k0_pay8 a) (k0_pay9 b) (k0_pay10 a) (ix2 r l)
    = turn (fun e => fold r a b ⟨l.val / 64 * 64 + e.val, at_lt l e⟩) cs sn ⟨l.val % 64, md_lt l.val⟩ := by
  rw [← turn_eq _ cs sn ⟨l.val % 64, by omega⟩ (fold r a b ⟨(l.val + 8) % 128, by omega⟩) (fold r a b ⟨(l.val + 120) % 128, by omega⟩)
    (fun h0 => congrArg (fun i => fold r a b i) (Fin.ext (by simp only at h0 ⊢; omega)))
    (fun h0 => congrArg (fun i => fold r a b i) (Fin.ext (by simp only at h0 ⊢; omega)))]
  have f1 := pay3_eq v0 r l
  have f2 := pay4_eq v2 r l
  have f3 := pay5_eq v6 r l
  rw [hc] at f1
  rw [ha] at f2
  rw [hb] at f3
  have hf := keys_eq r a b
  rw [pay1_keys]
  generalize k0_pay3 (F := Ideal) v0 = t1 at f1 ⊢
  generalize k0_pay4 (F := Ideal) v2 = t2 at f2 ⊢
  generalize k0_pay5 (F := Ideal) v6 = t3 at f3 ⊢
  generalize keys a b = x at hf ⊢
  pointwise [f1, f2, f3]
  have d2 : (⟨l.val / 64 * 64 + l.val % 64, by omega⟩ : Fin 128) = l := Fin.ext (by show l.val / 64 * 64 + l.val % 64 = l.val; omega)
  have d3 : (⟨(l.val + 8) % 128, by omega⟩ : Fin 128) = ⟨(l.val + 128 - 120) % 128, by omega⟩ := Fin.ext (by show (l.val + 8) % 128 = (l.val + 128 - 120) % 128; omega)
  have d4 : (⟨(l.val + 120) % 128, by omega⟩ : Fin 128) = ⟨(l.val + 128 - 8) % 128, by omega⟩ := Fin.ext (by show (l.val + 120) % 128 = (l.val + 128 - 8) % 128; omega)
  rw [d2, d3, d4, hf, hf, hf]

end Cert.PosteKIdeal.Block

end
-- ==== Proof.PosteHost.lean ====
/-
  What the host hands the even mixer's rotary gradient: the arguments under a new axis of extent 1 and the three tables.
-/
module

public import proofs.«01_k».proof.Proof.PostMath
public import proofs.«01_k».proof.Proof.Gen.PosteKIdeal.Value
public import proofs.«01_k».proof.Proof.Gen.PosteRIdeal.Read
public import Idealize.ShloMosaic.Lib.Pipeline.ValueKit.Geometry
public import Idealize.ShloMosaic.Lib.Tactic

@[expose] public section

set_option backward.proofsInPublic true
set_option maxRecDepth 16384

noncomputable section

namespace Cert.PosteKIdeal.Block

open Cert.PosteKIdeal Cert.PosteKIdeal.Gen Cert.PosteRIdeal.Read Idealize.ShloMosaic Idealize.ShloMosaic.TcCoe Cert.Finite Cert.Post

variable (m : (ℓ : Loc nD τ sig) → Buf (Elt Ideal) ℓ) (c : Dev nD)

/-- The cotangents, by token and lane. -/
abbrev aq : FVec Ideal S8192x512 .bf16 := m ((c : Thread nD τ).loc main_arg1)
abbrev ak : FVec Ideal S8192x256 .bf16 := m ((c : Thread nD τ).loc main_arg2)
abbrev av : FVec Ideal S8192x256 .bf16 := m ((c : Thread nD τ).loc main_arg3)
abbrev ag : FVec Ideal S8192x1024 .bf16 := m ((c : Thread nD τ).loc main_arg4)

/-- The cosines and sines of a token's angles. -/
abbrev cs (n : Fin 8192) (j : Fin 8) : EReal := val_main_v22 (F := Ideal) (ix2 n j)
abbrev sn (n : Fin 8192) (j : Fin 8) : EReal := val_main_v24 (F := Ideal) (ix2 n j)

theorem lit_one : Ideal.ofBits .f32 0x3F800000#32 = (1 : EReal) := by simp [Ideal.ofBits, Ideal.ieee, -EReal.coe_mul]; norm_num
theorem lit_nil : Ideal.ofBits .f32 0x00000000#32 = (0 : EReal) := by simp [Ideal.ofBits, Ideal.ieee]

theorem V_0 : V m c main_v0 = (broadcastInDim S1x8192x512 ![1, 2] bcast_S8192x512_S1x8192x512_1_2 (aq m c) : FVec Ideal S1x8192x512 .bf16) := by
  show StableHlo.after hostOps0 _ _ = _
  after_results
  all_goals rfl
theorem V_1 : V m c main_v1 = (broadcastInDim S1x8192x256 ![1, 2] bcast_S8192x256_S1x8192x256_1_2 (ak m c) : FVec Ideal S1x8192x256 .bf16) := by
  show StableHlo.after hostOps0 _ _ = _
  after_results
  all_goals rfl
theorem V_2 : V m c main_v2 = (broadcastInDim S1x8192x256 ![1, 2] bcast_S8192x256_S1x8192x256_1_2 (av m c) : FVec Ideal S1x8192x256 .bf16) := by
  show StableHlo.after hostOps0 _ _ = _
  after_results
  all_goals rfl

/-- A table of 64 lanes written twice. -/
def twice (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

theorem twice_apply (x : FVec Ideal S8192x64 .f32) (n : Fin 8192) (l : Fin 128) : twice x (ix2 n l) = x (ix2 n ⟨l.val % 64, by omega⟩) := by
  unfold twice
  pointwise
  try (refine congrArg x ?_; blk_ext)

/-- Eight lanes, eight lanes and 48 lanes side by side. -/
def beside (a b : FVec Ideal S8192x8 .f32) (w : BitVec 32) : FVec Ideal S8192x64 .f32 :=
  concatenate S8192x64 1 [⟨S8192x8, a⟩, ⟨S8192x8, b⟩, ⟨S8192x48, broadcastInDim S8192x48 ![] bcast_S_S8192x48 (constant (F := Ideal) S_ .f32 w)⟩]
    concatenates_S8192x8_S8192x8_S8192x48_S8192x64_d1

theorem beside_apply (a b : FVec Ideal S8192x8 .f32) (w : BitVec 32) (n : Fin 8192) (e : Fin 64) : beside a b w (ix2 n e)
    = if h0 : e.val < 8 then a (ix2 n ⟨e.val, h0⟩) else if h1 : e.val < 16 then b (ix2 n ⟨e.val - 8, by omega⟩) else Ideal.ofBits .f32 w := by
  unfold beside
  pointwise
  by_cases h0 : e.val < 8
  · simp only [h0, dif_pos]
  · by_cases h1 : e.val < 16
    · have h2 : e.val - 8 < 8 := by omega
      simp only [h0, h1, h2, dif_pos, dif_neg, not_false_eq_true]
    · have h2 : ¬ e.val - 8 < 8 := by omega
      simp only [h0, h1, h2, dif_neg, not_false_eq_true]

abbrev nil8 : FVec Ideal S8192x8 .f32 := broadcastInDim S8192x8 ![] bcast_S_S8192x8 (constant (F := Ideal) S_ .f32 0x00000000#32)

theorem V_26 : V m c main_v26 = twice (beside (val_main_v22 (F := Ideal)) (val_main_v22 (F := Ideal)) 0x3F800000#32) := by
  show StableHlo.after hostOps0 _ _ = _
  after_results
  all_goals rfl
theorem V_29 : V m c main_v29 = twice (beside (Host.negf (val_main_v24 (F := Ideal))) nil8 0x00000000#32) := by
  show StableHlo.after hostOps0 _ _ = _
  after_results
  all_goals rfl
theorem V_32 : V m c main_v32 = twice (beside nil8 (val_main_v24 (F := Ideal)) 0x00000000#32) := by
  show StableHlo.after hostOps0 _ _ = _
  after_results
  all_goals rfl

theorem tab_c (n : Fin 8192) (l : Fin 128) : (V m c main_v26 : FVec Ideal S8192x128 .f32) (ix2 n l) = tabC (cs n) ⟨l.val % 64, by omega⟩ := by
  rw [V_26, twice_apply, beside_apply, lit_one]
  rfl
theorem tab_a (n : Fin 8192) (l : Fin 128) : (V m c main_v29 : FVec Ideal S8192x128 .f32) (ix2 n l) = tabA (sn n) ⟨l.val % 64, by omega⟩ := by
  rw [V_29, twice_apply, beside_apply, lit_nil]
  unfold tabA
  split
  · rfl
  · split
    · exact lit_nil
    · rfl
theorem tab_b (n : Fin 8192) (l : Fin 128) : (V m c main_v32 : FVec Ideal S8192x128 .f32) (ix2 n l) = tabB (sn n) ⟨l.val % 64, by omega⟩ := by
  rw [V_32, twice_apply, beside_apply, lit_nil]
  unfold tabB
  split
  · exact lit_nil
  · rfl

end Cert.PosteKIdeal.Block

end
-- ==== Proof.PosteRef.lean ====
/-
  The reference of the even mixer's rotary gradient, element by element.
-/
module

public import proofs.«01_k».proof.Proof.PostMath
public import proofs.«01_k».proof.Proof.Gen.PosteRIdeal.Read
public import Idealize.ShloMosaic.Lib.Pipeline.ValueKit.Geometry
public import Idealize.ShloMosaic.Lib.Tactic

@[expose] public section

set_option backward.proofsInPublic true
set_option maxRecDepth 16384

noncomputable section

namespace Cert.PosteRIdeal.Read

open Cert.PosteRIdeal Cert.PosteRIdeal.Gen Cert.PosteRIdeal.Value Idealize.ShloMosaic Cert.Finite Cert.Post

variable (x1 : FVec Ideal S8192x512 .bf16) (x2 x3 : FVec Ideal S8192x256 .bf16) (x4 : FVec Ideal S8192x1024 .bf16)

/-- The cosines and sines of a token's angles. -/
abbrev rc (n : Fin 8192) (j : Fin 8) : EReal := val_main_v22 (F := Ideal) (ix2 n j)
abbrev rs (n : Fin 8192) (j : Fin 8) : EReal := val_main_v24 (F := Ideal) (ix2 n j)
theorem same_cos : val_main_v55 (F := Ideal) = val_main_v22 (F := Ideal) := rfl
theorem same_sin : val_main_v57 (F := Ideal) = val_main_v24 (F := Ideal) := rfl

theorem lit_nil : Ideal.ofBits .f32 0x00000000#32 = (0 : EReal) := by simp [Ideal.ofBits, Ideal.ieee]

/-- Two copies of a key's cotangent added. -/
theorem v89_eq (n : Fin 8192) (h : Fin 2) (e : Fin 64) : val_main_v89 (F := Ideal) x2 (ix3 n h e)
    = x2 (ix2 n ⟨h.val * 128 + e.val, by omega⟩) + x2 (ix2 n ⟨h.val * 128 + 64 + e.val, by omega⟩) := by
  pointwise [val_main_v89, val_main_v88, val_main_v87, val_main_v86, val_main_v1, val_main_cst_5, val_main_cst_6, Fin.sum_univ_one, Fin.sum_univ_two, lit_nil, zero_add]
theorem v85_eq (n : Fin 8192) (h : Fin 2) (e : Fin 64) : val_main_v85 (F := Ideal) x3 (ix3 n h e)
    = x3 (ix2 n ⟨h.val * 128 + e.val, by omega⟩) + x3 (ix2 n ⟨h.val * 128 + 64 + e.val, by omega⟩) := by
  pointwise [val_main_v85, val_main_v84, val_main_v83, val_main_v82, val_main_v2, val_main_cst_3, val_main_cst_4, Fin.sum_univ_one, Fin.sum_univ_two, lit_nil, zero_add]
theorem v90_eq (n : Fin 8192) (h : Fin 8) (e : Fin 64) : val_main_v90 (F := Ideal) x1 (ix3 n h e) = x1 (ix2 n ⟨h.val * 64 + e.val, by omega⟩) := by
  pointwise [val_main_v90, val_main_v0]

theorem v111_eq (n : Fin 8192) (h : Fin 2) (e : Fin 64) : val_main_v111 (F := Ideal) x2 (ix3 n h e)
    = turn (fun e => val_main_v89 (F := Ideal) x2 (ix3 n h e)) (rc n) (rs n) e := by
  unfold turn
  have s1 := same_cos
  have s2 := same_sin
  generalize hx : val_main_v89 (F := Ideal) x2 = x
  unfold rc rs
  rw [← s1, ← s2]
  generalize hc : val_main_v55 (F := Ideal) = cc
  generalize hs : val_main_v57 (F := Ideal) = ss
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v56, val_main_v58, val_main_cst_7, val_main_cst_8, val_main_cst_9, hx, hc, hs, lit_nil]
  by_cases h0 : e.val < 8
  · have a1 : ¬ (16 ≤ e.val ∧ e.val - 16 < 48) := by omega
    have a2 : ¬ (8 ≤ e.val ∧ e.val - 8 < 8) := by omega
    simp only [h0, a1, a2, dif_pos, dif_neg, not_false_eq_true, zero_add]
    simp only [Nat.add_comm 8]
  · by_cases h1 : e.val < 16
    · have a1 : ¬ (16 ≤ e.val ∧ e.val - 16 < 48) := by omega
      have a2 : 8 ≤ e.val ∧ e.val - 8 < 8 := by omega
      have a3 : (⟨8 + (e.val - 8), by omega⟩ : Fin 64) = e := Fin.ext (by show 8 + (e.val - 8) = e.val; omega)
      simp only [h0, h1, a1, a2, a3, dif_pos, dif_neg, not_false_eq_true, zero_add, add_zero, and_self]
    · have a1 : 16 ≤ e.val ∧ e.val - 16 < 48 := by omega
      have a2 : ¬ (8 ≤ e.val ∧ e.val - 8 < 8) := by omega
      have a3 : (⟨16 + (e.val - 16), by omega⟩ : Fin 64) = e := Fin.ext (by show 16 + (e.val - 16) = e.val; omega)
      simp only [h0, h1, a1, a2, a3, dif_pos, dif_neg, not_false_eq_true, add_zero, and_self]

theorem v132_eq (n : Fin 8192) (h : Fin 8) (e : Fin 64) : val_main_v132 (F := Ideal) x1 (ix3 n h e)
    = turn (fun e => val_main_v90 (F := Ideal) x1 (ix3 n h e)) (rc n) (rs n) e := by
  unfold turn
  generalize hx : val_main_v90 (F := Ideal) x1 = x
  unfold rc rs
  generalize hc : val_main_v22 (F := Ideal) = cc
  generalize hs : val_main_v24 (F := Ideal) = ss
  pointwise [val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v23, val_main_v25, val_main_cst_10, val_main_cst_11, val_main_cst_12, hx, hc, hs, lit_nil]
  by_cases h0 : e.val < 8
  · have a1 : ¬ (16 ≤ e.val ∧ e.val - 16 < 48) := by omega
    have a2 : ¬ (8 ≤ e.val ∧ e.val - 8 < 8) := by omega
    simp only [h0, a1, a2, dif_pos, dif_neg, not_false_eq_true, zero_add]
    simp only [Nat.add_comm 8]
  · by_cases h1 : e.val < 16
    · have a1 : ¬ (16 ≤ e.val ∧ e.val - 16 < 48) := by omega
      have a2 : 8 ≤ e.val ∧ e.val - 8 < 8 := by omega
      have a3 : (⟨8 + (e.val - 8), by omega⟩ : Fin 64) = e := Fin.ext (by show 8 + (e.val - 8) = e.val; omega)
      simp only [h0, h1, a1, a2, a3, dif_pos, dif_neg, not_false_eq_true, zero_add, add_zero, and_self]
    · have a1 : 16 ≤ e.val ∧ e.val - 16 < 48 := by omega
      have a2 : ¬ (8 ≤ e.val ∧ e.val - 8 < 8) := by omega
      have a3 : (⟨16 + (e.val - 16), by omega⟩ : Fin 64) = e := Fin.ext (by show 16 + (e.val - 16) = e.val; omega)
      simp only [h0, h1, a1, a2, a3, dif_pos, dif_neg, not_false_eq_true, add_zero, and_self]

/-- The gradient of a token's lane of the projection: the queries turned back, the keys' two copies added and turned back, the values' two copies added, the gate's inputs as they are. -/
def out (n : Fin 8192) (l : Fin 1792) : EReal :=
  if h0 : l.val < 512 then turn (fun e => x1 (ix2 n ⟨l.val / 64 * 64 + e.val, by omega⟩)) (rc n) (rs n) ⟨l.val % 64, by omega⟩
  else if h1 : l.val < 640 then turn (fun e => x2 (ix2 n ⟨(l.val - 512) / 64 * 128 + e.val, by omega⟩) + x2 (ix2 n ⟨(l.val - 512) / 64 * 128 + 64 + e.val, by omega⟩)) (rc n) (rs n) ⟨(l.val - 512) % 64, by omega⟩
  else if h2 : l.val < 768 then x3 (ix2 n ⟨(l.val - 640) / 64 * 128 + (l.val - 640) % 64, by omega⟩) + x3 (ix2 n ⟨(l.val - 640) / 64 * 128 + 64 + (l.val - 640) % 64, by omega⟩)
  else x4 (ix2 n ⟨l.val - 768, by omega⟩)

theorem out_q (n : Fin 8192) (l : Fin 512) : out x1 x2 x3 x4 n ⟨l.val, by omega⟩
    = turn (fun e => x1 (ix2 n ⟨l.val / 64 * 64 + e.val, by omega⟩)) (rc n) (rs n) ⟨l.val % 64, by omega⟩ := by
  unfold out
  rw [dif_pos l.isLt]
theorem out_k (n : Fin 8192) (l : Fin 128) : out x1 x2 x3 x4 n ⟨512 + l.val, by omega⟩
    = turn (fun e => x2 (ix2 n ⟨l.val / 64 * 128 + e.val, by omega⟩) + x2 (ix2 n ⟨l.val / 64 * 128 + 64 + e.val, by omega⟩)) (rc n) (rs n) ⟨l.val % 64, by omega⟩ := by
  have a : ¬ 512 + l.val < 512 := by omega
  have b : 512 + l.val < 640 := by omega
  unfold out
  simp only [a, b, dif_pos, dif_neg, not_false_eq_true, Nat.add_sub_cancel_left]
theorem out_v (n : Fin 8192) (l : Fin 128) : out x1 x2 x3 x4 n ⟨640 + l.val, by omega⟩
    = x3 (ix2 n ⟨l.val / 64 * 128 + l.val % 64, by omega⟩) + x3 (ix2 n ⟨l.val / 64 * 128 + 64 + l.val % 64, by omega⟩) := by
  have a : ¬ 640 + l.val < 512 := by omega
  have b : ¬ 640 + l.val < 640 := by omega
  have d : 640 + l.val < 768 := by omega
  unfold out
  simp only [a, b, d, dif_pos, dif_neg, not_false_eq_true, Nat.add_sub_cancel_left]
theorem out_g (n : Fin 8192) (l : Fin 1024) : out x1 x2 x3 x4 n ⟨768 + l.val, by omega⟩ = x4 (ix2 n l) := by
  have a : ¬ 768 + l.val < 512 := by omega
  have b : ¬ 768 + l.val < 640 := by omega
  have d : ¬ 768 + l.val < 768 := by omega
  unfold out
  simp only [a, b, d, dif_neg, not_false_eq_true, Nat.add_sub_cancel_left]

theorem v133_eq (n : Fin 8192) (l : Fin 512) : val_main_v133 (F := Ideal) x1 (ix2 n l) = val_main_v132 (F := Ideal) x1 (ix3 n ⟨l.val / 64, by omega⟩ ⟨l.val % 64, by omega⟩) := by
  generalize hx : val_main_v132 (F := Ideal) x1 = x
  pointwise [val_main_v133, hx]
theorem v112_eq (n : Fin 8192) (l : Fin 128) : val_main_v112 (F := Ideal) x2 (ix2 n l) = val_main_v111 (F := Ideal) x2 (ix3 n ⟨l.val / 64, by omega⟩ ⟨l.val % 64, by omega⟩) := by
  generalize hx : val_main_v111 (F := Ideal) x2 = x
  pointwise [val_main_v112, hx]
theorem v91_eq (n : Fin 8192) (l : Fin 128) : val_main_v91 (F := Ideal) x3 (ix2 n l) = val_main_v85 (F := Ideal) x3 (ix3 n ⟨l.val / 64, by omega⟩ ⟨l.val % 64, by omega⟩) := by
  generalize hx : val_main_v85 (F := Ideal) x3 = x
  pointwise [val_main_v91, hx]

theorem v135_eq (n : Fin 8192) (l : Fin 1792) : val_main_v135 (F := Ideal) x1 x2 x3 x4 (ix2 n l) = out x1 x2 x3 x4 n l := by
  have e1 := v133_eq x1 n
  have e2 := v112_eq x2 n
  have e3 := v91_eq x3 n
  have f1 := v132_eq x1 n
  have f2 := v111_eq x2 n
  have f3 := v85_eq x3 n
  simp only [v90_eq] at f1
  simp only [v89_eq] at f2
  simp only [f1] at e1
  simp only [f2] at e2
  simp only [f3] at e3
  unfold out
  generalize hq : val_main_v133 (F := Ideal) x1 = q at e1
  generalize hk : val_main_v112 (F := Ideal) x2 = k at e2
  generalize hv : val_main_v91 (F := Ideal) x3 = v at e3
  pointwise [val_main_v135, val_main_v134, val_main_v3, hq, hk, hv]
  by_cases h0 : l.val < 512
  · simp only [h0, dif_pos, e1]
  · by_cases h1 : l.val < 640
    · have a : l.val - 512 < 128 := by omega
      simp only [h0, h1, a, dif_pos, dif_neg, not_false_eq_true, e2]
    · by_cases h2 : l.val < 768
      · have a : ¬ l.val - 512 < 128 := by omega
        have b : l.val - 640 < 128 := by omega
        simp only [Nat.sub_sub, Nat.reduceAdd, h0, h1, h2, a, b, dif_pos, dif_neg, not_false_eq_true, e3]
      · have a : ¬ l.val - 512 < 128 := by omega
        have b : ¬ l.val - 640 < 128 := by omega
        simp only [Nat.sub_sub, Nat.reduceAdd, h0, h1, h2, a, b, dif_neg, not_false_eq_true]

end Cert.PosteRIdeal.Read

end
-- ==== Proof.PosteValue.lean ====
/-
  The array the even mixer's rotary gradient leaves.
-/
module

public import proofs.«01_k».proof.Proof.PosteBlock
public import proofs.«01_k».proof.Proof.PosteHost
public import proofs.«01_k».proof.Proof.PosteRef
public import Idealize.ShloMosaic.Lib.Pipeline.ValueKit.Tiles
public import Idealize.ShloMosaic.Lib.Pipeline.ValueKit.Geometry
public import Idealize.ShloMosaic.Lib.Tactic

@[expose] public section

set_option backward.proofsInPublic true
set_option maxRecDepth 16384

noncomputable section

namespace Cert.PosteKIdeal.Block

open Cert.PosteKIdeal Cert.PosteKIdeal.Gen Idealize.ShloMosaic Idealize.ShloMosaic.TcCoe Cert.Finite Cert.Post

variable (m : (ℓ : Loc nD τ sig) → Buf (Elt Ideal) ℓ) (c : Dev nD)

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![0, t.val, 0] := (by decide +kernel : ∀ t : Fin grid0.N, _)
theorem e1 : ∀ t : Fin cfg0.N, win0_1.index t = ![0, t.val, 0] := (by decide +kernel : ∀ t : Fin grid0.N, _)
theorem e2 : ∀ t : Fin cfg0.N, win0_2.index t = ![0, t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

theorem blk0 (t : Fin cfg0.N) (r : Fin 512) (l : Fin 512) : (iblk m c 0 t : Vec Ideal S1x512x512 .bf16) (ix3 0 r l) = aq m c (ix2 (at_ t r) l) := by
  have h : (win0_0.blk t).view.emb (ix3 0 r l) = (ix3 0 (at_ t r) l : S1x8192x512.Idx) := by blk_ext [e0]
  have hv := V_0 m c
  show V m c main_v0 ((win0_0.blk t).view.emb (ix3 0 r l)) = _
  rw [h, hv]
  generalize aq m c = x
  pointwise
theorem blk1 (t : Fin cfg0.N) (r : Fin 512) (l : Fin 256) : (iblk m c 1 t : Vec Ideal S1x512x256 .bf16) (ix3 0 r l) = ak m c (ix2 (at_ t r) l) := by
  have h : (win0_1.blk t).view.emb (ix3 0 r l) = (ix3 0 (at_ t r) l : S1x8192x256.Idx) := by blk_ext [e1]
  have hv := V_1 m c
  show V m c main_v1 ((win0_1.blk t).view.emb (ix3 0 r l)) = _
  rw [h, hv]
  generalize ak m c = x
  pointwise
theorem blk2 (t : Fin cfg0.N) (r : Fin 512) (l : Fin 256) : (iblk m c 2 t : Vec Ideal S1x512x256 .bf16) (ix3 0 r l) = av m c (ix2 (at_ t r) l) := by
  have h : (win0_2.blk t).view.emb (ix3 0 r l) = (ix3 0 (at_ t r) l : S1x8192x256.Idx) := by blk_ext [e2]
  have hv := V_2 m c
  show V m c main_v2 ((win0_2.blk t).view.emb (ix3 0 r l)) = _
  rw [h, hv]
  generalize av m c = x
  pointwise
theorem blk3 (t : Fin cfg0.N) (r : Fin 512) (l : Fin 1024) : (iblk m c 3 t : Vec Ideal S512x1024 .bf16) (ix2 r l) = ag m c (ix2 (at_ t r) l) := by
  have h : (win0_3.blk t).view.emb (ix2 r l) = (ix2 (at_ t r) l : S8192x1024.Idx) := by blk_ext [e3]
  blk_simp [iblk]
  rw [h, V_main_arg4]
theorem blk4 (t : Fin cfg0.N) (r : Fin 512) (l : Fin 128) : (iblk m c 4 t : Vec Ideal S512x128 .f32) (ix2 r l) = tabC (cs (at_ t r)) ⟨l.val % 64, by omega⟩ := by
  have h : (win0_4.blk t).view.emb (ix2 r l) = (ix2 (at_ t r) l : S8192x128.Idx) := by blk_ext [e4]
  show V m c main_v26 ((win0_4.blk t).view.emb (ix2 r l)) = _
  rw [h]
  exact tab_c m c _ _
theorem blk5 (t : Fin cfg0.N) (r : Fin 512) (l : Fin 128) : (iblk m c 5 t : Vec Ideal S512x128 .f32) (ix2 r l) = tabA (sn (at_ t r)) ⟨l.val % 64, by omega⟩ := by
  have h : (win0_5.blk t).view.emb (ix2 r l) = (ix2 (at_ t r) l : S8192x128.Idx) := by blk_ext [e5]
  show V m c main_v29 ((win0_5.blk t).view.emb (ix2 r l)) = _
  rw [h]
  exact tab_a m c _ _
theorem blk6 (t : Fin cfg0.N) (r : Fin 512) (l : Fin 128) : (iblk m c 6 t : Vec Ideal S512x128 .f32) (ix2 r l) = tabB (sn (at_ t r)) ⟨l.val % 64, by omega⟩ := by
  have h : (win0_6.blk t).view.emb (ix2 r l) = (ix2 (at_ t r) l : S8192x128.Idx) := by blk_ext [e6]
  show V m c main_v32 ((win0_6.blk t).view.emb (ix2 r l)) = _
  rw [h]
  exact tab_b m c _ _

/-- A key's two copies, read from a block. -/
theorem fold_of {t : Fin cfg0.N} (r : Fin 512) (a : FVec Ideal S8192x256 .bf16) (B : Vec Ideal S1x512x256 .bf16)
    (h : ∀ (r : Fin 512) (l : Fin 256), B (ix3 0 r l) = a (ix2 (at_ t r) l)) (l : Fin 128) :
    fold r (View.ld B (Rect.unit ![0, 0, 0] ![1, 512, 128] inb_S1x512x256_S1x512x128_0_0_0)) (View.ld B (Rect.unit ![0, 0, 128] ![1, 512, 128] inb_S1x512x256_S1x512x128_0_0_128)) l
    = a (ix2 (at_ t r) ⟨l.val / 64 * 128 + l.val % 64, by omega⟩) + a (ix2 (at_ t r) ⟨l.val / 64 * 128 + 64 + l.val % 64, by omega⟩) := by
  have lo : ∀ i : Fin 128, (View.ld B (Rect.unit ![0, 0, 0] ![1, 512, 128] inb_S1x512x256_S1x512x128_0_0_0) : Vec Ideal S1x512x128 .bf16) (ix3 0 r i) = a (ix2 (at_ t r) ⟨i.val, by omega⟩) :=
    fun i => (congrArg B (by funext a; fin_cases a <;> exact Fin.ext (by simp [Rect.unit, Rect.emb]))).trans (h r ⟨i.val, by omega⟩)
  have hi : ∀ i : Fin 128, (View.ld B (Rect.unit ![0, 0, 128] ![1, 512, 128] inb_S1x512x256_S1x512x128_0_0_128) : Vec Ideal S1x512x128 .bf16) (ix3 0 r i) = a (ix2 (at_ t r) ⟨128 + i.val, by omega⟩) :=
    fun i => (congrArg B (by funext a; fin_cases a <;> exact Fin.ext (by simp [Rect.unit, Rect.emb]))).trans (h r ⟨128 + i.val, by omega⟩)
  unfold fold
  by_cases h0 : l.val < 64
  · rw [dif_pos h0, lo, lo]
    congr 3 <;> exact Fin.ext (by simp only; omega)
  · rw [dif_neg h0, hi, hi]
    congr 3 <;> exact Fin.ext (by simp only; omega)

theorem final7 : (dats m 0 c).arrAt 7 cfg0.N
    = fun i : S8192x1792.Idx => Cert.PosteRIdeal.Read.out (aq m c) (ak m c) (av m c) (ag m c) (i 0) (i 1) := by
  refine (dats m 0 c).arrAt_eq_of_covers 7 _ (by decide +kernel) fun t hf y => ?_
  have h : (win0_7.blk t).view.emb y = (ix2 (at_ t (y 0)) (y 1) : S8192x1792.Idx) := by blk_ext [e7]
  blk_simp
  rw [after0_7, h]
  simp only [outsAt0]
  frame_out
  have c0 := blk0 m c t
  have c1 := blk1 m c t
  have c2 := blk2 m c t
  have c3 := blk3 m c t
  have c4 := blk4 m c t
  have c5 := blk5 m c t
  have c6 := blk6 m c t
  generalize iblk m c 0 t = B0 at c0 ⊢
  generalize iblk m c 1 t = B1 at c1 ⊢
  generalize iblk m c 2 t = B2 at c2 ⊢
  generalize iblk m c 3 t = B3 at c3 ⊢
  generalize iblk m c 4 t = B4 at c4 ⊢
  generalize iblk m c 5 t = B5 at c5 ⊢
  generalize iblk m c 6 t = B6 at c6 ⊢
  canon_tiles x hx using View.cover_of_tiledBy _ ![512, 128] (by sl_kernel_rfl) _
  all_goals try rw [Memref.IsWhole.read_unread]
  all_goals rw [eq_ix2 x]
  all_goals have e0 : y 0 = x 0 := Fin.ext hx0
  · have e : y 1 = ⟨768 + (x 1).val, lt_of_lt_of_le (Nat.add_lt_add_left (show (x 1).val < 1024 from x1_lt) _) (show 768 + 1024 ≤ 1792 by norm_num)⟩ := Fin.ext hx1
    show _ = Cert.PosteRIdeal.Read.out _ _ _ _ (at_ t (y 0)) (y 1)
    rw [e0, e]
    refine Eq.trans ?_ (Cert.PosteRIdeal.Read.out_g _ _ _ _ _ (x 1)).symm
    exact c3 (x 0) (x 1)
  · have e : y 1 = ⟨640 + (x 1).val, lt_of_lt_of_le (Nat.add_lt_add_left (show (x 1).val < 128 from x1_lt) _) (show 640 + 128 ≤ 1792 by norm_num)⟩ := Fin.ext hx1
    show _ = Cert.PosteRIdeal.Read.out _ _ _ _ (at_ t (y 0)) (y 1)
    rw [e0, e]
    refine Eq.trans ?_ (Cert.PosteRIdeal.Read.out_v _ _ _ _ _ (x 1)).symm
    exact (pay2_eq (x 0) _ _ (x 1)).trans (fold_of _ _ B2 c2 (x 1))
  · have e : y 1 = ⟨512 + (x 1).val, lt_of_lt_of_le (Nat.add_lt_add_left (show (x 1).val < 128 from x1_lt) _) (show 512 + 128 ≤ 1792 by norm_num)⟩ := Fin.ext hx1
    show _ = Cert.PosteRIdeal.Read.out _ _ _ _ (at_ t (y 0)) (y 1)
    rw [e0, e]
    refine Eq.trans ?_ (Cert.PosteRIdeal.Read.out_k _ _ _ _ _ (x 1)).symm
    refine (pay1_eq B4 B5 B6 (x 0) _ _ (c4 (x 0)) (c5 (x 0)) (c6 (x 0)) _ _ (x 1)).trans ?_
    refine congrArg (fun h => turn h _ _ _) (funext fun e => (fold_of _ _ B1 c1 _).trans ?_)
    have d1 : ((x 1).val / 64 * 64 + e.val) / 64 = (x 1).val / 64 := by have := e.isLt; omega
    have d2 : ((x 1).val / 64 * 64 + e.val) % 64 = e.val := by have := e.isLt; omega
    simp only [d1, d2]
  · have e : y 1 = ⟨(x 1).val, lt_of_lt_of_le (show (x 1).val < 512 from x1_lt) (show 512 ≤ 1792 by norm_num)⟩ := Fin.ext hx1
    show _ = Cert.PosteRIdeal.Read.out _ _ _ _ (at_ t (y 0)) (y 1)
    rw [e0, e]
    refine Eq.trans ?_ (Cert.PosteRIdeal.Read.out_q _ _ _ _ _ (x 1)).symm
    refine (pay6_eq B4 B5 B6 (x 0) _ _ (c4 (x 0)) (c5 (x 0)) (c6 (x 0)) _ (x 1)).trans ?_
    exact congrArg (fun h => turn h _ _ _) (funext fun e => c0 (x 0) _)

end Cert.PosteKIdeal.Block

end
-- ==== Proof.PosteClaim.lean ====
/-
  The even mixer's rotary gradient is that of splitting the projection, turning queries and keys and repeating keys and values.
-/
module

public import proofs.«01_k».proof.Defs
public import proofs.«01_k».proof.Proof.PosteValue

@[expose] public section

set_option maxRecDepth 16384

noncomputable section

namespace Cert.Poste

open Idealize.ShloMosaic Idealize.ShloMosaic.TcCoe Idealize.SL.Sem Cert.Finite

/-- The kernel's gradient is the chain rule's, whatever the arguments. -/
theorem claim : @Cert.algebraic_PosteKIdeal_PosteRIdeal Cert.PosteKIdeal.Gen.facts Cert.PosteRIdeal.Gen.facts := by
  intro m g m' g' _ hargs
  refine ⟨fun c => (PosteKIdeal.Gen.dats m 0 c).arrAt 7 _,
    PosteKIdeal.Value.run_blocks m g, (θ_run PosteRIdeal.defs _ _).mono (fun r h c => ?_) (PosteRIdeal.Value.run m' g')⟩
  obtain ⟨a0, a1, a2, a3, a4⟩ := hargs c
  obtain ⟨h0, k⟩ := h c
  have e0 : PosteRIdeal.Value.res_main_v135 m' c = PosteRIdeal.Read.val_main_v135 (F := Ideal) (PosteKIdeal.Block.aq m c)
      (PosteKIdeal.Block.ak m c) (PosteKIdeal.Block.av m c) (PosteKIdeal.Block.ag m c) := by
    unfold PosteRIdeal.Value.res_main_v135
    rw [a1, a2, a3, a4]
    rfl
  refine ⟨((h0.trans e0).trans ?_).trans (PosteKIdeal.Block.final7 m c).symm, k⟩
  exact funext fun i => (congrArg _ (eq_ix2 i)).trans (PosteRIdeal.Read.v135_eq _ _ _ _ _ _)

/-- The reference runs to its end and leaves its arguments and counters as they were: it declares no semaphore. -/
theorem refFrame : @Cert.quiescent_PosteRIdeal Cert.PosteRIdeal.Gen.facts := fun m ρ _ =>
  (θ_run PosteRIdeal.defs _ _).mono (fun r h => ⟨fun c => (h c).2, Idealize.ShloMosaic.sem_eq_zero_of_no_sems (by decide) r.2⟩)
    (PosteRIdeal.Value.run m ρ)

end Cert.Poste

end
-- ==== Proof.RmsfValue.lean ====
/-
  The array the even layer's forward norm leaves, and its reference element by element.
-/
module

public import proofs.«01_k».proof.Proof.Finite
public import proofs.«01_k».proof.Proof.Gen.RmsfKIdeal.Value
public import proofs.«01_k».proof.Proof.Gen.RmsfRIdeal.Read
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.RmsfKIdeal.Block

open Cert.RmsfKIdeal Cert.RmsfKIdeal.Gen Idealize.ShloMosaic Idealize.ShloMosaic.TcCoe Cert.Finite

/-- An element over the root of its token's mean square, scaled. -/
def normed (x : Fin 1024 → EReal) (g : EReal) (l : Fin 1024) : EReal :=
  x l * Ideal.rsqrt (Ideal.div (∑ k, x k * x k) (Ideal.ofBits .f32 0x44800000#32) + Ideal.ofBits .f32 0x358637BD#32) * g

theorem pay1_eq (x : Vec Ideal S512x1024 .f32) (g : Vec Ideal S1x1024 .f32) (r : Fin 512) (l : Fin 1024) :
    k0_pay1 x g (ix2 r l) = normed (fun k => x (ix2 r k)) (g (ix2 0 l)) l := by
  pointwise [k0_pay1, normed]

theorem ref_eq (x : FVec Ideal S8192x1024 .f32) (g : FVec Ideal S1x1024 .f32) (n : Fin 8192) (l : Fin 1024) :
    Cert.RmsfRIdeal.Read.val_main_v12 (F := Ideal) x g (ix2 n l) = normed (fun k => x (ix2 n k)) (g (ix2 0 l)) l := by
  have z : Ideal.ofBits .f32 0x00000000#32 = (0 : EReal) := by simp [Ideal.ofBits, Ideal.ieee]
  pointwise [Cert.RmsfRIdeal.Read.val_main_v12, Cert.RmsfRIdeal.Read.val_main_v11, Cert.RmsfRIdeal.Read.val_main_v10, Cert.RmsfRIdeal.Read.val_main_v9, Cert.RmsfRIdeal.Read.val_main_v8, Cert.RmsfRIdeal.Read.val_main_v7, Cert.RmsfRIdeal.Read.val_main_v6, Cert.RmsfRIdeal.Read.val_main_v5, Cert.RmsfRIdeal.Read.val_main_v4, Cert.RmsfRIdeal.Read.val_main_v3, Cert.RmsfRIdeal.Read.val_main_v2, Cert.RmsfRIdeal.Read.val_main_v1, Cert.RmsfRIdeal.Read.val_main_v0, Cert.RmsfRIdeal.Read.val_main_cst, Cert.RmsfRIdeal.Read.val_main_cst_0, Cert.RmsfRIdeal.Read.val_main_cst_1, normed, z, zero_add]

variable (m : (ℓ : Loc nD τ sig) → Buf (Elt Ideal) ℓ) (c : Dev nD)

/-- The tokens and the scale. -/
abbrev ax : FVec Ideal S8192x1024 .f32 := m ((c : Thread nD τ).loc main_arg0)
abbrev ag : FVec Ideal S1x1024 .f32 := m ((c : Thread nD τ).loc main_arg1)

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem blk0 (t : Fin cfg0.N) (r : Fin 512) (l : Fin 1024) : (iblk m c 0 t : Vec Ideal S512x1024 .f32) (ix2 r l) = ax m c (ix2 (at_ t r) l) := by
  have h : (win0_0.blk t).view.emb (ix2 r l) = (ix2 (at_ t r) l : S8192x1024.Idx) := by blk_ext [e0]
  blk_simp [iblk]
  rw [h, V_main_arg0]
theorem blk1 (t : Fin cfg0.N) (l : Fin 1024) : (iblk m c 1 t : Vec Ideal S1x1024 .f32) (ix2 0 l) = ag m c (ix2 0 l) := by
  have h : (win0_1.blk t).view.emb (ix2 0 l) = (ix2 0 l : S1x1024.Idx) := by blk_ext [e1]
  blk_simp [iblk]
  rw [h, V_main_arg1]

theorem final2 : (dats m 0 c).arrAt 2 cfg0.N = fun i : S8192x1024.Idx => normed (fun k => ax m c (ix2 (i 0) k)) (ag m c (ix2 0 (i 1))) (i 1) := by
  refine (dats m 0 c).arrAt_eq_of_covers 2 _ (by decide +kernel) fun t hf y => ?_
  have h : (win0_2.blk t).view.emb y = (ix2 (at_ t (y 0)) (y 1) : S8192x1024.Idx) := by blk_ext [e2]
  blk_simp
  rw [after0_2, h]
  frame_out
  have c0 := blk0 m c t
  have c1 := blk1 m c t
  generalize iblk m c 0 t = B0 at c0 ⊢
  generalize iblk m c 1 t = B1 at c1 ⊢
  refine (congrArg _ (eq_ix2 y)).trans ((pay1_eq B0 B1 (y 0) (y 1)).trans ?_)
  exact congrArg₂ (fun x g => normed x g _) (funext fun k => c0 (y 0) k) (c1 (y 1))

end Cert.RmsfKIdeal.Block

end
-- ==== Proof.RmsfClaim.lean ====
/-
  The even layer's forward norm is its reference.
-/
module

public import proofs.«01_k».proof.Defs
public import proofs.«01_k».proof.Proof.RmsfValue

@[expose] public section

set_option maxRecDepth 16384

noncomputable section

namespace Cert.Rmsf

open Idealize.ShloMosaic Idealize.ShloMosaic.TcCoe Idealize.SL.Sem Cert.Finite

/-- The kernel's normed tokens are the reference's, whatever the arguments. -/
theorem claim : @Cert.algebraic_RmsfKIdeal_RmsfRIdeal Cert.RmsfKIdeal.Gen.facts Cert.RmsfRIdeal.Gen.facts := by
  intro m g m' g' _ hargs
  refine ⟨fun c => (RmsfKIdeal.Gen.dats m 0 c).arrAt 2 _,
    RmsfKIdeal.Value.run_blocks m g, (θ_run RmsfRIdeal.defs _ _).mono (fun r h c => ?_) (RmsfRIdeal.Value.run m' g')⟩
  obtain ⟨a0, a1⟩ := hargs c
  obtain ⟨h0, k⟩ := h c
  refine ⟨(h0.trans ?_).trans (RmsfKIdeal.Block.final2 m c).symm, k⟩
  rw [a0, a1]
  show RmsfRIdeal.Read.val_main_v12 (F := Ideal) (RmsfKIdeal.Block.ax m c) (RmsfKIdeal.Block.ag m c) = _
  exact funext fun i => (congrArg _ (eq_ix2 i)).trans (RmsfKIdeal.Block.ref_eq _ _ _ _)

/-- The reference runs to its end and leaves its arguments and counters as they were: it declares no semaphore. -/
theorem refFrame : @Cert.quiescent_RmsfRIdeal Cert.RmsfRIdeal.Gen.facts := fun m ρ _ =>
  (θ_run RmsfRIdeal.defs _ _).mono (fun r h => ⟨fun c => (h c).2, Idealize.ShloMosaic.sem_eq_zero_of_no_sems (by decide) r.2⟩)
    (RmsfRIdeal.Value.run m ρ)

end Cert.Rmsf

end
-- ==== Proof.PrepMath.lean ====
/-
  The rotary turn of a head, and the tables a kernel turns by.
-/
module

public import proofs.«01_k».proof.Proof.PostMath

@[expose] public section

set_option backward.proofsInPublic true

noncomputable section

namespace Cert.Prep

open Idealize.ShloMosaic Cert.Post

/-- A head's 64 elements turned: the first 8 against the next 8 by the angles' cosines and sines, the others as they are. -/
def ahead (h : Fin 64 → EReal) (cs sn : Fin 8 → EReal) (e : Fin 64) : EReal :=
  if h0 : e.val < 8 then h e * cs ⟨e.val, h0⟩ - h ⟨e.val + 8, by omega⟩ * sn ⟨e.val, h0⟩
  else if h1 : e.val < 16 then h e * cs ⟨e.val - 8, by omega⟩ + h ⟨e.val - 8, by omega⟩ * sn ⟨e.val - 8, by omega⟩
  else h e

/-- Three products with the tables are the turn, whatever the lanes beyond the head's ends hold: the tables are zero there. -/
theorem ahead_eq (h : Fin 64 → EReal) (cs sn : Fin 8 → EReal) (e : Fin 64) (up dn : EReal) (hu : ∀ h0 : e.val < 8, up = h ⟨e.val + 8, by omega⟩)
    (hd : ∀ h1 : 8 ≤ e.val, dn = h ⟨e.val - 8, by omega⟩) :
    h e * tabC cs e + up * tabA sn e + dn * tabB sn e = ahead h cs sn e := by
  unfold ahead tabC tabA tabB
  by_cases h0 : e.val < 8
  · simp only [h0, dif_pos, hu h0, mul_zero, add_zero]
    rw [mul_comm (h ⟨e.val + 8, _⟩) (-_), EReal.neg_mul, mul_comm (sn _)]
    exact (sub_eq_add_neg _ _).symm
  · by_cases h1 : e.val < 16
    · simp only [h0, h1, dif_pos, dif_neg, not_false_eq_true, hd (by omega), mul_zero, add_zero]
    · simp only [h0, h1, dif_neg, not_false_eq_true, mul_zero, add_zero, mul_one]

end Cert.Prep

end
-- ==== Proof.PrepeBlock.lean ====
/-
  What the even mixer's rotary call leaves of one block of 512 tokens.
-/
module

public import proofs.«01_k».proof.Proof.PrepMath
public import proofs.«01_k».proof.Proof.Gen.PrepeKIdeal.Value
public import Idealize.ShloMosaic.Lib.Pipeline.ValueKit.Geometry
public import Idealize.ShloMosaic.Lib.Tactic

@[expose] public section

set_option backward.proofsInPublic true
set_option maxRecDepth 16384

noncomputable section

namespace Cert.PrepeKIdeal.Block

open Cert.PrepeKIdeal Cert.PrepeKIdeal.Gen Idealize.ShloMosaic Idealize.ShloMosaic.TcCoe Cert.Finite Cert.Post Cert.Prep

variable (v0 v2 v6 : Vec Ideal S512x128 .f32) (r : Fin 512) (cs sn : Fin 8 → EReal)
  (hc : ∀ l : Fin 128, v0 (ix2 r l) = tabC cs ⟨l.val % 64, by omega⟩)
  (ha : ∀ l : Fin 128, v2 (ix2 r l) = tabA sn ⟨l.val % 64, by omega⟩)
  (hb : ∀ l : Fin 128, v6 (ix2 r l) = tabB sn ⟨l.val % 64, by omega⟩)

theorem pay6_eq (l : Fin 128) : k0_pay6 (F := Ideal) v0 (ix2 r l) = v0 (ix2 r l) := by
  pointwise [k0_pay6]
theorem pay7_eq (l : Fin 128) : k0_pay7 (F := Ideal) v2 (ix2 r l) = v2 (ix2 r l) := by
  pointwise [k0_pay7]
theorem pay8_eq (l : Fin 128) : k0_pay8 (F := Ideal) v6 (ix2 r l) = v6 (ix2 r l) := by
  pointwise [k0_pay8]

/-- A table written four times. -/
theorem four (x : FVec Ideal S512x128 .f32) (l : Fin 512) : (concatenate S512x512 1 [⟨S512x128, x⟩, ⟨S512x128, x⟩, ⟨S512x128, x⟩, ⟨S512x128, x⟩]
    concatenates_S512x128_S512x128_S512x128_S512x128_S512x512_d1 : FVec Ideal S512x512 .f32) (ix2 r l) = x (ix2 r ⟨l.val % 128, by omega⟩) := by
  pointwise
  have hl := l.isLt
  by_cases h0 : l.val < 128
  · simp only [h0, dif_pos]
    exact congrArg x (by blk_ext)
  · by_cases h1 : l.val - 128 < 128
    · simp only [h0, h1, dif_pos, dif_neg, not_false_eq_true]
      exact congrArg x (by blk_ext)
    · by_cases h2 : l.val - 128 - 128 < 128
      · simp only [h0, h1, h2, dif_pos, dif_neg, not_false_eq_true]
        exact congrArg x (by blk_ext)
      · simp only [h0, h1, h2, dif_neg, not_false_eq_true]
        exact congrArg x (by blk_ext)

include hc ha hb in
/-- The queries' lanes. -/
theorem pay9_eq (v10 : Vec Ideal S512x512 .bf16) (l : Fin 512) : k0_pay9 (F := Ideal) v0 v2 v6 v10 (ix3 0 r l)
    = ahead (fun e => v10 (ix2 r ⟨l.val / 64 * 64 + e.val, by omega⟩)) cs sn ⟨l.val % 64, by omega⟩ := by
  rw [← ahead_eq _ cs sn ⟨l.val % 64, by omega⟩ (v10 (ix2 r ⟨(l.val + 8) % 512, by omega⟩)) (v10 (ix2 r ⟨(l.val + 504) % 512, by omega⟩))
    (fun h0 => congrArg (fun i => v10 (ix2 r i)) (Fin.ext (by simp only at h0 ⊢; omega)))
    (fun h0 => congrArg (fun i => v10 (ix2 r i)) (Fin.ext (by simp only at h0 ⊢; omega)))]
  have f1 := four r (k0_pay6 (F := Ideal) v0) l
  have f2 := four r (k0_pay7 (F := Ideal) v2) l
  have f3 := four r (k0_pay8 (F := Ideal) v6) l
  rw [pay6_eq, hc] at f1
  rw [pay7_eq, ha] at f2
  rw [pay8_eq, hb] at f3
  unfold k0_pay9
  generalize (concatenate S512x512 1 [⟨S512x128, k0_pay6 (F := Ideal) v0⟩, _, _, _] _ : FVec Ideal S512x512 .f32) = t1 at f1 ⊢
  generalize (concatenate S512x512 1 [⟨S512x128, k0_pay7 (F := Ideal) v2⟩, _, _, _] _ : FVec Ideal S512x512 .f32) = t2 at f2 ⊢
  generalize (concatenate S512x512 1 [⟨S512x128, k0_pay8 (F := Ideal) v6⟩, _, _, _] _ : FVec Ideal S512x512 .f32) = t3 at f3 ⊢
  pointwise [f1, f2, f3]
  have d1 : (⟨l.val % 128 % 64, by omega⟩ : Fin 64) = ⟨l.val % 64, by omega⟩ := Fin.ext (by show l.val % 128 % 64 = l.val % 64; omega)
  have d2 : (⟨l.val / 64 * 64 + l.val % 64, by omega⟩ : Fin 512) = l := Fin.ext (by show l.val / 64 * 64 + l.val % 64 = l.val; omega)
  have d3 : (⟨(l.val + 512 - 504) % 512, by omega⟩ : Fin 512) = ⟨(l.val + 8) % 512, by omega⟩ := Fin.ext (by show (l.val + 512 - 504) % 512 = (l.val + 8) % 512; omega)
  have d4 : (⟨(l.val + 512 - 8) % 512, by omega⟩ : Fin 512) = ⟨(l.val + 504) % 512, by omega⟩ := Fin.ext (by show (l.val + 512 - 8) % 512 = (l.val + 504) % 512; omega)
  rw [d1, d2, d3, d4]

/-- Which half of a vector's lanes a lane is in. -/
theorem pay10_eq (l : Fin 128) : k0_pay10 (ix2 r l) = if l.val < 64 then 1#1 else 0#1 := by
  pointwise [k0_pay10]
  revert l
  decide +kernel

theorem at_lt (l : Fin 128) (e : Fin 64) : l.val / 64 * 64 + e.val < 128 := by omega
theorem md_lt (n : ℕ) : n % 64 < 64 := by omega
theorem lo_lt (n : ℕ) : n % 64 < 128 := by omega
theorem hi_lt (n : ℕ) : 64 + n % 64 < 128 := by omega

include hc ha hb in
/-- The keys' lanes. -/
theorem pay11_eq (x : Vec Ideal S512x128 .bf16) (l : Fin 128) : k0_pay11 (F := Ideal) v0 v2 v6 x (ix2 r l)
    = ahead (fun e => x (ix2 r ⟨l.val / 64 * 64 + e.val, at_lt l e⟩)) cs sn ⟨l.val % 64, md_lt l.val⟩ := by
  rw [← ahead_eq _ cs sn ⟨l.val % 64, by omega⟩ (x (ix2 r ⟨(l.val + 8) % 128, by omega⟩)) (x (ix2 r ⟨(l.val + 120) % 128, by omega⟩))
    (fun h0 => congrArg (fun i => x (ix2 r i)) (Fin.ext (by simp only at h0 ⊢; omega)))
    (fun h0 => congrArg (fun i => x (ix2 r i)) (Fin.ext (by simp only at h0 ⊢; omega)))]
  have f1 := pay6_eq v0 r l
  have f2 := pay7_eq v2 r l
  have f3 := pay8_eq v6 r l
  rw [hc] at f1
  rw [ha] at f2
  rw [hb] at f3
  unfold k0_pay11
  generalize k0_pay6 (F := Ideal) v0 = t1 at f1 ⊢
  generalize k0_pay7 (F := Ideal) v2 = t2 at f2 ⊢
  generalize k0_pay8 (F := Ideal) v6 = t3 at f3 ⊢
  pointwise [f1, f2, f3]
  have d2 : (⟨l.val / 64 * 64 + l.val % 64, by omega⟩ : Fin 128) = l := Fin.ext (by show l.val / 64 * 64 + l.val % 64 = l.val; omega)
  have d3 : (⟨(l.val + 8) % 128, by omega⟩ : Fin 128) = ⟨(l.val + 128 - 120) % 128, by omega⟩ := Fin.ext (by show (l.val + 8) % 128 = (l.val + 128 - 120) % 128; omega)
  have d4 : (⟨(l.val + 120) % 128, by omega⟩ : Fin 128) = ⟨(l.val + 128 - 8) % 128, by omega⟩ := Fin.ext (by show (l.val + 120) % 128 = (l.val + 128 - 8) % 128; omega)
  rw [d2, d3, d4]

theorem low_cases (x : Vec Ideal S512x128 .f32) (l : Fin 128) :
    Scalar.select (if l.val < 64 then 1#1 else 0#1) (x (ix2 r l)) (x (ix2 r ⟨(l.val + 128 - 64) % 128, by omega⟩)) = x (ix2 r ⟨l.val % 64, lo_lt l.val⟩) := by
  by_cases h : l.val < 64
  · rw [if_pos h]
    show x (ix2 r l) = _
    exact congrArg (fun i => x (ix2 r i)) (Fin.ext (by simp only; omega))
  · rw [if_neg h]
    show x (ix2 r ⟨(l.val + 128 - 64) % 128, _⟩) = _
    exact congrArg (fun i => x (ix2 r i)) (Fin.ext (by simp only; omega))
theorem high_cases (x : Vec Ideal S512x128 .f32) (l : Fin 128) :
    Scalar.select (if l.val < 64 then 1#1 else 0#1) (x (ix2 r ⟨(l.val + 128 - 64) % 128, by omega⟩)) (x (ix2 r l)) = x (ix2 r ⟨64 + l.val % 64, hi_lt l.val⟩) := by
  by_cases h : l.val < 64
  · rw [if_pos h]
    show x (ix2 r ⟨(l.val + 128 - 64) % 128, _⟩) = _
    exact congrArg (fun i => x (ix2 r i)) (Fin.ext (by simp only; omega))
  · rw [if_neg h]
    show x (ix2 r l) = _
    exact congrArg (fun i => x (ix2 r i)) (Fin.ext (by simp only; omega))

/-- The keys turned. -/
abbrev key (x : Vec Ideal S512x128 .bf16) (h : Fin 2) (e : Fin 64) : EReal :=
  ahead (fun e => x (ix2 r ⟨h.val * 64 + e.val, by omega⟩)) cs sn e

include hc ha hb in
theorem pay1_eq (x : Vec Ideal S512x128 .bf16) (l : Fin 128) :
    k0_pay1 (F := Ideal) k0_pay10 (k0_pay11 v0 v2 v6 x) (k0_pay13 v0 v2 v6 x) (ix3 0 r l) = key r cs sn x 0 ⟨l.val % 64, md_lt l.val⟩ := by
  have h7 := pay10_eq r l
  have h := pay11_eq v0 v2 v6 r cs sn hc ha hb x ⟨l.val % 64, lo_lt l.val⟩
  unfold k0_pay13
  generalize k0_pay11 (F := Ideal) v0 v2 v6 x = y at h ⊢
  generalize k0_pay10 = z at h7 ⊢
  pointwise [k0_pay1, h7]
  refine (low_cases r y l).trans (h.trans ?_)
  have d1 : l.val % 64 / 64 = 0 := by omega
  have d2 : l.val % 64 % 64 = l.val % 64 := by omega
  simp only [d1, d2]
  rfl
include hc ha hb in
theorem pay2_eq (x : Vec Ideal S512x128 .bf16) (l : Fin 128) :
    k0_pay2 (F := Ideal) k0_pay10 (k0_pay11 v0 v2 v6 x) (k0_pay13 v0 v2 v6 x) (ix3 0 r l) = key r cs sn x 1 ⟨l.val % 64, md_lt l.val⟩ := by
  have h7 := pay10_eq r l
  have h := pay11_eq v0 v2 v6 r cs sn hc ha hb x ⟨64 + l.val % 64, hi_lt l.val⟩
  unfold k0_pay13
  generalize k0_pay11 (F := Ideal) v0 v2 v6 x = y at h ⊢
  generalize k0_pay10 = z at h7 ⊢
  pointwise [k0_pay2, h7]
  refine (high_cases r y l).trans (h.trans ?_)
  have d1 : (64 + l.val % 64) / 64 = 1 := by omega
  have d2 : (64 + l.val % 64) % 64 = l.val % 64 := by omega
  simp only [d1, d2]
  rfl

/-- The values' lanes. -/
theorem pay4_eq (x : Vec Ideal S512x128 .bf16) (l : Fin 128) :
    k0_pay4 (F := Ideal) k0_pay10 (k0_pay12 x) (ix3 0 r l) = x (ix2 r ⟨l.val % 64, lo_lt l.val⟩) := by
  have h7 := pay10_eq r l
  generalize k0_pay10 = z at h7 ⊢
  pointwise [k0_pay4, k0_pay3, k0_pay12, h7]
  exact low_cases r x l
theorem pay5_eq (x : Vec Ideal S512x128 .bf16) (l : Fin 128) :
    k0_pay5 (F := Ideal) k0_pay10 (k0_pay12 x) (ix3 0 r l) = x (ix2 r ⟨64 + l.val % 64, hi_lt l.val⟩) := by
  have h7 := pay10_eq r l
  generalize k0_pay10 = z at h7 ⊢
  pointwise [k0_pay5, k0_pay3, k0_pay12, h7]
  exact high_cases r x l

end Cert.PrepeKIdeal.Block

end
-- ==== Proof.PrepeHost.lean ====
/-
  What the host hands the even mixer's rotary call: the three tables.
-/
module

public import proofs.«01_k».proof.Proof.PostMath
public import proofs.«01_k».proof.Proof.Gen.PrepeKIdeal.Value
public import proofs.«01_k».proof.Proof.Gen.PrepeRIdeal.Read
public import Idealize.ShloMosaic.Lib.Pipeline.ValueKit.Geometry
public import Idealize.ShloMosaic.Lib.Tactic

@[expose] public section

set_option backward.proofsInPublic true
set_option maxRecDepth 16384

noncomputable section

namespace Cert.PrepeKIdeal.Block

open Cert.PrepeKIdeal Cert.PrepeKIdeal.Gen Cert.PrepeRIdeal.Read Idealize.ShloMosaic Idealize.ShloMosaic.TcCoe Cert.Finite Cert.Post

variable (m : (ℓ : Loc nD τ sig) → Buf (Elt Ideal) ℓ) (c : Dev nD)

/-- The projection, by token and lane. -/
abbrev ap : FVec Ideal S8192x1792 .bf16 := m ((c : Thread nD τ).loc main_arg0)

/-- The cosines and sines of a token's angles. -/
abbrev cs (n : Fin 8192) (j : Fin 8) : EReal := val_main_v19 (F := Ideal) (ix2 n j)
abbrev sn (n : Fin 8192) (j : Fin 8) : EReal := val_main_v21 (F := Ideal) (ix2 n j)

theorem lit_one : Ideal.ofBits .f32 0x3F800000#32 = (1 : EReal) := by simp [Ideal.ofBits, Ideal.ieee, -EReal.coe_mul]; norm_num
theorem lit_nil : Ideal.ofBits .f32 0x00000000#32 = (0 : EReal) := by simp [Ideal.ofBits, Ideal.ieee]

/-- A table of 64 lanes written twice. -/
def twice (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

theorem twice_apply (x : FVec Ideal S8192x64 .f32) (n : Fin 8192) (l : Fin 128) : twice x (ix2 n l) = x (ix2 n ⟨l.val % 64, by omega⟩) := by
  unfold twice
  pointwise
  try (refine congrArg x ?_; blk_ext)

/-- Eight lanes, eight lanes and 48 lanes side by side. -/
def beside (a b : FVec Ideal S8192x8 .f32) (w : BitVec 32) : FVec Ideal S8192x64 .f32 :=
  concatenate S8192x64 1 [⟨S8192x8, a⟩, ⟨S8192x8, b⟩, ⟨S8192x48, broadcastInDim S8192x48 ![] bcast_S_S8192x48 (constant (F := Ideal) S_ .f32 w)⟩]
    concatenates_S8192x8_S8192x8_S8192x48_S8192x64_d1

theorem beside_apply (a b : FVec Ideal S8192x8 .f32) (w : BitVec 32) (n : Fin 8192) (e : Fin 64) : beside a b w (ix2 n e)
    = if h0 : e.val < 8 then a (ix2 n ⟨e.val, h0⟩) else if h1 : e.val < 16 then b (ix2 n ⟨e.val - 8, by omega⟩) else Ideal.ofBits .f32 w := by
  unfold beside
  pointwise
  by_cases h0 : e.val < 8
  · simp only [h0, dif_pos]
  · by_cases h1 : e.val < 16
    · have h2 : e.val - 8 < 8 := by omega
      simp only [h0, h1, h2, dif_pos, dif_neg, not_false_eq_true]
    · have h2 : ¬ e.val - 8 < 8 := by omega
      simp only [h0, h1, h2, dif_neg, not_false_eq_true]

abbrev nil8 : FVec Ideal S8192x8 .f32 := broadcastInDim S8192x8 ![] bcast_S_S8192x8 (constant (F := Ideal) S_ .f32 0x00000000#32)

theorem T_C : V m c main_v23 = twice (beside (val_main_v19 (F := Ideal)) (val_main_v19 (F := Ideal)) 0x3F800000#32) := by
  show StableHlo.after hostOps0 _ _ = _
  after_results
  all_goals rfl
theorem T_A : V m c main_v26 = twice (beside (Host.negf (val_main_v21 (F := Ideal))) nil8 0x00000000#32) := by
  show StableHlo.after hostOps0 _ _ = _
  after_results
  all_goals rfl
theorem T_B : V m c main_v29 = twice (beside nil8 (val_main_v21 (F := Ideal)) 0x00000000#32) := by
  show StableHlo.after hostOps0 _ _ = _
  after_results
  all_goals rfl

theorem tab_c (n : Fin 8192) (l : Fin 128) : (V m c main_v23 : FVec Ideal S8192x128 .f32) (ix2 n l) = tabC (cs n) ⟨l.val % 64, by omega⟩ := by
  rw [T_C, twice_apply, beside_apply, lit_one]
  rfl
theorem tab_a (n : Fin 8192) (l : Fin 128) : (V m c main_v26 : FVec Ideal S8192x128 .f32) (ix2 n l) = tabA (sn n) ⟨l.val % 64, by omega⟩ := by
  rw [T_A, twice_apply, beside_apply, lit_nil]
  unfold tabA
  split
  · rfl
  · split
    · exact lit_nil
    · rfl
theorem tab_b (n : Fin 8192) (l : Fin 128) : (V m c main_v29 : FVec Ideal S8192x128 .f32) (ix2 n l) = tabB (sn n) ⟨l.val % 64, by omega⟩ := by
  rw [T_B, twice_apply, beside_apply, lit_nil]
  unfold tabB
  split
  · exact lit_nil
  · rfl

end Cert.PrepeKIdeal.Block

end
-- ==== Proof.PrepeRef.lean ====
/-
  The reference of the even mixer's rotary call, element by element.
-/
module

public import proofs.«01_k».proof.Proof.PrepMath
public import proofs.«01_k».proof.Proof.Gen.PrepeRIdeal.Read
public import Idealize.ShloMosaic.Lib.Pipeline.ValueKit.Geometry
public import Idealize.ShloMosaic.Lib.Tactic

@[expose] public section

set_option backward.proofsInPublic true
set_option maxRecDepth 16384

noncomputable section

namespace Cert.PrepeRIdeal.Read

open Cert.PrepeRIdeal Cert.PrepeRIdeal.Gen Cert.PrepeRIdeal.Value Idealize.ShloMosaic Cert.Finite Cert.Post Cert.Prep

variable (x0 : FVec Ideal S8192x1792 .bf16)

/-- The cosines and sines of a token's angles. -/
abbrev rc (n : Fin 8192) (j : Fin 8) : EReal := val_main_v19 (F := Ideal) (ix2 n j)
abbrev rs (n : Fin 8192) (j : Fin 8) : EReal := val_main_v21 (F := Ideal) (ix2 n j)
theorem same_cos : val_main_v52 (F := Ideal) = val_main_v19 (F := Ideal) := rfl
theorem same_sin : val_main_v54 (F := Ideal) = val_main_v21 (F := Ideal) := rfl

theorem v5_eq (n : Fin 8192) (h : Fin 8) (e : Fin 64) : val_main_v5 (F := Ideal) x0 (ix3 n h e) = x0 (ix2 n ⟨h.val * 64 + e.val, by omega⟩) := by
  pointwise [val_main_v5, val_main_v1, val_main_v0]
theorem v38_eq (n : Fin 8192) (h : Fin 2) (e : Fin 64) : val_main_v38 (F := Ideal) x0 (ix3 n h e) = x0 (ix2 n ⟨512 + (h.val * 64 + e.val), by omega⟩) := by
  pointwise [val_main_v38, val_main_v2, val_main_v0]
theorem v71_eq (n : Fin 8192) (h : Fin 2) (e : Fin 64) : val_main_v71 (F := Ideal) x0 (ix3 n h e) = x0 (ix2 n ⟨640 + (h.val * 64 + e.val), by omega⟩) := by
  pointwise [val_main_v71, val_main_v3, val_main_v0]

theorem v37_eq (n : Fin 8192) (h : Fin 8) (e : Fin 64) : val_main_v37 (F := Ideal) x0 (ix3 n h e)
    = ahead (fun e => val_main_v5 (F := Ideal) x0 (ix3 n h e)) (rc n) (rs n) e := by
  unfold ahead
  generalize hx : val_main_v5 (F := Ideal) x0 = x
  unfold rc rs
  generalize hc : val_main_v19 (F := Ideal) = cc
  generalize hs : val_main_v21 (F := Ideal) = ss
  pointwise [val_main_v37, val_main_v36, val_main_v35, val_main_v34, val_main_v33, val_main_v32, val_main_v31, val_main_v30, val_main_v29, val_main_v28, val_main_v27, val_main_v26, val_main_v25, val_main_v24, val_main_v23, val_main_v22, val_main_v20, hx, hc, hs]
  by_cases h0 : e.val < 8
  · have a1 : e.val < 16 := by omega
    simp only [h0, a1, dif_pos]
    simp only [Nat.add_comm 8]
  · by_cases h1 : e.val < 16
    · have a3 : (⟨8 + (e.val - 8), by omega⟩ : Fin 64) = e := Fin.ext (by show 8 + (e.val - 8) = e.val; omega)
      simp only [h0, h1, a3, dif_pos, dif_neg, not_false_eq_true]
    · have a3 : (⟨16 + (e.val - 16), by omega⟩ : Fin 64) = e := Fin.ext (by show 16 + (e.val - 16) = e.val; omega)
      simp only [h0, h1, a3, dif_pos, dif_neg, not_false_eq_true]

theorem v70_eq (n : Fin 8192) (h : Fin 2) (e : Fin 64) : val_main_v70 (F := Ideal) x0 (ix3 n h e)
    = ahead (fun e => val_main_v38 (F := Ideal) x0 (ix3 n h e)) (rc n) (rs n) e := by
  unfold ahead
  have s1 := same_cos
  have s2 := same_sin
  generalize hx : val_main_v38 (F := Ideal) x0 = x
  unfold rc rs
  rw [← s1, ← s2]
  generalize hc : val_main_v52 (F := Ideal) = cc
  generalize hs : val_main_v54 (F := Ideal) = ss
  pointwise [val_main_v70, val_main_v69, val_main_v68, val_main_v67, val_main_v66, val_main_v65, val_main_v64, val_main_v63, val_main_v62, val_main_v61, val_main_v60, val_main_v59, val_main_v58, val_main_v57, val_main_v56, val_main_v55, val_main_v53, hx, hc, hs]
  by_cases h0 : e.val < 8
  · have a1 : e.val < 16 := by omega
    simp only [h0, a1, dif_pos]
    simp only [Nat.add_comm 8]
  · by_cases h1 : e.val < 16
    · have a3 : (⟨8 + (e.val - 8), by omega⟩ : Fin 64) = e := Fin.ext (by show 8 + (e.val - 8) = e.val; omega)
      simp only [h0, h1, a3, dif_pos, dif_neg, not_false_eq_true]
    · have a3 : (⟨16 + (e.val - 16), by omega⟩ : Fin 64) = e := Fin.ext (by show 16 + (e.val - 16) = e.val; omega)
      simp only [h0, h1, a3, dif_pos, dif_neg, not_false_eq_true]

/-- A token's queries turned, its keys turned and its values, each key and value head for two query heads. -/
def outq (n : Fin 8192) (l : Fin 512) : EReal := ahead (fun e => x0 (ix2 n ⟨l.val / 64 * 64 + e.val, by omega⟩)) (rc n) (rs n) ⟨l.val % 64, by omega⟩
def outk (n : Fin 8192) (l : Fin 256) : EReal := ahead (fun e => x0 (ix2 n ⟨512 + (l.val / 128 * 64 + e.val), by omega⟩)) (rc n) (rs n) ⟨l.val % 64, by omega⟩
def outv (n : Fin 8192) (l : Fin 256) : EReal := x0 (ix2 n ⟨640 + (l.val / 128 * 64 + l.val % 64), by omega⟩)

theorem outk_at (n : Fin 8192) (h : Fin 2) (l : Fin 128) (i : Fin 256) (hi : i.val = h.val * 128 + l.val) :
    outk x0 n i = ahead (fun e => x0 (ix2 n ⟨512 + (h.val * 64 + e.val), by omega⟩)) (rc n) (rs n) ⟨l.val % 64, by omega⟩ := by
  have d1 : i.val / 128 = h.val := by omega
  have d2 : i.val % 64 = l.val % 64 := by omega
  unfold outk
  simp only [d1, d2]
theorem outv_at (n : Fin 8192) (h : Fin 2) (l : Fin 128) (i : Fin 256) (hi : i.val = h.val * 128 + l.val) :
    outv x0 n i = x0 (ix2 n ⟨640 + (h.val * 64 + l.val % 64), by omega⟩) := by
  have d1 : i.val / 128 = h.val := by omega
  have d2 : i.val % 64 = l.val % 64 := by omega
  unfold outv
  simp only [d1, d2]

theorem v80_eq (n : Fin 8192) (l : Fin 512) : val_main_v80 (F := Ideal) x0 (ix3 0 n l) = outq x0 n l := by
  have f := v37_eq x0 n ⟨l.val / 64, by omega⟩ ⟨l.val % 64, by omega⟩
  simp only [v5_eq] at f
  unfold outq
  rw [← f]
  generalize hx : val_main_v37 (F := Ideal) x0 = x
  pointwise [val_main_v80, val_main_v79, val_main_v72, hx]

theorem v82_eq (n : Fin 8192) (l : Fin 256) : val_main_v82 (F := Ideal) x0 (ix3 0 n l) = outk x0 n l := by
  have f := v70_eq x0 n ⟨l.val / 128, by omega⟩ ⟨l.val % 64, by omega⟩
  simp only [v38_eq] at f
  unfold outk
  rw [← f]
  generalize hx : val_main_v70 (F := Ideal) x0 = x
  pointwise [val_main_v82, val_main_v81, val_main_v75, val_main_v74, val_main_v73, hx]

theorem v84_eq (n : Fin 8192) (l : Fin 256) : val_main_v84 (F := Ideal) x0 (ix3 0 n l) = outv x0 n l := by
  have f := v71_eq x0 n ⟨l.val / 128, by omega⟩ ⟨l.val % 64, by omega⟩
  unfold outv
  rw [← f]
  generalize hx : val_main_v71 (F := Ideal) x0 = x
  pointwise [val_main_v84, val_main_v83, val_main_v78, val_main_v77, val_main_v76, hx]

end Cert.PrepeRIdeal.Read

end
-- ==== Proof.PrepeValue.lean ====
/-
  The arrays the even mixer's rotary call leaves.
-/
module

public import proofs.«01_k».proof.Proof.PrepeBlock
public import proofs.«01_k».proof.Proof.PrepeHost
public import proofs.«01_k».proof.Proof.PrepeRef
public import Idealize.ShloMosaic.Lib.Pipeline.ValueKit.Tiles
public import Idealize.ShloMosaic.Lib.Pipeline.ValueKit.Geometry
public import Idealize.ShloMosaic.Lib.Tactic

@[expose] public section

set_option backward.proofsInPublic true
set_option maxRecDepth 16384

noncomputable section

namespace Cert.PrepeKIdeal.Block

open Cert.PrepeKIdeal Cert.PrepeKIdeal.Gen Idealize.ShloMosaic Idealize.ShloMosaic.TcCoe Cert.Finite Cert.Post Cert.Prep

variable (m : (ℓ : Loc nD τ sig) → Buf (Elt Ideal) ℓ) (c : Dev nD)

/-- Row `r` of the block of point `t`. -/
abbrev at_ (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, t.val, 0] := (by decide +kernel : ∀ t : Fin grid0.N, _)
theorem e6 : ∀ t : Fin cfg0.N, win0_6.index t = ![0, t.val, 0] := (by decide +kernel : ∀ t : Fin grid0.N, _)

theorem blk0 (t : Fin cfg0.N) (r : Fin 512) (l : Fin 1792) : (iblk m c 0 t : Vec Ideal S512x1792 .bf16) (ix2 r l) = ap m c (ix2 (at_ t r) l) := by
  have h : (win0_0.blk t).view.emb (ix2 r l) = (ix2 (at_ t r) l : S8192x1792.Idx) := by blk_ext [e0]
  blk_simp [iblk]
  rw [h, V_main_arg0]
theorem blk1 (t : Fin cfg0.N) (r : Fin 512) (l : Fin 128) : (iblk m c 1 t : Vec Ideal S512x128 .f32) (ix2 r l) = tabC (cs (at_ t r)) ⟨l.val % 64, by omega⟩ := by
  have h : (win0_1.blk t).view.emb (ix2 r l) = (ix2 (at_ t r) l : S8192x128.Idx) := by blk_ext [e1]
  show V m c main_v23 ((win0_1.blk t).view.emb (ix2 r l)) = _
  rw [h]
  exact tab_c m c _ _
theorem blk2 (t : Fin cfg0.N) (r : Fin 512) (l : Fin 128) : (iblk m c 2 t : Vec Ideal S512x128 .f32) (ix2 r l) = tabA (sn (at_ t r)) ⟨l.val % 64, by omega⟩ := by
  have h : (win0_2.blk t).view.emb (ix2 r l) = (ix2 (at_ t r) l : S8192x128.Idx) := by blk_ext [e2]
  show V m c main_v26 ((win0_2.blk t).view.emb (ix2 r l)) = _
  rw [h]
  exact tab_a m c _ _
theorem blk3 (t : Fin cfg0.N) (r : Fin 512) (l : Fin 128) : (iblk m c 3 t : Vec Ideal S512x128 .f32) (ix2 r l) = tabB (sn (at_ t r)) ⟨l.val % 64, by omega⟩ := by
  have h : (win0_3.blk t).view.emb (ix2 r l) = (ix2 (at_ t r) l : S8192x128.Idx) := by blk_ext [e3]
  show V m c main_v29 ((win0_3.blk t).view.emb (ix2 r l)) = _
  rw [h]
  exact tab_b m c _ _

/-- The lanes of a block that a load takes. -/
theorem ld_q (B : Vec Ideal S512x1792 .bf16) (r : Fin 512) (l : Fin 512) : (View.ld B r0_1 : Vec Ideal S512x512 .bf16) (ix2 r l) = B (ix2 r ⟨l.val, by omega⟩) :=
  congrArg B (by funext a; fin_cases a <;> exact Fin.ext (by simp [Rect.unit, Rect.emb]))
theorem ld_k (B : Vec Ideal S512x1792 .bf16) (r : Fin 512) (l : Fin 128) : (View.ld B r0_3 : Vec Ideal S512x128 .bf16) (ix2 r l) = B (ix2 r ⟨512 + l.val, by omega⟩) :=
  congrArg B (by funext a; fin_cases a <;> exact Fin.ext (by simp [Rect.unit, Rect.emb]))
theorem ld_v (B : Vec Ideal S512x1792 .bf16) (r : Fin 512) (l : Fin 128) : (View.ld B r0_4 : Vec Ideal S512x128 .bf16) (ix2 r l) = B (ix2 r ⟨640 + l.val, by omega⟩) :=
  congrArg B (by funext a; fin_cases a <;> exact Fin.ext (by simp [Rect.unit, Rect.emb]))

/-- The values the stores name, from the blocks. -/
theorem ld_t (B : Vec Ideal S512x128 .f32) : (View.ld B r0_0 : Vec Ideal S512x128 .f32) = B :=
  funext fun i => congrArg B (by funext a; fin_cases a <;> exact Fin.ext (by simp [Rect.unit, Rect.emb]))
theorem pay14_eq (B0 : Vec Ideal S512x1792 .bf16) (B1 B2 B3 : Vec Ideal S512x128 .f32) : k0_pay14 B0 B1 B2 B3 = k0_pay10 := rfl
theorem pay15_eq (B0 : Vec Ideal S512x1792 .bf16) (B1 B2 B3 : Vec Ideal S512x128 .f32) : k0_pay15 B0 B1 B2 B3 = k0_pay11 B1 B2 B3 (View.ld B0 r0_3) := by
  unfold k0_pay15
  rw [ld_t, ld_t, ld_t]
theorem pay16_eq (B0 : Vec Ideal S512x1792 .bf16) (B1 B2 B3 : Vec Ideal S512x128 .f32) : k0_pay16 B0 B1 B2 B3 = k0_pay12 (View.ld B0 r0_4) := rfl
theorem pay17_eq (B0 : Vec Ideal S512x1792 .bf16) (B1 B2 B3 : Vec Ideal S512x128 .f32) : k0_pay17 B0 B1 B2 B3 = k0_pay13 B1 B2 B3 (View.ld B0 r0_3) := by
  unfold k0_pay17
  rw [ld_t, ld_t, ld_t]

theorem final4 : (dats m 0 c).arrAt 4 cfg0.N = fun i : S1x8192x512.Idx => Cert.PrepeRIdeal.Read.outq (ap m c) (i 1) (i 2) := by
  refine (dats m 0 c).arrAt_eq_of_covers 4 _ (by decide +kernel) fun t hf y => ?_
  have h : (win0_4.blk t).view.emb y = (ix3 0 (at_ t (y 1)) (y 2) : S1x8192x512.Idx) := by blk_ext [e4]
  blk_simp
  rw [after0_4, h]
  frame_out
  have c0 := blk0 m c t
  have c1 := blk1 m c t
  have c2 := blk2 m c t
  have c3 := blk3 m c t
  generalize iblk m c 0 t = B0 at c0 ⊢
  generalize iblk m c 1 t = B1 at c1 ⊢
  generalize iblk m c 2 t = B2 at c2 ⊢
  generalize iblk m c 3 t = B3 at c3 ⊢
  have ey : y = (ix3 0 (y 1) (y 2) : S1x512x512.Idx) := by blk_ext
  refine (congrArg _ ey).trans ((pay9_eq _ _ _ (y 1) _ _ (c1 (y 1)) (c2 (y 1)) (c3 (y 1)) _ (y 2)).trans ?_)
  exact congrArg (fun h => ahead h _ _ _) (funext fun e => (ld_q B0 (y 1) _).trans (c0 (y 1) _))

theorem final5 : (dats m 0 c).arrAt 5 cfg0.N = fun i : S1x8192x256.Idx => Cert.PrepeRIdeal.Read.outk (ap m c) (i 1) (i 2) := by
  refine (dats m 0 c).arrAt_eq_of_covers 5 _ (by decide +kernel) fun t hf y => ?_
  have h : (win0_5.blk t).view.emb y = (ix3 0 (at_ t (y 1)) (y 2) : S1x8192x256.Idx) := by blk_ext [e5]
  blk_simp
  rw [after0_5, h]
  frame_out
  have c0 := blk0 m c t
  have c1 := blk1 m c t
  have c2 := blk2 m c t
  have c3 := blk3 m c t
  generalize iblk m c 0 t = B0 at c0 ⊢
  generalize iblk m c 1 t = B1 at c1 ⊢
  generalize iblk m c 2 t = B2 at c2 ⊢
  generalize iblk m c 3 t = B3 at c3 ⊢
  canon_tiles x hx using View.cover_of_tiledBy _ ![1, 512, 128] (by sl_kernel_rfl) _
  all_goals have ex : x = (ix3 0 (x 1) (x 2) : S1x512x128.Idx) := by blk_ext
  all_goals have e1 : y 1 = x 1 := Fin.ext hx1
  · refine Eq.trans ?_ (Cert.PrepeRIdeal.Read.outk_at (ap m c) (at_ t (y 1)) 1 (x 2) (y 2) (hx2.trans (by rfl))).symm
    rw [e1]
    refine (congrArg _ ex).trans (Eq.trans (congrFun ((congrArg₂ (fun a b => k0_pay2 (F := Ideal) (k0_pay14 B0 B1 B2 B3) a b) (pay15_eq B0 B1 B2 B3) (pay17_eq B0 B1 B2 B3)).trans (congrArg (fun z => k0_pay2 (F := Ideal) z _ _) (pay14_eq B0 B1 B2 B3))) _) ?_)
    refine ((pay2_eq B1 B2 B3 (x 1) _ _ (c1 (x 1)) (c2 (x 1)) (c3 (x 1)) _ (x 2)).trans ?_)
    exact congrArg (fun h => ahead h _ _ _) (funext fun e => (ld_k B0 (x 1) _).trans (c0 (x 1) _))
  · refine Eq.trans ?_ (Cert.PrepeRIdeal.Read.outk_at (ap m c) (at_ t (y 1)) 0 (x 2) (y 2) (hx2.trans (Nat.zero_add _).symm)).symm
    rw [e1]
    refine (congrArg _ ex).trans (Eq.trans (congrFun ((congrArg₂ (fun a b => k0_pay1 (F := Ideal) (k0_pay14 B0 B1 B2 B3) a b) (pay15_eq B0 B1 B2 B3) (pay17_eq B0 B1 B2 B3)).trans (congrArg (fun z => k0_pay1 (F := Ideal) z _ _) (pay14_eq B0 B1 B2 B3))) _) ?_)
    refine ((pay1_eq B1 B2 B3 (x 1) _ _ (c1 (x 1)) (c2 (x 1)) (c3 (x 1)) _ (x 2)).trans ?_)
    exact congrArg (fun h => ahead h _ _ _) (funext fun e => (ld_k B0 (x 1) _).trans (c0 (x 1) _))

theorem final6 : (dats m 0 c).arrAt 6 cfg0.N = fun i : S1x8192x256.Idx => Cert.PrepeRIdeal.Read.outv (ap m c) (i 1) (i 2) := by
  refine (dats m 0 c).arrAt_eq_of_covers 6 _ (by decide +kernel) fun t hf y => ?_
  have h : (win0_6.blk t).view.emb y = (ix3 0 (at_ t (y 1)) (y 2) : S1x8192x256.Idx) := by blk_ext [e6]
  blk_simp
  rw [after0_6, h]
  frame_out
  have c0 := blk0 m c t
  have c1 := blk1 m c t
  have c2 := blk2 m c t
  have c3 := blk3 m c t
  generalize iblk m c 0 t = B0 at c0 ⊢
  generalize iblk m c 1 t = B1 at c1 ⊢
  generalize iblk m c 2 t = B2 at c2 ⊢
  generalize iblk m c 3 t = B3 at c3 ⊢
  canon_tiles x hx using View.cover_of_tiledBy _ ![1, 512, 128] (by sl_kernel_rfl) _
  all_goals have ex : x = (ix3 0 (x 1) (x 2) : S1x512x128.Idx) := by blk_ext
  all_goals have e1 : y 1 = x 1 := Fin.ext hx1
  · refine Eq.trans ?_ (Cert.PrepeRIdeal.Read.outv_at (ap m c) (at_ t (y 1)) 1 (x 2) (y 2) (hx2.trans (by rfl))).symm
    rw [e1]
    exact (congrArg _ ex).trans ((congrFun ((congrArg (fun a => k0_pay5 (F := Ideal) (k0_pay14 B0 B1 B2 B3) a) (pay16_eq B0 B1 B2 B3)).trans (congrArg (fun z => k0_pay5 (F := Ideal) z _) (pay14_eq B0 B1 B2 B3))) _).trans ((pay5_eq (x 1) _ (x 2)).trans ((ld_v B0 (x 1) _).trans (c0 (x 1) _))))
  · refine Eq.trans ?_ (Cert.PrepeRIdeal.Read.outv_at (ap m c) (at_ t (y 1)) 0 (x 2) (y 2) (hx2.trans (Nat.zero_add _).symm)).symm
    rw [e1]
    refine (congrArg _ ex).trans ((congrFun ((congrArg (fun a => k0_pay4 (F := Ideal) (k0_pay14 B0 B1 B2 B3) a) (pay16_eq B0 B1 B2 B3)).trans (congrArg (fun z => k0_pay4 (F := Ideal) z _) (pay14_eq B0 B1 B2 B3))) _).trans ((pay4_eq (x 1) _ (x 2)).trans ((ld_v B0 (x 1) _).trans ((c0 (x 1) _).trans ?_))))
    exact congrArg (fun i => ap m c (ix2 (at_ t (x 1)) i)) (Fin.ext (by simp only; omega))

end Cert.PrepeKIdeal.Block

end
-- ==== Proof.PrepeClaim.lean ====
/-
  The even mixer's rotary call is splitting the projection, turning queries and keys and repeating keys and values.
-/
module

public import proofs.«01_k».proof.Defs
public import proofs.«01_k».proof.Proof.PrepeValue

@[expose] public section

set_option maxRecDepth 16384

noncomputable section

namespace Cert.Prepe

open Idealize.ShloMosaic Idealize.ShloMosaic.TcCoe Idealize.SL.Sem Cert.Finite

/-- The kernel's queries, keys and values are the reference's, whatever the projection. -/
theorem claim : @Cert.algebraic_PrepeKIdeal_PrepeRIdeal Cert.PrepeKIdeal.Gen.facts Cert.PrepeRIdeal.Gen.facts := by
  intro m g m' g' _ hargs
  refine ⟨fun c => (PrepeKIdeal.Gen.dats m 0 c).arrAt 4 _, fun c => (PrepeKIdeal.Gen.dats m 0 c).arrAt 5 _, fun c => (PrepeKIdeal.Gen.dats m 0 c).arrAt 6 _,
    PrepeKIdeal.Value.run_blocks m g, (θ_run PrepeRIdeal.defs _ _).mono (fun r h c => ?_) (PrepeRIdeal.Value.run m' g')⟩
  have a0 := hargs c
  obtain ⟨h0, h1, h2, k⟩ := h c
  have e0 : PrepeRIdeal.Value.res_main_v80 m' c = PrepeRIdeal.Read.val_main_v80 (F := Ideal) (PrepeKIdeal.Block.ap m c) := by
    unfold PrepeRIdeal.Value.res_main_v80
    rw [a0]
    rfl
  have e1 : PrepeRIdeal.Value.res_main_v82 m' c = PrepeRIdeal.Read.val_main_v82 (F := Ideal) (PrepeKIdeal.Block.ap m c) := by
    unfold PrepeRIdeal.Value.res_main_v82
    rw [a0]
    rfl
  refine ⟨((h0.trans e0).trans ?_).trans (PrepeKIdeal.Block.final4 m c).symm, ((h1.trans e1).trans ?_).trans (PrepeKIdeal.Block.final5 m c).symm,
    (h2.trans ?_).trans (PrepeKIdeal.Block.final6 m c).symm, k⟩
  · exact funext fun i => (congrArg _ (by blk_ext : i = (ix3 0 (i 1) (i 2) : PrepeRIdeal.S1x8192x512.Idx))).trans (PrepeRIdeal.Read.v80_eq _ _ _)
  · exact funext fun i => (congrArg _ (by blk_ext : i = (ix3 0 (i 1) (i 2) : PrepeRIdeal.S1x8192x256.Idx))).trans (PrepeRIdeal.Read.v82_eq _ _ _)
  · rw [a0]
    show PrepeRIdeal.Read.val_main_v84 (F := Ideal) (PrepeKIdeal.Block.ap m c) = _
    exact funext fun i => (congrArg _ (by blk_ext : i = (ix3 0 (i 1) (i 2) : PrepeRIdeal.S1x8192x256.Idx))).trans (PrepeRIdeal.Read.v84_eq _ _ _)

/-- The reference runs to its end and leaves its arguments and counters as they were: it declares no semaphore. -/
theorem refFrame : @Cert.quiescent_PrepeRIdeal Cert.PrepeRIdeal.Gen.facts := fun m ρ _ =>
  (θ_run PrepeRIdeal.defs _ _).mono (fun r h => ⟨fun c => (h c).2.2.2, Idealize.ShloMosaic.sem_eq_zero_of_no_sems (by decide) r.2⟩)
    (PrepeRIdeal.Value.run m ρ)

end Cert.Prepe

end
-- ==== Proof.GupValue.lean ====
/-
  The three arrays the feed-forward layer's first kernel leaves: the gated product and its two factors.
-/
module

public import proofs.«01_k».proof.Proof.TailMath
public import proofs.«01_k».proof.Proof.Gen.GupKIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.GupKIdeal.Block

open Cert.GupKIdeal Cert.GupKIdeal.Gen Idealize.ShloMosaic Idealize.ShloMosaic.TcCoe

variable (m : (ℓ : Loc nD τ sig) → Buf (Elt Ideal) ℓ) (c : Dev nD)

abbrev n (r : Fin 8192) (k : Fin 1024) : EReal := (m ((c : Thread nD τ).loc main_arg0) : Vec Ideal S8192x1024 .bf16) (ix2 r k)
abbrev wg (k : Fin 1024) (j : Fin 2816) : EReal := (m ((c : Thread nD τ).loc main_arg1) : Vec Ideal S1024x2816 .f32) (ix2 k j)
abbrev wu (k : Fin 1024) (j : Fin 2816) : EReal := (m ((c : Thread nD τ).loc main_arg2) : Vec Ideal S1024x2816 .f32) (ix2 k j)

/-- The gate before its activation. -/
abbrev gate (r : Fin 8192) (j : Fin 2816) : EReal := ∑ k, n m c r k * wg m c k j
/-- The factor that is gated. -/
abbrev up (r : Fin 8192) (j : Fin 2816) : EReal := ∑ k, n m c r k * wu m c k j
/-- The gated product: the gate by its logistic, by the second factor. -/
abbrev act (r : Fin 8192) (j : Fin 2816) : EReal :=
  gate m c r j * Ideal.div 1 (1 + Ideal.exp (0 - gate m c r j)) * up m c r j

abbrev atR (t : Fin cfg0.N) (r : Fin 1024) : Fin 8192 := ⟨t.val % 8 * 1024 + r.val, by omega⟩
abbrev atC (t : Fin cfg0.N) (j : Fin 1408) : Fin 2816 := ⟨t.val / 8 * 1408 + j.val, by have := t.isLt; have : cfg0.N = 16 := N_0; omega⟩

theorem e0 : ∀ t : Fin cfg0.N, win0_0.index t = ![t.val % 8, 0] := (by decide +kernel : ∀ t : Fin grid0.N, _)
theorem e1 : ∀ t : Fin cfg0.N, win0_1.index t = ![t.val / 8, 0] := (by decide +kernel : ∀ t : Fin grid0.N, _)
theorem e2 : ∀ t : Fin cfg0.N, win0_2.index t = ![t.val / 8, 0] := (by decide +kernel : ∀ t : Fin grid0.N, _)
theorem e3 : ∀ t : Fin cfg0.N, win0_3.index t = ![t.val % 8, t.val / 8] := (by decide +kernel : ∀ t : Fin grid0.N, _)
theorem e4 : ∀ t : Fin cfg0.N, win0_4.index t = ![t.val % 8, t.val / 8] := (by decide +kernel : ∀ t : Fin grid0.N, _)
theorem e5 : ∀ t : Fin cfg0.N, win0_5.index t = ![t.val % 8, t.val / 8] := (by decide +kernel : ∀ t : Fin grid0.N, _)

/-- The gate's weights as the kernel finds them: transposed on the host. -/
theorem V_gate (j : Fin 2816) (k : Fin 1024) : (V m c main_v1 : Vec Ideal S2816x1024 .bf16) (ix2 j k) = wg m c k j := by
  have h : V m c main_v1 = (truncf (F := Ideal) .bf16 (transpose S2816x1024 [1, 0] (m ((c : Thread nD τ).loc main_arg1) : FVec Ideal S1024x2816 .f32) transposes_S1024x2816_S2816x1024_1_0) bitsLt_bf16_f32 : FVec Ideal S2816x1024 .bf16) := by
    show StableHlo.after hostOps0 _ _ = _
    after_results
    all_goals rfl
  rw [h]
  pointwise

/-- The second factor's weights, transposed likewise. -/
theorem V_up (j : Fin 2816) (k : Fin 1024) : (V m c main_v3 : Vec Ideal S2816x1024 .bf16) (ix2 j k) = wu m c k j := by
  have h : V m c main_v3 = (truncf (F := Ideal) .bf16 (transpose S2816x1024 [1, 0] (m ((c : Thread nD τ).loc main_arg2) : FVec Ideal S1024x2816 .f32) transposes_S1024x2816_S2816x1024_1_0) bitsLt_bf16_f32 : FVec Ideal S2816x1024 .bf16) := by
    show StableHlo.after hostOps0 _ _ = _
    after_results
    all_goals rfl
  rw [h]
  pointwise

theorem blk0 (t : Fin cfg0.N) (r k : Fin 1024) : iblk m c 0 t (ix2 r k) = n m c (atR t r) k := by
  have h : (win0_0.blk t).view.emb (ix2 r k) = (ix2 (atR t r) k : S8192x1024.Idx) := by blk_ext [e0]
  blk_simp [iblk]
  rw [h, V_main_arg0]

theorem blk1 (t : Fin cfg0.N) (j : Fin 1408) (k : Fin 1024) : iblk m c 1 t (ix2 j k) = wg m c k (atC t j) := by
  have h : (win0_1.blk t).view.emb (ix2 j k) = (ix2 (atC t j) k : S2816x1024.Idx) := by blk_ext [e1]
  blk_simp [iblk]
  rw [h]
  exact V_gate m c _ _

theorem blk2 (t : Fin cfg0.N) (j : Fin 1408) (k : Fin 1024) : iblk m c 2 t (ix2 j k) = wu m c k (atC t j) := by
  have h : (win0_2.blk t).view.emb (ix2 j k) = (ix2 (atC t j) k : S2816x1024.Idx) := by blk_ext [e2]
  blk_simp [iblk]
  rw [h]
  exact V_up m c _ _

theorem final3 : (dats m 0 c).arrAt 3 cfg0.N = fun i : S8192x2816.Idx => act m c (i 0) (i 1) := by
  refine (dats m 0 c).arrAt_eq_of_covers 3 _ (by decide +kernel) fun t hf y => ?_
  have h : (win0_3.blk t).view.emb y = (ix2 (atR t (y 0)) (atC t (y 1)) : S8192x2816.Idx) := by blk_ext [e3]
  blk_simp
  rw [after0_3, h]
  simp only [outsAt0]
  frame_out
  canon_tiles x hx using View.cover_of_tiledBy _ ![1024, 128] (by sl_kernel_rfl) _
  all_goals
    rw [eq_ix2 x]
    open_payloads
    pointwise [blk0, blk1, blk2]
    exact congrArg₂ (act m c) (congrArg (atR t) (Fin.ext hx0.symm)) (congrArg (atC t) (Fin.ext (by simpa using hx1.symm)))

theorem final4 : (dats m 0 c).arrAt 4 cfg0.N = fun i : S8192x2816.Idx => gate m c (i 0) (i 1) := by
  refine (dats m 0 c).arrAt_eq_of_covers 4 _ (by decide +kernel) fun t hf y => ?_
  have h : (win0_4.blk t).view.emb y = (ix2 (atR t (y 0)) (atC t (y 1)) : S8192x2816.Idx) := by blk_ext [e4]
  blk_simp
  rw [after0_4, h]
  simp only [outsAt0]
  frame_out
  canon_tiles x hx using View.cover_of_tiledBy _ ![1024, 128] (by sl_kernel_rfl) _
  all_goals
    rw [eq_ix2 x]
    open_payloads
    pointwise [blk0, blk1, blk2]
    exact congrArg₂ (gate m c) (congrArg (atR t) (Fin.ext hx0.symm)) (congrArg (atC t) (Fin.ext (by simpa using hx1.symm)))

theorem final5 : (dats m 0 c).arrAt 5 cfg0.N = fun i : S8192x2816.Idx => up m c (i 0) (i 1) := by
  refine (dats m 0 c).arrAt_eq_of_covers 5 _ (by decide +kernel) fun t hf y => ?_
  have h : (win0_5.blk t).view.emb y = (ix2 (atR t (y 0)) (atC t (y 1)) : S8192x2816.Idx) := by blk_ext [e5]
  blk_simp
  rw [after0_5, h]
  simp only [outsAt0]
  frame_out
  canon_tiles x hx using View.cover_of_tiledBy _ ![1024, 128] (by sl_kernel_rfl) _
  all_goals
    rw [eq_ix2 x]
    open_payloads
    pointwise [blk0, blk1, blk2]
    exact congrArg₂ (up m c) (congrArg (atR t) (Fin.ext hx0.symm)) (congrArg (atC t) (Fin.ext (by simpa using hx1.symm)))

end Cert.GupKIdeal.Block

end
-- ==== Proof.GupClaim.lean ====
/-
  The gated feed-forward product: kernel and reference leave the same three arrays.
-/
module

public import proofs.«01_k».proof.Defs
public import proofs.«01_k».proof.Proof.GupValue
public import proofs.«01_k».proof.Proof.Gen.GupRIdeal.Run
public import proofs.«01_k».proof.Proof.Gen.GupRIdeal.Read

@[expose] public section

set_option maxRecDepth 16384

noncomputable section

namespace Cert.GupRIdeal.Read

open Cert.GupRIdeal Cert.GupRIdeal.Gen Idealize.ShloMosaic Cert.Tail

variable (n : FVec Ideal S8192x1024 .bf16) (wg wu : FVec Ideal S1024x2816 .f32)

theorem v6_eq (r : Fin 8192) (j : Fin 2816) :
    val_main_v6 (F := Ideal) n wg (ix2 r j) = ∑ k : Fin 1024, n (ix2 r k) * wg (ix2 k j) := by
  pointwise [val_main_v0, val_main_v1, val_main_v6]

theorem v7_eq (r : Fin 8192) (j : Fin 2816) :
    val_main_v7 (F := Ideal) n wu (ix2 r j) = ∑ k : Fin 1024, n (ix2 r k) * wu (ix2 k j) := by
  pointwise [val_main_v0, val_main_v2, val_main_v7]

theorem v5_eq (r : Fin 8192) (j : Fin 2816) :
    val_main_v5 (F := Ideal) n wg wu (ix2 r j)
      = (∑ k : Fin 1024, n (ix2 r k) * wg (ix2 k j))
          * Ideal.div 1 (1 + Ideal.exp (0 - ∑ k : Fin 1024, n (ix2 r k) * wg (ix2 k j)))
          * ∑ k : Fin 1024, n (ix2 r k) * wu (ix2 k j) := by
  rw [zero_sub]
  pointwise [val_main_v0, val_main_v1, val_main_v2, val_main_call0_v0, val_main_call0_v1, val_main_call0_cst, val_main_call0_v2, val_main_call0_v3, val_main_call0_cst_0, val_main_call0_v4, val_main_call0_v5, val_main_v3, val_main_v4, val_main_v5]

end Cert.GupRIdeal.Read

namespace Cert.Gup

open Idealize.ShloMosaic Idealize.ShloMosaic.TcCoe Idealize.SL.Sem Cert.Finite Cert.Tail

/-- The kernel's gated product and its two factors are the reference's. -/
theorem claim : @Cert.algebraic_GupKIdeal_GupRIdeal Cert.GupKIdeal.Gen.facts Cert.GupRIdeal.Gen.facts := by
  intro m g m' g' _ hargs
  refine ⟨fun c => (GupKIdeal.Gen.dats m 0 c).arrAt 3 _, fun c => (GupKIdeal.Gen.dats m 0 c).arrAt 4 _, fun c => (GupKIdeal.Gen.dats m 0 c).arrAt 5 _,
    GupKIdeal.Value.run_blocks m g, (θ_run GupRIdeal.defs _ _).mono (fun r h c => ?_) (GupRIdeal.Value.run m' g')⟩
  obtain ⟨a0, a1, a2⟩ := hargs c
  obtain ⟨h0, h1, h2, k⟩ := h c
  rw [a0, a1, a2] at h0
  rw [a0, a1] at h1
  rw [a0, a2] at h2
  refine ⟨(h0.trans ?_).trans (GupKIdeal.Block.final3 m c).symm, (h1.trans ?_).trans (GupKIdeal.Block.final4 m c).symm,
    (h2.trans ?_).trans (GupKIdeal.Block.final5 m c).symm, k⟩
  · exact ext2 fun r j => GupRIdeal.Read.v5_eq _ _ _ r j
  · exact ext2 fun r j => GupRIdeal.Read.v6_eq _ _ r j
  · exact ext2 fun r j => GupRIdeal.Read.v7_eq _ _ r j

/-- The reference runs to its end and leaves its arguments and counters as they were: it declares no semaphore. -/
theorem refFrame : @Cert.quiescent_GupRIdeal Cert.GupRIdeal.Gen.facts := fun m ρ _ =>
  (θ_run GupRIdeal.defs _ _).mono (fun r h => ⟨fun c => (h c).2.2.2, Idealize.ShloMosaic.sem_eq_zero_of_no_sems (by decide) r.2⟩)
    (GupRIdeal.Value.run m ρ)

end Cert.Gup

end
-- ==== Proof.MnfValue.lean ====
/-
  The two arrays a feed-forward layer's last kernel leaves, the new stream and its norm, and the reference element by element.
-/
module

public import proofs.«01_k».proof.Proof.Finite
public import proofs.«01_k».proof.Proof.Gen.MnfKIdeal.Value
public import proofs.«01_k».proof.Proof.Gen.MnfRIdeal.Read
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.MnfKIdeal.Block

open Cert.MnfKIdeal Cert.MnfKIdeal.Gen Idealize.ShloMosaic Idealize.ShloMosaic.TcCoe Cert.Finite

/-- An element over the root of its token's mean square, scaled. -/
def normed (x : Fin 1024 → EReal) (g : EReal) (l : Fin 1024) : EReal :=
  x l * Ideal.rsqrt (Ideal.div (∑ k, x k * x k) (Ideal.ofBits .f32 0x44800000#32) + Ideal.ofBits .f32 0x358637BD#32) * g

/-- An element of the stream and a row by a column added to it. -/
def stream (a w : Fin 2816 → EReal) (h : EReal) : EReal := h + ∑ k, a k * w k

theorem pay1_eq (a : Vec Ideal S512x2816 .bf16) (w : Vec Ideal S2816x1024 .bf16) (h : Vec Ideal S512x1024 .f32) (r : Fin 512) (l : Fin 1024) :
    k0_pay1 a w h (ix2 r l) = stream (fun k => a (ix2 r k)) (fun k => w (ix2 k l)) (h (ix2 r l)) := by
  unfold stream
  rw [add_comm]
  pointwise [k0_pay1]

theorem pay2_eq (a : Vec Ideal S512x2816 .bf16) (w : Vec Ideal S2816x1024 .bf16) (h : Vec Ideal S512x1024 .f32) (g : Vec Ideal S1x1024 .f32) (r : Fin 512) (l : Fin 1024) :
    k0_pay2 a w h g (ix2 r l) = normed (fun k => k0_pay1 a w h (ix2 r k)) (g (ix2 0 l)) l := by
  unfold k0_pay2
  generalize k0_pay1 a w h = H
  pointwise [normed]

theorem ref_h (h : FVec Ideal S8192x1024 .f32) (a : FVec Ideal S8192x2816 .bf16) (w : FVec Ideal S2816x1024 .f32) (n : Fin 8192) (l : Fin 1024) :
    Cert.MnfRIdeal.Read.val_main_v2 (F := Ideal) h a w (ix2 n l) = stream (fun k => a (ix2 n k)) (fun k => w (ix2 k l)) (h (ix2 n l)) := by
  unfold stream
  pointwise [Cert.MnfRIdeal.Read.val_main_v2, Cert.MnfRIdeal.Read.val_main_v1, Cert.MnfRIdeal.Read.val_main_v0]

theorem ref_n (h : FVec Ideal S8192x1024 .f32) (a : FVec Ideal S8192x2816 .bf16) (w : FVec Ideal S2816x1024 .f32) (g : FVec Ideal S1x1024 .f32) (n : Fin 8192) (l : Fin 1024) :
    Cert.MnfRIdeal.Read.val_main_v15 (F := Ideal) h a w g (ix2 n l) = normed (fun k => Cert.MnfRIdeal.Read.val_main_v2 (F := Ideal) h a w (ix2 n k)) (g (ix2 0 l)) l := by
  have z : Ideal.ofBits .f32 0x00000000#32 = (0 : EReal) := by simp [Ideal.ofBits, Ideal.ieee]
  simp only [Cert.MnfRIdeal.Read.val_main_v15, Cert.MnfRIdeal.Read.val_main_v14, Cert.MnfRIdeal.Read.val_main_v13, Cert.MnfRIdeal.Read.val_main_v12, Cert.MnfRIdeal.Read.val_main_v11, Cert.MnfRIdeal.Read.val_main_v10, Cert.MnfRIdeal.Read.val_main_v9, Cert.MnfRIdeal.Read.val_main_v8, Cert.MnfRIdeal.Read.val_main_cst_1, Cert.MnfRIdeal.Read.val_main_v7, Cert.MnfRIdeal.Read.val_main_v6, Cert.MnfRIdeal.Read.val_main_cst_0, Cert.MnfRIdeal.Read.val_main_v5, Cert.MnfRIdeal.Read.val_main_v4, Cert.MnfRIdeal.Read.val_main_cst, Cert.MnfRIdeal.Read.val_main_v3]
  generalize Cert.MnfRIdeal.Read.val_main_v2 (F := Ideal) h a w = H
  pointwise [normed, z, zero_add]

variable (m : (ℓ : Loc nD τ sig) → Buf (Elt Ideal) ℓ) (c : Dev nD)

/-- The arguments. -/
abbrev ah : FVec Ideal S8192x1024 .f32 := m ((c : Thread nD τ).loc main_arg0)
abbrev aa : FVec Ideal S8192x2816 .bf16 := m ((c : Thread nD τ).loc main_arg1)
abbrev aw : FVec Ideal S2816x1024 .f32 := m ((c : Thread nD τ).loc main_arg2)
abbrev ag : FVec Ideal S1x1024 .f32 := m ((c : Thread nD τ).loc main_arg3)

/-- Row `r` of the block of point `t`. -/
abbrev at_ (t : Fin cfg0.N) (r : Fin 512) : Fin 8192 := ⟨t.val * 512 + r.val, by have := t.isLt; have : cfg0.N = 16 := N_0; omega⟩

theorem V_main_v0 : V m c main_v0 = aw m c := by
  show StableHlo.after hostOps0 _ _ = _
  after_results
  all_goals rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem blk0 (t : Fin cfg0.N) (r : Fin 512) (l : Fin 2816) : (iblk m c 0 t : Vec Ideal S512x2816 .bf16) (ix2 r l) = aa m c (ix2 (at_ t r) l) := by
  have h : (win0_0.blk t).view.emb (ix2 r l) = (ix2 (at_ t r) l : S8192x2816.Idx) := by blk_ext [e0]
  blk_simp [iblk]
  rw [h, V_main_arg1]

theorem blk1 (t : Fin cfg0.N) (r : Fin 2816) (l : Fin 1024) : (iblk m c 1 t : Vec Ideal S2816x1024 .bf16) (ix2 r l) = aw m c (ix2 r l) := by
  have h : (win0_1.blk t).view.emb (ix2 r l) = (ix2 r l : S2816x1024.Idx) := by blk_ext [e1]
  blk_simp [iblk]
  rw [h, V_main_v0]

theorem blk2 (t : Fin cfg0.N) (r : Fin 512) (l : Fin 1024) : (iblk m c 2 t : Vec Ideal S512x1024 .f32) (ix2 r l) = ah m c (ix2 (at_ t r) l) := by
  have h : (win0_2.blk t).view.emb (ix2 r l) = (ix2 (at_ t r) l : S8192x1024.Idx) := by blk_ext [e2]
  blk_simp [iblk]
  rw [h, V_main_arg0]

theorem blk3 (t : Fin cfg0.N)  (l : Fin 1024) : (iblk m c 3 t : Vec Ideal S1x1024 .f32) (ix2 0 l) = ag m c (ix2 0 l) := by
  have h : (win0_3.blk t).view.emb (ix2 0 l) = (ix2 0 l : S1x1024.Idx) := by blk_ext [e3]
  blk_simp [iblk]
  rw [h, V_main_arg3]

/-- The new stream at a token. -/
abbrev next (n : Fin 8192) (l : Fin 1024) : EReal := stream (fun k => aa m c (ix2 n k)) (fun k => aw m c (ix2 k l)) (ah m c (ix2 n l))

theorem pay1_next (t : Fin cfg0.N) (B0 : Vec Ideal S512x2816 .bf16) (B1 : Vec Ideal S2816x1024 .bf16) (B2 : Vec Ideal S512x1024 .f32)
    (c0 : ∀ r l, B0 (ix2 r l) = aa m c (ix2 (at_ t r) l)) (c1 : ∀ r l, B1 (ix2 r l) = aw m c (ix2 r l)) (c2 : ∀ r l, B2 (ix2 r l) = ah m c (ix2 (at_ t r) l))
    (r : Fin 512) (l : Fin 1024) : k0_pay1 B0 B1 B2 (ix2 r l) = next m c (at_ t r) l := by
  refine (pay1_eq B0 B1 B2 r l).trans ?_
  exact congr (congrArg₂ stream (funext fun k => c0 r k) (funext fun k => c1 k l)) (c2 r l)

theorem final4 : (dats m 0 c).arrAt 4 cfg0.N = fun i : S8192x1024.Idx => next m c (i 0) (i 1) := by
  refine (dats m 0 c).arrAt_eq_of_covers 4 _ (by decide +kernel) fun t hf y => ?_
  have h : (win0_4.blk t).view.emb y = (ix2 (at_ t (y 0)) (y 1) : S8192x1024.Idx) := by blk_ext [e4]
  blk_simp
  rw [after0_4, h]
  frame_out
  have c0 := blk0 m c t
  have c1 := blk1 m c t
  have c2 := blk2 m c t
  generalize iblk m c 0 t = B0 at c0 ⊢
  generalize iblk m c 1 t = B1 at c1 ⊢
  generalize iblk m c 2 t = B2 at c2 ⊢
  exact (congrArg _ (eq_ix2 y)).trans (pay1_next m c t B0 B1 B2 c0 c1 c2 (y 0) (y 1))

theorem final5 : (dats m 0 c).arrAt 5 cfg0.N = fun i : S8192x1024.Idx => normed (next m c (i 0)) (ag m c (ix2 0 (i 1))) (i 1) := by
  refine (dats m 0 c).arrAt_eq_of_covers 5 _ (by decide +kernel) fun t hf y => ?_
  have h : (win0_5.blk t).view.emb y = (ix2 (at_ t (y 0)) (y 1) : S8192x1024.Idx) := by blk_ext [e5]
  blk_simp
  rw [after0_5, h]
  frame_out
  have c0 := blk0 m c t
  have c1 := blk1 m c t
  have c2 := blk2 m c t
  have c3 := blk3 m c t
  generalize iblk m c 0 t = B0 at c0 ⊢
  generalize iblk m c 1 t = B1 at c1 ⊢
  generalize iblk m c 2 t = B2 at c2 ⊢
  generalize iblk m c 3 t = B3 at c3 ⊢
  refine (congrArg _ (eq_ix2 y)).trans ((pay2_eq B0 B1 B2 B3 (y 0) (y 1)).trans ?_)
  exact congrArg₂ (fun x g => normed x g _) (funext fun k => pay1_next m c t B0 B1 B2 c0 c1 c2 (y 0) k) (c3 (y 1))

end Cert.MnfKIdeal.Block

end
-- ==== Proof.MnfClaim.lean ====
/-
  The feed-forward layer's last product with the residual and the next norm: kernel and reference leave the same two arrays.
-/
module

public import proofs.«01_k».proof.Defs
public import proofs.«01_k».proof.Proof.MnfValue
public import proofs.«01_k».proof.Proof.Gen.MnfRIdeal.Run

@[expose] public section

set_option maxRecDepth 16384

noncomputable section

namespace Cert.Mnf

open Idealize.ShloMosaic Idealize.ShloMosaic.TcCoe Idealize.SL.Sem Cert.Finite

/-- The kernel's new stream and its norm are the reference's, whatever the arguments. -/
theorem claim : @Cert.algebraic_MnfKIdeal_MnfRIdeal Cert.MnfKIdeal.Gen.facts Cert.MnfRIdeal.Gen.facts := by
  intro m g m' g' _ hargs
  refine ⟨fun c => (MnfKIdeal.Gen.dats m 0 c).arrAt 4 _, fun c => (MnfKIdeal.Gen.dats m 0 c).arrAt 5 _,
    MnfKIdeal.Value.run_blocks m g, (θ_run MnfRIdeal.defs _ _).mono (fun r h c => ?_) (MnfRIdeal.Value.run m' g')⟩
  obtain ⟨a0, a1, a2, a3⟩ := hargs c
  obtain ⟨h0, h1, k⟩ := h c
  refine ⟨(h0.trans ?_).trans (MnfKIdeal.Block.final4 m c).symm, (h1.trans ?_).trans (MnfKIdeal.Block.final5 m c).symm, k⟩
  · rw [a0, a1, a2]
    show MnfRIdeal.Read.val_main_v2 (F := Ideal) (MnfKIdeal.Block.ah m c) (MnfKIdeal.Block.aa m c) (MnfKIdeal.Block.aw m c) = _
    exact ext2 fun n l => MnfKIdeal.Block.ref_h _ _ _ n l
  · rw [a0, a1, a2, a3]
    show MnfRIdeal.Read.val_main_v15 (F := Ideal) (MnfKIdeal.Block.ah m c) (MnfKIdeal.Block.aa m c) (MnfKIdeal.Block.aw m c) (MnfKIdeal.Block.ag m c) = _
    refine ext2 fun n l => (MnfKIdeal.Block.ref_n _ _ _ _ n l).trans ?_
    exact congrArg (fun x => MnfKIdeal.Block.normed x _ _) (funext fun k => MnfKIdeal.Block.ref_h _ _ _ n k)

/-- The reference runs to its end and leaves its arguments and counters as they were: it declares no semaphore. -/
theorem refFrame : @Cert.quiescent_MnfRIdeal Cert.MnfRIdeal.Gen.facts := fun m ρ _ =>
  (θ_run MnfRIdeal.defs _ _).mono (fun r h => ⟨fun c => (h c).2.2, Idealize.ShloMosaic.sem_eq_zero_of_no_sems (by decide) r.2⟩)
    (MnfRIdeal.Value.run m ρ)

end Cert.Mnf

end
-- ==== Proof.MnmValue.lean ====
/-
  The two arrays the second product's kernel leaves, the new stream and its norm, and the reference element by element.
-/
module

public import proofs.«01_k».proof.Proof.Finite
public import proofs.«01_k».proof.Proof.Gen.MnmKIdeal.Value
public import proofs.«01_k».proof.Proof.Gen.MnmRIdeal.Read
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.MnmKIdeal.Block

open Cert.MnmKIdeal Cert.MnmKIdeal.Gen Idealize.ShloMosaic Idealize.ShloMosaic.TcCoe Cert.Finite

/-- An element over the root of its token's mean square, scaled. -/
def normed (x : Fin 1024 → EReal) (g : EReal) (l : Fin 1024) : EReal :=
  x l * Ideal.rsqrt (Ideal.div (∑ k, x k * x k) (Ideal.ofBits .f32 0x44800000#32) + Ideal.ofBits .f32 0x358637BD#32) * g

/-- An element of the stream and, added to it, two rows side by side by a column. -/
def stream (a b : Fin 512 → EReal) (w : Fin 1024 → EReal) (h : EReal) : EReal :=
  h + (∑ k : Fin 512, a k * w ⟨k.val, by omega⟩ + ∑ k : Fin 512, b k * w ⟨512 + k.val, by omega⟩)

theorem pay1_eq (a b : Vec Ideal S512x512 .bf16) (w : Vec Ideal S1024x1024 .bf16) (h : Vec Ideal S512x1024 .f32) (r : Fin 512) (l : Fin 1024) :
    k0_pay1 a b w h (ix2 r l) = stream (fun k => a (ix2 r k)) (fun k => b (ix2 r k)) (fun k => w (ix2 k l)) (h (ix2 r l)) := by
  unfold stream
  rw [add_comm]
  pointwise [k0_pay1]

theorem pay2_eq (a b : Vec Ideal S512x512 .bf16) (w : Vec Ideal S1024x1024 .bf16) (h : Vec Ideal S512x1024 .f32) (g : Vec Ideal S1x1024 .f32) (r : Fin 512) (l : Fin 1024) :
    k0_pay2 a b w h g (ix2 r l) = normed (fun k => k0_pay1 a b w h (ix2 r k)) (g (ix2 0 l)) l := by
  unfold k0_pay2
  generalize k0_pay1 a b w h = H
  pointwise [normed]

theorem ref_h (h : FVec Ideal S8192x1024 .f32) (a b : FVec Ideal S8192x512 .bf16) (w : FVec Ideal S1024x1024 .f32) (n : Fin 8192) (l : Fin 1024) :
    Cert.MnmRIdeal.Read.val_main_v3 (F := Ideal) h a b w (ix2 n l) = stream (fun k => a (ix2 n k)) (fun k => b (ix2 n k)) (fun k => w (ix2 k l)) (h (ix2 n l)) := by
  unfold stream
  pointwise [Cert.MnmRIdeal.Read.val_main_v3, Cert.MnmRIdeal.Read.val_main_v2, Cert.MnmRIdeal.Read.val_main_v1, Cert.MnmRIdeal.Read.val_main_v0]

theorem ref_n (h : FVec Ideal S8192x1024 .f32) (a b : FVec Ideal S8192x512 .bf16) (w : FVec Ideal S1024x1024 .f32) (g : FVec Ideal S1x1024 .f32) (n : Fin 8192) (l : Fin 1024) :
    Cert.MnmRIdeal.Read.val_main_v16 (F := Ideal) h a b w g (ix2 n l) = normed (fun k => Cert.MnmRIdeal.Read.val_main_v3 (F := Ideal) h a b w (ix2 n k)) (g (ix2 0 l)) l := by
  have z : Ideal.ofBits .f32 0x00000000#32 = (0 : EReal) := by simp [Ideal.ofBits, Ideal.ieee]
  simp only [Cert.MnmRIdeal.Read.val_main_v16, Cert.MnmRIdeal.Read.val_main_v15, Cert.MnmRIdeal.Read.val_main_v14, Cert.MnmRIdeal.Read.val_main_v13, Cert.MnmRIdeal.Read.val_main_v12, Cert.MnmRIdeal.Read.val_main_v11, Cert.MnmRIdeal.Read.val_main_v10, Cert.MnmRIdeal.Read.val_main_v9, Cert.MnmRIdeal.Read.val_main_cst_1, Cert.MnmRIdeal.Read.val_main_v8, Cert.MnmRIdeal.Read.val_main_v7, Cert.MnmRIdeal.Read.val_main_cst_0, Cert.MnmRIdeal.Read.val_main_v6, Cert.MnmRIdeal.Read.val_main_v5, Cert.MnmRIdeal.Read.val_main_cst, Cert.MnmRIdeal.Read.val_main_v4]
  generalize Cert.MnmRIdeal.Read.val_main_v3 (F := Ideal) h a b w = H
  pointwise [normed, z, zero_add]

variable (m : (ℓ : Loc nD τ sig) → Buf (Elt Ideal) ℓ) (c : Dev nD)

/-- The arguments. -/
abbrev ah : FVec Ideal S8192x1024 .f32 := m ((c : Thread nD τ).loc main_arg0)
abbrev aa : FVec Ideal S8192x512 .bf16 := m ((c : Thread nD τ).loc main_arg1)
abbrev ab : FVec Ideal S8192x512 .bf16 := m ((c : Thread nD τ).loc main_arg2)
abbrev aw : FVec Ideal S1024x1024 .f32 := m ((c : Thread nD τ).loc main_arg3)
abbrev ag : FVec Ideal S1x1024 .f32 := m ((c : Thread nD τ).loc main_arg4)

/-- Row `r` of the block of point `t`. -/
abbrev at_ (t : Fin cfg0.N) (r : Fin 512) : Fin 8192 := ⟨t.val * 512 + r.val, by have := t.isLt; have : cfg0.N = 16 := N_0; omega⟩

theorem V_main_v0 : V m c main_v0 = aw m c := by
  show StableHlo.after hostOps0 _ _ = _
  after_results
  all_goals rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem blk0 (t : Fin cfg0.N) (r : Fin 512) (l : Fin 512) : (iblk m c 0 t : Vec Ideal S512x512 .bf16) (ix2 r l) = aa m c (ix2 (at_ t r) l) := by
  have h : (win0_0.blk t).view.emb (ix2 r l) = (ix2 (at_ t r) l : S8192x512.Idx) := by blk_ext [e0]
  blk_simp [iblk]
  rw [h, V_main_arg1]

theorem blk1 (t : Fin cfg0.N) (r : Fin 512) (l : Fin 512) : (iblk m c 1 t : Vec Ideal S512x512 .bf16) (ix2 r l) = ab m c (ix2 (at_ t r) l) := by
  have h : (win0_1.blk t).view.emb (ix2 r l) = (ix2 (at_ t r) l : S8192x512.Idx) := by blk_ext [e1]
  blk_simp [iblk]
  rw [h, V_main_arg2]

theorem blk2 (t : Fin cfg0.N) (r : Fin 1024) (l : Fin 1024) : (iblk m c 2 t : Vec Ideal S1024x1024 .bf16) (ix2 r l) = aw m c (ix2 r l) := by
  have h : (win0_2.blk t).view.emb (ix2 r l) = (ix2 r l : S1024x1024.Idx) := by blk_ext [e2]
  blk_simp [iblk]
  rw [h, V_main_v0]

theorem blk3 (t : Fin cfg0.N) (r : Fin 512) (l : Fin 1024) : (iblk m c 3 t : Vec Ideal S512x1024 .f32) (ix2 r l) = ah m c (ix2 (at_ t r) l) := by
  have h : (win0_3.blk t).view.emb (ix2 r l) = (ix2 (at_ t r) l : S8192x1024.Idx) := by blk_ext [e3]
  blk_simp [iblk]
  rw [h, V_main_arg0]

theorem blk4 (t : Fin cfg0.N)  (l : Fin 1024) : (iblk m c 4 t : Vec Ideal S1x1024 .f32) (ix2 0 l) = ag m c (ix2 0 l) := by
  have h : (win0_4.blk t).view.emb (ix2 0 l) = (ix2 0 l : S1x1024.Idx) := by blk_ext [e4]
  blk_simp [iblk]
  rw [h, V_main_arg4]

/-- The new stream at a token. -/
abbrev next (n : Fin 8192) (l : Fin 1024) : EReal := stream (fun k => aa m c (ix2 n k)) (fun k => ab m c (ix2 n k)) (fun k => aw m c (ix2 k l)) (ah m c (ix2 n l))

theorem pay1_next (t : Fin cfg0.N) (B0 : Vec Ideal S512x512 .bf16) (B1 : Vec Ideal S512x512 .bf16) (B2 : Vec Ideal S1024x1024 .bf16) (B3 : Vec Ideal S512x1024 .f32)
    (c0 : ∀ r l, B0 (ix2 r l) = aa m c (ix2 (at_ t r) l)) (c1 : ∀ r l, B1 (ix2 r l) = ab m c (ix2 (at_ t r) l)) (c2 : ∀ r l, B2 (ix2 r l) = aw m c (ix2 r l)) (c3 : ∀ r l, B3 (ix2 r l) = ah m c (ix2 (at_ t r) l))
    (r : Fin 512) (l : Fin 1024) : k0_pay1 B0 B1 B2 B3 (ix2 r l) = next m c (at_ t r) l := by
  refine (pay1_eq B0 B1 B2 B3 r l).trans ?_
  exact congr (congr (congrArg₂ stream (funext fun k => c0 r k) (funext fun k => c1 r k)) (funext fun k => c2 k l)) (c3 r l)

theorem final5 : (dats m 0 c).arrAt 5 cfg0.N = fun i : S8192x1024.Idx => next m c (i 0) (i 1) := by
  refine (dats m 0 c).arrAt_eq_of_covers 5 _ (by decide +kernel) fun t hf y => ?_
  have h : (win0_5.blk t).view.emb y = (ix2 (at_ t (y 0)) (y 1) : S8192x1024.Idx) := by blk_ext [e5]
  blk_simp
  rw [after0_5, h]
  frame_out
  have c0 := blk0 m c t
  have c1 := blk1 m c t
  have c2 := blk2 m c t
  have c3 := blk3 m c t
  generalize iblk m c 0 t = B0 at c0 ⊢
  generalize iblk m c 1 t = B1 at c1 ⊢
  generalize iblk m c 2 t = B2 at c2 ⊢
  generalize iblk m c 3 t = B3 at c3 ⊢
  exact (congrArg _ (eq_ix2 y)).trans (pay1_next m c t B0 B1 B2 B3 c0 c1 c2 c3 (y 0) (y 1))

theorem final6 : (dats m 0 c).arrAt 6 cfg0.N = fun i : S8192x1024.Idx => normed (next m c (i 0)) (ag m c (ix2 0 (i 1))) (i 1) := by
  refine (dats m 0 c).arrAt_eq_of_covers 6 _ (by decide +kernel) fun t hf y => ?_
  have h : (win0_6.blk t).view.emb y = (ix2 (at_ t (y 0)) (y 1) : S8192x1024.Idx) := by blk_ext [e6]
  blk_simp
  rw [after0_6, h]
  frame_out
  have c0 := blk0 m c t
  have c1 := blk1 m c t
  have c2 := blk2 m c t
  have c3 := blk3 m c t
  have c4 := blk4 m c t
  generalize iblk m c 0 t = B0 at c0 ⊢
  generalize iblk m c 1 t = B1 at c1 ⊢
  generalize iblk m c 2 t = B2 at c2 ⊢
  generalize iblk m c 3 t = B3 at c3 ⊢
  generalize iblk m c 4 t = B4 at c4 ⊢
  refine (congrArg _ (eq_ix2 y)).trans ((pay2_eq B0 B1 B2 B3 B4 (y 0) (y 1)).trans ?_)
  exact congrArg₂ (fun x g => normed x g _) (funext fun k => pay1_next m c t B0 B1 B2 B3 c0 c1 c2 c3 (y 0) k) (c4 (y 1))

end Cert.MnmKIdeal.Block

end
-- ==== Proof.MnmClaim.lean ====
/-
  The mixers' output product with the residual and the next norm: kernel and reference leave the same two arrays.
-/
module

public import proofs.«01_k».proof.Defs
public import proofs.«01_k».proof.Proof.MnmValue
public import proofs.«01_k».proof.Proof.Gen.MnmRIdeal.Run

@[expose] public section

set_option maxRecDepth 16384

noncomputable section

namespace Cert.Mnm

open Idealize.ShloMosaic Idealize.ShloMosaic.TcCoe Idealize.SL.Sem Cert.Finite

/-- The kernel's new stream and its norm are the reference's, whatever the arguments. -/
theorem claim : @Cert.algebraic_MnmKIdeal_MnmRIdeal Cert.MnmKIdeal.Gen.facts Cert.MnmRIdeal.Gen.facts := by
  intro m g m' g' _ hargs
  refine ⟨fun c => (MnmKIdeal.Gen.dats m 0 c).arrAt 5 _, fun c => (MnmKIdeal.Gen.dats m 0 c).arrAt 6 _,
    MnmKIdeal.Value.run_blocks m g, (θ_run MnmRIdeal.defs _ _).mono (fun r h c => ?_) (MnmRIdeal.Value.run m' g')⟩
  obtain ⟨a0, a1, a2, a3, a4⟩ := hargs c
  obtain ⟨h0, h1, k⟩ := h c
  refine ⟨(h0.trans ?_).trans (MnmKIdeal.Block.final5 m c).symm, (h1.trans ?_).trans (MnmKIdeal.Block.final6 m c).symm, k⟩
  · rw [a0, a1, a2, a3]
    show MnmRIdeal.Read.val_main_v3 (F := Ideal) (MnmKIdeal.Block.ah m c) (MnmKIdeal.Block.aa m c) (MnmKIdeal.Block.ab m c) (MnmKIdeal.Block.aw m c) = _
    exact ext2 fun n l => MnmKIdeal.Block.ref_h _ _ _ _ n l
  · rw [a0, a1, a2, a3, a4]
    show MnmRIdeal.Read.val_main_v16 (F := Ideal) (MnmKIdeal.Block.ah m c) (MnmKIdeal.Block.aa m c) (MnmKIdeal.Block.ab m c) (MnmKIdeal.Block.aw m c) (MnmKIdeal.Block.ag m c) = _
    refine ext2 fun n l => (MnmKIdeal.Block.ref_n _ _ _ _ _ n l).trans ?_
    exact congrArg (fun x => MnmKIdeal.Block.normed x _ _) (funext fun k => MnmKIdeal.Block.ref_h _ _ _ _ n k)

/-- The reference runs to its end and leaves its arguments and counters as they were: it declares no semaphore. -/
theorem refFrame : @Cert.quiescent_MnmRIdeal Cert.MnmRIdeal.Gen.facts := fun m ρ _ =>
  (θ_run MnmRIdeal.defs _ _).mono (fun r h => ⟨fun c => (h c).2.2, Idealize.ShloMosaic.sem_eq_zero_of_no_sems (by decide) r.2⟩)
    (MnmRIdeal.Value.run m ρ)

end Cert.Mnm

end
-- ==== Proof.GatefBlock.lean ====
/- What one grid step of the forward spatial gate does, on blocks of any contents: the gelu, the layer
norm, and the mixing of each chunk of 128 rows, written as a choice among the eight lane groups. -/
module

public import proofs.«01_k».proof.Proof.Finite
public import proofs.«01_k».proof.Proof.Gen.GatefKIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.GatefKIdeal.Block

open Cert.GatefKIdeal Cert.GatefKIdeal.Gen Idealize.ShloMosaic Idealize.ShloMosaic.TcCoe

/-- One choice by lane group. -/
abbrev pick (g k : BitVec 32) (a b : EReal) : EReal := Scalar.select (IntOp.cmpi .eq g k) a b

/-- The choice among all eight groups, the last asked first. -/
abbrev chain (g : BitVec 32) (f : Fin 8 → EReal) (z : EReal) : EReal :=
  pick g 7#32 (f 7) (pick g 6#32 (f 6) (pick g 5#32 (f 5) (pick g 4#32 (f 4) (pick g 3#32 (f 3) (pick g 2#32 (f 2) (pick g 1#32 (f 1) (pick g 0#32 (f 0) z)))))))

/-- In group `k` the choice is the `k`-th value. -/
theorem chain_at (k : Fin 8) (f : Fin 8 → EReal) (z : EReal) : chain (BitVec.ofNat 32 k.val) f z = f k := by
  fin_cases k <;> simp [chain, pick, Scalar.select, IntOp.cmpi]

/-- The lane group of lane `l` is `l / 64`. -/
theorem group_at (r : Fin 128) (l : Fin 512) :
    k0_pay7 (iota .tc S128x512 32 [1] iota_S128x512_d1_w32) 64#32 k0_pay6 (ix2 r l) = BitVec.ofNat 32 (l.val / 64) := by
  pointwise [k0_pay7, k0_pay6]
  clear r
  revert l
  decide +kernel

/-- Row `t` sees row `s` when it does not come before it. -/
theorem causal_at (t s : Fin 128) : k0_pay8 (ix2 t s) = if s ≤ t then 1#1 else 0#1 := by
  pointwise [k0_pay8]
  revert t s
  decide +kernel

/-- The gelu. -/
abbrev gel (z : EReal) : EReal :=
  Ideal.ofBits .f32 0x3F000000#32 * z * (1 + Ideal.tanh (Ideal.ofBits .f32 0x3F4C422A#32 * (z + Ideal.ofBits .f32 0x3D372713#32 * z * z * z)))

theorem gel_at (v : Vec Ideal S512x1024 .bf16) (r : Fin 512) (l : Fin 1024) : k0_pay3 v (ix2 r l) = gel (v (ix2 r l)) := by
  pointwise [k0_pay3]

/-- The first half of the gelu's lanes is the gate. -/
theorem gate_at (v : Vec Ideal S512x1024 .bf16) (r : Fin 512) (l : Fin 512) : k0_pay4 v (ix2 r l) = gel (v (ix2 r ⟨l.val, by omega⟩)) := by
  unfold k0_pay4
  have h := gel_at v
  generalize k0_pay3 v = H at h ⊢
  pointwise
  exact h _ _

/-- A row's mean. -/
abbrev mean (h : Fin 512 → EReal) : EReal := Ideal.div (∑ x, h x) (Ideal.ofBits .f32 0x44000000#32)
/-- The layer norm of a row `h`, with scale `a` and shift `b`. -/
abbrev lnorm (h : Fin 512 → EReal) (a b : EReal) (l : Fin 512) : EReal :=
  (h l - mean h) * Ideal.rsqrt (mean (fun x => (h x - mean h) * (h x - mean h)) + Ideal.ofBits .f32 0x3727C5AC#32) * a + b

/-- The second half is layer normed. -/
theorem norm_at (v : Vec Ideal S512x1024 .bf16) (a b : Vec Ideal S1x512 .f32) (r : Fin 512) (l : Fin 512) :
    k0_pay5 v a b (ix2 r l) = lnorm (fun x => gel (v (ix2 r ⟨512 + x.val, by omega⟩))) (a (ix2 0 l)) (b (ix2 0 l)) l := by
  unfold k0_pay5
  have h := gel_at v
  generalize k0_pay3 v = H at h ⊢
  pointwise
  simp only [h]
  try rfl

theorem mask0 (v : Vec Ideal S1x128x128 .f32) (t s : Fin 128) : k0_pay9 v (ix2 t s) = if s ≤ t then v (ix3 0 t s) else 0 := by
  unfold k0_pay9
  have h := causal_at
  generalize k0_pay8 = H at h ⊢
  pointwise
  rw [h]
  by_cases hs : s ≤ t <;> simp [hs, Scalar.select]

theorem mask1 (v : Vec Ideal S1x128x128 .f32) (t s : Fin 128) : k0_pay10 v (ix2 t s) = if s ≤ t then v (ix3 0 t s) else 0 := by
  unfold k0_pay10
  have h := causal_at
  generalize k0_pay8 = H at h ⊢
  pointwise
  rw [h]
  by_cases hs : s ≤ t <;> simp [hs, Scalar.select]

theorem mask2 (v : Vec Ideal S1x128x128 .f32) (t s : Fin 128) : k0_pay11 v (ix2 t s) = if s ≤ t then v (ix3 0 t s) else 0 := by
  unfold k0_pay11
  have h := causal_at
  generalize k0_pay8 = H at h ⊢
  pointwise
  rw [h]
  by_cases hs : s ≤ t <;> simp [hs, Scalar.select]

theorem mask3 (v : Vec Ideal S1x128x128 .f32) (t s : Fin 128) : k0_pay12 k0_pay8 v (ix2 t s) = if s ≤ t then v (ix3 0 t s) else 0 := by
  unfold k0_pay12
  have h := causal_at
  generalize k0_pay8 = H at h ⊢
  pointwise
  rw [h]
  by_cases hs : s ≤ t <;> simp [hs, Scalar.select]

theorem mask4 (v : Vec Ideal S1x128x128 .f32) (t s : Fin 128) : k0_pay13 k0_pay8 v (ix2 t s) = if s ≤ t then v (ix3 0 t s) else 0 := by
  unfold k0_pay13
  have h := causal_at
  generalize k0_pay8 = H at h ⊢
  pointwise
  rw [h]
  by_cases hs : s ≤ t <;> simp [hs, Scalar.select]

theorem mask5 (v : Vec Ideal S1x128x128 .f32) (t s : Fin 128) : k0_pay14 k0_pay8 v (ix2 t s) = if s ≤ t then v (ix3 0 t s) else 0 := by
  unfold k0_pay14
  have h := causal_at
  generalize k0_pay8 = H at h ⊢
  pointwise
  rw [h]
  by_cases hs : s ≤ t <;> simp [hs, Scalar.select]

theorem mask6 (v : Vec Ideal S1x128x128 .f32) (t s : Fin 128) : k0_pay15 k0_pay8 v (ix2 t s) = if s ≤ t then v (ix3 0 t s) else 0 := by
  unfold k0_pay15
  have h := causal_at
  generalize k0_pay8 = H at h ⊢
  pointwise
  rw [h]
  by_cases hs : s ≤ t <;> simp [hs, Scalar.select]

theorem mask7 (v : Vec Ideal S1x128x128 .f32) (t s : Fin 128) : k0_pay16 k0_pay8 v (ix2 t s) = if s ≤ t then v (ix3 0 t s) else 0 := by
  unfold k0_pay16
  have h := causal_at
  generalize k0_pay8 = H at h ⊢
  pointwise
  rw [h]
  by_cases hs : s ≤ t <;> simp [hs, Scalar.select]

/-- The bias of a row, by lane group. -/
theorem bias_at (g : IVec S128x512 32) (w : Fin 8 → Vec Ideal S128x1 .f32) (t : Fin 128) (l : Fin 512) :
    k0_pay21 (k0_pay19 g (k0_pay17 g (w 0)) (k0_pay18 g) (w 1) (w 2) (w 3) (w 4) (w 5) (w 6)) (k0_pay20 g) (w 7) (ix2 t l)
      = chain (g (ix2 t l)) (fun k => w k (ix2 t 0)) 0 := by
  pointwise [k0_pay21, k0_pay19, k0_pay17, k0_pay18, k0_pay20]
  try rfl

/-- A chunk's rows from `q` on, mixed by the weights of a group. -/
abbrev mix (w : FVec Ideal S128x128 .bf16) (G : FVec Ideal S512x512 .bf16) (q : ℕ) (hq : q + 128 ≤ 512) (t : Fin 128) (l : Fin 512) : EReal :=
  ∑ s : Fin 128, w (ix2 t s) * G (ix2 ⟨q + s.val, by omega⟩ l)

variable (G : FVec Ideal S512x512 .bf16) (g : IVec S128x512 32) (w : Fin 8 → FVec Ideal S128x128 .bf16) (b : FVec Ideal S128x512 .f32)
  (t : Fin 128) (l : Fin 512)

theorem chunk0 (v157 : FVec Ideal S128x512 .f32) (v159 : IVec S128x512 1) (v160 : Vec Ideal S128x1 .f32) (hb : k0_pay21 v157 v159 v160 = b) :
    k0_pay26 b (k0_pay23 G g (w 0) (w 1) (w 2) (w 3) (w 4) (w 5) (w 6) v157 v159 v160) (k0_pay24 G (w 7)) (k0_pay25 g) (ix2 t l)
      = chain (g (ix2 t l)) (fun k => mix (w k) G 0 (by omega) t l + b (ix2 t l)) (b (ix2 t l)) := by
  unfold k0_pay26 k0_pay23
  rw [hb]
  pointwise [k0_pay24, k0_pay25, k0_pay22]
  try rfl

theorem chunk1 : k0_pay32 g (w 7) b (k0_pay28 G) (k0_pay29 G g (w 0) (w 1) (w 2) (w 3) (w 4) (w 5) b) (k0_pay30 G (w 6)) k0_pay31 (ix2 t l)
      = chain (g (ix2 t l)) (fun k => mix (w k) G 128 (by omega) t l + b (ix2 t l)) (b (ix2 t l)) := by
  pointwise [k0_pay32, k0_pay28, k0_pay29, k0_pay30, k0_pay31]
  try rfl

theorem chunk2 : k0_pay37 g (w 6) (w 7) b (k0_pay34 G) (k0_pay35 G g (w 0) (w 1) (w 2) (w 3) (w 4) b) (k0_pay36 G (w 5)) 5#32 (ix2 t l)
      = chain (g (ix2 t l)) (fun k => mix (w k) G 256 (by omega) t l + b (ix2 t l)) (b (ix2 t l)) := by
  pointwise [k0_pay37, k0_pay34, k0_pay35, k0_pay36]
  try rfl

theorem chunk3 : k0_pay1 g (w 5) (w 6) (w 7) b (k0_pay39 G) (k0_pay40 G g (w 0) (w 1) (w 2) (w 3) b) (k0_pay41 G (w 4)) (ix2 t l)
      = chain (g (ix2 t l)) (fun k => mix (w k) G 384 (by omega) t l + b (ix2 t l)) (b (ix2 t l)) := by
  pointwise [k0_pay1, k0_pay39, k0_pay40, k0_pay41]
  try rfl

end Cert.GatefKIdeal.Block

end
-- ==== Proof.GatefValue.lean ====
/- The forward spatial gate as the kernel computes it: its two results, element by element. -/
module

public import proofs.«01_k».proof.Proof.GatefBlock
public import proofs.«01_k».proof.Proof.Gen.GatefKIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.GatefKIdeal.Block

open Cert.GatefKIdeal Cert.GatefKIdeal.Gen Idealize.ShloMosaic Idealize.ShloMosaic.TcCoe

section piece

variable (B0 : Vec Ideal S512x2560 .bf16) (B1 B2 : Vec Ideal S1x512 .f32) (B3 : Vec Ideal S8x128x128 .f32) (B4 : Vec Ideal S128x8 .f32)

abbrev grp (l : Fin 512) : Fin 8 := ⟨l.val / 64, by omega⟩

theorem ld0 (r : Fin 512) (l : Fin 1024) : View.ld B0 r0_0 (ix2 r l) = B0 (ix2 r ⟨1536 + l.val, by omega⟩) :=
  congrArg B0 (by funext a; fin_cases a <;> exact Fin.ext (by simp [Rect.unit, Rect.emb]))

theorem ld1 (b : Vec Ideal S1x512 .f32) (l : Fin 512) : View.ld b r0_1 (ix2 0 l) = b (ix2 0 l) :=
  congrArg b (by funext a; fin_cases a <;> exact Fin.ext (by simp [Rect.unit, Rect.emb]))

theorem ldw0 (t s : Fin 128) : View.ld B3 r0_2 (ix3 0 t s) = B3 (ix3 0 t s) :=
  congrArg B3 (by funext a; fin_cases a <;> exact Fin.ext (by simp [Rect.unit, Rect.emb]))
theorem ldb0 (t : Fin 128) : View.ld B4 r0_10 (ix2 t 0) = B4 (ix2 t 0) :=
  congrArg B4 (by funext a; fin_cases a <;> exact Fin.ext (by simp [Rect.unit, Rect.emb]))
theorem ldw1 (t s : Fin 128) : View.ld B3 r0_3 (ix3 0 t s) = B3 (ix3 1 t s) :=
  congrArg B3 (by funext a; fin_cases a <;> exact Fin.ext (by simp [Rect.unit, Rect.emb]))
theorem ldb1 (t : Fin 128) : View.ld B4 r0_11 (ix2 t 0) = B4 (ix2 t 1) :=
  congrArg B4 (by funext a; fin_cases a <;> exact Fin.ext (by simp [Rect.unit, Rect.emb]))
theorem ldw2 (t s : Fin 128) : View.ld B3 r0_4 (ix3 0 t s) = B3 (ix3 2 t s) :=
  congrArg B3 (by funext a; fin_cases a <;> exact Fin.ext (by simp [Rect.unit, Rect.emb]))
theorem ldb2 (t : Fin 128) : View.ld B4 r0_12 (ix2 t 0) = B4 (ix2 t 2) :=
  congrArg B4 (by funext a; fin_cases a <;> exact Fin.ext (by simp [Rect.unit, Rect.emb]))
theorem ldw3 (t s : Fin 128) : View.ld B3 r0_5 (ix3 0 t s) = B3 (ix3 3 t s) :=
  congrArg B3 (by funext a; fin_cases a <;> exact Fin.ext (by simp [Rect.unit, Rect.emb]))
theorem ldb3 (t : Fin 128) : View.ld B4 r0_13 (ix2 t 0) = B4 (ix2 t 3) :=
  congrArg B4 (by funext a; fin_cases a <;> exact Fin.ext (by simp [Rect.unit, Rect.emb]))
theorem ldw4 (t s : Fin 128) : View.ld B3 r0_6 (ix3 0 t s) = B3 (ix3 4 t s) :=
  congrArg B3 (by funext a; fin_cases a <;> exact Fin.ext (by simp [Rect.unit, Rect.emb]))
theorem ldb4 (t : Fin 128) : View.ld B4 r0_14 (ix2 t 0) = B4 (ix2 t 4) :=
  congrArg B4 (by funext a; fin_cases a <;> exact Fin.ext (by simp [Rect.unit, Rect.emb]))
theorem ldw5 (t s : Fin 128) : View.ld B3 r0_7 (ix3 0 t s) = B3 (ix3 5 t s) :=
  congrArg B3 (by funext a; fin_cases a <;> exact Fin.ext (by simp [Rect.unit, Rect.emb]))
theorem ldb5 (t : Fin 128) : View.ld B4 r0_15 (ix2 t 0) = B4 (ix2 t 5) :=
  congrArg B4 (by funext a; fin_cases a <;> exact Fin.ext (by simp [Rect.unit, Rect.emb]))
theorem ldw6 (t s : Fin 128) : View.ld B3 r0_8 (ix3 0 t s) = B3 (ix3 6 t s) :=
  congrArg B3 (by funext a; fin_cases a <;> exact Fin.ext (by simp [Rect.unit, Rect.emb]))
theorem ldb6 (t : Fin 128) : View.ld B4 r0_16 (ix2 t 0) = B4 (ix2 t 6) :=
  congrArg B4 (by funext a; fin_cases a <;> exact Fin.ext (by simp [Rect.unit, Rect.emb]))
theorem ldw7 (t s : Fin 128) : View.ld B3 r0_9 (ix3 0 t s) = B3 (ix3 7 t s) :=
  congrArg B3 (by funext a; fin_cases a <;> exact Fin.ext (by simp [Rect.unit, Rect.emb]))
theorem ldb7 (t : Fin 128) : View.ld B4 r0_17 (ix2 t 0) = B4 (ix2 t 7) :=
  congrArg B4 (by funext a; fin_cases a <;> exact Fin.ext (by simp [Rect.unit, Rect.emb]))

/-- The eight groups' masked weights. -/
abbrev ws : Fin 8 → FVec Ideal S128x128 .bf16 :=
  ![k0_pay46 B0 B1 B2 B3 B4, k0_pay47 B0 B1 B2 B3 B4, k0_pay48 B0 B1 B2 B3 B4, k0_pay49 B0 B1 B2 B3 B4, k0_pay50 B0 B1 B2 B3 B4, k0_pay51 B0 B1 B2 B3 B4, k0_pay52 B0 B1 B2 B3 B4, k0_pay53 B0 B1 B2 B3 B4]

theorem ws_at (k : Fin 8) (t s : Fin 128) : ws B0 B1 B2 B3 B4 k (ix2 t s) = if s ≤ t then B3 (ix3 k t s) else 0 := by
  fin_cases k
  · exact (mask0 (View.ld B3 r0_2) t s).trans (by rw [ldw0]; rfl)
  · exact (mask1 (View.ld B3 r0_3) t s).trans (by rw [ldw1]; rfl)
  · exact (mask2 (View.ld B3 r0_4) t s).trans (by rw [ldw2]; rfl)
  · exact (mask3 (View.ld B3 r0_5) t s).trans (by rw [ldw3]; rfl)
  · exact (mask4 (View.ld B3 r0_6) t s).trans (by rw [ldw4]; rfl)
  · exact (mask5 (View.ld B3 r0_7) t s).trans (by rw [ldw5]; rfl)
  · exact (mask6 (View.ld B3 r0_8) t s).trans (by rw [ldw6]; rfl)
  · exact (mask7 (View.ld B3 r0_9) t s).trans (by rw [ldw7]; rfl)

theorem bias56 (t : Fin 128) (l : Fin 512) : k0_pay56 B0 B1 B2 B3 B4 (ix2 t l) = B4 (ix2 t (grp l)) := by
  refine (bias_at (k0_pay44 B0 B1 B2 B3 B4) ![View.ld B4 r0_10, View.ld B4 r0_11, View.ld B4 r0_12, View.ld B4 r0_13, View.ld B4 r0_14, View.ld B4 r0_15, View.ld B4 r0_16, View.ld B4 r0_17] t l).trans ?_
  unfold k0_pay44
  rw [group_at]
  refine (chain_at (grp l) _ _).trans ?_
  generalize grp l = k
  fin_cases k
  · exact ldb0 B4 t
  · exact ldb1 B4 t
  · exact ldb2 B4 t
  · exact ldb3 B4 t
  · exact ldb4 B4 t
  · exact ldb5 B4 t
  · exact ldb6 B4 t
  · exact ldb7 B4 t

/-- The normed second half of a row of the block. -/
abbrev normB (r l : Fin 512) : EReal :=
  lnorm (fun x => gel (B0 (ix2 r ⟨2048 + x.val, by omega⟩))) (B1 (ix2 0 l)) (B2 (ix2 0 l)) l

theorem lnorm_congr {h h' : Fin 512 → EReal} {a a' b b' : EReal} (l : Fin 512) (hh : h = h') (ha : a = a') (hb : b = b') :
    lnorm h a b l = lnorm h' a' b' l := by
  subst hh ha hb
  rfl

theorem norm43 (r l : Fin 512) : k0_pay43 B0 B1 B2 B3 B4 (ix2 r l) = normB B0 B1 B2 r l := by
  refine (norm_at (View.ld B0 r0_0) (View.ld B1 r0_1) (View.ld B2 r0_1) r l).trans ?_
  refine lnorm_congr l (funext fun x => congrArg gel ?_) (ld1 B1 l) (ld1 B2 l)
  exact (ld0 B0 r ⟨512 + x.val, by omega⟩).trans (congrArg B0 (congrArg (ix2 r) (Fin.ext (by show 1536 + (512 + x.val) = 2048 + x.val; omega))))

theorem gate42 (r l : Fin 512) : k0_pay42 B0 B1 B2 B3 B4 (ix2 r l) = gel (B0 (ix2 r ⟨1536 + l.val, by omega⟩)) := by
  unfold k0_pay42
  rw [gate_at, ld0]

/-- A chunk of the block, mixed. -/
abbrev mixB (q : ℕ) (hq : q + 128 ≤ 512) (t : Fin 128) (l : Fin 512) : EReal :=
  (∑ s : Fin 128, (if s ≤ t then B3 (ix3 (grp l) t s) else 0) * normB B0 B1 B2 ⟨q + s.val, by omega⟩ l) + B4 (ix2 t (grp l))

theorem mixed (q : ℕ) (hq : q + 128 ≤ 512) (t : Fin 128) (l : Fin 512) :
    chain (k0_pay44 B0 B1 B2 B3 B4 (ix2 t l)) (fun k => mix (ws B0 B1 B2 B3 B4 k) (k0_pay43 B0 B1 B2 B3 B4) q hq t l + k0_pay56 B0 B1 B2 B3 B4 (ix2 t l)) (k0_pay56 B0 B1 B2 B3 B4 (ix2 t l))
      = mixB B0 B1 B2 B3 B4 q hq t l := by
  rw [bias56]
  have hg : k0_pay44 B0 B1 B2 B3 B4 (ix2 t l) = BitVec.ofNat 32 (grp l).val := group_at t l
  rw [hg, chain_at (grp l)]
  refine congrArg (· + _) (Finset.sum_congr rfl fun s _ => ?_)
  rw [ws_at, norm43]

theorem piece0 (t : Fin 128) (l : Fin 512) : k0_pay26 (k0_pay56 B0 B1 B2 B3 B4) (k0_pay57 B0 B1 B2 B3 B4) (k0_pay58 B0 B1 B2 B3 B4) (k0_pay59 B0 B1 B2 B3 B4) (ix2 t l) = mixB B0 B1 B2 B3 B4 0 (by omega) t l :=
  (chunk0 (k0_pay43 B0 B1 B2 B3 B4) (k0_pay44 B0 B1 B2 B3 B4) (ws B0 B1 B2 B3 B4) (k0_pay56 B0 B1 B2 B3 B4) t l (k0_pay54 B0 B1 B2 B3 B4) (k0_pay55 B0 B1 B2 B3 B4) (View.ld B4 r0_17) rfl).trans (mixed B0 B1 B2 B3 B4 0 (by omega) t l)

theorem gated0 (t : Fin 128) (l : Fin 512) : k0_pay27 (k0_pay42 B0 B1 B2 B3 B4) (k0_pay56 B0 B1 B2 B3 B4) (k0_pay57 B0 B1 B2 B3 B4) (k0_pay58 B0 B1 B2 B3 B4) (k0_pay59 B0 B1 B2 B3 B4) (ix2 t l)
    = gel (B0 (ix2 ⟨t.val, by omega⟩ ⟨1536 + l.val, by omega⟩)) * mixB B0 B1 B2 B3 B4 0 (by omega) t l := by
  unfold k0_pay27
  have h := piece0 B0 B1 B2 B3 B4 t l
  have hz := gate42 B0 B1 B2 B3 B4 ⟨t.val, by omega⟩ l
  generalize k0_pay26 (k0_pay56 B0 B1 B2 B3 B4) (k0_pay57 B0 B1 B2 B3 B4) (k0_pay58 B0 B1 B2 B3 B4) (k0_pay59 B0 B1 B2 B3 B4) = M at h ⊢
  generalize k0_pay42 B0 B1 B2 B3 B4 = Z at hz ⊢
  pointwise
  rw [h]
  exact congrArg (· * _) hz

theorem piece1 (t : Fin 128) (l : Fin 512) : k0_pay32 (k0_pay44 B0 B1 B2 B3 B4) (k0_pay53 B0 B1 B2 B3 B4) (k0_pay56 B0 B1 B2 B3 B4) (k0_pay60 B0 B1 B2 B3 B4) (k0_pay61 B0 B1 B2 B3 B4) (k0_pay62 B0 B1 B2 B3 B4) (k0_pay63 B0 B1 B2 B3 B4) (ix2 t l) = mixB B0 B1 B2 B3 B4 128 (by omega) t l :=
  (chunk1 (k0_pay43 B0 B1 B2 B3 B4) (k0_pay44 B0 B1 B2 B3 B4) (ws B0 B1 B2 B3 B4) (k0_pay56 B0 B1 B2 B3 B4) t l).trans (mixed B0 B1 B2 B3 B4 128 (by omega) t l)

theorem gated1 (t : Fin 128) (l : Fin 512) : k0_pay33 (k0_pay42 B0 B1 B2 B3 B4) (k0_pay44 B0 B1 B2 B3 B4) (k0_pay53 B0 B1 B2 B3 B4) (k0_pay56 B0 B1 B2 B3 B4) (k0_pay60 B0 B1 B2 B3 B4) (k0_pay61 B0 B1 B2 B3 B4) (k0_pay62 B0 B1 B2 B3 B4) (k0_pay63 B0 B1 B2 B3 B4) (ix2 t l)
    = gel (B0 (ix2 ⟨128 + t.val, by omega⟩ ⟨1536 + l.val, by omega⟩)) * mixB B0 B1 B2 B3 B4 128 (by omega) t l := by
  unfold k0_pay33
  have h := piece1 B0 B1 B2 B3 B4 t l
  have hz := gate42 B0 B1 B2 B3 B4 ⟨128 + t.val, by omega⟩ l
  generalize k0_pay32 (k0_pay44 B0 B1 B2 B3 B4) (k0_pay53 B0 B1 B2 B3 B4) (k0_pay56 B0 B1 B2 B3 B4) (k0_pay60 B0 B1 B2 B3 B4) (k0_pay61 B0 B1 B2 B3 B4) (k0_pay62 B0 B1 B2 B3 B4) (k0_pay63 B0 B1 B2 B3 B4) = M at h ⊢
  generalize k0_pay42 B0 B1 B2 B3 B4 = Z at hz ⊢
  pointwise
  rw [h]
  exact congrArg (· * _) hz

theorem piece2 (t : Fin 128) (l : Fin 512) : k0_pay37 (k0_pay44 B0 B1 B2 B3 B4) (k0_pay52 B0 B1 B2 B3 B4) (k0_pay53 B0 B1 B2 B3 B4) (k0_pay56 B0 B1 B2 B3 B4) (k0_pay64 B0 B1 B2 B3 B4) (k0_pay65 B0 B1 B2 B3 B4) (k0_pay66 B0 B1 B2 B3 B4) 5#32 (ix2 t l) = mixB B0 B1 B2 B3 B4 256 (by omega) t l :=
  (chunk2 (k0_pay43 B0 B1 B2 B3 B4) (k0_pay44 B0 B1 B2 B3 B4) (ws B0 B1 B2 B3 B4) (k0_pay56 B0 B1 B2 B3 B4) t l).trans (mixed B0 B1 B2 B3 B4 256 (by omega) t l)

theorem gated2 (t : Fin 128) (l : Fin 512) : k0_pay38 (k0_pay42 B0 B1 B2 B3 B4) (k0_pay44 B0 B1 B2 B3 B4) (k0_pay52 B0 B1 B2 B3 B4) (k0_pay53 B0 B1 B2 B3 B4) (k0_pay56 B0 B1 B2 B3 B4) (k0_pay64 B0 B1 B2 B3 B4) (k0_pay65 B0 B1 B2 B3 B4) (k0_pay66 B0 B1 B2 B3 B4) 5#32 (ix2 t l)
    = gel (B0 (ix2 ⟨256 + t.val, by omega⟩ ⟨1536 + l.val, by omega⟩)) * mixB B0 B1 B2 B3 B4 256 (by omega) t l := by
  unfold k0_pay38
  have h := piece2 B0 B1 B2 B3 B4 t l
  have hz := gate42 B0 B1 B2 B3 B4 ⟨256 + t.val, by omega⟩ l
  generalize k0_pay37 (k0_pay44 B0 B1 B2 B3 B4) (k0_pay52 B0 B1 B2 B3 B4) (k0_pay53 B0 B1 B2 B3 B4) (k0_pay56 B0 B1 B2 B3 B4) (k0_pay64 B0 B1 B2 B3 B4) (k0_pay65 B0 B1 B2 B3 B4) (k0_pay66 B0 B1 B2 B3 B4) 5#32 = M at h ⊢
  generalize k0_pay42 B0 B1 B2 B3 B4 = Z at hz ⊢
  pointwise
  rw [h]
  exact congrArg (· * _) hz

theorem piece3 (t : Fin 128) (l : Fin 512) : k0_pay1 (k0_pay44 B0 B1 B2 B3 B4) (k0_pay51 B0 B1 B2 B3 B4) (k0_pay52 B0 B1 B2 B3 B4) (k0_pay53 B0 B1 B2 B3 B4) (k0_pay56 B0 B1 B2 B3 B4) (k0_pay67 B0 B1 B2 B3 B4) (k0_pay68 B0 B1 B2 B3 B4) (k0_pay69 B0 B1 B2 B3 B4) (ix2 t l) = mixB B0 B1 B2 B3 B4 384 (by omega) t l :=
  (chunk3 (k0_pay43 B0 B1 B2 B3 B4) (k0_pay44 B0 B1 B2 B3 B4) (ws B0 B1 B2 B3 B4) (k0_pay56 B0 B1 B2 B3 B4) t l).trans (mixed B0 B1 B2 B3 B4 384 (by omega) t l)

theorem gated3 (t : Fin 128) (l : Fin 512) : k0_pay2 (k0_pay42 B0 B1 B2 B3 B4) (k0_pay44 B0 B1 B2 B3 B4) (k0_pay51 B0 B1 B2 B3 B4) (k0_pay52 B0 B1 B2 B3 B4) (k0_pay53 B0 B1 B2 B3 B4) (k0_pay56 B0 B1 B2 B3 B4) (k0_pay67 B0 B1 B2 B3 B4) (k0_pay68 B0 B1 B2 B3 B4) (k0_pay69 B0 B1 B2 B3 B4) (ix2 t l)
    = gel (B0 (ix2 ⟨384 + t.val, by omega⟩ ⟨1536 + l.val, by omega⟩)) * mixB B0 B1 B2 B3 B4 384 (by omega) t l := by
  unfold k0_pay2
  have h := piece3 B0 B1 B2 B3 B4 t l
  have hz := gate42 B0 B1 B2 B3 B4 ⟨384 + t.val, by omega⟩ l
  generalize k0_pay1 (k0_pay44 B0 B1 B2 B3 B4) (k0_pay51 B0 B1 B2 B3 B4) (k0_pay52 B0 B1 B2 B3 B4) (k0_pay53 B0 B1 B2 B3 B4) (k0_pay56 B0 B1 B2 B3 B4) (k0_pay67 B0 B1 B2 B3 B4) (k0_pay68 B0 B1 B2 B3 B4) (k0_pay69 B0 B1 B2 B3 B4) = M at h ⊢
  generalize k0_pay42 B0 B1 B2 B3 B4 = Z at hz ⊢
  pointwise
  rw [h]
  exact congrArg (· * _) hz

end piece

variable (m : (ℓ : Loc nD τ sig) → Buf (Elt Ideal) ℓ) (c : Dev nD)

abbrev x (r : Fin 8192) (l : Fin 2560) : EReal := (m ((c : Thread nD τ).loc main_arg0) : Vec Ideal S8192x2560 .bf16) (ix2 r l)
abbrev sc (l : Fin 512) : EReal := (m ((c : Thread nD τ).loc main_arg1) : Vec Ideal S1x512 .f32) (ix2 0 l)
abbrev sh (l : Fin 512) : EReal := (m ((c : Thread nD τ).loc main_arg2) : Vec Ideal S1x512 .f32) (ix2 0 l)
abbrev sw (k : Fin 8) (t s : Fin 128) : EReal := (m ((c : Thread nD τ).loc main_arg3) : Vec Ideal S1x8x128x128 .f32) (ix4 0 k t s)
abbrev sb (k : Fin 8) (t : Fin 128) : EReal := (m ((c : Thread nD τ).loc main_arg4) : Vec Ideal S1x8x128 .f32) (ix3 0 k t)

/-- The normed second half of a row. -/
abbrev nrm (r : Fin 8192) (l : Fin 512) : EReal := lnorm (fun j => gel (x m c r ⟨2048 + j.val, by omega⟩)) (sc m c l) (sh m c l) l
/-- Row `t` of chunk `q`, mixed with the rows of its chunk up to it. -/
abbrev mx (q : Fin 64) (t : Fin 128) (l : Fin 512) : EReal :=
  (∑ s : Fin 128, (if s ≤ t then sw m c (grp l) t s else 0) * nrm m c ⟨q.val * 128 + s.val, by omega⟩ l) + sb m c (grp l) t
/-- The same by the row's own number. -/
abbrev mxr (r : Fin 8192) (l : Fin 512) : EReal := mx m c ⟨r.val / 128, by omega⟩ ⟨r.val % 128, by omega⟩ l
/-- The mixed row by its gate. -/
abbrev gtd (r : Fin 8192) (l : Fin 512) : EReal := gel (x m c r ⟨1536 + l.val, by omega⟩) * mxr m c r l

abbrev atR (t : Fin cfg0.N) (r : Fin 512) : Fin 8192 := ⟨t.val * 512 + r.val, by have := t.isLt; have : cfg0.N = 16 := N_0; omega⟩

theorem e0 : ∀ t : Fin cfg0.N, win0_0.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)

/-- The mixing weights as the kernel finds them: without the leading axis. -/
theorem V_w (k : Fin 8) (t s : Fin 128) : (V m c main_v0 : Vec Ideal S8x128x128 .f32) (ix3 k t s) = sw m c k t s := by
  have h : V m c main_v0 = (shapeCast S8x128x128 (m ((c : Thread nD τ).loc main_arg3) : FVec Ideal S1x8x128x128 .f32) shapeCasts_S1x8x128x128_S8x128x128 : FVec Ideal S8x128x128 .f32) := by
    show StableHlo.after hostOps0 _ _ = _
    after_results
    all_goals rfl
  rw [h]
  exact shapeCast_apply _ _ (ix3 k t s) (ix4 0 k t s)
    (by rewrite [Shape.rowMajor_val_four, Shape.rowMajor_val_three]; show ((0 * 8 + k.val) * 128 + t.val) * 128 + s.val = (k.val * 128 + t.val) * 128 + s.val; omega)

/-- The bias: without the leading axis, and transposed. -/
theorem V_b (k : Fin 8) (t : Fin 128) : (V m c main_v2 : Vec Ideal S128x8 .f32) (ix2 t k) = sb m c k t := by
  have h : V m c main_v2 = (transpose S128x8 [1, 0] (shapeCast S8x128 (m ((c : Thread nD τ).loc main_arg4) : FVec Ideal S1x8x128 .f32) shapeCasts_S1x8x128_S8x128 : FVec Ideal S8x128 .f32) transposes_S8x128_S128x8_1_0 : FVec Ideal S128x8 .f32) := by
    show StableHlo.after hostOps0 _ _ = _
    after_results
    all_goals rfl
  rw [h]
  have hc : (shapeCast S8x128 (m ((c : Thread nD τ).loc main_arg4) : FVec Ideal S1x8x128 .f32) shapeCasts_S1x8x128_S8x128 : FVec Ideal S8x128 .f32) (ix2 k t) = sb m c k t :=
    shapeCast_apply _ _ (ix2 k t) (ix3 0 k t)
      (by rewrite [Shape.rowMajor_val_three, Shape.rowMajor_val_two]; show (0 * 8 + k.val) * 128 + t.val = k.val * 128 + t.val; omega)
  generalize (shapeCast S8x128 (m ((c : Thread nD τ).loc main_arg4) : FVec Ideal S1x8x128 .f32) shapeCasts_S1x8x128_S8x128 : FVec Ideal S8x128 .f32) = Z at hc ⊢
  pointwise
  exact hc

theorem blk0 (t : Fin cfg0.N) (r : Fin 512) (l : Fin 2560) : iblk m c 0 t (ix2 r l) = x m c (atR t r) l := by
  have h : (win0_0.blk t).view.emb (ix2 r l) = (ix2 (atR t r) l : S8192x2560.Idx) := by blk_ext [e0]
  blk_simp [iblk]
  rw [h, V_main_arg0]

theorem blk1 (t : Fin cfg0.N) (l : Fin 512) : iblk m c 1 t (ix2 0 l) = sc m c l := by
  have h : (win0_1.blk t).view.emb (ix2 0 l) = (ix2 0 l : S1x512.Idx) := by blk_ext [e1]
  blk_simp [iblk]
  rw [h, V_main_arg1]

theorem blk2 (t : Fin cfg0.N) (l : Fin 512) : iblk m c 2 t (ix2 0 l) = sh m c l := by
  have h : (win0_2.blk t).view.emb (ix2 0 l) = (ix2 0 l : S1x512.Idx) := by blk_ext [e2]
  blk_simp [iblk]
  rw [h, V_main_arg2]

theorem blk3 (t : Fin cfg0.N) (k : Fin 8) (u s : Fin 128) : iblk m c 3 t (ix3 k u s) = sw m c k u s := by
  have h : (win0_3.blk t).view.emb (ix3 k u s) = (ix3 k u s : S8x128x128.Idx) := by blk_ext [e3]
  blk_simp [iblk]
  rw [h]
  exact V_w m c _ _ _

theorem blk4 (t : Fin cfg0.N) (k : Fin 8) (u : Fin 128) : iblk m c 4 t (ix2 u k) = sb m c k u := by
  have h : (win0_4.blk t).view.emb (ix2 u k) = (ix2 u k : S128x8.Idx) := by blk_ext [e4]
  blk_simp [iblk]
  rw [h]
  exact V_b m c _ _

/-- A chunk of a step's block is a chunk of the array. -/
theorem mix_eq (T : Fin cfg0.N) (p : Fin 4) (q : ℕ) (hp : q = 128 * p.val) (hq : q + 128 ≤ 512) (t : Fin 128) (l : Fin 512) :
    mixB (iblk m c 0 T) (iblk m c 1 T) (iblk m c 2 T) (iblk m c 3 T) (iblk m c 4 T) q hq t l
      = mx m c ⟨T.val * 4 + p.val, by have := T.isLt; have : cfg0.N = 16 := N_0; omega⟩ t l := by
  subst hp
  unfold mixB
  rw [blk4]
  refine congrArg (· + _) (Finset.sum_congr rfl fun s _ => ?_)
  rw [blk3]
  refine congrArg (fun z : EReal => (if s ≤ t then sw m c (grp l) t s else 0) * z) ?_
  unfold normB
  simp only [blk0, blk1, blk2]
  have hr : atR T ⟨128 * p.val + s.val, by omega⟩ = (⟨(T.val * 4 + p.val) * 128 + s.val, by have := T.isLt; have : cfg0.N = 16 := N_0; omega⟩ : Fin 8192) :=
    Fin.ext (by show T.val * 512 + (128 * p.val + s.val) = (T.val * 4 + p.val) * 128 + s.val; omega)
  rw [hr]

/-- A row of chunk `q` by its number. -/
theorem mxr_at (r : Fin 8192) (q : Fin 64) (t : Fin 128) (l : Fin 512) (h : r.val = q.val * 128 + t.val) : mxr m c r l = mx m c q t l := by
  have h1 : (⟨r.val / 128, by omega⟩ : Fin 64) = q := Fin.ext (by show r.val / 128 = _; omega)
  have h2 : (⟨r.val % 128, by omega⟩ : Fin 128) = t := Fin.ext (by show r.val % 128 = _; omega)
  unfold mxr
  rw [h1, h2]

theorem final5 : (dats m 0 c).arrAt 5 cfg0.N = fun i : S8192x512.Idx => mxr m c (i 0) (i 1) := by
  refine (dats m 0 c).arrAt_eq_of_covers 5 _ (by decide +kernel) fun t hf y => ?_
  have h : (win0_5.blk t).view.emb y = (ix2 (atR t (y 0)) (y 1) : S8192x512.Idx) := by blk_ext [e5]
  blk_simp
  rw [after0_5, h]
  frame_out
  canon_tiles z hz using View.cover_of_tiledBy _ ![128, 512] (by sl_kernel_rfl) _
  · rw [eq_ix2 z]
    refine (piece3 _ _ _ _ _ (z 0) (z 1)).trans ((mix_eq m c t 3 _ rfl _ _ _).trans ?_)
    exact Eq.symm ((mxr_at m c (atR t (y 0)) _ (z 0) (y 1) (by show t.val * 512 + (y 0).val = (t.val * 4 + 3) * 128 + (z 0).val; omega)).trans
      (congrArg (mx m c _ _) (Fin.ext hz1)))
  · rw [eq_ix2 z]
    refine (piece2 _ _ _ _ _ (z 0) (z 1)).trans ((mix_eq m c t 2 _ rfl _ _ _).trans ?_)
    exact Eq.symm ((mxr_at m c (atR t (y 0)) _ (z 0) (y 1) (by show t.val * 512 + (y 0).val = (t.val * 4 + 2) * 128 + (z 0).val; omega)).trans
      (congrArg (mx m c _ _) (Fin.ext hz1)))
  · rw [eq_ix2 z]
    refine (piece1 _ _ _ _ _ (z 0) (z 1)).trans ((mix_eq m c t 1 _ rfl _ _ _).trans ?_)
    exact Eq.symm ((mxr_at m c (atR t (y 0)) _ (z 0) (y 1) (by show t.val * 512 + (y 0).val = (t.val * 4 + 1) * 128 + (z 0).val; omega)).trans
      (congrArg (mx m c _ _) (Fin.ext hz1)))
  · rw [eq_ix2 z]
    refine (piece0 _ _ _ _ _ (z 0) (z 1)).trans ((mix_eq m c t 0 _ rfl _ _ _).trans ?_)
    exact Eq.symm ((mxr_at m c (atR t (y 0)) _ (z 0) (y 1) (by show t.val * 512 + (y 0).val = (t.val * 4 + 0) * 128 + (z 0).val; omega)).trans
      (congrArg (mx m c _ _) (Fin.ext hz1)))

theorem final6 : (dats m 0 c).arrAt 6 cfg0.N = fun i : S8192x512.Idx => gtd m c (i 0) (i 1) := by
  refine (dats m 0 c).arrAt_eq_of_covers 6 _ (by decide +kernel) fun t hf y => ?_
  have h : (win0_6.blk t).view.emb y = (ix2 (atR t (y 0)) (y 1) : S8192x512.Idx) := by blk_ext [e6]
  blk_simp
  rw [after0_6, h]
  frame_out
  canon_tiles z hz using View.cover_of_tiledBy _ ![128, 512] (by sl_kernel_rfl) _
  · rw [eq_ix2 z]
    refine (gated3 _ _ _ _ _ (z 0) (z 1)).trans (congrArg₂ (fun a b : EReal => a * b) (congrArg gel ?_) ((mix_eq m c t 3 _ rfl _ _ _).trans ?_))
    · refine (blk0 m c t _ _).trans (congrArg₂ (x m c) (Fin.ext ?_) (Fin.ext ?_))
      · show t.val * 512 + (384 + (z 0).val) = t.val * 512 + (y 0).val
        omega
      · show 1536 + (z 1).val = 1536 + (y 1).val
        omega
    · exact Eq.symm ((mxr_at m c (atR t (y 0)) _ (z 0) (y 1) (by show t.val * 512 + (y 0).val = (t.val * 4 + 3) * 128 + (z 0).val; omega)).trans
        (congrArg (mx m c _ _) (Fin.ext hz1)))
  · rw [eq_ix2 z]
    refine (gated2 _ _ _ _ _ (z 0) (z 1)).trans (congrArg₂ (fun a b : EReal => a * b) (congrArg gel ?_) ((mix_eq m c t 2 _ rfl _ _ _).trans ?_))
    · refine (blk0 m c t _ _).trans (congrArg₂ (x m c) (Fin.ext ?_) (Fin.ext ?_))
      · show t.val * 512 + (256 + (z 0).val) = t.val * 512 + (y 0).val
        omega
      · show 1536 + (z 1).val = 1536 + (y 1).val
        omega
    · exact Eq.symm ((mxr_at m c (atR t (y 0)) _ (z 0) (y 1) (by show t.val * 512 + (y 0).val = (t.val * 4 + 2) * 128 + (z 0).val; omega)).trans
        (congrArg (mx m c _ _) (Fin.ext hz1)))
  · rw [eq_ix2 z]
    refine (gated1 _ _ _ _ _ (z 0) (z 1)).trans (congrArg₂ (fun a b : EReal => a * b) (congrArg gel ?_) ((mix_eq m c t 1 _ rfl _ _ _).trans ?_))
    · refine (blk0 m c t _ _).trans (congrArg₂ (x m c) (Fin.ext ?_) (Fin.ext ?_))
      · show t.val * 512 + (128 + (z 0).val) = t.val * 512 + (y 0).val
        omega
      · show 1536 + (z 1).val = 1536 + (y 1).val
        omega
    · exact Eq.symm ((mxr_at m c (atR t (y 0)) _ (z 0) (y 1) (by show t.val * 512 + (y 0).val = (t.val * 4 + 1) * 128 + (z 0).val; omega)).trans
        (congrArg (mx m c _ _) (Fin.ext hz1)))
  · rw [eq_ix2 z]
    refine (gated0 _ _ _ _ _ (z 0) (z 1)).trans (congrArg₂ (fun a b : EReal => a * b) (congrArg gel ?_) ((mix_eq m c t 0 _ rfl _ _ _).trans ?_))
    · refine (blk0 m c t _ _).trans (congrArg₂ (x m c) (Fin.ext ?_) (Fin.ext ?_))
      · show t.val * 512 + (z 0).val = t.val * 512 + (y 0).val
        omega
      · show 1536 + (z 1).val = 1536 + (y 1).val
        omega
    · exact Eq.symm ((mxr_at m c (atR t (y 0)) _ (z 0) (y 1) (by show t.val * 512 + (y 0).val = (t.val * 4 + 0) * 128 + (z 0).val; omega)).trans
        (congrArg (mx m c _ _) (Fin.ext hz1)))

end Cert.GatefKIdeal.Block

end
-- ==== Proof.GatefRef.lean ====
/- The forward spatial gate as the reference computes it, element by element. -/
module

public import proofs.«01_k».proof.Proof.GatefValue
public import proofs.«01_k».proof.Proof.Gen.GatefRIdeal.Read
public import proofs.«01_k».proof.Proof.Gen.GatefKIdeal.Value
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.GatefRIdeal.Ref

open Cert.GatefRIdeal Cert.GatefRIdeal.Read Idealize.ShloMosaic Idealize.ShloMosaic.TcCoe
open Cert.GatefKIdeal.Block (gel mean lnorm grp)

variable (x0 : FVec Ideal S8192x2560 .bf16) (x1 x2 : FVec Ideal S1x512 .f32) (x3 : FVec Ideal S1x8x128x128 .f32) (x4 : FVec Ideal S1x8x128 .f32)

theorem gelu_at (r : Fin 8192) (l : Fin 1024) : val_main_v14 (F := Ideal) x0 (ix2 r l) = gel (x0 (ix2 r ⟨1536 + l.val, by omega⟩)) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  generalize x0 _ = z
  have e : Ideal.ofBits .f32 0x3D372713#32 * z * z * z = Ideal.ofBits .f32 0x3D372713#32 * (z * z * z) := by simp only [mul_assoc]
  unfold gel
  rw [e]
  exact (mul_left_comm _ _ _).trans (mul_assoc _ _ _).symm

theorem norm_at (r : Fin 8192) (l : Fin 512) : val_main_v36 (F := Ideal) x0 x1 x2 (ix2 r l)
    = lnorm (fun j => gel (x0 (ix2 r ⟨2048 + j.val, by omega⟩))) (x1 (ix2 0 l)) (x2 (ix2 0 l)) l := by
  have z : Ideal.ofBits .f32 0x00000000#32 = (0 : EReal) := by simp [Ideal.ofBits, Ideal.ieee]
  have h : ∀ j : Fin 512, val_main_v14 (F := Ideal) x0 (ix2 r ⟨512 + j.val, by omega⟩) = gel (x0 (ix2 r ⟨2048 + j.val, by omega⟩)) := fun j =>
    (gelu_at x0 r _).trans (congrArg gel (congrArg x0 (congrArg (ix2 r) (Fin.ext (by show 1536 + (512 + j.val) = 2048 + j.val; omega)))))
  rw [← funext h]
  simp only [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst_3, val_main_cst_4, val_main_cst_5, val_main_cst_6, val_main_cst_7]
  generalize val_main_v14 (F := Ideal) x0 = H
  pointwise [z, zero_add]
  try rfl

theorem causal_at (t s : Fin 128) : val_main_v39 (F := Ideal) (ix2 t s) = if s ≤ t then 1#1 else 0#1 := by
  pointwise [val_main_v39, val_main_v38, val_main_c, val_main_call0_v5, val_main_call0_c_0, val_main_call0_v4, val_main_call0_v3, val_main_call0_v2, val_main_call0_v1, val_main_call0_c, val_main_call0_v0]
  revert t s
  decide +kernel

theorem weights_at (k : Fin 8) (t s : Fin 128) : val_main_v42 (F := Ideal) x3 (ix3 k t s) = if s ≤ t then x3 (ix4 0 k t s) else 0 := by
  have h : val_main_v41 (F := Ideal) x3 (ix3 k t s) = x3 (ix4 0 k t s) :=
    shapeCast_apply _ _ (ix3 k t s) (ix4 0 k t s)
      (by rewrite [Shape.rowMajor_val_four, Shape.rowMajor_val_three]; show ((0 * 8 + k.val) * 128 + t.val) * 128 + s.val = (k.val * 128 + t.val) * 128 + s.val; omega)
  have hc := causal_at t s
  have hz : val_main_call1_v2 (F := Ideal) (ix3 k t s) = 0 := by
    pointwise [val_main_call1_v2, val_main_call1_v0, val_main_c_8]
    simp [FloatOps.sitofp]
  rw [val_main_v42_apply, h, hz, val_main_call1_v1_apply, val_main_v40_apply]
  have e : idx_main_v40 (idx_main_call1_v1 (ix3 k t s)) = ix2 t s := funext fun a => by fin_cases a <;> rfl
  rw [e, hc]
  by_cases hs : s ≤ t <;> simp [hs, Scalar.select]

theorem bias_at (q : Fin 64) (t : Fin 128) (k : Fin 8) (e : Fin 64) : val_main_v48 (F := Ideal) x4 (ix4 q t k e) = x4 (ix3 0 k t) := by
  rw [val_main_v48_apply, val_main_v47_apply, val_main_v46_apply, val_main_v45_apply]
  refine congrArg x4 (funext fun a => Fin.ext ?_)
  have := t.isLt
  have := k.isLt
  fin_cases a
  · rfl
  · show (k.val * 128 + t.val) / 128 % 8 = k.val
    omega
  · show (k.val * 128 + t.val) % 128 = t.val
    omega

/-- The mixed rows. -/
theorem mixed_at (q : Fin 64) (t : Fin 128) (l : Fin 512) (r : Fin 8192) (hr : r.val = q.val * 128 + t.val) : val_main_v50 (F := Ideal) x0 x1 x2 x3 x4 (ix2 r l)
    = (∑ s : Fin 128, (if s ≤ t then x3 (ix4 0 (grp l) t s) else 0)
        * lnorm (fun j => gel (x0 (ix2 ⟨q.val * 128 + s.val, by omega⟩ ⟨2048 + j.val, by omega⟩))) (x1 (ix2 0 l)) (x2 (ix2 0 l)) l) + x4 (ix3 0 (grp l) t) := by
  have hi : idx_main_v50 (ix2 r l) = ix4 q t (grp l) ⟨l.val % 64, by omega⟩ := funext fun a => Fin.ext (by
    have := t.isLt
    have := l.isLt
    fin_cases a
    · show (r.val * 512 + l.val) / 65536 = q.val
      omega
    · show (r.val * 512 + l.val) / 512 % 128 = t.val
      omega
    · show (r.val * 512 + l.val) / 64 % 8 = l.val / 64
      omega
    · show (r.val * 512 + l.val) % 64 = l.val % 64
      omega)
  rw [val_main_v50_apply, hi, val_main_v49_apply, bias_at, val_main_v44_apply, val_main_v43_apply]
  refine congrArg (fun z : EReal => z + x4 (ix3 0 (grp l) t)) (Finset.sum_congr rfl fun s _ => ?_)
  have hl : lidx_main_v43 (idx_main_v44 (ix4 q t (grp l) ⟨l.val % 64, by omega⟩)) s = ix4 q s (grp l) ⟨l.val % 64, by omega⟩ := funext fun a => by fin_cases a <;> rfl
  have hw : ridx_main_v43 (idx_main_v44 (ix4 q t (grp l) ⟨l.val % 64, by omega⟩)) s = ix3 (grp l) t s := funext fun a => by fin_cases a <;> rfl
  have hn : idx_main_v37 (ix4 q s (grp l) ⟨l.val % 64, by omega⟩) = ix2 ⟨q.val * 128 + s.val, by omega⟩ l := funext fun a => Fin.ext (by
    have := s.isLt
    have := l.isLt
    fin_cases a
    · show (((q.val * 128 + s.val) * 8 + l.val / 64) * 64 + l.val % 64) / 512 = q.val * 128 + s.val
      omega
    · show (((q.val * 128 + s.val) * 8 + l.val / 64) * 64 + l.val % 64) % 512 = l.val
      omega)
  rw [hl, hw, weights_at, val_main_v37_apply, hn, norm_at]
  exact mul_comm _ _

theorem gated_at (r : Fin 8192) (l : Fin 512) : val_main_v52 (F := Ideal) x0 x1 x2 x3 x4 (ix2 r l)
    = gel (x0 (ix2 r ⟨1536 + l.val, by omega⟩)) * val_main_v50 (F := Ideal) x0 x1 x2 x3 x4 (ix2 r l) := by
  have h : val_main_v15 (F := Ideal) x0 (ix2 r l) = gel (x0 (ix2 r ⟨1536 + l.val, by omega⟩)) := by
    have h := gelu_at x0 r ⟨l.val, by omega⟩
    unfold val_main_v15
    generalize val_main_v14 (F := Ideal) x0 = H at h ⊢
    pointwise
    exact h
  rw [← h]
  rfl

end Cert.GatefRIdeal.Ref

end
-- ==== Proof.GatefClaim.lean ====
/-
  The forward spatial gate: kernel and reference leave the same two arrays.
-/
module

public import proofs.«01_k».proof.Defs
public import proofs.«01_k».proof.Proof.GatefRef
public import proofs.«01_k».proof.Proof.Gen.GatefRIdeal.Run

@[expose] public section

set_option maxRecDepth 16384

noncomputable section

namespace Cert.Gatef

open Idealize.ShloMosaic Idealize.ShloMosaic.TcCoe Idealize.SL.Sem Cert.Finite

/-- The kernel's mixed rows and their product with the gate are the reference's, whatever the arguments. -/
theorem claim : @Cert.algebraic_GatefKIdeal_GatefRIdeal Cert.GatefKIdeal.Gen.facts Cert.GatefRIdeal.Gen.facts := by
  intro m g m' g' _ hargs
  refine ⟨fun c => (GatefKIdeal.Gen.dats m 0 c).arrAt 5 _, fun c => (GatefKIdeal.Gen.dats m 0 c).arrAt 6 _,
    GatefKIdeal.Value.run_blocks m g, (θ_run GatefRIdeal.defs _ _).mono (fun r h c => ?_) (GatefRIdeal.Value.run m' g')⟩
  obtain ⟨a0, a1, a2, a3, a4⟩ := hargs c
  obtain ⟨h0, h1, k⟩ := h c
  have hm : ∀ (n : Fin 8192) (l : Fin 512), GatefRIdeal.Read.val_main_v50 (F := Ideal) (m ((c : Thread GatefKIdeal.nD GatefKIdeal.τ).loc GatefKIdeal.main_arg0)) (m ((c : Thread GatefKIdeal.nD GatefKIdeal.τ).loc GatefKIdeal.main_arg1))
      (m ((c : Thread GatefKIdeal.nD GatefKIdeal.τ).loc GatefKIdeal.main_arg2)) (m ((c : Thread GatefKIdeal.nD GatefKIdeal.τ).loc GatefKIdeal.main_arg3)) (m ((c : Thread GatefKIdeal.nD GatefKIdeal.τ).loc GatefKIdeal.main_arg4)) (ix2 n l)
        = GatefKIdeal.Block.mxr m c n l := fun n l =>
    GatefRIdeal.Ref.mixed_at _ _ _ _ _ ⟨n.val / 128, by omega⟩ ⟨n.val % 128, by omega⟩ l n (by show n.val = n.val / 128 * 128 + n.val % 128; omega)
  refine ⟨(h0.trans ?_).trans (GatefKIdeal.Block.final5 m c).symm, (h1.trans ?_).trans (GatefKIdeal.Block.final6 m c).symm, k⟩
  · refine (GatefRIdeal.Read.val_main_v50_eq m' c).trans ?_
    rw [a0, a1, a2, a3, a4]
    exact ext2 fun n l => hm n l
  · refine (GatefRIdeal.Read.val_main_v52_eq m' c).trans ?_
    rw [a0, a1, a2, a3, a4]
    refine ext2 fun n l => (GatefRIdeal.Ref.gated_at _ _ _ _ _ n l).trans ?_
    exact congrArg (fun z : EReal => _ * z) (hm n l)

/-- The reference runs to its end and leaves its arguments and counters as they were: it declares no semaphore. -/
theorem refFrame : @Cert.quiescent_GatefRIdeal Cert.GatefRIdeal.Gen.facts := fun m ρ _ =>
  (θ_run GatefRIdeal.defs _ _).mono (fun r h => ⟨fun c => (h c).2.2, Idealize.ShloMosaic.sem_eq_zero_of_no_sems (by decide) r.2⟩)
    (GatefRIdeal.Value.run m ρ)

end Cert.Gatef

end
-- ==== Proof.GatebBlock.lean ====
/- What one grid step of the spatial gate's backward kernel adds to the gradient of the
bias, and the array all steps leave. -/
module

public import proofs.«01_k».proof.Proof.Finite
public import proofs.«01_k».proof.Proof.Gen.GatebKIdeal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Tactic

@[expose] public section

set_option maxRecDepth 16384

noncomputable section

namespace Cert.GatebKIdeal.Block

open Cert.GatebKIdeal Cert.GatebKIdeal.Gen Idealize.ShloMosaic Idealize.ShloMosaic.TcCoe Idealize.SL.Sem

/-- The gelu. -/
abbrev gel (z : EReal) : EReal :=
  Ideal.ofBits .f32 0x3F000000#32 * z * (1 + Ideal.tanh (Ideal.ofBits .f32 0x3F4C422A#32 * (z + Ideal.ofBits .f32 0x3D372713#32 * z * z * z)))

theorem gel_at (v : Vec Ideal S512x1024 .bf16) (r : Fin 512) (l : Fin 1024) : k0_pay10 v (ix2 r l) = gel (v (ix2 r l)) := by
  pointwise [k0_pay10, k0_pay9, k0_pay8]

/-- The first half of the gelu's lanes is the gate. -/
theorem gate_at (v : Vec Ideal S512x1024 .bf16) (r : Fin 512) (l : Fin 512) : k0_pay11 v (ix2 r l) = gel (v (ix2 r ⟨l.val, by omega⟩)) := by
  unfold k0_pay11
  have h := gel_at v
  generalize k0_pay10 v = H at h ⊢
  pointwise
  exact h _ _

/-- The mixed rows' gradient: the product's, times the gate. -/
theorem dm_at (v : Vec Ideal S512x1024 .bf16) (d : Vec Ideal S512x512 .f32) (r : Fin 512) (l : Fin 512) :
    k0_pay19 (k0_pay11 v) d (ix2 r l) = d (ix2 r l) * gel (v (ix2 r ⟨l.val, by omega⟩)) := by
  rw [← gate_at]
  rfl

/-- The comparison behind `sel_at`, before it is read as a number. -/
theorem sel_bit : ∀ (k : Fin 8) (l : Fin 512),
    (IntOp.cmpi CmpIPredicate.eq
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 l.val) 64#32) 0#32))
            (IntOp.subi (IntOp.divsi ArithUnit.vector (BitVec.ofNat 32 l.val) 64#32) 1#32)
            (IntOp.divsi ArithUnit.vector (BitVec.ofNat 32 l.val) 64#32))
          (BitVec.ofNat 32 k.val)) = if l.val / 64 = k.val then 1#1 else 0#1 := by
  decide +kernel

/-- One where lane `l` lies in group `k`, zero elsewhere. -/
theorem sel_at (k : Fin 8) (l : Fin 512) :
    k0_pay31 (F := Ideal) (iota .tc S8x512 32 [1] iota_S8x512_d1_w32) 64#32 (ix2 k l) = if l.val / 64 = k.val then 1 else 0 := by
  pointwise [k0_pay31]
  rw [sel_bit]
  by_cases h : l.val / 64 = k.val <;> simp [h, FloatOps.sitofp]

variable (S : FVec Ideal S8x512 .f32) (D : FVec Ideal S512x512 .f32) (k : Fin 8) (t : Fin 128)

/-- A chunk's part of the bias's gradient. -/
abbrev part (q : ℕ) (hq : q + 128 ≤ 512) : EReal := ∑ l : Fin 512, S (ix2 k l) * D (ix2 ⟨q + t.val, by omega⟩ l)

theorem bias0 (o : Vec Ideal S8x128 .f32) : k0_pay59 S (k0_pay32 D) o (ix2 k t) = o (ix2 k t) + part S D k t 0 (by omega) := by
  pointwise [k0_pay59, k0_pay32]
  simp only [part, Nat.zero_add]
theorem bias1 (o : Vec Ideal S8x128 .f32) : k0_pay76 S (k0_pay61 D) o (ix2 k t) = o (ix2 k t) + part S D k t 128 (by omega) := by
  pointwise [k0_pay76, k0_pay61]
  try rfl
theorem bias2 (o : Vec Ideal S8x128 .f32) : k0_pay93 S (k0_pay78 D) o (ix2 k t) = o (ix2 k t) + part S D k t 256 (by omega) := by
  pointwise [k0_pay93, k0_pay78]
  try rfl
theorem bias3 (o : Vec Ideal S8x128 .f32) : k0_pay115 S (k0_pay95 D) o (ix2 k t) = o (ix2 k t) + part S D k t 384 (by omega) := by
  pointwise [k0_pay115, k0_pay95]
  try rfl
theorem bias_zero : k0_pay7 (F := Ideal) (ix2 k t) = 0 := by
  pointwise [k0_pay7]

/-- A sum against a group's selector is the sum over the group's lanes. -/
theorem sum_sel (k : Fin 8) (f : Fin 512 → EReal) :
    ∑ l : Fin 512, (if l.val / 64 = k.val then (1 : EReal) else 0) * f l = ∑ e : Fin 64, f ⟨k.val * 64 + e.val, by omega⟩ := by
  have h : ∑ g : Fin 8, ∑ e : Fin 64, (if (g.val * 64 + e.val) / 64 = k.val then (1 : EReal) else 0) * f ⟨g.val * 64 + e.val, by omega⟩
      = ∑ l : Fin 512, (if l.val / 64 = k.val then (1 : EReal) else 0) * f l := by
    refine Fin.sum_mul_add_congr fun s k h => ?_
    rfl
  rw [← h, Finset.sum_eq_single k]
  · refine Finset.sum_congr rfl fun e _ => ?_
    rw [if_pos (by omega), one_mul]
  · intro g _ hg
    refine Finset.sum_eq_zero fun e _ => ?_
    rw [if_neg (fun h => hg (Fin.ext (by omega))), zero_mul]
  · exact fun h => absurd (Finset.mem_univ _) h

/-- The mixed rows' gradient, from the projection and the gradient of the gate's result. -/
def dmOf (x0 : Vec Ideal S8192x2560 .bf16) (x5 : Vec Ideal S8192x1024 .f32) (r : Fin 8192) (l : Fin 512) : EReal :=
  x5 (ix2 r ⟨512 + l.val, by omega⟩) * gel (x0 (ix2 r ⟨1536 + l.val, by omega⟩))

variable (m : (ℓ : Loc nD τ sig) → Buf (Elt Ideal) ℓ) (c : Dev nD)

/-- The mixed rows' gradient, over all rows. -/
abbrev dmr (r : Fin 8192) (l : Fin 512) : EReal :=
  dmOf (m ((c : Thread nD τ).loc main_arg0)) (m ((c : Thread nD τ).loc main_arg5)) r l

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e10 : ∀ t : Fin cfg0.N, win0_10.index t = ![0, 0] := (by decide +kernel : ∀ t : Fin grid0.N, _)

/-- Row `r` of the block of point `t`. -/
abbrev at_ (t : Fin cfg0.N) (r : Fin 512) : Fin 8192 := ⟨t.val * 512 + r.val, by have := t.isLt; have : cfg0.N = 16 := N_0; omega⟩

/-- The block's rows of the mixed rows' gradient. -/
abbrev dmb (t : Fin cfg0.N) : FVec Ideal S512x512 .f32 :=
  k0_pay19 (k0_pay11 (View.ld (iblk m c 1 t) (Rect.unit ![0, 1536] ![512, 1024] inb_S512x2560_S512x1024_0_1536)))
    (View.ld (iblk m c 0 t) (Rect.unit ![0, 512] ![512, 512] inb_S512x1024_S512x512_0_512))

theorem dmb_at (t : Fin cfg0.N) (r l : Fin 512) : dmb m c t (ix2 r l) = dmr m c (at_ t r) l := by
  have h0 : View.ld (iblk m c 0 t) (Rect.unit ![0, 512] ![512, 512] inb_S512x1024_S512x512_0_512) (ix2 r l)
      = (m ((c : Thread nD τ).loc main_arg5) : Vec Ideal S8192x1024 .f32) (ix2 (at_ t r) ⟨512 + l.val, by omega⟩) := by
    have h : (win0_0.blk t).view.emb ((Rect.unit (s := S512x1024) ![0, 512] ![512, 512] inb_S512x1024_S512x512_0_512).emb (ix2 r l)) = (ix2 (at_ t r) ⟨512 + l.val, by omega⟩ : S8192x1024.Idx) := by blk_ext [e0]
    blk_simp [iblk]
    show V m c main_arg5 ((win0_0.blk t).view.emb ((Rect.unit (s := S512x1024) ![0, 512] ![512, 512] inb_S512x1024_S512x512_0_512).emb (ix2 r l))) = _
    rw [h, V_main_arg5]
  have h1 : View.ld (iblk m c 1 t) (Rect.unit ![0, 1536] ![512, 1024] inb_S512x2560_S512x1024_0_1536) (ix2 r ⟨l.val, by omega⟩)
      = (m ((c : Thread nD τ).loc main_arg0) : Vec Ideal S8192x2560 .bf16) (ix2 (at_ t r) ⟨1536 + l.val, by omega⟩) := by
    have h : (win0_1.blk t).view.emb ((Rect.unit (s := S512x2560) ![0, 1536] ![512, 1024] inb_S512x2560_S512x1024_0_1536).emb (ix2 r ⟨l.val, by omega⟩)) = (ix2 (at_ t r) ⟨1536 + l.val, by omega⟩ : S8192x2560.Idx) := by blk_ext [e1]
    blk_simp [iblk]
    show V m c main_arg0 ((win0_1.blk t).view.emb ((Rect.unit (s := S512x2560) ![0, 1536] ![512, 1024] inb_S512x2560_S512x1024_0_1536).emb (ix2 r ⟨l.val, by omega⟩))) = _
    rw [h, V_main_arg0]
  refine (dm_at _ _ r l).trans ?_
  rw [h0, h1]
  rfl

/-- What one grid step adds: its four chunks' sums over the group's lanes. -/
abbrev step (t : Fin cfg0.N) (y : S8x128.Idx) : EReal :=
  ∑ ch : Fin 4, ∑ e : Fin 64, dmr m c (at_ t ⟨ch.val * 128 + (y 1).val, by have : (y 1).val < 128 := (y 1).isLt; omega⟩) ⟨(y 0).val * 64 + e.val, by have : (y 0).val < 8 := (y 0).isLt; omega⟩

theorem part_at (t : Fin cfg0.N) (k : Fin 8) (s : Fin 128) (q : ℕ) (hq : q + 128 ≤ 512) :
    part (k0_pay31 (F := Ideal) (iota .tc S8x512 32 [1] iota_S8x512_d1_w32) 64#32) (dmb m c t) k s q hq
      = ∑ e : Fin 64, dmr m c (at_ t ⟨q + s.val, by omega⟩) ⟨k.val * 64 + e.val, by omega⟩ := by
  refine (Finset.sum_congr rfl fun l _ => ?_).trans (sum_sel k fun l => dmr m c (at_ t ⟨q + s.val, by omega⟩) l)
  rw [sel_at, dmb_at]

/-- The four stores of a step, over what was there. -/
theorem chunks (t : Fin cfg0.N) (o : Vec Ideal S8x128 .f32) (k : Fin 8) (s : Fin 128) :
    k0_pay115 (k0_pay31 (F := Ideal) (iota .tc S8x512 32 [1] iota_S8x512_d1_w32) 64#32) (k0_pay95 (dmb m c t))
      (k0_pay93 (k0_pay31 (iota .tc S8x512 32 [1] iota_S8x512_d1_w32) 64#32) (k0_pay78 (dmb m c t))
        (k0_pay76 (k0_pay31 (iota .tc S8x512 32 [1] iota_S8x512_d1_w32) 64#32) (k0_pay61 (dmb m c t))
          (k0_pay59 (k0_pay31 (iota .tc S8x512 32 [1] iota_S8x512_d1_w32) 64#32) (k0_pay32 (dmb m c t)) o))) (ix2 k s)
      = o (ix2 k s) + step m c t (ix2 k s) := by
  rw [bias3, bias2, bias1, bias0, part_at, part_at, part_at, part_at]
  simp only [step, Fin.sum_univ_four, add_assoc]
  rfl

/-- The chunks of all points are all the chunks. -/
theorem sum_chunks (f : Fin 64 → EReal) :
    ∑ p : Fin cfg0.N, ∑ ch : Fin 4, f ⟨p.val * 4 + ch.val, by have := p.isLt; have : cfg0.N = 16 := N_0; omega⟩ = ∑ q, f q := by
  refine Fin.sum_mul_add_congr fun s k h => ?_
  rfl

/-- The gradient of the bias: for each group and row of a chunk, a sum over all chunks and the group's lanes. -/
def dsb (i : S8x128.Idx) : EReal :=
  ∑ q : Fin 64, ∑ e : Fin 64, dmr m c ⟨q.val * 128 + (i 1).val, by have : (i 1).val < 128 := (i 1).isLt; omega⟩ ⟨(i 0).val * 64 + e.val, by have : (i 0).val < 8 := (i 0).isLt; omega⟩

/-- All steps together. -/
theorem sum_steps (y : S8x128.Idx) : ∑ p : Fin cfg0.N, step m c p y = dsb m c y := by
  refine (Finset.sum_congr rfl fun p _ => Finset.sum_congr rfl fun ch _ => Finset.sum_congr rfl fun e _ => ?_).trans
    (sum_chunks fun q => ∑ e : Fin 64, dmr m c ⟨q.val * 128 + (y 1).val, by have : (y 1).val < 128 := (y 1).isLt; omega⟩ ⟨(y 0).val * 64 + e.val, by have : (y 0).val < 8 := (y 0).isLt; omega⟩)
  refine congrArg (fun r => dmr m c r _) (Fin.ext ?_)
  show p.val * 512 + (ch.val * 128 + (y 1).val) = (p.val * 4 + ch.val) * 128 + (y 1).val
  omega

/-- The array all steps leave is the gradient of the bias. -/
theorem final10 : (dats m 0 c).arrAt 10 cfg0.N = dsb m c := by
  refine (dats m 0 c).arrAt_eq_of_covers 10 _ (by decide +kernel) fun t hf y => ?_
  have h15 : t.val % 16 = 15 := (flush0_10 t).mp hf
  have hN : cfg0.grid.N = 16 := N_0
  have hl : t.val + 1 = cfg0.grid.N := by have := t.isLt; omega
  have h : (win0_10.blk t).view.emb y = (ix2 (y 0) (y 1) : S8x128.Idx) := by blk_ext [e10]
  blk_simp
  rw [after0_10, h]
  rw [show (ix2 (y 0) (y 1) : S8x128.Idx) = y from (eq_ix2 y).symm]
  rw [Pipeline.eq_sum_fin_of_reset_step_apply_last (fun n h => (outsAt0 m c n h).2.2.2.2) 16 (fun _ => 0) (step m c)
      (fun t h y => by
        rw [outsAt0_A m c t h]; frame_out
        exact (congrArg _ (eq_ix2 y)).trans ((chunks m c t _ (y 0) (y 1)).trans (congrArg₂ (· + ·) (bias_zero _ _) (congrArg _ (eq_ix2 y).symm))))
      (fun t h y => by
        rw [outsAt0_B m c t h]; frame_out
        exact (congrArg _ (eq_ix2 y)).trans ((chunks m c t _ (y 0) (y 1)).trans (congrArg₂ (· + ·) (congrArg _ (eq_ix2 y).symm) (congrArg _ (eq_ix2 y).symm))))
      (le_of_eq N_0) t hl y, zero_add]
  exact sum_steps m c y

/-- The run, its gradient of the bias alone. -/
theorem run_bias (g : Dev nD → PrngReg) : θ_run defs (onTc (τ := τ) (main (F := Ideal))) ⟨m, fun _ => 0, g⟩ fun r => ∀ c : Dev nD,
      r.2.mem ((c : Thread nD τ).loc main_v47_4) = dsb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨_, _, _, _, h4, k⟩ := h c
    exact ⟨h4.trans (final10 m c), k⟩) (Cert.GatebKIdeal.Value.run_blocks m g)

end Cert.GatebKIdeal.Block

end
-- ==== Proof.GatebRef.lean ====
/- The gradient of the spatial gate's bias as the reference computes it, element by element. -/
module

public import proofs.«01_k».proof.Proof.GatebBlock
public import proofs.«01_k».proof.Proof.Gen.GatebRIdeal.Read
public import Idealize.ShloMosaic.Lib.Pipeline.ValueKit.Tiles
public import Idealize.ShloMosaic.Lib.Tactic

@[expose] public section

set_option maxRecDepth 16384

noncomputable section

namespace Cert.GatebRIdeal.Ref

open Cert.GatebRIdeal Cert.GatebRIdeal.Read Idealize.ShloMosaic Idealize.ShloMosaic.TcCoe
open Cert.GatebKIdeal.Block (gel)

/-- A sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (z : EReal) (a : Fin n1) (b : Fin n2) :
    Ideal.hostReduceAdd h v z (ix2 a b) = z + ∑ k0 : Fin n0, ∑ k1 : Fin n3, v (ix4 k0 a b k1) := by
  refine congrArg (z + ·) ((Finset.sum_filter_eq_sum_of_fiber _ (fun k : Fin n0 × Fin n3 => ix4 k.1 a b k.2)
    (fun _ _ e => Prod.ext (congrFun e 0) (congrFun e 3)) (fun i => ?_) v).trans (by simp only [Fintype.sum_prod_type]))
  constructor
  · intro e
    refine ⟨(i 0, i 3), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x
    apply Fin.ext
    match x with
    | ⟨0, _⟩ => rfl
    | ⟨1, _⟩ => rfl

variable (x0 : FVec Ideal S8192x2560 .bf16) (x5 : FVec Ideal S8192x1024 .f32)

theorem gelu_at (r : Fin 8192) (l : Fin 1024) : val_main_v14 (F := Ideal) x0 (ix2 r l) = gel (x0 (ix2 r ⟨1536 + l.val, by omega⟩)) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  generalize x0 _ = z
  have e : Ideal.ofBits .f32 0x3D372713#32 * z * z * z = Ideal.ofBits .f32 0x3D372713#32 * (z * z * z) := by simp only [mul_assoc]
  unfold gel
  rw [e]
  exact (mul_left_comm _ _ _).trans (mul_assoc _ _ _).symm

/-- The mixed rows' gradient. -/
theorem dm_at (r : Fin 8192) (l : Fin 512) : val_main_v51 (F := Ideal) x0 x5 (ix2 r l)
    = x5 (ix2 r ⟨512 + l.val, by omega⟩) * gel (x0 (ix2 r ⟨1536 + l.val, by omega⟩)) := by
  have h : val_main_v15 (F := Ideal) x0 (ix2 r l) = gel (x0 (ix2 r ⟨1536 + l.val, by omega⟩)) := by
    have h := gelu_at x0 r ⟨l.val, by omega⟩
    unfold val_main_v15
    generalize val_main_v14 (F := Ideal) x0 = H at h ⊢
    pointwise
    exact h
  have h5 : val_main_v50 (F := Ideal) x5 (ix2 r l) = x5 (ix2 r ⟨512 + l.val, by omega⟩) := by
    pointwise [val_main_v50]
  rw [val_main_v51_apply, h, h5]
  exact mul_comm _ _

/-- The bias's gradient. -/
theorem bias_at (k : Fin 8) (t : Fin 128) : val_main_v56 (F := Ideal) x0 x5 (ix2 k t)
    = ∑ q : Fin 64, ∑ e : Fin 64, x5 (ix2 ⟨q.val * 128 + t.val, by omega⟩ ⟨512 + (k.val * 64 + e.val), by omega⟩)
        * gel (x0 (ix2 ⟨q.val * 128 + t.val, by omega⟩ ⟨1536 + (k.val * 64 + e.val), by omega⟩)) := by
  have z : Ideal.ofBits .f32 0x00000000#32 = (0 : EReal) := by simp [Ideal.ofBits, Ideal.ieee]
  have h53 : val_main_v53 (F := Ideal) x0 x5 (ix2 t k) = ∑ q : Fin 64, ∑ e : Fin 64, val_main_v52 (F := Ideal) x0 x5 (ix4 q t k e) := by
    refine (sum_outer (n0 := 64) (n1 := 128) (n2 := 8) (n3 := 64) _ (val_main_v52 (F := Ideal) x0 x5) (Ideal.ofBits .f32 0x00000000#32) t k).trans ?_
    rw [z, zero_add]
  have h55 : val_main_v55 (F := Ideal) x0 x5 (ix2 t k) = val_main_v53 (F := Ideal) x0 x5 (ix2 t k) := by
    refine (sum_outer (n0 := 1) (n1 := 128) (n2 := 8) (n3 := 1) _ (val_main_v54 (F := Ideal) x0 x5) (Ideal.ofBits .f32 0x00000000#32) t k).trans ?_
    rw [z, zero_add, Fin.sum_univ_one, Fin.sum_univ_one, val_main_v54_apply]
    refine congrArg _ (funext fun a => Fin.ext ?_)
    have := t.isLt
    have := k.isLt
    fin_cases a
    · show (((0 * 128 + t.val) * 8 + k.val) * 1 + 0) / 8 = t.val
      omega
    · show (((0 * 128 + t.val) * 8 + k.val) * 1 + 0) % 8 = k.val
      omega
  have e56 : idx_main_v56 (ix2 k t) = ix2 t k := funext fun a => by fin_cases a <;> rfl
  rw [val_main_v56_apply, e56, h55, h53]
  refine Finset.sum_congr rfl fun q _ => Finset.sum_congr rfl fun e _ => ?_
  have e52 : idx_main_v52 (ix4 q t k e) = ix2 ⟨q.val * 128 + t.val, by omega⟩ ⟨k.val * 64 + e.val, by omega⟩ := funext fun a => Fin.ext (by
    have := t.isLt
    have := k.isLt
    have := e.isLt
    fin_cases a
    · show (((q.val * 128 + t.val) * 8 + k.val) * 64 + e.val) / 512 = q.val * 128 + t.val
      omega
    · show (((q.val * 128 + t.val) * 8 + k.val) * 64 + e.val) % 512 = k.val * 64 + e.val
      omega)
  rw [val_main_v52_apply, e52, dm_at]

end Cert.GatebRIdeal.Ref

end
-- ==== Proof.GatebClaim.lean ====
/-
  The spatial gate's backward call: kernel and reference leave the same gradient of the bias.
-/
module

public import proofs.«01_k».proof.Defs
public import proofs.«01_k».proof.Proof.GatebRef
public import proofs.«01_k».proof.Proof.Gen.GatebRIdeal.Run

@[expose] public section

set_option maxRecDepth 16384

noncomputable section

namespace Cert.Gateb

open Idealize.ShloMosaic Idealize.ShloMosaic.TcCoe Idealize.SL.Sem Cert.Finite

/-- The reference's gradient of the bias, of the kernel's arguments, is the kernel's. -/
theorem same (m : (ℓ : Loc GatebKIdeal.nD GatebKIdeal.τ GatebKIdeal.sig) → Buf (Elt Ideal) ℓ) (c : Dev GatebKIdeal.nD) :
    GatebRIdeal.Read.val_main_v56 (F := Ideal) (m ((c : Thread GatebKIdeal.nD GatebKIdeal.τ).loc GatebKIdeal.main_arg0))
      (m ((c : Thread GatebKIdeal.nD GatebKIdeal.τ).loc GatebKIdeal.main_arg5)) = GatebKIdeal.Block.dsb m c := by
  refine ext2 fun k t => (GatebRIdeal.Ref.bias_at _ _ k t).trans ?_
  unfold GatebKIdeal.Block.dsb GatebKIdeal.Block.dmr GatebKIdeal.Block.dmOf
  rfl

/-- The kernel's gradient of the bias is the reference's, whatever the arguments. -/
theorem claim : @Cert.algebraic_GatebKIdeal_GatebRIdeal Cert.GatebKIdeal.Gen.facts Cert.GatebRIdeal.Gen.facts := by
  intro m g m' g' _ hargs
  refine ⟨fun c => GatebKIdeal.Block.dsb m c, GatebKIdeal.Block.run_bias m g, (θ_run GatebRIdeal.defs _ _).mono (fun r h c => ?_) (GatebRIdeal.Value.run m' g')⟩
  obtain ⟨a0, a1, a2, a3, a4, a5⟩ := hargs c
  obtain ⟨h0, k⟩ := h c
  refine ⟨h0.trans ?_, k⟩
  refine (GatebRIdeal.Read.val_main_v56_eq _ _).trans ?_
  rw [a0, a5]
  exact same m c

/-- The reference runs to its end and leaves its arguments and counters as they were: it declares no semaphore. -/
theorem refFrame : @Cert.quiescent_GatebRIdeal Cert.GatebRIdeal.Gen.facts := fun m ρ _ =>
  (θ_run GatebRIdeal.defs _ _).mono (fun r h => ⟨fun c => (h c).2, Idealize.ShloMosaic.sem_eq_zero_of_no_sems (by decide) r.2⟩)
    (GatebRIdeal.Value.run m ρ)

end Cert.Gateb

end
-- ==== Proof.lean ====
/-
  The claims, each from the module that proves it.
-/
module

public import proofs.«01_k».proof.Defs
public import proofs.«01_k».proof.Proof.FinalClaim
public import proofs.«01_k».proof.Proof.Gen.FinalK.Frame
public import proofs.«01_k».proof.Proof.Gen.FinalKIdeal.Value
public import proofs.«01_k».proof.Proof.Gen.FinalRIdeal.Run
public import proofs.«01_k».proof.Proof.DactClaim
public import proofs.«01_k».proof.Proof.Gen.DactK.Frame
public import proofs.«01_k».proof.Proof.Gen.DactKIdeal.Value
public import proofs.«01_k».proof.Proof.Gen.DactRIdeal.Run
public import proofs.«01_k».proof.Proof.DnClaim
public import proofs.«01_k».proof.Proof.Gen.DnK.Frame
public import proofs.«01_k».proof.Proof.Gen.DnKIdeal.Value
public import proofs.«01_k».proof.Proof.Gen.DnRIdeal.Run
public import proofs.«01_k».proof.Proof.TailClaim
public import proofs.«01_k».proof.Proof.Gen.TailK.Frame
public import proofs.«01_k».proof.Proof.Gen.TailKIdeal.Value
public import proofs.«01_k».proof.Proof.Gen.TailRIdeal.Run
public import proofs.«01_k».proof.Proof.DninClaim
public import proofs.«01_k».proof.Proof.Gen.DninK.Frame
public import proofs.«01_k».proof.Proof.Gen.DninKIdeal.Value
public import proofs.«01_k».proof.Proof.Gen.DninRIdeal.Run
public import proofs.«01_k».proof.Proof.DnodClaim
public import proofs.«01_k».proof.Proof.Gen.DnodK.Frame
public import proofs.«01_k».proof.Proof.Gen.DnodKIdeal.Value
public import proofs.«01_k».proof.Proof.Gen.DnodRIdeal.Run
public import proofs.«01_k».proof.Proof.Attn16Claim
public import proofs.«01_k».proof.Proof.Gen.Attnf16K.Frame
public import proofs.«01_k».proof.Proof.Gen.Attnf16KIdeal.Value
public import proofs.«01_k».proof.Proof.Gen.Attnf16RIdeal.Run
public import proofs.«01_k».proof.Proof.Attn4Claim
public import proofs.«01_k».proof.Proof.Gen.Attnf4K.Frame
public import proofs.«01_k».proof.Proof.Gen.Attnf4KIdeal.Value
public import proofs.«01_k».proof.Proof.Gen.Attnf4RIdeal.Run
public import proofs.«01_k».proof.Proof.Attn1Claim
public import proofs.«01_k».proof.Proof.Gen.Attnf1K.Frame
public import proofs.«01_k».proof.Proof.Gen.Attnf1KIdeal.Value
public import proofs.«01_k».proof.Proof.Gen.Attnf1RIdeal.Run
public import proofs.«01_k».proof.Proof.AttnEClaim
public import proofs.«01_k».proof.Proof.Gen.AttnfeK.Frame
public import proofs.«01_k».proof.Proof.Gen.AttnfeKIdeal.Value
public import proofs.«01_k».proof.Proof.Gen.AttnfeRIdeal.Run
public import proofs.«01_k».proof.Proof.Attnb16Claim
public import proofs.«01_k».proof.Proof.Gen.Attnb16K.Frame
public import proofs.«01_k».proof.Proof.Gen.Attnb16KIdeal.Value
public import proofs.«01_k».proof.Proof.Gen.Attnb16RIdeal.Run
public import proofs.«01_k».proof.Proof.PosteClaim
public import proofs.«01_k».proof.Proof.Gen.PosteK.Frame
public import proofs.«01_k».proof.Proof.Gen.PosteKIdeal.Value
public import proofs.«01_k».proof.Proof.Gen.PosteRIdeal.Run
public import proofs.«01_k».proof.Proof.RmsfClaim
public import proofs.«01_k».proof.Proof.Gen.RmsfK.Frame
public import proofs.«01_k».proof.Proof.Gen.RmsfKIdeal.Value
public import proofs.«01_k».proof.Proof.Gen.RmsfRIdeal.Run
public import proofs.«01_k».proof.Proof.PrepeClaim
public import proofs.«01_k».proof.Proof.Gen.PrepeK.Frame
public import proofs.«01_k».proof.Proof.Gen.PrepeKIdeal.Value
public import proofs.«01_k».proof.Proof.Gen.PrepeRIdeal.Run
public import proofs.«01_k».proof.Proof.GupClaim
public import proofs.«01_k».proof.Proof.Gen.GupK.Frame
public import proofs.«01_k».proof.Proof.Gen.GupKIdeal.Value
public import proofs.«01_k».proof.Proof.Gen.GupRIdeal.Run
public import proofs.«01_k».proof.Proof.MnfClaim
public import proofs.«01_k».proof.Proof.Gen.MnfK.Frame
public import proofs.«01_k».proof.Proof.Gen.MnfKIdeal.Value
public import proofs.«01_k».proof.Proof.Gen.MnfRIdeal.Run
public import proofs.«01_k».proof.Proof.MnmClaim
public import proofs.«01_k».proof.Proof.Gen.MnmK.Frame
public import proofs.«01_k».proof.Proof.Gen.MnmKIdeal.Value
public import proofs.«01_k».proof.Proof.Gen.MnmRIdeal.Run
public import proofs.«01_k».proof.Proof.GatefClaim
public import proofs.«01_k».proof.Proof.Gen.GatefK.Frame
public import proofs.«01_k».proof.Proof.Gen.GatefKIdeal.Value
public import proofs.«01_k».proof.Proof.Gen.GatefRIdeal.Run
public import proofs.«01_k».proof.Proof.GatebClaim
public import proofs.«01_k».proof.Proof.Gen.GatebK.Frame
public import proofs.«01_k».proof.Proof.Gen.GatebKIdeal.Value
public import proofs.«01_k».proof.Proof.Gen.GatebRIdeal.Run

@[expose] public section

noncomputable section

namespace Cert.Proof

open Idealize.ShloMosaic Idealize.SL.Sem

theorem claim : Cert.Claim := ⟨Cert.FinalK.Gen.facts, Cert.FinalKIdeal.Gen.facts, Cert.FinalRIdeal.Gen.facts, Cert.DactK.Gen.facts, Cert.DactKIdeal.Gen.facts, Cert.DactRIdeal.Gen.facts, Cert.DnK.Gen.facts, Cert.DnKIdeal.Gen.facts, Cert.DnRIdeal.Gen.facts, Cert.TailK.Gen.facts, Cert.TailKIdeal.Gen.facts, Cert.TailRIdeal.Gen.facts, Cert.DninK.Gen.facts, Cert.DninKIdeal.Gen.facts, Cert.DninRIdeal.Gen.facts, Cert.DnodK.Gen.facts, Cert.DnodKIdeal.Gen.facts, Cert.DnodRIdeal.Gen.facts, Cert.Attnf16K.Gen.facts, Cert.Attnf16KIdeal.Gen.facts, Cert.Attnf16RIdeal.Gen.facts, Cert.Attnf4K.Gen.facts, Cert.Attnf4KIdeal.Gen.facts, Cert.Attnf4RIdeal.Gen.facts, Cert.Attnf1K.Gen.facts, Cert.Attnf1KIdeal.Gen.facts, Cert.Attnf1RIdeal.Gen.facts, Cert.AttnfeK.Gen.facts, Cert.AttnfeKIdeal.Gen.facts, Cert.AttnfeRIdeal.Gen.facts, Cert.Attnb16K.Gen.facts, Cert.Attnb16KIdeal.Gen.facts, Cert.Attnb16RIdeal.Gen.facts, Cert.PosteK.Gen.facts, Cert.PosteKIdeal.Gen.facts, Cert.PosteRIdeal.Gen.facts, Cert.RmsfK.Gen.facts, Cert.RmsfKIdeal.Gen.facts, Cert.RmsfRIdeal.Gen.facts, Cert.PrepeK.Gen.facts, Cert.PrepeKIdeal.Gen.facts, Cert.PrepeRIdeal.Gen.facts, Cert.GupK.Gen.facts, Cert.GupKIdeal.Gen.facts, Cert.GupRIdeal.Gen.facts, Cert.MnfK.Gen.facts, Cert.MnfKIdeal.Gen.facts, Cert.MnfRIdeal.Gen.facts, Cert.MnmK.Gen.facts, Cert.MnmKIdeal.Gen.facts, Cert.MnmRIdeal.Gen.facts, Cert.GatefK.Gen.facts, Cert.GatefKIdeal.Gen.facts, Cert.GatefRIdeal.Gen.facts, Cert.GatebK.Gen.facts, Cert.GatebKIdeal.Gen.facts, Cert.GatebRIdeal.Gen.facts, Cert.Final.preFacts, Cert.Dact.preFacts, Cert.Dn.preFacts, Cert.Tail.preFacts, Cert.Dnin.preFacts, Cert.Dnod.preFacts, Cert.Attnb16.preFacts,
  fun m ρ _ => Cert.FinalK.Gen.frame m ρ,
  fun m ρ _ => Cert.FinalKIdeal.Gen.frame m ρ,
  fun m ρ _ => Cert.FinalKIdeal.Gen.frame m ρ,
  Cert.Final.refFrame,
  fun m ρ _ => Cert.Final.refFrame m ρ trivial,
  fun m ρ _ => Cert.DactK.Gen.frame m ρ,
  fun m ρ _ => Cert.DactKIdeal.Gen.frame m ρ,
  fun m ρ _ => Cert.DactKIdeal.Gen.frame m ρ,
  Cert.Dact.refFrame,
  fun m ρ _ => Cert.Dact.refFrame m ρ trivial,
  fun m ρ _ => Cert.DnK.Gen.frame m ρ,
  fun m ρ _ => Cert.DnKIdeal.Gen.frame m ρ,
  fun m ρ _ => Cert.DnKIdeal.Gen.frame m ρ,
  Cert.Dn.refFrame,
  fun m ρ _ => Cert.Dn.refFrame m ρ trivial,
  fun m ρ _ => Cert.TailK.Gen.frame m ρ,
  fun m ρ _ => Cert.TailKIdeal.Gen.frame m ρ,
  fun m ρ _ => Cert.TailKIdeal.Gen.frame m ρ,
  Cert.Tail.refFrame,
  fun m ρ _ => Cert.Tail.refFrame m ρ trivial,
  fun m ρ _ => Cert.DninK.Gen.frame m ρ,
  fun m ρ _ => Cert.DninKIdeal.Gen.frame m ρ,
  fun m ρ _ => Cert.DninKIdeal.Gen.frame m ρ,
  Cert.Dnin.refFrame,
  fun m ρ _ => Cert.Dnin.refFrame m ρ trivial,
  fun m ρ _ => Cert.DnodK.Gen.frame m ρ,
  fun m ρ _ => Cert.DnodKIdeal.Gen.frame m ρ,
  fun m ρ _ => Cert.DnodKIdeal.Gen.frame m ρ,
  Cert.Dnod.refFrame,
  fun m ρ _ => Cert.Dnod.refFrame m ρ trivial,
  fun m ρ _ => Cert.Attnf16K.Gen.frame m ρ,
  fun m ρ _ => Cert.Attnf16KIdeal.Gen.frame m ρ,
  Cert.Attn16.refFrame,
  fun m ρ _ => Cert.Attnf4K.Gen.frame m ρ,
  fun m ρ _ => Cert.Attnf4KIdeal.Gen.frame m ρ,
  Cert.Attn4.refFrame,
  fun m ρ _ => Cert.Attnf1K.Gen.frame m ρ,
  fun m ρ _ => Cert.Attnf1KIdeal.Gen.frame m ρ,
  Cert.Attn1.refFrame,
  fun m ρ _ => Cert.AttnfeK.Gen.frame m ρ,
  fun m ρ _ => Cert.AttnfeKIdeal.Gen.frame m ρ,
  Cert.AttnE.refFrame,
  fun m ρ _ => Cert.Attnb16K.Gen.frame m ρ,
  fun m ρ _ => Cert.Attnb16KIdeal.Gen.frame m ρ,
  fun m ρ _ => Cert.Attnb16KIdeal.Gen.frame m ρ,
  Cert.Attnb16.refFrame,
  fun m ρ _ => Cert.Attnb16.refFrame m ρ trivial,
  fun m ρ _ => Cert.PosteK.Gen.frame m ρ,
  fun m ρ _ => Cert.PosteKIdeal.Gen.frame m ρ,
  Cert.Poste.refFrame,
  fun m ρ _ => Cert.RmsfK.Gen.frame m ρ,
  fun m ρ _ => Cert.RmsfKIdeal.Gen.frame m ρ,
  Cert.Rmsf.refFrame,
  fun m ρ _ => Cert.PrepeK.Gen.frame m ρ,
  fun m ρ _ => Cert.PrepeKIdeal.Gen.frame m ρ,
  Cert.Prepe.refFrame,
  fun m ρ _ => Cert.GupK.Gen.frame m ρ,
  fun m ρ _ => Cert.GupKIdeal.Gen.frame m ρ,
  Cert.Gup.refFrame,
  fun m ρ _ => Cert.MnfK.Gen.frame m ρ,
  fun m ρ _ => Cert.MnfKIdeal.Gen.frame m ρ,
  Cert.Mnf.refFrame,
  fun m ρ _ => Cert.MnmK.Gen.frame m ρ,
  fun m ρ _ => Cert.MnmKIdeal.Gen.frame m ρ,
  Cert.Mnm.refFrame,
  fun m ρ _ => Cert.GatefK.Gen.frame m ρ,
  fun m ρ _ => Cert.GatefKIdeal.Gen.frame m ρ,
  Cert.Gatef.refFrame,
  fun m ρ _ => Cert.GatebK.Gen.frame m ρ,
  fun m ρ _ => Cert.GatebKIdeal.Gen.frame m ρ,
  Cert.Gateb.refFrame,
  trivial,
  Cert.Final.claim,
  trivial,
  Cert.Dact.claim,
  trivial,
  Cert.Dn.claim,
  trivial,
  Cert.Tail.claim,
  trivial,
  Cert.Dnin.claim,
  trivial,
  Cert.Dnod.claim,
  IdealRules.named_const.statement Cert.Attnf16KIdeal.κ "mask" .f32 0xF149F2CA#32 ⊥ rfl,
  Cert.Attn16.claim,
  IdealRules.named_const.statement Cert.Attnf4KIdeal.κ "mask" .f32 0xF149F2CA#32 ⊥ rfl,
  Cert.Attn4.claim,
  IdealRules.named_const.statement Cert.Attnf1KIdeal.κ "mask" .f32 0xF149F2CA#32 ⊥ rfl,
  Cert.Attn1.claim,
  IdealRules.named_const.statement Cert.AttnfeKIdeal.κ "mask" .f32 0xF149F2CA#32 ⊥ rfl,
  Cert.AttnE.claim,
  IdealRules.named_const.statement Cert.Attnb16KIdeal.κ "mask" .f32 0xF149F2CA#32 ⊥ rfl,
  Cert.Attnb16.claim,
  trivial,
  Cert.Poste.claim,
  trivial,
  Cert.Rmsf.claim,
  trivial,
  Cert.Prepe.claim,
  trivial,
  Cert.Gup.claim,
  trivial,
  Cert.Mnf.claim,
  trivial,
  Cert.Mnm.claim,
  trivial,
  Cert.Gatef.claim,
  trivial,
  Cert.Gateb.claim⟩

end Cert.Proof

end
